-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "sm_log2e" .f32 0x3E38AA3B#32 (((8 * (Real.log 2))⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x32x2048 : Shape := ⟨3, ![8, 32, 2048]⟩
abbrev S8x8x2048x64 : Shape := ⟨4, ![8, 8, 2048, 64]⟩
abbrev S8x8x2048 : Shape := ⟨3, ![8, 8, 2048]⟩
abbrev S8x512x2048 : Shape := ⟨3, ![8, 512, 2048]⟩
abbrev S8x8x64 : Shape := ⟨3, ![8, 8, 64]⟩
abbrev S8x2048 : Shape := ⟨2, ![8, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x8x2048x64 : S_.BroadcastsInDim S8x8x2048x64 (![] : Fin 0 → Fin S8x8x2048x64.rank)
  reducesTo_S8x8x2048x64_S_d0_1_2_3 : S8x8x2048x64.ReducesTo [0, 1, 2, 3] S_
  bcast_S_S8x32x2048 : S_.BroadcastsInDim S8x32x2048 (![] : Fin 0 → Fin S8x32x2048.rank)
  reducesTo_S8x32x2048_S_d0_1_2 : S8x32x2048.ReducesTo [0, 1, 2] S_
  bcast_S_S8x8x2048 : S_.BroadcastsInDim S8x8x2048 (![] : Fin 0 → Fin S8x8x2048.rank)
  reducesTo_S8x8x2048_S_d0_1_2 : S8x8x2048.ReducesTo [0, 1, 2] S_

variable [Facts]

def fn_part1 {F : FTy → Type} [FloatOps F] (main_v3 : IVec S_ 1) (main_v7 : IVec S_ 1) (main_v13 : IVec S_ 1) (main_v14 : FVec F S8x8x2048 .f32) (main_v15 : FVec F S8x8x2048 .f32) : IVec S_ 1 :=
  let main_v16 : IVec S8x8x2048 1 := cmpf .olt main_v14 main_v15
  let main_c_6 : IVec S_ 1 := constantI S_ 1 1#1
  let main_v17 : IVec S_ 1 := (fun x v => Host.reduce IntOp.andi x v reducesTo_S8x8x2048_S_d0_1_2 h_S_) main_v16 main_c_6
  let main_v18 : IVec S_ 1 := andi main_v13 main_v17
  let main_v19 : IVec S_ 1 := andi main_v3 main_v7
  let main_v20 : IVec S_ 1 := andi main_v19 main_v18
  main_v20

def fn {F : FTy → Type} [FloatOps F] (main_arg0 : FVec F S8x2048x2048 .f32) (main_arg1 : FVec F S8x32x2048 .f32) (main_arg2 : FVec F S8x8x2048x64 .f32) (main_arg3 : FVec F S8x8x2048 .f32) (main_arg4 : FVec F S8x512x2048 .f32) (main_arg5 : FVec F S8x8x64 .f32) (main_arg6 : IVec S8x2048 32) (main_arg7 : IVec S8x2048 1) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x8x2048x64 .f32 := Host.absf main_arg2
  let main_cst_0 : FVec F S_ .f32 := constant S_ .f32 0x7F800000#32
  let main_v5 : FVec F S8x8x2048x64 .f32 := broadcastInDim S8x8x2048x64 ![] bcast_S_S8x8x2048x64 main_cst_0
  let main_v6 : IVec S8x8x2048x64 1 := cmpf .olt main_v4 main_v5
  let main_c_1 : IVec S_ 1 := constantI S_ 1 1#1
  let main_v7 : IVec S_ 1 := (fun x v => Host.reduce IntOp.andi x v reducesTo_S8x8x2048x64_S_d0_1_2_3 h_S_) main_v6 main_c_1
  let main_cst_2 : FVec F S_ .f32 := constant S_ .f32 0x00000000#32
  let main_v8 : FVec F S8x32x2048 .f32 := broadcastInDim S8x32x2048 ![] bcast_S_S8x32x2048 main_cst_2
  let main_v9 : IVec S8x32x2048 1 := cmpf .ogt main_arg1 main_v8
  let main_cst_3 : FVec F S_ .f32 := constant S_ .f32 0x7F800000#32
  let main_v10 : FVec F S8x32x2048 .f32 := broadcastInDim S8x32x2048 ![] bcast_S_S8x32x2048 main_cst_3
  let main_v11 : IVec S8x32x2048 1 := cmpf .olt main_arg1 main_v10
  let main_v12 : IVec S8x32x2048 1 := andi main_v9 main_v11
  let main_c_4 : IVec S_ 1 := constantI S_ 1 1#1
  let main_v13 : IVec S_ 1 := (fun x v => Host.reduce IntOp.andi x v reducesTo_S8x32x2048_S_d0_1_2 h_S_) main_v12 main_c_4
  let main_v14 : FVec F S8x8x2048 .f32 := Host.absf main_arg3
  let main_cst_5 : FVec F S_ .f32 := constant S_ .f32 0x7F800000#32
  let main_v15 : FVec F S8x8x2048 .f32 := broadcastInDim S8x8x2048 ![] bcast_S_S8x8x2048 main_cst_5
  fn_part1 (F := F) main_v3 main_v7 main_v13 main_v14 main_v15
-- ==== Kernel.lean ====
abbrev S8x2048x2048 : Shape := ⟨3, ![8, 2048, 2048]⟩
abbrev S8x32x2048 : Shape := ⟨3, ![8, 32, 2048]⟩
abbrev S8x8x2048x64 : Shape := ⟨4, ![8, 8, 2048, 64]⟩
abbrev S8x8x2048 : Shape := ⟨3, ![8, 8, 2048]⟩
abbrev S8x512x2048 : Shape := ⟨3, ![8, 512, 2048]⟩
abbrev S8x8x64 : Shape := ⟨3, ![8, 8, 64]⟩
abbrev S8x2048 : Shape := ⟨2, ![8, 2048]⟩
abbrev S8x16x1x128 : Shape := ⟨4, ![8, 16, 1, 128]⟩
abbrev S8x1x16x128 : Shape := ⟨4, ![8, 1, 16, 128]⟩
abbrev S_ : Shape := ⟨0, ![]⟩
abbrev S8x16x1 : Shape := ⟨3, ![8, 16, 1]⟩
abbrev S8x1x16 : Shape := ⟨3, ![8, 1, 16]⟩
abbrev S16 : Shape := ⟨1, ![16]⟩
abbrev S1x1x16 : Shape := ⟨3, ![1, 1, 16]⟩
abbrev S1x16x1 : Shape := ⟨3, ![1, 16, 1]⟩
abbrev S8x16x16 : Shape := ⟨3, ![8, 16, 16]⟩
abbrev S1x16x16 : Shape := ⟨3, ![1, 16, 16]⟩
abbrev S8x16 : Shape := ⟨2, ![8, 16]⟩
abbrev S8x1x2048 : Shape := ⟨3, ![8, 1, 2048]⟩
abbrev S2048 : Shape := ⟨1, ![2048]⟩
abbrev S1x2048 : Shape := ⟨2, ![1, 2048]⟩
abbrev S8x8x128 : Shape := ⟨3, ![8, 8, 128]⟩
abbrev S1x2048x128 : Shape := ⟨3, ![1, 2048, 128]⟩
abbrev S1x32x128 : Shape := ⟨3, ![1, 32, 128]⟩
abbrev S1x8x2048x64 : Shape := ⟨4, ![1, 8, 2048, 64]⟩
abbrev S1x8x2048 : Shape := ⟨3, ![1, 8, 2048]⟩
abbrev S1x512x2048 : Shape := ⟨3, ![1, 512, 2048]⟩
abbrev S1x8x128 : Shape := ⟨3, ![1, 8, 128]⟩
abbrev S1x1x128 : Shape := ⟨3, ![1, 1, 128]⟩
abbrev S1x1x2048 : Shape := ⟨3, ![1, 1, 2048]⟩
abbrev S1x128x2048 : Shape := ⟨3, ![1, 128, 2048]⟩
abbrev S8x2048x128 : Shape := ⟨3, ![8, 2048, 128]⟩
abbrev S2048x128 : Shape := ⟨2, ![2048, 128]⟩
abbrev S2x2048x512 : Shape := ⟨3, ![2, 2048, 512]⟩
abbrev S8x512 : Shape := ⟨2, ![8, 512]⟩
abbrev S1x128 : Shape := ⟨2, ![1, 128]⟩
abbrev S128x128 : Shape := ⟨2, ![128, 128]⟩
abbrev S1x1 : Shape := ⟨2, ![1, 1]⟩
abbrev S1x64x128 : Shape := ⟨3, ![1, 64, 128]⟩
abbrev S64x128 : Shape := ⟨2, ![64, 128]⟩
abbrev S64x512 : Shape := ⟨2, ![64, 512]⟩
abbrev S1x512 : Shape := ⟨2, ![1, 512]⟩
abbrev S1x1x128x64 : Shape := ⟨4, ![1, 1, 128, 64]⟩
abbrev S128x64 : Shape := ⟨2, ![128, 64]⟩
abbrev S128x512 : Shape := ⟨2, ![128, 512]⟩
abbrev S1x128x128 : Shape := ⟨3, ![1, 128, 128]⟩
abbrev S1x128x512 : Shape := ⟨3, ![1, 128, 512]⟩
abbrev S16x8x512 : Shape := ⟨3, ![16, 8, 512]⟩
abbrev S512 : Shape := ⟨1, ![512]⟩
abbrev S1x1x256x64 : Shape := ⟨4, ![1, 1, 256, 64]⟩
abbrev S256x64 : Shape := ⟨2, ![256, 64]⟩
abbrev S256x512 : Shape := ⟨2, ![256, 512]⟩
abbrev S1x256x128 : Shape := ⟨3, ![1, 256, 128]⟩
abbrev S256x128 : Shape := ⟨2, ![256, 128]⟩
abbrev S1x256x512 : Shape := ⟨3, ![1, 256, 512]⟩
abbrev S32x8x512 : Shape := ⟨3, ![32, 8, 512]⟩
abbrev S1x64x256 : Shape := ⟨3, ![1, 64, 256]⟩
abbrev S64x256 : Shape := ⟨2, ![64, 256]⟩

abbrev nBuf : Space → Nat
  | .hbm => 97
  | .vmem => 26
  | .smem => 2
  | _ => 0

abbrev bufTy : (tb : Table) → Fin (tcTables nBuf tb) → BufTy
  | .hbm, ⟨0, _⟩ => ⟨S8x2048x2048, .f32⟩
  | .hbm, ⟨1, _⟩ => ⟨S8x32x2048, .f32⟩
  | .hbm, ⟨2, _⟩ => ⟨S8x8x2048x64, .f32⟩
  | .hbm, ⟨3, _⟩ => ⟨S8x8x2048, .f32⟩
  | .hbm, ⟨4, _⟩ => ⟨S8x512x2048, .f32⟩
  | .hbm, ⟨5, _⟩ => ⟨S8x8x64, .f32⟩
  | .hbm, ⟨6, _⟩ => ⟨S8x2048, .i32⟩
  | .hbm, ⟨7, _⟩ => ⟨S8x2048, .i1⟩
  | .hbm, ⟨8, _⟩ => ⟨S8x2048x2048, .fp8e4m3⟩
  | .hbm, ⟨9, _⟩ => ⟨S8x8x2048x64, .fp8e4m3⟩
  | .hbm, ⟨10, _⟩ => ⟨S8x512x2048, .fp8e4m3⟩
  | .hbm, ⟨11, _⟩ => ⟨S8x16x1x128, .i32⟩
  | .hbm, ⟨12, _⟩ => ⟨S8x1x16x128, .i32⟩
  | .hbm, ⟨13, _⟩ => ⟨S8x1x16x128, .i1⟩
  | .hbm, ⟨14, _⟩ => ⟨S_, .i32⟩
  | .hbm, ⟨15, _⟩ => ⟨S8x16x1, .i32⟩
  | .hbm, ⟨16, _⟩ => ⟨S_, .i32⟩
  | .hbm, ⟨17, _⟩ => ⟨S8x16x1, .i32⟩
  | .hbm, ⟨18, _⟩ => ⟨S_, .i32⟩
  | .hbm, ⟨19, _⟩ => ⟨S8x1x16, .i32⟩
  | .hbm, ⟨20, _⟩ => ⟨S_, .i32⟩
  | .hbm, ⟨21, _⟩ => ⟨S8x1x16, .i32⟩
  | .hbm, ⟨22, _⟩ => ⟨S_, .i32⟩
  | .hbm, ⟨23, _⟩ => ⟨S8x1x16x128, .i32⟩
  | .hbm, ⟨24, _⟩ => ⟨S8x1x16x128, .i32⟩
  | .hbm, ⟨25, _⟩ => ⟨S_, .i32⟩
  | .hbm, ⟨26, _⟩ => ⟨S8x1x16, .i32⟩
  | .hbm, ⟨27, _⟩ => ⟨S_, .i32⟩
  | .hbm, ⟨28, _⟩ => ⟨S_, .i32⟩
  | .hbm, ⟨29, _⟩ => ⟨S8x1x16x128, .i32⟩
  | .hbm, ⟨30, _⟩ => ⟨S8x1x16x128, .i32⟩
  | .hbm, ⟨31, _⟩ => ⟨S_, .i32⟩
  | .hbm, ⟨32, _⟩ => ⟨S8x1x16, .i32⟩
  | .hbm, ⟨33, _⟩ => ⟨S16, .i32⟩
  | .hbm, ⟨34, _⟩ => ⟨S1x1x16, .i32⟩
  | .hbm, ⟨35, _⟩ => ⟨S16, .i32⟩
  | .hbm, ⟨36, _⟩ => ⟨S1x16x1, .i32⟩
  | .hbm, ⟨37, _⟩ => ⟨S8x16x16, .i32⟩
  | .hbm, ⟨38, _⟩ => ⟨S8x16x16, .i32⟩
  | .hbm, ⟨39, _⟩ => ⟨S8x16x16, .i1⟩
  | .hbm, ⟨40, _⟩ => ⟨S8x16x16, .i32⟩
  | .hbm, ⟨41, _⟩ => ⟨S8x16x16, .i32⟩
  | .hbm, ⟨42, _⟩ => ⟨S8x16x16, .i1⟩
  | .hbm, ⟨43, _⟩ => ⟨S8x16x16, .i1⟩
  | .hbm, ⟨44, _⟩ => ⟨S_, .i32⟩
  | .hbm, ⟨45, _⟩ => ⟨S1x1x16, .i32⟩
  | .hbm, ⟨46, _⟩ => ⟨S1x1x16, .i32⟩
  | .hbm, ⟨47, _⟩ => ⟨S_, .i32⟩
  | .hbm, ⟨48, _⟩ => ⟨S1x16x1, .i32⟩
  | .hbm, ⟨49, _⟩ => ⟨S1x16x1, .i32⟩
  | .hbm, ⟨50, _⟩ => ⟨S_, .i32⟩
  | .hbm, ⟨51, _⟩ => ⟨S1x16x1, .i32⟩
  | .hbm, ⟨52, _⟩ => ⟨S1x16x1, .i32⟩
  | .hbm, ⟨53, _⟩ => ⟨S1x16x16, .i32⟩
  | .hbm, ⟨54, _⟩ => ⟨S1x16x16, .i32⟩
  | .hbm, ⟨55, _⟩ => ⟨S1x16x16, .i1⟩
  | .hbm, ⟨56, _⟩ => ⟨S8x16x16, .i1⟩
  | .hbm, ⟨57, _⟩ => ⟨S8x16x16, .i1⟩
  | .hbm, ⟨58, _⟩ => ⟨S8x16x16, .i32⟩
  | .hbm, ⟨59, _⟩ => ⟨S8x16x16, .i32⟩
  | .hbm, ⟨60, _⟩ => ⟨S8x16x16, .i1⟩
  | .hbm, ⟨61, _⟩ => ⟨S8x16x16, .i32⟩
  | .hbm, ⟨62, _⟩ => ⟨S8x16x16, .i32⟩
  | .hbm, ⟨63, _⟩ => ⟨S8x16x16, .i1⟩
  | .hbm, ⟨64, _⟩ => ⟨S8x16x16, .i1⟩
  | .hbm, ⟨65, _⟩ => ⟨S8x16x16, .i1⟩
  | .hbm, ⟨66, _⟩ => ⟨S_, .i32⟩
  | .hbm, ⟨67, _⟩ => ⟨S_, .i32⟩
  | .hbm, ⟨68, _⟩ => ⟨S8x16x16, .i32⟩
  | .hbm, ⟨69, _⟩ => ⟨S8x16x16, .i32⟩
  | .hbm, ⟨70, _⟩ => ⟨S8x16x16, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S8x16x16, .i32⟩
  | .hbm, ⟨75, _⟩ => ⟨S8x16x16, .i32⟩
  | .hbm, ⟨76, _⟩ => ⟨S8x16x16, .i32⟩
  | .hbm, ⟨77, _⟩ => ⟨S_, .i32⟩
  | .hbm, ⟨78, _⟩ => ⟨S8x16, .i32⟩
  | .hbm, ⟨79, _⟩ => ⟨S8x16, .i32⟩
  | .hbm, ⟨80, _⟩ => ⟨S_, .i32⟩
  | .hbm, ⟨81, _⟩ => ⟨S8x16, .i32⟩
  | .hbm, ⟨82, _⟩ => ⟨S8x2048, .f32⟩
  | .hbm, ⟨83, _⟩ => ⟨S8x1x2048, .f32⟩
  | .hbm, ⟨84, _⟩ => ⟨S8x1x2048, .i32⟩
  | .hbm, ⟨85, _⟩ => ⟨S8x1x2048, .f32⟩
  | .hbm, ⟨86, _⟩ => ⟨S2048, .i32⟩
  | .hbm, ⟨87, _⟩ => ⟨S1x2048, .i32⟩
  | .hbm, ⟨88, _⟩ => ⟨S_, .i32⟩
  | .hbm, ⟨89, _⟩ => ⟨S_, .i32⟩
  | .hbm, ⟨90, _⟩ => ⟨S8x2048, .i32⟩
  | .hbm, ⟨91, _⟩ => ⟨S8x2048, .i32⟩
  | .hbm, ⟨92, _⟩ => ⟨S8x2048, .i32⟩
  | .hbm, ⟨93, _⟩ => ⟨S8x2048, .f32⟩
  | .hbm, ⟨94, _⟩ => ⟨S8x1x2048, .f32⟩
  | .hbm, ⟨95, _⟩ => ⟨S8x8x128, .f32⟩
  | .hbm, ⟨96, _⟩ => ⟨S8x2048x2048, .bf16⟩
  | .local _ .vmem, ⟨0, _⟩ => ⟨S1x2048x128, .fp8e4m3⟩
  | .local _ .vmem, ⟨1, _⟩ => ⟨S1x2048x128, .fp8e4m3⟩
  | .local _ .vmem, ⟨2, _⟩ => ⟨S1x32x128, .f32⟩
  | .local _ .vmem, ⟨3, _⟩ => ⟨S1x32x128, .f32⟩
  | .local _ .vmem, ⟨4, _⟩ => ⟨S1x8x2048x64, .fp8e4m3⟩
  | .local _ .vmem, ⟨5, _⟩ => ⟨S1x8x2048x64, .fp8e4m3⟩
  | .local _ .vmem, ⟨6, _⟩ => ⟨S1x8x2048, .f32⟩
  | .local _ .vmem, ⟨7, _⟩ => ⟨S1x8x2048, .f32⟩
  | .local _ .vmem, ⟨8, _⟩ => ⟨S1x512x2048, .fp8e4m3⟩
  | .local _ .vmem, ⟨9, _⟩ => ⟨S1x512x2048, .fp8e4m3⟩
  | .local _ .vmem, ⟨10, _⟩ => ⟨S1x8x128, .f32⟩
  | .local _ .vmem, ⟨11, _⟩ => ⟨S1x8x128, .f32⟩
  | .local _ .vmem, ⟨12, _⟩ => ⟨S1x1x128, .f32⟩
  | .local _ .vmem, ⟨13, _⟩ => ⟨S1x1x128, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x128x2048, .bf16⟩
  | .local _ .vmem, ⟨19, _⟩ => ⟨S1x128x2048, .bf16⟩
  | .local _ .vmem, ⟨20, _⟩ => ⟨S8x2048x128, .f32⟩
  | .local _ .vmem, ⟨21, _⟩ => ⟨S2048x128, .f32⟩
  | .local _ .vmem, ⟨22, _⟩ => ⟨S2048x128, .f32⟩
  | .local _ .vmem, ⟨23, _⟩ => ⟨S2x2048x512, .f32⟩
  | .local _ .vmem, ⟨24, _⟩ => ⟨S2048x128, .f32⟩
  | .local _ .vmem, ⟨25, _⟩ => ⟨S8x512, .f32⟩
  | .local _ .smem, ⟨0, _⟩ => ⟨S8x16, .i32⟩
  | .local _ .smem, ⟨1, _⟩ => ⟨S8x16, .i32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_c_3 : Ref sig .tc := ⟨.hbm, 22, rfl⟩
abbrev main_call0_v0 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_call1_v0 : Ref sig .tc := ⟨.hbm, 29, rfl⟩
abbrev main_v13 : Ref sig .tc := ⟨.hbm, 30, rfl⟩
abbrev main_c_6 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v45 : Ref sig .tc := ⟨.hbm, 70, rfl⟩
abbrev main_c_11 : Ref sig .tc := ⟨.hbm, 71, rfl⟩
abbrev main_c_12 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v47 : Ref sig .tc := ⟨.hbm, 76, rfl⟩
abbrev main_c_13 : Ref sig .tc := ⟨.hbm, 77, rfl⟩
abbrev main_v48 : Ref sig .tc := ⟨.hbm, 78, rfl⟩
abbrev main_v49 : Ref sig .tc := ⟨.hbm, 79, rfl⟩
abbrev main_c_14 : Ref sig .tc := ⟨.hbm, 80, rfl⟩
abbrev main_v50 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v46 : Ref sig .tc := ⟨.smem, 0, rfl⟩
abbrev main_v51 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

abbrev pre0 : Pipeline.Prefetch sig := ⟨2, ![main_v46.idx, main_v51.idx], fun | 0 => main_v46.names | 1 => main_v51.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
def k0_mult1 (v5 : BitVec 32) : BitVec 32 :=
  let c15_i32 : BitVec 32 := 15#32
  let v59 : BitVec 32 := Scalar.minsi v5 c15_i32
  let c128_i32 : BitVec 32 := 128#32
  let v60 : BitVec 32 := Scalar.muli v59 c128_i32
  v60
def k0_cond2 (v8 : BitVec 32) : BitVec 1 :=
  let c0_i32_1 : BitVec 32 := 0#32
  let v9 : BitVec 1 := Scalar.cmpi .sgt v8 c0_i32_1
  let c1_i32 : BitVec 32 := 1#32
  let v10 : BitVec 1 := Scalar.cmpi .sle v8 c1_i32
  let v11 : BitVec 1 := Scalar.andi v9 v10
  let v12 : BitVec 32 := Scalar.extui v11
  let c0_i32_2 : BitVec 32 := 0#32
  let v13 : BitVec 1 := Scalar.cmpi .ne v12 c0_i32_2
  v13

def k0_off2 (v5 : BitVec 32) : Fin 2 → Nat :=
  let c15_i32 : BitVec 32 := 15#32
  let v59 : BitVec 32 := Scalar.minsi v5 c15_i32
  let c128_i32 : BitVec 32 := 128#32
  let v60 : BitVec 32 := Scalar.muli v59 c128_i32
  let v61 : BitVec 32 := v60
  let c0_i32_24 : BitVec 32 := 0#32
  let v69 : BitVec 32 := Scalar.addi v61 c0_i32_24
  let v70 : Index := Scalar.indexCast v69
  let c0_25 : Index := 0#32
  ![v70.toNat, 0]
@[reducible] def k0_t1_loop : Scf.Loop 32 :=
  let c0_i32_31 : BitVec 32 := 0#32
  let c9_i32 : BitVec 32 := 9#32
  let v86 : BitVec 32 := Scalar.addi c0_i32_31 c9_i32
  let c1_i32_32 : BitVec 32 := 1#32
  ⟨c0_i32_31, v86, c1_i32_32⟩
def k0_mult2 (k0_t1 : Fin k0_t1_loop.trips) : BitVec 32 :=
  let c0_i32_31 : BitVec 32 := 0#32
  let c1_i32_32 : BitVec 32 := 1#32
  let arg20 : BitVec 32 := Scf.iv c0_i32_31 c1_i32_32 k0_t1
  let c7_i32 : BitVec 32 := 7#32
  let v87 : BitVec 32 := Scalar.minsi arg20 c7_i32
  let c256_i32 : BitVec 32 := 256#32
  let v91 : BitVec 32 := Scalar.muli v87 c256_i32
  v91
def k0_off3 (k0_t1 : Fin k0_t1_loop.trips) (c0_i32_37 : BitVec 32) : Fin 3 → Nat :=
  let c0_38 : Index := 0#32
  let c0_i32_31 : BitVec 32 := 0#32
  let c1_i32_32 : BitVec 32 := 1#32
  let arg20 : BitVec 32 := Scf.iv c0_i32_31 c1_i32_32 k0_t1
  let c7_i32 : BitVec 32 := 7#32
  let v87 : BitVec 32 := Scalar.minsi arg20 c7_i32
  let c256_i32 : BitVec 32 := 256#32
  let v91 : BitVec 32 := Scalar.muli v87 c256_i32
  let v92 : BitVec 32 := v91
  let v93 : BitVec 32 := Scalar.addi v92 c0_i32_37
  let v94 : Index := Scalar.indexCast v93
  let c0_39 : Index := 0#32
  ![0, v94.toNat, 0]
def k0_off4 (k0_t1 : Fin k0_t1_loop.trips) (c0_i32_48 : BitVec 32) : Fin 3 → Nat :=
  let c0_49 : Index := 0#32
  let c0_i32_31 : BitVec 32 := 0#32
  let c1_i32_32 : BitVec 32 := 1#32
  let arg20 : BitVec 32 := Scf.iv c0_i32_31 c1_i32_32 k0_t1
  let c7_i32 : BitVec 32 := 7#32
  let v87 : BitVec 32 := Scalar.minsi arg20 c7_i32
  let c4_i32_47 : BitVec 32 := 4#32
  let v110 : BitVec 32 := Scalar.muli v87 c4_i32_47
  let v111 : BitVec 32 := Scalar.addi v110 c0_i32_48
  let v112 : Index := Scalar.indexCast v111
  let c0_50 : Index := 0#32
  ![0, v112.toNat, 0]
def k0_off5 (k0_t1 : Fin k0_t1_loop.trips) (c0_i32_64 : BitVec 32) : Fin 3 → Nat :=
  let c0_65 : Index := 0#32
  let c0_i32_31 : BitVec 32 := 0#32
  let c1_i32_32 : BitVec 32 := 1#32
  let arg20 : BitVec 32 := Scf.iv c0_i32_31 c1_i32_32 k0_t1
  let c1_i32_34 : BitVec 32 := 1#32
  let v88 : BitVec 32 := Scalar.subi arg20 c1_i32_34
  let c0_i32_35 : BitVec 32 := 0#32
  let v89 : BitVec 32 := Scalar.maxsi v88 c0_i32_35
  let c4_i32_63 : BitVec 32 := 4#32
  let v131 : BitVec 32 := Scalar.muli v89 c4_i32_63
  let v132 : BitVec 32 := Scalar.addi v131 c0_i32_64
  let v133 : Index := Scalar.indexCast v132
  let c0_66 : Index := 0#32
  ![0, v133.toNat, 0]
def k0_mult3 (k0_t1 : Fin k0_t1_loop.trips) : BitVec 32 :=
  let c0_i32_31 : BitVec 32 := 0#32
  let c1_i32_32 : BitVec 32 := 1#32
  let arg20 : BitVec 32 := Scf.iv c0_i32_31 c1_i32_32 k0_t1
  let c1_i32_34 : BitVec 32 := 1#32
  let v88 : BitVec 32 := Scalar.subi arg20 c1_i32_34
  let c0_i32_35 : BitVec 32 := 0#32
  let v89 : BitVec 32 := Scalar.maxsi v88 c0_i32_35
  let c64_i32_81 : BitVec 32 := 64#32
  let v153 : BitVec 32 := Scalar.muli v89 c64_i32_81
  v153
def k0_mult4 (v5 : BitVec 32) : BitVec 32 :=
  let c15_i32 : BitVec 32 := 15#32
  let v59 : BitVec 32 := Scalar.minsi v5 c15_i32
  let c128_i32 : BitVec 32 := 128#32
  let v60 : BitVec 32 := Scalar.muli v59 c128_i32
  let v61 : BitVec 32 := v60
  let c0_i32_85 : BitVec 32 := 0#32
  let v158 : BitVec 32 := Scalar.addi v61 c0_i32_85
  v158
def k0_off6 (v5 : BitVec 32) (k0_t1 : Fin k0_t1_loop.trips) : Fin 4 → Nat :=
  let c0_86 : Index := 0#32
  let c0_i32_31 : BitVec 32 := 0#32
  let c1_i32_32 : BitVec 32 := 1#32
  let arg20 : BitVec 32 := Scf.iv c0_i32_31 c1_i32_32 k0_t1
  let c7_i32 : BitVec 32 := 7#32
  let v87 : BitVec 32 := Scalar.minsi arg20 c7_i32
  let v160 : Index := Scalar.indexCast v87
  let c15_i32 : BitVec 32 := 15#32
  let v59 : BitVec 32 := Scalar.minsi v5 c15_i32
  let c128_i32 : BitVec 32 := 128#32
  let v60 : BitVec 32 := Scalar.muli v59 c128_i32
  let v61 : BitVec 32 := v60
  let c0_i32_85 : BitVec 32 := 0#32
  let v158 : BitVec 32 := Scalar.addi v61 c0_i32_85
  let v159 : BitVec 32 := v158
  let v161 : Index := Scalar.indexCast v159
  let c0_87 : Index := 0#32
  ![0, v160.toNat, v161.toNat, 0]
def k0_off7 (v5 : BitVec 32) (k0_t1 : Fin k0_t1_loop.trips) : Fin 3 → Nat :=
  let c0_i32_31 : BitVec 32 := 0#32
  let c1_i32_32 : BitVec 32 := 1#32
  let arg20 : BitVec 32 := Scf.iv c0_i32_31 c1_i32_32 k0_t1
  let c7_i32 : BitVec 32 := 7#32
  let v87 : BitVec 32 := Scalar.minsi arg20 c7_i32
  let v165 : Index := Scalar.indexCast v87
  let c15_i32 : BitVec 32 := 15#32
  let v59 : BitVec 32 := Scalar.minsi v5 c15_i32
  let c128_i32 : BitVec 32 := 128#32
  let v60 : BitVec 32 := Scalar.muli v59 c128_i32
  let v61 : BitVec 32 := v60
  let c0_i32_85 : BitVec 32 := 0#32
  let v158 : BitVec 32 := Scalar.addi v61 c0_i32_85
  let v159 : BitVec 32 := v158
  let v166 : Index := Scalar.indexCast v159
  let c0_89 : Index := 0#32
  ![v165.toNat, v166.toNat, 0]
def k0_off8 (k0_t1 : Fin k0_t1_loop.trips) : Fin 3 → Nat :=
  let c1_i32_92 : BitVec 32 := 1#32
  let c0_i32_31 : BitVec 32 := 0#32
  let c1_i32_32 : BitVec 32 := 1#32
  let arg20 : BitVec 32 := Scf.iv c0_i32_31 c1_i32_32 k0_t1
  let c2_i32_36 : BitVec 32 := 2#32
  let v90 : BitVec 32 := Scalar.remsi arg20 c2_i32_36
  let v174 : BitVec 32 := Scalar.subi c1_i32_92 v90
  let v175 : Index := Scalar.indexCast v174
  let c0_93 : Index := 0#32
  let c0_94 : Index := 0#32
  ![v175.toNat, 0, 0]
def k0_off9 (v5 : BitVec 32) (k0_t1 : Fin k0_t1_loop.trips) : Fin 3 → Nat :=
  let c0_98 : Index := 0#32
  let c0_i32_31 : BitVec 32 := 0#32
  let c1_i32_32 : BitVec 32 := 1#32
  let arg20 : BitVec 32 := Scf.iv c0_i32_31 c1_i32_32 k0_t1
  let c1_i32_34 : BitVec 32 := 1#32
  let v88 : BitVec 32 := Scalar.subi arg20 c1_i32_34
  let c0_i32_35 : BitVec 32 := 0#32
  let v89 : BitVec 32 := Scalar.maxsi v88 c0_i32_35
  let c64_i32_81 : BitVec 32 := 64#32
  let v153 : BitVec 32 := Scalar.muli v89 c64_i32_81
  let v154 : BitVec 32 := v153
  let v191 : Index := Scalar.indexCast v154
  let c15_i32 : BitVec 32 := 15#32
  let v59 : BitVec 32 := Scalar.minsi v5 c15_i32
  let c128_i32 : BitVec 32 := 128#32
  let v60 : BitVec 32 := Scalar.muli v59 c128_i32
  let v61 : BitVec 32 := v60
  let c0_i32_85 : BitVec 32 := 0#32
  let v158 : BitVec 32 := Scalar.addi v61 c0_i32_85
  let v159 : BitVec 32 := v158
  let v192 : Index := Scalar.indexCast v159
  ![0, v191.toNat, v192.toNat]
def k0_off10 (k0_t1 : Fin k0_t1_loop.trips) : Fin 3 → Nat :=
  let c0_i32_31 : BitVec 32 := 0#32
  let c1_i32_32 : BitVec 32 := 1#32
  let arg20 : BitVec 32 := Scf.iv c0_i32_31 c1_i32_32 k0_t1
  let c2_i32_36 : BitVec 32 := 2#32
  let v90 : BitVec 32 := Scalar.remsi arg20 c2_i32_36
  let v197 : Index := Scalar.indexCast v90
  let c0_100 : Index := 0#32
  let c0_101 : Index := 0#32
  ![v197.toNat, 0, 0]
def k0_mult5 (k0_t1 : Fin k0_t1_loop.trips) : BitVec 32 :=
  let c0_i32_31 : BitVec 32 := 0#32
  let c1_i32_32 : BitVec 32 := 1#32
  let arg20 : BitVec 32 := Scf.iv c0_i32_31 c1_i32_32 k0_t1
  let c1_i32_34 : BitVec 32 := 1#32
  let v88 : BitVec 32 := Scalar.subi arg20 c1_i32_34
  let c0_i32_35 : BitVec 32 := 0#32
  let v89 : BitVec 32 := Scalar.maxsi v88 c0_i32_35
  let c256_i32_109 : BitVec 32 := 256#32
  let v223 : BitVec 32 := Scalar.muli v89 c256_i32_109
  let c0_i32_110 : BitVec 32 := 0#32
  let v224 : BitVec 32 := Scalar.addi v223 c0_i32_110
  v224
def k0_off11 (k0_t1 : Fin k0_t1_loop.trips) : Fin 3 → Nat :=
  let c0_111 : Index := 0#32
  let c0_i32_31 : BitVec 32 := 0#32
  let c1_i32_32 : BitVec 32 := 1#32
  let arg20 : BitVec 32 := Scf.iv c0_i32_31 c1_i32_32 k0_t1
  let c1_i32_34 : BitVec 32 := 1#32
  let v88 : BitVec 32 := Scalar.subi arg20 c1_i32_34
  let c0_i32_35 : BitVec 32 := 0#32
  let v89 : BitVec 32 := Scalar.maxsi v88 c0_i32_35
  let v226 : Index := Scalar.indexCast v89
  let c0_112 : Index := 0#32
  ![0, v226.toNat, 0]
def k0_off12 (k0_t1 : Fin k0_t1_loop.trips) (c0_i32_110 : BitVec 32) : Fin 3 → Nat :=
  let c0_113 : Index := 0#32
  let c0_114 : Index := 0#32
  let c0_i32_31 : BitVec 32 := 0#32
  let c1_i32_32 : BitVec 32 := 1#32
  let arg20 : BitVec 32 := Scf.iv c0_i32_31 c1_i32_32 k0_t1
  let c1_i32_34 : BitVec 32 := 1#32
  let v88 : BitVec 32 := Scalar.subi arg20 c1_i32_34
  let c0_i32_35 : BitVec 32 := 0#32
  let v89 : BitVec 32 := Scalar.maxsi v88 c0_i32_35
  let c256_i32_109 : BitVec 32 := 256#32
  let v223 : BitVec 32 := Scalar.muli v89 c256_i32_109
  let v224 : BitVec 32 := Scalar.addi v223 c0_i32_110
  let v225 : BitVec 32 := v224
  let v232 : Index := Scalar.indexCast v225
  ![0, 0, v232.toNat]
def k0_mult6 (k0_t1 : Fin k0_t1_loop.trips) : BitVec 32 :=
  let c0_i32_31 : BitVec 32 := 0#32
  let c1_i32_32 : BitVec 32 := 1#32
  let arg20 : BitVec 32 := Scf.iv c0_i32_31 c1_i32_32 k0_t1
  let c1_i32_34 : BitVec 32 := 1#32
  let v88 : BitVec 32 := Scalar.subi arg20 c1_i32_34
  let c0_i32_35 : BitVec 32 := 0#32
  let v89 : BitVec 32 := Scalar.maxsi v88 c0_i32_35
  let c256_i32_115 : BitVec 32 := 256#32
  let v240 : BitVec 32 := Scalar.muli v89 c256_i32_115
  let c128_i32_116 : BitVec 32 := 128#32
  let v241 : BitVec 32 := Scalar.addi v240 c128_i32_116
  v241
def k0_mult7 (v5 : BitVec 32) : BitVec 32 :=
  let c14_i32 : BitVec 32 := 14#32
  let v59 : BitVec 32 := Scalar.minsi v5 c14_i32
  let c128_i32 : BitVec 32 := 128#32
  let v60 : BitVec 32 := Scalar.muli v59 c128_i32
  v60
def k0_cond3 (v8 : BitVec 32) : BitVec 1 :=
  let c1_i32_3 : BitVec 32 := 1#32
  let v14 : BitVec 1 := Scalar.cmpi .sgt v8 c1_i32_3
  let c2_i32 : BitVec 32 := 2#32
  let v15 : BitVec 1 := Scalar.cmpi .sle v8 c2_i32
  let v16 : BitVec 1 := Scalar.andi v14 v15
  let v17 : BitVec 32 := Scalar.extui v16
  let c0_i32_4 : BitVec 32 := 0#32
  let v18 : BitVec 1 := Scalar.cmpi .ne v17 c0_i32_4
  v18

def k0_off13 (v5 : BitVec 32) (c0_i32_24 : BitVec 32) : Fin 2 → Nat :=
  let c14_i32 : BitVec 32 := 14#32
  let v59 : BitVec 32 := Scalar.minsi v5 c14_i32
  let c128_i32 : BitVec 32 := 128#32
  let v60 : BitVec 32 := Scalar.muli v59 c128_i32
  let v61 : BitVec 32 := v60
  let v69 : BitVec 32 := Scalar.addi v61 c0_i32_24
  let v70 : Index := Scalar.indexCast v69
  let c0_25 : Index := 0#32
  ![v70.toNat, 0]
@[reducible] def k0_t2_loop : Scf.Loop 32 :=
  let c0_i32_38 : BitVec 32 := 0#32
  let c9_i32 : BitVec 32 := 9#32
  let v103 : BitVec 32 := Scalar.addi c0_i32_38 c9_i32
  let c1_i32_39 : BitVec 32 := 1#32
  ⟨c0_i32_38, v103, c1_i32_39⟩
def k0_mult8 (k0_t2 : Fin k0_t2_loop.trips) : BitVec 32 :=
  let c0_i32_38 : BitVec 32 := 0#32
  let c1_i32_39 : BitVec 32 := 1#32
  let arg20 : BitVec 32 := Scf.iv c0_i32_38 c1_i32_39 k0_t2
  let c7_i32 : BitVec 32 := 7#32
  let v104 : BitVec 32 := Scalar.minsi arg20 c7_i32
  let c256_i32 : BitVec 32 := 256#32
  let v108 : BitVec 32 := Scalar.muli v104 c256_i32
  v108
def k0_off14 (k0_t2 : Fin k0_t2_loop.trips) (c0_i32_44 : BitVec 32) : Fin 3 → Nat :=
  let c0_45 : Index := 0#32
  let c0_i32_38 : BitVec 32 := 0#32
  let c1_i32_39 : BitVec 32 := 1#32
  let arg20 : BitVec 32 := Scf.iv c0_i32_38 c1_i32_39 k0_t2
  let c7_i32 : BitVec 32 := 7#32
  let v104 : BitVec 32 := Scalar.minsi arg20 c7_i32
  let c256_i32 : BitVec 32 := 256#32
  let v108 : BitVec 32 := Scalar.muli v104 c256_i32
  let v109 : BitVec 32 := v108
  let v110 : BitVec 32 := Scalar.addi v109 c0_i32_44
  let v111 : Index := Scalar.indexCast v110
  let c0_46 : Index := 0#32
  ![0, v111.toNat, 0]
def k0_off15 (k0_t2 : Fin k0_t2_loop.trips) (c0_i32_55 : BitVec 32) : Fin 3 → Nat :=
  let c0_56 : Index := 0#32
  let c0_i32_38 : BitVec 32 := 0#32
  let c1_i32_39 : BitVec 32 := 1#32
  let arg20 : BitVec 32 := Scf.iv c0_i32_38 c1_i32_39 k0_t2
  let c7_i32 : BitVec 32 := 7#32
  let v104 : BitVec 32 := Scalar.minsi arg20 c7_i32
  let c4_i32_54 : BitVec 32 := 4#32
  let v127 : BitVec 32 := Scalar.muli v104 c4_i32_54
  let v128 : BitVec 32 := Scalar.addi v127 c0_i32_55
  let v129 : Index := Scalar.indexCast v128
  let c0_57 : Index := 0#32
  ![0, v129.toNat, 0]
def k0_off16 (k0_t2 : Fin k0_t2_loop.trips) (c0_i32_71 : BitVec 32) : Fin 3 → Nat :=
  let c0_72 : Index := 0#32
  let c0_i32_38 : BitVec 32 := 0#32
  let c1_i32_39 : BitVec 32 := 1#32
  let arg20 : BitVec 32 := Scf.iv c0_i32_38 c1_i32_39 k0_t2
  let c1_i32_41 : BitVec 32 := 1#32
  let v105 : BitVec 32 := Scalar.subi arg20 c1_i32_41
  let c0_i32_42 : BitVec 32 := 0#32
  let v106 : BitVec 32 := Scalar.maxsi v105 c0_i32_42
  let c4_i32_70 : BitVec 32 := 4#32
  let v148 : BitVec 32 := Scalar.muli v106 c4_i32_70
  let v149 : BitVec 32 := Scalar.addi v148 c0_i32_71
  let v150 : Index := Scalar.indexCast v149
  let c0_73 : Index := 0#32
  ![0, v150.toNat, 0]
def k0_mult9 (k0_t2 : Fin k0_t2_loop.trips) : BitVec 32 :=
  let c0_i32_38 : BitVec 32 := 0#32
  let c1_i32_39 : BitVec 32 := 1#32
  let arg20 : BitVec 32 := Scf.iv c0_i32_38 c1_i32_39 k0_t2
  let c1_i32_41 : BitVec 32 := 1#32
  let v105 : BitVec 32 := Scalar.subi arg20 c1_i32_41
  let c0_i32_42 : BitVec 32 := 0#32
  let v106 : BitVec 32 := Scalar.maxsi v105 c0_i32_42
  let c64_i32_88 : BitVec 32 := 64#32
  let v170 : BitVec 32 := Scalar.muli v106 c64_i32_88
  v170
def k0_mult10 (v5 : BitVec 32) : BitVec 32 :=
  let c14_i32 : BitVec 32 := 14#32
  let v59 : BitVec 32 := Scalar.minsi v5 c14_i32
  let c128_i32 : BitVec 32 := 128#32
  let v60 : BitVec 32 := Scalar.muli v59 c128_i32
  let v61 : BitVec 32 := v60
  let c0_i32_92 : BitVec 32 := 0#32
  let v175 : BitVec 32 := Scalar.addi v61 c0_i32_92
  v175
def k0_off17 (v5 : BitVec 32) (k0_t2 : Fin k0_t2_loop.trips) : Fin 4 → Nat :=
  let c0_93 : Index := 0#32
  let c0_i32_38 : BitVec 32 := 0#32
  let c1_i32_39 : BitVec 32 := 1#32
  let arg20 : BitVec 32 := Scf.iv c0_i32_38 c1_i32_39 k0_t2
  let c7_i32 : BitVec 32 := 7#32
  let v104 : BitVec 32 := Scalar.minsi arg20 c7_i32
  let v177 : Index := Scalar.indexCast v104
  let c14_i32 : BitVec 32 := 14#32
  let v59 : BitVec 32 := Scalar.minsi v5 c14_i32
  let c128_i32 : BitVec 32 := 128#32
  let v60 : BitVec 32 := Scalar.muli v59 c128_i32
  let v61 : BitVec 32 := v60
  let c0_i32_92 : BitVec 32 := 0#32
  let v175 : BitVec 32 := Scalar.addi v61 c0_i32_92
  let v176 : BitVec 32 := v175
  let v178 : Index := Scalar.indexCast v176
  let c0_94 : Index := 0#32
  ![0, v177.toNat, v178.toNat, 0]
def k0_off18 (v5 : BitVec 32) (k0_t2 : Fin k0_t2_loop.trips) : Fin 3 → Nat :=
  let c0_i32_38 : BitVec 32 := 0#32
  let c1_i32_39 : BitVec 32 := 1#32
  let arg20 : BitVec 32 := Scf.iv c0_i32_38 c1_i32_39 k0_t2
  let c7_i32 : BitVec 32 := 7#32
  let v104 : BitVec 32 := Scalar.minsi arg20 c7_i32
  let v182 : Index := Scalar.indexCast v104
  let c14_i32 : BitVec 32 := 14#32
  let v59 : BitVec 32 := Scalar.minsi v5 c14_i32
  let c128_i32 : BitVec 32 := 128#32
  let v60 : BitVec 32 := Scalar.muli v59 c128_i32
  let v61 : BitVec 32 := v60
  let c0_i32_92 : BitVec 32 := 0#32
  let v175 : BitVec 32 := Scalar.addi v61 c0_i32_92
  let v176 : BitVec 32 := v175
  let v183 : Index := Scalar.indexCast v176
  let c0_96 : Index := 0#32
  ![v182.toNat, v183.toNat, 0]
def k0_off19 (k0_t2 : Fin k0_t2_loop.trips) : Fin 3 → Nat :=
  let c1_i32_99 : BitVec 32 := 1#32
  let c0_i32_38 : BitVec 32 := 0#32
  let c1_i32_39 : BitVec 32 := 1#32
  let arg20 : BitVec 32 := Scf.iv c0_i32_38 c1_i32_39 k0_t2
  let c2_i32_43 : BitVec 32 := 2#32
  let v107 : BitVec 32 := Scalar.remsi arg20 c2_i32_43
  let v191 : BitVec 32 := Scalar.subi c1_i32_99 v107
  let v192 : Index := Scalar.indexCast v191
  let c0_100 : Index := 0#32
  let c0_101 : Index := 0#32
  ![v192.toNat, 0, 0]
def k0_off20 (v5 : BitVec 32) (k0_t2 : Fin k0_t2_loop.trips) : Fin 3 → Nat :=
  let c0_105 : Index := 0#32
  let c0_i32_38 : BitVec 32 := 0#32
  let c1_i32_39 : BitVec 32 := 1#32
  let arg20 : BitVec 32 := Scf.iv c0_i32_38 c1_i32_39 k0_t2
  let c1_i32_41 : BitVec 32 := 1#32
  let v105 : BitVec 32 := Scalar.subi arg20 c1_i32_41
  let c0_i32_42 : BitVec 32 := 0#32
  let v106 : BitVec 32 := Scalar.maxsi v105 c0_i32_42
  let c64_i32_88 : BitVec 32 := 64#32
  let v170 : BitVec 32 := Scalar.muli v106 c64_i32_88
  let v171 : BitVec 32 := v170
  let v208 : Index := Scalar.indexCast v171
  let c14_i32 : BitVec 32 := 14#32
  let v59 : BitVec 32 := Scalar.minsi v5 c14_i32
  let c128_i32 : BitVec 32 := 128#32
  let v60 : BitVec 32 := Scalar.muli v59 c128_i32
  let v61 : BitVec 32 := v60
  let c0_i32_92 : BitVec 32 := 0#32
  let v175 : BitVec 32 := Scalar.addi v61 c0_i32_92
  let v176 : BitVec 32 := v175
  let v209 : Index := Scalar.indexCast v176
  ![0, v208.toNat, v209.toNat]
def k0_off21 (k0_t2 : Fin k0_t2_loop.trips) : Fin 3 → Nat :=
  let c0_i32_38 : BitVec 32 := 0#32
  let c1_i32_39 : BitVec 32 := 1#32
  let arg20 : BitVec 32 := Scf.iv c0_i32_38 c1_i32_39 k0_t2
  let c2_i32_43 : BitVec 32 := 2#32
  let v107 : BitVec 32 := Scalar.remsi arg20 c2_i32_43
  let v214 : Index := Scalar.indexCast v107
  let c0_107 : Index := 0#32
  let c0_108 : Index := 0#32
  ![v214.toNat, 0, 0]
def k0_mult11 (k0_t2 : Fin k0_t2_loop.trips) : BitVec 32 :=
  let c0_i32_38 : BitVec 32 := 0#32
  let c1_i32_39 : BitVec 32 := 1#32
  let arg20 : BitVec 32 := Scf.iv c0_i32_38 c1_i32_39 k0_t2
  let c1_i32_41 : BitVec 32 := 1#32
  let v105 : BitVec 32 := Scalar.subi arg20 c1_i32_41
  let c0_i32_42 : BitVec 32 := 0#32
  let v106 : BitVec 32 := Scalar.maxsi v105 c0_i32_42
  let c256_i32_116 : BitVec 32 := 256#32
  let v240 : BitVec 32 := Scalar.muli v106 c256_i32_116
  let c0_i32_117 : BitVec 32 := 0#32
  let v241 : BitVec 32 := Scalar.addi v240 c0_i32_117
  v241
def k0_off22 (k0_t2 : Fin k0_t2_loop.trips) : Fin 3 → Nat :=
  let c0_118 : Index := 0#32
  let c0_i32_38 : BitVec 32 := 0#32
  let c1_i32_39 : BitVec 32 := 1#32
  let arg20 : BitVec 32 := Scf.iv c0_i32_38 c1_i32_39 k0_t2
  let c1_i32_41 : BitVec 32 := 1#32
  let v105 : BitVec 32 := Scalar.subi arg20 c1_i32_41
  let c0_i32_42 : BitVec 32 := 0#32
  let v106 : BitVec 32 := Scalar.maxsi v105 c0_i32_42
  let v243 : Index := Scalar.indexCast v106
  let c0_119 : Index := 0#32
  ![0, v243.toNat, 0]
def k0_off23 (k0_t2 : Fin k0_t2_loop.trips) (c0_i32_117 : BitVec 32) : Fin 3 → Nat :=
  let c0_120 : Index := 0#32
  let c0_121 : Index := 0#32
  let c0_i32_38 : BitVec 32 := 0#32
  let c1_i32_39 : BitVec 32 := 1#32
  let arg20 : BitVec 32 := Scf.iv c0_i32_38 c1_i32_39 k0_t2
  let c1_i32_41 : BitVec 32 := 1#32
  let v105 : BitVec 32 := Scalar.subi arg20 c1_i32_41
  let c0_i32_42 : BitVec 32 := 0#32
  let v106 : BitVec 32 := Scalar.maxsi v105 c0_i32_42
  let c256_i32_116 : BitVec 32 := 256#32
  let v240 : BitVec 32 := Scalar.muli v106 c256_i32_116
  let v241 : BitVec 32 := Scalar.addi v240 c0_i32_117
  let v242 : BitVec 32 := v241
  let v249 : Index := Scalar.indexCast v242
  ![0, 0, v249.toNat]
def k0_mult12 (k0_t2 : Fin k0_t2_loop.trips) : BitVec 32 :=
  let c0_i32_38 : BitVec 32 := 0#32
  let c1_i32_39 : BitVec 32 := 1#32
  let arg20 : BitVec 32 := Scf.iv c0_i32_38 c1_i32_39 k0_t2
  let c1_i32_41 : BitVec 32 := 1#32
  let v105 : BitVec 32 := Scalar.subi arg20 c1_i32_41
  let c0_i32_42 : BitVec 32 := 0#32
  let v106 : BitVec 32 := Scalar.maxsi v105 c0_i32_42
  let c256_i32_122 : BitVec 32 := 256#32
  let v257 : BitVec 32 := Scalar.muli v106 c256_i32_122
  let c128_i32_123 : BitVec 32 := 128#32
  let v258 : BitVec 32 := Scalar.addi v257 c128_i32_123
  v258
def k0_mult13 (v5 : BitVec 32) : BitVec 32 :=
  let c13_i32 : BitVec 32 := 13#32
  let v59 : BitVec 32 := Scalar.minsi v5 c13_i32
  let c128_i32 : BitVec 32 := 128#32
  let v60 : BitVec 32 := Scalar.muli v59 c128_i32
  v60
def k0_cond4 (v8 : BitVec 32) : BitVec 1 :=
  let c2_i32_5 : BitVec 32 := 2#32
  let v19 : BitVec 1 := Scalar.cmpi .sgt v8 c2_i32_5
  let c3_i32 : BitVec 32 := 3#32
  let v20 : BitVec 1 := Scalar.cmpi .sle v8 c3_i32
  let v21 : BitVec 1 := Scalar.andi v19 v20
  let v22 : BitVec 32 := Scalar.extui v21
  let c0_i32_6 : BitVec 32 := 0#32
  let v23 : BitVec 1 := Scalar.cmpi .ne v22 c0_i32_6
  v23

def k0_off24 (v5 : BitVec 32) (c0_i32_24 : BitVec 32) : Fin 2 → Nat :=
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let v69 : BitVec 32 := Scalar.addi v61 c0_i32_24
  let v70 : Index := Scalar.indexCast v69
  let c0_25 : Index := 0#32
  ![v70.toNat, 0]
@[reducible] def k0_t3_loop : Scf.Loop 32 :=
  let c0_i32_44 : BitVec 32 := 0#32
  let c9_i32 : BitVec 32 := 9#32
  let v120 : BitVec 32 := Scalar.addi c0_i32_44 c9_i32
  let c1_i32_45 : BitVec 32 := 1#32
  ⟨c0_i32_44, v120, c1_i32_45⟩
def k0_mult14 (k0_t3 : Fin k0_t3_loop.trips) : BitVec 32 :=
  let c0_i32_44 : BitVec 32 := 0#32
  let c1_i32_45 : BitVec 32 := 1#32
  let arg20 : BitVec 32 := Scf.iv c0_i32_44 c1_i32_45 k0_t3
  let c7_i32 : BitVec 32 := 7#32
  let v121 : BitVec 32 := Scalar.minsi arg20 c7_i32
  let c256_i32_50 : BitVec 32 := 256#32
  let v125 : BitVec 32 := Scalar.muli v121 c256_i32_50
  v125
def k0_off25 (k0_t3 : Fin k0_t3_loop.trips) (c0_i32_51 : BitVec 32) : Fin 3 → Nat :=
  let c0_52 : Index := 0#32
  let c0_i32_44 : BitVec 32 := 0#32
  let c1_i32_45 : BitVec 32 := 1#32
  let arg20 : BitVec 32 := Scf.iv c0_i32_44 c1_i32_45 k0_t3
  let c7_i32 : BitVec 32 := 7#32
  let v121 : BitVec 32 := Scalar.minsi arg20 c7_i32
  let c256_i32_50 : BitVec 32 := 256#32
  let v125 : BitVec 32 := Scalar.muli v121 c256_i32_50
  let v126 : BitVec 32 := v125
  let v127 : BitVec 32 := Scalar.addi v126 c0_i32_51
  let v128 : Index := Scalar.indexCast v127
  let c0_53 : Index := 0#32
  ![0, v128.toNat, 0]
def k0_off26 (k0_t3 : Fin k0_t3_loop.trips) (c0_i32_62 : BitVec 32) : Fin 3 → Nat :=
  let c0_63 : Index := 0#32
  let c0_i32_44 : BitVec 32 := 0#32
  let c1_i32_45 : BitVec 32 := 1#32
  let arg20 : BitVec 32 := Scf.iv c0_i32_44 c1_i32_45 k0_t3
  let c7_i32 : BitVec 32 := 7#32
  let v121 : BitVec 32 := Scalar.minsi arg20 c7_i32
  let c4_i32_61 : BitVec 32 := 4#32
  let v144 : BitVec 32 := Scalar.muli v121 c4_i32_61
  let v145 : BitVec 32 := Scalar.addi v144 c0_i32_62
  let v146 : Index := Scalar.indexCast v145
  let c0_64 : Index := 0#32
  ![0, v146.toNat, 0]
def k0_off27 (k0_t3 : Fin k0_t3_loop.trips) (c0_i32_78 : BitVec 32) : Fin 3 → Nat :=
  let c0_79 : Index := 0#32
  let c0_i32_44 : BitVec 32 := 0#32
  let c1_i32_45 : BitVec 32 := 1#32
  let arg20 : BitVec 32 := Scf.iv c0_i32_44 c1_i32_45 k0_t3
  let c1_i32_47 : BitVec 32 := 1#32
  let v122 : BitVec 32 := Scalar.subi arg20 c1_i32_47
  let c0_i32_48 : BitVec 32 := 0#32
  let v123 : BitVec 32 := Scalar.maxsi v122 c0_i32_48
  let c4_i32_77 : BitVec 32 := 4#32
  let v165 : BitVec 32 := Scalar.muli v123 c4_i32_77
  let v166 : BitVec 32 := Scalar.addi v165 c0_i32_78
  let v167 : Index := Scalar.indexCast v166
  let c0_80 : Index := 0#32
  ![0, v167.toNat, 0]
def k0_mult15 (k0_t3 : Fin k0_t3_loop.trips) : BitVec 32 :=
  let c0_i32_44 : BitVec 32 := 0#32
  let c1_i32_45 : BitVec 32 := 1#32
  let arg20 : BitVec 32 := Scf.iv c0_i32_44 c1_i32_45 k0_t3
  let c1_i32_47 : BitVec 32 := 1#32
  let v122 : BitVec 32 := Scalar.subi arg20 c1_i32_47
  let c0_i32_48 : BitVec 32 := 0#32
  let v123 : BitVec 32 := Scalar.maxsi v122 c0_i32_48
  let c64_i32_95 : BitVec 32 := 64#32
  let v187 : BitVec 32 := Scalar.muli v123 c64_i32_95
  v187
def k0_mult16 (v5 : BitVec 32) : BitVec 32 :=
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let c0_i32_99 : BitVec 32 := 0#32
  let v192 : BitVec 32 := Scalar.addi v61 c0_i32_99
  v192
def k0_off28 (v5 : BitVec 32) (k0_t3 : Fin k0_t3_loop.trips) : Fin 4 → Nat :=
  let c0_100 : Index := 0#32
  let c0_i32_44 : BitVec 32 := 0#32
  let c1_i32_45 : BitVec 32 := 1#32
  let arg20 : BitVec 32 := Scf.iv c0_i32_44 c1_i32_45 k0_t3
  let c7_i32 : BitVec 32 := 7#32
  let v121 : BitVec 32 := Scalar.minsi arg20 c7_i32
  let v194 : Index := Scalar.indexCast v121
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let c0_i32_99 : BitVec 32 := 0#32
  let v192 : BitVec 32 := Scalar.addi v61 c0_i32_99
  let v193 : BitVec 32 := v192
  let v195 : Index := Scalar.indexCast v193
  let c0_101 : Index := 0#32
  ![0, v194.toNat, v195.toNat, 0]
def k0_off29 (v5 : BitVec 32) (k0_t3 : Fin k0_t3_loop.trips) : Fin 3 → Nat :=
  let c0_i32_44 : BitVec 32 := 0#32
  let c1_i32_45 : BitVec 32 := 1#32
  let arg20 : BitVec 32 := Scf.iv c0_i32_44 c1_i32_45 k0_t3
  let c7_i32 : BitVec 32 := 7#32
  let v121 : BitVec 32 := Scalar.minsi arg20 c7_i32
  let v199 : Index := Scalar.indexCast v121
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let c0_i32_99 : BitVec 32 := 0#32
  let v192 : BitVec 32 := Scalar.addi v61 c0_i32_99
  let v193 : BitVec 32 := v192
  let v200 : Index := Scalar.indexCast v193
  let c0_103 : Index := 0#32
  ![v199.toNat, v200.toNat, 0]
def k0_off30 (k0_t3 : Fin k0_t3_loop.trips) : Fin 3 → Nat :=
  let c1_i32_106 : BitVec 32 := 1#32
  let c0_i32_44 : BitVec 32 := 0#32
  let c1_i32_45 : BitVec 32 := 1#32
  let arg20 : BitVec 32 := Scf.iv c0_i32_44 c1_i32_45 k0_t3
  let c2_i32_49 : BitVec 32 := 2#32
  let v124 : BitVec 32 := Scalar.remsi arg20 c2_i32_49
  let v208 : BitVec 32 := Scalar.subi c1_i32_106 v124
  let v209 : Index := Scalar.indexCast v208
  let c0_107 : Index := 0#32
  let c0_108 : Index := 0#32
  ![v209.toNat, 0, 0]
def k0_off31 (v5 : BitVec 32) (k0_t3 : Fin k0_t3_loop.trips) : Fin 3 → Nat :=
  let c0_112 : Index := 0#32
  let c0_i32_44 : BitVec 32 := 0#32
  let c1_i32_45 : BitVec 32 := 1#32
  let arg20 : BitVec 32 := Scf.iv c0_i32_44 c1_i32_45 k0_t3
  let c1_i32_47 : BitVec 32 := 1#32
  let v122 : BitVec 32 := Scalar.subi arg20 c1_i32_47
  let c0_i32_48 : BitVec 32 := 0#32
  let v123 : BitVec 32 := Scalar.maxsi v122 c0_i32_48
  let c64_i32_95 : BitVec 32 := 64#32
  let v187 : BitVec 32 := Scalar.muli v123 c64_i32_95
  let v188 : BitVec 32 := v187
  let v225 : Index := Scalar.indexCast v188
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let c0_i32_99 : BitVec 32 := 0#32
  let v192 : BitVec 32 := Scalar.addi v61 c0_i32_99
  let v193 : BitVec 32 := v192
  let v226 : Index := Scalar.indexCast v193
  ![0, v225.toNat, v226.toNat]
def k0_off32 (k0_t3 : Fin k0_t3_loop.trips) : Fin 3 → Nat :=
  let c0_i32_44 : BitVec 32 := 0#32
  let c1_i32_45 : BitVec 32 := 1#32
  let arg20 : BitVec 32 := Scf.iv c0_i32_44 c1_i32_45 k0_t3
  let c2_i32_49 : BitVec 32 := 2#32
  let v124 : BitVec 32 := Scalar.remsi arg20 c2_i32_49
  let v231 : Index := Scalar.indexCast v124
  let c0_114 : Index := 0#32
  let c0_115 : Index := 0#32
  ![v231.toNat, 0, 0]
def k0_mult17 (v5 : BitVec 32) : BitVec 32 :=
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let c256_i32_117 : BitVec 32 := 256#32
  let v238 : BitVec 32 := Scalar.addi v61 c256_i32_117
  v238
def k0_off33 (v5 : BitVec 32) (k0_t3 : Fin k0_t3_loop.trips) : Fin 4 → Nat :=
  let c0_118 : Index := 0#32
  let c0_i32_44 : BitVec 32 := 0#32
  let c1_i32_45 : BitVec 32 := 1#32
  let arg20 : BitVec 32 := Scf.iv c0_i32_44 c1_i32_45 k0_t3
  let c7_i32 : BitVec 32 := 7#32
  let v121 : BitVec 32 := Scalar.minsi arg20 c7_i32
  let v240 : Index := Scalar.indexCast v121
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let c256_i32_117 : BitVec 32 := 256#32
  let v238 : BitVec 32 := Scalar.addi v61 c256_i32_117
  let v239 : BitVec 32 := v238
  let v241 : Index := Scalar.indexCast v239
  let c0_119 : Index := 0#32
  ![0, v240.toNat, v241.toNat, 0]
def k0_off34 (v5 : BitVec 32) (k0_t3 : Fin k0_t3_loop.trips) : Fin 3 → Nat :=
  let c0_i32_44 : BitVec 32 := 0#32
  let c1_i32_45 : BitVec 32 := 1#32
  let arg20 : BitVec 32 := Scf.iv c0_i32_44 c1_i32_45 k0_t3
  let c7_i32 : BitVec 32 := 7#32
  let v121 : BitVec 32 := Scalar.minsi arg20 c7_i32
  let v245 : Index := Scalar.indexCast v121
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let c256_i32_117 : BitVec 32 := 256#32
  let v238 : BitVec 32 := Scalar.addi v61 c256_i32_117
  let v239 : BitVec 32 := v238
  let v246 : Index := Scalar.indexCast v239
  let c0_121 : Index := 0#32
  ![v245.toNat, v246.toNat, 0]
def k0_off35 (k0_t3 : Fin k0_t3_loop.trips) : Fin 3 → Nat :=
  let c1_i32_124 : BitVec 32 := 1#32
  let c0_i32_44 : BitVec 32 := 0#32
  let c1_i32_45 : BitVec 32 := 1#32
  let arg20 : BitVec 32 := Scf.iv c0_i32_44 c1_i32_45 k0_t3
  let c2_i32_49 : BitVec 32 := 2#32
  let v124 : BitVec 32 := Scalar.remsi arg20 c2_i32_49
  let v254 : BitVec 32 := Scalar.subi c1_i32_124 v124
  let v255 : Index := Scalar.indexCast v254
  let c256_125 : Index := 256#32
  let c0_126 : Index := 0#32
  ![v255.toNat, 256, 0]
def k0_off36 (v5 : BitVec 32) (k0_t3 : Fin k0_t3_loop.trips) : Fin 3 → Nat :=
  let c0_130 : Index := 0#32
  let c0_i32_44 : BitVec 32 := 0#32
  let c1_i32_45 : BitVec 32 := 1#32
  let arg20 : BitVec 32 := Scf.iv c0_i32_44 c1_i32_45 k0_t3
  let c1_i32_47 : BitVec 32 := 1#32
  let v122 : BitVec 32 := Scalar.subi arg20 c1_i32_47
  let c0_i32_48 : BitVec 32 := 0#32
  let v123 : BitVec 32 := Scalar.maxsi v122 c0_i32_48
  let c64_i32_95 : BitVec 32 := 64#32
  let v187 : BitVec 32 := Scalar.muli v123 c64_i32_95
  let v188 : BitVec 32 := v187
  let v271 : Index := Scalar.indexCast v188
  let c13_i32 : BitVec 32 := 13#32
  let v59 : BitVec 32 := Scalar.minsi v5 c13_i32
  let c128_i32 : BitVec 32 := 128#32
  let v60 : BitVec 32 := Scalar.muli v59 c128_i32
  let v61 : BitVec 32 := v60
  let c256_i32_117 : BitVec 32 := 256#32
  let v238 : BitVec 32 := Scalar.addi v61 c256_i32_117
  let v239 : BitVec 32 := v238
  let v272 : Index := Scalar.indexCast v239
  ![0, v271.toNat, v272.toNat]
def k0_off37 (k0_t3 : Fin k0_t3_loop.trips) : Fin 3 → Nat :=
  let c0_i32_44 : BitVec 32 := 0#32
  let c1_i32_45 : BitVec 32 := 1#32
  let arg20 : BitVec 32 := Scf.iv c0_i32_44 c1_i32_45 k0_t3
  let c2_i32_49 : BitVec 32 := 2#32
  let v124 : BitVec 32 := Scalar.remsi arg20 c2_i32_49
  let v277 : Index := Scalar.indexCast v124
  let c256_132 : Index := 256#32
  let c0_133 : Index := 0#32
  ![v277.toNat, 256, 0]
def k0_mult18 (k0_t3 : Fin k0_t3_loop.trips) : BitVec 32 :=
  let c0_i32_44 : BitVec 32 := 0#32
  let c1_i32_45 : BitVec 32 := 1#32
  let arg20 : BitVec 32 := Scf.iv c0_i32_44 c1_i32_45 k0_t3
  let c1_i32_47 : BitVec 32 := 1#32
  let v122 : BitVec 32 := Scalar.subi arg20 c1_i32_47
  let c0_i32_48 : BitVec 32 := 0#32
  let v123 : BitVec 32 := Scalar.maxsi v122 c0_i32_48
  let c256_i32_141 : BitVec 32 := 256#32
  let v303 : BitVec 32 := Scalar.muli v123 c256_i32_141
  let c0_i32_142 : BitVec 32 := 0#32
  let v304 : BitVec 32 := Scalar.addi v303 c0_i32_142
  v304
def k0_off38 (k0_t3 : Fin k0_t3_loop.trips) : Fin 3 → Nat :=
  let c0_143 : Index := 0#32
  let c0_i32_44 : BitVec 32 := 0#32
  let c1_i32_45 : BitVec 32 := 1#32
  let arg20 : BitVec 32 := Scf.iv c0_i32_44 c1_i32_45 k0_t3
  let c1_i32_47 : BitVec 32 := 1#32
  let v122 : BitVec 32 := Scalar.subi arg20 c1_i32_47
  let c0_i32_48 : BitVec 32 := 0#32
  let v123 : BitVec 32 := Scalar.maxsi v122 c0_i32_48
  let v306 : Index := Scalar.indexCast v123
  let c0_144 : Index := 0#32
  ![0, v306.toNat, 0]
def k0_off39 (k0_t3 : Fin k0_t3_loop.trips) (c0_i32_142 : BitVec 32) : Fin 3 → Nat :=
  let c0_145 : Index := 0#32
  let c0_146 : Index := 0#32
  let c0_i32_44 : BitVec 32 := 0#32
  let c1_i32_45 : BitVec 32 := 1#32
  let arg20 : BitVec 32 := Scf.iv c0_i32_44 c1_i32_45 k0_t3
  let c1_i32_47 : BitVec 32 := 1#32
  let v122 : BitVec 32 := Scalar.subi arg20 c1_i32_47
  let c0_i32_48 : BitVec 32 := 0#32
  let v123 : BitVec 32 := Scalar.maxsi v122 c0_i32_48
  let c256_i32_141 : BitVec 32 := 256#32
  let v303 : BitVec 32 := Scalar.muli v123 c256_i32_141
  let v304 : BitVec 32 := Scalar.addi v303 c0_i32_142
  let v305 : BitVec 32 := v304
  let v312 : Index := Scalar.indexCast v305
  ![0, 0, v312.toNat]
def k0_mult19 (k0_t3 : Fin k0_t3_loop.trips) : BitVec 32 :=
  let c0_i32_44 : BitVec 32 := 0#32
  let c1_i32_45 : BitVec 32 := 1#32
  let arg20 : BitVec 32 := Scf.iv c0_i32_44 c1_i32_45 k0_t3
  let c1_i32_47 : BitVec 32 := 1#32
  let v122 : BitVec 32 := Scalar.subi arg20 c1_i32_47
  let c0_i32_48 : BitVec 32 := 0#32
  let v123 : BitVec 32 := Scalar.maxsi v122 c0_i32_48
  let c256_i32_147 : BitVec 32 := 256#32
  let v320 : BitVec 32 := Scalar.muli v123 c256_i32_147
  let c128_i32_148 : BitVec 32 := 128#32
  let v321 : BitVec 32 := Scalar.addi v320 c128_i32_148
  v321
def k0_mult20 (v5 : BitVec 32) : BitVec 32 :=
  let c12_i32_21 : BitVec 32 := 12#32
  let v59 : BitVec 32 := Scalar.minsi v5 c12_i32_21
  let c128_i32 : BitVec 32 := 128#32
  let v60 : BitVec 32 := Scalar.muli v59 c128_i32
  v60
def k0_cond5 (v8 : BitVec 32) : BitVec 1 :=
  let c3_i32_7 : BitVec 32 := 3#32
  let v24 : BitVec 1 := Scalar.cmpi .sgt v8 c3_i32_7
  let c4_i32 : BitVec 32 := 4#32
  let v25 : BitVec 1 := Scalar.cmpi .sle v8 c4_i32
  let v26 : BitVec 1 := Scalar.andi v24 v25
  let v27 : BitVec 32 := Scalar.extui v26
  let c0_i32_8 : BitVec 32 := 0#32
  let v28 : BitVec 1 := Scalar.cmpi .ne v27 c0_i32_8
  v28

def k0_off40 (v5 : BitVec 32) (c0_i32_25 : BitVec 32) : Fin 2 → Nat :=
  let c12_i32_21 : BitVec 32 := 12#32
  let v59 : BitVec 32 := Scalar.minsi v5 c12_i32_21
  let c128_i32 : BitVec 32 := 128#32
  let v60 : BitVec 32 := Scalar.muli v59 c128_i32
  let v61 : BitVec 32 := v60
  let v69 : BitVec 32 := Scalar.addi v61 c0_i32_25
  let v70 : Index := Scalar.indexCast v69
  let c0_26 : Index := 0#32
  ![v70.toNat, 0]
@[reducible] def k0_t4_loop : Scf.Loop 32 :=
  let c0_i32_51 : BitVec 32 := 0#32
  let c9_i32 : BitVec 32 := 9#32
  let v137 : BitVec 32 := Scalar.addi c0_i32_51 c9_i32
  let c1_i32_52 : BitVec 32 := 1#32
  ⟨c0_i32_51, v137, c1_i32_52⟩
def k0_mult21 (k0_t4 : Fin k0_t4_loop.trips) : BitVec 32 :=
  let c0_i32_51 : BitVec 32 := 0#32
  let c1_i32_52 : BitVec 32 := 1#32
  let arg20 : BitVec 32 := Scf.iv c0_i32_51 c1_i32_52 k0_t4
  let c7_i32 : BitVec 32 := 7#32
  let v138 : BitVec 32 := Scalar.minsi arg20 c7_i32
  let c256_i32_57 : BitVec 32 := 256#32
  let v142 : BitVec 32 := Scalar.muli v138 c256_i32_57
  v142
def k0_off41 (k0_t4 : Fin k0_t4_loop.trips) (c0_i32_58 : BitVec 32) : Fin 3 → Nat :=
  let c0_59 : Index := 0#32
  let c0_i32_51 : BitVec 32 := 0#32
  let c1_i32_52 : BitVec 32 := 1#32
  let arg20 : BitVec 32 := Scf.iv c0_i32_51 c1_i32_52 k0_t4
  let c7_i32 : BitVec 32 := 7#32
  let v138 : BitVec 32 := Scalar.minsi arg20 c7_i32
  let c256_i32_57 : BitVec 32 := 256#32
  let v142 : BitVec 32 := Scalar.muli v138 c256_i32_57
  let v143 : BitVec 32 := v142
  let v144 : BitVec 32 := Scalar.addi v143 c0_i32_58
  let v145 : Index := Scalar.indexCast v144
  let c0_60 : Index := 0#32
  ![0, v145.toNat, 0]
def k0_off42 (k0_t4 : Fin k0_t4_loop.trips) (c0_i32_69 : BitVec 32) : Fin 3 → Nat :=
  let c0_70 : Index := 0#32
  let c0_i32_51 : BitVec 32 := 0#32
  let c1_i32_52 : BitVec 32 := 1#32
  let arg20 : BitVec 32 := Scf.iv c0_i32_51 c1_i32_52 k0_t4
  let c7_i32 : BitVec 32 := 7#32
  let v138 : BitVec 32 := Scalar.minsi arg20 c7_i32
  let c4_i32_68 : BitVec 32 := 4#32
  let v161 : BitVec 32 := Scalar.muli v138 c4_i32_68
  let v162 : BitVec 32 := Scalar.addi v161 c0_i32_69
  let v163 : Index := Scalar.indexCast v162
  let c0_71 : Index := 0#32
  ![0, v163.toNat, 0]
def k0_off43 (k0_t4 : Fin k0_t4_loop.trips) (c0_i32_85 : BitVec 32) : Fin 3 → Nat :=
  let c0_86 : Index := 0#32
  let c0_i32_51 : BitVec 32 := 0#32
  let c1_i32_52 : BitVec 32 := 1#32
  let arg20 : BitVec 32 := Scf.iv c0_i32_51 c1_i32_52 k0_t4
  let c1_i32_54 : BitVec 32 := 1#32
  let v139 : BitVec 32 := Scalar.subi arg20 c1_i32_54
  let c0_i32_55 : BitVec 32 := 0#32
  let v140 : BitVec 32 := Scalar.maxsi v139 c0_i32_55
  let c4_i32_84 : BitVec 32 := 4#32
  let v182 : BitVec 32 := Scalar.muli v140 c4_i32_84
  let v183 : BitVec 32 := Scalar.addi v182 c0_i32_85
  let v184 : Index := Scalar.indexCast v183
  let c0_87 : Index := 0#32
  ![0, v184.toNat, 0]
def k0_mult22 (k0_t4 : Fin k0_t4_loop.trips) : BitVec 32 :=
  let c0_i32_51 : BitVec 32 := 0#32
  let c1_i32_52 : BitVec 32 := 1#32
  let arg20 : BitVec 32 := Scf.iv c0_i32_51 c1_i32_52 k0_t4
  let c1_i32_54 : BitVec 32 := 1#32
  let v139 : BitVec 32 := Scalar.subi arg20 c1_i32_54
  let c0_i32_55 : BitVec 32 := 0#32
  let v140 : BitVec 32 := Scalar.maxsi v139 c0_i32_55
  let c64_i32_102 : BitVec 32 := 64#32
  let v204 : BitVec 32 := Scalar.muli v140 c64_i32_102
  v204
def k0_mult23 (v5 : BitVec 32) : BitVec 32 :=
  let c12_i32_21 : BitVec 32 := 12#32
  let v59 : BitVec 32 := Scalar.minsi v5 c12_i32_21
  let c128_i32 : BitVec 32 := 128#32
  let v60 : BitVec 32 := Scalar.muli v59 c128_i32
  let v61 : BitVec 32 := v60
  let c0_i32_106 : BitVec 32 := 0#32
  let v209 : BitVec 32 := Scalar.addi v61 c0_i32_106
  v209
def k0_off44 (v5 : BitVec 32) (k0_t4 : Fin k0_t4_loop.trips) (c0_i32_106 : BitVec 32) : Fin 4 → Nat :=
  let c0_107 : Index := 0#32
  let c0_i32_51 : BitVec 32 := 0#32
  let c1_i32_52 : BitVec 32 := 1#32
  let arg20 : BitVec 32 := Scf.iv c0_i32_51 c1_i32_52 k0_t4
  let c7_i32 : BitVec 32 := 7#32
  let v138 : BitVec 32 := Scalar.minsi arg20 c7_i32
  let v211 : Index := Scalar.indexCast v138
  let c12_i32_21 : BitVec 32 := 12#32
  let v59 : BitVec 32 := Scalar.minsi v5 c12_i32_21
  let c128_i32 : BitVec 32 := 128#32
  let v60 : BitVec 32 := Scalar.muli v59 c128_i32
  let v61 : BitVec 32 := v60
  let v209 : BitVec 32 := Scalar.addi v61 c0_i32_106
  let v210 : BitVec 32 := v209
  let v212 : Index := Scalar.indexCast v210
  let c0_108 : Index := 0#32
  ![0, v211.toNat, v212.toNat, 0]
def k0_off45 (v5 : BitVec 32) (k0_t4 : Fin k0_t4_loop.trips) (c0_i32_106 : BitVec 32) : Fin 3 → Nat :=
  let c0_i32_51 : BitVec 32 := 0#32
  let c1_i32_52 : BitVec 32 := 1#32
  let arg20 : BitVec 32 := Scf.iv c0_i32_51 c1_i32_52 k0_t4
  let c7_i32 : BitVec 32 := 7#32
  let v138 : BitVec 32 := Scalar.minsi arg20 c7_i32
  let v216 : Index := Scalar.indexCast v138
  let c12_i32_21 : BitVec 32 := 12#32
  let v59 : BitVec 32 := Scalar.minsi v5 c12_i32_21
  let c128_i32 : BitVec 32 := 128#32
  let v60 : BitVec 32 := Scalar.muli v59 c128_i32
  let v61 : BitVec 32 := v60
  let v209 : BitVec 32 := Scalar.addi v61 c0_i32_106
  let v210 : BitVec 32 := v209
  let v217 : Index := Scalar.indexCast v210
  let c0_110 : Index := 0#32
  ![v216.toNat, v217.toNat, 0]
def k0_off46 (k0_t4 : Fin k0_t4_loop.trips) : Fin 3 → Nat :=
  let c1_i32_113 : BitVec 32 := 1#32
  let c0_i32_51 : BitVec 32 := 0#32
  let c1_i32_52 : BitVec 32 := 1#32
  let arg20 : BitVec 32 := Scf.iv c0_i32_51 c1_i32_52 k0_t4
  let c2_i32_56 : BitVec 32 := 2#32
  let v141 : BitVec 32 := Scalar.remsi arg20 c2_i32_56
  let v225 : BitVec 32 := Scalar.subi c1_i32_113 v141
  let v226 : Index := Scalar.indexCast v225
  let c0_114 : Index := 0#32
  let c0_115 : Index := 0#32
  ![v226.toNat, 0, 0]
def k0_off47 (v5 : BitVec 32) (k0_t4 : Fin k0_t4_loop.trips) (c0_i32_106 : BitVec 32) : Fin 3 → Nat :=
  let c0_119 : Index := 0#32
  let c0_i32_51 : BitVec 32 := 0#32
  let c1_i32_52 : BitVec 32 := 1#32
  let arg20 : BitVec 32 := Scf.iv c0_i32_51 c1_i32_52 k0_t4
  let c1_i32_54 : BitVec 32 := 1#32
  let v139 : BitVec 32 := Scalar.subi arg20 c1_i32_54
  let c0_i32_55 : BitVec 32 := 0#32
  let v140 : BitVec 32 := Scalar.maxsi v139 c0_i32_55
  let c64_i32_102 : BitVec 32 := 64#32
  let v204 : BitVec 32 := Scalar.muli v140 c64_i32_102
  let v205 : BitVec 32 := v204
  let v242 : Index := Scalar.indexCast v205
  let c12_i32_21 : BitVec 32 := 12#32
  let v59 : BitVec 32 := Scalar.minsi v5 c12_i32_21
  let c128_i32 : BitVec 32 := 128#32
  let v60 : BitVec 32 := Scalar.muli v59 c128_i32
  let v61 : BitVec 32 := v60
  let v209 : BitVec 32 := Scalar.addi v61 c0_i32_106
  let v210 : BitVec 32 := v209
  let v243 : Index := Scalar.indexCast v210
  ![0, v242.toNat, v243.toNat]
def k0_off48 (k0_t4 : Fin k0_t4_loop.trips) : Fin 3 → Nat :=
  let c0_i32_51 : BitVec 32 := 0#32
  let c1_i32_52 : BitVec 32 := 1#32
  let arg20 : BitVec 32 := Scf.iv c0_i32_51 c1_i32_52 k0_t4
  let c2_i32_56 : BitVec 32 := 2#32
  let v141 : BitVec 32 := Scalar.remsi arg20 c2_i32_56
  let v248 : Index := Scalar.indexCast v141
  let c0_121 : Index := 0#32
  let c0_122 : Index := 0#32
  ![v248.toNat, 0, 0]
def k0_mult24 (v5 : BitVec 32) : BitVec 32 :=
  let c12_i32_21 : BitVec 32 := 12#32
  let v59 : BitVec 32 := Scalar.minsi v5 c12_i32_21
  let c128_i32 : BitVec 32 := 128#32
  let v60 : BitVec 32 := Scalar.muli v59 c128_i32
  let v61 : BitVec 32 := v60
  let c256_i32_124 : BitVec 32 := 256#32
  let v255 : BitVec 32 := Scalar.addi v61 c256_i32_124
  v255
def k0_off49 (k0_t4 : Fin k0_t4_loop.trips) : Fin 3 → Nat :=
  let c1_i32_131 : BitVec 32 := 1#32
  let c0_i32_51 : BitVec 32 := 0#32
  let c1_i32_52 : BitVec 32 := 1#32
  let arg20 : BitVec 32 := Scf.iv c0_i32_51 c1_i32_52 k0_t4
  let c2_i32_56 : BitVec 32 := 2#32
  let v141 : BitVec 32 := Scalar.remsi arg20 c2_i32_56
  let v271 : BitVec 32 := Scalar.subi c1_i32_131 v141
  let v272 : Index := Scalar.indexCast v271
  let c256_132 : Index := 256#32
  let c0_133 : Index := 0#32
  ![v272.toNat, 256, 0]
def k0_off50 (k0_t4 : Fin k0_t4_loop.trips) : Fin 3 → Nat :=
  let c0_i32_51 : BitVec 32 := 0#32
  let c1_i32_52 : BitVec 32 := 1#32
  let arg20 : BitVec 32 := Scf.iv c0_i32_51 c1_i32_52 k0_t4
  let c2_i32_56 : BitVec 32 := 2#32
  let v141 : BitVec 32 := Scalar.remsi arg20 c2_i32_56
  let v294 : Index := Scalar.indexCast v141
  let c256_139 : Index := 256#32
  let c0_140 : Index := 0#32
  ![v294.toNat, 256, 0]
def k0_mult25 (k0_t4 : Fin k0_t4_loop.trips) : BitVec 32 :=
  let c0_i32_51 : BitVec 32 := 0#32
  let c1_i32_52 : BitVec 32 := 1#32
  let arg20 : BitVec 32 := Scf.iv c0_i32_51 c1_i32_52 k0_t4
  let c1_i32_54 : BitVec 32 := 1#32
  let v139 : BitVec 32 := Scalar.subi arg20 c1_i32_54
  let c0_i32_55 : BitVec 32 := 0#32
  let v140 : BitVec 32 := Scalar.maxsi v139 c0_i32_55
  let c256_i32_148 : BitVec 32 := 256#32
  let v320 : BitVec 32 := Scalar.muli v140 c256_i32_148
  let c0_i32_149 : BitVec 32 := 0#32
  let v321 : BitVec 32 := Scalar.addi v320 c0_i32_149
  v321
def k0_off51 (k0_t4 : Fin k0_t4_loop.trips) : Fin 3 → Nat :=
  let c0_150 : Index := 0#32
  let c0_i32_51 : BitVec 32 := 0#32
  let c1_i32_52 : BitVec 32 := 1#32
  let arg20 : BitVec 32 := Scf.iv c0_i32_51 c1_i32_52 k0_t4
  let c1_i32_54 : BitVec 32 := 1#32
  let v139 : BitVec 32 := Scalar.subi arg20 c1_i32_54
  let c0_i32_55 : BitVec 32 := 0#32
  let v140 : BitVec 32 := Scalar.maxsi v139 c0_i32_55
  let v323 : Index := Scalar.indexCast v140
  let c0_151 : Index := 0#32
  ![0, v323.toNat, 0]
def k0_off52 (k0_t4 : Fin k0_t4_loop.trips) (c0_i32_149 : BitVec 32) : Fin 3 → Nat :=
  let c0_152 : Index := 0#32
  let c0_153 : Index := 0#32
  let c0_i32_51 : BitVec 32 := 0#32
  let c1_i32_52 : BitVec 32 := 1#32
  let arg20 : BitVec 32 := Scf.iv c0_i32_51 c1_i32_52 k0_t4
  let c1_i32_54 : BitVec 32 := 1#32
  let v139 : BitVec 32 := Scalar.subi arg20 c1_i32_54
  let c0_i32_55 : BitVec 32 := 0#32
  let v140 : BitVec 32 := Scalar.maxsi v139 c0_i32_55
  let c256_i32_148 : BitVec 32 := 256#32
  let v320 : BitVec 32 := Scalar.muli v140 c256_i32_148
  let v321 : BitVec 32 := Scalar.addi v320 c0_i32_149
  let v322 : BitVec 32 := v321
  let v329 : Index := Scalar.indexCast v322
  ![0, 0, v329.toNat]
def k0_mult26 (k0_t4 : Fin k0_t4_loop.trips) : BitVec 32 :=
  let c0_i32_51 : BitVec 32 := 0#32
  let c1_i32_52 : BitVec 32 := 1#32
  let arg20 : BitVec 32 := Scf.iv c0_i32_51 c1_i32_52 k0_t4
  let c1_i32_54 : BitVec 32 := 1#32
  let v139 : BitVec 32 := Scalar.subi arg20 c1_i32_54
  let c0_i32_55 : BitVec 32 := 0#32
  let v140 : BitVec 32 := Scalar.maxsi v139 c0_i32_55
  let c256_i32_154 : BitVec 32 := 256#32
  let v337 : BitVec 32 := Scalar.muli v140 c256_i32_154
  let c128_i32_155 : BitVec 32 := 128#32
  let v338 : BitVec 32 := Scalar.addi v337 c128_i32_155
  v338
def k0_mult27 (v5 : BitVec 32) : BitVec 32 :=
  let c11_i32 : BitVec 32 := 11#32
  let v59 : BitVec 32 := Scalar.minsi v5 c11_i32
  let c128_i32 : BitVec 32 := 128#32
  let v60 : BitVec 32 := Scalar.muli v59 c128_i32
  v60
def k0_cond6 (v8 : BitVec 32) : BitVec 1 :=
  let c4_i32_9 : BitVec 32 := 4#32
  let v29 : BitVec 1 := Scalar.cmpi .sgt v8 c4_i32_9
  let c5_i32 : BitVec 32 := 5#32
  let v30 : BitVec 1 := Scalar.cmpi .sle v8 c5_i32
  let v31 : BitVec 1 := Scalar.andi v29 v30
  let v32 : BitVec 32 := Scalar.extui v31
  let c0_i32_10 : BitVec 32 := 0#32
  let v33 : BitVec 1 := Scalar.cmpi .ne v32 c0_i32_10
  v33

def k0_off53 (v5 : BitVec 32) (c0_i32_24 : BitVec 32) : Fin 2 → Nat :=
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let v69 : BitVec 32 := Scalar.addi v61 c0_i32_24
  let v70 : Index := Scalar.indexCast v69
  let c0_25 : Index := 0#32
  ![v70.toNat, 0]
@[reducible] def k0_t5_loop : Scf.Loop 32 :=
  let c0_i32_56 : BitVec 32 := 0#32
  let c9_i32 : BitVec 32 := 9#32
  let v154 : BitVec 32 := Scalar.addi c0_i32_56 c9_i32
  let c1_i32_57 : BitVec 32 := 1#32
  ⟨c0_i32_56, v154, c1_i32_57⟩
def k0_mult28 (k0_t5 : Fin k0_t5_loop.trips) : BitVec 32 :=
  let c0_i32_56 : BitVec 32 := 0#32
  let c1_i32_57 : BitVec 32 := 1#32
  let arg20 : BitVec 32 := Scf.iv c0_i32_56 c1_i32_57 k0_t5
  let c7_i32 : BitVec 32 := 7#32
  let v155 : BitVec 32 := Scalar.minsi arg20 c7_i32
  let c256_i32_62 : BitVec 32 := 256#32
  let v159 : BitVec 32 := Scalar.muli v155 c256_i32_62
  v159
def k0_off54 (k0_t5 : Fin k0_t5_loop.trips) (c0_i32_63 : BitVec 32) : Fin 3 → Nat :=
  let c0_64 : Index := 0#32
  let c0_i32_56 : BitVec 32 := 0#32
  let c1_i32_57 : BitVec 32 := 1#32
  let arg20 : BitVec 32 := Scf.iv c0_i32_56 c1_i32_57 k0_t5
  let c7_i32 : BitVec 32 := 7#32
  let v155 : BitVec 32 := Scalar.minsi arg20 c7_i32
  let c256_i32_62 : BitVec 32 := 256#32
  let v159 : BitVec 32 := Scalar.muli v155 c256_i32_62
  let v160 : BitVec 32 := v159
  let v161 : BitVec 32 := Scalar.addi v160 c0_i32_63
  let v162 : Index := Scalar.indexCast v161
  let c0_65 : Index := 0#32
  ![0, v162.toNat, 0]
def k0_off55 (k0_t5 : Fin k0_t5_loop.trips) (c0_i32_74 : BitVec 32) : Fin 3 → Nat :=
  let c0_75 : Index := 0#32
  let c0_i32_56 : BitVec 32 := 0#32
  let c1_i32_57 : BitVec 32 := 1#32
  let arg20 : BitVec 32 := Scf.iv c0_i32_56 c1_i32_57 k0_t5
  let c7_i32 : BitVec 32 := 7#32
  let v155 : BitVec 32 := Scalar.minsi arg20 c7_i32
  let c4_i32_73 : BitVec 32 := 4#32
  let v178 : BitVec 32 := Scalar.muli v155 c4_i32_73
  let v179 : BitVec 32 := Scalar.addi v178 c0_i32_74
  let v180 : Index := Scalar.indexCast v179
  let c0_76 : Index := 0#32
  ![0, v180.toNat, 0]
def k0_off56 (k0_t5 : Fin k0_t5_loop.trips) (c0_i32_90 : BitVec 32) : Fin 3 → Nat :=
  let c0_91 : Index := 0#32
  let c0_i32_56 : BitVec 32 := 0#32
  let c1_i32_57 : BitVec 32 := 1#32
  let arg20 : BitVec 32 := Scf.iv c0_i32_56 c1_i32_57 k0_t5
  let c1_i32_59 : BitVec 32 := 1#32
  let v156 : BitVec 32 := Scalar.subi arg20 c1_i32_59
  let c0_i32_60 : BitVec 32 := 0#32
  let v157 : BitVec 32 := Scalar.maxsi v156 c0_i32_60
  let c4_i32_89 : BitVec 32 := 4#32
  let v199 : BitVec 32 := Scalar.muli v157 c4_i32_89
  let v200 : BitVec 32 := Scalar.addi v199 c0_i32_90
  let v201 : Index := Scalar.indexCast v200
  let c0_92 : Index := 0#32
  ![0, v201.toNat, 0]
def k0_mult29 (k0_t5 : Fin k0_t5_loop.trips) : BitVec 32 :=
  let c0_i32_56 : BitVec 32 := 0#32
  let c1_i32_57 : BitVec 32 := 1#32
  let arg20 : BitVec 32 := Scf.iv c0_i32_56 c1_i32_57 k0_t5
  let c1_i32_59 : BitVec 32 := 1#32
  let v156 : BitVec 32 := Scalar.subi arg20 c1_i32_59
  let c0_i32_60 : BitVec 32 := 0#32
  let v157 : BitVec 32 := Scalar.maxsi v156 c0_i32_60
  let c64_i32_107 : BitVec 32 := 64#32
  let v221 : BitVec 32 := Scalar.muli v157 c64_i32_107
  v221
def k0_mult30 (v5 : BitVec 32) : BitVec 32 :=
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let c0_i32_111 : BitVec 32 := 0#32
  let v226 : BitVec 32 := Scalar.addi v61 c0_i32_111
  v226
def k0_off57 (v5 : BitVec 32) (k0_t5 : Fin k0_t5_loop.trips) (c0_i32_111 : BitVec 32) : Fin 4 → Nat :=
  let c0_112 : Index := 0#32
  let c0_i32_56 : BitVec 32 := 0#32
  let c1_i32_57 : BitVec 32 := 1#32
  let arg20 : BitVec 32 := Scf.iv c0_i32_56 c1_i32_57 k0_t5
  let c7_i32 : BitVec 32 := 7#32
  let v155 : BitVec 32 := Scalar.minsi arg20 c7_i32
  let v228 : Index := Scalar.indexCast v155
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let v226 : BitVec 32 := Scalar.addi v61 c0_i32_111
  let v227 : BitVec 32 := v226
  let v229 : Index := Scalar.indexCast v227
  let c0_113 : Index := 0#32
  ![0, v228.toNat, v229.toNat, 0]
def k0_off58 (v5 : BitVec 32) (k0_t5 : Fin k0_t5_loop.trips) (c0_i32_111 : BitVec 32) : Fin 3 → Nat :=
  let c0_i32_56 : BitVec 32 := 0#32
  let c1_i32_57 : BitVec 32 := 1#32
  let arg20 : BitVec 32 := Scf.iv c0_i32_56 c1_i32_57 k0_t5
  let c7_i32 : BitVec 32 := 7#32
  let v155 : BitVec 32 := Scalar.minsi arg20 c7_i32
  let v233 : Index := Scalar.indexCast v155
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let v226 : BitVec 32 := Scalar.addi v61 c0_i32_111
  let v227 : BitVec 32 := v226
  let v234 : Index := Scalar.indexCast v227
  let c0_115 : Index := 0#32
  ![v233.toNat, v234.toNat, 0]
def k0_off59 (k0_t5 : Fin k0_t5_loop.trips) : Fin 3 → Nat :=
  let c1_i32_118 : BitVec 32 := 1#32
  let c0_i32_56 : BitVec 32 := 0#32
  let c1_i32_57 : BitVec 32 := 1#32
  let arg20 : BitVec 32 := Scf.iv c0_i32_56 c1_i32_57 k0_t5
  let c2_i32_61 : BitVec 32 := 2#32
  let v158 : BitVec 32 := Scalar.remsi arg20 c2_i32_61
  let v242 : BitVec 32 := Scalar.subi c1_i32_118 v158
  let v243 : Index := Scalar.indexCast v242
  let c0_119 : Index := 0#32
  let c0_120 : Index := 0#32
  ![v243.toNat, 0, 0]
def k0_off60 (v5 : BitVec 32) (k0_t5 : Fin k0_t5_loop.trips) (c0_i32_111 : BitVec 32) : Fin 3 → Nat :=
  let c0_124 : Index := 0#32
  let c0_i32_56 : BitVec 32 := 0#32
  let c1_i32_57 : BitVec 32 := 1#32
  let arg20 : BitVec 32 := Scf.iv c0_i32_56 c1_i32_57 k0_t5
  let c1_i32_59 : BitVec 32 := 1#32
  let v156 : BitVec 32 := Scalar.subi arg20 c1_i32_59
  let c0_i32_60 : BitVec 32 := 0#32
  let v157 : BitVec 32 := Scalar.maxsi v156 c0_i32_60
  let c64_i32_107 : BitVec 32 := 64#32
  let v221 : BitVec 32 := Scalar.muli v157 c64_i32_107
  let v222 : BitVec 32 := v221
  let v259 : Index := Scalar.indexCast v222
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let v226 : BitVec 32 := Scalar.addi v61 c0_i32_111
  let v227 : BitVec 32 := v226
  let v260 : Index := Scalar.indexCast v227
  ![0, v259.toNat, v260.toNat]
def k0_off61 (k0_t5 : Fin k0_t5_loop.trips) : Fin 3 → Nat :=
  let c0_i32_56 : BitVec 32 := 0#32
  let c1_i32_57 : BitVec 32 := 1#32
  let arg20 : BitVec 32 := Scf.iv c0_i32_56 c1_i32_57 k0_t5
  let c2_i32_61 : BitVec 32 := 2#32
  let v158 : BitVec 32 := Scalar.remsi arg20 c2_i32_61
  let v265 : Index := Scalar.indexCast v158
  let c0_126 : Index := 0#32
  let c0_127 : Index := 0#32
  ![v265.toNat, 0, 0]
def k0_mult31 (v5 : BitVec 32) : BitVec 32 :=
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let c256_i32_129 : BitVec 32 := 256#32
  let v272 : BitVec 32 := Scalar.addi v61 c256_i32_129
  v272
def k0_off62 (k0_t5 : Fin k0_t5_loop.trips) : Fin 3 → Nat :=
  let c1_i32_136 : BitVec 32 := 1#32
  let c0_i32_56 : BitVec 32 := 0#32
  let c1_i32_57 : BitVec 32 := 1#32
  let arg20 : BitVec 32 := Scf.iv c0_i32_56 c1_i32_57 k0_t5
  let c2_i32_61 : BitVec 32 := 2#32
  let v158 : BitVec 32 := Scalar.remsi arg20 c2_i32_61
  let v288 : BitVec 32 := Scalar.subi c1_i32_136 v158
  let v289 : Index := Scalar.indexCast v288
  let c256_137 : Index := 256#32
  let c0_138 : Index := 0#32
  ![v289.toNat, 256, 0]
def k0_off63 (k0_t5 : Fin k0_t5_loop.trips) : Fin 3 → Nat :=
  let c0_i32_56 : BitVec 32 := 0#32
  let c1_i32_57 : BitVec 32 := 1#32
  let arg20 : BitVec 32 := Scf.iv c0_i32_56 c1_i32_57 k0_t5
  let c2_i32_61 : BitVec 32 := 2#32
  let v158 : BitVec 32 := Scalar.remsi arg20 c2_i32_61
  let v311 : Index := Scalar.indexCast v158
  let c256_144 : Index := 256#32
  let c0_145 : Index := 0#32
  ![v311.toNat, 256, 0]
def k0_mult32 (v5 : BitVec 32) : BitVec 32 :=
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let c512_i32_147 : BitVec 32 := 512#32
  let v318 : BitVec 32 := Scalar.addi v61 c512_i32_147
  v318
def k0_off64 (v5 : BitVec 32) (k0_t5 : Fin k0_t5_loop.trips) : Fin 4 → Nat :=
  let c0_148 : Index := 0#32
  let c0_i32_56 : BitVec 32 := 0#32
  let c1_i32_57 : BitVec 32 := 1#32
  let arg20 : BitVec 32 := Scf.iv c0_i32_56 c1_i32_57 k0_t5
  let c7_i32 : BitVec 32 := 7#32
  let v155 : BitVec 32 := Scalar.minsi arg20 c7_i32
  let v320 : Index := Scalar.indexCast v155
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let c512_i32_147 : BitVec 32 := 512#32
  let v318 : BitVec 32 := Scalar.addi v61 c512_i32_147
  let v319 : BitVec 32 := v318
  let v321 : Index := Scalar.indexCast v319
  let c0_149 : Index := 0#32
  ![0, v320.toNat, v321.toNat, 0]
def k0_off65 (v5 : BitVec 32) (k0_t5 : Fin k0_t5_loop.trips) : Fin 3 → Nat :=
  let c0_i32_56 : BitVec 32 := 0#32
  let c1_i32_57 : BitVec 32 := 1#32
  let arg20 : BitVec 32 := Scf.iv c0_i32_56 c1_i32_57 k0_t5
  let c7_i32 : BitVec 32 := 7#32
  let v155 : BitVec 32 := Scalar.minsi arg20 c7_i32
  let v325 : Index := Scalar.indexCast v155
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let c512_i32_147 : BitVec 32 := 512#32
  let v318 : BitVec 32 := Scalar.addi v61 c512_i32_147
  let v319 : BitVec 32 := v318
  let v326 : Index := Scalar.indexCast v319
  let c0_151 : Index := 0#32
  ![v325.toNat, v326.toNat, 0]
def k0_off66 (k0_t5 : Fin k0_t5_loop.trips) : Fin 3 → Nat :=
  let c1_i32_154 : BitVec 32 := 1#32
  let c0_i32_56 : BitVec 32 := 0#32
  let c1_i32_57 : BitVec 32 := 1#32
  let arg20 : BitVec 32 := Scf.iv c0_i32_56 c1_i32_57 k0_t5
  let c2_i32_61 : BitVec 32 := 2#32
  let v158 : BitVec 32 := Scalar.remsi arg20 c2_i32_61
  let v334 : BitVec 32 := Scalar.subi c1_i32_154 v158
  let v335 : Index := Scalar.indexCast v334
  let c512_155 : Index := 512#32
  let c0_156 : Index := 0#32
  ![v335.toNat, 512, 0]
def k0_off67 (v5 : BitVec 32) (k0_t5 : Fin k0_t5_loop.trips) : Fin 3 → Nat :=
  let c0_160 : Index := 0#32
  let c0_i32_56 : BitVec 32 := 0#32
  let c1_i32_57 : BitVec 32 := 1#32
  let arg20 : BitVec 32 := Scf.iv c0_i32_56 c1_i32_57 k0_t5
  let c1_i32_59 : BitVec 32 := 1#32
  let v156 : BitVec 32 := Scalar.subi arg20 c1_i32_59
  let c0_i32_60 : BitVec 32 := 0#32
  let v157 : BitVec 32 := Scalar.maxsi v156 c0_i32_60
  let c64_i32_107 : BitVec 32 := 64#32
  let v221 : BitVec 32 := Scalar.muli v157 c64_i32_107
  let v222 : BitVec 32 := v221
  let v351 : Index := Scalar.indexCast v222
  let c11_i32 : BitVec 32 := 11#32
  let v59 : BitVec 32 := Scalar.minsi v5 c11_i32
  let c128_i32 : BitVec 32 := 128#32
  let v60 : BitVec 32 := Scalar.muli v59 c128_i32
  let v61 : BitVec 32 := v60
  let c512_i32_147 : BitVec 32 := 512#32
  let v318 : BitVec 32 := Scalar.addi v61 c512_i32_147
  let v319 : BitVec 32 := v318
  let v352 : Index := Scalar.indexCast v319
  ![0, v351.toNat, v352.toNat]
def k0_off68 (k0_t5 : Fin k0_t5_loop.trips) : Fin 3 → Nat :=
  let c0_i32_56 : BitVec 32 := 0#32
  let c1_i32_57 : BitVec 32 := 1#32
  let arg20 : BitVec 32 := Scf.iv c0_i32_56 c1_i32_57 k0_t5
  let c2_i32_61 : BitVec 32 := 2#32
  let v158 : BitVec 32 := Scalar.remsi arg20 c2_i32_61
  let v357 : Index := Scalar.indexCast v158
  let c512_162 : Index := 512#32
  let c0_163 : Index := 0#32
  ![v357.toNat, 512, 0]
def k0_mult33 (k0_t5 : Fin k0_t5_loop.trips) : BitVec 32 :=
  let c0_i32_56 : BitVec 32 := 0#32
  let c1_i32_57 : BitVec 32 := 1#32
  let arg20 : BitVec 32 := Scf.iv c0_i32_56 c1_i32_57 k0_t5
  let c1_i32_59 : BitVec 32 := 1#32
  let v156 : BitVec 32 := Scalar.subi arg20 c1_i32_59
  let c0_i32_60 : BitVec 32 := 0#32
  let v157 : BitVec 32 := Scalar.maxsi v156 c0_i32_60
  let c256_i32_171 : BitVec 32 := 256#32
  let v383 : BitVec 32 := Scalar.muli v157 c256_i32_171
  let c0_i32_172 : BitVec 32 := 0#32
  let v384 : BitVec 32 := Scalar.addi v383 c0_i32_172
  v384
def k0_off69 (k0_t5 : Fin k0_t5_loop.trips) : Fin 3 → Nat :=
  let c0_173 : Index := 0#32
  let c0_i32_56 : BitVec 32 := 0#32
  let c1_i32_57 : BitVec 32 := 1#32
  let arg20 : BitVec 32 := Scf.iv c0_i32_56 c1_i32_57 k0_t5
  let c1_i32_59 : BitVec 32 := 1#32
  let v156 : BitVec 32 := Scalar.subi arg20 c1_i32_59
  let c0_i32_60 : BitVec 32 := 0#32
  let v157 : BitVec 32 := Scalar.maxsi v156 c0_i32_60
  let v386 : Index := Scalar.indexCast v157
  let c0_174 : Index := 0#32
  ![0, v386.toNat, 0]
def k0_off70 (k0_t5 : Fin k0_t5_loop.trips) (c0_i32_172 : BitVec 32) : Fin 3 → Nat :=
  let c0_175 : Index := 0#32
  let c0_176 : Index := 0#32
  let c0_i32_56 : BitVec 32 := 0#32
  let c1_i32_57 : BitVec 32 := 1#32
  let arg20 : BitVec 32 := Scf.iv c0_i32_56 c1_i32_57 k0_t5
  let c1_i32_59 : BitVec 32 := 1#32
  let v156 : BitVec 32 := Scalar.subi arg20 c1_i32_59
  let c0_i32_60 : BitVec 32 := 0#32
  let v157 : BitVec 32 := Scalar.maxsi v156 c0_i32_60
  let c256_i32_171 : BitVec 32 := 256#32
  let v383 : BitVec 32 := Scalar.muli v157 c256_i32_171
  let v384 : BitVec 32 := Scalar.addi v383 c0_i32_172
  let v385 : BitVec 32 := v384
  let v392 : Index := Scalar.indexCast v385
  ![0, 0, v392.toNat]
def k0_mult34 (k0_t5 : Fin k0_t5_loop.trips) : BitVec 32 :=
  let c0_i32_56 : BitVec 32 := 0#32
  let c1_i32_57 : BitVec 32 := 1#32
  let arg20 : BitVec 32 := Scf.iv c0_i32_56 c1_i32_57 k0_t5
  let c1_i32_59 : BitVec 32 := 1#32
  let v156 : BitVec 32 := Scalar.subi arg20 c1_i32_59
  let c0_i32_60 : BitVec 32 := 0#32
  let v157 : BitVec 32 := Scalar.maxsi v156 c0_i32_60
  let c256_i32_177 : BitVec 32 := 256#32
  let v400 : BitVec 32 := Scalar.muli v157 c256_i32_177
  let c128_i32_178 : BitVec 32 := 128#32
  let v401 : BitVec 32 := Scalar.addi v400 c128_i32_178
  v401
def k0_mult35 (v5 : BitVec 32) : BitVec 32 :=
  let c10_i32_21 : BitVec 32 := 10#32
  let v59 : BitVec 32 := Scalar.minsi v5 c10_i32_21
  let c128_i32 : BitVec 32 := 128#32
  let v60 : BitVec 32 := Scalar.muli v59 c128_i32
  v60
def k0_cond7 (v8 : BitVec 32) : BitVec 1 :=
  let c5_i32_11 : BitVec 32 := 5#32
  let v34 : BitVec 1 := Scalar.cmpi .sgt v8 c5_i32_11
  let c6_i32 : BitVec 32 := 6#32
  let v35 : BitVec 1 := Scalar.cmpi .sle v8 c6_i32
  let v36 : BitVec 1 := Scalar.andi v34 v35
  let v37 : BitVec 32 := Scalar.extui v36
  let c0_i32_12 : BitVec 32 := 0#32
  let v38 : BitVec 1 := Scalar.cmpi .ne v37 c0_i32_12
  v38

def k0_off71 (v5 : BitVec 32) (c0_i32_25 : BitVec 32) : Fin 2 → Nat :=
  let c10_i32_21 : BitVec 32 := 10#32
  let v59 : BitVec 32 := Scalar.minsi v5 c10_i32_21
  let c128_i32 : BitVec 32 := 128#32
  let v60 : BitVec 32 := Scalar.muli v59 c128_i32
  let v61 : BitVec 32 := v60
  let v69 : BitVec 32 := Scalar.addi v61 c0_i32_25
  let v70 : Index := Scalar.indexCast v69
  let c0_26 : Index := 0#32
  ![v70.toNat, 0]
@[reducible] def k0_t6_loop : Scf.Loop 32 :=
  let c0_i32_63 : BitVec 32 := 0#32
  let c9_i32 : BitVec 32 := 9#32
  let v171 : BitVec 32 := Scalar.addi c0_i32_63 c9_i32
  let c1_i32_64 : BitVec 32 := 1#32
  ⟨c0_i32_63, v171, c1_i32_64⟩
def k0_mult36 (k0_t6 : Fin k0_t6_loop.trips) : BitVec 32 :=
  let c0_i32_63 : BitVec 32 := 0#32
  let c1_i32_64 : BitVec 32 := 1#32
  let arg20 : BitVec 32 := Scf.iv c0_i32_63 c1_i32_64 k0_t6
  let c7_i32 : BitVec 32 := 7#32
  let v172 : BitVec 32 := Scalar.minsi arg20 c7_i32
  let c256_i32_69 : BitVec 32 := 256#32
  let v176 : BitVec 32 := Scalar.muli v172 c256_i32_69
  v176
def k0_off72 (k0_t6 : Fin k0_t6_loop.trips) (c0_i32_70 : BitVec 32) : Fin 3 → Nat :=
  let c0_71 : Index := 0#32
  let c0_i32_63 : BitVec 32 := 0#32
  let c1_i32_64 : BitVec 32 := 1#32
  let arg20 : BitVec 32 := Scf.iv c0_i32_63 c1_i32_64 k0_t6
  let c7_i32 : BitVec 32 := 7#32
  let v172 : BitVec 32 := Scalar.minsi arg20 c7_i32
  let c256_i32_69 : BitVec 32 := 256#32
  let v176 : BitVec 32 := Scalar.muli v172 c256_i32_69
  let v177 : BitVec 32 := v176
  let v178 : BitVec 32 := Scalar.addi v177 c0_i32_70
  let v179 : Index := Scalar.indexCast v178
  let c0_72 : Index := 0#32
  ![0, v179.toNat, 0]
def k0_off73 (k0_t6 : Fin k0_t6_loop.trips) (c0_i32_81 : BitVec 32) : Fin 3 → Nat :=
  let c0_82 : Index := 0#32
  let c0_i32_63 : BitVec 32 := 0#32
  let c1_i32_64 : BitVec 32 := 1#32
  let arg20 : BitVec 32 := Scf.iv c0_i32_63 c1_i32_64 k0_t6
  let c7_i32 : BitVec 32 := 7#32
  let v172 : BitVec 32 := Scalar.minsi arg20 c7_i32
  let c4_i32_80 : BitVec 32 := 4#32
  let v195 : BitVec 32 := Scalar.muli v172 c4_i32_80
  let v196 : BitVec 32 := Scalar.addi v195 c0_i32_81
  let v197 : Index := Scalar.indexCast v196
  let c0_83 : Index := 0#32
  ![0, v197.toNat, 0]
def k0_off74 (k0_t6 : Fin k0_t6_loop.trips) (c0_i32_97 : BitVec 32) : Fin 3 → Nat :=
  let c0_98 : Index := 0#32
  let c0_i32_63 : BitVec 32 := 0#32
  let c1_i32_64 : BitVec 32 := 1#32
  let arg20 : BitVec 32 := Scf.iv c0_i32_63 c1_i32_64 k0_t6
  let c1_i32_66 : BitVec 32 := 1#32
  let v173 : BitVec 32 := Scalar.subi arg20 c1_i32_66
  let c0_i32_67 : BitVec 32 := 0#32
  let v174 : BitVec 32 := Scalar.maxsi v173 c0_i32_67
  let c4_i32_96 : BitVec 32 := 4#32
  let v216 : BitVec 32 := Scalar.muli v174 c4_i32_96
  let v217 : BitVec 32 := Scalar.addi v216 c0_i32_97
  let v218 : Index := Scalar.indexCast v217
  let c0_99 : Index := 0#32
  ![0, v218.toNat, 0]
def k0_mult37 (k0_t6 : Fin k0_t6_loop.trips) : BitVec 32 :=
  let c0_i32_63 : BitVec 32 := 0#32
  let c1_i32_64 : BitVec 32 := 1#32
  let arg20 : BitVec 32 := Scf.iv c0_i32_63 c1_i32_64 k0_t6
  let c1_i32_66 : BitVec 32 := 1#32
  let v173 : BitVec 32 := Scalar.subi arg20 c1_i32_66
  let c0_i32_67 : BitVec 32 := 0#32
  let v174 : BitVec 32 := Scalar.maxsi v173 c0_i32_67
  let c64_i32_114 : BitVec 32 := 64#32
  let v238 : BitVec 32 := Scalar.muli v174 c64_i32_114
  v238
def k0_mult38 (v5 : BitVec 32) : BitVec 32 :=
  let c10_i32_21 : BitVec 32 := 10#32
  let v59 : BitVec 32 := Scalar.minsi v5 c10_i32_21
  let c128_i32 : BitVec 32 := 128#32
  let v60 : BitVec 32 := Scalar.muli v59 c128_i32
  let v61 : BitVec 32 := v60
  let c0_i32_118 : BitVec 32 := 0#32
  let v243 : BitVec 32 := Scalar.addi v61 c0_i32_118
  v243
def k0_off75 (v5 : BitVec 32) (k0_t6 : Fin k0_t6_loop.trips) (c0_i32_118 : BitVec 32) : Fin 4 → Nat :=
  let c0_119 : Index := 0#32
  let c0_i32_63 : BitVec 32 := 0#32
  let c1_i32_64 : BitVec 32 := 1#32
  let arg20 : BitVec 32 := Scf.iv c0_i32_63 c1_i32_64 k0_t6
  let c7_i32 : BitVec 32 := 7#32
  let v172 : BitVec 32 := Scalar.minsi arg20 c7_i32
  let v245 : Index := Scalar.indexCast v172
  let c10_i32_21 : BitVec 32 := 10#32
  let v59 : BitVec 32 := Scalar.minsi v5 c10_i32_21
  let c128_i32 : BitVec 32 := 128#32
  let v60 : BitVec 32 := Scalar.muli v59 c128_i32
  let v61 : BitVec 32 := v60
  let v243 : BitVec 32 := Scalar.addi v61 c0_i32_118
  let v244 : BitVec 32 := v243
  let v246 : Index := Scalar.indexCast v244
  let c0_120 : Index := 0#32
  ![0, v245.toNat, v246.toNat, 0]
def k0_off76 (v5 : BitVec 32) (k0_t6 : Fin k0_t6_loop.trips) (c0_i32_118 : BitVec 32) : Fin 3 → Nat :=
  let c0_i32_63 : BitVec 32 := 0#32
  let c1_i32_64 : BitVec 32 := 1#32
  let arg20 : BitVec 32 := Scf.iv c0_i32_63 c1_i32_64 k0_t6
  let c7_i32 : BitVec 32 := 7#32
  let v172 : BitVec 32 := Scalar.minsi arg20 c7_i32
  let v250 : Index := Scalar.indexCast v172
  let c10_i32_21 : BitVec 32 := 10#32
  let v59 : BitVec 32 := Scalar.minsi v5 c10_i32_21
  let c128_i32 : BitVec 32 := 128#32
  let v60 : BitVec 32 := Scalar.muli v59 c128_i32
  let v61 : BitVec 32 := v60
  let v243 : BitVec 32 := Scalar.addi v61 c0_i32_118
  let v244 : BitVec 32 := v243
  let v251 : Index := Scalar.indexCast v244
  let c0_122 : Index := 0#32
  ![v250.toNat, v251.toNat, 0]
def k0_off77 (k0_t6 : Fin k0_t6_loop.trips) : Fin 3 → Nat :=
  let c1_i32_125 : BitVec 32 := 1#32
  let c0_i32_63 : BitVec 32 := 0#32
  let c1_i32_64 : BitVec 32 := 1#32
  let arg20 : BitVec 32 := Scf.iv c0_i32_63 c1_i32_64 k0_t6
  let c2_i32_68 : BitVec 32 := 2#32
  let v175 : BitVec 32 := Scalar.remsi arg20 c2_i32_68
  let v259 : BitVec 32 := Scalar.subi c1_i32_125 v175
  let v260 : Index := Scalar.indexCast v259
  let c0_126 : Index := 0#32
  let c0_127 : Index := 0#32
  ![v260.toNat, 0, 0]
def k0_off78 (v5 : BitVec 32) (k0_t6 : Fin k0_t6_loop.trips) (c0_i32_118 : BitVec 32) : Fin 3 → Nat :=
  let c0_131 : Index := 0#32
  let c0_i32_63 : BitVec 32 := 0#32
  let c1_i32_64 : BitVec 32 := 1#32
  let arg20 : BitVec 32 := Scf.iv c0_i32_63 c1_i32_64 k0_t6
  let c1_i32_66 : BitVec 32 := 1#32
  let v173 : BitVec 32 := Scalar.subi arg20 c1_i32_66
  let c0_i32_67 : BitVec 32 := 0#32
  let v174 : BitVec 32 := Scalar.maxsi v173 c0_i32_67
  let c64_i32_114 : BitVec 32 := 64#32
  let v238 : BitVec 32 := Scalar.muli v174 c64_i32_114
  let v239 : BitVec 32 := v238
  let v276 : Index := Scalar.indexCast v239
  let c10_i32_21 : BitVec 32 := 10#32
  let v59 : BitVec 32 := Scalar.minsi v5 c10_i32_21
  let c128_i32 : BitVec 32 := 128#32
  let v60 : BitVec 32 := Scalar.muli v59 c128_i32
  let v61 : BitVec 32 := v60
  let v243 : BitVec 32 := Scalar.addi v61 c0_i32_118
  let v244 : BitVec 32 := v243
  let v277 : Index := Scalar.indexCast v244
  ![0, v276.toNat, v277.toNat]
def k0_off79 (k0_t6 : Fin k0_t6_loop.trips) : Fin 3 → Nat :=
  let c0_i32_63 : BitVec 32 := 0#32
  let c1_i32_64 : BitVec 32 := 1#32
  let arg20 : BitVec 32 := Scf.iv c0_i32_63 c1_i32_64 k0_t6
  let c2_i32_68 : BitVec 32 := 2#32
  let v175 : BitVec 32 := Scalar.remsi arg20 c2_i32_68
  let v282 : Index := Scalar.indexCast v175
  let c0_133 : Index := 0#32
  let c0_134 : Index := 0#32
  ![v282.toNat, 0, 0]
def k0_mult39 (v5 : BitVec 32) : BitVec 32 :=
  let c10_i32_21 : BitVec 32 := 10#32
  let v59 : BitVec 32 := Scalar.minsi v5 c10_i32_21
  let c128_i32 : BitVec 32 := 128#32
  let v60 : BitVec 32 := Scalar.muli v59 c128_i32
  let v61 : BitVec 32 := v60
  let c256_i32_136 : BitVec 32 := 256#32
  let v289 : BitVec 32 := Scalar.addi v61 c256_i32_136
  v289
def k0_off80 (k0_t6 : Fin k0_t6_loop.trips) : Fin 3 → Nat :=
  let c1_i32_143 : BitVec 32 := 1#32
  let c0_i32_63 : BitVec 32 := 0#32
  let c1_i32_64 : BitVec 32 := 1#32
  let arg20 : BitVec 32 := Scf.iv c0_i32_63 c1_i32_64 k0_t6
  let c2_i32_68 : BitVec 32 := 2#32
  let v175 : BitVec 32 := Scalar.remsi arg20 c2_i32_68
  let v305 : BitVec 32 := Scalar.subi c1_i32_143 v175
  let v306 : Index := Scalar.indexCast v305
  let c256_144 : Index := 256#32
  let c0_145 : Index := 0#32
  ![v306.toNat, 256, 0]
def k0_off81 (k0_t6 : Fin k0_t6_loop.trips) : Fin 3 → Nat :=
  let c0_i32_63 : BitVec 32 := 0#32
  let c1_i32_64 : BitVec 32 := 1#32
  let arg20 : BitVec 32 := Scf.iv c0_i32_63 c1_i32_64 k0_t6
  let c2_i32_68 : BitVec 32 := 2#32
  let v175 : BitVec 32 := Scalar.remsi arg20 c2_i32_68
  let v328 : Index := Scalar.indexCast v175
  let c256_151 : Index := 256#32
  let c0_152 : Index := 0#32
  ![v328.toNat, 256, 0]
def k0_mult40 (v5 : BitVec 32) : BitVec 32 :=
  let c10_i32_21 : BitVec 32 := 10#32
  let v59 : BitVec 32 := Scalar.minsi v5 c10_i32_21
  let c128_i32 : BitVec 32 := 128#32
  let v60 : BitVec 32 := Scalar.muli v59 c128_i32
  let v61 : BitVec 32 := v60
  let c512_i32_154 : BitVec 32 := 512#32
  let v335 : BitVec 32 := Scalar.addi v61 c512_i32_154
  v335
def k0_off82 (k0_t6 : Fin k0_t6_loop.trips) : Fin 3 → Nat :=
  let c1_i32_161 : BitVec 32 := 1#32
  let c0_i32_63 : BitVec 32 := 0#32
  let c1_i32_64 : BitVec 32 := 1#32
  let arg20 : BitVec 32 := Scf.iv c0_i32_63 c1_i32_64 k0_t6
  let c2_i32_68 : BitVec 32 := 2#32
  let v175 : BitVec 32 := Scalar.remsi arg20 c2_i32_68
  let v351 : BitVec 32 := Scalar.subi c1_i32_161 v175
  let v352 : Index := Scalar.indexCast v351
  let c512_162 : Index := 512#32
  let c0_163 : Index := 0#32
  ![v352.toNat, 512, 0]
def k0_off83 (k0_t6 : Fin k0_t6_loop.trips) : Fin 3 → Nat :=
  let c0_i32_63 : BitVec 32 := 0#32
  let c1_i32_64 : BitVec 32 := 1#32
  let arg20 : BitVec 32 := Scf.iv c0_i32_63 c1_i32_64 k0_t6
  let c2_i32_68 : BitVec 32 := 2#32
  let v175 : BitVec 32 := Scalar.remsi arg20 c2_i32_68
  let v374 : Index := Scalar.indexCast v175
  let c512_169 : Index := 512#32
  let c0_170 : Index := 0#32
  ![v374.toNat, 512, 0]
def k0_mult41 (k0_t6 : Fin k0_t6_loop.trips) : BitVec 32 :=
  let c0_i32_63 : BitVec 32 := 0#32
  let c1_i32_64 : BitVec 32 := 1#32
  let arg20 : BitVec 32 := Scf.iv c0_i32_63 c1_i32_64 k0_t6
  let c1_i32_66 : BitVec 32 := 1#32
  let v173 : BitVec 32 := Scalar.subi arg20 c1_i32_66
  let c0_i32_67 : BitVec 32 := 0#32
  let v174 : BitVec 32 := Scalar.maxsi v173 c0_i32_67
  let c256_i32_178 : BitVec 32 := 256#32
  let v400 : BitVec 32 := Scalar.muli v174 c256_i32_178
  let c0_i32_179 : BitVec 32 := 0#32
  let v401 : BitVec 32 := Scalar.addi v400 c0_i32_179
  v401
def k0_off84 (k0_t6 : Fin k0_t6_loop.trips) : Fin 3 → Nat :=
  let c0_180 : Index := 0#32
  let c0_i32_63 : BitVec 32 := 0#32
  let c1_i32_64 : BitVec 32 := 1#32
  let arg20 : BitVec 32 := Scf.iv c0_i32_63 c1_i32_64 k0_t6
  let c1_i32_66 : BitVec 32 := 1#32
  let v173 : BitVec 32 := Scalar.subi arg20 c1_i32_66
  let c0_i32_67 : BitVec 32 := 0#32
  let v174 : BitVec 32 := Scalar.maxsi v173 c0_i32_67
  let v403 : Index := Scalar.indexCast v174
  let c0_181 : Index := 0#32
  ![0, v403.toNat, 0]
def k0_off85 (k0_t6 : Fin k0_t6_loop.trips) (c0_i32_179 : BitVec 32) : Fin 3 → Nat :=
  let c0_182 : Index := 0#32
  let c0_183 : Index := 0#32
  let c0_i32_63 : BitVec 32 := 0#32
  let c1_i32_64 : BitVec 32 := 1#32
  let arg20 : BitVec 32 := Scf.iv c0_i32_63 c1_i32_64 k0_t6
  let c1_i32_66 : BitVec 32 := 1#32
  let v173 : BitVec 32 := Scalar.subi arg20 c1_i32_66
  let c0_i32_67 : BitVec 32 := 0#32
  let v174 : BitVec 32 := Scalar.maxsi v173 c0_i32_67
  let c256_i32_178 : BitVec 32 := 256#32
  let v400 : BitVec 32 := Scalar.muli v174 c256_i32_178
  let v401 : BitVec 32 := Scalar.addi v400 c0_i32_179
  let v402 : BitVec 32 := v401
  let v409 : Index := Scalar.indexCast v402
  ![0, 0, v409.toNat]
def k0_mult42 (k0_t6 : Fin k0_t6_loop.trips) : BitVec 32 :=
  let c0_i32_63 : BitVec 32 := 0#32
  let c1_i32_64 : BitVec 32 := 1#32
  let arg20 : BitVec 32 := Scf.iv c0_i32_63 c1_i32_64 k0_t6
  let c1_i32_66 : BitVec 32 := 1#32
  let v173 : BitVec 32 := Scalar.subi arg20 c1_i32_66
  let c0_i32_67 : BitVec 32 := 0#32
  let v174 : BitVec 32 := Scalar.maxsi v173 c0_i32_67
  let c256_i32_184 : BitVec 32 := 256#32
  let v417 : BitVec 32 := Scalar.muli v174 c256_i32_184
  let c128_i32_185 : BitVec 32 := 128#32
  let v418 : BitVec 32 := Scalar.addi v417 c128_i32_185
  v418
def k0_mult43 (v5 : BitVec 32) : BitVec 32 :=
  let c8_i32_21 : BitVec 32 := 8#32
  let v59 : BitVec 32 := Scalar.minsi v5 c8_i32_21
  let c128_i32 : BitVec 32 := 128#32
  let v60 : BitVec 32 := Scalar.muli v59 c128_i32
  v60
def k0_cond8 (v8 : BitVec 32) : BitVec 1 :=
  let c6_i32_13 : BitVec 32 := 6#32
  let v39 : BitVec 1 := Scalar.cmpi .sgt v8 c6_i32_13
  let c8_i32 : BitVec 32 := 8#32
  let v40 : BitVec 1 := Scalar.cmpi .sle v8 c8_i32
  let v41 : BitVec 1 := Scalar.andi v39 v40
  let v42 : BitVec 32 := Scalar.extui v41
  let c0_i32_14 : BitVec 32 := 0#32
  let v43 : BitVec 1 := Scalar.cmpi .ne v42 c0_i32_14
  v43

def k0_off86 (v5 : BitVec 32) (c0_i32_25 : BitVec 32) : Fin 2 → Nat :=
  let c8_i32_21 : BitVec 32 := 8#32
  let v59 : BitVec 32 := Scalar.minsi v5 c8_i32_21
  let c128_i32 : BitVec 32 := 128#32
  let v60 : BitVec 32 := Scalar.muli v59 c128_i32
  let v61 : BitVec 32 := v60
  let v69 : BitVec 32 := Scalar.addi v61 c0_i32_25
  let v70 : Index := Scalar.indexCast v69
  let c0_26 : Index := 0#32
  ![v70.toNat, 0]
@[reducible] def k0_t7_loop : Scf.Loop 32 :=
  let c0_i32_75 : BitVec 32 := 0#32
  let c9_i32 : BitVec 32 := 9#32
  let v205 : BitVec 32 := Scalar.addi c0_i32_75 c9_i32
  let c1_i32_76 : BitVec 32 := 1#32
  ⟨c0_i32_75, v205, c1_i32_76⟩
def k0_mult44 (k0_t7 : Fin k0_t7_loop.trips) : BitVec 32 :=
  let c0_i32_75 : BitVec 32 := 0#32
  let c1_i32_76 : BitVec 32 := 1#32
  let arg20 : BitVec 32 := Scf.iv c0_i32_75 c1_i32_76 k0_t7
  let c7_i32 : BitVec 32 := 7#32
  let v206 : BitVec 32 := Scalar.minsi arg20 c7_i32
  let c256_i32_81 : BitVec 32 := 256#32
  let v210 : BitVec 32 := Scalar.muli v206 c256_i32_81
  v210
def k0_off87 (k0_t7 : Fin k0_t7_loop.trips) (c0_i32_82 : BitVec 32) : Fin 3 → Nat :=
  let c0_83 : Index := 0#32
  let c0_i32_75 : BitVec 32 := 0#32
  let c1_i32_76 : BitVec 32 := 1#32
  let arg20 : BitVec 32 := Scf.iv c0_i32_75 c1_i32_76 k0_t7
  let c7_i32 : BitVec 32 := 7#32
  let v206 : BitVec 32 := Scalar.minsi arg20 c7_i32
  let c256_i32_81 : BitVec 32 := 256#32
  let v210 : BitVec 32 := Scalar.muli v206 c256_i32_81
  let v211 : BitVec 32 := v210
  let v212 : BitVec 32 := Scalar.addi v211 c0_i32_82
  let v213 : Index := Scalar.indexCast v212
  let c0_84 : Index := 0#32
  ![0, v213.toNat, 0]
def k0_off88 (k0_t7 : Fin k0_t7_loop.trips) (c0_i32_93 : BitVec 32) : Fin 3 → Nat :=
  let c0_94 : Index := 0#32
  let c0_i32_75 : BitVec 32 := 0#32
  let c1_i32_76 : BitVec 32 := 1#32
  let arg20 : BitVec 32 := Scf.iv c0_i32_75 c1_i32_76 k0_t7
  let c7_i32 : BitVec 32 := 7#32
  let v206 : BitVec 32 := Scalar.minsi arg20 c7_i32
  let c4_i32_92 : BitVec 32 := 4#32
  let v229 : BitVec 32 := Scalar.muli v206 c4_i32_92
  let v230 : BitVec 32 := Scalar.addi v229 c0_i32_93
  let v231 : Index := Scalar.indexCast v230
  let c0_95 : Index := 0#32
  ![0, v231.toNat, 0]
def k0_off89 (k0_t7 : Fin k0_t7_loop.trips) (c0_i32_109 : BitVec 32) : Fin 3 → Nat :=
  let c0_110 : Index := 0#32
  let c0_i32_75 : BitVec 32 := 0#32
  let c1_i32_76 : BitVec 32 := 1#32
  let arg20 : BitVec 32 := Scf.iv c0_i32_75 c1_i32_76 k0_t7
  let c1_i32_78 : BitVec 32 := 1#32
  let v207 : BitVec 32 := Scalar.subi arg20 c1_i32_78
  let c0_i32_79 : BitVec 32 := 0#32
  let v208 : BitVec 32 := Scalar.maxsi v207 c0_i32_79
  let c4_i32_108 : BitVec 32 := 4#32
  let v250 : BitVec 32 := Scalar.muli v208 c4_i32_108
  let v251 : BitVec 32 := Scalar.addi v250 c0_i32_109
  let v252 : Index := Scalar.indexCast v251
  let c0_111 : Index := 0#32
  ![0, v252.toNat, 0]
def k0_mult45 (k0_t7 : Fin k0_t7_loop.trips) : BitVec 32 :=
  let c0_i32_75 : BitVec 32 := 0#32
  let c1_i32_76 : BitVec 32 := 1#32
  let arg20 : BitVec 32 := Scf.iv c0_i32_75 c1_i32_76 k0_t7
  let c1_i32_78 : BitVec 32 := 1#32
  let v207 : BitVec 32 := Scalar.subi arg20 c1_i32_78
  let c0_i32_79 : BitVec 32 := 0#32
  let v208 : BitVec 32 := Scalar.maxsi v207 c0_i32_79
  let c64_i32_126 : BitVec 32 := 64#32
  let v272 : BitVec 32 := Scalar.muli v208 c64_i32_126
  v272
def k0_mult46 (v5 : BitVec 32) : BitVec 32 :=
  let c8_i32_21 : BitVec 32 := 8#32
  let v59 : BitVec 32 := Scalar.minsi v5 c8_i32_21
  let c128_i32 : BitVec 32 := 128#32
  let v60 : BitVec 32 := Scalar.muli v59 c128_i32
  let v61 : BitVec 32 := v60
  let c0_i32_130 : BitVec 32 := 0#32
  let v277 : BitVec 32 := Scalar.addi v61 c0_i32_130
  v277
def k0_off90 (v5 : BitVec 32) (k0_t7 : Fin k0_t7_loop.trips) (c0_i32_130 : BitVec 32) : Fin 4 → Nat :=
  let c0_131 : Index := 0#32
  let c0_i32_75 : BitVec 32 := 0#32
  let c1_i32_76 : BitVec 32 := 1#32
  let arg20 : BitVec 32 := Scf.iv c0_i32_75 c1_i32_76 k0_t7
  let c7_i32 : BitVec 32 := 7#32
  let v206 : BitVec 32 := Scalar.minsi arg20 c7_i32
  let v279 : Index := Scalar.indexCast v206
  let c8_i32_21 : BitVec 32 := 8#32
  let v59 : BitVec 32 := Scalar.minsi v5 c8_i32_21
  let c128_i32 : BitVec 32 := 128#32
  let v60 : BitVec 32 := Scalar.muli v59 c128_i32
  let v61 : BitVec 32 := v60
  let v277 : BitVec 32 := Scalar.addi v61 c0_i32_130
  let v278 : BitVec 32 := v277
  let v280 : Index := Scalar.indexCast v278
  let c0_132 : Index := 0#32
  ![0, v279.toNat, v280.toNat, 0]
def k0_off91 (v5 : BitVec 32) (k0_t7 : Fin k0_t7_loop.trips) (c0_i32_130 : BitVec 32) : Fin 3 → Nat :=
  let c0_i32_75 : BitVec 32 := 0#32
  let c1_i32_76 : BitVec 32 := 1#32
  let arg20 : BitVec 32 := Scf.iv c0_i32_75 c1_i32_76 k0_t7
  let c7_i32 : BitVec 32 := 7#32
  let v206 : BitVec 32 := Scalar.minsi arg20 c7_i32
  let v284 : Index := Scalar.indexCast v206
  let c8_i32_21 : BitVec 32 := 8#32
  let v59 : BitVec 32 := Scalar.minsi v5 c8_i32_21
  let c128_i32 : BitVec 32 := 128#32
  let v60 : BitVec 32 := Scalar.muli v59 c128_i32
  let v61 : BitVec 32 := v60
  let v277 : BitVec 32 := Scalar.addi v61 c0_i32_130
  let v278 : BitVec 32 := v277
  let v285 : Index := Scalar.indexCast v278
  let c0_134 : Index := 0#32
  ![v284.toNat, v285.toNat, 0]
def k0_off92 (k0_t7 : Fin k0_t7_loop.trips) : Fin 3 → Nat :=
  let c1_i32_137 : BitVec 32 := 1#32
  let c0_i32_75 : BitVec 32 := 0#32
  let c1_i32_76 : BitVec 32 := 1#32
  let arg20 : BitVec 32 := Scf.iv c0_i32_75 c1_i32_76 k0_t7
  let c2_i32_80 : BitVec 32 := 2#32
  let v209 : BitVec 32 := Scalar.remsi arg20 c2_i32_80
  let v293 : BitVec 32 := Scalar.subi c1_i32_137 v209
  let v294 : Index := Scalar.indexCast v293
  let c0_138 : Index := 0#32
  let c0_139 : Index := 0#32
  ![v294.toNat, 0, 0]
def k0_off93 (v5 : BitVec 32) (k0_t7 : Fin k0_t7_loop.trips) (c0_i32_130 : BitVec 32) : Fin 3 → Nat :=
  let c0_143 : Index := 0#32
  let c0_i32_75 : BitVec 32 := 0#32
  let c1_i32_76 : BitVec 32 := 1#32
  let arg20 : BitVec 32 := Scf.iv c0_i32_75 c1_i32_76 k0_t7
  let c1_i32_78 : BitVec 32 := 1#32
  let v207 : BitVec 32 := Scalar.subi arg20 c1_i32_78
  let c0_i32_79 : BitVec 32 := 0#32
  let v208 : BitVec 32 := Scalar.maxsi v207 c0_i32_79
  let c64_i32_126 : BitVec 32 := 64#32
  let v272 : BitVec 32 := Scalar.muli v208 c64_i32_126
  let v273 : BitVec 32 := v272
  let v310 : Index := Scalar.indexCast v273
  let c8_i32_21 : BitVec 32 := 8#32
  let v59 : BitVec 32 := Scalar.minsi v5 c8_i32_21
  let c128_i32 : BitVec 32 := 128#32
  let v60 : BitVec 32 := Scalar.muli v59 c128_i32
  let v61 : BitVec 32 := v60
  let v277 : BitVec 32 := Scalar.addi v61 c0_i32_130
  let v278 : BitVec 32 := v277
  let v311 : Index := Scalar.indexCast v278
  ![0, v310.toNat, v311.toNat]
def k0_off94 (k0_t7 : Fin k0_t7_loop.trips) : Fin 3 → Nat :=
  let c0_i32_75 : BitVec 32 := 0#32
  let c1_i32_76 : BitVec 32 := 1#32
  let arg20 : BitVec 32 := Scf.iv c0_i32_75 c1_i32_76 k0_t7
  let c2_i32_80 : BitVec 32 := 2#32
  let v209 : BitVec 32 := Scalar.remsi arg20 c2_i32_80
  let v316 : Index := Scalar.indexCast v209
  let c0_145 : Index := 0#32
  let c0_146 : Index := 0#32
  ![v316.toNat, 0, 0]
def k0_mult47 (v5 : BitVec 32) : BitVec 32 :=
  let c8_i32_21 : BitVec 32 := 8#32
  let v59 : BitVec 32 := Scalar.minsi v5 c8_i32_21
  let c128_i32 : BitVec 32 := 128#32
  let v60 : BitVec 32 := Scalar.muli v59 c128_i32
  let v61 : BitVec 32 := v60
  let c256_i32_148 : BitVec 32 := 256#32
  let v323 : BitVec 32 := Scalar.addi v61 c256_i32_148
  v323
def k0_off95 (k0_t7 : Fin k0_t7_loop.trips) : Fin 3 → Nat :=
  let c1_i32_155 : BitVec 32 := 1#32
  let c0_i32_75 : BitVec 32 := 0#32
  let c1_i32_76 : BitVec 32 := 1#32
  let arg20 : BitVec 32 := Scf.iv c0_i32_75 c1_i32_76 k0_t7
  let c2_i32_80 : BitVec 32 := 2#32
  let v209 : BitVec 32 := Scalar.remsi arg20 c2_i32_80
  let v339 : BitVec 32 := Scalar.subi c1_i32_155 v209
  let v340 : Index := Scalar.indexCast v339
  let c256_156 : Index := 256#32
  let c0_157 : Index := 0#32
  ![v340.toNat, 256, 0]
def k0_off96 (k0_t7 : Fin k0_t7_loop.trips) : Fin 3 → Nat :=
  let c0_i32_75 : BitVec 32 := 0#32
  let c1_i32_76 : BitVec 32 := 1#32
  let arg20 : BitVec 32 := Scf.iv c0_i32_75 c1_i32_76 k0_t7
  let c2_i32_80 : BitVec 32 := 2#32
  let v209 : BitVec 32 := Scalar.remsi arg20 c2_i32_80
  let v362 : Index := Scalar.indexCast v209
  let c256_163 : Index := 256#32
  let c0_164 : Index := 0#32
  ![v362.toNat, 256, 0]
def k0_mult48 (v5 : BitVec 32) : BitVec 32 :=
  let c8_i32_21 : BitVec 32 := 8#32
  let v59 : BitVec 32 := Scalar.minsi v5 c8_i32_21
  let c128_i32 : BitVec 32 := 128#32
  let v60 : BitVec 32 := Scalar.muli v59 c128_i32
  let v61 : BitVec 32 := v60
  let c512_i32_166 : BitVec 32 := 512#32
  let v369 : BitVec 32 := Scalar.addi v61 c512_i32_166
  v369
def k0_off97 (k0_t7 : Fin k0_t7_loop.trips) : Fin 3 → Nat :=
  let c1_i32_173 : BitVec 32 := 1#32
  let c0_i32_75 : BitVec 32 := 0#32
  let c1_i32_76 : BitVec 32 := 1#32
  let arg20 : BitVec 32 := Scf.iv c0_i32_75 c1_i32_76 k0_t7
  let c2_i32_80 : BitVec 32 := 2#32
  let v209 : BitVec 32 := Scalar.remsi arg20 c2_i32_80
  let v385 : BitVec 32 := Scalar.subi c1_i32_173 v209
  let v386 : Index := Scalar.indexCast v385
  let c512_174 : Index := 512#32
  let c0_175 : Index := 0#32
  ![v386.toNat, 512, 0]
def k0_off98 (k0_t7 : Fin k0_t7_loop.trips) : Fin 3 → Nat :=
  let c0_i32_75 : BitVec 32 := 0#32
  let c1_i32_76 : BitVec 32 := 1#32
  let arg20 : BitVec 32 := Scf.iv c0_i32_75 c1_i32_76 k0_t7
  let c2_i32_80 : BitVec 32 := 2#32
  let v209 : BitVec 32 := Scalar.remsi arg20 c2_i32_80
  let v408 : Index := Scalar.indexCast v209
  let c512_181 : Index := 512#32
  let c0_182 : Index := 0#32
  ![v408.toNat, 512, 0]
def k0_mult49 (v5 : BitVec 32) : BitVec 32 :=
  let c8_i32_21 : BitVec 32 := 8#32
  let v59 : BitVec 32 := Scalar.minsi v5 c8_i32_21
  let c128_i32 : BitVec 32 := 128#32
  let v60 : BitVec 32 := Scalar.muli v59 c128_i32
  let v61 : BitVec 32 := v60
  let c768_i32_184 : BitVec 32 := 768#32
  let v415 : BitVec 32 := Scalar.addi v61 c768_i32_184
  v415
def k0_off99 (k0_t7 : Fin k0_t7_loop.trips) : Fin 3 → Nat :=
  let c1_i32_191 : BitVec 32 := 1#32
  let c0_i32_75 : BitVec 32 := 0#32
  let c1_i32_76 : BitVec 32 := 1#32
  let arg20 : BitVec 32 := Scf.iv c0_i32_75 c1_i32_76 k0_t7
  let c2_i32_80 : BitVec 32 := 2#32
  let v209 : BitVec 32 := Scalar.remsi arg20 c2_i32_80
  let v431 : BitVec 32 := Scalar.subi c1_i32_191 v209
  let v432 : Index := Scalar.indexCast v431
  let c768_192 : Index := 768#32
  let c0_193 : Index := 0#32
  ![v432.toNat, 768, 0]
def k0_off100 (k0_t7 : Fin k0_t7_loop.trips) : Fin 3 → Nat :=
  let c0_i32_75 : BitVec 32 := 0#32
  let c1_i32_76 : BitVec 32 := 1#32
  let arg20 : BitVec 32 := Scf.iv c0_i32_75 c1_i32_76 k0_t7
  let c2_i32_80 : BitVec 32 := 2#32
  let v209 : BitVec 32 := Scalar.remsi arg20 c2_i32_80
  let v454 : Index := Scalar.indexCast v209
  let c768_199 : Index := 768#32
  let c0_200 : Index := 0#32
  ![v454.toNat, 768, 0]
def k0_mult50 (k0_t7 : Fin k0_t7_loop.trips) : BitVec 32 :=
  let c0_i32_75 : BitVec 32 := 0#32
  let c1_i32_76 : BitVec 32 := 1#32
  let arg20 : BitVec 32 := Scf.iv c0_i32_75 c1_i32_76 k0_t7
  let c1_i32_78 : BitVec 32 := 1#32
  let v207 : BitVec 32 := Scalar.subi arg20 c1_i32_78
  let c0_i32_79 : BitVec 32 := 0#32
  let v208 : BitVec 32 := Scalar.maxsi v207 c0_i32_79
  let c256_i32_208 : BitVec 32 := 256#32
  let v480 : BitVec 32 := Scalar.muli v208 c256_i32_208
  let c0_i32_209 : BitVec 32 := 0#32
  let v481 : BitVec 32 := Scalar.addi v480 c0_i32_209
  v481
def k0_off101 (k0_t7 : Fin k0_t7_loop.trips) : Fin 3 → Nat :=
  let c0_210 : Index := 0#32
  let c0_i32_75 : BitVec 32 := 0#32
  let c1_i32_76 : BitVec 32 := 1#32
  let arg20 : BitVec 32 := Scf.iv c0_i32_75 c1_i32_76 k0_t7
  let c1_i32_78 : BitVec 32 := 1#32
  let v207 : BitVec 32 := Scalar.subi arg20 c1_i32_78
  let c0_i32_79 : BitVec 32 := 0#32
  let v208 : BitVec 32 := Scalar.maxsi v207 c0_i32_79
  let v483 : Index := Scalar.indexCast v208
  let c0_211 : Index := 0#32
  ![0, v483.toNat, 0]
def k0_off102 (k0_t7 : Fin k0_t7_loop.trips) (c0_i32_209 : BitVec 32) : Fin 3 → Nat :=
  let c0_212 : Index := 0#32
  let c0_213 : Index := 0#32
  let c0_i32_75 : BitVec 32 := 0#32
  let c1_i32_76 : BitVec 32 := 1#32
  let arg20 : BitVec 32 := Scf.iv c0_i32_75 c1_i32_76 k0_t7
  let c1_i32_78 : BitVec 32 := 1#32
  let v207 : BitVec 32 := Scalar.subi arg20 c1_i32_78
  let c0_i32_79 : BitVec 32 := 0#32
  let v208 : BitVec 32 := Scalar.maxsi v207 c0_i32_79
  let c256_i32_208 : BitVec 32 := 256#32
  let v480 : BitVec 32 := Scalar.muli v208 c256_i32_208
  let v481 : BitVec 32 := Scalar.addi v480 c0_i32_209
  let v482 : BitVec 32 := v481
  let v489 : Index := Scalar.indexCast v482
  ![0, 0, v489.toNat]
def k0_mult51 (k0_t7 : Fin k0_t7_loop.trips) : BitVec 32 :=
  let c0_i32_75 : BitVec 32 := 0#32
  let c1_i32_76 : BitVec 32 := 1#32
  let arg20 : BitVec 32 := Scf.iv c0_i32_75 c1_i32_76 k0_t7
  let c1_i32_78 : BitVec 32 := 1#32
  let v207 : BitVec 32 := Scalar.subi arg20 c1_i32_78
  let c0_i32_79 : BitVec 32 := 0#32
  let v208 : BitVec 32 := Scalar.maxsi v207 c0_i32_79
  let c256_i32_214 : BitVec 32 := 256#32
  let v497 : BitVec 32 := Scalar.muli v208 c256_i32_214
  let c128_i32_215 : BitVec 32 := 128#32
  let v498 : BitVec 32 := Scalar.addi v497 c128_i32_215
  v498
def k0_mult52 (v5 : BitVec 32) : BitVec 32 :=
  let c6_i32_21 : BitVec 32 := 6#32
  let v59 : BitVec 32 := Scalar.minsi v5 c6_i32_21
  let c128_i32 : BitVec 32 := 128#32
  let v60 : BitVec 32 := Scalar.muli v59 c128_i32
  v60
def k0_cond9 (v8 : BitVec 32) : BitVec 1 :=
  let c8_i32_15 : BitVec 32 := 8#32
  let v44 : BitVec 1 := Scalar.cmpi .sgt v8 c8_i32_15
  let c10_i32 : BitVec 32 := 10#32
  let v45 : BitVec 1 := Scalar.cmpi .sle v8 c10_i32
  let v46 : BitVec 1 := Scalar.andi v44 v45
  let v47 : BitVec 32 := Scalar.extui v46
  let c0_i32_16 : BitVec 32 := 0#32
  let v48 : BitVec 1 := Scalar.cmpi .ne v47 c0_i32_16
  v48

def k0_off103 (v5 : BitVec 32) (c0_i32_25 : BitVec 32) : Fin 2 → Nat :=
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let v69 : BitVec 32 := Scalar.addi v61 c0_i32_25
  let v70 : Index := Scalar.indexCast v69
  let c0_26 : Index := 0#32
  ![v70.toNat, 0]
@[reducible] def k0_t8_loop : Scf.Loop 32 :=
  let c0_i32_87 : BitVec 32 := 0#32
  let c9_i32 : BitVec 32 := 9#32
  let v239 : BitVec 32 := Scalar.addi c0_i32_87 c9_i32
  let c1_i32_88 : BitVec 32 := 1#32
  ⟨c0_i32_87, v239, c1_i32_88⟩
def k0_mult53 (k0_t8 : Fin k0_t8_loop.trips) : BitVec 32 :=
  let c0_i32_87 : BitVec 32 := 0#32
  let c1_i32_88 : BitVec 32 := 1#32
  let arg20 : BitVec 32 := Scf.iv c0_i32_87 c1_i32_88 k0_t8
  let c7_i32 : BitVec 32 := 7#32
  let v240 : BitVec 32 := Scalar.minsi arg20 c7_i32
  let c256_i32_93 : BitVec 32 := 256#32
  let v244 : BitVec 32 := Scalar.muli v240 c256_i32_93
  v244
def k0_off104 (k0_t8 : Fin k0_t8_loop.trips) (c0_i32_94 : BitVec 32) : Fin 3 → Nat :=
  let c0_95 : Index := 0#32
  let c0_i32_87 : BitVec 32 := 0#32
  let c1_i32_88 : BitVec 32 := 1#32
  let arg20 : BitVec 32 := Scf.iv c0_i32_87 c1_i32_88 k0_t8
  let c7_i32 : BitVec 32 := 7#32
  let v240 : BitVec 32 := Scalar.minsi arg20 c7_i32
  let c256_i32_93 : BitVec 32 := 256#32
  let v244 : BitVec 32 := Scalar.muli v240 c256_i32_93
  let v245 : BitVec 32 := v244
  let v246 : BitVec 32 := Scalar.addi v245 c0_i32_94
  let v247 : Index := Scalar.indexCast v246
  let c0_96 : Index := 0#32
  ![0, v247.toNat, 0]
def k0_off105 (k0_t8 : Fin k0_t8_loop.trips) (c0_i32_105 : BitVec 32) : Fin 3 → Nat :=
  let c0_106 : Index := 0#32
  let c0_i32_87 : BitVec 32 := 0#32
  let c1_i32_88 : BitVec 32 := 1#32
  let arg20 : BitVec 32 := Scf.iv c0_i32_87 c1_i32_88 k0_t8
  let c7_i32 : BitVec 32 := 7#32
  let v240 : BitVec 32 := Scalar.minsi arg20 c7_i32
  let c4_i32_104 : BitVec 32 := 4#32
  let v263 : BitVec 32 := Scalar.muli v240 c4_i32_104
  let v264 : BitVec 32 := Scalar.addi v263 c0_i32_105
  let v265 : Index := Scalar.indexCast v264
  let c0_107 : Index := 0#32
  ![0, v265.toNat, 0]
def k0_off106 (k0_t8 : Fin k0_t8_loop.trips) (c0_i32_121 : BitVec 32) : Fin 3 → Nat :=
  let c0_122 : Index := 0#32
  let c0_i32_87 : BitVec 32 := 0#32
  let c1_i32_88 : BitVec 32 := 1#32
  let arg20 : BitVec 32 := Scf.iv c0_i32_87 c1_i32_88 k0_t8
  let c1_i32_90 : BitVec 32 := 1#32
  let v241 : BitVec 32 := Scalar.subi arg20 c1_i32_90
  let c0_i32_91 : BitVec 32 := 0#32
  let v242 : BitVec 32 := Scalar.maxsi v241 c0_i32_91
  let c4_i32_120 : BitVec 32 := 4#32
  let v284 : BitVec 32 := Scalar.muli v242 c4_i32_120
  let v285 : BitVec 32 := Scalar.addi v284 c0_i32_121
  let v286 : Index := Scalar.indexCast v285
  let c0_123 : Index := 0#32
  ![0, v286.toNat, 0]
def k0_mult54 (k0_t8 : Fin k0_t8_loop.trips) : BitVec 32 :=
  let c0_i32_87 : BitVec 32 := 0#32
  let c1_i32_88 : BitVec 32 := 1#32
  let arg20 : BitVec 32 := Scf.iv c0_i32_87 c1_i32_88 k0_t8
  let c1_i32_90 : BitVec 32 := 1#32
  let v241 : BitVec 32 := Scalar.subi arg20 c1_i32_90
  let c0_i32_91 : BitVec 32 := 0#32
  let v242 : BitVec 32 := Scalar.maxsi v241 c0_i32_91
  let c64_i32_138 : BitVec 32 := 64#32
  let v306 : BitVec 32 := Scalar.muli v242 c64_i32_138
  v306
def k0_mult55 (v5 : BitVec 32) : BitVec 32 :=
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let c0_i32_142 : BitVec 32 := 0#32
  let v311 : BitVec 32 := Scalar.addi v61 c0_i32_142
  v311
def k0_off107 (v5 : BitVec 32) (k0_t8 : Fin k0_t8_loop.trips) (c0_i32_142 : BitVec 32) : Fin 4 → Nat :=
  let c0_143 : Index := 0#32
  let c0_i32_87 : BitVec 32 := 0#32
  let c1_i32_88 : BitVec 32 := 1#32
  let arg20 : BitVec 32 := Scf.iv c0_i32_87 c1_i32_88 k0_t8
  let c7_i32 : BitVec 32 := 7#32
  let v240 : BitVec 32 := Scalar.minsi arg20 c7_i32
  let v313 : Index := Scalar.indexCast v240
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let v311 : BitVec 32 := Scalar.addi v61 c0_i32_142
  let v312 : BitVec 32 := v311
  let v314 : Index := Scalar.indexCast v312
  let c0_144 : Index := 0#32
  ![0, v313.toNat, v314.toNat, 0]
def k0_off108 (v5 : BitVec 32) (k0_t8 : Fin k0_t8_loop.trips) (c0_i32_142 : BitVec 32) : Fin 3 → Nat :=
  let c0_i32_87 : BitVec 32 := 0#32
  let c1_i32_88 : BitVec 32 := 1#32
  let arg20 : BitVec 32 := Scf.iv c0_i32_87 c1_i32_88 k0_t8
  let c7_i32 : BitVec 32 := 7#32
  let v240 : BitVec 32 := Scalar.minsi arg20 c7_i32
  let v318 : Index := Scalar.indexCast v240
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let v311 : BitVec 32 := Scalar.addi v61 c0_i32_142
  let v312 : BitVec 32 := v311
  let v319 : Index := Scalar.indexCast v312
  let c0_146 : Index := 0#32
  ![v318.toNat, v319.toNat, 0]
def k0_off109 (k0_t8 : Fin k0_t8_loop.trips) : Fin 3 → Nat :=
  let c1_i32_149 : BitVec 32 := 1#32
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v327 : BitVec 32 := Scalar.subi c1_i32_149 v243
  let v328 : Index := Scalar.indexCast v327
  let c0_150 : Index := 0#32
  let c0_151 : Index := 0#32
  ![v328.toNat, 0, 0]
def k0_off110 (v5 : BitVec 32) (k0_t8 : Fin k0_t8_loop.trips) (c0_i32_142 : BitVec 32) : Fin 3 → Nat :=
  let c0_155 : Index := 0#32
  let c0_i32_87 : BitVec 32 := 0#32
  let c1_i32_88 : BitVec 32 := 1#32
  let arg20 : BitVec 32 := Scf.iv c0_i32_87 c1_i32_88 k0_t8
  let c1_i32_90 : BitVec 32 := 1#32
  let v241 : BitVec 32 := Scalar.subi arg20 c1_i32_90
  let c0_i32_91 : BitVec 32 := 0#32
  let v242 : BitVec 32 := Scalar.maxsi v241 c0_i32_91
  let c64_i32_138 : BitVec 32 := 64#32
  let v306 : BitVec 32 := Scalar.muli v242 c64_i32_138
  let v307 : BitVec 32 := v306
  let v344 : Index := Scalar.indexCast v307
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let v311 : BitVec 32 := Scalar.addi v61 c0_i32_142
  let v312 : BitVec 32 := v311
  let v345 : Index := Scalar.indexCast v312
  ![0, v344.toNat, v345.toNat]
def k0_off111 (k0_t8 : Fin k0_t8_loop.trips) : Fin 3 → Nat :=
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v350 : Index := Scalar.indexCast v243
  let c0_157 : Index := 0#32
  let c0_158 : Index := 0#32
  ![v350.toNat, 0, 0]
def k0_mult56 (v5 : BitVec 32) : BitVec 32 :=
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let c256_i32_160 : BitVec 32 := 256#32
  let v357 : BitVec 32 := Scalar.addi v61 c256_i32_160
  v357
def k0_off112 (k0_t8 : Fin k0_t8_loop.trips) : Fin 3 → Nat :=
  let c1_i32_167 : BitVec 32 := 1#32
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v373 : BitVec 32 := Scalar.subi c1_i32_167 v243
  let v374 : Index := Scalar.indexCast v373
  let c256_168 : Index := 256#32
  let c0_169 : Index := 0#32
  ![v374.toNat, 256, 0]
def k0_off113 (k0_t8 : Fin k0_t8_loop.trips) : Fin 3 → Nat :=
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v396 : Index := Scalar.indexCast v243
  let c256_175 : Index := 256#32
  let c0_176 : Index := 0#32
  ![v396.toNat, 256, 0]
def k0_mult57 (v5 : BitVec 32) : BitVec 32 :=
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let c512_i32_178 : BitVec 32 := 512#32
  let v403 : BitVec 32 := Scalar.addi v61 c512_i32_178
  v403
def k0_off114 (k0_t8 : Fin k0_t8_loop.trips) : Fin 3 → Nat :=
  let c1_i32_185 : BitVec 32 := 1#32
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v419 : BitVec 32 := Scalar.subi c1_i32_185 v243
  let v420 : Index := Scalar.indexCast v419
  let c512_186 : Index := 512#32
  let c0_187 : Index := 0#32
  ![v420.toNat, 512, 0]
def k0_off115 (k0_t8 : Fin k0_t8_loop.trips) : Fin 3 → Nat :=
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v442 : Index := Scalar.indexCast v243
  let c512_193 : Index := 512#32
  let c0_194 : Index := 0#32
  ![v442.toNat, 512, 0]
def k0_mult58 (v5 : BitVec 32) : BitVec 32 :=
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let c768_i32_196 : BitVec 32 := 768#32
  let v449 : BitVec 32 := Scalar.addi v61 c768_i32_196
  v449
def k0_off116 (k0_t8 : Fin k0_t8_loop.trips) : Fin 3 → Nat :=
  let c1_i32_203 : BitVec 32 := 1#32
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v465 : BitVec 32 := Scalar.subi c1_i32_203 v243
  let v466 : Index := Scalar.indexCast v465
  let c768_204 : Index := 768#32
  let c0_205 : Index := 0#32
  ![v466.toNat, 768, 0]
def k0_off117 (k0_t8 : Fin k0_t8_loop.trips) : Fin 3 → Nat :=
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v488 : Index := Scalar.indexCast v243
  let c768_211 : Index := 768#32
  let c0_212 : Index := 0#32
  ![v488.toNat, 768, 0]
def k0_mult59 (v5 : BitVec 32) : BitVec 32 :=
  let c6_i32_21 : BitVec 32 := 6#32
  let v59 : BitVec 32 := Scalar.minsi v5 c6_i32_21
  let c128_i32 : BitVec 32 := 128#32
  let v60 : BitVec 32 := Scalar.muli v59 c128_i32
  let v61 : BitVec 32 := v60
  let c1024_i32_214 : BitVec 32 := 1024#32
  let v495 : BitVec 32 := Scalar.addi v61 c1024_i32_214
  v495
def k0_off118 (k0_t8 : Fin k0_t8_loop.trips) : Fin 3 → Nat :=
  let c1_i32_221 : BitVec 32 := 1#32
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v511 : BitVec 32 := Scalar.subi c1_i32_221 v243
  let v512 : Index := Scalar.indexCast v511
  let c1024_222 : Index := 1024#32
  let c0_223 : Index := 0#32
  ![v512.toNat, 1024, 0]
def k0_off119 (k0_t8 : Fin k0_t8_loop.trips) : Fin 3 → Nat :=
  let c0_i32_87 : BitVec 32 := 0#32
  let c1_i32_88 : BitVec 32 := 1#32
  let arg20 : BitVec 32 := Scf.iv c0_i32_87 c1_i32_88 k0_t8
  let c2_i32_92 : BitVec 32 := 2#32
  let v243 : BitVec 32 := Scalar.remsi arg20 c2_i32_92
  let v534 : Index := Scalar.indexCast v243
  let c1024_229 : Index := 1024#32
  let c0_230 : Index := 0#32
  ![v534.toNat, 1024, 0]
def k0_mult60 (k0_t8 : Fin k0_t8_loop.trips) : BitVec 32 :=
  let c0_i32_87 : BitVec 32 := 0#32
  let c1_i32_88 : BitVec 32 := 1#32
  let arg20 : BitVec 32 := Scf.iv c0_i32_87 c1_i32_88 k0_t8
  let c1_i32_90 : BitVec 32 := 1#32
  let v241 : BitVec 32 := Scalar.subi arg20 c1_i32_90
  let c0_i32_91 : BitVec 32 := 0#32
  let v242 : BitVec 32 := Scalar.maxsi v241 c0_i32_91
  let c256_i32_238 : BitVec 32 := 256#32
  let v560 : BitVec 32 := Scalar.muli v242 c256_i32_238
  let c0_i32_239 : BitVec 32 := 0#32
  let v561 : BitVec 32 := Scalar.addi v560 c0_i32_239
  v561
def k0_off120 (k0_t8 : Fin k0_t8_loop.trips) : Fin 3 → Nat :=
  let c0_240 : Index := 0#32
  let c0_i32_87 : BitVec 32 := 0#32
  let c1_i32_88 : BitVec 32 := 1#32
  let arg20 : BitVec 32 := Scf.iv c0_i32_87 c1_i32_88 k0_t8
  let c1_i32_90 : BitVec 32 := 1#32
  let v241 : BitVec 32 := Scalar.subi arg20 c1_i32_90
  let c0_i32_91 : BitVec 32 := 0#32
  let v242 : BitVec 32 := Scalar.maxsi v241 c0_i32_91
  let v563 : Index := Scalar.indexCast v242
  let c0_241 : Index := 0#32
  ![0, v563.toNat, 0]
def k0_off121 (k0_t8 : Fin k0_t8_loop.trips) (c0_i32_239 : BitVec 32) : Fin 3 → Nat :=
  let c0_242 : Index := 0#32
  let c0_243 : Index := 0#32
  let c0_i32_87 : BitVec 32 := 0#32
  let c1_i32_88 : BitVec 32 := 1#32
  let arg20 : BitVec 32 := Scf.iv c0_i32_87 c1_i32_88 k0_t8
  let c1_i32_90 : BitVec 32 := 1#32
  let v241 : BitVec 32 := Scalar.subi arg20 c1_i32_90
  let c0_i32_91 : BitVec 32 := 0#32
  let v242 : BitVec 32 := Scalar.maxsi v241 c0_i32_91
  let c256_i32_238 : BitVec 32 := 256#32
  let v560 : BitVec 32 := Scalar.muli v242 c256_i32_238
  let v561 : BitVec 32 := Scalar.addi v560 c0_i32_239
  let v562 : BitVec 32 := v561
  let v569 : Index := Scalar.indexCast v562
  ![0, 0, v569.toNat]
def k0_mult61 (k0_t8 : Fin k0_t8_loop.trips) : BitVec 32 :=
  let c0_i32_87 : BitVec 32 := 0#32
  let c1_i32_88 : BitVec 32 := 1#32
  let arg20 : BitVec 32 := Scf.iv c0_i32_87 c1_i32_88 k0_t8
  let c1_i32_90 : BitVec 32 := 1#32
  let v241 : BitVec 32 := Scalar.subi arg20 c1_i32_90
  let c0_i32_91 : BitVec 32 := 0#32
  let v242 : BitVec 32 := Scalar.maxsi v241 c0_i32_91
  let c256_i32_244 : BitVec 32 := 256#32
  let v577 : BitVec 32 := Scalar.muli v242 c256_i32_244
  let c128_i32_245 : BitVec 32 := 128#32
  let v578 : BitVec 32 := Scalar.addi v577 c128_i32_245
  v578
def k0_mult62 (v5 : BitVec 32) : BitVec 32 :=
  let c4_i32_21 : BitVec 32 := 4#32
  let v59 : BitVec 32 := Scalar.minsi v5 c4_i32_21
  let c128_i32 : BitVec 32 := 128#32
  let v60 : BitVec 32 := Scalar.muli v59 c128_i32
  v60
def k0_cond10 (v8 : BitVec 32) : BitVec 1 :=
  let c10_i32_17 : BitVec 32 := 10#32
  let v49 : BitVec 1 := Scalar.cmpi .sgt v8 c10_i32_17
  let c12_i32 : BitVec 32 := 12#32
  let v50 : BitVec 1 := Scalar.cmpi .sle v8 c12_i32
  let v51 : BitVec 1 := Scalar.andi v49 v50
  let v52 : BitVec 32 := Scalar.extui v51
  let c0_i32_18 : BitVec 32 := 0#32
  let v53 : BitVec 1 := Scalar.cmpi .ne v52 c0_i32_18
  v53

def k0_off122 (v5 : BitVec 32) (c0_i32_25 : BitVec 32) : Fin 2 → Nat :=
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let v69 : BitVec 32 := Scalar.addi v61 c0_i32_25
  let v70 : Index := Scalar.indexCast v69
  let c0_26 : Index := 0#32
  ![v70.toNat, 0]
@[reducible] def k0_t9_loop : Scf.Loop 32 :=
  let c0_i32_99 : BitVec 32 := 0#32
  let c9_i32 : BitVec 32 := 9#32
  let v273 : BitVec 32 := Scalar.addi c0_i32_99 c9_i32
  let c1_i32_100 : BitVec 32 := 1#32
  ⟨c0_i32_99, v273, c1_i32_100⟩
def k0_mult63 (k0_t9 : Fin k0_t9_loop.trips) : BitVec 32 :=
  let c0_i32_99 : BitVec 32 := 0#32
  let c1_i32_100 : BitVec 32 := 1#32
  let arg20 : BitVec 32 := Scf.iv c0_i32_99 c1_i32_100 k0_t9
  let c7_i32 : BitVec 32 := 7#32
  let v274 : BitVec 32 := Scalar.minsi arg20 c7_i32
  let c256_i32_105 : BitVec 32 := 256#32
  let v278 : BitVec 32 := Scalar.muli v274 c256_i32_105
  v278
def k0_off123 (k0_t9 : Fin k0_t9_loop.trips) (c0_i32_106 : BitVec 32) : Fin 3 → Nat :=
  let c0_107 : Index := 0#32
  let c0_i32_99 : BitVec 32 := 0#32
  let c1_i32_100 : BitVec 32 := 1#32
  let arg20 : BitVec 32 := Scf.iv c0_i32_99 c1_i32_100 k0_t9
  let c7_i32 : BitVec 32 := 7#32
  let v274 : BitVec 32 := Scalar.minsi arg20 c7_i32
  let c256_i32_105 : BitVec 32 := 256#32
  let v278 : BitVec 32 := Scalar.muli v274 c256_i32_105
  let v279 : BitVec 32 := v278
  let v280 : BitVec 32 := Scalar.addi v279 c0_i32_106
  let v281 : Index := Scalar.indexCast v280
  let c0_108 : Index := 0#32
  ![0, v281.toNat, 0]
def k0_off124 (k0_t9 : Fin k0_t9_loop.trips) (c0_i32_117 : BitVec 32) : Fin 3 → Nat :=
  let c0_118 : Index := 0#32
  let c0_i32_99 : BitVec 32 := 0#32
  let c1_i32_100 : BitVec 32 := 1#32
  let arg20 : BitVec 32 := Scf.iv c0_i32_99 c1_i32_100 k0_t9
  let c7_i32 : BitVec 32 := 7#32
  let v274 : BitVec 32 := Scalar.minsi arg20 c7_i32
  let c4_i32_116 : BitVec 32 := 4#32
  let v297 : BitVec 32 := Scalar.muli v274 c4_i32_116
  let v298 : BitVec 32 := Scalar.addi v297 c0_i32_117
  let v299 : Index := Scalar.indexCast v298
  let c0_119 : Index := 0#32
  ![0, v299.toNat, 0]
def k0_off125 (k0_t9 : Fin k0_t9_loop.trips) (c0_i32_133 : BitVec 32) : Fin 3 → Nat :=
  let c0_134 : Index := 0#32
  let c0_i32_99 : BitVec 32 := 0#32
  let c1_i32_100 : BitVec 32 := 1#32
  let arg20 : BitVec 32 := Scf.iv c0_i32_99 c1_i32_100 k0_t9
  let c1_i32_102 : BitVec 32 := 1#32
  let v275 : BitVec 32 := Scalar.subi arg20 c1_i32_102
  let c0_i32_103 : BitVec 32 := 0#32
  let v276 : BitVec 32 := Scalar.maxsi v275 c0_i32_103
  let c4_i32_132 : BitVec 32 := 4#32
  let v318 : BitVec 32 := Scalar.muli v276 c4_i32_132
  let v319 : BitVec 32 := Scalar.addi v318 c0_i32_133
  let v320 : Index := Scalar.indexCast v319
  let c0_135 : Index := 0#32
  ![0, v320.toNat, 0]
def k0_mult64 (k0_t9 : Fin k0_t9_loop.trips) : BitVec 32 :=
  let c0_i32_99 : BitVec 32 := 0#32
  let c1_i32_100 : BitVec 32 := 1#32
  let arg20 : BitVec 32 := Scf.iv c0_i32_99 c1_i32_100 k0_t9
  let c1_i32_102 : BitVec 32 := 1#32
  let v275 : BitVec 32 := Scalar.subi arg20 c1_i32_102
  let c0_i32_103 : BitVec 32 := 0#32
  let v276 : BitVec 32 := Scalar.maxsi v275 c0_i32_103
  let c64_i32_150 : BitVec 32 := 64#32
  let v340 : BitVec 32 := Scalar.muli v276 c64_i32_150
  v340
def k0_mult65 (v5 : BitVec 32) : BitVec 32 :=
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let c0_i32_154 : BitVec 32 := 0#32
  let v345 : BitVec 32 := Scalar.addi v61 c0_i32_154
  v345
def k0_off126 (v5 : BitVec 32) (k0_t9 : Fin k0_t9_loop.trips) (c0_i32_154 : BitVec 32) : Fin 4 → Nat :=
  let c0_155 : Index := 0#32
  let c0_i32_99 : BitVec 32 := 0#32
  let c1_i32_100 : BitVec 32 := 1#32
  let arg20 : BitVec 32 := Scf.iv c0_i32_99 c1_i32_100 k0_t9
  let c7_i32 : BitVec 32 := 7#32
  let v274 : BitVec 32 := Scalar.minsi arg20 c7_i32
  let v347 : Index := Scalar.indexCast v274
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let v345 : BitVec 32 := Scalar.addi v61 c0_i32_154
  let v346 : BitVec 32 := v345
  let v348 : Index := Scalar.indexCast v346
  let c0_156 : Index := 0#32
  ![0, v347.toNat, v348.toNat, 0]
def k0_off127 (v5 : BitVec 32) (k0_t9 : Fin k0_t9_loop.trips) (c0_i32_154 : BitVec 32) : Fin 3 → Nat :=
  let c0_i32_99 : BitVec 32 := 0#32
  let c1_i32_100 : BitVec 32 := 1#32
  let arg20 : BitVec 32 := Scf.iv c0_i32_99 c1_i32_100 k0_t9
  let c7_i32 : BitVec 32 := 7#32
  let v274 : BitVec 32 := Scalar.minsi arg20 c7_i32
  let v352 : Index := Scalar.indexCast v274
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let v345 : BitVec 32 := Scalar.addi v61 c0_i32_154
  let v346 : BitVec 32 := v345
  let v353 : Index := Scalar.indexCast v346
  let c0_158 : Index := 0#32
  ![v352.toNat, v353.toNat, 0]
def k0_off128 (k0_t9 : Fin k0_t9_loop.trips) : Fin 3 → Nat :=
  let c1_i32_161 : BitVec 32 := 1#32
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v361 : BitVec 32 := Scalar.subi c1_i32_161 v277
  let v362 : Index := Scalar.indexCast v361
  let c0_162 : Index := 0#32
  let c0_163 : Index := 0#32
  ![v362.toNat, 0, 0]
def k0_off129 (v5 : BitVec 32) (k0_t9 : Fin k0_t9_loop.trips) (c0_i32_154 : BitVec 32) : Fin 3 → Nat :=
  let c0_167 : Index := 0#32
  let c0_i32_99 : BitVec 32 := 0#32
  let c1_i32_100 : BitVec 32 := 1#32
  let arg20 : BitVec 32 := Scf.iv c0_i32_99 c1_i32_100 k0_t9
  let c1_i32_102 : BitVec 32 := 1#32
  let v275 : BitVec 32 := Scalar.subi arg20 c1_i32_102
  let c0_i32_103 : BitVec 32 := 0#32
  let v276 : BitVec 32 := Scalar.maxsi v275 c0_i32_103
  let c64_i32_150 : BitVec 32 := 64#32
  let v340 : BitVec 32 := Scalar.muli v276 c64_i32_150
  let v341 : BitVec 32 := v340
  let v378 : Index := Scalar.indexCast v341
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let v345 : BitVec 32 := Scalar.addi v61 c0_i32_154
  let v346 : BitVec 32 := v345
  let v379 : Index := Scalar.indexCast v346
  ![0, v378.toNat, v379.toNat]
def k0_off130 (k0_t9 : Fin k0_t9_loop.trips) : Fin 3 → Nat :=
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v384 : Index := Scalar.indexCast v277
  let c0_169 : Index := 0#32
  let c0_170 : Index := 0#32
  ![v384.toNat, 0, 0]
def k0_mult66 (v5 : BitVec 32) : BitVec 32 :=
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let c256_i32_172 : BitVec 32 := 256#32
  let v391 : BitVec 32 := Scalar.addi v61 c256_i32_172
  v391
def k0_off131 (k0_t9 : Fin k0_t9_loop.trips) : Fin 3 → Nat :=
  let c1_i32_179 : BitVec 32 := 1#32
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v407 : BitVec 32 := Scalar.subi c1_i32_179 v277
  let v408 : Index := Scalar.indexCast v407
  let c256_180 : Index := 256#32
  let c0_181 : Index := 0#32
  ![v408.toNat, 256, 0]
def k0_off132 (k0_t9 : Fin k0_t9_loop.trips) : Fin 3 → Nat :=
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v430 : Index := Scalar.indexCast v277
  let c256_187 : Index := 256#32
  let c0_188 : Index := 0#32
  ![v430.toNat, 256, 0]
def k0_mult67 (v5 : BitVec 32) : BitVec 32 :=
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let c512_i32_190 : BitVec 32 := 512#32
  let v437 : BitVec 32 := Scalar.addi v61 c512_i32_190
  v437
def k0_off133 (k0_t9 : Fin k0_t9_loop.trips) : Fin 3 → Nat :=
  let c1_i32_197 : BitVec 32 := 1#32
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v453 : BitVec 32 := Scalar.subi c1_i32_197 v277
  let v454 : Index := Scalar.indexCast v453
  let c512_198 : Index := 512#32
  let c0_199 : Index := 0#32
  ![v454.toNat, 512, 0]
def k0_off134 (k0_t9 : Fin k0_t9_loop.trips) : Fin 3 → Nat :=
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v476 : Index := Scalar.indexCast v277
  let c512_205 : Index := 512#32
  let c0_206 : Index := 0#32
  ![v476.toNat, 512, 0]
def k0_mult68 (v5 : BitVec 32) : BitVec 32 :=
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let c768_i32_208 : BitVec 32 := 768#32
  let v483 : BitVec 32 := Scalar.addi v61 c768_i32_208
  v483
def k0_off135 (k0_t9 : Fin k0_t9_loop.trips) : Fin 3 → Nat :=
  let c1_i32_215 : BitVec 32 := 1#32
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v499 : BitVec 32 := Scalar.subi c1_i32_215 v277
  let v500 : Index := Scalar.indexCast v499
  let c768_216 : Index := 768#32
  let c0_217 : Index := 0#32
  ![v500.toNat, 768, 0]
def k0_off136 (k0_t9 : Fin k0_t9_loop.trips) : Fin 3 → Nat :=
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v522 : Index := Scalar.indexCast v277
  let c768_223 : Index := 768#32
  let c0_224 : Index := 0#32
  ![v522.toNat, 768, 0]
def k0_mult69 (v5 : BitVec 32) : BitVec 32 :=
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let c1024_i32_226 : BitVec 32 := 1024#32
  let v529 : BitVec 32 := Scalar.addi v61 c1024_i32_226
  v529
def k0_off137 (k0_t9 : Fin k0_t9_loop.trips) : Fin 3 → Nat :=
  let c1_i32_233 : BitVec 32 := 1#32
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v545 : BitVec 32 := Scalar.subi c1_i32_233 v277
  let v546 : Index := Scalar.indexCast v545
  let c1024_234 : Index := 1024#32
  let c0_235 : Index := 0#32
  ![v546.toNat, 1024, 0]
def k0_off138 (k0_t9 : Fin k0_t9_loop.trips) : Fin 3 → Nat :=
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v568 : Index := Scalar.indexCast v277
  let c1024_241 : Index := 1024#32
  let c0_242 : Index := 0#32
  ![v568.toNat, 1024, 0]
def k0_mult70 (v5 : BitVec 32) : BitVec 32 :=
  let c4_i32_21 : BitVec 32 := 4#32
  let v59 : BitVec 32 := Scalar.minsi v5 c4_i32_21
  let c128_i32 : BitVec 32 := 128#32
  let v60 : BitVec 32 := Scalar.muli v59 c128_i32
  let v61 : BitVec 32 := v60
  let c1280_i32_244 : BitVec 32 := 1280#32
  let v575 : BitVec 32 := Scalar.addi v61 c1280_i32_244
  v575
def k0_off139 (k0_t9 : Fin k0_t9_loop.trips) : Fin 3 → Nat :=
  let c1_i32_251 : BitVec 32 := 1#32
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v591 : BitVec 32 := Scalar.subi c1_i32_251 v277
  let v592 : Index := Scalar.indexCast v591
  let c1280_252 : Index := 1280#32
  let c0_253 : Index := 0#32
  ![v592.toNat, 1280, 0]
def k0_off140 (k0_t9 : Fin k0_t9_loop.trips) : Fin 3 → Nat :=
  let c0_i32_99 : BitVec 32 := 0#32
  let c1_i32_100 : BitVec 32 := 1#32
  let arg20 : BitVec 32 := Scf.iv c0_i32_99 c1_i32_100 k0_t9
  let c2_i32_104 : BitVec 32 := 2#32
  let v277 : BitVec 32 := Scalar.remsi arg20 c2_i32_104
  let v614 : Index := Scalar.indexCast v277
  let c1280_259 : Index := 1280#32
  let c0_260 : Index := 0#32
  ![v614.toNat, 1280, 0]
def k0_mult71 (k0_t9 : Fin k0_t9_loop.trips) : BitVec 32 :=
  let c0_i32_99 : BitVec 32 := 0#32
  let c1_i32_100 : BitVec 32 := 1#32
  let arg20 : BitVec 32 := Scf.iv c0_i32_99 c1_i32_100 k0_t9
  let c1_i32_102 : BitVec 32 := 1#32
  let v275 : BitVec 32 := Scalar.subi arg20 c1_i32_102
  let c0_i32_103 : BitVec 32 := 0#32
  let v276 : BitVec 32 := Scalar.maxsi v275 c0_i32_103
  let c256_i32_268 : BitVec 32 := 256#32
  let v640 : BitVec 32 := Scalar.muli v276 c256_i32_268
  let c0_i32_269 : BitVec 32 := 0#32
  let v641 : BitVec 32 := Scalar.addi v640 c0_i32_269
  v641
def k0_off141 (k0_t9 : Fin k0_t9_loop.trips) : Fin 3 → Nat :=
  let c0_270 : Index := 0#32
  let c0_i32_99 : BitVec 32 := 0#32
  let c1_i32_100 : BitVec 32 := 1#32
  let arg20 : BitVec 32 := Scf.iv c0_i32_99 c1_i32_100 k0_t9
  let c1_i32_102 : BitVec 32 := 1#32
  let v275 : BitVec 32 := Scalar.subi arg20 c1_i32_102
  let c0_i32_103 : BitVec 32 := 0#32
  let v276 : BitVec 32 := Scalar.maxsi v275 c0_i32_103
  let v643 : Index := Scalar.indexCast v276
  let c0_271 : Index := 0#32
  ![0, v643.toNat, 0]
def k0_off142 (k0_t9 : Fin k0_t9_loop.trips) (c0_i32_269 : BitVec 32) : Fin 3 → Nat :=
  let c0_272 : Index := 0#32
  let c0_273 : Index := 0#32
  let c0_i32_99 : BitVec 32 := 0#32
  let c1_i32_100 : BitVec 32 := 1#32
  let arg20 : BitVec 32 := Scf.iv c0_i32_99 c1_i32_100 k0_t9
  let c1_i32_102 : BitVec 32 := 1#32
  let v275 : BitVec 32 := Scalar.subi arg20 c1_i32_102
  let c0_i32_103 : BitVec 32 := 0#32
  let v276 : BitVec 32 := Scalar.maxsi v275 c0_i32_103
  let c256_i32_268 : BitVec 32 := 256#32
  let v640 : BitVec 32 := Scalar.muli v276 c256_i32_268
  let v641 : BitVec 32 := Scalar.addi v640 c0_i32_269
  let v642 : BitVec 32 := v641
  let v649 : Index := Scalar.indexCast v642
  ![0, 0, v649.toNat]
def k0_mult72 (k0_t9 : Fin k0_t9_loop.trips) : BitVec 32 :=
  let c0_i32_99 : BitVec 32 := 0#32
  let c1_i32_100 : BitVec 32 := 1#32
  let arg20 : BitVec 32 := Scf.iv c0_i32_99 c1_i32_100 k0_t9
  let c1_i32_102 : BitVec 32 := 1#32
  let v275 : BitVec 32 := Scalar.subi arg20 c1_i32_102
  let c0_i32_103 : BitVec 32 := 0#32
  let v276 : BitVec 32 := Scalar.maxsi v275 c0_i32_103
  let c256_i32_274 : BitVec 32 := 256#32
  let v657 : BitVec 32 := Scalar.muli v276 c256_i32_274
  let c128_i32_275 : BitVec 32 := 128#32
  let v658 : BitVec 32 := Scalar.addi v657 c128_i32_275
  v658
def k0_mult73 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  v60
def k0_cond11 (v8 : BitVec 32) : BitVec 1 :=
  let c12_i32_19 : BitVec 32 := 12#32
  let v54 : BitVec 1 := Scalar.cmpi .sgt v8 c12_i32_19
  let c16_i32 : BitVec 32 := 16#32
  let v55 : BitVec 1 := Scalar.cmpi .sle v8 c16_i32
  let v56 : BitVec 1 := Scalar.andi v54 v55
  let v57 : BitVec 32 := Scalar.extui v56
  let c0_i32_20 : BitVec 32 := 0#32
  let v58 : BitVec 1 := Scalar.cmpi .ne v57 c0_i32_20
  v58

def k0_off143 (v5 : BitVec 32) (c0_i32_25 : BitVec 32) : Fin 2 → Nat :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let v69 : BitVec 32 := Scalar.addi v61 c0_i32_25
  let v70 : Index := Scalar.indexCast v69
  let c0_26 : Index := 0#32
  ![v70.toNat, 0]
@[reducible] def k0_t10_loop : Scf.Loop 32 :=
  let c0_i32_123 : BitVec 32 := 0#32
  let c9_i32 : BitVec 32 := 9#32
  let v341 : BitVec 32 := Scalar.addi c0_i32_123 c9_i32
  let c1_i32_124 : BitVec 32 := 1#32
  ⟨c0_i32_123, v341, c1_i32_124⟩
def k0_mult74 (k0_t10 : Fin k0_t10_loop.trips) : BitVec 32 :=
  let c0_i32_123 : BitVec 32 := 0#32
  let c1_i32_124 : BitVec 32 := 1#32
  let arg20 : BitVec 32 := Scf.iv c0_i32_123 c1_i32_124 k0_t10
  let c7_i32 : BitVec 32 := 7#32
  let v342 : BitVec 32 := Scalar.minsi arg20 c7_i32
  let c256_i32_129 : BitVec 32 := 256#32
  let v346 : BitVec 32 := Scalar.muli v342 c256_i32_129
  v346
def k0_off144 (k0_t10 : Fin k0_t10_loop.trips) (c0_i32_130 : BitVec 32) : Fin 3 → Nat :=
  let c0_131 : Index := 0#32
  let c0_i32_123 : BitVec 32 := 0#32
  let c1_i32_124 : BitVec 32 := 1#32
  let arg20 : BitVec 32 := Scf.iv c0_i32_123 c1_i32_124 k0_t10
  let c7_i32 : BitVec 32 := 7#32
  let v342 : BitVec 32 := Scalar.minsi arg20 c7_i32
  let c256_i32_129 : BitVec 32 := 256#32
  let v346 : BitVec 32 := Scalar.muli v342 c256_i32_129
  let v347 : BitVec 32 := v346
  let v348 : BitVec 32 := Scalar.addi v347 c0_i32_130
  let v349 : Index := Scalar.indexCast v348
  let c0_132 : Index := 0#32
  ![0, v349.toNat, 0]
def k0_off145 (k0_t10 : Fin k0_t10_loop.trips) (c0_i32_141 : BitVec 32) : Fin 3 → Nat :=
  let c0_142 : Index := 0#32
  let c0_i32_123 : BitVec 32 := 0#32
  let c1_i32_124 : BitVec 32 := 1#32
  let arg20 : BitVec 32 := Scf.iv c0_i32_123 c1_i32_124 k0_t10
  let c7_i32 : BitVec 32 := 7#32
  let v342 : BitVec 32 := Scalar.minsi arg20 c7_i32
  let c4_i32_140 : BitVec 32 := 4#32
  let v365 : BitVec 32 := Scalar.muli v342 c4_i32_140
  let v366 : BitVec 32 := Scalar.addi v365 c0_i32_141
  let v367 : Index := Scalar.indexCast v366
  let c0_143 : Index := 0#32
  ![0, v367.toNat, 0]
def k0_off146 (k0_t10 : Fin k0_t10_loop.trips) (c0_i32_157 : BitVec 32) : Fin 3 → Nat :=
  let c0_158 : Index := 0#32
  let c0_i32_123 : BitVec 32 := 0#32
  let c1_i32_124 : BitVec 32 := 1#32
  let arg20 : BitVec 32 := Scf.iv c0_i32_123 c1_i32_124 k0_t10
  let c1_i32_126 : BitVec 32 := 1#32
  let v343 : BitVec 32 := Scalar.subi arg20 c1_i32_126
  let c0_i32_127 : BitVec 32 := 0#32
  let v344 : BitVec 32 := Scalar.maxsi v343 c0_i32_127
  let c4_i32_156 : BitVec 32 := 4#32
  let v386 : BitVec 32 := Scalar.muli v344 c4_i32_156
  let v387 : BitVec 32 := Scalar.addi v386 c0_i32_157
  let v388 : Index := Scalar.indexCast v387
  let c0_159 : Index := 0#32
  ![0, v388.toNat, 0]
def k0_mult75 (k0_t10 : Fin k0_t10_loop.trips) : BitVec 32 :=
  let c0_i32_123 : BitVec 32 := 0#32
  let c1_i32_124 : BitVec 32 := 1#32
  let arg20 : BitVec 32 := Scf.iv c0_i32_123 c1_i32_124 k0_t10
  let c1_i32_126 : BitVec 32 := 1#32
  let v343 : BitVec 32 := Scalar.subi arg20 c1_i32_126
  let c0_i32_127 : BitVec 32 := 0#32
  let v344 : BitVec 32 := Scalar.maxsi v343 c0_i32_127
  let c64_i32_174 : BitVec 32 := 64#32
  let v408 : BitVec 32 := Scalar.muli v344 c64_i32_174
  v408
def k0_mult76 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let c0_i32_178 : BitVec 32 := 0#32
  let v413 : BitVec 32 := Scalar.addi v61 c0_i32_178
  v413
def k0_off147 (v5 : BitVec 32) (k0_t10 : Fin k0_t10_loop.trips) (c0_i32_178 : BitVec 32) : Fin 4 → Nat :=
  let c0_179 : Index := 0#32
  let c0_i32_123 : BitVec 32 := 0#32
  let c1_i32_124 : BitVec 32 := 1#32
  let arg20 : BitVec 32 := Scf.iv c0_i32_123 c1_i32_124 k0_t10
  let c7_i32 : BitVec 32 := 7#32
  let v342 : BitVec 32 := Scalar.minsi arg20 c7_i32
  let v415 : Index := Scalar.indexCast v342
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let v413 : BitVec 32 := Scalar.addi v61 c0_i32_178
  let v414 : BitVec 32 := v413
  let v416 : Index := Scalar.indexCast v414
  let c0_180 : Index := 0#32
  ![0, v415.toNat, v416.toNat, 0]
def k0_off148 (v5 : BitVec 32) (k0_t10 : Fin k0_t10_loop.trips) (c0_i32_178 : BitVec 32) : Fin 3 → Nat :=
  let c0_i32_123 : BitVec 32 := 0#32
  let c1_i32_124 : BitVec 32 := 1#32
  let arg20 : BitVec 32 := Scf.iv c0_i32_123 c1_i32_124 k0_t10
  let c7_i32 : BitVec 32 := 7#32
  let v342 : BitVec 32 := Scalar.minsi arg20 c7_i32
  let v420 : Index := Scalar.indexCast v342
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let v413 : BitVec 32 := Scalar.addi v61 c0_i32_178
  let v414 : BitVec 32 := v413
  let v421 : Index := Scalar.indexCast v414
  let c0_182 : Index := 0#32
  ![v420.toNat, v421.toNat, 0]
def k0_off149 (k0_t10 : Fin k0_t10_loop.trips) : Fin 3 → Nat :=
  let c1_i32_185 : BitVec 32 := 1#32
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v429 : BitVec 32 := Scalar.subi c1_i32_185 v345
  let v430 : Index := Scalar.indexCast v429
  let c0_186 : Index := 0#32
  let c0_187 : Index := 0#32
  ![v430.toNat, 0, 0]
def k0_off150 (v5 : BitVec 32) (k0_t10 : Fin k0_t10_loop.trips) (c0_i32_178 : BitVec 32) : Fin 3 → Nat :=
  let c0_191 : Index := 0#32
  let c0_i32_123 : BitVec 32 := 0#32
  let c1_i32_124 : BitVec 32 := 1#32
  let arg20 : BitVec 32 := Scf.iv c0_i32_123 c1_i32_124 k0_t10
  let c1_i32_126 : BitVec 32 := 1#32
  let v343 : BitVec 32 := Scalar.subi arg20 c1_i32_126
  let c0_i32_127 : BitVec 32 := 0#32
  let v344 : BitVec 32 := Scalar.maxsi v343 c0_i32_127
  let c64_i32_174 : BitVec 32 := 64#32
  let v408 : BitVec 32 := Scalar.muli v344 c64_i32_174
  let v409 : BitVec 32 := v408
  let v446 : Index := Scalar.indexCast v409
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let v413 : BitVec 32 := Scalar.addi v61 c0_i32_178
  let v414 : BitVec 32 := v413
  let v447 : Index := Scalar.indexCast v414
  ![0, v446.toNat, v447.toNat]
def k0_off151 (k0_t10 : Fin k0_t10_loop.trips) : Fin 3 → Nat :=
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v452 : Index := Scalar.indexCast v345
  let c0_193 : Index := 0#32
  let c0_194 : Index := 0#32
  ![v452.toNat, 0, 0]
def k0_mult77 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let c256_i32_196 : BitVec 32 := 256#32
  let v459 : BitVec 32 := Scalar.addi v61 c256_i32_196
  v459
def k0_off152 (k0_t10 : Fin k0_t10_loop.trips) : Fin 3 → Nat :=
  let c1_i32_203 : BitVec 32 := 1#32
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v475 : BitVec 32 := Scalar.subi c1_i32_203 v345
  let v476 : Index := Scalar.indexCast v475
  let c256_204 : Index := 256#32
  let c0_205 : Index := 0#32
  ![v476.toNat, 256, 0]
def k0_off153 (k0_t10 : Fin k0_t10_loop.trips) : Fin 3 → Nat :=
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v498 : Index := Scalar.indexCast v345
  let c256_211 : Index := 256#32
  let c0_212 : Index := 0#32
  ![v498.toNat, 256, 0]
def k0_mult78 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let c512_i32_214 : BitVec 32 := 512#32
  let v505 : BitVec 32 := Scalar.addi v61 c512_i32_214
  v505
def k0_off154 (k0_t10 : Fin k0_t10_loop.trips) : Fin 3 → Nat :=
  let c1_i32_221 : BitVec 32 := 1#32
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v521 : BitVec 32 := Scalar.subi c1_i32_221 v345
  let v522 : Index := Scalar.indexCast v521
  let c512_222 : Index := 512#32
  let c0_223 : Index := 0#32
  ![v522.toNat, 512, 0]
def k0_off155 (k0_t10 : Fin k0_t10_loop.trips) : Fin 3 → Nat :=
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v544 : Index := Scalar.indexCast v345
  let c512_229 : Index := 512#32
  let c0_230 : Index := 0#32
  ![v544.toNat, 512, 0]
def k0_mult79 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let c768_i32_232 : BitVec 32 := 768#32
  let v551 : BitVec 32 := Scalar.addi v61 c768_i32_232
  v551
def k0_off156 (k0_t10 : Fin k0_t10_loop.trips) : Fin 3 → Nat :=
  let c1_i32_239 : BitVec 32 := 1#32
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v567 : BitVec 32 := Scalar.subi c1_i32_239 v345
  let v568 : Index := Scalar.indexCast v567
  let c768_240 : Index := 768#32
  let c0_241 : Index := 0#32
  ![v568.toNat, 768, 0]
def k0_off157 (k0_t10 : Fin k0_t10_loop.trips) : Fin 3 → Nat :=
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v590 : Index := Scalar.indexCast v345
  let c768_247 : Index := 768#32
  let c0_248 : Index := 0#32
  ![v590.toNat, 768, 0]
def k0_mult80 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let c1024_i32_250 : BitVec 32 := 1024#32
  let v597 : BitVec 32 := Scalar.addi v61 c1024_i32_250
  v597
def k0_off158 (k0_t10 : Fin k0_t10_loop.trips) : Fin 3 → Nat :=
  let c1_i32_257 : BitVec 32 := 1#32
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v613 : BitVec 32 := Scalar.subi c1_i32_257 v345
  let v614 : Index := Scalar.indexCast v613
  let c1024_258 : Index := 1024#32
  let c0_259 : Index := 0#32
  ![v614.toNat, 1024, 0]
def k0_off159 (k0_t10 : Fin k0_t10_loop.trips) : Fin 3 → Nat :=
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v636 : Index := Scalar.indexCast v345
  let c1024_265 : Index := 1024#32
  let c0_266 : Index := 0#32
  ![v636.toNat, 1024, 0]
def k0_mult81 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let c1280_i32_268 : BitVec 32 := 1280#32
  let v643 : BitVec 32 := Scalar.addi v61 c1280_i32_268
  v643
def k0_off160 (k0_t10 : Fin k0_t10_loop.trips) : Fin 3 → Nat :=
  let c1_i32_275 : BitVec 32 := 1#32
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v659 : BitVec 32 := Scalar.subi c1_i32_275 v345
  let v660 : Index := Scalar.indexCast v659
  let c1280_276 : Index := 1280#32
  let c0_277 : Index := 0#32
  ![v660.toNat, 1280, 0]
def k0_off161 (k0_t10 : Fin k0_t10_loop.trips) : Fin 3 → Nat :=
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v682 : Index := Scalar.indexCast v345
  let c1280_283 : Index := 1280#32
  let c0_284 : Index := 0#32
  ![v682.toNat, 1280, 0]
def k0_mult82 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let c1536_i32_286 : BitVec 32 := 1536#32
  let v689 : BitVec 32 := Scalar.addi v61 c1536_i32_286
  v689
def k0_off162 (k0_t10 : Fin k0_t10_loop.trips) : Fin 3 → Nat :=
  let c1_i32_293 : BitVec 32 := 1#32
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v705 : BitVec 32 := Scalar.subi c1_i32_293 v345
  let v706 : Index := Scalar.indexCast v705
  let c1536_294 : Index := 1536#32
  let c0_295 : Index := 0#32
  ![v706.toNat, 1536, 0]
def k0_off163 (k0_t10 : Fin k0_t10_loop.trips) : Fin 3 → Nat :=
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v728 : Index := Scalar.indexCast v345
  let c1536_301 : Index := 1536#32
  let c0_302 : Index := 0#32
  ![v728.toNat, 1536, 0]
def k0_mult83 (v5 : BitVec 32) : BitVec 32 :=
  let c0_i32_21 : BitVec 32 := 0#32
  let v59 : BitVec 32 := Scalar.minsi v5 c0_i32_21
  let c128_i32 : BitVec 32 := 128#32
  let v60 : BitVec 32 := Scalar.muli v59 c128_i32
  let v61 : BitVec 32 := v60
  let c1792_i32_304 : BitVec 32 := 1792#32
  let v735 : BitVec 32 := Scalar.addi v61 c1792_i32_304
  v735

def k0_chk1_0 (v5 : BitVec 32) (v8 : BitVec 32) : Prop :=
  (∀ (k0_h2 : k0_cond2 v8 = 1#1), 128 ∣ (k0_mult1 v5).toNat) ∧
  (∀ (k0_h2 : k0_cond2 v8 = 1#1), ∀ a, (k0_off2 v5) a + S128x128.size a ≤ S2048x128.size a) ∧
  (∀ (k0_h2 : k0_cond2 v8 = 1#1), 128 ∣ (k0_mult4 v5).toNat) ∧
  (∀ k0_t1 : Fin k0_t1_loop.trips, ∀ (k0_h2 : k0_cond2 v8 = 1#1), ∀ a, (k0_off6 v5 k0_t1) a + S1x1x128x64.size a ≤ S1x8x2048x64.size a) ∧
  (∀ k0_t1 : Fin k0_t1_loop.trips, ∀ (k0_h2 : k0_cond2 v8 = 1#1), ∀ a, (k0_off7 v5 k0_t1) a + S1x128x128.size a ≤ S8x2048x128.size a) ∧
  (∀ k0_t1 : Fin k0_t1_loop.trips, ∀ (k0_h2 : k0_cond2 v8 = 1#1), ∀ a, (k0_off9 v5 k0_t1) a + S1x64x128.size a ≤ S1x512x2048.size a) ∧
  (∀ (k0_h3 : k0_cond3 v8 = 1#1), 128 ∣ (k0_mult7 v5).toNat) ∧
  (∀ (k0_h3 : k0_cond3 v8 = 1#1), ∀ (r : Fin 2), ∀ a, (k0_off13 v5 (BitVec.ofNat 32 (128 * r.val))) a + S128x128.size a ≤ S2048x128.size a) ∧
  (∀ (k0_h3 : k0_cond3 v8 = 1#1), 128 ∣ (k0_mult10 v5).toNat) ∧
  (∀ k0_t2 : Fin k0_t2_loop.trips, ∀ (k0_h3 : k0_cond3 v8 = 1#1), ∀ a, (k0_off17 v5 k0_t2) a + S1x1x256x64.size a ≤ S1x8x2048x64.size a) ∧
  (∀ k0_t2 : Fin k0_t2_loop.trips, ∀ (k0_h3 : k0_cond3 v8 = 1#1), ∀ a, (k0_off18 v5 k0_t2) a + S1x256x128.size a ≤ S8x2048x128.size a) ∧
  (∀ k0_t2 : Fin k0_t2_loop.trips, ∀ (k0_h3 : k0_cond3 v8 = 1#1), ∀ a, (k0_off20 v5 k0_t2) a + S1x64x256.size a ≤ S1x512x2048.size a) ∧
  (∀ (k0_h4 : k0_cond4 v8 = 1#1), 128 ∣ (k0_mult13 v5).toNat) ∧
  (∀ (k0_h4 : k0_cond4 v8 = 1#1), ∀ (r : Fin 3), ∀ a, (k0_off24 v5 (BitVec.ofNat 32 (128 * r.val))) a + S128x128.size a ≤ S2048x128.size a) ∧
  (∀ (k0_h4 : k0_cond4 v8 = 1#1), 128 ∣ (k0_mult16 v5).toNat) ∧
  (∀ k0_t3 : Fin k0_t3_loop.trips, ∀ (k0_h4 : k0_cond4 v8 = 1#1), ∀ a, (k0_off28 v5 k0_t3) a + S1x1x256x64.size a ≤ S1x8x2048x64.size a) ∧
  (∀ k0_t3 : Fin k0_t3_loop.trips, ∀ (k0_h4 : k0_cond4 v8 = 1#1), ∀ a, (k0_off29 v5 k0_t3) a + S1x256x128.size a ≤ S8x2048x128.size a) ∧
  (∀ k0_t3 : Fin k0_t3_loop.trips, ∀ (k0_h4 : k0_cond4 v8 = 1#1), ∀ a, (k0_off31 v5 k0_t3) a + S1x64x256.size a ≤ S1x512x2048.size a) ∧
  (∀ (k0_h4 : k0_cond4 v8 = 1#1), 128 ∣ (k0_mult17 v5).toNat) ∧
  (∀ k0_t3 : Fin k0_t3_loop.trips, ∀ (k0_h4 : k0_cond4 v8 = 1#1), ∀ a, (k0_off33 v5 k0_t3) a + S1x1x128x64.size a ≤ S1x8x2048x64.size a) ∧
  (∀ k0_t3 : Fin k0_t3_loop.trips, ∀ (k0_h4 : k0_cond4 v8 = 1#1), ∀ a, (k0_off34 v5 k0_t3) a + S1x128x128.size a ≤ S8x2048x128.size a) ∧
  (∀ k0_t3 : Fin k0_t3_loop.trips, ∀ (k0_h4 : k0_cond4 v8 = 1#1), ∀ a, (k0_off36 v5 k0_t3) a + S1x64x128.size a ≤ S1x512x2048.size a) ∧
  (∀ (k0_h5 : k0_cond5 v8 = 1#1), 128 ∣ (k0_mult20 v5).toNat) ∧
  (∀ (k0_h5 : k0_cond5 v8 = 1#1), ∀ (r : Fin 4), ∀ a, (k0_off40 v5 (BitVec.ofNat 32 (128 * r.val))) a + S128x128.size a ≤ S2048x128.size a) ∧
  (∀ (k0_h5 : k0_cond5 v8 = 1#1), 128 ∣ (k0_mult23 v5).toNat) ∧
  (∀ k0_t4 : Fin k0_t4_loop.trips, ∀ (k0_h5 : k0_cond5 v8 = 1#1), ∀ (r : Fin 2), ∀ a, (k0_off44 v5 k0_t4 (BitVec.ofNat 32 (256 * r.val))) a + S1x1x256x64.size a ≤ S1x8x2048x64.size a) ∧
  (∀ k0_t4 : Fin k0_t4_loop.trips, ∀ (k0_h5 : k0_cond5 v8 = 1#1), ∀ (r : Fin 2), ∀ a, (k0_off45 v5 k0_t4 (BitVec.ofNat 32 (256 * r.val))) a + S1x256x128.size a ≤ S8x2048x128.size a) ∧
  (∀ k0_t4 : Fin k0_t4_loop.trips, ∀ (k0_h5 : k0_cond5 v8 = 1#1), ∀ (r : Fin 2), ∀ a, (k0_off47 v5 k0_t4 (BitVec.ofNat 32 (256 * r.val))) a + S1x64x256.size a ≤ S1x512x2048.size a) ∧
  (∀ (k0_h5 : k0_cond5 v8 = 1#1), 128 ∣ (k0_mult24 v5).toNat) ∧
  (∀ (k0_h6 : k0_cond6 v8 = 1#1), 128 ∣ (k0_mult27 v5).toNat) ∧
  (∀ (k0_h6 : k0_cond6 v8 = 1#1), ∀ (r : Fin 5), ∀ a, (k0_off53 v5 (BitVec.ofNat 32 (128 * r.val))) a + S128x128.size a ≤ S2048x128.size a) ∧
  (∀ (k0_h6 : k0_cond6 v8 = 1#1), 128 ∣ (k0_mult30 v5).toNat)
def k0_chk1_1 (v5 : BitVec 32) (v8 : BitVec 32) : Prop :=
  (∀ k0_t5 : Fin k0_t5_loop.trips, ∀ (k0_h6 : k0_cond6 v8 = 1#1), ∀ (r : Fin 2), ∀ a, (k0_off57 v5 k0_t5 (BitVec.ofNat 32 (256 * r.val))) a + S1x1x256x64.size a ≤ S1x8x2048x64.size a) ∧
  (∀ k0_t5 : Fin k0_t5_loop.trips, ∀ (k0_h6 : k0_cond6 v8 = 1#1), ∀ (r : Fin 2), ∀ a, (k0_off58 v5 k0_t5 (BitVec.ofNat 32 (256 * r.val))) a + S1x256x128.size a ≤ S8x2048x128.size a) ∧
  (∀ k0_t5 : Fin k0_t5_loop.trips, ∀ (k0_h6 : k0_cond6 v8 = 1#1), ∀ (r : Fin 2), ∀ a, (k0_off60 v5 k0_t5 (BitVec.ofNat 32 (256 * r.val))) a + S1x64x256.size a ≤ S1x512x2048.size a) ∧
  (∀ (k0_h6 : k0_cond6 v8 = 1#1), 128 ∣ (k0_mult31 v5).toNat) ∧
  (∀ (k0_h6 : k0_cond6 v8 = 1#1), 128 ∣ (k0_mult32 v5).toNat) ∧
  (∀ k0_t5 : Fin k0_t5_loop.trips, ∀ (k0_h6 : k0_cond6 v8 = 1#1), ∀ a, (k0_off64 v5 k0_t5) a + S1x1x128x64.size a ≤ S1x8x2048x64.size a) ∧
  (∀ k0_t5 : Fin k0_t5_loop.trips, ∀ (k0_h6 : k0_cond6 v8 = 1#1), ∀ a, (k0_off65 v5 k0_t5) a + S1x128x128.size a ≤ S8x2048x128.size a) ∧
  (∀ k0_t5 : Fin k0_t5_loop.trips, ∀ (k0_h6 : k0_cond6 v8 = 1#1), ∀ a, (k0_off67 v5 k0_t5) a + S1x64x128.size a ≤ S1x512x2048.size a) ∧
  (∀ (k0_h7 : k0_cond7 v8 = 1#1), 128 ∣ (k0_mult35 v5).toNat) ∧
  (∀ (k0_h7 : k0_cond7 v8 = 1#1), ∀ (r : Fin 6), ∀ a, (k0_off71 v5 (BitVec.ofNat 32 (128 * r.val))) a + S128x128.size a ≤ S2048x128.size a) ∧
  (∀ (k0_h7 : k0_cond7 v8 = 1#1), 128 ∣ (k0_mult38 v5).toNat) ∧
  (∀ k0_t6 : Fin k0_t6_loop.trips, ∀ (k0_h7 : k0_cond7 v8 = 1#1), ∀ (r : Fin 3), ∀ a, (k0_off75 v5 k0_t6 (BitVec.ofNat 32 (256 * r.val))) a + S1x1x256x64.size a ≤ S1x8x2048x64.size a) ∧
  (∀ k0_t6 : Fin k0_t6_loop.trips, ∀ (k0_h7 : k0_cond7 v8 = 1#1), ∀ (r : Fin 3), ∀ a, (k0_off76 v5 k0_t6 (BitVec.ofNat 32 (256 * r.val))) a + S1x256x128.size a ≤ S8x2048x128.size a) ∧
  (∀ k0_t6 : Fin k0_t6_loop.trips, ∀ (k0_h7 : k0_cond7 v8 = 1#1), ∀ (r : Fin 3), ∀ a, (k0_off78 v5 k0_t6 (BitVec.ofNat 32 (256 * r.val))) a + S1x64x256.size a ≤ S1x512x2048.size a) ∧
  (∀ (k0_h7 : k0_cond7 v8 = 1#1), 128 ∣ (k0_mult39 v5).toNat) ∧
  (∀ (k0_h7 : k0_cond7 v8 = 1#1), 128 ∣ (k0_mult40 v5).toNat) ∧
  (∀ (k0_h8 : k0_cond8 v8 = 1#1), 128 ∣ (k0_mult43 v5).toNat) ∧
  (∀ (k0_h8 : k0_cond8 v8 = 1#1), ∀ (r : Fin 8), ∀ a, (k0_off86 v5 (BitVec.ofNat 32 (128 * r.val))) a + S128x128.size a ≤ S2048x128.size a) ∧
  (∀ (k0_h8 : k0_cond8 v8 = 1#1), 128 ∣ (k0_mult46 v5).toNat) ∧
  (∀ k0_t7 : Fin k0_t7_loop.trips, ∀ (k0_h8 : k0_cond8 v8 = 1#1), ∀ (r : Fin 4), ∀ a, (k0_off90 v5 k0_t7 (BitVec.ofNat 32 (256 * r.val))) a + S1x1x256x64.size a ≤ S1x8x2048x64.size a) ∧
  (∀ k0_t7 : Fin k0_t7_loop.trips, ∀ (k0_h8 : k0_cond8 v8 = 1#1), ∀ (r : Fin 4), ∀ a, (k0_off91 v5 k0_t7 (BitVec.ofNat 32 (256 * r.val))) a + S1x256x128.size a ≤ S8x2048x128.size a) ∧
  (∀ k0_t7 : Fin k0_t7_loop.trips, ∀ (k0_h8 : k0_cond8 v8 = 1#1), ∀ (r : Fin 4), ∀ a, (k0_off93 v5 k0_t7 (BitVec.ofNat 32 (256 * r.val))) a + S1x64x256.size a ≤ S1x512x2048.size a) ∧
  (∀ (k0_h8 : k0_cond8 v8 = 1#1), 128 ∣ (k0_mult47 v5).toNat) ∧
  (∀ (k0_h8 : k0_cond8 v8 = 1#1), 128 ∣ (k0_mult48 v5).toNat) ∧
  (∀ (k0_h8 : k0_cond8 v8 = 1#1), 128 ∣ (k0_mult49 v5).toNat) ∧
  (∀ (k0_h9 : k0_cond9 v8 = 1#1), 128 ∣ (k0_mult52 v5).toNat) ∧
  (∀ (k0_h9 : k0_cond9 v8 = 1#1), ∀ (r : Fin 10), ∀ a, (k0_off103 v5 (BitVec.ofNat 32 (128 * r.val))) a + S128x128.size a ≤ S2048x128.size a) ∧
  (∀ (k0_h9 : k0_cond9 v8 = 1#1), 128 ∣ (k0_mult55 v5).toNat) ∧
  (∀ k0_t8 : Fin k0_t8_loop.trips, ∀ (k0_h9 : k0_cond9 v8 = 1#1), ∀ (r : Fin 5), ∀ a, (k0_off107 v5 k0_t8 (BitVec.ofNat 32 (256 * r.val))) a + S1x1x256x64.size a ≤ S1x8x2048x64.size a) ∧
  (∀ k0_t8 : Fin k0_t8_loop.trips, ∀ (k0_h9 : k0_cond9 v8 = 1#1), ∀ (r : Fin 5), ∀ a, (k0_off108 v5 k0_t8 (BitVec.ofNat 32 (256 * r.val))) a + S1x256x128.size a ≤ S8x2048x128.size a) ∧
  (∀ k0_t8 : Fin k0_t8_loop.trips, ∀ (k0_h9 : k0_cond9 v8 = 1#1), ∀ (r : Fin 5), ∀ a, (k0_off110 v5 k0_t8 (BitVec.ofNat 32 (256 * r.val))) a + S1x64x256.size a ≤ S1x512x2048.size a) ∧
  (∀ (k0_h9 : k0_cond9 v8 = 1#1), 128 ∣ (k0_mult56 v5).toNat)
def k0_chk1_2 (v5 : BitVec 32) (v8 : BitVec 32) : Prop :=
  (∀ (k0_h9 : k0_cond9 v8 = 1#1), 128 ∣ (k0_mult57 v5).toNat) ∧
  (∀ (k0_h9 : k0_cond9 v8 = 1#1), 128 ∣ (k0_mult58 v5).toNat) ∧
  (∀ (k0_h9 : k0_cond9 v8 = 1#1), 128 ∣ (k0_mult59 v5).toNat) ∧
  (∀ (k0_h10 : k0_cond10 v8 = 1#1), 128 ∣ (k0_mult62 v5).toNat) ∧
  (∀ (k0_h10 : k0_cond10 v8 = 1#1), ∀ (r : Fin 12), ∀ a, (k0_off122 v5 (BitVec.ofNat 32 (128 * r.val))) a + S128x128.size a ≤ S2048x128.size a) ∧
  (∀ (k0_h10 : k0_cond10 v8 = 1#1), 128 ∣ (k0_mult65 v5).toNat) ∧
  (∀ k0_t9 : Fin k0_t9_loop.trips, ∀ (k0_h10 : k0_cond10 v8 = 1#1), ∀ (r : Fin 6), ∀ a, (k0_off126 v5 k0_t9 (BitVec.ofNat 32 (256 * r.val))) a + S1x1x256x64.size a ≤ S1x8x2048x64.size a) ∧
  (∀ k0_t9 : Fin k0_t9_loop.trips, ∀ (k0_h10 : k0_cond10 v8 = 1#1), ∀ (r : Fin 6), ∀ a, (k0_off127 v5 k0_t9 (BitVec.ofNat 32 (256 * r.val))) a + S1x256x128.size a ≤ S8x2048x128.size a) ∧
  (∀ k0_t9 : Fin k0_t9_loop.trips, ∀ (k0_h10 : k0_cond10 v8 = 1#1), ∀ (r : Fin 6), ∀ a, (k0_off129 v5 k0_t9 (BitVec.ofNat 32 (256 * r.val))) a + S1x64x256.size a ≤ S1x512x2048.size a) ∧
  (∀ (k0_h10 : k0_cond10 v8 = 1#1), 128 ∣ (k0_mult66 v5).toNat) ∧
  (∀ (k0_h10 : k0_cond10 v8 = 1#1), 128 ∣ (k0_mult67 v5).toNat) ∧
  (∀ (k0_h10 : k0_cond10 v8 = 1#1), 128 ∣ (k0_mult68 v5).toNat) ∧
  (∀ (k0_h10 : k0_cond10 v8 = 1#1), 128 ∣ (k0_mult69 v5).toNat) ∧
  (∀ (k0_h10 : k0_cond10 v8 = 1#1), 128 ∣ (k0_mult70 v5).toNat) ∧
  (∀ (k0_h11 : k0_cond11 v8 = 1#1), 128 ∣ (k0_mult73 v5).toNat) ∧
  (∀ (k0_h11 : k0_cond11 v8 = 1#1), ∀ (r : Fin 16), ∀ a, (k0_off143 v5 (BitVec.ofNat 32 (128 * r.val))) a + S128x128.size a ≤ S2048x128.size a) ∧
  (∀ (k0_h11 : k0_cond11 v8 = 1#1), 128 ∣ (k0_mult76 v5).toNat) ∧
  (∀ k0_t10 : Fin k0_t10_loop.trips, ∀ (k0_h11 : k0_cond11 v8 = 1#1), ∀ (r : Fin 8), ∀ a, (k0_off147 v5 k0_t10 (BitVec.ofNat 32 (256 * r.val))) a + S1x1x256x64.size a ≤ S1x8x2048x64.size a) ∧
  (∀ k0_t10 : Fin k0_t10_loop.trips, ∀ (k0_h11 : k0_cond11 v8 = 1#1), ∀ (r : Fin 8), ∀ a, (k0_off148 v5 k0_t10 (BitVec.ofNat 32 (256 * r.val))) a + S1x256x128.size a ≤ S8x2048x128.size a) ∧
  (∀ k0_t10 : Fin k0_t10_loop.trips, ∀ (k0_h11 : k0_cond11 v8 = 1#1), ∀ (r : Fin 8), ∀ a, (k0_off150 v5 k0_t10 (BitVec.ofNat 32 (256 * r.val))) a + S1x64x256.size a ≤ S1x512x2048.size a) ∧
  (∀ (k0_h11 : k0_cond11 v8 = 1#1), 128 ∣ (k0_mult77 v5).toNat) ∧
  (∀ (k0_h11 : k0_cond11 v8 = 1#1), 128 ∣ (k0_mult78 v5).toNat) ∧
  (∀ (k0_h11 : k0_cond11 v8 = 1#1), 128 ∣ (k0_mult79 v5).toNat) ∧
  (∀ (k0_h11 : k0_cond11 v8 = 1#1), 128 ∣ (k0_mult80 v5).toNat) ∧
  (∀ (k0_h11 : k0_cond11 v8 = 1#1), 128 ∣ (k0_mult81 v5).toNat) ∧
  (∀ (k0_h11 : k0_cond11 v8 = 1#1), 128 ∣ (k0_mult82 v5).toNat) ∧
  (∀ (k0_h11 : k0_cond11 v8 = 1#1), 128 ∣ (k0_mult83 v5).toNat)
def k0_chk1 (v5 : BitVec 32) (v8 : BitVec 32) : Prop :=
  k0_chk1_0 v5 v8 ∧
  k0_chk1_1 v5 v8 ∧
  k0_chk1_2 v5 v8
theorem k0_mult1_dvd : ∀ (v5 : BitVec 32) (v8 : BitVec 32) (k0_hw1 : k0_chk1 v5 v8), ∀ (k0_h2 : k0_cond2 v8 = 1#1), 128 ∣ (k0_mult1 v5).toNat := fun v5 v8 k0_hw1 k0_h2 => k0_hw1.1.1 k0_h2
theorem k0_off2_inb : ∀ (v5 : BitVec 32) (v8 : BitVec 32) (k0_hw1 : k0_chk1 v5 v8), ∀ (k0_h2 : k0_cond2 v8 = 1#1), ∀ a, (k0_off2 v5) a + S128x128.size a ≤ S2048x128.size a := fun v5 v8 k0_hw1 k0_h2 => k0_hw1.1.2.1 k0_h2
theorem k0_mult4_dvd : ∀ (v5 : BitVec 32) (v8 : BitVec 32) (k0_hw1 : k0_chk1 v5 v8), ∀ (k0_h2 : k0_cond2 v8 = 1#1), 128 ∣ (k0_mult4 v5).toNat := fun v5 v8 k0_hw1 k0_h2 => k0_hw1.1.2.2.1 k0_h2
theorem k0_off6_inb : ∀ (v5 : BitVec 32) (v8 : BitVec 32) (k0_hw1 : k0_chk1 v5 v8) (k0_t1 : Fin k0_t1_loop.trips), ∀ (k0_h2 : k0_cond2 v8 = 1#1), ∀ a, (k0_off6 v5 k0_t1) a + S1x1x128x64.size a ≤ S1x8x2048x64.size a := fun v5 v8 k0_hw1 k0_t1 k0_h2 => k0_hw1.1.2.2.2.1 k0_t1 k0_h2
theorem k0_off7_inb : ∀ (v5 : BitVec 32) (v8 : BitVec 32) (k0_hw1 : k0_chk1 v5 v8) (k0_t1 : Fin k0_t1_loop.trips), ∀ (k0_h2 : k0_cond2 v8 = 1#1), ∀ a, (k0_off7 v5 k0_t1) a + S1x128x128.size a ≤ S8x2048x128.size a := fun v5 v8 k0_hw1 k0_t1 k0_h2 => k0_hw1.1.2.2.2.2.1 k0_t1 k0_h2
theorem k0_off9_inb : ∀ (v5 : BitVec 32) (v8 : BitVec 32) (k0_hw1 : k0_chk1 v5 v8) (k0_t1 : Fin k0_t1_loop.trips), ∀ (k0_h2 : k0_cond2 v8 = 1#1), ∀ a, (k0_off9 v5 k0_t1) a + S1x64x128.size a ≤ S1x512x2048.size a := fun v5 v8 k0_hw1 k0_t1 k0_h2 => k0_hw1.1.2.2.2.2.2.1 k0_t1 k0_h2
theorem k0_mult7_dvd : ∀ (v5 : BitVec 32) (v8 : BitVec 32) (k0_hw1 : k0_chk1 v5 v8), ∀ (k0_h3 : k0_cond3 v8 = 1#1), 128 ∣ (k0_mult7 v5).toNat := fun v5 v8 k0_hw1 k0_h3 => k0_hw1.1.2.2.2.2.2.2.1 k0_h3
theorem k0_off13_inb : ∀ (v5 : BitVec 32) (v8 : BitVec 32) (k0_hw1 : k0_chk1 v5 v8), ∀ (k0_h3 : k0_cond3 v8 = 1#1), ∀ (r : Fin 2), ∀ a, (k0_off13 v5 (BitVec.ofNat 32 (128 * r.val))) a + S128x128.size a ≤ S2048x128.size a := fun v5 v8 k0_hw1 k0_h3 r => k0_hw1.1.2.2.2.2.2.2.2.1 k0_h3 r
theorem k0_mult10_dvd : ∀ (v5 : BitVec 32) (v8 : BitVec 32) (k0_hw1 : k0_chk1 v5 v8), ∀ (k0_h3 : k0_cond3 v8 = 1#1), 128 ∣ (k0_mult10 v5).toNat := fun v5 v8 k0_hw1 k0_h3 => k0_hw1.1.2.2.2.2.2.2.2.2.1 k0_h3
theorem k0_off17_inb : ∀ (v5 : BitVec 32) (v8 : BitVec 32) (k0_hw1 : k0_chk1 v5 v8) (k0_t2 : Fin k0_t2_loop.trips), ∀ (k0_h3 : k0_cond3 v8 = 1#1), ∀ a, (k0_off17 v5 k0_t2) a + S1x1x256x64.size a ≤ S1x8x2048x64.size a := fun v5 v8 k0_hw1 k0_t2 k0_h3 => k0_hw1.1.2.2.2.2.2.2.2.2.2.1 k0_t2 k0_h3
theorem k0_off18_inb : ∀ (v5 : BitVec 32) (v8 : BitVec 32) (k0_hw1 : k0_chk1 v5 v8) (k0_t2 : Fin k0_t2_loop.trips), ∀ (k0_h3 : k0_cond3 v8 = 1#1), ∀ a, (k0_off18 v5 k0_t2) a + S1x256x128.size a ≤ S8x2048x128.size a := fun v5 v8 k0_hw1 k0_t2 k0_h3 => k0_hw1.1.2.2.2.2.2.2.2.2.2.2.1 k0_t2 k0_h3
theorem k0_off20_inb : ∀ (v5 : BitVec 32) (v8 : BitVec 32) (k0_hw1 : k0_chk1 v5 v8) (k0_t2 : Fin k0_t2_loop.trips), ∀ (k0_h3 : k0_cond3 v8 = 1#1), ∀ a, (k0_off20 v5 k0_t2) a + S1x64x256.size a ≤ S1x512x2048.size a := fun v5 v8 k0_hw1 k0_t2 k0_h3 => k0_hw1.1.2.2.2.2.2.2.2.2.2.2.2.1 k0_t2 k0_h3
theorem k0_mult13_dvd : ∀ (v5 : BitVec 32) (v8 : BitVec 32) (k0_hw1 : k0_chk1 v5 v8), ∀ (k0_h4 : k0_cond4 v8 = 1#1), 128 ∣ (k0_mult13 v5).toNat := fun v5 v8 k0_hw1 k0_h4 => k0_hw1.1.2.2.2.2.2.2.2.2.2.2.2.2.1 k0_h4
theorem k0_off24_inb : ∀ (v5 : BitVec 32) (v8 : BitVec 32) (k0_hw1 : k0_chk1 v5 v8), ∀ (k0_h4 : k0_cond4 v8 = 1#1), ∀ (r : Fin 3), ∀ a, (k0_off24 v5 (BitVec.ofNat 32 (128 * r.val))) a + S128x128.size a ≤ S2048x128.size a := fun v5 v8 k0_hw1 k0_h4 r => k0_hw1.1.2.2.2.2.2.2.2.2.2.2.2.2.2.1 k0_h4 r
theorem k0_mult16_dvd : ∀ (v5 : BitVec 32) (v8 : BitVec 32) (k0_hw1 : k0_chk1 v5 v8), ∀ (k0_h4 : k0_cond4 v8 = 1#1), 128 ∣ (k0_mult16 v5).toNat := fun v5 v8 k0_hw1 k0_h4 => k0_hw1.1.2.2.2.2.2.2.2.2.2.2.2.2.2.2.1 k0_h4
theorem k0_off28_inb : ∀ (v5 : BitVec 32) (v8 : BitVec 32) (k0_hw1 : k0_chk1 v5 v8) (k0_t3 : Fin k0_t3_loop.trips), ∀ (k0_h4 : k0_cond4 v8 = 1#1), ∀ a, (k0_off28 v5 k0_t3) a + S1x1x256x64.size a ≤ S1x8x2048x64.size a := fun v5 v8 k0_hw1 k0_t3 k0_h4 => k0_hw1.1.2.2.2.2.2.2.2.2.2.2.2.2.2.2.2.1 k0_t3 k0_h4
theorem k0_off29_inb : ∀ (v5 : BitVec 32) (v8 : BitVec 32) (k0_hw1 : k0_chk1 v5 v8) (k0_t3 : Fin k0_t3_loop.trips), ∀ (k0_h4 : k0_cond4 v8 = 1#1), ∀ a, (k0_off29 v5 k0_t3) a + S1x256x128.size a ≤ S8x2048x128.size a := fun v5 v8 k0_hw1 k0_t3 k0_h4 => k0_hw1.1.2.2.2.2.2.2.2.2.2.2.2.2.2.2.2.2.1 k0_t3 k0_h4
theorem k0_off31_inb : ∀ (v5 : BitVec 32) (v8 : BitVec 32) (k0_hw1 : k0_chk1 v5 v8) (k0_t3 : Fin k0_t3_loop.trips), ∀ (k0_h4 : k0_cond4 v8 = 1#1), ∀ a, (k0_off31 v5 k0_t3) a + S1x64x256.size a ≤ S1x512x2048.size a := fun v5 v8 k0_hw1 k0_t3 k0_h4 => k0_hw1.1.2.2.2.2.2.2.2.2.2.2.2.2.2.2.2.2.2.1 k0_t3 k0_h4
theorem k0_mult17_dvd : ∀ (v5 : BitVec 32) (v8 : BitVec 32) (k0_hw1 : k0_chk1 v5 v8), ∀ (k0_h4 : k0_cond4 v8 = 1#1), 128 ∣ (k0_mult17 v5).toNat := fun v5 v8 k0_hw1 k0_h4 => k0_hw1.1.2.2.2.2.2.2.2.2.2.2.2.2.2.2.2.2.2.2.1 k0_h4
theorem k0_off33_inb : ∀ (v5 : BitVec 32) (v8 : BitVec 32) (k0_hw1 : k0_chk1 v5 v8) (k0_t3 : Fin k0_t3_loop.trips), ∀ (k0_h4 : k0_cond4 v8 = 1#1), ∀ a, (k0_off33 v5 k0_t3) a + S1x1x128x64.size a ≤ S1x8x2048x64.size a := fun v5 v8 k0_hw1 k0_t3 k0_h4 => k0_hw1.1.2.2.2.2.2.2.2.2.2.2.2.2.2.2.2.2.2.2.2.1 k0_t3 k0_h4
theorem k0_off34_inb : ∀ (v5 : BitVec 32) (v8 : BitVec 32) (k0_hw1 : k0_chk1 v5 v8) (k0_t3 : Fin k0_t3_loop.trips), ∀ (k0_h4 : k0_cond4 v8 = 1#1), ∀ a, (k0_off34 v5 k0_t3) a + S1x128x128.size a ≤ S8x2048x128.size a := fun v5 v8 k0_hw1 k0_t3 k0_h4 => k0_hw1.1.2.2.2.2.2.2.2.2.2.2.2.2.2.2.2.2.2.2.2.2.1 k0_t3 k0_h4
theorem k0_off36_inb : ∀ (v5 : BitVec 32) (v8 : BitVec 32) (k0_hw1 : k0_chk1 v5 v8) (k0_t3 : Fin k0_t3_loop.trips), ∀ (k0_h4 : k0_cond4 v8 = 1#1), ∀ a, (k0_off36 v5 k0_t3) a + S1x64x128.size a ≤ S1x512x2048.size a := fun v5 v8 k0_hw1 k0_t3 k0_h4 => k0_hw1.1.2.2.2.2.2.2.2.2.2.2.2.2.2.2.2.2.2.2.2.2.2.1 k0_t3 k0_h4
theorem k0_mult20_dvd : ∀ (v5 : BitVec 32) (v8 : BitVec 32) (k0_hw1 : k0_chk1 v5 v8), ∀ (k0_h5 : k0_cond5 v8 = 1#1), 128 ∣ (k0_mult20 v5).toNat := fun v5 v8 k0_hw1 k0_h5 => k0_hw1.1.2.2.2.2.2.2.2.2.2.2.2.2.2.2.2.2.2.2.2.2.2.2.1 k0_h5
theorem k0_off40_inb : ∀ (v5 : BitVec 32) (v8 : BitVec 32) (k0_hw1 : k0_chk1 v5 v8), ∀ (k0_h5 : k0_cond5 v8 = 1#1), ∀ (r : Fin 4), ∀ a, (k0_off40 v5 (BitVec.ofNat 32 (128 * r.val))) a + S128x128.size a ≤ S2048x128.size a := fun v5 v8 k0_hw1 k0_h5 r => k0_hw1.1.2.2.2.2.2.2.2.2.2.2.2.2.2.2.2.2.2.2.2.2.2.2.2.1 k0_h5 r
theorem k0_mult23_dvd : ∀ (v5 : BitVec 32) (v8 : BitVec 32) (k0_hw1 : k0_chk1 v5 v8), ∀ (k0_h5 : k0_cond5 v8 = 1#1), 128 ∣ (k0_mult23 v5).toNat := fun v5 v8 k0_hw1 k0_h5 => k0_hw1.1.2.2.2.2.2.2.2.2.2.2.2.2.2.2.2.2.2.2.2.2.2.2.2.2.1 k0_h5
theorem k0_off44_inb : ∀ (v5 : BitVec 32) (v8 : BitVec 32) (k0_hw1 : k0_chk1 v5 v8) (k0_t4 : Fin k0_t4_loop.trips), ∀ (k0_h5 : k0_cond5 v8 = 1#1), ∀ (r : Fin 2), ∀ a, (k0_off44 v5 k0_t4 (BitVec.ofNat 32 (256 * r.val))) a + S1x1x256x64.size a ≤ S1x8x2048x64.size a := fun v5 v8 k0_hw1 k0_t4 k0_h5 r => k0_hw1.1.2.2.2.2.2.2.2.2.2.2.2.2.2.2.2.2.2.2.2.2.2.2.2.2.2.1 k0_t4 k0_h5 r
theorem k0_off45_inb : ∀ (v5 : BitVec 32) (v8 : BitVec 32) (k0_hw1 : k0_chk1 v5 v8) (k0_t4 : Fin k0_t4_loop.trips), ∀ (k0_h5 : k0_cond5 v8 = 1#1), ∀ (r : Fin 2), ∀ a, (k0_off45 v5 k0_t4 (BitVec.ofNat 32 (256 * r.val))) a + S1x256x128.size a ≤ S8x2048x128.size a := fun v5 v8 k0_hw1 k0_t4 k0_h5 r => k0_hw1.1.2.2.2.2.2.2.2.2.2.2.2.2.2.2.2.2.2.2.2.2.2.2.2.2.2.2.1 k0_t4 k0_h5 r
theorem k0_off47_inb : ∀ (v5 : BitVec 32) (v8 : BitVec 32) (k0_hw1 : k0_chk1 v5 v8) (k0_t4 : Fin k0_t4_loop.trips), ∀ (k0_h5 : k0_cond5 v8 = 1#1), ∀ (r : Fin 2), ∀ a, (k0_off47 v5 k0_t4 (BitVec.ofNat 32 (256 * r.val))) a + S1x64x256.size a ≤ S1x512x2048.size a := fun v5 v8 k0_hw1 k0_t4 k0_h5 r => k0_hw1.1.2.2.2.2.2.2.2.2.2.2.2.2.2.2.2.2.2.2.2.2.2.2.2.2.2.2.2.1 k0_t4 k0_h5 r
theorem k0_mult24_dvd : ∀ (v5 : BitVec 32) (v8 : BitVec 32) (k0_hw1 : k0_chk1 v5 v8), ∀ (k0_h5 : k0_cond5 v8 = 1#1), 128 ∣ (k0_mult24 v5).toNat := fun v5 v8 k0_hw1 k0_h5 => k0_hw1.1.2.2.2.2.2.2.2.2.2.2.2.2.2.2.2.2.2.2.2.2.2.2.2.2.2.2.2.2.1 k0_h5
theorem k0_mult27_dvd : ∀ (v5 : BitVec 32) (v8 : BitVec 32) (k0_hw1 : k0_chk1 v5 v8), ∀ (k0_h6 : k0_cond6 v8 = 1#1), 128 ∣ (k0_mult27 v5).toNat := fun v5 v8 k0_hw1 k0_h6 => k0_hw1.1.2.2.2.2.2.2.2.2.2.2.2.2.2.2.2.2.2.2.2.2.2.2.2.2.2.2.2.2.2.1 k0_h6
theorem k0_off53_inb : ∀ (v5 : BitVec 32) (v8 : BitVec 32) (k0_hw1 : k0_chk1 v5 v8), ∀ (k0_h6 : k0_cond6 v8 = 1#1), ∀ (r : Fin 5), ∀ a, (k0_off53 v5 (BitVec.ofNat 32 (128 * r.val))) a + S128x128.size a ≤ S2048x128.size a := fun v5 v8 k0_hw1 k0_h6 r => k0_hw1.1.2.2.2.2.2.2.2.2.2.2.2.2.2.2.2.2.2.2.2.2.2.2.2.2.2.2.2.2.2.2.1 k0_h6 r
theorem k0_mult30_dvd : ∀ (v5 : BitVec 32) (v8 : BitVec 32) (k0_hw1 : k0_chk1 v5 v8), ∀ (k0_h6 : k0_cond6 v8 = 1#1), 128 ∣ (k0_mult30 v5).toNat := fun v5 v8 k0_hw1 k0_h6 => k0_hw1.1.2.2.2.2.2.2.2.2.2.2.2.2.2.2.2.2.2.2.2.2.2.2.2.2.2.2.2.2.2.2.2 k0_h6
theorem k0_off57_inb : ∀ (v5 : BitVec 32) (v8 : BitVec 32) (k0_hw1 : k0_chk1 v5 v8) (k0_t5 : Fin k0_t5_loop.trips), ∀ (k0_h6 : k0_cond6 v8 = 1#1), ∀ (r : Fin 2), ∀ a, (k0_off57 v5 k0_t5 (BitVec.ofNat 32 (256 * r.val))) a + S1x1x256x64.size a ≤ S1x8x2048x64.size a := fun v5 v8 k0_hw1 k0_t5 k0_h6 r => k0_hw1.2.1.1 k0_t5 k0_h6 r
theorem k0_off58_inb : ∀ (v5 : BitVec 32) (v8 : BitVec 32) (k0_hw1 : k0_chk1 v5 v8) (k0_t5 : Fin k0_t5_loop.trips), ∀ (k0_h6 : k0_cond6 v8 = 1#1), ∀ (r : Fin 2), ∀ a, (k0_off58 v5 k0_t5 (BitVec.ofNat 32 (256 * r.val))) a + S1x256x128.size a ≤ S8x2048x128.size a := fun v5 v8 k0_hw1 k0_t5 k0_h6 r => k0_hw1.2.1.2.1 k0_t5 k0_h6 r
theorem k0_off60_inb : ∀ (v5 : BitVec 32) (v8 : BitVec 32) (k0_hw1 : k0_chk1 v5 v8) (k0_t5 : Fin k0_t5_loop.trips), ∀ (k0_h6 : k0_cond6 v8 = 1#1), ∀ (r : Fin 2), ∀ a, (k0_off60 v5 k0_t5 (BitVec.ofNat 32 (256 * r.val))) a + S1x64x256.size a ≤ S1x512x2048.size a := fun v5 v8 k0_hw1 k0_t5 k0_h6 r => k0_hw1.2.1.2.2.1 k0_t5 k0_h6 r
theorem k0_mult31_dvd : ∀ (v5 : BitVec 32) (v8 : BitVec 32) (k0_hw1 : k0_chk1 v5 v8), ∀ (k0_h6 : k0_cond6 v8 = 1#1), 128 ∣ (k0_mult31 v5).toNat := fun v5 v8 k0_hw1 k0_h6 => k0_hw1.2.1.2.2.2.1 k0_h6
theorem k0_mult32_dvd : ∀ (v5 : BitVec 32) (v8 : BitVec 32) (k0_hw1 : k0_chk1 v5 v8), ∀ (k0_h6 : k0_cond6 v8 = 1#1), 128 ∣ (k0_mult32 v5).toNat := fun v5 v8 k0_hw1 k0_h6 => k0_hw1.2.1.2.2.2.2.1 k0_h6
theorem k0_off64_inb : ∀ (v5 : BitVec 32) (v8 : BitVec 32) (k0_hw1 : k0_chk1 v5 v8) (k0_t5 : Fin k0_t5_loop.trips), ∀ (k0_h6 : k0_cond6 v8 = 1#1), ∀ a, (k0_off64 v5 k0_t5) a + S1x1x128x64.size a ≤ S1x8x2048x64.size a := fun v5 v8 k0_hw1 k0_t5 k0_h6 => k0_hw1.2.1.2.2.2.2.2.1 k0_t5 k0_h6
theorem k0_off65_inb : ∀ (v5 : BitVec 32) (v8 : BitVec 32) (k0_hw1 : k0_chk1 v5 v8) (k0_t5 : Fin k0_t5_loop.trips), ∀ (k0_h6 : k0_cond6 v8 = 1#1), ∀ a, (k0_off65 v5 k0_t5) a + S1x128x128.size a ≤ S8x2048x128.size a := fun v5 v8 k0_hw1 k0_t5 k0_h6 => k0_hw1.2.1.2.2.2.2.2.2.1 k0_t5 k0_h6
theorem k0_off67_inb : ∀ (v5 : BitVec 32) (v8 : BitVec 32) (k0_hw1 : k0_chk1 v5 v8) (k0_t5 : Fin k0_t5_loop.trips), ∀ (k0_h6 : k0_cond6 v8 = 1#1), ∀ a, (k0_off67 v5 k0_t5) a + S1x64x128.size a ≤ S1x512x2048.size a := fun v5 v8 k0_hw1 k0_t5 k0_h6 => k0_hw1.2.1.2.2.2.2.2.2.2.1 k0_t5 k0_h6
theorem k0_mult35_dvd : ∀ (v5 : BitVec 32) (v8 : BitVec 32) (k0_hw1 : k0_chk1 v5 v8), ∀ (k0_h7 : k0_cond7 v8 = 1#1), 128 ∣ (k0_mult35 v5).toNat := fun v5 v8 k0_hw1 k0_h7 => k0_hw1.2.1.2.2.2.2.2.2.2.2.1 k0_h7
theorem k0_off71_inb : ∀ (v5 : BitVec 32) (v8 : BitVec 32) (k0_hw1 : k0_chk1 v5 v8), ∀ (k0_h7 : k0_cond7 v8 = 1#1), ∀ (r : Fin 6), ∀ a, (k0_off71 v5 (BitVec.ofNat 32 (128 * r.val))) a + S128x128.size a ≤ S2048x128.size a := fun v5 v8 k0_hw1 k0_h7 r => k0_hw1.2.1.2.2.2.2.2.2.2.2.2.1 k0_h7 r
theorem k0_mult38_dvd : ∀ (v5 : BitVec 32) (v8 : BitVec 32) (k0_hw1 : k0_chk1 v5 v8), ∀ (k0_h7 : k0_cond7 v8 = 1#1), 128 ∣ (k0_mult38 v5).toNat := fun v5 v8 k0_hw1 k0_h7 => k0_hw1.2.1.2.2.2.2.2.2.2.2.2.2.1 k0_h7
theorem k0_off75_inb : ∀ (v5 : BitVec 32) (v8 : BitVec 32) (k0_hw1 : k0_chk1 v5 v8) (k0_t6 : Fin k0_t6_loop.trips), ∀ (k0_h7 : k0_cond7 v8 = 1#1), ∀ (r : Fin 3), ∀ a, (k0_off75 v5 k0_t6 (BitVec.ofNat 32 (256 * r.val))) a + S1x1x256x64.size a ≤ S1x8x2048x64.size a := fun v5 v8 k0_hw1 k0_t6 k0_h7 r => k0_hw1.2.1.2.2.2.2.2.2.2.2.2.2.2.1 k0_t6 k0_h7 r
theorem k0_off76_inb : ∀ (v5 : BitVec 32) (v8 : BitVec 32) (k0_hw1 : k0_chk1 v5 v8) (k0_t6 : Fin k0_t6_loop.trips), ∀ (k0_h7 : k0_cond7 v8 = 1#1), ∀ (r : Fin 3), ∀ a, (k0_off76 v5 k0_t6 (BitVec.ofNat 32 (256 * r.val))) a + S1x256x128.size a ≤ S8x2048x128.size a := fun v5 v8 k0_hw1 k0_t6 k0_h7 r => k0_hw1.2.1.2.2.2.2.2.2.2.2.2.2.2.2.1 k0_t6 k0_h7 r
theorem k0_off78_inb : ∀ (v5 : BitVec 32) (v8 : BitVec 32) (k0_hw1 : k0_chk1 v5 v8) (k0_t6 : Fin k0_t6_loop.trips), ∀ (k0_h7 : k0_cond7 v8 = 1#1), ∀ (r : Fin 3), ∀ a, (k0_off78 v5 k0_t6 (BitVec.ofNat 32 (256 * r.val))) a + S1x64x256.size a ≤ S1x512x2048.size a := fun v5 v8 k0_hw1 k0_t6 k0_h7 r => k0_hw1.2.1.2.2.2.2.2.2.2.2.2.2.2.2.2.1 k0_t6 k0_h7 r
theorem k0_mult39_dvd : ∀ (v5 : BitVec 32) (v8 : BitVec 32) (k0_hw1 : k0_chk1 v5 v8), ∀ (k0_h7 : k0_cond7 v8 = 1#1), 128 ∣ (k0_mult39 v5).toNat := fun v5 v8 k0_hw1 k0_h7 => k0_hw1.2.1.2.2.2.2.2.2.2.2.2.2.2.2.2.2.1 k0_h7
theorem k0_mult40_dvd : ∀ (v5 : BitVec 32) (v8 : BitVec 32) (k0_hw1 : k0_chk1 v5 v8), ∀ (k0_h7 : k0_cond7 v8 = 1#1), 128 ∣ (k0_mult40 v5).toNat := fun v5 v8 k0_hw1 k0_h7 => k0_hw1.2.1.2.2.2.2.2.2.2.2.2.2.2.2.2.2.2.1 k0_h7
theorem k0_mult43_dvd : ∀ (v5 : BitVec 32) (v8 : BitVec 32) (k0_hw1 : k0_chk1 v5 v8), ∀ (k0_h8 : k0_cond8 v8 = 1#1), 128 ∣ (k0_mult43 v5).toNat := fun v5 v8 k0_hw1 k0_h8 => k0_hw1.2.1.2.2.2.2.2.2.2.2.2.2.2.2.2.2.2.2.1 k0_h8
theorem k0_off86_inb : ∀ (v5 : BitVec 32) (v8 : BitVec 32) (k0_hw1 : k0_chk1 v5 v8), ∀ (k0_h8 : k0_cond8 v8 = 1#1), ∀ (r : Fin 8), ∀ a, (k0_off86 v5 (BitVec.ofNat 32 (128 * r.val))) a + S128x128.size a ≤ S2048x128.size a := fun v5 v8 k0_hw1 k0_h8 r => k0_hw1.2.1.2.2.2.2.2.2.2.2.2.2.2.2.2.2.2.2.2.1 k0_h8 r
theorem k0_mult46_dvd : ∀ (v5 : BitVec 32) (v8 : BitVec 32) (k0_hw1 : k0_chk1 v5 v8), ∀ (k0_h8 : k0_cond8 v8 = 1#1), 128 ∣ (k0_mult46 v5).toNat := fun v5 v8 k0_hw1 k0_h8 => k0_hw1.2.1.2.2.2.2.2.2.2.2.2.2.2.2.2.2.2.2.2.2.1 k0_h8
theorem k0_off90_inb : ∀ (v5 : BitVec 32) (v8 : BitVec 32) (k0_hw1 : k0_chk1 v5 v8) (k0_t7 : Fin k0_t7_loop.trips), ∀ (k0_h8 : k0_cond8 v8 = 1#1), ∀ (r : Fin 4), ∀ a, (k0_off90 v5 k0_t7 (BitVec.ofNat 32 (256 * r.val))) a + S1x1x256x64.size a ≤ S1x8x2048x64.size a := fun v5 v8 k0_hw1 k0_t7 k0_h8 r => k0_hw1.2.1.2.2.2.2.2.2.2.2.2.2.2.2.2.2.2.2.2.2.2.1 k0_t7 k0_h8 r
theorem k0_off91_inb : ∀ (v5 : BitVec 32) (v8 : BitVec 32) (k0_hw1 : k0_chk1 v5 v8) (k0_t7 : Fin k0_t7_loop.trips), ∀ (k0_h8 : k0_cond8 v8 = 1#1), ∀ (r : Fin 4), ∀ a, (k0_off91 v5 k0_t7 (BitVec.ofNat 32 (256 * r.val))) a + S1x256x128.size a ≤ S8x2048x128.size a := fun v5 v8 k0_hw1 k0_t7 k0_h8 r => k0_hw1.2.1.2.2.2.2.2.2.2.2.2.2.2.2.2.2.2.2.2.2.2.2.1 k0_t7 k0_h8 r
theorem k0_off93_inb : ∀ (v5 : BitVec 32) (v8 : BitVec 32) (k0_hw1 : k0_chk1 v5 v8) (k0_t7 : Fin k0_t7_loop.trips), ∀ (k0_h8 : k0_cond8 v8 = 1#1), ∀ (r : Fin 4), ∀ a, (k0_off93 v5 k0_t7 (BitVec.ofNat 32 (256 * r.val))) a + S1x64x256.size a ≤ S1x512x2048.size a := fun v5 v8 k0_hw1 k0_t7 k0_h8 r => k0_hw1.2.1.2.2.2.2.2.2.2.2.2.2.2.2.2.2.2.2.2.2.2.2.2.1 k0_t7 k0_h8 r
theorem k0_mult47_dvd : ∀ (v5 : BitVec 32) (v8 : BitVec 32) (k0_hw1 : k0_chk1 v5 v8), ∀ (k0_h8 : k0_cond8 v8 = 1#1), 128 ∣ (k0_mult47 v5).toNat := fun v5 v8 k0_hw1 k0_h8 => k0_hw1.2.1.2.2.2.2.2.2.2.2.2.2.2.2.2.2.2.2.2.2.2.2.2.2.1 k0_h8
theorem k0_mult48_dvd : ∀ (v5 : BitVec 32) (v8 : BitVec 32) (k0_hw1 : k0_chk1 v5 v8), ∀ (k0_h8 : k0_cond8 v8 = 1#1), 128 ∣ (k0_mult48 v5).toNat := fun v5 v8 k0_hw1 k0_h8 => k0_hw1.2.1.2.2.2.2.2.2.2.2.2.2.2.2.2.2.2.2.2.2.2.2.2.2.2.1 k0_h8
theorem k0_mult49_dvd : ∀ (v5 : BitVec 32) (v8 : BitVec 32) (k0_hw1 : k0_chk1 v5 v8), ∀ (k0_h8 : k0_cond8 v8 = 1#1), 128 ∣ (k0_mult49 v5).toNat := fun v5 v8 k0_hw1 k0_h8 => k0_hw1.2.1.2.2.2.2.2.2.2.2.2.2.2.2.2.2.2.2.2.2.2.2.2.2.2.2.1 k0_h8
theorem k0_mult52_dvd : ∀ (v5 : BitVec 32) (v8 : BitVec 32) (k0_hw1 : k0_chk1 v5 v8), ∀ (k0_h9 : k0_cond9 v8 = 1#1), 128 ∣ (k0_mult52 v5).toNat := fun v5 v8 k0_hw1 k0_h9 => k0_hw1.2.1.2.2.2.2.2.2.2.2.2.2.2.2.2.2.2.2.2.2.2.2.2.2.2.2.2.1 k0_h9
theorem k0_off103_inb : ∀ (v5 : BitVec 32) (v8 : BitVec 32) (k0_hw1 : k0_chk1 v5 v8), ∀ (k0_h9 : k0_cond9 v8 = 1#1), ∀ (r : Fin 10), ∀ a, (k0_off103 v5 (BitVec.ofNat 32 (128 * r.val))) a + S128x128.size a ≤ S2048x128.size a := fun v5 v8 k0_hw1 k0_h9 r => k0_hw1.2.1.2.2.2.2.2.2.2.2.2.2.2.2.2.2.2.2.2.2.2.2.2.2.2.2.2.2.1 k0_h9 r
theorem k0_mult55_dvd : ∀ (v5 : BitVec 32) (v8 : BitVec 32) (k0_hw1 : k0_chk1 v5 v8), ∀ (k0_h9 : k0_cond9 v8 = 1#1), 128 ∣ (k0_mult55 v5).toNat := fun v5 v8 k0_hw1 k0_h9 => k0_hw1.2.1.2.2.2.2.2.2.2.2.2.2.2.2.2.2.2.2.2.2.2.2.2.2.2.2.2.2.2.1 k0_h9
theorem k0_off107_inb : ∀ (v5 : BitVec 32) (v8 : BitVec 32) (k0_hw1 : k0_chk1 v5 v8) (k0_t8 : Fin k0_t8_loop.trips), ∀ (k0_h9 : k0_cond9 v8 = 1#1), ∀ (r : Fin 5), ∀ a, (k0_off107 v5 k0_t8 (BitVec.ofNat 32 (256 * r.val))) a + S1x1x256x64.size a ≤ S1x8x2048x64.size a := fun v5 v8 k0_hw1 k0_t8 k0_h9 r => k0_hw1.2.1.2.2.2.2.2.2.2.2.2.2.2.2.2.2.2.2.2.2.2.2.2.2.2.2.2.2.2.2.1 k0_t8 k0_h9 r
theorem k0_off108_inb : ∀ (v5 : BitVec 32) (v8 : BitVec 32) (k0_hw1 : k0_chk1 v5 v8) (k0_t8 : Fin k0_t8_loop.trips), ∀ (k0_h9 : k0_cond9 v8 = 1#1), ∀ (r : Fin 5), ∀ a, (k0_off108 v5 k0_t8 (BitVec.ofNat 32 (256 * r.val))) a + S1x256x128.size a ≤ S8x2048x128.size a := fun v5 v8 k0_hw1 k0_t8 k0_h9 r => k0_hw1.2.1.2.2.2.2.2.2.2.2.2.2.2.2.2.2.2.2.2.2.2.2.2.2.2.2.2.2.2.2.2.1 k0_t8 k0_h9 r
theorem k0_off110_inb : ∀ (v5 : BitVec 32) (v8 : BitVec 32) (k0_hw1 : k0_chk1 v5 v8) (k0_t8 : Fin k0_t8_loop.trips), ∀ (k0_h9 : k0_cond9 v8 = 1#1), ∀ (r : Fin 5), ∀ a, (k0_off110 v5 k0_t8 (BitVec.ofNat 32 (256 * r.val))) a + S1x64x256.size a ≤ S1x512x2048.size a := fun v5 v8 k0_hw1 k0_t8 k0_h9 r => k0_hw1.2.1.2.2.2.2.2.2.2.2.2.2.2.2.2.2.2.2.2.2.2.2.2.2.2.2.2.2.2.2.2.2.1 k0_t8 k0_h9 r
theorem k0_mult56_dvd : ∀ (v5 : BitVec 32) (v8 : BitVec 32) (k0_hw1 : k0_chk1 v5 v8), ∀ (k0_h9 : k0_cond9 v8 = 1#1), 128 ∣ (k0_mult56 v5).toNat := fun v5 v8 k0_hw1 k0_h9 => k0_hw1.2.1.2.2.2.2.2.2.2.2.2.2.2.2.2.2.2.2.2.2.2.2.2.2.2.2.2.2.2.2.2.2.2 k0_h9
theorem k0_mult57_dvd : ∀ (v5 : BitVec 32) (v8 : BitVec 32) (k0_hw1 : k0_chk1 v5 v8), ∀ (k0_h9 : k0_cond9 v8 = 1#1), 128 ∣ (k0_mult57 v5).toNat := fun v5 v8 k0_hw1 k0_h9 => k0_hw1.2.2.1 k0_h9
theorem k0_mult58_dvd : ∀ (v5 : BitVec 32) (v8 : BitVec 32) (k0_hw1 : k0_chk1 v5 v8), ∀ (k0_h9 : k0_cond9 v8 = 1#1), 128 ∣ (k0_mult58 v5).toNat := fun v5 v8 k0_hw1 k0_h9 => k0_hw1.2.2.2.1 k0_h9
theorem k0_mult59_dvd : ∀ (v5 : BitVec 32) (v8 : BitVec 32) (k0_hw1 : k0_chk1 v5 v8), ∀ (k0_h9 : k0_cond9 v8 = 1#1), 128 ∣ (k0_mult59 v5).toNat := fun v5 v8 k0_hw1 k0_h9 => k0_hw1.2.2.2.2.1 k0_h9
theorem k0_mult62_dvd : ∀ (v5 : BitVec 32) (v8 : BitVec 32) (k0_hw1 : k0_chk1 v5 v8), ∀ (k0_h10 : k0_cond10 v8 = 1#1), 128 ∣ (k0_mult62 v5).toNat := fun v5 v8 k0_hw1 k0_h10 => k0_hw1.2.2.2.2.2.1 k0_h10
theorem k0_off122_inb : ∀ (v5 : BitVec 32) (v8 : BitVec 32) (k0_hw1 : k0_chk1 v5 v8), ∀ (k0_h10 : k0_cond10 v8 = 1#1), ∀ (r : Fin 12), ∀ a, (k0_off122 v5 (BitVec.ofNat 32 (128 * r.val))) a + S128x128.size a ≤ S2048x128.size a := fun v5 v8 k0_hw1 k0_h10 r => k0_hw1.2.2.2.2.2.2.1 k0_h10 r
theorem k0_mult65_dvd : ∀ (v5 : BitVec 32) (v8 : BitVec 32) (k0_hw1 : k0_chk1 v5 v8), ∀ (k0_h10 : k0_cond10 v8 = 1#1), 128 ∣ (k0_mult65 v5).toNat := fun v5 v8 k0_hw1 k0_h10 => k0_hw1.2.2.2.2.2.2.2.1 k0_h10
theorem k0_off126_inb : ∀ (v5 : BitVec 32) (v8 : BitVec 32) (k0_hw1 : k0_chk1 v5 v8) (k0_t9 : Fin k0_t9_loop.trips), ∀ (k0_h10 : k0_cond10 v8 = 1#1), ∀ (r : Fin 6), ∀ a, (k0_off126 v5 k0_t9 (BitVec.ofNat 32 (256 * r.val))) a + S1x1x256x64.size a ≤ S1x8x2048x64.size a := fun v5 v8 k0_hw1 k0_t9 k0_h10 r => k0_hw1.2.2.2.2.2.2.2.2.1 k0_t9 k0_h10 r
theorem k0_off127_inb : ∀ (v5 : BitVec 32) (v8 : BitVec 32) (k0_hw1 : k0_chk1 v5 v8) (k0_t9 : Fin k0_t9_loop.trips), ∀ (k0_h10 : k0_cond10 v8 = 1#1), ∀ (r : Fin 6), ∀ a, (k0_off127 v5 k0_t9 (BitVec.ofNat 32 (256 * r.val))) a + S1x256x128.size a ≤ S8x2048x128.size a := fun v5 v8 k0_hw1 k0_t9 k0_h10 r => k0_hw1.2.2.2.2.2.2.2.2.2.1 k0_t9 k0_h10 r
theorem k0_off129_inb : ∀ (v5 : BitVec 32) (v8 : BitVec 32) (k0_hw1 : k0_chk1 v5 v8) (k0_t9 : Fin k0_t9_loop.trips), ∀ (k0_h10 : k0_cond10 v8 = 1#1), ∀ (r : Fin 6), ∀ a, (k0_off129 v5 k0_t9 (BitVec.ofNat 32 (256 * r.val))) a + S1x64x256.size a ≤ S1x512x2048.size a := fun v5 v8 k0_hw1 k0_t9 k0_h10 r => k0_hw1.2.2.2.2.2.2.2.2.2.2.1 k0_t9 k0_h10 r
theorem k0_mult66_dvd : ∀ (v5 : BitVec 32) (v8 : BitVec 32) (k0_hw1 : k0_chk1 v5 v8), ∀ (k0_h10 : k0_cond10 v8 = 1#1), 128 ∣ (k0_mult66 v5).toNat := fun v5 v8 k0_hw1 k0_h10 => k0_hw1.2.2.2.2.2.2.2.2.2.2.2.1 k0_h10
theorem k0_mult67_dvd : ∀ (v5 : BitVec 32) (v8 : BitVec 32) (k0_hw1 : k0_chk1 v5 v8), ∀ (k0_h10 : k0_cond10 v8 = 1#1), 128 ∣ (k0_mult67 v5).toNat := fun v5 v8 k0_hw1 k0_h10 => k0_hw1.2.2.2.2.2.2.2.2.2.2.2.2.1 k0_h10
theorem k0_mult68_dvd : ∀ (v5 : BitVec 32) (v8 : BitVec 32) (k0_hw1 : k0_chk1 v5 v8), ∀ (k0_h10 : k0_cond10 v8 = 1#1), 128 ∣ (k0_mult68 v5).toNat := fun v5 v8 k0_hw1 k0_h10 => k0_hw1.2.2.2.2.2.2.2.2.2.2.2.2.2.1 k0_h10
theorem k0_mult69_dvd : ∀ (v5 : BitVec 32) (v8 : BitVec 32) (k0_hw1 : k0_chk1 v5 v8), ∀ (k0_h10 : k0_cond10 v8 = 1#1), 128 ∣ (k0_mult69 v5).toNat := fun v5 v8 k0_hw1 k0_h10 => k0_hw1.2.2.2.2.2.2.2.2.2.2.2.2.2.2.1 k0_h10
theorem k0_mult70_dvd : ∀ (v5 : BitVec 32) (v8 : BitVec 32) (k0_hw1 : k0_chk1 v5 v8), ∀ (k0_h10 : k0_cond10 v8 = 1#1), 128 ∣ (k0_mult70 v5).toNat := fun v5 v8 k0_hw1 k0_h10 => k0_hw1.2.2.2.2.2.2.2.2.2.2.2.2.2.2.2.1 k0_h10
theorem k0_mult73_dvd : ∀ (v5 : BitVec 32) (v8 : BitVec 32) (k0_hw1 : k0_chk1 v5 v8), ∀ (k0_h11 : k0_cond11 v8 = 1#1), 128 ∣ (k0_mult73 v5).toNat := fun v5 v8 k0_hw1 k0_h11 => k0_hw1.2.2.2.2.2.2.2.2.2.2.2.2.2.2.2.2.1 k0_h11
theorem k0_off143_inb : ∀ (v5 : BitVec 32) (v8 : BitVec 32) (k0_hw1 : k0_chk1 v5 v8), ∀ (k0_h11 : k0_cond11 v8 = 1#1), ∀ (r : Fin 16), ∀ a, (k0_off143 v5 (BitVec.ofNat 32 (128 * r.val))) a + S128x128.size a ≤ S2048x128.size a := fun v5 v8 k0_hw1 k0_h11 r => k0_hw1.2.2.2.2.2.2.2.2.2.2.2.2.2.2.2.2.2.1 k0_h11 r
theorem k0_mult76_dvd : ∀ (v5 : BitVec 32) (v8 : BitVec 32) (k0_hw1 : k0_chk1 v5 v8), ∀ (k0_h11 : k0_cond11 v8 = 1#1), 128 ∣ (k0_mult76 v5).toNat := fun v5 v8 k0_hw1 k0_h11 => k0_hw1.2.2.2.2.2.2.2.2.2.2.2.2.2.2.2.2.2.2.1 k0_h11
theorem k0_off147_inb : ∀ (v5 : BitVec 32) (v8 : BitVec 32) (k0_hw1 : k0_chk1 v5 v8) (k0_t10 : Fin k0_t10_loop.trips), ∀ (k0_h11 : k0_cond11 v8 = 1#1), ∀ (r : Fin 8), ∀ a, (k0_off147 v5 k0_t10 (BitVec.ofNat 32 (256 * r.val))) a + S1x1x256x64.size a ≤ S1x8x2048x64.size a := fun v5 v8 k0_hw1 k0_t10 k0_h11 r => k0_hw1.2.2.2.2.2.2.2.2.2.2.2.2.2.2.2.2.2.2.2.1 k0_t10 k0_h11 r
theorem k0_off148_inb : ∀ (v5 : BitVec 32) (v8 : BitVec 32) (k0_hw1 : k0_chk1 v5 v8) (k0_t10 : Fin k0_t10_loop.trips), ∀ (k0_h11 : k0_cond11 v8 = 1#1), ∀ (r : Fin 8), ∀ a, (k0_off148 v5 k0_t10 (BitVec.ofNat 32 (256 * r.val))) a + S1x256x128.size a ≤ S8x2048x128.size a := fun v5 v8 k0_hw1 k0_t10 k0_h11 r => k0_hw1.2.2.2.2.2.2.2.2.2.2.2.2.2.2.2.2.2.2.2.2.1 k0_t10 k0_h11 r
theorem k0_off150_inb : ∀ (v5 : BitVec 32) (v8 : BitVec 32) (k0_hw1 : k0_chk1 v5 v8) (k0_t10 : Fin k0_t10_loop.trips), ∀ (k0_h11 : k0_cond11 v8 = 1#1), ∀ (r : Fin 8), ∀ a, (k0_off150 v5 k0_t10 (BitVec.ofNat 32 (256 * r.val))) a + S1x64x256.size a ≤ S1x512x2048.size a := fun v5 v8 k0_hw1 k0_t10 k0_h11 r => k0_hw1.2.2.2.2.2.2.2.2.2.2.2.2.2.2.2.2.2.2.2.2.2.1 k0_t10 k0_h11 r
theorem k0_mult77_dvd : ∀ (v5 : BitVec 32) (v8 : BitVec 32) (k0_hw1 : k0_chk1 v5 v8), ∀ (k0_h11 : k0_cond11 v8 = 1#1), 128 ∣ (k0_mult77 v5).toNat := fun v5 v8 k0_hw1 k0_h11 => k0_hw1.2.2.2.2.2.2.2.2.2.2.2.2.2.2.2.2.2.2.2.2.2.2.1 k0_h11
theorem k0_mult78_dvd : ∀ (v5 : BitVec 32) (v8 : BitVec 32) (k0_hw1 : k0_chk1 v5 v8), ∀ (k0_h11 : k0_cond11 v8 = 1#1), 128 ∣ (k0_mult78 v5).toNat := fun v5 v8 k0_hw1 k0_h11 => k0_hw1.2.2.2.2.2.2.2.2.2.2.2.2.2.2.2.2.2.2.2.2.2.2.2.1 k0_h11
theorem k0_mult79_dvd : ∀ (v5 : BitVec 32) (v8 : BitVec 32) (k0_hw1 : k0_chk1 v5 v8), ∀ (k0_h11 : k0_cond11 v8 = 1#1), 128 ∣ (k0_mult79 v5).toNat := fun v5 v8 k0_hw1 k0_h11 => k0_hw1.2.2.2.2.2.2.2.2.2.2.2.2.2.2.2.2.2.2.2.2.2.2.2.2.1 k0_h11
theorem k0_mult80_dvd : ∀ (v5 : BitVec 32) (v8 : BitVec 32) (k0_hw1 : k0_chk1 v5 v8), ∀ (k0_h11 : k0_cond11 v8 = 1#1), 128 ∣ (k0_mult80 v5).toNat := fun v5 v8 k0_hw1 k0_h11 => k0_hw1.2.2.2.2.2.2.2.2.2.2.2.2.2.2.2.2.2.2.2.2.2.2.2.2.2.1 k0_h11
theorem k0_mult81_dvd : ∀ (v5 : BitVec 32) (v8 : BitVec 32) (k0_hw1 : k0_chk1 v5 v8), ∀ (k0_h11 : k0_cond11 v8 = 1#1), 128 ∣ (k0_mult81 v5).toNat := fun v5 v8 k0_hw1 k0_h11 => k0_hw1.2.2.2.2.2.2.2.2.2.2.2.2.2.2.2.2.2.2.2.2.2.2.2.2.2.2.1 k0_h11
theorem k0_mult82_dvd : ∀ (v5 : BitVec 32) (v8 : BitVec 32) (k0_hw1 : k0_chk1 v5 v8), ∀ (k0_h11 : k0_cond11 v8 = 1#1), 128 ∣ (k0_mult82 v5).toNat := fun v5 v8 k0_hw1 k0_h11 => k0_hw1.2.2.2.2.2.2.2.2.2.2.2.2.2.2.2.2.2.2.2.2.2.2.2.2.2.2.2.1 k0_h11
theorem k0_mult83_dvd : ∀ (v5 : BitVec 32) (v8 : BitVec 32) (k0_hw1 : k0_chk1 v5 v8), ∀ (k0_h11 : k0_cond11 v8 = 1#1), 128 ∣ (k0_mult83 v5).toNat := fun v5 v8 k0_hw1 k0_h11 => k0_hw1.2.2.2.2.2.2.2.2.2.2.2.2.2.2.2.2.2.2.2.2.2.2.2.2.2.2.2.2 k0_h11

def k0_off164 (k0_t10 : Fin k0_t10_loop.trips) : Fin 3 → Nat :=
  let c1_i32_311 : BitVec 32 := 1#32
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v751 : BitVec 32 := Scalar.subi c1_i32_311 v345
  let v752 : Index := Scalar.indexCast v751
  let c1792_312 : Index := 1792#32
  let c0_313 : Index := 0#32
  ![v752.toNat, 1792, 0]
def k0_off165 (k0_t10 : Fin k0_t10_loop.trips) : Fin 3 → Nat :=
  let c0_i32_123 : BitVec 32 := 0#32
  let c1_i32_124 : BitVec 32 := 1#32
  let arg20 : BitVec 32 := Scf.iv c0_i32_123 c1_i32_124 k0_t10
  let c2_i32_128 : BitVec 32 := 2#32
  let v345 : BitVec 32 := Scalar.remsi arg20 c2_i32_128
  let v774 : Index := Scalar.indexCast v345
  let c1792_319 : Index := 1792#32
  let c0_320 : Index := 0#32
  ![v774.toNat, 1792, 0]
def k0_mult84 (k0_t10 : Fin k0_t10_loop.trips) : BitVec 32 :=
  let c0_i32_123 : BitVec 32 := 0#32
  let c1_i32_124 : BitVec 32 := 1#32
  let arg20 : BitVec 32 := Scf.iv c0_i32_123 c1_i32_124 k0_t10
  let c1_i32_126 : BitVec 32 := 1#32
  let v343 : BitVec 32 := Scalar.subi arg20 c1_i32_126
  let c0_i32_127 : BitVec 32 := 0#32
  let v344 : BitVec 32 := Scalar.maxsi v343 c0_i32_127
  let c256_i32_328 : BitVec 32 := 256#32
  let v800 : BitVec 32 := Scalar.muli v344 c256_i32_328
  let c0_i32_329 : BitVec 32 := 0#32
  let v801 : BitVec 32 := Scalar.addi v800 c0_i32_329
  v801
def k0_off166 (k0_t10 : Fin k0_t10_loop.trips) : Fin 3 → Nat :=
  let c0_330 : Index := 0#32
  let c0_i32_123 : BitVec 32 := 0#32
  let c1_i32_124 : BitVec 32 := 1#32
  let arg20 : BitVec 32 := Scf.iv c0_i32_123 c1_i32_124 k0_t10
  let c1_i32_126 : BitVec 32 := 1#32
  let v343 : BitVec 32 := Scalar.subi arg20 c1_i32_126
  let c0_i32_127 : BitVec 32 := 0#32
  let v344 : BitVec 32 := Scalar.maxsi v343 c0_i32_127
  let v803 : Index := Scalar.indexCast v344
  let c0_331 : Index := 0#32
  ![0, v803.toNat, 0]
def k0_off167 (k0_t10 : Fin k0_t10_loop.trips) (c0_i32_329 : BitVec 32) : Fin 3 → Nat :=
  let c0_332 : Index := 0#32
  let c0_333 : Index := 0#32
  let c0_i32_123 : BitVec 32 := 0#32
  let c1_i32_124 : BitVec 32 := 1#32
  let arg20 : BitVec 32 := Scf.iv c0_i32_123 c1_i32_124 k0_t10
  let c1_i32_126 : BitVec 32 := 1#32
  let v343 : BitVec 32 := Scalar.subi arg20 c1_i32_126
  let c0_i32_127 : BitVec 32 := 0#32
  let v344 : BitVec 32 := Scalar.maxsi v343 c0_i32_127
  let c256_i32_328 : BitVec 32 := 256#32
  let v800 : BitVec 32 := Scalar.muli v344 c256_i32_328
  let v801 : BitVec 32 := Scalar.addi v800 c0_i32_329
  let v802 : BitVec 32 := v801
  let v809 : Index := Scalar.indexCast v802
  ![0, 0, v809.toNat]
def k0_mult85 (k0_t10 : Fin k0_t10_loop.trips) : BitVec 32 :=
  let c0_i32_123 : BitVec 32 := 0#32
  let c1_i32_124 : BitVec 32 := 1#32
  let arg20 : BitVec 32 := Scf.iv c0_i32_123 c1_i32_124 k0_t10
  let c1_i32_126 : BitVec 32 := 1#32
  let v343 : BitVec 32 := Scalar.subi arg20 c1_i32_126
  let c0_i32_127 : BitVec 32 := 0#32
  let v344 : BitVec 32 := Scalar.maxsi v343 c0_i32_127
  let c256_i32_334 : BitVec 32 := 256#32
  let v817 : BitVec 32 := Scalar.muli v344 c256_i32_334
  let c128_i32_335 : BitVec 32 := 128#32
  let v818 : BitVec 32 := Scalar.addi v817 c128_i32_335
  v818
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048x64 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "sm_log2e" => some (((8 * (Real.log 2))⁻¹ : ℝ) : EReal)
  | _ => none
-- ==== ReferenceIdeal.lean ====
abbrev S8x2048x2048 : Shape := ⟨3, ![8, 2048, 2048]⟩
abbrev S8x32x2048 : Shape := ⟨3, ![8, 32, 2048]⟩
abbrev S8x8x2048x64 : Shape := ⟨4, ![8, 8, 2048, 64]⟩
abbrev S8x8x2048 : Shape := ⟨3, ![8, 8, 2048]⟩
abbrev S8x512x2048 : Shape := ⟨3, ![8, 512, 2048]⟩
abbrev S8x8x64 : Shape := ⟨3, ![8, 8, 64]⟩
abbrev S8x2048 : Shape := ⟨2, ![8, 2048]⟩
abbrev S8x8x4x64x2048 : Shape := ⟨5, ![8, 8, 4, 64, 2048]⟩
abbrev S8x8x64x2048 : Shape := ⟨4, ![8, 8, 64, 2048]⟩
abbrev S8x8x2048x4x2048 : Shape := ⟨5, ![8, 8, 2048, 4, 2048]⟩
abbrev S8x8x4x2048 : Shape := ⟨4, ![8, 8, 4, 2048]⟩
abbrev S8x8x2048x4 : Shape := ⟨4, ![8, 8, 2048, 4]⟩
abbrev S8x8x2048x4x1 : Shape := ⟨5, ![8, 8, 2048, 4, 1]⟩
abbrev S8x8x1x1x2048 : Shape := ⟨5, ![8, 8, 1, 1, 2048]⟩
abbrev S_ : Shape := ⟨0, ![]⟩
abbrev S2048 : Shape := ⟨1, ![2048]⟩
abbrev S8x2048x1 : Shape := ⟨3, ![8, 2048, 1]⟩
abbrev S8x1x2048 : Shape := ⟨3, ![8, 1, 2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S8x1x2048x1x2048 : Shape := ⟨5, ![8, 1, 2048, 1, 2048]⟩
abbrev S8x8x64x2048x4 : Shape := ⟨5, ![8, 8, 64, 2048, 4]⟩
abbrev S8x2048x8x4x64 : Shape := ⟨5, ![8, 2048, 8, 4, 64]⟩
abbrev S8x1x8x1x64 : Shape := ⟨5, ![8, 1, 8, 1, 64]⟩
abbrev S8x2048x8x4 : Shape := ⟨4, ![8, 2048, 8, 4]⟩
abbrev S8x2048x8x4x1 : Shape := ⟨5, ![8, 2048, 8, 4, 1]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x32x2048, .f32⟩
  | .hbm, ⟨2, _⟩ => ⟨S8x8x2048x64, .f32⟩
  | .hbm, ⟨3, _⟩ => ⟨S8x8x2048, .f32⟩
  | .hbm, ⟨4, _⟩ => ⟨S8x512x2048, .f32⟩
  | .hbm, ⟨5, _⟩ => ⟨S8x8x64, .f32⟩
  | .hbm, ⟨6, _⟩ => ⟨S8x2048, .i32⟩
  | .hbm, ⟨7, _⟩ => ⟨S8x2048, .i1⟩
  | .hbm, ⟨8, _⟩ => ⟨S8x8x4x64x2048, .f32⟩
  | .hbm, ⟨9, _⟩ => ⟨S8x8x64x2048, .f32⟩
  | .hbm, ⟨10, _⟩ => ⟨S8x8x2048x4x2048, .f32⟩
  | .hbm, ⟨11, _⟩ => ⟨S8x8x2048x4x2048, .f32⟩
  | .hbm, ⟨12, _⟩ => ⟨S8x8x4x2048, .f32⟩
  | .hbm, ⟨13, _⟩ => ⟨S8x8x2048x4, .f32⟩
  | .hbm, ⟨14, _⟩ => ⟨S8x8x2048x4x1, .f32⟩
  | .hbm, ⟨15, _⟩ => ⟨S8x8x2048x4x2048, .f32⟩
  | .hbm, ⟨16, _⟩ => ⟨S8x8x2048x4x2048, .f32⟩
  | .hbm, ⟨17, _⟩ => ⟨S8x8x1x1x2048, .f32⟩
  | .hbm, ⟨18, _⟩ => ⟨S_, .f32⟩
  | .hbm, ⟨19, _⟩ => ⟨S8x8x1x1x2048, .f32⟩
  | .hbm, ⟨20, _⟩ => ⟨S8x8x1x1x2048, .f32⟩
  | .hbm, ⟨21, _⟩ => ⟨S8x8x2048x4x2048, .f32⟩
  | .hbm, ⟨22, _⟩ => ⟨S8x8x2048x4x2048, .f32⟩
  | .hbm, ⟨23, _⟩ => ⟨S2048, .i32⟩
  | .hbm, ⟨24, _⟩ => ⟨S8x2048x1, .i32⟩
  | .hbm, ⟨25, _⟩ => ⟨S8x1x2048, .i32⟩
  | .hbm, ⟨26, _⟩ => ⟨S8x2048x2048, .i32⟩
  | .hbm, ⟨27, _⟩ => ⟨S8x2048x2048, .i32⟩
  | .hbm, ⟨28, _⟩ => ⟨S8x2048x2048, .i1⟩
  | .hbm, ⟨29, _⟩ => ⟨S8x1x2048, .i1⟩
  | .hbm, ⟨30, _⟩ => ⟨S1x1x2048, .i32⟩
  | .hbm, ⟨31, _⟩ => ⟨S1x2048x1, .i32⟩
  | .hbm, ⟨32, _⟩ => ⟨S1x2048x2048, .i32⟩
  | .hbm, ⟨33, _⟩ => ⟨S1x2048x2048, .i32⟩
  | .hbm, ⟨34, _⟩ => ⟨S1x2048x2048, .i1⟩
  | .hbm, ⟨35, _⟩ => ⟨S8x2048x2048, .i1⟩
  | .hbm, ⟨36, _⟩ => ⟨S8x2048x2048, .i1⟩
  | .hbm, ⟨37, _⟩ => ⟨S8x2048x2048, .i1⟩
  | .hbm, ⟨38, _⟩ => ⟨S8x2048x2048, .i1⟩
  | .hbm, ⟨39, _⟩ => ⟨S8x1x2048x1x2048, .i1⟩
  | .hbm, ⟨40, _⟩ => ⟨S_, .f32⟩
  | .hbm, ⟨41, _⟩ => ⟨S_, .f32⟩
  | .hbm, ⟨42, _⟩ => ⟨S8x8x2048x4x2048, .i1⟩
  | .hbm, ⟨43, _⟩ => ⟨S8x8x2048x4x2048, .f32⟩
  | .hbm, ⟨44, _⟩ => ⟨S8x8x2048x4x2048, .f32⟩
  | .hbm, ⟨45, _⟩ => ⟨S_, .f32⟩
  | .hbm, ⟨46, _⟩ => ⟨S8x8x2048x4, .f32⟩
  | .hbm, ⟨47, _⟩ => ⟨S8x8x2048x4x1, .f32⟩
  | .hbm, ⟨48, _⟩ => ⟨S8x8x2048x4x2048, .f32⟩
  | .hbm, ⟨49, _⟩ => ⟨S8x8x2048x4x2048, .f32⟩
  | .hbm, ⟨50, _⟩ => ⟨S8x8x2048x4x2048, .f32⟩
  | .hbm, ⟨51, _⟩ => ⟨S_, .f32⟩
  | .hbm, ⟨52, _⟩ => ⟨S8x8x2048x4, .f32⟩
  | .hbm, ⟨53, _⟩ => ⟨S_, .f32⟩
  | .hbm, ⟨54, _⟩ => ⟨S8x8x2048x4x2048, .f32⟩
  | .hbm, ⟨55, _⟩ => ⟨S8x8x2048x4x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x8x2048x4x2048, .f32⟩
  | .hbm, ⟨60, _⟩ => ⟨S8x8x2048x4x2048, .f32⟩
  | .hbm, ⟨61, _⟩ => ⟨S_, .f32⟩
  | .hbm, ⟨62, _⟩ => ⟨S8x8x2048x4x2048, .f32⟩
  | .hbm, ⟨63, _⟩ => ⟨S8x8x2048x4x2048, .f32⟩
  | .hbm, ⟨64, _⟩ => ⟨S8x8x64x2048x4, .f32⟩
  | .hbm, ⟨65, _⟩ => ⟨S8x2048x8x4x64, .f32⟩
  | .hbm, ⟨66, _⟩ => ⟨S_, .f32⟩
  | .hbm, ⟨67, _⟩ => ⟨S8x8x64, .f32⟩
  | .hbm, ⟨68, _⟩ => ⟨S8x8x64, .f32⟩
  | .hbm, ⟨69, _⟩ => ⟨S8x1x8x1x64, .f32⟩
  | .hbm, ⟨70, _⟩ => ⟨S8x2048x8x4x64, .f32⟩
  | .hbm, ⟨71, _⟩ => ⟨S8x2048x8x4x64, .f32⟩
  | .hbm, ⟨72, _⟩ => ⟨S8x2048x8x4, .f32⟩
  | .hbm, ⟨73, _⟩ => ⟨S8x2048x8x4x1, .f32⟩
  | .hbm, ⟨74, _⟩ => ⟨S8x2048x8x4x64, .f32⟩
  | .hbm, ⟨75, _⟩ => ⟨S8x2048x8x4x64, .f32⟩
  | .hbm, ⟨76, _⟩ => ⟨S8x2048x2048, .f32⟩
  | .hbm, ⟨77, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_cst_5 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Proof.Kernel.Trip.lean ====
/-
  ONE TRIP OF THE HEAD LOOP, WRITTEN ONCE.  Each of the kernel's ten loops runs, per trip `t`, the same steps: read the
  queries of head `min t 7` and the scales, the maximum stored for head `t - 1`; per chunk of keys write the scores of
  head `min t 7` into one slot of the score buffer and add the exponentials of head `t - 1`'s scores, read from the other
  slot, to its sum and to its weighted values; store the maximum, and write head `t - 1`'s output.  The loops differ in
  how many chunks of 256 keys they go through and whether one of 128 keys follows.  `tripP` is that program with the
  number of chunks a parameter, over the pure functions of what is loaded.
-/
module

public import proofs.«01_k».proof.Proof.Gen.Kernel
public import Idealize.ShloMosaic.Lib.VecWindow

@[expose] public section

set_option maxRecDepth 16384

noncomputable section

namespace Cert.Kernel.Attn

open Cert.Kernel
open Idealize.ShloMosaic Idealize.SL.Sem
open Facts₀ Facts

variable {F : FTy → Type} [FloatOps F]

/-! ## Words -/

/-- The trip's word, the heads whose scores it makes and whose output it writes, and its slot of the score buffer. -/
abbrev Trips : Type := Fin k0_t1_loop.trips
def ivW (t : Trips) : BitVec 32 := Scf.iv 0#32 1#32 t
def hpW (t : Trips) : BitVec 32 := Scalar.minsi (ivW t) 7#32
def hvW (t : Trips) : BitVec 32 := Scalar.maxsi (Scalar.subi (ivW t) 1#32) 0#32
def bfW (t : Trips) : BitVec 32 := Scalar.remsi (ivW t) 2#32

/-- The offsets of a chunk's accesses, at the word `kw` of its first key and its row `base` of the window. -/
def offK (t : Trips) (kw : BitVec 32) : Fin 4 → Nat := ![0, (Scalar.indexCast (hpW t)).toNat, (Scalar.indexCast kw).toNat, 0]
def offKs (t : Trips) (kw : BitVec 32) : Fin 3 → Nat := ![(Scalar.indexCast (hpW t)).toNat, (Scalar.indexCast kw).toNat, 0]
def offV (t : Trips) (kw : BitVec 32) : Fin 3 → Nat := ![0, (Scalar.indexCast (Scalar.muli (hvW t) 64#32)).toNat, (Scalar.indexCast kw).toNat]
def offPrev (t : Trips) (base : ℕ) : Fin 3 → Nat := ![(Scalar.indexCast (Scalar.subi 1#32 (bfW t))).toNat, base, 0]
def offCur (t : Trips) (base : ℕ) : Fin 3 → Nat := ![(Scalar.indexCast (bfW t)).toNat, base, 0]
/-- The word of the chunk `base` keys into the window that starts at word `k0w`. -/
def kwAt (k0w : BitVec 32) (base : ℕ) : BitVec 32 := Scalar.addi k0w (BitVec.ofNat 32 base)

theorem offK_eq (t : Trips) (kw : BitVec 32) : offK t kw = ![0, min t.val 7, kw.toNat, 0] := by
  have h : ∀ t : Trips, (Scalar.indexCast (hpW t)).toNat = min t.val 7 := by decide +kernel
  show ![0, (Scalar.indexCast (hpW t)).toNat, kw.toNat, 0] = _
  rw [h]
theorem offKs_eq (t : Trips) (kw : BitVec 32) : offKs t kw = ![min t.val 7, kw.toNat, 0] := by
  have h : ∀ t : Trips, (Scalar.indexCast (hpW t)).toNat = min t.val 7 := by decide +kernel
  show ![(Scalar.indexCast (hpW t)).toNat, kw.toNat, 0] = _
  rw [h]
theorem offV_eq (t : Trips) (kw : BitVec 32) : offV t kw = ![0, 64 * (t.val - 1), kw.toNat] := by
  have h : ∀ t : Trips, (Scalar.indexCast (Scalar.muli (hvW t) 64#32)).toNat = 64 * (t.val - 1) := by decide +kernel
  show ![0, (Scalar.indexCast (Scalar.muli (hvW t) 64#32)).toNat, kw.toNat] = _
  rw [h]
theorem offPrev_eq (t : Trips) (base : ℕ) : offPrev t base = ![1 - t.val % 2, base, 0] := by
  have h : ∀ t : Trips, (Scalar.indexCast (Scalar.subi 1#32 (bfW t))).toNat = 1 - t.val % 2 := by decide +kernel
  show ![(Scalar.indexCast (Scalar.subi 1#32 (bfW t))).toNat, base, 0] = _
  rw [h]
theorem offCur_eq (t : Trips) (base : ℕ) : offCur t base = ![t.val % 2, base, 0] := by
  have h : ∀ t : Trips, (Scalar.indexCast (bfW t)).toNat = t.val % 2 := by decide +kernel
  show ![(Scalar.indexCast (bfW t)).toNat, base, 0] = _
  rw [h]

theorem trips_lt (t : Trips) : t.val < 9 := t.isLt

/-- What one chunk carries on: the running maximum, the running sums and the weighted values. -/
structure St (F : FTy → Type) where
  mx : FVec F S8x512 .f32
  l : FVec F S8x512 .f32
  acc : FVec F S64x512 .f32

/-- What the chunks of a trip all read: the queries of the head whose scores are made, the other head's scales and its
    stored maximum. -/
structure In (F : FTy → Type) where
  q : FVec F S64x512 .fp8e4m3
  qs : FVec F S1x512 .f32
  m8 : FVec F S1x512 .f32

/-- Nothing gone through yet. -/
def st0 : St F where
  mx := broadcast S8x512 (Scalar.ofBits .f32 0xFF800000#32)
  l := broadcast S8x512 (Scalar.ofBits .f32 0x00000000#32)
  acc := broadcast S64x512 (Scalar.ofBits .f32 0x00000000#32)

/-! ## A chunk of 256 keys -/

/-- The scores of a chunk. -/
def sc256 (q : FVec F S64x512 .fp8e4m3) (xk : Vec F S1x1x256x64 .fp8e4m3) (xs : Vec F S1x256x128 .f32) (xb : Vec F S256x128 .f32) : FVec F S256x512 .f32 :=
  addf
    (mulf (matmul dot_S256x64_S64x512_S256x512_1_0_0_1_n_n none (shapeCast S256x64 xk shapeCasts_S1x1x256x64_S256x64) q (constant S256x512 .f32 0x00000000#32))
      (concatenate S256x512 1 [⟨S256x128, shapeCast S256x128 xs shapeCasts_S1x256x128_S256x128⟩, ⟨S256x128, shapeCast S256x128 xs shapeCasts_S1x256x128_S256x128⟩, ⟨S256x128, shapeCast S256x128 xs shapeCasts_S1x256x128_S256x128⟩, ⟨S256x128, shapeCast S256x128 xs shapeCasts_S1x256x128_S256x128⟩] concatenates_S256x128_S256x128_S256x128_S256x128_S256x512_d1))
    (concatenate S256x512 1 [⟨S256x128, xb⟩, ⟨S256x128, xb⟩, ⟨S256x128, xb⟩, ⟨S256x128, xb⟩] concatenates_S256x128_S256x128_S256x128_S256x128_S256x512_d1)

/-- The exponentials of a chunk of stored scores. -/
def ex256 (qs m8 : FVec F S1x512 .f32) (xp : Vec F S1x256x512 .f32) : FVec F S256x512 .f32 :=
  exp2 (subf (mulf (shapeCast S256x512 xp shapeCasts_S1x256x512_S256x512) (broadcastTo S256x512 qs broadcasts_S1x512_S256x512)) (broadcastTo S256x512 m8 broadcasts_S1x512_S256x512))

/-- What the chunk carries on. -/
def st256 (s : St F) (sc e : FVec F S256x512 .f32) (xv : Vec F S1x64x256 .fp8e4m3) : St F where
  mx := maximumf s.mx (multiReduction .maximumf [0] S8x512 (shapeCast S32x8x512 sc shapeCasts_S256x512_S32x8x512) 0xFF800000#32 reduces_S32x8x512_S8x512 (.inl rfl) rfl)
  l := addf s.l (multiReduction .add [0] S8x512 (shapeCast S32x8x512 e shapeCasts_S256x512_S32x8x512) 0x00000000#32 reduces_S32x8x512_S8x512 (.inl rfl) rfl)
  acc := addf s.acc
    (matmul dot_S64x256_S256x512_S64x512_1_0_0_1_n_n none (shapeCast S64x256 xv shapeCasts_S1x64x256_S64x256)
      (truncf .fp8e4m3 (minimumf (broadcast S256x512 (Scalar.ofBits .f32 0x43E00000#32)) (maximumf (broadcast S256x512 (Scalar.ofBits .f32 0xC3E00000#32)) e)) bitsLt_fp8e4m3_f32)
      (constant S64x512 .f32 0x00000000#32))

/-- The scores as they are stored. -/
def scSt256 (sc : FVec F S256x512 .f32) : FVec F S1x256x512 .f32 := shapeCast S1x256x512 sc shapeCasts_S256x512_S1x256x512

theorem offK_inb256 (t : Trips) (kw : BitVec 32) (h : kw.toNat + 256 ≤ 2048) : ∀ a, offK t kw a + S1x1x256x64.size a ≤ S1x8x2048x64.size a := by
  have ht := trips_lt t
  rw [offK_eq]
  intro a
  fin_cases a
  · show 0 + 1 ≤ 1; omega
  · show min t.val 7 + 1 ≤ 8; omega
  · exact h
  · show 0 + 64 ≤ 64; omega
theorem offKs_inb256 (t : Trips) (kw : BitVec 32) (h : kw.toNat + 256 ≤ 2048) : ∀ a, offKs t kw a + S1x256x128.size a ≤ S8x2048x128.size a := by
  have ht := trips_lt t
  rw [offKs_eq]
  intro a
  fin_cases a
  · show min t.val 7 + 1 ≤ 8; omega
  · exact h
  · show 0 + 128 ≤ 128; omega
theorem offV_inb256 (t : Trips) (kw : BitVec 32) (h : kw.toNat + 256 ≤ 2048) : ∀ a, offV t kw a + S1x64x256.size a ≤ S1x512x2048.size a := by
  have ht := trips_lt t
  rw [offV_eq]
  intro a
  fin_cases a
  · show 0 + 1 ≤ 1; omega
  · show 64 * (t.val - 1) + 64 ≤ 512; omega
  · exact h
theorem offPrev_inb256 (t : Trips) (b : ℕ) (h : b + 256 ≤ 2048) : ∀ a, offPrev t b a + S1x256x512.size a ≤ S2x2048x512.size a := by
  rw [offPrev_eq]
  intro a
  fin_cases a
  · show 1 - t.val % 2 + 1 ≤ 2; omega
  · exact h
  · show 0 + 512 ≤ 512; omega
theorem offCur_inb256 (t : Trips) (b : ℕ) (h : b + 256 ≤ 2048) : ∀ a, offCur t b a + S1x256x512.size a ≤ S2x2048x512.size a := by
  rw [offCur_eq]
  intro a
  fin_cases a
  · show t.val % 2 + 1 ≤ 2; omega
  · exact h
  · show 0 + 512 ≤ 512; omega
theorem offB_inb256 (b : ℕ) (h : b + 256 ≤ 2048) : ∀ a, (![b, 0] : Fin 2 → ℕ) a + S256x128.size a ≤ S2048x128.size a := by
  intro a
  fin_cases a
  · exact h
  · show 0 + 128 ≤ 128; omega

/-- One chunk of 256 keys, its first key at word `kw`, its rows from `base` of the window. -/
def chunk256 (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (kw : BitVec 32) (hk : kw.toNat + 256 ≤ 2048) (base : ℕ) (hb : base + 256 ≤ 2048) (inp : In F) (s : St F)
    (k : St F → Prog (TpuEff nD τ sig (Elt F) Λ₀ .tc) Unit) : Prog (TpuEff nD τ sig (Elt F) Λ₀ .tc) Unit :=
  .op (.load arg6 (Rect.unit (s := S1x8x2048x64) (offK t kw) S1x1x256x64.size (offK_inb256 t kw hk)).toLoadRect (View.loadsAt_vmem h_S1x1x256x64)) fun xk =>
  .op (.load arg14 (Rect.unit (s := S8x2048x128) (offKs t kw) S1x256x128.size (offKs_inb256 t kw hk)).toLoadRect (View.loadsAt_vmem h_S1x256x128)) fun xs =>
  .op (.load arg18 (Rect.unit (s := S2048x128) ![base, 0] S256x128.size (offB_inb256 base hb)).toLoadRect (View.loadsAt_vmem h_S256x128)) fun xb =>
  .op (.load arg17 (Rect.unit (s := S2x2048x512) (offPrev t base) S1x256x512.size (offPrev_inb256 t base hb)).toLoadRect (View.loadsAt_vmem h_S1x256x512)) fun xp =>
  .op (.load arg8 (Rect.unit (s := S1x512x2048) (offV t kw) S1x64x256.size (offV_inb256 t kw hk)).toLoadRect (View.loadsAt_vmem h_S1x64x256)) fun xv =>
  .op (.load arg17 (Rect.unit (s := S2x2048x512) (offCur t base) S1x256x512.size (offCur_inb256 t base hb)).toLoadRect (View.loadsAt_vmem h_S1x256x512)) fun _ =>
  .op (.store arg17 (Rect.unit (s := S2x2048x512) (offCur t base) S1x256x512.size (offCur_inb256 t base hb)) (scSt256 (sc256 inp.q xk xs xb)) Finset.univ (View.stores_vmem_bits_univ h_S1x256x512 rfl) (.inl rfl)) fun _ =>
  k (st256 s (sc256 inp.q xk xs xb) (ex256 inp.qs inp.m8 xp) xv)

/-! ## A chunk of 128 keys -/

/-- The scores of a chunk. -/
def sc128 (q : FVec F S64x512 .fp8e4m3) (xk : Vec F S1x1x128x64 .fp8e4m3) (xs : Vec F S1x128x128 .f32) (xb : Vec F S128x128 .f32) : FVec F S128x512 .f32 :=
  addf
    (mulf (matmul dot_S128x64_S64x512_S128x512_1_0_0_1_n_n none (shapeCast S128x64 xk shapeCasts_S1x1x128x64_S128x64) q (constant S128x512 .f32 0x00000000#32))
      (concatenate S128x512 1 [⟨S128x128, shapeCast S128x128 xs shapeCasts_S1x128x128_S128x128⟩, ⟨S128x128, shapeCast S128x128 xs shapeCasts_S1x128x128_S128x128⟩, ⟨S128x128, shapeCast S128x128 xs shapeCasts_S1x128x128_S128x128⟩, ⟨S128x128, shapeCast S128x128 xs shapeCasts_S1x128x128_S128x128⟩] concatenates_S128x128_S128x128_S128x128_S128x128_S128x512_d1))
    (concatenate S128x512 1 [⟨S128x128, xb⟩, ⟨S128x128, xb⟩, ⟨S128x128, xb⟩, ⟨S128x128, xb⟩] concatenates_S128x128_S128x128_S128x128_S128x128_S128x512_d1)

/-- The exponentials of a chunk of stored scores. -/
def ex128 (qs m8 : FVec F S1x512 .f32) (xp : Vec F S1x128x512 .f32) : FVec F S128x512 .f32 :=
  exp2 (subf (mulf (shapeCast S128x512 xp shapeCasts_S1x128x512_S128x512) (broadcastTo S128x512 qs broadcasts_S1x512_S128x512)) (broadcastTo S128x512 m8 broadcasts_S1x512_S128x512))

/-- What the chunk carries on. -/
def st128 (s : St F) (sc e : FVec F S128x512 .f32) (xv : Vec F S1x64x128 .fp8e4m3) : St F where
  mx := maximumf s.mx (multiReduction .maximumf [0] S8x512 (shapeCast S16x8x512 sc shapeCasts_S128x512_S16x8x512) 0xFF800000#32 reduces_S16x8x512_S8x512 (.inl rfl) rfl)
  l := addf s.l (multiReduction .add [0] S8x512 (shapeCast S16x8x512 e shapeCasts_S128x512_S16x8x512) 0x00000000#32 reduces_S16x8x512_S8x512 (.inl rfl) rfl)
  acc := addf s.acc
    (matmul dot_S64x128_S128x512_S64x512_1_0_0_1_n_n none (shapeCast S64x128 xv shapeCasts_S1x64x128_S64x128)
      (truncf .fp8e4m3 (minimumf (broadcast S128x512 (Scalar.ofBits .f32 0x43E00000#32)) (maximumf (broadcast S128x512 (Scalar.ofBits .f32 0xC3E00000#32)) e)) bitsLt_fp8e4m3_f32)
      (constant S64x512 .f32 0x00000000#32))

/-- The scores as they are stored. -/
def scSt128 (sc : FVec F S128x512 .f32) : FVec F S1x128x512 .f32 := shapeCast S1x128x512 sc shapeCasts_S128x512_S1x128x512

theorem offK_inb128 (t : Trips) (kw : BitVec 32) (h : kw.toNat + 128 ≤ 2048) : ∀ a, offK t kw a + S1x1x128x64.size a ≤ S1x8x2048x64.size a := by
  have ht := trips_lt t
  rw [offK_eq]
  intro a
  fin_cases a
  · show 0 + 1 ≤ 1; omega
  · show min t.val 7 + 1 ≤ 8; omega
  · exact h
  · show 0 + 64 ≤ 64; omega
theorem offKs_inb128 (t : Trips) (kw : BitVec 32) (h : kw.toNat + 128 ≤ 2048) : ∀ a, offKs t kw a + S1x128x128.size a ≤ S8x2048x128.size a := by
  have ht := trips_lt t
  rw [offKs_eq]
  intro a
  fin_cases a
  · show min t.val 7 + 1 ≤ 8; omega
  · exact h
  · show 0 + 128 ≤ 128; omega
theorem offV_inb128 (t : Trips) (kw : BitVec 32) (h : kw.toNat + 128 ≤ 2048) : ∀ a, offV t kw a + S1x64x128.size a ≤ S1x512x2048.size a := by
  have ht := trips_lt t
  rw [offV_eq]
  intro a
  fin_cases a
  · show 0 + 1 ≤ 1; omega
  · show 64 * (t.val - 1) + 64 ≤ 512; omega
  · exact h
theorem offPrev_inb128 (t : Trips) (b : ℕ) (h : b + 128 ≤ 2048) : ∀ a, offPrev t b a + S1x128x512.size a ≤ S2x2048x512.size a := by
  rw [offPrev_eq]
  intro a
  fin_cases a
  · show 1 - t.val % 2 + 1 ≤ 2; omega
  · exact h
  · show 0 + 512 ≤ 512; omega
theorem offCur_inb128 (t : Trips) (b : ℕ) (h : b + 128 ≤ 2048) : ∀ a, offCur t b a + S1x128x512.size a ≤ S2x2048x512.size a := by
  rw [offCur_eq]
  intro a
  fin_cases a
  · show t.val % 2 + 1 ≤ 2; omega
  · exact h
  · show 0 + 512 ≤ 512; omega
theorem offB_inb128 (b : ℕ) (h : b + 128 ≤ 2048) : ∀ a, (![b, 0] : Fin 2 → ℕ) a + S128x128.size a ≤ S2048x128.size a := by
  intro a
  fin_cases a
  · exact h
  · show 0 + 128 ≤ 128; omega

/-- One chunk of 128 keys, its first key at word `kw`, its rows from `base` of the window. -/
def chunk128 (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (kw : BitVec 32) (hk : kw.toNat + 128 ≤ 2048) (base : ℕ) (hb : base + 128 ≤ 2048) (inp : In F) (s : St F)
    (k : St F → Prog (TpuEff nD τ sig (Elt F) Λ₀ .tc) Unit) : Prog (TpuEff nD τ sig (Elt F) Λ₀ .tc) Unit :=
  .op (.load arg6 (Rect.unit (s := S1x8x2048x64) (offK t kw) S1x1x128x64.size (offK_inb128 t kw hk)).toLoadRect (View.loadsAt_vmem h_S1x1x128x64)) fun xk =>
  .op (.load arg14 (Rect.unit (s := S8x2048x128) (offKs t kw) S1x128x128.size (offKs_inb128 t kw hk)).toLoadRect (View.loadsAt_vmem h_S1x128x128)) fun xs =>
  .op (.load arg18 (Rect.unit (s := S2048x128) ![base, 0] S128x128.size (offB_inb128 base hb)).toLoadRect (View.loadsAt_vmem h_S128x128)) fun xb =>
  .op (.load arg17 (Rect.unit (s := S2x2048x512) (offPrev t base) S1x128x512.size (offPrev_inb128 t base hb)).toLoadRect (View.loadsAt_vmem h_S1x128x512)) fun xp =>
  .op (.load arg8 (Rect.unit (s := S1x512x2048) (offV t kw) S1x64x128.size (offV_inb128 t kw hk)).toLoadRect (View.loadsAt_vmem h_S1x64x128)) fun xv =>
  .op (.load arg17 (Rect.unit (s := S2x2048x512) (offCur t base) S1x128x512.size (offCur_inb128 t base hb)).toLoadRect (View.loadsAt_vmem h_S1x128x512)) fun _ =>
  .op (.store arg17 (Rect.unit (s := S2x2048x512) (offCur t base) S1x128x512.size (offCur_inb128 t base hb)) (scSt128 (sc128 inp.q xk xs xb)) Finset.univ (View.stores_vmem_bits_univ h_S1x128x512 rfl) (.inl rfl)) fun _ =>
  k (st128 s (sc128 inp.q xk xs xb) (ex128 inp.qs inp.m8 xp) xv)

/-! ## The trip -/

theorem kwAt_toNat (k0w : BitVec 32) (base : ℕ) (h : k0w.toNat + base < 2 ^ 32) : (kwAt k0w base).toNat = k0w.toNat + base := by
  show (k0w + BitVec.ofNat 32 base).toNat = _
  rw [BitVec.toNat_add, BitVec.toNat_ofNat]
  omega

theorem kwAt_le (k0w : BitVec 32) (base w n : ℕ) (hn : k0w.toNat + n ≤ 2048) (hb : base + w ≤ n) : (kwAt k0w base).toNat + w ≤ 2048 := by
  rw [kwAt_toNat] <;> omega

/-- `r` more chunks of 256 keys from chunk `j` on, in a window of `n` keys. -/
def chunks (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (k0w : BitVec 32) (n : ℕ) (hn : k0w.toNat + n ≤ 2048) (inp : In F)
    (k : St F → Prog (TpuEff nD τ sig (Elt F) Λ₀ .tc) Unit) : (r : ℕ) → (j : ℕ) → 256 * (j + r) ≤ n → St F → Prog (TpuEff nD τ sig (Elt F) Λ₀ .tc) Unit
  | 0, _, _, s => k s
  | r + 1, j, h, s => chunk256 arg4 arg5 arg6 arg8 arg9 arg13 harg13 arg14 arg17 arg18 arg19 t (kwAt k0w (256 * j)) (kwAt_le k0w (256 * j) 256 n hn (by omega)) (256 * j) (by omega) inp s
      (chunks arg4 arg5 arg6 arg8 arg9 arg13 harg13 arg14 arg17 arg18 arg19 t k0w n hn inp k r (j + 1) (by omega))

/-- All chunks of the window of `n` keys: `m` of 256, then one of 128 if `o`. -/
def window (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (k0w : BitVec 32) (m : ℕ) (o : Bool) (n : ℕ) (hn : k0w.toNat + n ≤ 2048) (h : n = 256 * m + cond o 128 0) (inp : In F)
    (k : St F → Prog (TpuEff nD τ sig (Elt F) Λ₀ .tc) Unit) : Prog (TpuEff nD τ sig (Elt F) Λ₀ .tc) Unit :=
  chunks arg4 arg5 arg6 arg8 arg9 arg13 harg13 arg14 arg17 arg18 arg19 t k0w n hn inp
    (match o, h with
      | true, h => fun s => chunk128 arg4 arg5 arg6 arg8 arg9 arg13 harg13 arg14 arg17 arg18 arg19 t (kwAt k0w (256 * m)) (kwAt_le k0w (256 * m) 128 n hn (h ▸ Nat.le_refl _)) (256 * m) (by have := h; simp only [cond_true] at this; omega) inp s k
      | false, _ => k) m 0 (by omega) st0

/-- Four rows of 128 side by side. -/
def cat4 (a b c d : Vec F S1x1x128 .f32) : FVec F S1x512 .f32 :=
  concatenate S1x512 1 [⟨S1x128, shapeCast S1x128 a shapeCasts_S1x1x128_S1x128⟩, ⟨S1x128, shapeCast S1x128 b shapeCasts_S1x1x128_S1x128⟩, ⟨S1x128, shapeCast S1x128 c shapeCasts_S1x1x128_S1x128⟩, ⟨S1x128, shapeCast S1x128 d shapeCasts_S1x1x128_S1x128⟩] concatenates_S1x128_S1x128_S1x128_S1x128_S1x512_d1
/-- Four heads' queries side by side. -/
def catQ (a b c d : Vec F S1x64x128 .fp8e4m3) : FVec F S64x512 .fp8e4m3 :=
  concatenate S64x512 1 [⟨S64x128, shapeCast S64x128 a shapeCasts_S1x64x128_S64x128⟩, ⟨S64x128, shapeCast S64x128 b shapeCasts_S1x64x128_S64x128⟩, ⟨S64x128, shapeCast S64x128 c shapeCasts_S1x64x128_S64x128⟩, ⟨S64x128, shapeCast S64x128 d shapeCasts_S1x64x128_S64x128⟩] concatenates_S64x128_S64x128_S64x128_S64x128_S64x512_d1

/-- The scaled maximum less 8, as stored. -/
def m8Of (mx : FVec F S8x512 .f32) (qs : FVec F S1x512 .f32) : FVec F S1x512 .f32 :=
  shapeCast S1x512 (subf (mulf (shapeCast S1x512 (multiReduction .maximumf [0] S512 mx 0xFF800000#32 reduces_S8x512_S512 (.inl rfl) rfl) shapeCasts_S512_S1x512) qs) (broadcast S1x512 (Scalar.ofBits .f32 0x41000000#32))) shapeCasts_S1x512_S1x512

/-- The weighted values over the sum. -/
def normOf (l : FVec F S8x512 .f32) (acc : FVec F S64x512 .f32) : FVec F S64x512 .bf16 :=
  truncf .bf16 (mulf acc (broadcastTo S64x512 (divf (broadcast S1x512 (Scalar.ofBits .f32 0x3F800000#32)) (shapeCast S1x512 (multiReduction .add [0] S512 l 0x00000000#32 reduces_S8x512_S512 (.inl rfl) rfl) shapeCasts_S512_S1x512)) broadcasts_S1x512_S64x512)) bitsLt_bf16_f32

/-- Two heads' outputs as stored. -/
def outOf (a b : FVec F S64x128 .bf16) (xs : Vec F S1x1x128 .f32) : FVec F S1x128x128 .bf16 :=
  shapeCast S1x128x128
    (mulf (transpose S128x128 [1, 0] (concatenate S128x128 0 [⟨S64x128, a⟩, ⟨S64x128, b⟩] concatenates_S64x128_S64x128_S128x128_d0) transposes_S128x128_p1_0_S128x128)
      (broadcastTo S128x128 (truncf .bf16 (shapeCast S1x128 xs shapeCasts_S1x1x128_S1x128) bitsLt_bf16_f32) broadcasts_S1x128_S128x128))
    shapeCasts_S128x128_S1x128x128

/-- The first two heads' outputs, and the last two's. -/
def outLo (p : FVec F S64x512 .bf16) (xs : Vec F S1x1x128 .f32) : FVec F S1x128x128 .bf16 :=
  outOf (extractStridedSlice S64x128 ![0, 0] p slices_S64x512_o0_0_S64x128) (extractStridedSlice S64x128 ![0, 128] p slices_S64x512_o0_128_S64x128) xs
def outHi (p : FVec F S64x512 .bf16) (xs : Vec F S1x1x128 .f32) : FVec F S1x128x128 .bf16 :=
  outOf (extractStridedSlice S64x128 ![0, 256] p slices_S64x512_o0_256_S64x128) (extractStridedSlice S64x128 ![0, 384] p slices_S64x512_o0_384_S64x128) xs

/-- The end of a trip. -/
def finish (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (qsp : FVec F S1x512 .f32) (s : St F) : Prog (TpuEff nD τ sig (Elt F) Λ₀ .tc) Unit :=
  .op (.load arg19 (Rect.unit (s := S8x512) ![0, 0] S1x512.size inb_S8x512_S1x512_0_0).toLoadRect (View.loadsAt_vmem h_S1x512)) fun _ =>
  .op (.store arg19 (Rect.unit (s := S8x512) ![0, 0] S1x512.size inb_S8x512_S1x512_0_0) (m8Of s.mx qsp) Finset.univ (View.stores_vmem_bits_univ h_S1x512 rfl) (.inl rfl)) fun _ =>
  .op (.load arg9 (Rect.unit (s := S1x8x128) (k0_off11 t) S1x1x128.size (k0_off11_inb t)).toLoadRect (View.loadsAt_vmem h_S1x1x128)) fun v1 =>
  .op (.load arg13 (Rect.unit (s := S1x128x2048) (k0_off12 t 0#32) S1x128x128.size (k0_off12_inb t 0)).toLoadRect (View.loadsAt_vmem h_S1x128x128)) fun _ =>
  .op (.store arg13 (Rect.unit (s := S1x128x2048) (k0_off12 t 0#32) S1x128x128.size (k0_off12_inb t 0)) (outLo (normOf s.l s.acc) v1) Finset.univ (View.stores_vmem h_S1x128x128 (harg13.storeExact_slice rfl _ (k0_off12_packedbf16 t 0)) (fun _ => rfl)) (.inl rfl)) fun _ =>
  .op (.load arg9 (Rect.unit (s := S1x8x128) (k0_off11 t) S1x1x128.size (k0_off11_inb t)).toLoadRect (View.loadsAt_vmem h_S1x1x128)) fun v2 =>
  .op (.load arg13 (Rect.unit (s := S1x128x2048) (k0_off12 t 128#32) S1x128x128.size (k0_off12_inb t 1)).toLoadRect (View.loadsAt_vmem h_S1x128x128)) fun _ =>
  .op (.store arg13 (Rect.unit (s := S1x128x2048) (k0_off12 t 128#32) S1x128x128.size (k0_off12_inb t 1)) (outHi (normOf s.l s.acc) v2) Finset.univ (View.stores_vmem h_S1x128x128 (harg13.storeExact_slice rfl _ (k0_off12_packedbf16 t 1)) (fun _ => rfl)) (.inl rfl)) fun _ =>
  .ret ⟨⟩

/-- One trip over a window of `m` chunks of 256 keys, and one of 128 if `o`, from the word `k0w` on. -/
def tripP (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (k0w : BitVec 32) (m : ℕ) (o : Bool) (n : ℕ) (hn : k0w.toNat + n ≤ 2048) (h : n = 256 * m + cond o 128 0) : Prog (TpuEff nD τ sig (Elt F) Λ₀ .tc) Unit :=
  .op (.load arg4 (Rect.unit (s := S1x2048x128) (k0_off3 t 0#32) S1x64x128.size (k0_off3_inb t 0)).toLoadRect (View.loadsAt_vmem h_S1x64x128)) fun q0 =>
  .op (.load arg4 (Rect.unit (s := S1x2048x128) (k0_off3 t 64#32) S1x64x128.size (k0_off3_inb t 1)).toLoadRect (View.loadsAt_vmem h_S1x64x128)) fun q1 =>
  .op (.load arg4 (Rect.unit (s := S1x2048x128) (k0_off3 t 128#32) S1x64x128.size (k0_off3_inb t 2)).toLoadRect (View.loadsAt_vmem h_S1x64x128)) fun q2 =>
  .op (.load arg4 (Rect.unit (s := S1x2048x128) (k0_off3 t 192#32) S1x64x128.size (k0_off3_inb t 3)).toLoadRect (View.loadsAt_vmem h_S1x64x128)) fun q3 =>
  .op (.load arg5 (Rect.unit (s := S1x32x128) (k0_off4 t 0#32) S1x1x128.size (k0_off4_inb t 0)).toLoadRect (View.loadsAt_vmem h_S1x1x128)) fun a0 =>
  .op (.load arg5 (Rect.unit (s := S1x32x128) (k0_off4 t 1#32) S1x1x128.size (k0_off4_inb t 1)).toLoadRect (View.loadsAt_vmem h_S1x1x128)) fun a1 =>
  .op (.load arg5 (Rect.unit (s := S1x32x128) (k0_off4 t 2#32) S1x1x128.size (k0_off4_inb t 2)).toLoadRect (View.loadsAt_vmem h_S1x1x128)) fun a2 =>
  .op (.load arg5 (Rect.unit (s := S1x32x128) (k0_off4 t 3#32) S1x1x128.size (k0_off4_inb t 3)).toLoadRect (View.loadsAt_vmem h_S1x1x128)) fun a3 =>
  .op (.load arg5 (Rect.unit (s := S1x32x128) (k0_off5 t 0#32) S1x1x128.size (k0_off5_inb t 0)).toLoadRect (View.loadsAt_vmem h_S1x1x128)) fun b0 =>
  .op (.load arg5 (Rect.unit (s := S1x32x128) (k0_off5 t 1#32) S1x1x128.size (k0_off5_inb t 1)).toLoadRect (View.loadsAt_vmem h_S1x1x128)) fun b1 =>
  .op (.load arg5 (Rect.unit (s := S1x32x128) (k0_off5 t 2#32) S1x1x128.size (k0_off5_inb t 2)).toLoadRect (View.loadsAt_vmem h_S1x1x128)) fun b2 =>
  .op (.load arg5 (Rect.unit (s := S1x32x128) (k0_off5 t 3#32) S1x1x128.size (k0_off5_inb t 3)).toLoadRect (View.loadsAt_vmem h_S1x1x128)) fun b3 =>
  .op (.load arg19 (Rect.unit (s := S8x512) ![0, 0] S1x512.size inb_S8x512_S1x512_0_0).toLoadRect (View.loadsAt_vmem h_S1x512)) fun (m8 : Vec F S1x512 .f32) =>
  window arg4 arg5 arg6 arg8 arg9 arg13 harg13 arg14 arg17 arg18 arg19 t k0w m o n hn h ⟨catQ q0 q1 q2 q3, cat4 b0 b1 b2 b3, m8⟩ (finish arg4 arg5 arg6 arg8 arg9 arg13 harg13 arg14 arg17 arg18 arg19 t (cat4 a0 a1 a2 a3))

end Cert.Kernel.Attn
-- ==== Proof.Kernel.Spec.lean ====
/-
  WHAT A TRIP COMPUTES, as pure functions of the blocks: the scores of a head, chunk by chunk, and the running maximum,
  sum and weighted values; then the buffers after a trip (`tripF`) and after the head loop (`loopF`).
-/
module

public import proofs.«01_k».proof.Proof.Kernel.Trip

@[expose] public section

set_option maxRecDepth 65536

noncomputable section

namespace Cert.Kernel.Attn

open Cert.Kernel
open Idealize.ShloMosaic

open Idealize.SL.Sem
open Facts₀ Facts

variable {F : FTy → Type} [FloatOps F]

theorem window_congr {α : Type} {s : Shape} (x : s.Idx → α) {off off' : Fin s.rank → ℕ} (size : Fin s.rank → ℕ) (h : off = off')
    (inb : ∀ a, off a + size a ≤ s.size a) (inb' : ∀ a, off' a + size a ≤ s.size a) :
    VecWindow.window x off size inb = VecWindow.window x off' size inb' := by
  subst h; rfl

/-- The blocks a head loop reads. -/
structure Env (F : FTy → Type) [FloatOps F] where
  q : S1x2048x128.Idx → Elt F .fp8e4m3
  qs : S1x32x128.Idx → Elt F .f32
  k : S1x8x2048x64.Idx → Elt F .fp8e4m3
  v : S1x512x2048.Idx → Elt F .fp8e4m3
  vs : S1x8x128.Idx → Elt F .f32
  ks : S8x2048x128.Idx → Elt F .f32
  b : S2048x128.Idx → Elt F .f32

theorem inbQ (h r : ℕ) (hh : h < 8) (hr : r < 4) : ∀ a, (![0, 256 * h + 64 * r, 0] : Fin 3 → ℕ) a + S1x64x128.size a ≤ S1x2048x128.size a := by
  intro a; fin_cases a
  · show 0 + 1 ≤ 1; omega
  · show 256 * h + 64 * r + 64 ≤ 2048; omega
  · show 0 + 128 ≤ 128; omega
theorem inbQs (h r : ℕ) (hh : h < 8) (hr : r < 4) : ∀ a, (![0, 4 * h + r, 0] : Fin 3 → ℕ) a + S1x1x128.size a ≤ S1x32x128.size a := by
  intro a; fin_cases a
  · show 0 + 1 ≤ 1; omega
  · show 4 * h + r + 1 ≤ 32; omega
  · show 0 + 128 ≤ 128; omega
theorem inbVs (h : ℕ) (hh : h < 8) : ∀ a, (![0, h, 0] : Fin 3 → ℕ) a + S1x1x128.size a ≤ S1x8x128.size a := by
  intro a; fin_cases a
  · show 0 + 1 ≤ 1; omega
  · show h + 1 ≤ 8; omega
  · show 0 + 128 ≤ 128; omega

section
variable (E : Env F)

/-- A head's queries, four groups side by side; their scales; the head's value scales. -/
def qH (h : ℕ) (hh : h < 8) : FVec F S64x512 .fp8e4m3 :=
  catQ (VecWindow.window E.q (![0, 256 * h + 64 * 0, 0] : Fin 3 → ℕ) S1x64x128.size (inbQ h 0 hh (by omega))) (VecWindow.window E.q (![0, 256 * h + 64 * 1, 0] : Fin 3 → ℕ) S1x64x128.size (inbQ h 1 hh (by omega)))
    (VecWindow.window E.q (![0, 256 * h + 64 * 2, 0] : Fin 3 → ℕ) S1x64x128.size (inbQ h 2 hh (by omega))) (VecWindow.window E.q (![0, 256 * h + 64 * 3, 0] : Fin 3 → ℕ) S1x64x128.size (inbQ h 3 hh (by omega)))
def qsH (h : ℕ) (hh : h < 8) : FVec F S1x512 .f32 :=
  cat4 (VecWindow.window E.qs (![0, 4 * h + 0, 0] : Fin 3 → ℕ) S1x1x128.size (inbQs h 0 hh (by omega))) (VecWindow.window E.qs (![0, 4 * h + 1, 0] : Fin 3 → ℕ) S1x1x128.size (inbQs h 1 hh (by omega)))
    (VecWindow.window E.qs (![0, 4 * h + 2, 0] : Fin 3 → ℕ) S1x1x128.size (inbQs h 2 hh (by omega))) (VecWindow.window E.qs (![0, 4 * h + 3, 0] : Fin 3 → ℕ) S1x1x128.size (inbQs h 3 hh (by omega)))
def vsH (h : ℕ) (hh : h < 8) : Vec F S1x1x128 .f32 := VecWindow.window E.vs (![0, h, 0] : Fin 3 → ℕ) S1x1x128.size (inbVs h hh)

theorem inbK256 (h key : ℕ) (hh : h < 8) (hk : key + 256 ≤ 2048) : ∀ a, (![0, h, key, 0] : Fin 4 → ℕ) a + S1x1x256x64.size a ≤ S1x8x2048x64.size a := by
  intro a; fin_cases a
  · show 0 + 1 ≤ 1; omega
  · show h + 1 ≤ 8; omega
  · exact hk
  · show 0 + 64 ≤ 64; omega
theorem inbC256 (h key : ℕ) (hh : h < 8) (hk : key + 256 ≤ 2048) : ∀ a, (![h, key, 0] : Fin 3 → ℕ) a + S1x256x128.size a ≤ S8x2048x128.size a := by
  intro a; fin_cases a
  · show h + 1 ≤ 8; omega
  · exact hk
  · show 0 + 128 ≤ 128; omega
theorem inbV256 (h key : ℕ) (hh : h < 8) (hk : key + 256 ≤ 2048) : ∀ a, (![0, 64 * h, key] : Fin 3 → ℕ) a + S1x64x256.size a ≤ S1x512x2048.size a := by
  intro a; fin_cases a
  · show 0 + 1 ≤ 1; omega
  · show 64 * h + 64 ≤ 512; omega
  · exact hk
theorem inbS256 (sl base : ℕ) (hh : sl < 2) (hk : base + 256 ≤ 2048) : ∀ a, (![sl, base, 0] : Fin 3 → ℕ) a + S1x256x512.size a ≤ S2x2048x512.size a := by
  intro a; fin_cases a
  · show sl + 1 ≤ 2; omega
  · exact hk
  · show 0 + 512 ≤ 512; omega

/-- The scores of head `h` against the 256 keys `base` into the window from key `k0` on. -/
def scH256 (k0 h base : ℕ) (hh : h < 8) (hb : k0 + base + 256 ≤ 2048) : FVec F S256x512 .f32 :=
  sc256 (qH E h hh) (VecWindow.window E.k (![0, h, k0 + base, 0] : Fin 4 → ℕ) S1x1x256x64.size (inbK256 h _ hh hb)) (VecWindow.window E.ks (![h, k0 + base, 0] : Fin 3 → ℕ) S1x256x128.size (inbC256 h _ hh hb))
    (VecWindow.window E.b (![base, 0] : Fin 2 → ℕ) S256x128.size (offB_inb256 base (by omega)))
/-- Those keys' values. -/
def vH256 (k0 h base : ℕ) (hh : h < 8) (hb : k0 + base + 256 ≤ 2048) : Vec F S1x64x256 .fp8e4m3 :=
  VecWindow.window E.v (![0, 64 * h, k0 + base] : Fin 3 → ℕ) S1x64x256.size (inbV256 h _ hh hb)

/-- The slot `sl` of the score buffer, 256 keys from `base` on. -/
def slot256 (X : S2x2048x512.Idx → Elt F .f32) (sl base : ℕ) (hh : sl < 2) (hk : base + 256 ≤ 2048) : Vec F S1x256x512 .f32 :=
  VecWindow.window X (![sl, base, 0] : Fin 3 → ℕ) S1x256x512.size (inbS256 sl base hh hk)

/-- One chunk of 256 keys: what it carries on and the score buffer after it. -/
def step256 (k0 : ℕ) (t : Trips) (base : ℕ) (hb : k0 + base + 256 ≤ 2048) (m8 : FVec F S1x512 .f32) (s : St F) (X : S2x2048x512.Idx → Elt F .f32) : St F × (S2x2048x512.Idx → Elt F .f32) :=
  (st256 s (scH256 E k0 (min t.val 7) base (by omega) hb)
      (ex256 (qsH E (t.val - 1) (by have := trips_lt t; omega)) m8 (slot256 X (1 - t.val % 2) base (by omega) (by omega)))
      (vH256 E k0 (t.val - 1) base (by have := trips_lt t; omega) hb),
    VecWindow.put X (![t.val % 2, base, 0] : Fin 3 → ℕ) S1x256x512.size (scSt256 (scH256 E k0 (min t.val 7) base (by omega) hb)))

theorem inbK128 (h key : ℕ) (hh : h < 8) (hk : key + 128 ≤ 2048) : ∀ a, (![0, h, key, 0] : Fin 4 → ℕ) a + S1x1x128x64.size a ≤ S1x8x2048x64.size a := by
  intro a; fin_cases a
  · show 0 + 1 ≤ 1; omega
  · show h + 1 ≤ 8; omega
  · exact hk
  · show 0 + 64 ≤ 64; omega
theorem inbC128 (h key : ℕ) (hh : h < 8) (hk : key + 128 ≤ 2048) : ∀ a, (![h, key, 0] : Fin 3 → ℕ) a + S1x128x128.size a ≤ S8x2048x128.size a := by
  intro a; fin_cases a
  · show h + 1 ≤ 8; omega
  · exact hk
  · show 0 + 128 ≤ 128; omega
theorem inbV128 (h key : ℕ) (hh : h < 8) (hk : key + 128 ≤ 2048) : ∀ a, (![0, 64 * h, key] : Fin 3 → ℕ) a + S1x64x128.size a ≤ S1x512x2048.size a := by
  intro a; fin_cases a
  · show 0 + 1 ≤ 1; omega
  · show 64 * h + 64 ≤ 512; omega
  · exact hk
theorem inbS128 (sl base : ℕ) (hh : sl < 2) (hk : base + 128 ≤ 2048) : ∀ a, (![sl, base, 0] : Fin 3 → ℕ) a + S1x128x512.size a ≤ S2x2048x512.size a := by
  intro a; fin_cases a
  · show sl + 1 ≤ 2; omega
  · exact hk
  · show 0 + 512 ≤ 512; omega

/-- The scores of head `h` against the 128 keys `base` into the window from key `k0` on. -/
def scH128 (k0 h base : ℕ) (hh : h < 8) (hb : k0 + base + 128 ≤ 2048) : FVec F S128x512 .f32 :=
  sc128 (qH E h hh) (VecWindow.window E.k (![0, h, k0 + base, 0] : Fin 4 → ℕ) S1x1x128x64.size (inbK128 h _ hh hb)) (VecWindow.window E.ks (![h, k0 + base, 0] : Fin 3 → ℕ) S1x128x128.size (inbC128 h _ hh hb))
    (VecWindow.window E.b (![base, 0] : Fin 2 → ℕ) S128x128.size (offB_inb128 base (by omega)))
/-- Those keys' values. -/
def vH128 (k0 h base : ℕ) (hh : h < 8) (hb : k0 + base + 128 ≤ 2048) : Vec F S1x64x128 .fp8e4m3 :=
  VecWindow.window E.v (![0, 64 * h, k0 + base] : Fin 3 → ℕ) S1x64x128.size (inbV128 h _ hh hb)

/-- The slot `sl` of the score buffer, 128 keys from `base` on. -/
def slot128 (X : S2x2048x512.Idx → Elt F .f32) (sl base : ℕ) (hh : sl < 2) (hk : base + 128 ≤ 2048) : Vec F S1x128x512 .f32 :=
  VecWindow.window X (![sl, base, 0] : Fin 3 → ℕ) S1x128x512.size (inbS128 sl base hh hk)

/-- One chunk of 128 keys: what it carries on and the score buffer after it. -/
def step128 (k0 : ℕ) (t : Trips) (base : ℕ) (hb : k0 + base + 128 ≤ 2048) (m8 : FVec F S1x512 .f32) (s : St F) (X : S2x2048x512.Idx → Elt F .f32) : St F × (S2x2048x512.Idx → Elt F .f32) :=
  (st128 s (scH128 E k0 (min t.val 7) base (by omega) hb)
      (ex128 (qsH E (t.val - 1) (by have := trips_lt t; omega)) m8 (slot128 X (1 - t.val % 2) base (by omega) (by omega)))
      (vH128 E k0 (t.val - 1) base (by have := trips_lt t; omega) hb),
    VecWindow.put X (![t.val % 2, base, 0] : Fin 3 → ℕ) S1x128x512.size (scSt128 (scH128 E k0 (min t.val 7) base (by omega) hb)))

/-- `r` chunks of 256 keys from chunk `j` on. -/
def chunksF (k0 n : ℕ) (hn : k0 + n ≤ 2048) (t : Trips) (m8 : FVec F S1x512 .f32) : (r j : ℕ) → 256 * (j + r) ≤ n → St F → (S2x2048x512.Idx → Elt F .f32) → St F × (S2x2048x512.Idx → Elt F .f32)
  | 0, _, _, s, X => (s, X)
  | r + 1, j, h, s, X => chunksF k0 n hn t m8 r (j + 1) (by omega) (step256 E k0 t (256 * j) (by omega) m8 s X).1 (step256 E k0 t (256 * j) (by omega) m8 s X).2

/-- All chunks of the window. -/
def windowF (k0 n : ℕ) (hn : k0 + n ≤ 2048) (t : Trips) (m8 : FVec F S1x512 .f32) (m : ℕ) (o : Bool) (h : n = 256 * m + cond o 128 0) (X : S2x2048x512.Idx → Elt F .f32) : St F × (S2x2048x512.Idx → Elt F .f32) :=
  match o, h with
  | true, h =>
    step128 E k0 t (256 * m) (by simp only [cond_true] at h; omega) m8 (chunksF E k0 n hn t m8 m 0 (by omega) st0 X).1 (chunksF E k0 n hn t m8 m 0 (by omega) st0 X).2
  | false, _ => chunksF E k0 n hn t m8 m 0 (by omega) st0 X

/-- The buffers a trip changes: the scores, the stored maximum, the output block. -/
structure Mem (F : FTy → Type) [FloatOps F] where
  s : S2x2048x512.Idx → Elt F .f32
  m : S8x512.Idx → Elt F .f32
  o : S1x128x2048.Idx → Elt F .bf16

/-- The stored maximum. -/
def m8At (M : Mem F) : FVec F S1x512 .f32 := VecWindow.window M.m (![0, 0] : Fin 2 → ℕ) S1x512.size inb_S8x512_S1x512_0_0

/-- The buffers after a trip whose chunks carried on `st` and left the scores at `X`. -/
def finF (t : Trips) (M : Mem F) (st : St F) (X : S2x2048x512.Idx → Elt F .f32) : Mem F where
  s := X
  m := VecWindow.put M.m (![0, 0] : Fin 2 → ℕ) S1x512.size (m8Of st.mx (qsH E (min t.val 7) (by omega)))
  o := VecWindow.put (VecWindow.put M.o (![0, 0, 256 * (t.val - 1)] : Fin 3 → ℕ) S1x128x128.size (outLo (normOf st.l st.acc) (vsH E (t.val - 1) (by have := trips_lt t; omega))))
    (![0, 0, 256 * (t.val - 1) + 128] : Fin 3 → ℕ) S1x128x128.size (outHi (normOf st.l st.acc) (vsH E (t.val - 1) (by have := trips_lt t; omega)))

/-- The buffers after a trip. -/
def tripF (k0 n : ℕ) (hn : k0 + n ≤ 2048) (m : ℕ) (o : Bool) (h : n = 256 * m + cond o 128 0) (t : Trips) (M : Mem F) : Mem F :=
  finF E t M (windowF E k0 n hn t (m8At M) m o h M.s).1 (windowF E k0 n hn t (m8At M) m o h M.s).2

/-- The buffers after `r` trips. -/
def loopF (k0 n : ℕ) (hn : k0 + n ≤ 2048) (m : ℕ) (o : Bool) (h : n = 256 * m + cond o 128 0) (M : Mem F) : ℕ → Mem F
  | 0 => M
  | r + 1 => if hr : r < 9 then tripF E k0 n hn m o h ⟨r, hr⟩ (loopF k0 n hn m o h M r) else loopF k0 n hn m o h M r

end

end Cert.Kernel.Attn
-- ==== Proof.Kernel.Body.lean ====
/-
  THE KERNEL'S BODY, WRITTEN ONCE.  `bodyP` is the program of one grid point: at the first block of a batch it copies the
  keys' scales, segments and positions down the columns of three buffers (`initP`); then it reads the first block of keys
  and the number of blocks from the tables and runs the arm for that number (`armP`): the mask of the window, then the
  head loop over `tripP`.  The printed body is `bodyP`, by definitional unfolding.
-/
module

public import proofs.«01_k».proof.Proof.Kernel.Trip
public import proofs.«01_k».proof.Proof.Gen.Kernel.Skeleton

@[expose] public section

set_option maxRecDepth 65536
set_option maxHeartbeats 4000000

noncomputable section

namespace Cert.Kernel.Attn

open Cert.Kernel
open Idealize.ShloMosaic Idealize.SL.Sem
open Facts₀ Facts

variable {F : FTy → Type} [FloatOps F]

/-- The word of the first key of a window: the first block's, moved back to fit. -/
def k0At (v5 : BitVec 32) (c : BitVec 32) : BitVec 32 := Scalar.muli (Scalar.minsi v5 c) 128#32

/-! ## The copies down the columns -/

/-- The constant the keys' scales are multiplied by. -/
def cScale : F .f32 := Scalar.ofBits .f32 0x3E38AA3B#32
def cOne : F .f32 := Scalar.ofBits .f32 0x3F800000#32

/-- A row times `c`, down 128 columns. -/
def colOf (c : F .f32) (x : Vec F S1x1x128 .f32) : FVec F S128x128 .f32 :=
  shapeCast S128x128 (transpose S128x128 [1, 0] (broadcastTo S128x128 (shapeCast S1x128 (mulf (shapeCast S1x128 x shapeCasts_S1x1x128_S1x128) (broadcast S1x128 c)) shapeCasts_S1x128_S1x128) broadcasts_S1x128_S128x128) transposes_S128x128_p1_0_S128x128) shapeCasts_S128x128_S128x128

theorem inbKs (h : ℕ) (j : ℕ) (hh : h < 8) (hj : j < 16) : ∀ a, (![0, h, 128 * j] : Fin 3 → ℕ) a + S1x1x128.size a ≤ S1x8x2048.size a := by
  intro a
  fin_cases a
  · show 0 + 1 ≤ 1; omega
  · show h + 1 ≤ 8; omega
  · show 128 * j + 128 ≤ 2048; omega
theorem inbRow (j : ℕ) (hj : j < 16) : ∀ a, (![0, 0, 128 * j] : Fin 3 → ℕ) a + S1x1x128.size a ≤ S1x1x2048.size a := by
  intro a
  fin_cases a
  · show 0 + 1 ≤ 1; omega
  · show 0 + 1 ≤ 1; omega
  · show 128 * j + 128 ≤ 2048; omega
theorem inbCol (j : ℕ) (hj : j < 16) : ∀ a, (![128 * j, 0] : Fin 2 → ℕ) a + S128x128.size a ≤ S2048x128.size a := by
  intro a
  fin_cases a
  · show 128 * j + 128 ≤ 2048; omega
  · show 0 + 128 ≤ 128; omega
theorem inbHead (h : ℕ) (hh : h < 8) : ∀ a, (![h, 0, 0] : Fin 3 → ℕ) a + S1x2048x128.size a ≤ S8x2048x128.size a := by
  intro a
  fin_cases a
  · show h + 1 ≤ 8; omega
  · show 0 + 2048 ≤ 2048; omega
  · show 0 + 128 ≤ 128; omega

/-- Head `h`'s plane of the scale buffer. -/
def headRef (arg14 : Memref sig .tc .vmem S8x2048x128 .f32) (h : ℕ) (hh : h < 8) : Memref sig .tc .vmem S2048x128 .f32 :=
  (arg14.slice (Rect.unit (s := S8x2048x128) ![h, 0, 0] S1x2048x128.size (inbHead h hh)) (fun _ => rfl)).squeeze S2048x128 squeezes_S1x2048x128_S2048x128

/-- Head `h`'s scales from chunk `j` on, `r` chunks. -/
def ksChunks (arg7 : Memref sig .tc .vmem S1x8x2048 .f32) (arg14 : Memref sig .tc .vmem S8x2048x128 .f32) (h : ℕ) (hh : h < 8) (k : Prog (TpuEff nD τ sig (Elt F) Λ₀ .tc) Unit) :
    (r : ℕ) → (j : ℕ) → j + r ≤ 16 → Prog (TpuEff nD τ sig (Elt F) Λ₀ .tc) Unit
  | 0, _, _ => k
  | r + 1, j, hj =>
    .op (.load arg7 (Rect.unit (s := S1x8x2048) ![0, h, 128 * j] S1x1x128.size (inbKs h j hh (by omega))).toLoadRect (View.loadsAt_vmem h_S1x1x128)) fun x =>
    .op (.load (headRef arg14 h hh) (Rect.unit (s := S2048x128) ![128 * j, 0] S128x128.size (inbCol j (by omega))).toLoadRect (View.loadsAt_vmem h_S128x128)) fun _ =>
    .op (.store (headRef arg14 h hh) (Rect.unit (s := S2048x128) ![128 * j, 0] S128x128.size (inbCol j (by omega))) (colOf cScale x) Finset.univ (View.stores_vmem_bits_univ h_S128x128 rfl) (.inl rfl)) fun _ =>
    ksChunks arg7 arg14 h hh k r (j + 1) (by omega)

/-- All heads' scales from head `h` on, `r` heads. -/
def ksHeads (arg7 : Memref sig .tc .vmem S1x8x2048 .f32) (arg14 : Memref sig .tc .vmem S8x2048x128 .f32) (k : Prog (TpuEff nD τ sig (Elt F) Λ₀ .tc) Unit) :
    (r : ℕ) → (h : ℕ) → h + r ≤ 8 → Prog (TpuEff nD τ sig (Elt F) Λ₀ .tc) Unit
  | 0, _, _ => k
  | r + 1, h, hh => ksChunks arg7 arg14 h (by omega) (ksHeads arg7 arg14 k r (h + 1) (by omega)) 16 0 (by omega)

/-- One row's copy from chunk `j` on, `r` chunks. -/
def rowChunks (src : Memref sig .tc .vmem S1x1x2048 .f32) (dst : Memref sig .tc .vmem S2048x128 .f32) (k : Prog (TpuEff nD τ sig (Elt F) Λ₀ .tc) Unit) :
    (r : ℕ) → (j : ℕ) → j + r ≤ 16 → Prog (TpuEff nD τ sig (Elt F) Λ₀ .tc) Unit
  | 0, _, _ => k
  | r + 1, j, hj =>
    .op (.load src (Rect.unit (s := S1x1x2048) ![0, 0, 128 * j] S1x1x128.size (inbRow j (by omega))).toLoadRect (View.loadsAt_vmem h_S1x1x128)) fun x =>
    .op (.load dst (Rect.unit (s := S2048x128) ![128 * j, 0] S128x128.size (inbCol j (by omega))).toLoadRect (View.loadsAt_vmem h_S128x128)) fun _ =>
    .op (.store dst (Rect.unit (s := S2048x128) ![128 * j, 0] S128x128.size (inbCol j (by omega))) (colOf cOne x) Finset.univ (View.stores_vmem_bits_univ h_S128x128 rfl) (.inl rfl)) fun _ =>
    rowChunks src dst k r (j + 1) (by omega)

/-- The copies of a batch. -/
def initP (arg7 : Memref sig .tc .vmem S1x8x2048 .f32) (arg11 arg12 : Memref sig .tc .vmem S1x1x2048 .f32) (arg14 : Memref sig .tc .vmem S8x2048x128 .f32) (arg15 arg16 : Memref sig .tc .vmem S2048x128 .f32) : Prog (TpuEff nD τ sig (Elt F) Λ₀ .tc) Unit :=
  ksHeads arg7 arg14 (rowChunks arg11 arg15 (rowChunks arg12 arg16 (.ret ⟨⟩) 16 0 (by omega)) 16 0 (by omega)) 8 0 (by omega)

/-! ## The mask of a window -/

/-- The mask's chunk: 0 where the key has the query's segment and a position up to the query's, `-∞` elsewhere. -/
def biasOf (i : grid0.Coords) (seg : Vec F S1x1x128 .f32) (xs xp : Vec F S128x128 .f32) : FVec F S128x128 .f32 :=
  shapeCast S128x128
    (select (andi (cmpf .oeq xs (broadcastTo S128x128 (shapeCast S1x128 seg shapeCasts_S1x1x128_S1x128) broadcasts_S1x128_S128x128))
        (cmpf .ole xp (broadcastTo S128x128 (sitofp .f32 (addi (iota .tc S1x128 32 [1] iota_S1x128_d1_w32) (broadcast S1x128 (Scalar.muli (BitVec.ofNat 32 (i 1).val) 128#32)))) broadcasts_S1x128_S128x128)))
      (broadcast S128x128 (Scalar.ofBits .f32 0x00000000#32)) (broadcast S128x128 (Scalar.ofBits .f32 0xFF800000#32)))
    shapeCasts_S128x128_S128x128

def offM (kw : BitVec 32) : Fin 2 → ℕ := ![(Scalar.indexCast kw).toNat, 0]
theorem offM_inb (kw : BitVec 32) (h : kw.toNat + 128 ≤ 2048) : ∀ a, offM kw a + S128x128.size a ≤ S2048x128.size a := by
  intro a
  fin_cases a
  · exact h
  · show 0 + 128 ≤ 128; omega

/-- The mask from chunk `j` on, `r` chunks, in a window of `n` keys from word `k0w` on. -/
def biasChunks (i : grid0.Coords) (arg15 arg16 arg18 : Memref sig .tc .vmem S2048x128 .f32) (k0w : BitVec 32) (n : ℕ) (hn : k0w.toNat + n ≤ 2048) (seg : Vec F S1x1x128 .f32)
    (k : Prog (TpuEff nD τ sig (Elt F) Λ₀ .tc) Unit) : (r : ℕ) → (j : ℕ) → 128 * (j + r) ≤ n → Prog (TpuEff nD τ sig (Elt F) Λ₀ .tc) Unit
  | 0, _, _ => k
  | r + 1, j, h =>
    .op (.load arg15 (Rect.unit (s := S2048x128) (offM (kwAt k0w (128 * j))) S128x128.size (offM_inb _ (kwAt_le k0w (128 * j) 128 n hn (by omega)))).toLoadRect (View.loadsAt_vmem h_S128x128)) fun xs =>
    .op (.load arg16 (Rect.unit (s := S2048x128) (offM (kwAt k0w (128 * j))) S128x128.size (offM_inb _ (kwAt_le k0w (128 * j) 128 n hn (by omega)))).toLoadRect (View.loadsAt_vmem h_S128x128)) fun xp =>
    .op (.load arg18 (Rect.unit (s := S2048x128) ![128 * j, 0] S128x128.size (inbCol j (by omega))).toLoadRect (View.loadsAt_vmem h_S128x128)) fun _ =>
    .op (.store arg18 (Rect.unit (s := S2048x128) ![128 * j, 0] S128x128.size (inbCol j (by omega))) (biasOf i seg xs xp) Finset.univ (View.stores_vmem_bits_univ h_S128x128 rfl) (.inl rfl)) fun _ =>
    biasChunks i arg15 arg16 arg18 k0w n hn seg k r (j + 1) (by omega)

/-! ## The arms -/

section
variable (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole)

/-- The arm of a window of `nb` blocks of 128 keys: the mask, then the head loop. -/
def armP (k0w : BitVec 32) (nb m : ℕ) (o : Bool) (hn : k0w.toNat + 128 * nb ≤ 2048) (h : 128 * nb = 256 * m + cond o 128 0) : Prog (TpuEff nD τ sig (Elt F) Λ₀ .tc) Unit :=
  .op (.load arg10 (Rect.unit (s := S1x1x128) ![0, 0, 0] S1x1x128.size inb_S1x1x128_S1x1x128_0_0_0).toLoadRect (View.loadsAt_vmem h_S1x1x128)) fun (seg : Vec F S1x1x128 .f32) =>
  biasChunks i arg15 arg16 arg18 k0w (128 * nb) hn seg
    (Scf.Loop.for k0_t1_loop k0_t1_ok ⟨⟩ (fun t _ => tripP arg4 arg5 arg6 arg8 arg9 arg13 harg13 arg14 arg17 arg18 arg19 t k0w m o (128 * nb) hn h)) nb 0 (by omega)

theorem hn_of (k0w : BitVec 32) (nb : ℕ) (h0 : (kwAt k0w 0).toNat + 128 ≤ 2048) (h1 : (kwAt k0w (128 * (nb - 1))).toNat + 128 ≤ 2048) (hnb : nb ≤ 16) (hp : 0 < nb) :
    k0w.toNat + 128 * nb ≤ 2048 := by
  have e : kwAt k0w 0 = k0w := by show k0w + 0#32 = k0w; simp
  rw [e] at h0
  rw [kwAt_toNat _ _ (by omega)] at h1
  omega
theorem hn1 (v5 v8 : BitVec 32) (hw : k0_chk1 v5 v8) (h : k0_cond2 v8 = 1#1) : (k0At v5 15#32).toNat + 128 * 1 ≤ 2048 :=
  hn_of (k0At v5 15#32) 1 (k0_off2_inb v5 v8 hw h 0) (k0_off2_inb v5 v8 hw h 0) (by omega) (by omega)
theorem hn2 (v5 v8 : BitVec 32) (hw : k0_chk1 v5 v8) (h : k0_cond3 v8 = 1#1) : (k0At v5 14#32).toNat + 128 * 2 ≤ 2048 :=
  hn_of (k0At v5 14#32) 2 (k0_off13_inb v5 v8 hw h 0 0) (k0_off13_inb v5 v8 hw h 1 0) (by omega) (by omega)
theorem hn3 (v5 v8 : BitVec 32) (hw : k0_chk1 v5 v8) (h : k0_cond4 v8 = 1#1) : (k0At v5 13#32).toNat + 128 * 3 ≤ 2048 :=
  hn_of (k0At v5 13#32) 3 (k0_off24_inb v5 v8 hw h 0 0) (k0_off24_inb v5 v8 hw h 2 0) (by omega) (by omega)
theorem hn4 (v5 v8 : BitVec 32) (hw : k0_chk1 v5 v8) (h : k0_cond5 v8 = 1#1) : (k0At v5 12#32).toNat + 128 * 4 ≤ 2048 :=
  hn_of (k0At v5 12#32) 4 (k0_off40_inb v5 v8 hw h 0 0) (k0_off40_inb v5 v8 hw h 3 0) (by omega) (by omega)
theorem hn5 (v5 v8 : BitVec 32) (hw : k0_chk1 v5 v8) (h : k0_cond6 v8 = 1#1) : (k0At v5 11#32).toNat + 128 * 5 ≤ 2048 :=
  hn_of (k0At v5 11#32) 5 (k0_off53_inb v5 v8 hw h 0 0) (k0_off53_inb v5 v8 hw h 4 0) (by omega) (by omega)
theorem hn6 (v5 v8 : BitVec 32) (hw : k0_chk1 v5 v8) (h : k0_cond7 v8 = 1#1) : (k0At v5 10#32).toNat + 128 * 6 ≤ 2048 :=
  hn_of (k0At v5 10#32) 6 (k0_off71_inb v5 v8 hw h 0 0) (k0_off71_inb v5 v8 hw h 5 0) (by omega) (by omega)
theorem hn7 (v5 v8 : BitVec 32) (hw : k0_chk1 v5 v8) (h : k0_cond8 v8 = 1#1) : (k0At v5 8#32).toNat + 128 * 8 ≤ 2048 :=
  hn_of (k0At v5 8#32) 8 (k0_off86_inb v5 v8 hw h 0 0) (k0_off86_inb v5 v8 hw h 7 0) (by omega) (by omega)
theorem hn8 (v5 v8 : BitVec 32) (hw : k0_chk1 v5 v8) (h : k0_cond9 v8 = 1#1) : (k0At v5 6#32).toNat + 128 * 10 ≤ 2048 :=
  hn_of (k0At v5 6#32) 10 (k0_off103_inb v5 v8 hw h 0 0) (k0_off103_inb v5 v8 hw h 9 0) (by omega) (by omega)
theorem hn9 (v5 v8 : BitVec 32) (hw : k0_chk1 v5 v8) (h : k0_cond10 v8 = 1#1) : (k0At v5 4#32).toNat + 128 * 12 ≤ 2048 :=
  hn_of (k0At v5 4#32) 12 (k0_off122_inb v5 v8 hw h 0 0) (k0_off122_inb v5 v8 hw h 11 0) (by omega) (by omega)
theorem hn10 (v5 v8 : BitVec 32) (hw : k0_chk1 v5 v8) (h : k0_cond11 v8 = 1#1) : (k0At v5 0#32).toNat + 128 * 16 ≤ 2048 :=
  hn_of (k0At v5 0#32) 16 (k0_off143_inb v5 v8 hw h 0 0) (k0_off143_inb v5 v8 hw h 15 0) (by omega) (by omega)

end

end Cert.Kernel.Attn
-- ==== Proof.Kernel.Rules.lean ====
/-
  LOADS AND STORES BY VALUES.  A memref owned at `X` is loaded from by `VecWindow.window` and stored to by
  `VecWindow.put`.
-/
module

public import proofs.«01_k».proof.Proof.Kernel.Body
public import proofs.«01_k».proof.Proof.Gen.Kernel.Launch
public import Idealize.ShloMosaic.Lib.Tactic

@[expose] public section

set_option maxRecDepth 65536

noncomputable section

namespace Cert.Kernel.Attn

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A vector memref held whole at the values `X`. -/
abbrev own (c : Dev nD) {s : Shape} {e : EltTy} (m : Memref sig .tc .vmem s e) (X : s.Idx → Elt F e) : sProp 𝕄 :=
  owns (c : Thread nD τ) m fullShare X

/-- The weakest precondition of a program of the body. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable (c : Dev nD) {s : Shape} {e : EltTy} {α : Type}

theorem own_load (m : Memref sig .tc .vmem s e) {off size : Fin s.rank → ℕ} {inb : ∀ a, off a + size a ≤ s.size a} {hl}
    {k : ((Rect.unit off size inb).shape.Idx → Elt F e) → Prog (TpuEff nD τ sig (Elt F) Λ₀ .tc) α} {X : s.Idx → Elt F e} {Q : α → sProp 𝕄} :
    own c m X ⊢ iprop((own c m X -∗ wpK c (k (VecWindow.window X off size inb)) Q) -∗ wpK c (.op (.load m (Rect.unit off size inb).toLoadRect hl) k) Q) := by
  unfold own owns
  iintro ⟨%f, %hf, H⟩ Hk
  iapply (wp_load (c := (c : Thread nD τ)) Variants.none none Set.univ (m := m) (r := (Rect.unit off size inb).toLoadRect) (hl := hl) (k := k) (S := m.view.set) (q := fullShare) (f := f) (View.setOn_subset_set _ _)) $$ H
  iintro H
  rw [View.readAt_unit m.view f inb rfl inb, hf]
  iapply Hk
  iexists f
  isplitr
  · ipureintro; exact hf
  · iexact H

theorem own_store (m : Memref sig .tc .vmem s e) {off size : Fin s.rank → ℕ} {inb : ∀ a, off a + size a ≤ s.size a} {w : (Rect.unit off size inb).shape.Idx → Elt F e} {hx hm}
    {k : PUnit → Prog (TpuEff nD τ sig (Elt F) Λ₀ .tc) α} {X : s.Idx → Elt F e} {Q : α → sProp 𝕄} :
    own c m X ⊢ iprop((own c m (VecWindow.put X off size w) -∗ wpK c (k ⟨⟩) Q) -∗ wpK c (.op (.store m (Rect.unit off size inb) w Finset.univ hx hm) k) Q) := by
  unfold own owns
  iintro ⟨%f, %hf, H⟩ Hk
  iapply (wp_store (c := (c : Thread nD τ)) Variants.none none Set.univ (m := m) (r := Rect.unit off size inb) (hx := hx) (hm := hm) (k := k) (S := m.view.set) (f := f)
    (by rw [View.setOn_univ]; exact View.set_slice_subset _ _)) $$ H
  iintro H
  iapply Hk
  iexists _
  isplitr; swap; (· iexact H)
  ipureintro
  subst hf
  funext y
  unfold VecWindow.put
  by_cases h : ∀ a, off a ≤ (y a).val ∧ (y a).val < off a + size a
  · rw [dif_pos h]
    have e1 : y = (Rect.unit off size inb).emb (Rect.unitLocal (s := s) (off := off) (size := size) y h) := by
      funext a
      apply Fin.ext
      show (y a).val = off a + 1 * ((y a).val - off a)
      have := h a
      omega
    have := View.read_slice_write_emb (Val := Elt F) (v := m.view) (Rect.unit off size inb) f w (M := Finset.univ) (x := Rect.unitLocal (s := s) (off := off) (size := size) y h) (Finset.mem_univ _)
    rw [← e1] at this
    exact this
  · rw [dif_neg h]
    refine View.read_slice_write_of_not_mem (Val := Elt F) (v := m.view) (Rect.unit off size inb) f w Finset.univ (y := y) fun hm => h ?_
    obtain ⟨x, -, hx⟩ := Finset.mem_map.mp hm
    intro a
    have : (y a).val = off a + 1 * (x a).val := by rw [← hx]; rfl
    have h2 : (x a).val < size a := (x a).isLt
    omega

end Cert.Kernel.Attn
-- ==== Proof.Kernel.Exec.lean ====
/-
  THE HEAD LOOP RUNS: from the blocks and the buffers held at any contents a trip runs to its end and leaves the buffers
  as `tripF` says, and the loop as `loopF` says.
-/
module

public import proofs.«01_k».proof.Proof.Kernel.Spec
public import proofs.«01_k».proof.Proof.Kernel.Rules

@[expose] public section

set_option maxRecDepth 65536

noncomputable section

namespace Cert.Kernel.Attn

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

section
variable (c : Dev nD) (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32)

/-- The blocks a head loop reads, held. -/
def Ro (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg14 : Memref sig .tc .vmem S8x2048x128 .f32) (arg18 : Memref sig .tc .vmem S2048x128 .f32) (E : Env F) : sProp 𝕄 :=
  iprop(own c arg4 E.q ∗ own c arg5 E.qs ∗ own c arg6 E.k ∗ own c arg8 E.v ∗ own c arg9 E.vs ∗ own c arg14 E.ks ∗ own c arg18 E.b)

variable (E : Env F)

/-- What the chunks of trip `t` all read. -/
def inT (t : Trips) (m8 : FVec F S1x512 .f32) : In F := ⟨qH E (min t.val 7) (by omega), qsH E (t.val - 1) (by have := trips_lt t; omega), m8⟩

theorem chunk256_wp (t : Trips) (k0w : BitVec 32) (n : ℕ) (hn : k0w.toNat + n ≤ 2048) (base : ℕ) (hb : base + 256 ≤ n) (hb' : base + 256 ≤ 2048) (hk : (kwAt k0w base).toNat + 256 ≤ 2048) (m8 : FVec F S1x512 .f32) (s : St F) (X : S2x2048x512.Idx → Elt F .f32)
    (k : St F → Prog (TpuEff nD τ sig (Elt F) Λ₀ .tc) Unit) (Q : Unit → sProp 𝕄) :
    iprop(Ro c arg4 arg5 arg6 arg8 arg9 arg14 arg18 E ∗ own c arg17 X ∗ (Ro c arg4 arg5 arg6 arg8 arg9 arg14 arg18 E -∗ own c arg17 (step256 E k0w.toNat t base (by omega) m8 s X).2 -∗ wpK c (k (step256 E k0w.toNat t base (by omega) m8 s X).1) Q))
      ⊢ wpK c (chunk256 arg4 arg5 arg6 arg8 arg9 arg13 harg13 arg14 arg17 arg18 arg19 t (kwAt k0w base) hk base hb' (inT E t m8) s k) Q := by
  have ekw : (kwAt k0w base).toNat = k0w.toNat + base := kwAt_toNat _ _ (by omega)
  have hE : k0w.toNat + base + 256 ≤ 2048 := by omega
  have ht := trips_lt t
  have e1 := window_congr E.k S1x1x256x64.size (show offK t (kwAt k0w base) = ![0, min t.val 7, k0w.toNat + base, 0] by rw [offK_eq, ekw]) (offK_inb256 t _ hk) (inbK256 _ _ (by omega) hE)
  have e2 := window_congr E.ks S1x256x128.size (show offKs t (kwAt k0w base) = ![min t.val 7, k0w.toNat + base, 0] by rw [offKs_eq, ekw]) (offKs_inb256 t _ hk) (inbC256 _ _ (by omega) hE)
  have e3 := window_congr E.v S1x64x256.size (show offV t (kwAt k0w base) = ![0, 64 * (t.val - 1), k0w.toNat + base] by rw [offV_eq, ekw]) (offV_inb256 t _ hk) (inbV256 _ _ (by omega) hE)
  have e4 := window_congr X S1x256x512.size (offPrev_eq t base) (offPrev_inb256 t _ hb') (inbS256 _ _ (by omega) hb')
  unfold Ro chunk256
  iintro ⟨⟨H4, H5, H6, H8, H9, H14, H18⟩, H17, Hk⟩
  iapply own_load $$ H6; iintro H6
  iapply own_load $$ H14; iintro H14
  iapply own_load $$ H18; iintro H18
  iapply own_load $$ H17; iintro H17
  iapply own_load $$ H8; iintro H8
  iapply own_load $$ H17; iintro H17
  iapply own_store $$ H17; iintro H17
  rw [e1, e2, e3, e4, offCur_eq]
  iapply Hk $$ [H4 H5 H6 H8 H9 H14 H18] [H17]
  · isplitl [H4]; · iexact H4
    isplitl [H5]; · iexact H5
    isplitl [H6]; · iexact H6
    isplitl [H8]; · iexact H8
    isplitl [H9]; · iexact H9
    isplitl [H14]; · iexact H14
    iexact H18
  · iexact H17

theorem chunk128_wp (t : Trips) (k0w : BitVec 32) (n : ℕ) (hn : k0w.toNat + n ≤ 2048) (base : ℕ) (hb : base + 128 ≤ n) (hb' : base + 128 ≤ 2048) (hk : (kwAt k0w base).toNat + 128 ≤ 2048) (m8 : FVec F S1x512 .f32) (s : St F) (X : S2x2048x512.Idx → Elt F .f32)
    (k : St F → Prog (TpuEff nD τ sig (Elt F) Λ₀ .tc) Unit) (Q : Unit → sProp 𝕄) :
    iprop(Ro c arg4 arg5 arg6 arg8 arg9 arg14 arg18 E ∗ own c arg17 X ∗ (Ro c arg4 arg5 arg6 arg8 arg9 arg14 arg18 E -∗ own c arg17 (step128 E k0w.toNat t base (by omega) m8 s X).2 -∗ wpK c (k (step128 E k0w.toNat t base (by omega) m8 s X).1) Q))
      ⊢ wpK c (chunk128 arg4 arg5 arg6 arg8 arg9 arg13 harg13 arg14 arg17 arg18 arg19 t (kwAt k0w base) hk base hb' (inT E t m8) s k) Q := by
  have ekw : (kwAt k0w base).toNat = k0w.toNat + base := kwAt_toNat _ _ (by omega)
  have hE : k0w.toNat + base + 128 ≤ 2048 := by omega
  have ht := trips_lt t
  have e1 := window_congr E.k S1x1x128x64.size (show offK t (kwAt k0w base) = ![0, min t.val 7, k0w.toNat + base, 0] by rw [offK_eq, ekw]) (offK_inb128 t _ hk) (inbK128 _ _ (by omega) hE)
  have e2 := window_congr E.ks S1x128x128.size (show offKs t (kwAt k0w base) = ![min t.val 7, k0w.toNat + base, 0] by rw [offKs_eq, ekw]) (offKs_inb128 t _ hk) (inbC128 _ _ (by omega) hE)
  have e3 := window_congr E.v S1x64x128.size (show offV t (kwAt k0w base) = ![0, 64 * (t.val - 1), k0w.toNat + base] by rw [offV_eq, ekw]) (offV_inb128 t _ hk) (inbV128 _ _ (by omega) hE)
  have e4 := window_congr X S1x128x512.size (offPrev_eq t base) (offPrev_inb128 t _ hb') (inbS128 _ _ (by omega) hb')
  unfold Ro chunk128
  iintro ⟨⟨H4, H5, H6, H8, H9, H14, H18⟩, H17, Hk⟩
  iapply own_load $$ H6; iintro H6
  iapply own_load $$ H14; iintro H14
  iapply own_load $$ H18; iintro H18
  iapply own_load $$ H17; iintro H17
  iapply own_load $$ H8; iintro H8
  iapply own_load $$ H17; iintro H17
  iapply own_store $$ H17; iintro H17
  rw [e1, e2, e3, e4, offCur_eq]
  iapply Hk $$ [H4 H5 H6 H8 H9 H14 H18] [H17]
  · isplitl [H4]; · iexact H4
    isplitl [H5]; · iexact H5
    isplitl [H6]; · iexact H6
    isplitl [H8]; · iexact H8
    isplitl [H9]; · iexact H9
    isplitl [H14]; · iexact H14
    iexact H18
  · iexact H17

theorem chunks_wp (t : Trips) (k0w : BitVec 32) (n : ℕ) (hn : k0w.toNat + n ≤ 2048) (m8 : FVec F S1x512 .f32)
    (k : St F → Prog (TpuEff nD τ sig (Elt F) Λ₀ .tc) Unit) (Q : Unit → sProp 𝕄) (r : ℕ) : ∀ (j : ℕ) (h : 256 * (j + r) ≤ n) (s : St F) (X : S2x2048x512.Idx → Elt F .f32),
    iprop(Ro c arg4 arg5 arg6 arg8 arg9 arg14 arg18 E ∗ own c arg17 X ∗ (Ro c arg4 arg5 arg6 arg8 arg9 arg14 arg18 E -∗ own c arg17 (chunksF E k0w.toNat n hn t m8 r j h s X).2 -∗ wpK c (k (chunksF E k0w.toNat n hn t m8 r j h s X).1) Q))
      ⊢ wpK c (chunks arg4 arg5 arg6 arg8 arg9 arg13 harg13 arg14 arg17 arg18 arg19 t k0w n hn (inT E t m8) k r j h s) Q := by
  induction r with
  | zero =>
    intro j h s X
    simp only [chunksF, chunks]
    iintro ⟨HR, H17, Hk⟩
    iapply Hk $$ HR H17
  | succ r ih =>
    intro j h s X
    have p1 : 256 * j + 256 ≤ n := by omega
    have p2 : 256 * j + 256 ≤ 2048 := by omega
    have p3 : 256 * (j + 1 + r) ≤ n := by omega
    iintro ⟨HR, H17, Hk⟩
    iapply (chunk256_wp c arg4 arg5 arg6 arg8 arg9 arg13 harg13 arg14 arg17 arg18 arg19 E t k0w n hn (256 * j) p1 p2 (kwAt_le k0w (256 * j) 256 n hn p1) m8 s X)
    isplitl [HR]; · iexact HR
    isplitl [H17]; · iexact H17
    iintro HR H17
    iapply (ih (j + 1) p3)
    isplitl [HR]; · iexact HR
    isplitl [H17]; · iexact H17
    iexact Hk

theorem window_wp (t : Trips) (k0w : BitVec 32) (m : ℕ) (o : Bool) (n : ℕ) (hn : k0w.toNat + n ≤ 2048) (h : n = 256 * m + cond o 128 0) (m8 : FVec F S1x512 .f32)
    (k : St F → Prog (TpuEff nD τ sig (Elt F) Λ₀ .tc) Unit) (Q : Unit → sProp 𝕄) (X : S2x2048x512.Idx → Elt F .f32) :
    iprop(Ro c arg4 arg5 arg6 arg8 arg9 arg14 arg18 E ∗ own c arg17 X ∗ (Ro c arg4 arg5 arg6 arg8 arg9 arg14 arg18 E -∗ own c arg17 (windowF E k0w.toNat n hn t m8 m o h X).2 -∗ wpK c (k (windowF E k0w.toNat n hn t m8 m o h X).1) Q))
      ⊢ wpK c (window arg4 arg5 arg6 arg8 arg9 arg13 harg13 arg14 arg17 arg18 arg19 t k0w m o n hn h (inT E t m8) k) Q := by
  unfold window
  cases o with
  | false =>
    exact chunks_wp c arg4 arg5 arg6 arg8 arg9 arg13 harg13 arg14 arg17 arg18 arg19 E t k0w n hn m8 k Q m 0 _ st0 X
  | true =>
    have h' := h
    simp only [cond_true] at h'
    have p1 : 256 * m + 128 ≤ n := by omega
    have p2 : 256 * m + 128 ≤ 2048 := by omega
    have p3 : 256 * (0 + m) ≤ n := by omega
    iintro ⟨HR, H17, Hk⟩
    iapply (chunks_wp c arg4 arg5 arg6 arg8 arg9 arg13 harg13 arg14 arg17 arg18 arg19 E t k0w n hn m8 _ Q m 0 p3 st0 X)
    isplitl [HR]; · iexact HR
    isplitl [H17]; · iexact H17
    iintro HR H17
    iapply (chunk128_wp c arg4 arg5 arg6 arg8 arg9 arg13 harg13 arg14 arg17 arg18 arg19 E t k0w n hn (256 * m) p1 p2 (kwAt_le k0w (256 * m) 128 n hn p1) m8 _ _)
    isplitl [HR]; · iexact HR
    isplitl [H17]; · iexact H17
    iexact Hk

/-- The buffers a trip changes, held. -/
def Rw (arg13 : Memref sig .tc .vmem S1x128x2048 .bf16) (arg17 : Memref sig .tc .vmem S2x2048x512 .f32) (arg19 : Memref sig .tc .vmem S8x512 .f32) (M : Mem F) : sProp 𝕄 :=
  iprop(own c arg17 M.s ∗ own c arg19 M.m ∗ own c arg13 M.o)

theorem off5_eq : ∀ t : Trips, ∀ r : Fin 4, k0_off5 t (BitVec.ofNat 32 r.val) = ![0, 4 * (t.val - 1) + r.val, 0] := by decide +kernel
theorem off11_eq : ∀ t : Trips, k0_off11 t = ![0, t.val - 1, 0] := by decide +kernel
theorem off12_eq : ∀ t : Trips, ∀ r : Fin 2, k0_off12 t (BitVec.ofNat 32 (128 * r.val)) = ![0, 0, 256 * (t.val - 1) + 128 * r.val] := by decide +kernel

theorem finish_wp (t : Trips) (M : Mem F) (st : St F) (X : S2x2048x512.Idx → Elt F .f32) (Q : Unit → sProp 𝕄) :
    iprop(Ro c arg4 arg5 arg6 arg8 arg9 arg14 arg18 E ∗ own c arg17 X ∗ own c arg19 M.m ∗ own c arg13 M.o ∗ (Ro c arg4 arg5 arg6 arg8 arg9 arg14 arg18 E -∗ Rw c arg13 arg17 arg19 (finF E t M st X) -∗ Q ⟨⟩))
      ⊢ wpK c (finish arg4 arg5 arg6 arg8 arg9 arg13 harg13 arg14 arg17 arg18 arg19 t (qsH E (min t.val 7) (by omega)) st) Q := by
  have ht := trips_lt t
  have e1 := window_congr E.vs S1x1x128.size (off11_eq t) (k0_off11_inb t) (inbVs _ (by omega))
  have e2 : k0_off12 t 0#32 = ![0, 0, 256 * (t.val - 1)] := off12_eq t 0
  have e3 : k0_off12 t 128#32 = ![0, 0, 256 * (t.val - 1) + 128] := off12_eq t 1
  unfold Ro Rw finish
  iintro ⟨⟨H4, H5, H6, H8, H9, H14, H18⟩, H17, H19, H13, Hk⟩
  iapply own_load $$ H19; iintro H19
  iapply own_store $$ H19; iintro H19
  iapply own_load $$ H9; iintro H9
  iapply own_load $$ H13; iintro H13
  iapply own_store $$ H13; iintro H13
  iapply own_load $$ H9; iintro H9
  iapply own_load $$ H13; iintro H13
  iapply own_store $$ H13; iintro H13
  rw [e1, e2, e3]
  rw [show wpK c (.ret ⟨⟩ : Prog (TpuEff nD τ sig (Elt F) Λ₀ .tc) Unit) Q = _ from wp_ret _ _ _ _ _]
  imodintro
  iapply Hk $$ [H4 H5 H6 H8 H9 H14 H18] [H17 H19 H13]
  · isplitl [H4]; · iexact H4
    isplitl [H5]; · iexact H5
    isplitl [H6]; · iexact H6
    isplitl [H8]; · iexact H8
    isplitl [H9]; · iexact H9
    isplitl [H14]; · iexact H14
    iexact H18
  · isplitl [H17]; · iexact H17
    isplitl [H19]; · iexact H19
    iexact H13

theorem trip_wp (t : Trips) (k0w : BitVec 32) (m : ℕ) (o : Bool) (n : ℕ) (hn : k0w.toNat + n ≤ 2048) (h : n = 256 * m + cond o 128 0) (M : Mem F) (Q : Unit → sProp 𝕄) :
    iprop(Ro c arg4 arg5 arg6 arg8 arg9 arg14 arg18 E ∗ Rw c arg13 arg17 arg19 M ∗ (Ro c arg4 arg5 arg6 arg8 arg9 arg14 arg18 E -∗ Rw c arg13 arg17 arg19 (tripF E k0w.toNat n hn m o h t M) -∗ Q ⟨⟩))
      ⊢ wpK c (tripP arg4 arg5 arg6 arg8 arg9 arg13 harg13 arg14 arg17 arg18 arg19 t k0w m o n hn h) Q := by
  have ht := trips_lt t
  have q0 := window_congr E.q S1x64x128.size (show k0_off3 t 0#32 = ![0, 256 * min t.val 7 + 64 * 0, 0] from Gen.k0_off3_eq t 0) (k0_off3_inb t 0) (inbQ _ 0 (by omega) (by omega))
  have a0 := window_congr E.qs S1x1x128.size (show k0_off4 t 0#32 = ![0, 4 * min t.val 7 + 0, 0] from Gen.k0_off4_eq t 0) (k0_off4_inb t 0) (inbQs _ 0 (by omega) (by omega))
  have b0 := window_congr E.qs S1x1x128.size (show k0_off5 t 0#32 = ![0, 4 * (t.val - 1) + 0, 0] from off5_eq t 0) (k0_off5_inb t 0) (inbQs _ 0 (by omega) (by omega))
  have q1 := window_congr E.q S1x64x128.size (show k0_off3 t 64#32 = ![0, 256 * min t.val 7 + 64 * 1, 0] from Gen.k0_off3_eq t 1) (k0_off3_inb t 1) (inbQ _ 1 (by omega) (by omega))
  have a1 := window_congr E.qs S1x1x128.size (show k0_off4 t 1#32 = ![0, 4 * min t.val 7 + 1, 0] from Gen.k0_off4_eq t 1) (k0_off4_inb t 1) (inbQs _ 1 (by omega) (by omega))
  have b1 := window_congr E.qs S1x1x128.size (show k0_off5 t 1#32 = ![0, 4 * (t.val - 1) + 1, 0] from off5_eq t 1) (k0_off5_inb t 1) (inbQs _ 1 (by omega) (by omega))
  have q2 := window_congr E.q S1x64x128.size (show k0_off3 t 128#32 = ![0, 256 * min t.val 7 + 64 * 2, 0] from Gen.k0_off3_eq t 2) (k0_off3_inb t 2) (inbQ _ 2 (by omega) (by omega))
  have a2 := window_congr E.qs S1x1x128.size (show k0_off4 t 2#32 = ![0, 4 * min t.val 7 + 2, 0] from Gen.k0_off4_eq t 2) (k0_off4_inb t 2) (inbQs _ 2 (by omega) (by omega))
  have b2 := window_congr E.qs S1x1x128.size (show k0_off5 t 2#32 = ![0, 4 * (t.val - 1) + 2, 0] from off5_eq t 2) (k0_off5_inb t 2) (inbQs _ 2 (by omega) (by omega))
  have q3 := window_congr E.q S1x64x128.size (show k0_off3 t 192#32 = ![0, 256 * min t.val 7 + 64 * 3, 0] from Gen.k0_off3_eq t 3) (k0_off3_inb t 3) (inbQ _ 3 (by omega) (by omega))
  have a3 := window_congr E.qs S1x1x128.size (show k0_off4 t 3#32 = ![0, 4 * min t.val 7 + 3, 0] from Gen.k0_off4_eq t 3) (k0_off4_inb t 3) (inbQs _ 3 (by omega) (by omega))
  have b3 := window_congr E.qs S1x1x128.size (show k0_off5 t 3#32 = ![0, 4 * (t.val - 1) + 3, 0] from off5_eq t 3) (k0_off5_inb t 3) (inbQs _ 3 (by omega) (by omega))
  iintro ⟨HR, HM, Hk⟩
  unfold Rw tripP
  icases HM with ⟨H17, H19, H13⟩
  unfold Ro
  icases HR with ⟨H4, H5, H6, H8, H9, H14, H18⟩
  iapply own_load $$ H4; iintro H4
  iapply own_load $$ H4; iintro H4
  iapply own_load $$ H4; iintro H4
  iapply own_load $$ H4; iintro H4
  iapply own_load $$ H5; iintro H5
  iapply own_load $$ H5; iintro H5
  iapply own_load $$ H5; iintro H5
  iapply own_load $$ H5; iintro H5
  iapply own_load $$ H5; iintro H5
  iapply own_load $$ H5; iintro H5
  iapply own_load $$ H5; iintro H5
  iapply own_load $$ H5; iintro H5
  iapply own_load $$ H19; iintro H19
  rw [q0, q1, q2, q3, a0, a1, a2, a3, b0, b1, b2, b3]
  iapply (window_wp c arg4 arg5 arg6 arg8 arg9 arg13 harg13 arg14 arg17 arg18 arg19 E t k0w m o n hn h (m8At M))
  isplitl [H4 H5 H6 H8 H9 H14 H18]
  · unfold Ro
    isplitl [H4]; · iexact H4
    isplitl [H5]; · iexact H5
    isplitl [H6]; · iexact H6
    isplitl [H8]; · iexact H8
    isplitl [H9]; · iexact H9
    isplitl [H14]; · iexact H14
    iexact H18
  isplitl [H17]; · iexact H17
  iintro HR H17
  iapply (finish_wp c arg4 arg5 arg6 arg8 arg9 arg13 harg13 arg14 arg17 arg18 arg19 E t M _ _ Q)
  isplitl [HR]; · iexact HR
  isplitl [H17]; · iexact H17
  isplitl [H19]; · iexact H19
  isplitl [H13]; · iexact H13
  iexact Hk

theorem loop_wp (k0w : BitVec 32) (m : ℕ) (o : Bool) (n : ℕ) (hn : k0w.toNat + n ≤ 2048) (h : n = 256 * m + cond o 128 0) (M : Mem F) (Q : Unit → sProp 𝕄) :
    iprop(Ro c arg4 arg5 arg6 arg8 arg9 arg14 arg18 E ∗ Rw c arg13 arg17 arg19 M ∗ (Ro c arg4 arg5 arg6 arg8 arg9 arg14 arg18 E -∗ Rw c arg13 arg17 arg19 (loopF E k0w.toNat n hn m o h M 9) -∗ Q ⟨⟩))
      ⊢ wpK c (Scf.Loop.for k0_t1_loop k0_t1_ok ⟨⟩ (fun t _ => tripP arg4 arg5 arg6 arg8 arg9 arg13 harg13 arg14 arg17 arg18 arg19 t k0w m o n hn h)) Q := by
  iintro ⟨HR, HM, Hk⟩
  iapply (Scf.wp_for _ _ _ _ _ _ k0_t1_ok ⟨⟩ _ (fun r (_ : Unit) => iprop(Ro c arg4 arg5 arg6 arg8 arg9 arg14 arg18 E ∗ Rw c arg13 arg17 arg19 (loopF E k0w.toNat n hn m o h M r))) (fun t _ => by
    iintro ⟨HR, HM⟩
    iapply (trip_wp c arg4 arg5 arg6 arg8 arg9 arg13 harg13 arg14 arg17 arg18 arg19 E t k0w m o n hn h)
    isplitl [HR]; · iexact HR
    isplitl [HM]; · iexact HM
    iintro HR HM
    isplitl [HR]; · iexact HR
    rw [show loopF E k0w.toNat n hn m o h M (t.val + 1) = tripF E k0w.toNat n hn m o h t (loopF E k0w.toNat n hn m o h M t.val) from dif_pos (trips_lt t)]
    iexact HM))
  isplitl [HR HM]
  · isplitl [HR]; · iexact HR
    iexact HM
  rw [show Scf.trips k0_t1_loop.lb k0_t1_loop.ub k0_t1_loop.st = 9 from rfl]
  iintro %acc ⟨HR, HM⟩
  iapply Hk $$ HR HM

end

end Cert.Kernel.Attn
-- ==== Proof.Kernel.Fill.lean ====
/-
  THE COPIES AND THE MASK.  The batch's scales, segments and positions go down the columns of three buffers, block by
  block; the mask of a window goes into a fourth.
-/
module

public import proofs.«01_k».proof.Proof.Kernel.Exec
public import Idealize.ShloMosaic.Lib.ValueLayout

@[expose] public section

set_option maxRecDepth 65536

noncomputable section

namespace Cert.Kernel.Attn

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.ValueIdx

variable {F : FTy → Type} [FloatOps F]

local notation "𝕄" => MT nD τ sig Unit (Elt F) ℕ (UR sig nD τ) ℕ

/-! ## Blocks of rows -/

/-- A block of 128 rows put at row `128 j` reads its payload there. -/
theorem put_row_in {α : Type} (X : S2048x128.Idx → α) (b : ℕ) (w : S128x128.Idx → α) (y : S2048x128.Idx) (h0 : b ≤ (y 0).val) (h1 : (y 0).val < b + 128) :
    VecWindow.put X (![b, 0] : Fin 2 → ℕ) S128x128.size w y = w (ix2 ⟨(y 0).val - b, by omega⟩ (y 1)) := by
  have h : ∀ a, (![b, 0] : Fin 2 → ℕ) a ≤ (y a).val ∧ (y a).val < (![b, 0] : Fin 2 → ℕ) a + S128x128.size a := by
    intro a; fin_cases a
    · exact ⟨h0, h1⟩
    · exact ⟨Nat.zero_le _, by show (y 1).val < 0 + 128; have : (y 1).val < 128 := (y 1).isLt; omega⟩
  unfold VecWindow.put
  rw [dif_pos h]
  congr 1
  funext a
  fin_cases a
  · rfl
  · exact Fin.ext (Nat.sub_zero _)
theorem put_row_out {α : Type} (X : S2048x128.Idx → α) (b : ℕ) (w : S128x128.Idx → α) (y : S2048x128.Idx) (h0 : (y 0).val < b ∨ b + 128 ≤ (y 0).val) :
    VecWindow.put X (![b, 0] : Fin 2 → ℕ) S128x128.size w y = X y := by
  unfold VecWindow.put
  rw [dif_neg]
  intro h
  have := h 0
  have e : (![b, 0] : Fin 2 → ℕ) 0 = b := rfl
  have e2 : S128x128.size 0 = 128 := rfl
  rw [e, e2] at this
  omega

/-- The columns a row is copied down. -/
def colT (R : S1x1x2048.Idx → Elt F .f32) : S2048x128.Idx → Elt F .f32 := fun y =>
  colOf cOne (VecWindow.window R (![0, 0, 128 * ((y 0).val / 128)] : Fin 3 → ℕ) S1x1x128.size (inbRow _ (by have : (y 0).val < 2048 := (y 0).isLt; omega))) (ix2 ⟨(y 0).val % 128, by omega⟩ (y 1))
/-- The columns the scales are copied down. -/
def ksT (R : S1x8x2048.Idx → Elt F .f32) : S8x2048x128.Idx → Elt F .f32 := fun y =>
  colOf cScale (VecWindow.window R (![0, (y 0).val, 128 * ((y 1).val / 128)] : Fin 3 → ℕ) S1x1x128.size (inbKs _ _ (y 0).isLt (by have : (y 1).val < 2048 := (y 1).isLt; omega))) (ix2 ⟨(y 1).val % 128, by omega⟩ (y 2))
/-- The mask of a window of `n` keys from key `k0` on, over what the buffer held. -/
def biasT (i : grid0.Coords) (seg : S1x1x128.Idx → Elt F .f32) (C P : S2048x128.Idx → Elt F .f32) (k0 n : ℕ) (hn : k0 + n ≤ 2048) (X : S2048x128.Idx → Elt F .f32) : S2048x128.Idx → Elt F .f32 := fun y =>
  if h : 128 * ((y 0).val / 128) + 128 ≤ n then
    biasOf i seg (VecWindow.window C (![k0 + 128 * ((y 0).val / 128), 0] : Fin 2 → ℕ) S128x128.size (offB_inb128 _ (by omega)))
      (VecWindow.window P (![k0 + 128 * ((y 0).val / 128), 0] : Fin 2 → ℕ) S128x128.size (offB_inb128 _ (by omega))) (ix2 ⟨(y 0).val % 128, by omega⟩ (y 1))
  else X y

variable (c : Dev nD)

theorem rowChunks_wp (src : Memref sig .tc .vmem S1x1x2048 .f32) (dst : Memref sig .tc .vmem S2048x128 .f32) (k : Prog (TpuEff nD τ sig (Elt F) Λ₀ .tc) Unit) (Q : Unit → sProp 𝕄) (R : S1x1x2048.Idx → Elt F .f32) (r : ℕ) :
    ∀ (j : ℕ) (h : j + r ≤ 16) (h' : j + r = 16) (X : S2048x128.Idx → Elt F .f32) (hX : ∀ y : S2048x128.Idx, (y 0).val < 128 * j → X y = colT R y),
    iprop(own c src R ∗ own c dst X ∗ (own c src R -∗ own c dst (colT R) -∗ wpK c k Q)) ⊢ wpK c (rowChunks src dst k r j h) Q := by
  induction r with
  | zero =>
    intro j h h' X hX
    have e : X = colT R := funext fun y => hX y (by have : (y 0).val < 2048 := (y 0).isLt; omega)
    subst e
    simp only [rowChunks]
    iintro ⟨H, H', Hk⟩
    iapply Hk $$ H H'
  | succ r ih =>
    intro j h h' X hX
    simp only [rowChunks]
    iintro ⟨H, H', Hk⟩
    iapply own_load $$ H; iintro H
    iapply own_load $$ H'; iintro H'
    iapply own_store $$ H'; iintro H'
    have p : j + 1 + r ≤ 16 := by omega
    have p' : j + 1 + r = 16 := by omega
    iapply (ih (j + 1) p p' _ ?_)
    rotate_left
    · isplitl [H]; · iexact H
      isplitl [H']; · iexact H'
      iexact Hk
    · intro y hy
      by_cases hlt : (y 0).val < 128 * j
      · rw [put_row_out _ _ _ _ (.inl hlt)]; exact hX y hlt
      · rw [put_row_in _ _ _ _ (by omega) (by omega)]
        have e1 : (y 0).val / 128 = j := by omega
        have e2 : (y 0).val - 128 * j = (y 0).val % 128 := by omega
        unfold colT
        subst e1
        simp only [e2]

theorem biasChunks_wp (i : grid0.Coords) (arg15 arg16 arg18 : Memref sig .tc .vmem S2048x128 .f32) (k0w : BitVec 32) (n : ℕ) (hn : k0w.toNat + n ≤ 2048) (seg : Vec F S1x1x128 .f32)
    (k : Prog (TpuEff nD τ sig (Elt F) Λ₀ .tc) Unit) (Q : Unit → sProp 𝕄) (C P X0 : S2048x128.Idx → Elt F .f32) (r : ℕ) :
    ∀ (j : ℕ) (h : 128 * (j + r) ≤ n) (h' : 128 * (j + r) = n) (X : S2048x128.Idx → Elt F .f32)
      (hX : ∀ y : S2048x128.Idx, (y 0).val < 128 * j → X y = biasT i seg C P k0w.toNat n hn X0 y) (hX' : ∀ y : S2048x128.Idx, ¬ (y 0).val < 128 * j → X y = X0 y),
    iprop(own c arg15 C ∗ own c arg16 P ∗ own c arg18 X ∗ (own c arg15 C -∗ own c arg16 P -∗ own c arg18 (biasT i seg C P k0w.toNat n hn X0) -∗ wpK c k Q))
      ⊢ wpK c (biasChunks i arg15 arg16 arg18 k0w n hn seg k r j h) Q := by
  induction r with
  | zero =>
    intro j h h' X hX hX'
    have e : X = biasT i seg C P k0w.toNat n hn X0 := funext fun y => by
      by_cases hy : (y 0).val < 128 * j
      · exact hX y hy
      · rw [hX' y hy]; unfold biasT; rw [dif_neg (by omega)]
    subst e
    simp only [biasChunks]
    iintro ⟨H15, H16, H18, Hk⟩
    iapply Hk $$ H15 H16 H18
  | succ r ih =>
    intro j h h' X hX hX'
    have ekw : (kwAt k0w (128 * j)).toNat = k0w.toNat + 128 * j := kwAt_toNat _ _ (by omega)
    have e0 : offM (kwAt k0w (128 * j)) = ![k0w.toNat + 128 * j, 0] := by
      show ![(kwAt k0w (128 * j)).toNat, 0] = _
      rw [ekw]
    have hk := kwAt_le k0w (128 * j) 128 n hn (by omega)
    have e1 := window_congr C S128x128.size e0 (offM_inb _ hk) (offB_inb128 _ (by omega))
    have e2 := window_congr P S128x128.size e0 (offM_inb _ hk) (offB_inb128 _ (by omega))
    simp only [biasChunks]
    iintro ⟨H15, H16, H18, Hk⟩
    iapply own_load $$ H15; iintro H15
    iapply own_load $$ H16; iintro H16
    iapply own_load $$ H18; iintro H18
    iapply own_store $$ H18; iintro H18
    have p : 128 * (j + 1 + r) ≤ n := by omega
    have p' : 128 * (j + 1 + r) = n := by omega
    rw [e1, e2]
    iapply (ih (j + 1) p p' _ ?_ ?_)
    rotate_left; rotate_left
    · isplitl [H15]; · iexact H15
      isplitl [H16]; · iexact H16
      isplitl [H18]; · iexact H18
      iexact Hk
    · intro y hy
      by_cases hlt : (y 0).val < 128 * j
      · rw [put_row_out _ _ _ _ (.inl hlt)]; exact hX y hlt
      · rw [put_row_in _ _ _ _ (by omega) (by omega)]
        have e1 : (y 0).val / 128 = j := by omega
        have e2 : (y 0).val - 128 * j = (y 0).val % 128 := by omega
        unfold biasT
        rw [dif_pos (by omega)]
        subst e1
        simp only [e2]
    · intro y hy
      rw [put_row_out _ _ _ _ (.inr (by omega))]
      exact hX' y (by omega)

/-! ## A head's plane -/

theorem head_emb (arg14 : Memref sig .tc .vmem S8x2048x128 .f32) (h : ℕ) (hh : h < 8) (z : S2048x128.Idx) :
    (headRef arg14 h hh).view.emb z = arg14.view.emb (ix3 ⟨h, hh⟩ (z 0) (z 1)) := by
  show arg14.view.emb ((Rect.unit (s := S8x2048x128) ![h, 0, 0] S1x2048x128.size (inbHead h hh)).emb (Shape.reshapeEquiv _ z)) = _
  congr 1
  have e : Shape.reshapeEquiv (squeezes_S1x2048x128_S2048x128 : S1x2048x128.Squeezes S2048x128).numel_eq z = ix3 (⟨0, Nat.one_pos⟩ : Fin 1) (z 0) (z 1) := by
    have := reshapeEquiv_ix2_1ab (squeezes_S1x2048x128_S2048x128 : S1x2048x128.Squeezes S2048x128).numel_eq (z 0) (z 1)
    refine Eq.trans (congrArg _ ?_) this
    funext a; fin_cases a <;> rfl
  refine (congrArg _ e).trans ?_
  funext a
  apply Fin.ext
  fin_cases a
  · show h + 1 * 0 = h; omega
  · show 0 + 1 * (z 0).val = (z 0).val; omega
  · show 0 + 1 * (z 1).val = (z 1).val; omega

theorem head_set (arg14 : Memref sig .tc .vmem S8x2048x128 .f32) (h : ℕ) (hh : h < 8) : (headRef arg14 h hh).view.set ⊆ arg14.view.set := by
  intro x hx
  obtain ⟨z, -, rfl⟩ := Finset.mem_map.mp hx
  exact Finset.mem_map.mpr ⟨_, Finset.mem_univ _, (head_emb arg14 h hh z).symm⟩

theorem own_load_head (arg14 : Memref sig .tc .vmem S8x2048x128 .f32) (h : ℕ) (hh : h < 8) {r : LoadRect S2048x128} {hl}
    {p : Prog (TpuEff nD τ sig (Elt F) Λ₀ .tc) Unit} {X : S8x2048x128.Idx → Elt F .f32} {Q : Unit → sProp 𝕄} :
    own c arg14 X ⊢ iprop((own c arg14 X -∗ wpK c p Q) -∗ wpK c (.op (.load (headRef arg14 h hh) r hl) fun _ => p) Q) := by
  unfold own owns
  iintro ⟨%f, %hf, H⟩ Hk
  have key : (arg14.view.loc (c : Thread nD τ) ↦[arg14.view.set]{fullShare} f) ⊢ iprop(((arg14.view.loc (c : Thread nD τ) ↦[arg14.view.set]{fullShare} f) -∗ wpK c p Q) -∗ wpK c (.op (.load (headRef arg14 h hh) r hl) fun _ => p) Q) :=
    wp_load (c := (c : Thread nD τ)) Variants.none none Set.univ (m := headRef arg14 h hh) (r := r) (hl := hl) (k := fun _ => p) (S := arg14.view.set) (q := fullShare) (f := f)
      ((View.setOn_subset_set _ _).trans (head_set arg14 h hh))
  iapply key $$ H
  iintro H
  iapply Hk
  iexists f
  isplitr
  · ipureintro; exact hf
  · iexact H

/-- `X` with the block `w` put at row `b` of plane `h`. -/
def putHead {α : Type} (X : S8x2048x128.Idx → α) (h b : ℕ) (w : S128x128.Idx → α) : S8x2048x128.Idx → α := fun y =>
  if hy : (y 0).val = h ∧ b ≤ (y 1).val ∧ (y 1).val < b + 128 then w (ix2 ⟨(y 1).val - b, by omega⟩ (y 2)) else X y

theorem own_store_head (arg14 : Memref sig .tc .vmem S8x2048x128 .f32) (h : ℕ) (hh : h < 8) (j : ℕ) (hj : j < 16) {w : S128x128.Idx → Elt F .f32} {hx hm}
    {k : PUnit → Prog (TpuEff nD τ sig (Elt F) Λ₀ .tc) Unit} {X : S8x2048x128.Idx → Elt F .f32} {Q : Unit → sProp 𝕄} :
    own c arg14 X ⊢ iprop((own c arg14 (putHead X h (128 * j) w) -∗ wpK c (k ⟨⟩) Q)
      -∗ wpK c (.op (.store (headRef arg14 h hh) (Rect.unit (s := S2048x128) ![128 * j, 0] S128x128.size (inbCol j hj)) w Finset.univ hx hm) k) Q) := by
  unfold own owns
  iintro ⟨%f, %hf, H⟩ Hk
  have st : (arg14.view.loc (c : Thread nD τ) ↦[arg14.view.set]{fullShare} f)
      ⊢ iprop(((arg14.view.loc (c : Thread nD τ) ↦[arg14.view.set]{fullShare} (((headRef arg14 h hh).access (Rect.unit (s := S2048x128) ![128 * j, 0] S128x128.size (inbCol j hj))).write (Elt F) f w Finset.univ)) -∗ wpK c (k ⟨⟩) Q)
        -∗ wpK c (.op (.store (headRef arg14 h hh) (Rect.unit (s := S2048x128) ![128 * j, 0] S128x128.size (inbCol j hj)) w Finset.univ hx hm) k) Q) :=
    wp_store (c := (c : Thread nD τ)) Variants.none none Set.univ (m := headRef arg14 h hh) (r := Rect.unit (s := S2048x128) ![128 * j, 0] S128x128.size (inbCol j hj)) (hx := hx) (hm := hm) (k := k) (S := arg14.view.set) (f := f)
      (by rw [View.setOn_univ]; exact (View.set_slice_subset _ _).trans (head_set arg14 h hh))
  iapply st $$ H
  iintro H
  iapply Hk
  iexists _
  isplitr; swap; (· iexact H)
  ipureintro
  subst hf
  have key : ∀ x : S128x128.Idx, ((headRef arg14 h hh).access (Rect.unit (s := S2048x128) ![128 * j, 0] S128x128.size (inbCol j hj))).emb x
      = arg14.view.emb (ix3 ⟨h, hh⟩ ⟨128 * j + (x 0).val, by have : (x 0).val < 128 := (x 0).isLt; omega⟩ (x 1)) := fun x => by
    refine (head_emb arg14 h hh ((Rect.unit (s := S2048x128) ![128 * j, 0] S128x128.size (inbCol j hj)).emb x)).trans ?_
    congr 1
    funext a
    apply Fin.ext
    fin_cases a
    · rfl
    · show 128 * j + 1 * (x 0).val = 128 * j + (x 0).val; omega
    · show 0 + 1 * (x 1).val = (x 1).val; omega
  have W1 : ∀ x : S128x128.Idx, (arg14.view.read (Elt F) (((headRef arg14 h hh).access (Rect.unit (s := S2048x128) ![128 * j, 0] S128x128.size (inbCol j hj))).write (Elt F) f w Finset.univ))
      (ix3 ⟨h, hh⟩ ⟨128 * j + (x 0).val, by have : (x 0).val < 128 := (x 0).isLt; omega⟩ (x 1)) = w x := fun x => by
    refine (View.read_apply (Val := Elt F) (v := arg14.view) _ _).trans ?_
    have e := View.write_emb_of_mem (Val := Elt F) (v := (headRef arg14 h hh).access (Rect.unit (s := S2048x128) ![128 * j, 0] S128x128.size (inbCol j hj))) f w (Finset.mem_univ x)
    have e2 : ∀ i, i = arg14.view.emb (ix3 ⟨h, hh⟩ ⟨128 * j + (x 0).val, by have : (x 0).val < 128 := (x 0).isLt; omega⟩ (x 1)) →
      (((headRef arg14 h hh).access (Rect.unit (s := S2048x128) ![128 * j, 0] S128x128.size (inbCol j hj))).write (Elt F) f w Finset.univ : arg14.view.ty.Contents (Elt F)) (arg14.view.emb (ix3 ⟨h, hh⟩ ⟨128 * j + (x 0).val, by have : (x 0).val < 128 := (x 0).isLt; omega⟩ (x 1)))
        = (((headRef arg14 h hh).access (Rect.unit (s := S2048x128) ![128 * j, 0] S128x128.size (inbCol j hj))).write (Elt F) f w Finset.univ : arg14.view.ty.Contents (Elt F)) i := fun i hi => by rw [hi]
    refine (congrArg (_root_.cast _) ((e2 _ (key x)).trans e)).trans ?_
    exact (cast_cast _ _ _).trans (cast_eq _ _)
  have W2 : ∀ y : S8x2048x128.Idx, arg14.view.emb y ∉ ((headRef arg14 h hh).access (Rect.unit (s := S2048x128) ![128 * j, 0] S128x128.size (inbCol j hj))).setOn Finset.univ →
      (arg14.view.read (Elt F) (((headRef arg14 h hh).access (Rect.unit (s := S2048x128) ![128 * j, 0] S128x128.size (inbCol j hj))).write (Elt F) f w Finset.univ)) y = arg14.view.read (Elt F) f y := fun y hy =>
    congrArg (_root_.cast (congrArg (Elt F) arg14.view.elt_eq)) (View.write_of_not_mem (Val := Elt F) (v := (headRef arg14 h hh).access (Rect.unit (s := S2048x128) ![128 * j, 0] S128x128.size (inbCol j hj))) f w Finset.univ hy)
  funext y
  unfold putHead
  by_cases hy : (y 0).val = h ∧ 128 * j ≤ (y 1).val ∧ (y 1).val < 128 * j + 128
  · rw [dif_pos hy]
    refine Eq.trans ?_ (W1 _)
    congr 1
    funext a
    apply Fin.ext
    fin_cases a
    · exact hy.1
    · show (y 1).val = 128 * j + ((y 1).val - 128 * j); omega
    · rfl
  · rw [dif_neg hy]
    refine W2 y ?_
    intro hm
    obtain ⟨x, -, hx⟩ := Finset.mem_map.mp hm
    have := arg14.view.emb.injective ((key x).symm.trans hx)
    apply hy
    subst this
    have hx0 : (x 0).val < 128 := (x 0).isLt
    exact ⟨rfl, Nat.le_add_right _ _, by show 128 * j + (x 0).val < 128 * j + 128; omega⟩

theorem ksChunks_wp (arg7 : Memref sig .tc .vmem S1x8x2048 .f32) (arg14 : Memref sig .tc .vmem S8x2048x128 .f32) (h : ℕ) (hh : h < 8) (k : Prog (TpuEff nD τ sig (Elt F) Λ₀ .tc) Unit) (Q : Unit → sProp 𝕄)
    (R : S1x8x2048.Idx → Elt F .f32) (K : sProp 𝕄) (hK : ∀ X, (∀ y : S8x2048x128.Idx, (y 0).val < h + 1 → X y = ksT R y) → iprop(own c arg7 R ∗ own c arg14 X ∗ K) ⊢ wpK c k Q) (r : ℕ) :
    ∀ (j : ℕ) (hj : j + r ≤ 16) (h' : j + r = 16) (X : S8x2048x128.Idx → Elt F .f32) (hX : ∀ y : S8x2048x128.Idx, (y 0).val < h ∨ ((y 0).val = h ∧ (y 1).val < 128 * j) → X y = ksT R y),
    iprop(own c arg7 R ∗ own c arg14 X ∗ K) ⊢ wpK c (ksChunks arg7 arg14 h hh k r j hj) Q := by
  induction r with
  | zero =>
    intro j hj h' X hX
    simp only [ksChunks]
    exact hK X fun y hy => hX y (by have : (y 1).val < 2048 := (y 1).isLt; omega)
  | succ r ih =>
    intro j hj h' X hX
    simp only [ksChunks]
    iintro ⟨H, H', Hk⟩
    have p1 : j < 16 := by omega
    iapply own_load $$ H; iintro H
    iapply own_load_head $$ H'; iintro H'
    iapply (own_store_head c arg14 h hh j p1) $$ H'; iintro H'
    have p : j + 1 + r ≤ 16 := by omega
    have p' : j + 1 + r = 16 := by omega
    iapply (ih (j + 1) p p' _ ?_)
    rotate_left
    · isplitl [H]; · iexact H
      isplitl [H']; · iexact H'
      iexact Hk
    · intro y hy
      unfold putHead
      by_cases hin : (y 0).val = h ∧ 128 * j ≤ (y 1).val ∧ (y 1).val < 128 * j + 128
      · rw [dif_pos hin]
        have e1 : (y 1).val / 128 = j := by omega
        have e2 : (y 1).val - 128 * j = (y 1).val % 128 := by omega
        have e3 := hin.1
        unfold ksT
        subst e1 e3
        simp only [e2]
      · rw [dif_neg hin]; exact hX y (by omega)

theorem ksHeads_wp (arg7 : Memref sig .tc .vmem S1x8x2048 .f32) (arg14 : Memref sig .tc .vmem S8x2048x128 .f32) (k : Prog (TpuEff nD τ sig (Elt F) Λ₀ .tc) Unit) (Q : Unit → sProp 𝕄)
    (R : S1x8x2048.Idx → Elt F .f32) (K : sProp 𝕄) (hK : iprop(own c arg7 R ∗ own c arg14 (ksT R) ∗ K) ⊢ wpK c k Q) (r : ℕ) :
    ∀ (h : ℕ) (hh : h + r ≤ 8) (h' : h + r = 8) (X : S8x2048x128.Idx → Elt F .f32) (hX : ∀ y : S8x2048x128.Idx, (y 0).val < h → X y = ksT R y),
    iprop(own c arg7 R ∗ own c arg14 X ∗ K) ⊢ wpK c (ksHeads arg7 arg14 k r h hh) Q := by
  induction r with
  | zero =>
    intro h hh h' X hX
    have e : X = ksT R := funext fun y => hX y (by have : (y 0).val < 8 := (y 0).isLt; omega)
    subst e
    simp only [ksHeads]
    exact hK
  | succ r ih =>
    intro h hh h' X hX
    simp only [ksHeads]
    exact ksChunks_wp c arg7 arg14 h _ _ Q R K (fun X hX => ih (h + 1) _ (by omega) X hX) 16 0 _ (by omega) X (fun y hy => hX y (by omega))

/-- The copies of a batch. -/
theorem init_wp (arg7 : Memref sig .tc .vmem S1x8x2048 .f32) (arg11 arg12 : Memref sig .tc .vmem S1x1x2048 .f32) (arg14 : Memref sig .tc .vmem S8x2048x128 .f32) (arg15 arg16 : Memref sig .tc .vmem S2048x128 .f32) (Q : Unit → sProp 𝕄)
    (R7 : S1x8x2048.Idx → Elt F .f32) (R11 R12 : S1x1x2048.Idx → Elt F .f32) (X14 : S8x2048x128.Idx → Elt F .f32) (X15 X16 : S2048x128.Idx → Elt F .f32) :
    iprop(own c arg7 R7 ∗ own c arg14 X14 ∗ (own c arg11 R11 ∗ own c arg12 R12 ∗ own c arg15 X15 ∗ own c arg16 X16
        ∗ (own c arg7 R7 -∗ own c arg14 (ksT R7) -∗ own c arg11 R11 -∗ own c arg12 R12 -∗ own c arg15 (colT R11) -∗ own c arg16 (colT R12) -∗ Q ⟨⟩)))
      ⊢ wpK c (initP arg7 arg11 arg12 arg14 arg15 arg16) Q := by
  unfold initP
  refine ksHeads_wp c arg7 arg14 _ Q R7 _ ?_ 8 0 _ rfl X14 (fun y hy => absurd hy (by omega))
  iintro ⟨H7, H14, H11, H12, H15, H16, Hk⟩
  have p : 0 + 16 ≤ 16 := by omega
  iapply (rowChunks_wp c arg11 arg15 _ Q R11 16 0 p rfl X15 (fun y hy => absurd hy (by omega)))
  isplitl [H11]; · iexact H11
  isplitl [H15]; · iexact H15
  iintro H11 H15
  iapply (rowChunks_wp c arg12 arg16 _ Q R12 16 0 p rfl X16 (fun y hy => absurd hy (by omega)))
  isplitl [H12]; · iexact H12
  isplitl [H16]; · iexact H16
  iintro H12 H16
  rw [show wpK c (.ret ⟨⟩ : Prog (TpuEff nD τ sig (Elt F) Λ₀ .tc) Unit) Q = _ from wp_ret _ _ _ _ _]
  imodintro
  iapply Hk $$ H7 H14 H11 H12 H15 H16

set_option cleanup.letToHave false in
theorem init_bind {α : Type} (arg7 : Memref sig .tc .vmem S1x8x2048 .f32) (arg11 arg12 : Memref sig .tc .vmem S1x1x2048 .f32) (arg14 : Memref sig .tc .vmem S8x2048x128 .f32) (arg15 arg16 : Memref sig .tc .vmem S2048x128 .f32)
    (k : Unit → Prog (TpuEff nD τ sig (Elt F) Λ₀ .tc) α) (Q : α → sProp 𝕄)
    (R7 : S1x8x2048.Idx → Elt F .f32) (R11 R12 : S1x1x2048.Idx → Elt F .f32) (X14 : S8x2048x128.Idx → Elt F .f32) (X15 X16 : S2048x128.Idx → Elt F .f32) :
    iprop(own c arg7 R7 ∗ own c arg14 X14 ∗ (own c arg11 R11 ∗ own c arg12 R12 ∗ own c arg15 X15 ∗ own c arg16 X16
        ∗ (own c arg7 R7 -∗ own c arg14 (ksT R7) -∗ own c arg11 R11 -∗ own c arg12 R12 -∗ own c arg15 (colT R11) -∗ own c arg16 (colT R12) -∗ wpK c (k ⟨⟩) Q)))
      ⊢ wpK c (initP arg7 arg11 arg12 arg14 arg15 arg16 >>= k) Q := by
  have e : wpK c (initP arg7 arg11 arg12 arg14 arg15 arg16 >>= k) Q = wpK c (initP arg7 arg11 arg12 arg14 arg15 arg16) (fun a => wpK c (k a) Q) := wp_bind _ _ _ _ _ _
  exact (init_wp c arg7 arg11 arg12 arg14 arg15 arg16 (fun a => wpK c (k a) Q) R7 R11 R12 X14 X15 X16).trans (BIBase.Entails.of_eq e.symm)

end Cert.Kernel.Attn
-- ==== Proof.Kernel.Arms.lean ====
module

public import proofs.«01_k».proof.Proof.Kernel.Body

@[expose] public section

set_option maxRecDepth 65536
set_option maxHeartbeats 400000
noncomputable section
namespace Cert.Kernel.Attn

open Cert.Kernel
open Facts₀ Facts
open Idealize.ShloMosaic Idealize.SL.Sem

variable {F : FTy → Type} [FloatOps F]

def initK {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (k : PUnit.{1} → Prog (TpuEff nD τ sig (Elt F) Λ₀ .tc) β) : Prog (TpuEff nD τ sig (Elt F) Λ₀ .tc) β := do
    let v89 : FVec F S128x128 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v124 : FVec F S128x128 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v89
    let v155 : Vec F S1x1x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v124
    let v185 : FVec F S128x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v155
    let v221 : FVec F S128x128 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v185
    let v254 : FVec F S1x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v221
    k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v254
    let v317 : FVec F S128x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v353 : FVec F S128x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v317
    let ⟨v384, cst_249⟩ : Σ' (v384 : FVec F S1x128 .f32), F .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v353
    k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v384 cst_249
    let v449 : FVec F S128x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v484 : FVec F S128x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v449
    let v515 : Vec F S1x1x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v484
    let v545 : FVec F S128x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v515
    let v581 : FVec F S128x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v545
    let v614 : FVec F S1x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v581
    k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v614
    let v677 : FVec F S128x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v713 : FVec F S128x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v677
    let ⟨v744, cst_517⟩ : Σ' (v744 : FVec F S1x128 .f32), F .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v713
    k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v744 cst_517
    let v809 : FVec F S128x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v844 : FVec F S128x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v809
    let v875 : Vec F S1x1x128 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v844
    let v905 : FVec F S128x128 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v875
    let v941 : FVec F S128x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v905
    let v974 : FVec F S1x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v941
    k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v974
    let v1037 : FVec F S128x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v1073 : FVec F S128x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1037
    let ⟨v1104, cst_785⟩ : Σ' (v1104 : FVec F S1x128 .f32), F .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1073
    k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1104 cst_785
    let v1169 : FVec F S128x128 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v1204 : FVec F S128x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1169
    let v1235 : Vec F S1x1x128 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1204
    let v1265 : FVec F S128x128 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1235
    let v1301 : FVec F S128x128 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1265
    let v1334 : FVec F S1x128 .f32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1301
    k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1334
    let v1397 : FVec F S128x128 .f32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v1433 : FVec F S128x128 .f32 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397
    let ⟨v1464, cst_1052⟩ : Σ' (v1464 : FVec F S1x128 .f32), F .f32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1433
    k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1464 cst_1052
    let v1529 : FVec F S128x128 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v1564 : FVec F S128x128 .f32 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1529
    let v1595 : Vec F S1x1x128 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1564
    let v1631 : FVec F S128x128 .f32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1595
    let v1666 : FVec F S1x128 .f32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1631
    let ⟨v1701, v1702⟩ : Σ' (v1701 : FVec F S128x128 .f32), Vec F S128x128 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1666
    let ⟨v1736, cst_1235⟩ : Σ' (v1736 : FVec F S1x128 .f32), F .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1701 v1702
    let v1771 : FVec F S128x128 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1736 cst_1235
    let ⟨v1806, v1807⟩ : Σ' (v1806 : FVec F S1x128 .f32), FVec F S1x128 .f32 ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1771
    let v1844 : FVec F S128x128 .f32 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1806 v1807
    let v1878 : FVec F S1x128 .f32 ← k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1844
    k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1878
    k ⟨⟩
theorem initK_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (k : PUnit.{1} → Prog (TpuEff nD τ sig (Elt F) Λ₀ .tc) β) : initK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k = initP arg7 arg11 arg12 arg14 arg15 arg16 >>= k := rfl

def armK1 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h2 : k0_cond2 v8 = 1#1) (k : PUnit.{1} → Prog (TpuEff nD τ sig (Elt F) Λ₀ .tc) β) : Prog (TpuEff nD τ sig (Elt F) Λ₀ .tc) β := do
    let c15_i32 : BitVec 32 := 15#32
    let v59 : BitVec 32 := Scalar.minsi v5 c15_i32
    let c128_i32 : BitVec 32 := 128#32
    let v60 : BitVec 32 := Scalar.muli v59 c128_i32
    let v61 : BitVec 32 := v60
    let c0 : Index := 0#32
    let c0_21 : Index := 0#32
    let c0_22 : Index := 0#32
    let v62 : Vec F S1x1x128 .f32 ← Prog.lift (.load arg10 (Rect.unit (s := S1x1x128) ![0, 0, 0] S1x1x128.size inb_S1x1x128_S1x1x128_0_0_0).toLoadRect (View.loadsAt_vmem h_S1x1x128))
    have v63 : FVec F S1x128 .f32 := shapeCast S1x128 v62 shapeCasts_S1x1x128_S1x128
    have v64 : IVec S1x128 32 := iota .tc S1x128 32 [1] iota_S1x128_d1_w32
    let c128_i32_23 : BitVec 32 := 128#32
    let v65 : BitVec 32 := Scalar.muli arg1 c128_i32_23
    have v66 : IVec S1x128 32 := broadcast S1x128 v65
    have v67 : IVec S1x128 32 := addi v64 v66
    have v68 : FVec F S1x128 .f32 := sitofp .f32 v67
    let c0_i32_24 : BitVec 32 := 0#32
    let v69 : BitVec 32 := Scalar.addi v61 c0_i32_24
    let v70 : Index := Scalar.indexCast v69
    let c0_25 : Index := 0#32
    let v71 : Vec F S128x128 .f32 ← Prog.lift (.load arg15 (Rect.unit (s := S2048x128) (k0_off2 v5) S128x128.size (k0_off2_inb v5 v8 k0_hw1 k0_h2)).toLoadRect (View.loadsAt_vmem h_S128x128))
    have v72 : FVec F S128x128 .f32 := broadcastTo S128x128 v63 broadcasts_S1x128_S128x128
    have v73 : IVec S128x128 1 := cmpf .oeq v71 v72
    let c0_i32_26 : BitVec 32 := 0#32
    let v74 : BitVec 32 := Scalar.addi v61 c0_i32_26
    let v75 : Index := Scalar.indexCast v74
    let c0_27 : Index := 0#32
    let v76 : Vec F S128x128 .f32 ← Prog.lift (.load arg16 (Rect.unit (s := S2048x128) (k0_off2 v5) S128x128.size (k0_off2_inb v5 v8 k0_hw1 k0_h2)).toLoadRect (View.loadsAt_vmem h_S128x128))
    have v77 : FVec F S128x128 .f32 := broadcastTo S128x128 v68 broadcasts_S1x128_S128x128
    have v78 : IVec S128x128 1 := cmpf .ole v76 v77
    have v79 : IVec S128x128 1 := andi v73 v78
    have cst : F .f32 := Scalar.ofBits .f32 0x00000000#32
    have cst_28 : F .f32 := Scalar.ofBits .f32 0xFF800000#32
    have v80 : FVec F S128x128 .f32 := broadcast S128x128 cst
    have v81 : FVec F S128x128 .f32 := broadcast S128x128 cst_28
    have v82 : FVec F S128x128 .f32 := select v79 v80 v81
    let c0_29 : Index := 0#32
    let c0_30 : Index := 0#32
    let v83 : Vec F S128x128 .f32 ← Prog.lift (.load arg18 (Rect.unit (s := S2048x128) ![0, 0] S128x128.size inb_S2048x128_S128x128_0_0).toLoadRect (View.loadsAt_vmem h_S128x128))
    have v84 : FVec F S128x128 .f32 := shapeCast S128x128 v83 shapeCasts_S128x128_S128x128
    have v85 : FVec F S128x128 .f32 := shapeCast S128x128 v82 shapeCasts_S128x128_S128x128
    Prog.lift (.store arg18 (Rect.unit (s := S2048x128) ![0, 0] S128x128.size inb_S2048x128_S128x128_0_0) v85 Finset.univ (View.stores_vmem_bits_univ h_S128x128 rfl) (.inl rfl))
    let c0_i32_31 : BitVec 32 := 0#32
    let c9_i32 : BitVec 32 := 9#32
    let v86 : BitVec 32 := Scalar.addi c0_i32_31 c9_i32
    let c1_i32_32 : BitVec 32 := 1#32
    Scf.Loop.for k0_t1_loop k0_t1_ok ⟨⟩ fun k0_t1 _ => do
      let ⟨v87, v89, v90, v109, v114, v119, c4_i32_55⟩ : Σ' (v87 : BitVec 32) (v89 : BitVec 32) (v90 : BitVec 32) (v109 : FVec F S64x512 .fp8e4m3) (v114 : FVec F S1x128 .f32) (v119 : FVec F S1x128 .f32), BitVec 32 ← k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_31 c1_i32_32 k0_t1
      let ⟨v130, v151, v152, v153⟩ : Σ' (v130 : FVec F S1x512 .f32) (v151 : FVec F S1x512 .f32) (v152 : Vec F S1x512 .f32), BitVec 32 ← k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v87 v89 v114 v119 c4_i32_55
      let ⟨v155, v157, v173, v185, v195⟩ : Σ' (v155 : FVec F S8x512 .f32) (v157 : FVec F S64x512 .f32) (v173 : FVec F S128x512 .f32) (v185 : FVec F S8x512 .f32), FVec F S64x512 .f32 ← k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h2 v61 k0_t1 v87 v90 v109 v151 v152 v153
      let ⟨v236, v237⟩ : Σ' (v236 : FVec F S64x128 .bf16), FVec F S64x128 .bf16 ← k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v89 v90 v130 v155 v157 v173 v185 v195
      have v238 : FVec F S128x128 .bf16 := concatenate S128x128 0 [⟨S64x128, v236⟩, ⟨S64x128, v237⟩] concatenates_S64x128_S64x128_S128x128_d0
      have v239 : FVec F S128x128 .bf16 := transpose S128x128 [1, 0] v238 transposes_S128x128_p1_0_S128x128
      let c256_i32_115 : BitVec 32 := 256#32
      let v240 : BitVec 32 := Scalar.muli v89 c256_i32_115
      let c128_i32_116 : BitVec 32 := 128#32
      let v241 : BitVec 32 := Scalar.addi v240 c128_i32_116
      let v242 : BitVec 32 := v241
      let c0_117 : Index := 0#32
      let v243 : Index := Scalar.indexCast v89
      let c0_118 : Index := 0#32
      let v244 : Vec F S1x1x128 .f32 ← Prog.lift (.load arg9 (Rect.unit (s := S1x8x128) (k0_off11 k0_t1) S1x1x128.size (k0_off11_inb k0_t1)).toLoadRect (View.loadsAt_vmem h_S1x1x128))
      have v245 : FVec F S1x128 .f32 := shapeCast S1x128 v244 shapeCasts_S1x1x128_S1x128
      have v246 : FVec F S1x128 .bf16 := truncf .bf16 v245 bitsLt_bf16_f32
      have v247 : FVec F S128x128 .bf16 := broadcastTo S128x128 v246 broadcasts_S1x128_S128x128
      have v248 : FVec F S128x128 .bf16 := mulf v239 v247
      let c0_119 : Index := 0#32
      let c0_120 : Index := 0#32
      let v249 : Index := Scalar.indexCast v242
      let v250 : Vec F S1x128x128 .bf16 ← Prog.lift (.load arg13 (Rect.unit (s := S1x128x2048) (k0_off12 k0_t1 128#32) S1x128x128.size (k0_off12_inb k0_t1 1)).toLoadRect (View.loadsAt_vmem h_S1x128x128))
      have v251 : FVec F S128x128 .bf16 := shapeCast S128x128 v250 shapeCasts_S1x128x128_S128x128
      have v252 : FVec F S1x128x128 .bf16 := shapeCast S1x128x128 v248 shapeCasts_S128x128_S1x128x128
      Prog.lift (.store arg13 (Rect.unit (s := S1x128x2048) (k0_off12 k0_t1 128#32) S1x128x128.size (k0_off12_inb k0_t1 1)) v252 Finset.univ (View.stores_vmem h_S1x128x128 (harg13.storeExact_slice rfl _ (k0_off12_packedbf16 k0_t1 1)) (fun _ => rfl)) (.inl rfl))
      pure ⟨⟩
    let c9_i32_33 : BitVec 32 := 9#32
    k ⟨⟩
theorem armK1_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond2 v8 = 1#1) (k : PUnit.{1} → Prog (TpuEff nD τ sig (Elt F) Λ₀ .tc) β) : armK1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 15#32) 1 0 true (hn1 v5 v8 k0_hw1 h) (by rfl) >>= k) := rfl

def armK2 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h3 : k0_cond3 v8 = 1#1) (k : PUnit.{1} → Prog (TpuEff nD τ sig (Elt F) Λ₀ .tc) β) : Prog (TpuEff nD τ sig (Elt F) Λ₀ .tc) β := do
    let ⟨v61, v96, cst_36, v97⟩ : Σ' (v61 : BitVec 32) (v96 : IVec S128x128 1) (cst_36 : F .f32), FVec F S128x128 .f32 ← k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h3
    have v98 : FVec F S128x128 .f32 := broadcast S128x128 cst_36
    have v99 : FVec F S128x128 .f32 := select v96 v97 v98
    let c128 : Index := 128#32
    let c0_37 : Index := 0#32
    let v100 : Vec F S128x128 .f32 ← Prog.lift (.load arg18 (Rect.unit (s := S2048x128) ![128, 0] S128x128.size inb_S2048x128_S128x128_128_0).toLoadRect (View.loadsAt_vmem h_S128x128))
    have v101 : FVec F S128x128 .f32 := shapeCast S128x128 v100 shapeCasts_S128x128_S128x128
    have v102 : FVec F S128x128 .f32 := shapeCast S128x128 v99 shapeCasts_S128x128_S128x128
    Prog.lift (.store arg18 (Rect.unit (s := S2048x128) ![128, 0] S128x128.size inb_S2048x128_S128x128_128_0) v102 Finset.univ (View.stores_vmem_bits_univ h_S128x128 rfl) (.inl rfl))
    let c0_i32_38 : BitVec 32 := 0#32
    let c9_i32 : BitVec 32 := 9#32
    let v103 : BitVec 32 := Scalar.addi c0_i32_38 c9_i32
    let c1_i32_39 : BitVec 32 := 1#32
    Scf.Loop.for k0_t2_loop k0_t2_ok ⟨⟩ fun k0_t2 _ => do
      let ⟨v104, v106, v107, v126, v131, v136, c4_i32_62⟩ : Σ' (v104 : BitVec 32) (v106 : BitVec 32) (v107 : BitVec 32) (v126 : FVec F S64x512 .fp8e4m3) (v131 : FVec F S1x128 .f32) (v136 : FVec F S1x128 .f32), BitVec 32 ← k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_38 c1_i32_39 k0_t2
      let ⟨v147, v168, v169, v170⟩ : Σ' (v147 : FVec F S1x512 .f32) (v168 : FVec F S1x512 .f32) (v169 : Vec F S1x512 .f32), BitVec 32 ← k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v104 v106 v131 v136 c4_i32_62
      let ⟨v172, v174, v190, v202, v212⟩ : Σ' (v172 : FVec F S8x512 .f32) (v174 : FVec F S64x512 .f32) (v190 : FVec F S256x512 .f32) (v202 : FVec F S8x512 .f32), FVec F S64x512 .f32 ← k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h3 v61 k0_t2 v104 v107 v126 v168 v169 v170
      let ⟨v253, v254⟩ : Σ' (v253 : FVec F S64x128 .bf16), FVec F S64x128 .bf16 ← k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v106 v107 v147 v172 v174 v190 v202 v212
      have v255 : FVec F S128x128 .bf16 := concatenate S128x128 0 [⟨S64x128, v253⟩, ⟨S64x128, v254⟩] concatenates_S64x128_S64x128_S128x128_d0
      have v256 : FVec F S128x128 .bf16 := transpose S128x128 [1, 0] v255 transposes_S128x128_p1_0_S128x128
      let c256_i32_122 : BitVec 32 := 256#32
      let v257 : BitVec 32 := Scalar.muli v106 c256_i32_122
      let c128_i32_123 : BitVec 32 := 128#32
      let v258 : BitVec 32 := Scalar.addi v257 c128_i32_123
      let v259 : BitVec 32 := v258
      let c0_124 : Index := 0#32
      let v260 : Index := Scalar.indexCast v106
      let c0_125 : Index := 0#32
      let v261 : Vec F S1x1x128 .f32 ← Prog.lift (.load arg9 (Rect.unit (s := S1x8x128) (k0_off22 k0_t2) S1x1x128.size (k0_off22_inb k0_t2)).toLoadRect (View.loadsAt_vmem h_S1x1x128))
      have v262 : FVec F S1x128 .f32 := shapeCast S1x128 v261 shapeCasts_S1x1x128_S1x128
      have v263 : FVec F S1x128 .bf16 := truncf .bf16 v262 bitsLt_bf16_f32
      have v264 : FVec F S128x128 .bf16 := broadcastTo S128x128 v263 broadcasts_S1x128_S128x128
      have v265 : FVec F S128x128 .bf16 := mulf v256 v264
      let c0_126 : Index := 0#32
      let c0_127 : Index := 0#32
      let v266 : Index := Scalar.indexCast v259
      let v267 : Vec F S1x128x128 .bf16 ← Prog.lift (.load arg13 (Rect.unit (s := S1x128x2048) (k0_off23 k0_t2 128#32) S1x128x128.size (k0_off23_inb k0_t2 1)).toLoadRect (View.loadsAt_vmem h_S1x128x128))
      have v268 : FVec F S128x128 .bf16 := shapeCast S128x128 v267 shapeCasts_S1x128x128_S128x128
      have v269 : FVec F S1x128x128 .bf16 := shapeCast S1x128x128 v265 shapeCasts_S128x128_S1x128x128
      Prog.lift (.store arg13 (Rect.unit (s := S1x128x2048) (k0_off23 k0_t2 128#32) S1x128x128.size (k0_off23_inb k0_t2 1)) v269 Finset.univ (View.stores_vmem h_S1x128x128 (harg13.storeExact_slice rfl _ (k0_off23_packedbf16 k0_t2 1)) (fun _ => rfl)) (.inl rfl))
      pure ⟨⟩
    let c9_i32_40 : BitVec 32 := 9#32
    k ⟨⟩
theorem armK2_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond3 v8 = 1#1) (k : PUnit.{1} → Prog (TpuEff nD τ sig (Elt F) Λ₀ .tc) β) : armK2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 14#32) 2 1 false (hn2 v5 v8 k0_hw1 h) (by rfl) >>= k) := rfl

def armK3 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h4 : k0_cond4 v8 = 1#1) (k : PUnit.{1} → Prog (TpuEff nD τ sig (Elt F) Λ₀ .tc) β) : Prog (TpuEff nD τ sig (Elt F) Λ₀ .tc) β := do
    let ⟨v61, v63, v68, v96, cst_36, v97⟩ : Σ' (v61 : BitVec 32) (v63 : FVec F S1x128 .f32) (v68 : FVec F S1x128 .f32) (v96 : IVec S128x128 1) (cst_36 : F .f32), FVec F S128x128 .f32 ← k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h4
    have v98 : FVec F S128x128 .f32 := broadcast S128x128 cst_36
    have v99 : FVec F S128x128 .f32 := select v96 v97 v98
    let c128 : Index := 128#32
    let c0_37 : Index := 0#32
    let v100 : Vec F S128x128 .f32 ← Prog.lift (.load arg18 (Rect.unit (s := S2048x128) ![128, 0] S128x128.size inb_S2048x128_S128x128_128_0).toLoadRect (View.loadsAt_vmem h_S128x128))
    have v101 : FVec F S128x128 .f32 := shapeCast S128x128 v100 shapeCasts_S128x128_S128x128
    have v102 : FVec F S128x128 .f32 := shapeCast S128x128 v99 shapeCasts_S128x128_S128x128
    Prog.lift (.store arg18 (Rect.unit (s := S2048x128) ![128, 0] S128x128.size inb_S2048x128_S128x128_128_0) v102 Finset.univ (View.stores_vmem_bits_univ h_S128x128 rfl) (.inl rfl))
    let c256_i32 : BitVec 32 := 256#32
    let v103 : BitVec 32 := Scalar.addi v61 c256_i32
    let v104 : Index := Scalar.indexCast v103
    let c0_38 : Index := 0#32
    let v105 : Vec F S128x128 .f32 ← Prog.lift (.load arg15 (Rect.unit (s := S2048x128) (k0_off24 v5 256#32) S128x128.size (k0_off24_inb v5 v8 k0_hw1 k0_h4 2)).toLoadRect (View.loadsAt_vmem h_S128x128))
    have v106 : FVec F S128x128 .f32 := broadcastTo S128x128 v63 broadcasts_S1x128_S128x128
    have v107 : IVec S128x128 1 := cmpf .oeq v105 v106
    let c256_i32_39 : BitVec 32 := 256#32
    let v108 : BitVec 32 := Scalar.addi v61 c256_i32_39
    let v109 : Index := Scalar.indexCast v108
    let c0_40 : Index := 0#32
    let v110 : Vec F S128x128 .f32 ← Prog.lift (.load arg16 (Rect.unit (s := S2048x128) (k0_off24 v5 256#32) S128x128.size (k0_off24_inb v5 v8 k0_hw1 k0_h4 2)).toLoadRect (View.loadsAt_vmem h_S128x128))
    have v111 : FVec F S128x128 .f32 := broadcastTo S128x128 v68 broadcasts_S1x128_S128x128
    have v112 : IVec S128x128 1 := cmpf .ole v110 v111
    have v113 : IVec S128x128 1 := andi v107 v112
    have cst_41 : F .f32 := Scalar.ofBits .f32 0x00000000#32
    have cst_42 : F .f32 := Scalar.ofBits .f32 0xFF800000#32
    have v114 : FVec F S128x128 .f32 := broadcast S128x128 cst_41
    have v115 : FVec F S128x128 .f32 := broadcast S128x128 cst_42
    have v116 : FVec F S128x128 .f32 := select v113 v114 v115
    let c256 : Index := 256#32
    let c0_43 : Index := 0#32
    let v117 : Vec F S128x128 .f32 ← Prog.lift (.load arg18 (Rect.unit (s := S2048x128) ![256, 0] S128x128.size inb_S2048x128_S128x128_256_0).toLoadRect (View.loadsAt_vmem h_S128x128))
    have v118 : FVec F S128x128 .f32 := shapeCast S128x128 v117 shapeCasts_S128x128_S128x128
    have v119 : FVec F S128x128 .f32 := shapeCast S128x128 v116 shapeCasts_S128x128_S128x128
    Prog.lift (.store arg18 (Rect.unit (s := S2048x128) ![256, 0] S128x128.size inb_S2048x128_S128x128_256_0) v119 Finset.univ (View.stores_vmem_bits_univ h_S128x128 rfl) (.inl rfl))
    let c0_i32_44 : BitVec 32 := 0#32
    let c9_i32 : BitVec 32 := 9#32
    let v120 : BitVec 32 := Scalar.addi c0_i32_44 c9_i32
    let c1_i32_45 : BitVec 32 := 1#32
    Scf.Loop.for k0_t3_loop k0_t3_ok ⟨⟩ fun k0_t3 _ => do
      let ⟨v121, v123, v124, v143, v148, v153, c4_i32_69⟩ : Σ' (v121 : BitVec 32) (v123 : BitVec 32) (v124 : BitVec 32) (v143 : FVec F S64x512 .fp8e4m3) (v148 : FVec F S1x128 .f32) (v153 : FVec F S1x128 .f32), BitVec 32 ← k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_44 c1_i32_45 k0_t3
      let ⟨v164, v185, v186, v187⟩ : Σ' (v164 : FVec F S1x512 .f32) (v185 : FVec F S1x512 .f32) (v186 : Vec F S1x512 .f32), BitVec 32 ← k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v121 v123 v148 v153 c4_i32_69
      let ⟨v188, v189, v191, v207, v219, v229⟩ : Σ' (v188 : BitVec 32) (v189 : FVec F S8x512 .f32) (v191 : FVec F S64x512 .f32) (v207 : FVec F S256x512 .f32) (v219 : FVec F S8x512 .f32), FVec F S64x512 .f32 ← k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h4 v61 k0_t3 v121 v124 v143 v185 v186 v187
      let ⟨v230, v237, v239, v253, v265, v270⟩ : Σ' (v230 : FVec F S64x512 .f32) (v237 : FVec F S8x512 .f32) (v239 : BitVec 32) (v253 : FVec F S128x512 .f32) (v265 : FVec F S8x512 .f32), FVec F S128x512 .fp8e4m3 ← k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h4 v61 k0_t3 v121 v124 v143 v185 v186 v188 v189 v191 v207 v219 v229
      let ⟨v298, v311, v313⟩ : Σ' (v298 : FVec F S64x512 .bf16) (v311 : FVec F S128x128 .bf16), Vec F S1x128x128 .bf16 ← k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h4 k0_t3 v123 v124 v164 v230 v237 v239 v253 v265 v270
      have v314 : FVec F S128x128 .bf16 := shapeCast S128x128 v313 shapeCasts_S1x128x128_S128x128
      have v315 : FVec F S1x128x128 .bf16 := shapeCast S1x128x128 v311 shapeCasts_S128x128_S1x128x128
      Prog.lift (.store arg13 (Rect.unit (s := S1x128x2048) (k0_off39 k0_t3 0#32) S1x128x128.size (k0_off39_inb k0_t3 0)) v315 Finset.univ (View.stores_vmem h_S1x128x128 (harg13.storeExact_slice rfl _ (k0_off39_packedbf16 k0_t3 0)) (fun _ => rfl)) (.inl rfl))
      have v316 : FVec F S64x128 .bf16 := extractStridedSlice S64x128 ![0, 256] v298 slices_S64x512_o0_256_S64x128
      have v317 : FVec F S64x128 .bf16 := extractStridedSlice S64x128 ![0, 384] v298 slices_S64x512_o0_384_S64x128
      have v318 : FVec F S128x128 .bf16 := concatenate S128x128 0 [⟨S64x128, v316⟩, ⟨S64x128, v317⟩] concatenates_S64x128_S64x128_S128x128_d0
      have v319 : FVec F S128x128 .bf16 := transpose S128x128 [1, 0] v318 transposes_S128x128_p1_0_S128x128
      let c256_i32_147 : BitVec 32 := 256#32
      let v320 : BitVec 32 := Scalar.muli v123 c256_i32_147
      let c128_i32_148 : BitVec 32 := 128#32
      let v321 : BitVec 32 := Scalar.addi v320 c128_i32_148
      let v322 : BitVec 32 := v321
      let c0_149 : Index := 0#32
      let v323 : Index := Scalar.indexCast v123
      let c0_150 : Index := 0#32
      let v324 : Vec F S1x1x128 .f32 ← Prog.lift (.load arg9 (Rect.unit (s := S1x8x128) (k0_off38 k0_t3) S1x1x128.size (k0_off38_inb k0_t3)).toLoadRect (View.loadsAt_vmem h_S1x1x128))
      have v325 : FVec F S1x128 .f32 := shapeCast S1x128 v324 shapeCasts_S1x1x128_S1x128
      have v326 : FVec F S1x128 .bf16 := truncf .bf16 v325 bitsLt_bf16_f32
      have v327 : FVec F S128x128 .bf16 := broadcastTo S128x128 v326 broadcasts_S1x128_S128x128
      have v328 : FVec F S128x128 .bf16 := mulf v319 v327
      let c0_151 : Index := 0#32
      let c0_152 : Index := 0#32
      let v329 : Index := Scalar.indexCast v322
      let v330 : Vec F S1x128x128 .bf16 ← Prog.lift (.load arg13 (Rect.unit (s := S1x128x2048) (k0_off39 k0_t3 128#32) S1x128x128.size (k0_off39_inb k0_t3 1)).toLoadRect (View.loadsAt_vmem h_S1x128x128))
      have v331 : FVec F S128x128 .bf16 := shapeCast S128x128 v330 shapeCasts_S1x128x128_S128x128
      have v332 : FVec F S1x128x128 .bf16 := shapeCast S1x128x128 v328 shapeCasts_S128x128_S1x128x128
      Prog.lift (.store arg13 (Rect.unit (s := S1x128x2048) (k0_off39 k0_t3 128#32) S1x128x128.size (k0_off39_inb k0_t3 1)) v332 Finset.univ (View.stores_vmem h_S1x128x128 (harg13.storeExact_slice rfl _ (k0_off39_packedbf16 k0_t3 1)) (fun _ => rfl)) (.inl rfl))
      pure ⟨⟩
    let c9_i32_46 : BitVec 32 := 9#32
    k ⟨⟩
theorem armK3_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond4 v8 = 1#1) (k : PUnit.{1} → Prog (TpuEff nD τ sig (Elt F) Λ₀ .tc) β) : armK3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 13#32) 3 1 true (hn3 v5 v8 k0_hw1 h) (by rfl) >>= k) := rfl

def armK4 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h5 : k0_cond5 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h5
    k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h5 v61 v63 v68 v96 cst_37 v97
    let c0_i32_51 : BitVec 32 := 0#32
    let c9_i32 : BitVec 32 := 9#32
    let v137 : BitVec 32 := Scalar.addi c0_i32_51 c9_i32
    let c1_i32_52 : BitVec 32 := 1#32
    Scf.Loop.for k0_t4_loop k0_t4_ok ⟨⟩ fun k0_t4 _ => do
      let ⟨v138, v140, v141, v160, v165, v170, c4_i32_76⟩ : Σ' (v138 : BitVec 32) (v140 : BitVec 32) (v141 : BitVec 32) (v160 : FVec F S64x512 .fp8e4m3) (v165 : FVec F S1x128 .f32) (v170 : FVec F S1x128 .f32), BitVec 32 ← k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_51 c1_i32_52 k0_t4
      let ⟨v181, v202, v203, v204⟩ : Σ' (v181 : FVec F S1x512 .f32) (v202 : FVec F S1x512 .f32) (v203 : Vec F S1x512 .f32), BitVec 32 ← k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t4 v138 v140 v165 v170 c4_i32_76
      let ⟨v205, v206, v208, v224, v236, v246⟩ : Σ' (v205 : BitVec 32) (v206 : FVec F S8x512 .f32) (v208 : FVec F S64x512 .f32) (v224 : FVec F S256x512 .f32) (v236 : FVec F S8x512 .f32), FVec F S64x512 .f32 ← k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h5 v61 k0_t4 v138 v141 v160 v202 v203 v204
      let ⟨v247, v254, v256, v270, v282, v287⟩ : Σ' (v247 : FVec F S64x512 .f32) (v254 : FVec F S8x512 .f32) (v256 : BitVec 32) (v270 : FVec F S256x512 .f32) (v282 : FVec F S8x512 .f32), FVec F S256x512 .fp8e4m3 ← k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h5 v61 k0_t4 v138 v141 v160 v202 v203 v205 v206 v208 v224 v236 v246
      let ⟨v315, v328, v330⟩ : Σ' (v315 : FVec F S64x512 .bf16) (v328 : FVec F S128x128 .bf16), Vec F S1x128x128 .bf16 ← k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h5 k0_t4 v140 v141 v181 v247 v254 v256 v270 v282 v287
      have v331 : FVec F S128x128 .bf16 := shapeCast S128x128 v330 shapeCasts_S1x128x128_S128x128
      have v332 : FVec F S1x128x128 .bf16 := shapeCast S1x128x128 v328 shapeCasts_S128x128_S1x128x128
      Prog.lift (.store arg13 (Rect.unit (s := S1x128x2048) (k0_off52 k0_t4 0#32) S1x128x128.size (k0_off52_inb k0_t4 0)) v332 Finset.univ (View.stores_vmem h_S1x128x128 (harg13.storeExact_slice rfl _ (k0_off52_packedbf16 k0_t4 0)) (fun _ => rfl)) (.inl rfl))
      have v333 : FVec F S64x128 .bf16 := extractStridedSlice S64x128 ![0, 256] v315 slices_S64x512_o0_256_S64x128
      have v334 : FVec F S64x128 .bf16 := extractStridedSlice S64x128 ![0, 384] v315 slices_S64x512_o0_384_S64x128
      have v335 : FVec F S128x128 .bf16 := concatenate S128x128 0 [⟨S64x128, v333⟩, ⟨S64x128, v334⟩] concatenates_S64x128_S64x128_S128x128_d0
      have v336 : FVec F S128x128 .bf16 := transpose S128x128 [1, 0] v335 transposes_S128x128_p1_0_S128x128
      let c256_i32_154 : BitVec 32 := 256#32
      let v337 : BitVec 32 := Scalar.muli v140 c256_i32_154
      let c128_i32_155 : BitVec 32 := 128#32
      let v338 : BitVec 32 := Scalar.addi v337 c128_i32_155
      let v339 : BitVec 32 := v338
      let c0_156 : Index := 0#32
      let v340 : Index := Scalar.indexCast v140
      let c0_157 : Index := 0#32
      let v341 : Vec F S1x1x128 .f32 ← Prog.lift (.load arg9 (Rect.unit (s := S1x8x128) (k0_off51 k0_t4) S1x1x128.size (k0_off51_inb k0_t4)).toLoadRect (View.loadsAt_vmem h_S1x1x128))
      have v342 : FVec F S1x128 .f32 := shapeCast S1x128 v341 shapeCasts_S1x1x128_S1x128
      have v343 : FVec F S1x128 .bf16 := truncf .bf16 v342 bitsLt_bf16_f32
      have v344 : FVec F S128x128 .bf16 := broadcastTo S128x128 v343 broadcasts_S1x128_S128x128
      have v345 : FVec F S128x128 .bf16 := mulf v336 v344
      let c0_158 : Index := 0#32
      let c0_159 : Index := 0#32
      let v346 : Index := Scalar.indexCast v339
      let v347 : Vec F S1x128x128 .bf16 ← Prog.lift (.load arg13 (Rect.unit (s := S1x128x2048) (k0_off52 k0_t4 128#32) S1x128x128.size (k0_off52_inb k0_t4 1)).toLoadRect (View.loadsAt_vmem h_S1x128x128))
      have v348 : FVec F S128x128 .bf16 := shapeCast S128x128 v347 shapeCasts_S1x128x128_S128x128
      have v349 : FVec F S1x128x128 .bf16 := shapeCast S1x128x128 v345 shapeCasts_S128x128_S1x128x128
      Prog.lift (.store arg13 (Rect.unit (s := S1x128x2048) (k0_off52 k0_t4 128#32) S1x128x128.size (k0_off52_inb k0_t4 1)) v349 Finset.univ (View.stores_vmem h_S1x128x128 (harg13.storeExact_slice rfl _ (k0_off52_packedbf16 k0_t4 1)) (fun _ => rfl)) (.inl rfl))
      pure ⟨⟩
    let c9_i32_53 : BitVec 32 := 9#32
    k ⟨⟩
theorem armK4_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond5 v8 = 1#1) (k : PUnit.{1} → Prog (TpuEff nD τ sig (Elt F) Λ₀ .tc) β) : armK4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 12#32) 4 2 false (hn4 v5 v8 k0_hw1 h) (by rfl) >>= k) := rfl

def armK5 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h6 : k0_cond6 v8 = 1#1) (k : PUnit.{1} → Prog (TpuEff nD τ sig (Elt F) Λ₀ .tc) β) : Prog (TpuEff nD τ sig (Elt F) Λ₀ .tc) β := do
    let ⟨v61, v63, v68, v96, cst_36, v97⟩ : Σ' (v61 : BitVec 32) (v63 : FVec F S1x128 .f32) (v68 : FVec F S1x128 .f32) (v96 : IVec S128x128 1) (cst_36 : F .f32), FVec F S128x128 .f32 ← k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h6
    k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 v61 v63 v68 v96 cst_36 v97
    let c512_i32 : BitVec 32 := 512#32
    let v137 : BitVec 32 := Scalar.addi v61 c512_i32
    let v138 : Index := Scalar.indexCast v137
    let c0_50 : Index := 0#32
    let v139 : Vec F S128x128 .f32 ← Prog.lift (.load arg15 (Rect.unit (s := S2048x128) (k0_off53 v5 512#32) S128x128.size (k0_off53_inb v5 v8 k0_hw1 k0_h6 4)).toLoadRect (View.loadsAt_vmem h_S128x128))
    have v140 : FVec F S128x128 .f32 := broadcastTo S128x128 v63 broadcasts_S1x128_S128x128
    have v141 : IVec S128x128 1 := cmpf .oeq v139 v140
    let c512_i32_51 : BitVec 32 := 512#32
    let v142 : BitVec 32 := Scalar.addi v61 c512_i32_51
    let v143 : Index := Scalar.indexCast v142
    let c0_52 : Index := 0#32
    let v144 : Vec F S128x128 .f32 ← Prog.lift (.load arg16 (Rect.unit (s := S2048x128) (k0_off53 v5 512#32) S128x128.size (k0_off53_inb v5 v8 k0_hw1 k0_h6 4)).toLoadRect (View.loadsAt_vmem h_S128x128))
    have v145 : FVec F S128x128 .f32 := broadcastTo S128x128 v68 broadcasts_S1x128_S128x128
    have v146 : IVec S128x128 1 := cmpf .ole v144 v145
    have v147 : IVec S128x128 1 := andi v141 v146
    have cst_53 : F .f32 := Scalar.ofBits .f32 0x00000000#32
    have cst_54 : F .f32 := Scalar.ofBits .f32 0xFF800000#32
    have v148 : FVec F S128x128 .f32 := broadcast S128x128 cst_53
    have v149 : FVec F S128x128 .f32 := broadcast S128x128 cst_54
    have v150 : FVec F S128x128 .f32 := select v147 v148 v149
    let c512 : Index := 512#32
    let c0_55 : Index := 0#32
    let v151 : Vec F S128x128 .f32 ← Prog.lift (.load arg18 (Rect.unit (s := S2048x128) ![512, 0] S128x128.size inb_S2048x128_S128x128_512_0).toLoadRect (View.loadsAt_vmem h_S128x128))
    have v152 : FVec F S128x128 .f32 := shapeCast S128x128 v151 shapeCasts_S128x128_S128x128
    have v153 : FVec F S128x128 .f32 := shapeCast S128x128 v150 shapeCasts_S128x128_S128x128
    Prog.lift (.store arg18 (Rect.unit (s := S2048x128) ![512, 0] S128x128.size inb_S2048x128_S128x128_512_0) v153 Finset.univ (View.stores_vmem_bits_univ h_S128x128 rfl) (.inl rfl))
    let c0_i32_56 : BitVec 32 := 0#32
    let c9_i32 : BitVec 32 := 9#32
    let v154 : BitVec 32 := Scalar.addi c0_i32_56 c9_i32
    let c1_i32_57 : BitVec 32 := 1#32
    Scf.Loop.for k0_t5_loop k0_t5_ok ⟨⟩ fun k0_t5 _ => do
      let ⟨v155, v157, v158, v177, v182, v187, c4_i32_81⟩ : Σ' (v155 : BitVec 32) (v157 : BitVec 32) (v158 : BitVec 32) (v177 : FVec F S64x512 .fp8e4m3) (v182 : FVec F S1x128 .f32) (v187 : FVec F S1x128 .f32), BitVec 32 ← k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_56 c1_i32_57 k0_t5
      let ⟨v198, v219, v220, v221⟩ : Σ' (v198 : FVec F S1x512 .f32) (v219 : FVec F S1x512 .f32) (v220 : Vec F S1x512 .f32), BitVec 32 ← k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t5 v155 v157 v182 v187 c4_i32_81
      let ⟨v222, v223, v225, v241, v253, v263⟩ : Σ' (v222 : BitVec 32) (v223 : FVec F S8x512 .f32) (v225 : FVec F S64x512 .f32) (v241 : FVec F S256x512 .f32) (v253 : FVec F S8x512 .f32), FVec F S64x512 .f32 ← k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 v61 k0_t5 v155 v158 v177 v219 v220 v221
      let ⟨v264, v271, v273, v287, v299, v304⟩ : Σ' (v264 : FVec F S64x512 .f32) (v271 : FVec F S8x512 .f32) (v273 : BitVec 32) (v287 : FVec F S256x512 .f32) (v299 : FVec F S8x512 .f32), FVec F S256x512 .fp8e4m3 ← k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 v61 k0_t5 v155 v158 v177 v219 v220 v222 v223 v225 v241 v253 v263
      let ⟨v310, v317, v319, v333, v345, cst_159, v347⟩ : Σ' (v310 : FVec F S64x512 .f32) (v317 : FVec F S8x512 .f32) (v319 : BitVec 32) (v333 : FVec F S128x512 .f32) (v345 : FVec F S8x512 .f32) (cst_159 : F .f32), FVec F S128x512 .f32 ← k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 v61 k0_t5 v155 v158 v177 v219 v220 v264 v271 v273 v287 v299 v304
      let ⟨v378, v382, v385, v390⟩ : Σ' (v378 : FVec F S64x512 .bf16) (v382 : FVec F S128x128 .bf16) (v385 : BitVec 32), FVec F S128x128 .bf16 ← k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 k0_t5 v157 v158 v198 v222 v310 v317 v319 v333 v345 cst_159 v347
      have v391 : FVec F S128x128 .bf16 := mulf v382 v390
      let c0_175 : Index := 0#32
      let c0_176 : Index := 0#32
      let v392 : Index := Scalar.indexCast v385
      let v393 : Vec F S1x128x128 .bf16 ← Prog.lift (.load arg13 (Rect.unit (s := S1x128x2048) (k0_off70 k0_t5 0#32) S1x128x128.size (k0_off70_inb k0_t5 0)).toLoadRect (View.loadsAt_vmem h_S1x128x128))
      have v394 : FVec F S128x128 .bf16 := shapeCast S128x128 v393 shapeCasts_S1x128x128_S128x128
      have v395 : FVec F S1x128x128 .bf16 := shapeCast S1x128x128 v391 shapeCasts_S128x128_S1x128x128
      Prog.lift (.store arg13 (Rect.unit (s := S1x128x2048) (k0_off70 k0_t5 0#32) S1x128x128.size (k0_off70_inb k0_t5 0)) v395 Finset.univ (View.stores_vmem h_S1x128x128 (harg13.storeExact_slice rfl _ (k0_off70_packedbf16 k0_t5 0)) (fun _ => rfl)) (.inl rfl))
      have v396 : FVec F S64x128 .bf16 := extractStridedSlice S64x128 ![0, 256] v378 slices_S64x512_o0_256_S64x128
      have v397 : FVec F S64x128 .bf16 := extractStridedSlice S64x128 ![0, 384] v378 slices_S64x512_o0_384_S64x128
      have v398 : FVec F S128x128 .bf16 := concatenate S128x128 0 [⟨S64x128, v396⟩, ⟨S64x128, v397⟩] concatenates_S64x128_S64x128_S128x128_d0
      have v399 : FVec F S128x128 .bf16 := transpose S128x128 [1, 0] v398 transposes_S128x128_p1_0_S128x128
      let c256_i32_177 : BitVec 32 := 256#32
      let v400 : BitVec 32 := Scalar.muli v157 c256_i32_177
      let c128_i32_178 : BitVec 32 := 128#32
      let v401 : BitVec 32 := Scalar.addi v400 c128_i32_178
      let v402 : BitVec 32 := v401
      let c0_179 : Index := 0#32
      let v403 : Index := Scalar.indexCast v157
      let c0_180 : Index := 0#32
      let v404 : Vec F S1x1x128 .f32 ← Prog.lift (.load arg9 (Rect.unit (s := S1x8x128) (k0_off69 k0_t5) S1x1x128.size (k0_off69_inb k0_t5)).toLoadRect (View.loadsAt_vmem h_S1x1x128))
      have v405 : FVec F S1x128 .f32 := shapeCast S1x128 v404 shapeCasts_S1x1x128_S1x128
      have v406 : FVec F S1x128 .bf16 := truncf .bf16 v405 bitsLt_bf16_f32
      have v407 : FVec F S128x128 .bf16 := broadcastTo S128x128 v406 broadcasts_S1x128_S128x128
      have v408 : FVec F S128x128 .bf16 := mulf v399 v407
      let c0_181 : Index := 0#32
      let c0_182 : Index := 0#32
      let v409 : Index := Scalar.indexCast v402
      let v410 : Vec F S1x128x128 .bf16 ← Prog.lift (.load arg13 (Rect.unit (s := S1x128x2048) (k0_off70 k0_t5 128#32) S1x128x128.size (k0_off70_inb k0_t5 1)).toLoadRect (View.loadsAt_vmem h_S1x128x128))
      have v411 : FVec F S128x128 .bf16 := shapeCast S128x128 v410 shapeCasts_S1x128x128_S128x128
      have v412 : FVec F S1x128x128 .bf16 := shapeCast S1x128x128 v408 shapeCasts_S128x128_S1x128x128
      Prog.lift (.store arg13 (Rect.unit (s := S1x128x2048) (k0_off70 k0_t5 128#32) S1x128x128.size (k0_off70_inb k0_t5 1)) v412 Finset.univ (View.stores_vmem h_S1x128x128 (harg13.storeExact_slice rfl _ (k0_off70_packedbf16 k0_t5 1)) (fun _ => rfl)) (.inl rfl))
      pure ⟨⟩
    let c9_i32_58 : BitVec 32 := 9#32
    k ⟨⟩
theorem armK5_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond6 v8 = 1#1) (k : PUnit.{1} → Prog (TpuEff nD τ sig (Elt F) Λ₀ .tc) β) : armK5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 11#32) 5 2 true (hn5 v5 v8 k0_hw1 h) (by rfl) >>= k) := rfl

def armK7 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h8 : k0_cond8 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h8
    k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 v63 v68 v96 cst_37 v97
    let ⟨v175, c768_i32_64⟩ : Σ' (v175 : IVec S128x128 1), BitVec 32 ← k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 v63 v68
    let v176 : BitVec 32 := Scalar.addi v61 c768_i32_64
    let v177 : Index := Scalar.indexCast v176
    let c0_65 : Index := 0#32
    let v178 : Vec F S128x128 .f32 ← Prog.lift (.load arg16 (Rect.unit (s := S2048x128) (k0_off86 v5 768#32) S128x128.size (k0_off86_inb v5 v8 k0_hw1 k0_h8 6)).toLoadRect (View.loadsAt_vmem h_S128x128))
    have v179 : FVec F S128x128 .f32 := broadcastTo S128x128 v68 broadcasts_S1x128_S128x128
    have v180 : IVec S128x128 1 := cmpf .ole v178 v179
    have v181 : IVec S128x128 1 := andi v175 v180
    have cst_66 : F .f32 := Scalar.ofBits .f32 0x00000000#32
    have cst_67 : F .f32 := Scalar.ofBits .f32 0xFF800000#32
    have v182 : FVec F S128x128 .f32 := broadcast S128x128 cst_66
    have v183 : FVec F S128x128 .f32 := broadcast S128x128 cst_67
    have v184 : FVec F S128x128 .f32 := select v181 v182 v183
    let c768 : Index := 768#32
    let c0_68 : Index := 0#32
    let v185 : Vec F S128x128 .f32 ← Prog.lift (.load arg18 (Rect.unit (s := S2048x128) ![768, 0] S128x128.size inb_S2048x128_S128x128_768_0).toLoadRect (View.loadsAt_vmem h_S128x128))
    have v186 : FVec F S128x128 .f32 := shapeCast S128x128 v185 shapeCasts_S128x128_S128x128
    have v187 : FVec F S128x128 .f32 := shapeCast S128x128 v184 shapeCasts_S128x128_S128x128
    Prog.lift (.store arg18 (Rect.unit (s := S2048x128) ![768, 0] S128x128.size inb_S2048x128_S128x128_768_0) v187 Finset.univ (View.stores_vmem_bits_univ h_S128x128 rfl) (.inl rfl))
    let c896_i32 : BitVec 32 := 896#32
    let v188 : BitVec 32 := Scalar.addi v61 c896_i32
    let v189 : Index := Scalar.indexCast v188
    let c0_69 : Index := 0#32
    let v190 : Vec F S128x128 .f32 ← Prog.lift (.load arg15 (Rect.unit (s := S2048x128) (k0_off86 v5 896#32) S128x128.size (k0_off86_inb v5 v8 k0_hw1 k0_h8 7)).toLoadRect (View.loadsAt_vmem h_S128x128))
    have v191 : FVec F S128x128 .f32 := broadcastTo S128x128 v63 broadcasts_S1x128_S128x128
    have v192 : IVec S128x128 1 := cmpf .oeq v190 v191
    let c896_i32_70 : BitVec 32 := 896#32
    let v193 : BitVec 32 := Scalar.addi v61 c896_i32_70
    let v194 : Index := Scalar.indexCast v193
    let c0_71 : Index := 0#32
    let v195 : Vec F S128x128 .f32 ← Prog.lift (.load arg16 (Rect.unit (s := S2048x128) (k0_off86 v5 896#32) S128x128.size (k0_off86_inb v5 v8 k0_hw1 k0_h8 7)).toLoadRect (View.loadsAt_vmem h_S128x128))
    have v196 : FVec F S128x128 .f32 := broadcastTo S128x128 v68 broadcasts_S1x128_S128x128
    have v197 : IVec S128x128 1 := cmpf .ole v195 v196
    have v198 : IVec S128x128 1 := andi v192 v197
    have cst_72 : F .f32 := Scalar.ofBits .f32 0x00000000#32
    have cst_73 : F .f32 := Scalar.ofBits .f32 0xFF800000#32
    have v199 : FVec F S128x128 .f32 := broadcast S128x128 cst_72
    have v200 : FVec F S128x128 .f32 := broadcast S128x128 cst_73
    have v201 : FVec F S128x128 .f32 := select v198 v199 v200
    let c896 : Index := 896#32
    let c0_74 : Index := 0#32
    let v202 : Vec F S128x128 .f32 ← Prog.lift (.load arg18 (Rect.unit (s := S2048x128) ![896, 0] S128x128.size inb_S2048x128_S128x128_896_0).toLoadRect (View.loadsAt_vmem h_S128x128))
    have v203 : FVec F S128x128 .f32 := shapeCast S128x128 v202 shapeCasts_S128x128_S128x128
    have v204 : FVec F S128x128 .f32 := shapeCast S128x128 v201 shapeCasts_S128x128_S128x128
    Prog.lift (.store arg18 (Rect.unit (s := S2048x128) ![896, 0] S128x128.size inb_S2048x128_S128x128_896_0) v204 Finset.univ (View.stores_vmem_bits_univ h_S128x128 rfl) (.inl rfl))
    let c0_i32_75 : BitVec 32 := 0#32
    let c9_i32 : BitVec 32 := 9#32
    let v205 : BitVec 32 := Scalar.addi c0_i32_75 c9_i32
    let c1_i32_76 : BitVec 32 := 1#32
    Scf.Loop.for k0_t7_loop k0_t7_ok ⟨⟩ fun k0_t7 _ => do
      let ⟨v206, v208, v209, v228, v233, v238, c4_i32_100⟩ : Σ' (v206 : BitVec 32) (v208 : BitVec 32) (v209 : BitVec 32) (v228 : FVec F S64x512 .fp8e4m3) (v233 : FVec F S1x128 .f32) (v238 : FVec F S1x128 .f32), BitVec 32 ← k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_75 c1_i32_76 k0_t7
      let ⟨v249, v270, v271, v272⟩ : Σ' (v249 : FVec F S1x512 .f32) (v270 : FVec F S1x512 .f32) (v271 : Vec F S1x512 .f32), BitVec 32 ← k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t7 v206 v208 v233 v238 c4_i32_100
      let ⟨v273, v274, v276, v292, v304, v314⟩ : Σ' (v273 : BitVec 32) (v274 : FVec F S8x512 .f32) (v276 : FVec F S64x512 .f32) (v292 : FVec F S256x512 .f32) (v304 : FVec F S8x512 .f32), FVec F S64x512 .f32 ← k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 k0_t7 v206 v209 v228 v270 v271 v272
      let ⟨v315, v322, v324, v338, v350, v355⟩ : Σ' (v315 : FVec F S64x512 .f32) (v322 : FVec F S8x512 .f32) (v324 : BitVec 32) (v338 : FVec F S256x512 .f32) (v350 : FVec F S8x512 .f32), FVec F S256x512 .fp8e4m3 ← k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 k0_t7 v206 v209 v228 v270 v271 v273 v274 v276 v292 v304 v314
      let ⟨v361, v368, v370, v384, v396, cst_178, v398⟩ : Σ' (v361 : FVec F S64x512 .f32) (v368 : FVec F S8x512 .f32) (v370 : BitVec 32) (v384 : FVec F S256x512 .f32) (v396 : FVec F S8x512 .f32) (cst_178 : F .f32), FVec F S256x512 .f32 ← k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 k0_t7 v206 v209 v228 v270 v271 v315 v322 v324 v338 v350 v355
      let ⟨v407, v414, v416, v430, v439, v441⟩ : Σ' (v407 : FVec F S64x512 .f32) (v414 : FVec F S8x512 .f32) (v416 : BitVec 32) (v430 : FVec F S256x512 .f32) (v439 : FVec F S256x512 .f32), FVec F S8x512 .f32 ← k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 k0_t7 v206 v209 v228 v270 v271 v273 v361 v368 v370 v384 cst_178 v398
      let ⟨v475, v479, v482⟩ : Σ' (v475 : FVec F S64x512 .bf16) (v479 : FVec F S128x128 .bf16), BitVec 32 ← k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 k0_t7 v208 v209 v249 v273 v396 v407 v414 v416 v430 v439 v441
      let c0_211 : Index := 0#32
      let v484 : Vec F S1x1x128 .f32 ← Prog.lift (.load arg9 (Rect.unit (s := S1x8x128) (k0_off101 k0_t7) S1x1x128.size (k0_off101_inb k0_t7)).toLoadRect (View.loadsAt_vmem h_S1x1x128))
      have v485 : FVec F S1x128 .f32 := shapeCast S1x128 v484 shapeCasts_S1x1x128_S1x128
      have v486 : FVec F S1x128 .bf16 := truncf .bf16 v485 bitsLt_bf16_f32
      have v487 : FVec F S128x128 .bf16 := broadcastTo S128x128 v486 broadcasts_S1x128_S128x128
      have v488 : FVec F S128x128 .bf16 := mulf v479 v487
      let c0_212 : Index := 0#32
      let c0_213 : Index := 0#32
      let v489 : Index := Scalar.indexCast v482
      let v490 : Vec F S1x128x128 .bf16 ← Prog.lift (.load arg13 (Rect.unit (s := S1x128x2048) (k0_off102 k0_t7 0#32) S1x128x128.size (k0_off102_inb k0_t7 0)).toLoadRect (View.loadsAt_vmem h_S1x128x128))
      have v491 : FVec F S128x128 .bf16 := shapeCast S128x128 v490 shapeCasts_S1x128x128_S128x128
      have v492 : FVec F S1x128x128 .bf16 := shapeCast S1x128x128 v488 shapeCasts_S128x128_S1x128x128
      Prog.lift (.store arg13 (Rect.unit (s := S1x128x2048) (k0_off102 k0_t7 0#32) S1x128x128.size (k0_off102_inb k0_t7 0)) v492 Finset.univ (View.stores_vmem h_S1x128x128 (harg13.storeExact_slice rfl _ (k0_off102_packedbf16 k0_t7 0)) (fun _ => rfl)) (.inl rfl))
      have v493 : FVec F S64x128 .bf16 := extractStridedSlice S64x128 ![0, 256] v475 slices_S64x512_o0_256_S64x128
      have v494 : FVec F S64x128 .bf16 := extractStridedSlice S64x128 ![0, 384] v475 slices_S64x512_o0_384_S64x128
      have v495 : FVec F S128x128 .bf16 := concatenate S128x128 0 [⟨S64x128, v493⟩, ⟨S64x128, v494⟩] concatenates_S64x128_S64x128_S128x128_d0
      have v496 : FVec F S128x128 .bf16 := transpose S128x128 [1, 0] v495 transposes_S128x128_p1_0_S128x128
      let c256_i32_214 : BitVec 32 := 256#32
      let v497 : BitVec 32 := Scalar.muli v208 c256_i32_214
      let c128_i32_215 : BitVec 32 := 128#32
      let v498 : BitVec 32 := Scalar.addi v497 c128_i32_215
      let v499 : BitVec 32 := v498
      let c0_216 : Index := 0#32
      let v500 : Index := Scalar.indexCast v208
      let c0_217 : Index := 0#32
      let v501 : Vec F S1x1x128 .f32 ← Prog.lift (.load arg9 (Rect.unit (s := S1x8x128) (k0_off101 k0_t7) S1x1x128.size (k0_off101_inb k0_t7)).toLoadRect (View.loadsAt_vmem h_S1x1x128))
      have v502 : FVec F S1x128 .f32 := shapeCast S1x128 v501 shapeCasts_S1x1x128_S1x128
      have v503 : FVec F S1x128 .bf16 := truncf .bf16 v502 bitsLt_bf16_f32
      have v504 : FVec F S128x128 .bf16 := broadcastTo S128x128 v503 broadcasts_S1x128_S128x128
      have v505 : FVec F S128x128 .bf16 := mulf v496 v504
      let c0_218 : Index := 0#32
      let c0_219 : Index := 0#32
      let v506 : Index := Scalar.indexCast v499
      let v507 : Vec F S1x128x128 .bf16 ← Prog.lift (.load arg13 (Rect.unit (s := S1x128x2048) (k0_off102 k0_t7 128#32) S1x128x128.size (k0_off102_inb k0_t7 1)).toLoadRect (View.loadsAt_vmem h_S1x128x128))
      have v508 : FVec F S128x128 .bf16 := shapeCast S128x128 v507 shapeCasts_S1x128x128_S128x128
      have v509 : FVec F S1x128x128 .bf16 := shapeCast S1x128x128 v505 shapeCasts_S128x128_S1x128x128
      Prog.lift (.store arg13 (Rect.unit (s := S1x128x2048) (k0_off102 k0_t7 128#32) S1x128x128.size (k0_off102_inb k0_t7 1)) v509 Finset.univ (View.stores_vmem h_S1x128x128 (harg13.storeExact_slice rfl _ (k0_off102_packedbf16 k0_t7 1)) (fun _ => rfl)) (.inl rfl))
      pure ⟨⟩
    let c9_i32_77 : BitVec 32 := 9#32
    k ⟨⟩
theorem armK7_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond8 v8 = 1#1) (k : PUnit.{1} → Prog (TpuEff nD τ sig (Elt F) Λ₀ .tc) β) : armK7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 8#32) 8 4 false (hn7 v5 v8 k0_hw1 h) (by rfl) >>= k) := rfl

def armK8 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h9 : k0_cond9 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h9
    k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 v63 v68 v96 cst_37 v97
    let ⟨v175, c768_i32_64⟩ : Σ' (v175 : IVec S128x128 1), BitVec 32 ← k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 v63 v68
    let ⟨v215, cst_78⟩ : Σ' (v215 : IVec S128x128 1), F .f32 ← k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 v63 v68 v175 c768_i32_64
    have cst_79 : F .f32 := Scalar.ofBits .f32 0xFF800000#32
    have v216 : FVec F S128x128 .f32 := broadcast S128x128 cst_78
    have v217 : FVec F S128x128 .f32 := broadcast S128x128 cst_79
    have v218 : FVec F S128x128 .f32 := select v215 v216 v217
    let c1024 : Index := 1024#32
    let c0_80 : Index := 0#32
    let v219 : Vec F S128x128 .f32 ← Prog.lift (.load arg18 (Rect.unit (s := S2048x128) ![1024, 0] S128x128.size inb_S2048x128_S128x128_1024_0).toLoadRect (View.loadsAt_vmem h_S128x128))
    have v220 : FVec F S128x128 .f32 := shapeCast S128x128 v219 shapeCasts_S128x128_S128x128
    have v221 : FVec F S128x128 .f32 := shapeCast S128x128 v218 shapeCasts_S128x128_S128x128
    Prog.lift (.store arg18 (Rect.unit (s := S2048x128) ![1024, 0] S128x128.size inb_S2048x128_S128x128_1024_0) v221 Finset.univ (View.stores_vmem_bits_univ h_S128x128 rfl) (.inl rfl))
    let c1152_i32 : BitVec 32 := 1152#32
    let v222 : BitVec 32 := Scalar.addi v61 c1152_i32
    let v223 : Index := Scalar.indexCast v222
    let c0_81 : Index := 0#32
    let v224 : Vec F S128x128 .f32 ← Prog.lift (.load arg15 (Rect.unit (s := S2048x128) (k0_off103 v5 1152#32) S128x128.size (k0_off103_inb v5 v8 k0_hw1 k0_h9 9)).toLoadRect (View.loadsAt_vmem h_S128x128))
    have v225 : FVec F S128x128 .f32 := broadcastTo S128x128 v63 broadcasts_S1x128_S128x128
    have v226 : IVec S128x128 1 := cmpf .oeq v224 v225
    let c1152_i32_82 : BitVec 32 := 1152#32
    let v227 : BitVec 32 := Scalar.addi v61 c1152_i32_82
    let v228 : Index := Scalar.indexCast v227
    let c0_83 : Index := 0#32
    let v229 : Vec F S128x128 .f32 ← Prog.lift (.load arg16 (Rect.unit (s := S2048x128) (k0_off103 v5 1152#32) S128x128.size (k0_off103_inb v5 v8 k0_hw1 k0_h9 9)).toLoadRect (View.loadsAt_vmem h_S128x128))
    have v230 : FVec F S128x128 .f32 := broadcastTo S128x128 v68 broadcasts_S1x128_S128x128
    have v231 : IVec S128x128 1 := cmpf .ole v229 v230
    have v232 : IVec S128x128 1 := andi v226 v231
    have cst_84 : F .f32 := Scalar.ofBits .f32 0x00000000#32
    have cst_85 : F .f32 := Scalar.ofBits .f32 0xFF800000#32
    have v233 : FVec F S128x128 .f32 := broadcast S128x128 cst_84
    have v234 : FVec F S128x128 .f32 := broadcast S128x128 cst_85
    have v235 : FVec F S128x128 .f32 := select v232 v233 v234
    let c1152 : Index := 1152#32
    let c0_86 : Index := 0#32
    let v236 : Vec F S128x128 .f32 ← Prog.lift (.load arg18 (Rect.unit (s := S2048x128) ![1152, 0] S128x128.size inb_S2048x128_S128x128_1152_0).toLoadRect (View.loadsAt_vmem h_S128x128))
    have v237 : FVec F S128x128 .f32 := shapeCast S128x128 v236 shapeCasts_S128x128_S128x128
    have v238 : FVec F S128x128 .f32 := shapeCast S128x128 v235 shapeCasts_S128x128_S128x128
    Prog.lift (.store arg18 (Rect.unit (s := S2048x128) ![1152, 0] S128x128.size inb_S2048x128_S128x128_1152_0) v238 Finset.univ (View.stores_vmem_bits_univ h_S128x128 rfl) (.inl rfl))
    let c0_i32_87 : BitVec 32 := 0#32
    let c9_i32 : BitVec 32 := 9#32
    let v239 : BitVec 32 := Scalar.addi c0_i32_87 c9_i32
    let c1_i32_88 : BitVec 32 := 1#32
    Scf.Loop.for k0_t8_loop k0_t8_ok ⟨⟩ fun k0_t8 _ => do
      let ⟨v240, v242, v243, v262, v267, v272, c4_i32_112⟩ : Σ' (v240 : BitVec 32) (v242 : BitVec 32) (v243 : BitVec 32) (v262 : FVec F S64x512 .fp8e4m3) (v267 : FVec F S1x128 .f32) (v272 : FVec F S1x128 .f32), BitVec 32 ← k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_87 c1_i32_88 k0_t8
      let ⟨v283, v304, v305, v306⟩ : Σ' (v283 : FVec F S1x512 .f32) (v304 : FVec F S1x512 .f32) (v305 : Vec F S1x512 .f32), BitVec 32 ← k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t8 v240 v242 v267 v272 c4_i32_112
      let ⟨v307, v308, v310, v326, v338, v348⟩ : Σ' (v307 : BitVec 32) (v308 : FVec F S8x512 .f32) (v310 : FVec F S64x512 .f32) (v326 : FVec F S256x512 .f32) (v338 : FVec F S8x512 .f32), FVec F S64x512 .f32 ← k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v306
      let ⟨v349, v356, v358, v372, v384, v389⟩ : Σ' (v349 : FVec F S64x512 .f32) (v356 : FVec F S8x512 .f32) (v358 : BitVec 32) (v372 : FVec F S256x512 .f32) (v384 : FVec F S8x512 .f32), FVec F S256x512 .fp8e4m3 ← k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v307 v308 v310 v326 v338 v348
      let ⟨v395, v402, v404, v418, v430, cst_190, v432⟩ : Σ' (v395 : FVec F S64x512 .f32) (v402 : FVec F S8x512 .f32) (v404 : BitVec 32) (v418 : FVec F S256x512 .f32) (v430 : FVec F S8x512 .f32) (cst_190 : F .f32), FVec F S256x512 .f32 ← k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v349 v356 v358 v372 v384 v389
      let ⟨v441, v448, v450, v464, v473, v475⟩ : Σ' (v441 : FVec F S64x512 .f32) (v448 : FVec F S8x512 .f32) (v450 : BitVec 32) (v464 : FVec F S256x512 .f32) (v473 : FVec F S256x512 .f32), FVec F S8x512 .f32 ← k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v307 v395 v402 v404 v418 cst_190 v432
      let ⟨v476, v487, v494, v496, v510, v516, v517⟩ : Σ' (v476 : FVec F S8x512 .f32) (v487 : FVec F S64x512 .f32) (v494 : FVec F S8x512 .f32) (v496 : BitVec 32) (v510 : FVec F S256x512 .f32) (v516 : FVec F S256x512 .f32), FVec F S256x512 .f32 ← k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v307 v430 v441 v448 v450 v464 v473 v475
      let ⟨v555, v559, v560⟩ : Σ' (v555 : FVec F S64x512 .bf16) (v559 : FVec F S128x128 .bf16), BitVec 32 ← k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 k0_t8 v242 v243 v283 v307 v476 v487 v494 v496 v510 v516 v517
      let c0_i32_239 : BitVec 32 := 0#32
      let v561 : BitVec 32 := Scalar.addi v560 c0_i32_239
      let v562 : BitVec 32 := v561
      let c0_240 : Index := 0#32
      let v563 : Index := Scalar.indexCast v242
      let c0_241 : Index := 0#32
      let v564 : Vec F S1x1x128 .f32 ← Prog.lift (.load arg9 (Rect.unit (s := S1x8x128) (k0_off120 k0_t8) S1x1x128.size (k0_off120_inb k0_t8)).toLoadRect (View.loadsAt_vmem h_S1x1x128))
      have v565 : FVec F S1x128 .f32 := shapeCast S1x128 v564 shapeCasts_S1x1x128_S1x128
      have v566 : FVec F S1x128 .bf16 := truncf .bf16 v565 bitsLt_bf16_f32
      have v567 : FVec F S128x128 .bf16 := broadcastTo S128x128 v566 broadcasts_S1x128_S128x128
      have v568 : FVec F S128x128 .bf16 := mulf v559 v567
      let c0_242 : Index := 0#32
      let c0_243 : Index := 0#32
      let v569 : Index := Scalar.indexCast v562
      let v570 : Vec F S1x128x128 .bf16 ← Prog.lift (.load arg13 (Rect.unit (s := S1x128x2048) (k0_off121 k0_t8 0#32) S1x128x128.size (k0_off121_inb k0_t8 0)).toLoadRect (View.loadsAt_vmem h_S1x128x128))
      have v571 : FVec F S128x128 .bf16 := shapeCast S128x128 v570 shapeCasts_S1x128x128_S128x128
      have v572 : FVec F S1x128x128 .bf16 := shapeCast S1x128x128 v568 shapeCasts_S128x128_S1x128x128
      Prog.lift (.store arg13 (Rect.unit (s := S1x128x2048) (k0_off121 k0_t8 0#32) S1x128x128.size (k0_off121_inb k0_t8 0)) v572 Finset.univ (View.stores_vmem h_S1x128x128 (harg13.storeExact_slice rfl _ (k0_off121_packedbf16 k0_t8 0)) (fun _ => rfl)) (.inl rfl))
      have v573 : FVec F S64x128 .bf16 := extractStridedSlice S64x128 ![0, 256] v555 slices_S64x512_o0_256_S64x128
      have v574 : FVec F S64x128 .bf16 := extractStridedSlice S64x128 ![0, 384] v555 slices_S64x512_o0_384_S64x128
      have v575 : FVec F S128x128 .bf16 := concatenate S128x128 0 [⟨S64x128, v573⟩, ⟨S64x128, v574⟩] concatenates_S64x128_S64x128_S128x128_d0
      have v576 : FVec F S128x128 .bf16 := transpose S128x128 [1, 0] v575 transposes_S128x128_p1_0_S128x128
      let c256_i32_244 : BitVec 32 := 256#32
      let v577 : BitVec 32 := Scalar.muli v242 c256_i32_244
      let c128_i32_245 : BitVec 32 := 128#32
      let v578 : BitVec 32 := Scalar.addi v577 c128_i32_245
      let v579 : BitVec 32 := v578
      let c0_246 : Index := 0#32
      let v580 : Index := Scalar.indexCast v242
      let c0_247 : Index := 0#32
      let v581 : Vec F S1x1x128 .f32 ← Prog.lift (.load arg9 (Rect.unit (s := S1x8x128) (k0_off120 k0_t8) S1x1x128.size (k0_off120_inb k0_t8)).toLoadRect (View.loadsAt_vmem h_S1x1x128))
      have v582 : FVec F S1x128 .f32 := shapeCast S1x128 v581 shapeCasts_S1x1x128_S1x128
      have v583 : FVec F S1x128 .bf16 := truncf .bf16 v582 bitsLt_bf16_f32
      have v584 : FVec F S128x128 .bf16 := broadcastTo S128x128 v583 broadcasts_S1x128_S128x128
      have v585 : FVec F S128x128 .bf16 := mulf v576 v584
      let c0_248 : Index := 0#32
      let c0_249 : Index := 0#32
      let v586 : Index := Scalar.indexCast v579
      let v587 : Vec F S1x128x128 .bf16 ← Prog.lift (.load arg13 (Rect.unit (s := S1x128x2048) (k0_off121 k0_t8 128#32) S1x128x128.size (k0_off121_inb k0_t8 1)).toLoadRect (View.loadsAt_vmem h_S1x128x128))
      have v588 : FVec F S128x128 .bf16 := shapeCast S128x128 v587 shapeCasts_S1x128x128_S128x128
      have v589 : FVec F S1x128x128 .bf16 := shapeCast S1x128x128 v585 shapeCasts_S128x128_S1x128x128
      Prog.lift (.store arg13 (Rect.unit (s := S1x128x2048) (k0_off121 k0_t8 128#32) S1x128x128.size (k0_off121_inb k0_t8 1)) v589 Finset.univ (View.stores_vmem h_S1x128x128 (harg13.storeExact_slice rfl _ (k0_off121_packedbf16 k0_t8 1)) (fun _ => rfl)) (.inl rfl))
      pure ⟨⟩
    let c9_i32_89 : BitVec 32 := 9#32
    k ⟨⟩
theorem armK8_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond9 v8 = 1#1) (k : PUnit.{1} → Prog (TpuEff nD τ sig (Elt F) Λ₀ .tc) β) : armK8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 6#32) 10 5 false (hn8 v5 v8 k0_hw1 h) (by rfl) >>= k) := rfl

def armK9 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h10 : k0_cond10 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h10
    k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 v63 v68 v96 cst_37 v97
    let ⟨v175, c768_i32_64⟩ : Σ' (v175 : IVec S128x128 1), BitVec 32 ← k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 v63 v68
    let ⟨v215, cst_78⟩ : Σ' (v215 : IVec S128x128 1), F .f32 ← k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 v63 v68 v175 c768_i32_64
    let v252 : FVec F S128x128 .f32 ← k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 v63 v68 v215 cst_78
    have v255 : FVec F S128x128 .f32 := shapeCast S128x128 v252 shapeCasts_S128x128_S128x128
    Prog.lift (.store arg18 (Rect.unit (s := S2048x128) ![1280, 0] S128x128.size inb_S2048x128_S128x128_1280_0) v255 Finset.univ (View.stores_vmem_bits_univ h_S128x128 rfl) (.inl rfl))
    let c1408_i32 : BitVec 32 := 1408#32
    let v256 : BitVec 32 := Scalar.addi v61 c1408_i32
    let v257 : Index := Scalar.indexCast v256
    let c0_93 : Index := 0#32
    let v258 : Vec F S128x128 .f32 ← Prog.lift (.load arg15 (Rect.unit (s := S2048x128) (k0_off122 v5 1408#32) S128x128.size (k0_off122_inb v5 v8 k0_hw1 k0_h10 11)).toLoadRect (View.loadsAt_vmem h_S128x128))
    have v259 : FVec F S128x128 .f32 := broadcastTo S128x128 v63 broadcasts_S1x128_S128x128
    have v260 : IVec S128x128 1 := cmpf .oeq v258 v259
    let c1408_i32_94 : BitVec 32 := 1408#32
    let v261 : BitVec 32 := Scalar.addi v61 c1408_i32_94
    let v262 : Index := Scalar.indexCast v261
    let c0_95 : Index := 0#32
    let v263 : Vec F S128x128 .f32 ← Prog.lift (.load arg16 (Rect.unit (s := S2048x128) (k0_off122 v5 1408#32) S128x128.size (k0_off122_inb v5 v8 k0_hw1 k0_h10 11)).toLoadRect (View.loadsAt_vmem h_S128x128))
    have v264 : FVec F S128x128 .f32 := broadcastTo S128x128 v68 broadcasts_S1x128_S128x128
    have v265 : IVec S128x128 1 := cmpf .ole v263 v264
    have v266 : IVec S128x128 1 := andi v260 v265
    have cst_96 : F .f32 := Scalar.ofBits .f32 0x00000000#32
    have cst_97 : F .f32 := Scalar.ofBits .f32 0xFF800000#32
    have v267 : FVec F S128x128 .f32 := broadcast S128x128 cst_96
    have v268 : FVec F S128x128 .f32 := broadcast S128x128 cst_97
    have v269 : FVec F S128x128 .f32 := select v266 v267 v268
    let c1408 : Index := 1408#32
    let c0_98 : Index := 0#32
    let v270 : Vec F S128x128 .f32 ← Prog.lift (.load arg18 (Rect.unit (s := S2048x128) ![1408, 0] S128x128.size inb_S2048x128_S128x128_1408_0).toLoadRect (View.loadsAt_vmem h_S128x128))
    have v271 : FVec F S128x128 .f32 := shapeCast S128x128 v270 shapeCasts_S128x128_S128x128
    have v272 : FVec F S128x128 .f32 := shapeCast S128x128 v269 shapeCasts_S128x128_S128x128
    Prog.lift (.store arg18 (Rect.unit (s := S2048x128) ![1408, 0] S128x128.size inb_S2048x128_S128x128_1408_0) v272 Finset.univ (View.stores_vmem_bits_univ h_S128x128 rfl) (.inl rfl))
    let c0_i32_99 : BitVec 32 := 0#32
    let c9_i32 : BitVec 32 := 9#32
    let v273 : BitVec 32 := Scalar.addi c0_i32_99 c9_i32
    let c1_i32_100 : BitVec 32 := 1#32
    Scf.Loop.for k0_t9_loop k0_t9_ok ⟨⟩ fun k0_t9 _ => do
      let ⟨v274, v276, v277, v296, v301, v306, c4_i32_124⟩ : Σ' (v274 : BitVec 32) (v276 : BitVec 32) (v277 : BitVec 32) (v296 : FVec F S64x512 .fp8e4m3) (v301 : FVec F S1x128 .f32) (v306 : FVec F S1x128 .f32), BitVec 32 ← k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_99 c1_i32_100 k0_t9
      let ⟨v317, v338, v339, v340⟩ : Σ' (v317 : FVec F S1x512 .f32) (v338 : FVec F S1x512 .f32) (v339 : Vec F S1x512 .f32), BitVec 32 ← k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t9 v274 v276 v301 v306 c4_i32_124
      let ⟨v341, v342, v344, v360, v372, v382⟩ : Σ' (v341 : BitVec 32) (v342 : FVec F S8x512 .f32) (v344 : FVec F S64x512 .f32) (v360 : FVec F S256x512 .f32) (v372 : FVec F S8x512 .f32), FVec F S64x512 .f32 ← k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v340
      let ⟨v383, v390, v392, v406, v418, v423⟩ : Σ' (v383 : FVec F S64x512 .f32) (v390 : FVec F S8x512 .f32) (v392 : BitVec 32) (v406 : FVec F S256x512 .f32) (v418 : FVec F S8x512 .f32), FVec F S256x512 .fp8e4m3 ← k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v341 v342 v344 v360 v372 v382
      let ⟨v429, v436, v438, v452, v464, cst_202, v466⟩ : Σ' (v429 : FVec F S64x512 .f32) (v436 : FVec F S8x512 .f32) (v438 : BitVec 32) (v452 : FVec F S256x512 .f32) (v464 : FVec F S8x512 .f32) (cst_202 : F .f32), FVec F S256x512 .f32 ← k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v383 v390 v392 v406 v418 v423
      let ⟨v475, v482, v484, v498, v507, v509⟩ : Σ' (v475 : FVec F S64x512 .f32) (v482 : FVec F S8x512 .f32) (v484 : BitVec 32) (v498 : FVec F S256x512 .f32) (v507 : FVec F S256x512 .f32), FVec F S8x512 .f32 ← k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v341 v429 v436 v438 v452 cst_202 v466
      let ⟨v510, v521, v528, v530, v544, v550, v551⟩ : Σ' (v510 : FVec F S8x512 .f32) (v521 : FVec F S64x512 .f32) (v528 : FVec F S8x512 .f32) (v530 : BitVec 32) (v544 : FVec F S256x512 .f32) (v550 : FVec F S256x512 .f32), FVec F S256x512 .f32 ← k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v341 v464 v475 v482 v484 v498 v507 v509
      let ⟨v556, v567, v574, v576, v590⟩ : Σ' (v556 : FVec F S8x512 .f32) (v567 : FVec F S64x512 .f32) (v574 : FVec F S8x512 .f32) (v576 : BitVec 32), FVec F S256x512 .f32 ← k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v341 v510 v521 v528 v530 v544 v550 v551
      let ⟨v635, v636⟩ : Σ' (v635 : FVec F S64x512 .bf16), FVec F S64x128 .bf16 ← k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 k0_t9 v277 v317 v338 v339 v341 v556 v567 v574 v576 v590
      have v637 : FVec F S64x128 .bf16 := extractStridedSlice S64x128 ![0, 128] v635 slices_S64x512_o0_128_S64x128
      have v638 : FVec F S128x128 .bf16 := concatenate S128x128 0 [⟨S64x128, v636⟩, ⟨S64x128, v637⟩] concatenates_S64x128_S64x128_S128x128_d0
      have v639 : FVec F S128x128 .bf16 := transpose S128x128 [1, 0] v638 transposes_S128x128_p1_0_S128x128
      let c256_i32_268 : BitVec 32 := 256#32
      let v640 : BitVec 32 := Scalar.muli v276 c256_i32_268
      let c0_i32_269 : BitVec 32 := 0#32
      let v641 : BitVec 32 := Scalar.addi v640 c0_i32_269
      let v642 : BitVec 32 := v641
      let c0_270 : Index := 0#32
      let v643 : Index := Scalar.indexCast v276
      let c0_271 : Index := 0#32
      let v644 : Vec F S1x1x128 .f32 ← Prog.lift (.load arg9 (Rect.unit (s := S1x8x128) (k0_off141 k0_t9) S1x1x128.size (k0_off141_inb k0_t9)).toLoadRect (View.loadsAt_vmem h_S1x1x128))
      have v645 : FVec F S1x128 .f32 := shapeCast S1x128 v644 shapeCasts_S1x1x128_S1x128
      have v646 : FVec F S1x128 .bf16 := truncf .bf16 v645 bitsLt_bf16_f32
      have v647 : FVec F S128x128 .bf16 := broadcastTo S128x128 v646 broadcasts_S1x128_S128x128
      have v648 : FVec F S128x128 .bf16 := mulf v639 v647
      let c0_272 : Index := 0#32
      let c0_273 : Index := 0#32
      let v649 : Index := Scalar.indexCast v642
      let v650 : Vec F S1x128x128 .bf16 ← Prog.lift (.load arg13 (Rect.unit (s := S1x128x2048) (k0_off142 k0_t9 0#32) S1x128x128.size (k0_off142_inb k0_t9 0)).toLoadRect (View.loadsAt_vmem h_S1x128x128))
      have v651 : FVec F S128x128 .bf16 := shapeCast S128x128 v650 shapeCasts_S1x128x128_S128x128
      have v652 : FVec F S1x128x128 .bf16 := shapeCast S1x128x128 v648 shapeCasts_S128x128_S1x128x128
      Prog.lift (.store arg13 (Rect.unit (s := S1x128x2048) (k0_off142 k0_t9 0#32) S1x128x128.size (k0_off142_inb k0_t9 0)) v652 Finset.univ (View.stores_vmem h_S1x128x128 (harg13.storeExact_slice rfl _ (k0_off142_packedbf16 k0_t9 0)) (fun _ => rfl)) (.inl rfl))
      have v653 : FVec F S64x128 .bf16 := extractStridedSlice S64x128 ![0, 256] v635 slices_S64x512_o0_256_S64x128
      have v654 : FVec F S64x128 .bf16 := extractStridedSlice S64x128 ![0, 384] v635 slices_S64x512_o0_384_S64x128
      have v655 : FVec F S128x128 .bf16 := concatenate S128x128 0 [⟨S64x128, v653⟩, ⟨S64x128, v654⟩] concatenates_S64x128_S64x128_S128x128_d0
      have v656 : FVec F S128x128 .bf16 := transpose S128x128 [1, 0] v655 transposes_S128x128_p1_0_S128x128
      let c256_i32_274 : BitVec 32 := 256#32
      let v657 : BitVec 32 := Scalar.muli v276 c256_i32_274
      let c128_i32_275 : BitVec 32 := 128#32
      let v658 : BitVec 32 := Scalar.addi v657 c128_i32_275
      let v659 : BitVec 32 := v658
      let c0_276 : Index := 0#32
      let v660 : Index := Scalar.indexCast v276
      let c0_277 : Index := 0#32
      let v661 : Vec F S1x1x128 .f32 ← Prog.lift (.load arg9 (Rect.unit (s := S1x8x128) (k0_off141 k0_t9) S1x1x128.size (k0_off141_inb k0_t9)).toLoadRect (View.loadsAt_vmem h_S1x1x128))
      have v662 : FVec F S1x128 .f32 := shapeCast S1x128 v661 shapeCasts_S1x1x128_S1x128
      have v663 : FVec F S1x128 .bf16 := truncf .bf16 v662 bitsLt_bf16_f32
      have v664 : FVec F S128x128 .bf16 := broadcastTo S128x128 v663 broadcasts_S1x128_S128x128
      have v665 : FVec F S128x128 .bf16 := mulf v656 v664
      let c0_278 : Index := 0#32
      let c0_279 : Index := 0#32
      let v666 : Index := Scalar.indexCast v659
      let v667 : Vec F S1x128x128 .bf16 ← Prog.lift (.load arg13 (Rect.unit (s := S1x128x2048) (k0_off142 k0_t9 128#32) S1x128x128.size (k0_off142_inb k0_t9 1)).toLoadRect (View.loadsAt_vmem h_S1x128x128))
      have v668 : FVec F S128x128 .bf16 := shapeCast S128x128 v667 shapeCasts_S1x128x128_S128x128
      have v669 : FVec F S1x128x128 .bf16 := shapeCast S1x128x128 v665 shapeCasts_S128x128_S1x128x128
      Prog.lift (.store arg13 (Rect.unit (s := S1x128x2048) (k0_off142 k0_t9 128#32) S1x128x128.size (k0_off142_inb k0_t9 1)) v669 Finset.univ (View.stores_vmem h_S1x128x128 (harg13.storeExact_slice rfl _ (k0_off142_packedbf16 k0_t9 1)) (fun _ => rfl)) (.inl rfl))
      pure ⟨⟩
    let c9_i32_101 : BitVec 32 := 9#32
    k ⟨⟩
theorem armK9_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond10 v8 = 1#1) (k : PUnit.{1} → Prog (TpuEff nD τ sig (Elt F) Λ₀ .tc) β) : armK9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 4#32) 12 6 false (hn9 v5 v8 k0_hw1 h) (by rfl) >>= k) := rfl

def armK10 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h11 : k0_cond11 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h11
    k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v96 cst_37 v97
    let ⟨v175, c768_i32_64⟩ : Σ' (v175 : IVec S128x128 1), BitVec 32 ← k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68
    let ⟨v215, cst_78⟩ : Σ' (v215 : IVec S128x128 1), F .f32 ← k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v175 c768_i32_64
    let v252 : FVec F S128x128 .f32 ← k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v215 cst_78
    let ⟨v292, v293⟩ : Σ' (v292 : Vec F S128x128 .f32), FVec F S128x128 .f32 ← k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v252
    let ⟨v328, v333⟩ : Σ' (v328 : IVec S128x128 1), IVec S128x128 1 ← k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v292 v293
    have v334 : IVec S128x128 1 := andi v328 v333
    have cst_120 : F .f32 := Scalar.ofBits .f32 0x00000000#32
    have cst_121 : F .f32 := Scalar.ofBits .f32 0xFF800000#32
    have v335 : FVec F S128x128 .f32 := broadcast S128x128 cst_120
    have v336 : FVec F S128x128 .f32 := broadcast S128x128 cst_121
    have v337 : FVec F S128x128 .f32 := select v334 v335 v336
    let c1920 : Index := 1920#32
    let c0_122 : Index := 0#32
    let v338 : Vec F S128x128 .f32 ← Prog.lift (.load arg18 (Rect.unit (s := S2048x128) ![1920, 0] S128x128.size inb_S2048x128_S128x128_1920_0).toLoadRect (View.loadsAt_vmem h_S128x128))
    have v339 : FVec F S128x128 .f32 := shapeCast S128x128 v338 shapeCasts_S128x128_S128x128
    have v340 : FVec F S128x128 .f32 := shapeCast S128x128 v337 shapeCasts_S128x128_S128x128
    Prog.lift (.store arg18 (Rect.unit (s := S2048x128) ![1920, 0] S128x128.size inb_S2048x128_S128x128_1920_0) v340 Finset.univ (View.stores_vmem_bits_univ h_S128x128 rfl) (.inl rfl))
    let c0_i32_123 : BitVec 32 := 0#32
    let c9_i32 : BitVec 32 := 9#32
    let v341 : BitVec 32 := Scalar.addi c0_i32_123 c9_i32
    let c1_i32_124 : BitVec 32 := 1#32
    Scf.Loop.for k0_t10_loop k0_t10_ok ⟨⟩ fun k0_t10 _ => do
      let ⟨v816, v819, v824⟩ : Σ' (v816 : FVec F S128x128 .bf16) (v819 : BitVec 32), FVec F S128x128 .bf16 ← k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 c0_i32_123 c1_i32_124 k0_t10
      have v825 : FVec F S128x128 .bf16 := mulf v816 v824
      let c0_338 : Index := 0#32
      let c0_339 : Index := 0#32
      let v826 : Index := Scalar.indexCast v819
      let v827 : Vec F S1x128x128 .bf16 ← Prog.lift (.load arg13 (Rect.unit (s := S1x128x2048) (k0_off167 k0_t10 128#32) S1x128x128.size (k0_off167_inb k0_t10 1)).toLoadRect (View.loadsAt_vmem h_S1x128x128))
      have v828 : FVec F S128x128 .bf16 := shapeCast S128x128 v827 shapeCasts_S1x128x128_S128x128
      have v829 : FVec F S1x128x128 .bf16 := shapeCast S1x128x128 v825 shapeCasts_S128x128_S1x128x128
      Prog.lift (.store arg13 (Rect.unit (s := S1x128x2048) (k0_off167 k0_t10 128#32) S1x128x128.size (k0_off167_inb k0_t10 1)) v829 Finset.univ (View.stores_vmem h_S1x128x128 (harg13.storeExact_slice rfl _ (k0_off167_packedbf16 k0_t10 1)) (fun _ => rfl)) (.inl rfl))
      pure ⟨⟩
    let c9_i32_125 : BitVec 32 := 9#32
    k ⟨⟩
theorem armK10_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond11 v8 = 1#1) (k : PUnit.{1} → Prog (TpuEff nD τ sig (Elt F) Λ₀ .tc) β) : armK10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 0#32) 16 8 false (hn10 v5 v8 k0_hw1 h) (by rfl) >>= k) := rfl

def bodyKA (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : Prog (TpuEff nD τ sig (Elt F) Λ₀ .tc) (Σ' (arg1 : BitVec 32) (v5 : Elt F .i32) (v8 : Elt F .i32), k0_chk1 v5 v8) :=
  have jp : PUnit.{1} → Prog (TpuEff nD τ sig (Elt F) Λ₀ .tc) (Σ' (arg1 : BitVec 32) (v5 : Elt F .i32) (v8 : Elt F .i32), k0_chk1 v5 v8) := fun _ =>
    smemLoad arg2 (Rect.unit (s := S8x16) (k0_off1 i) S1x1.size (k0_off1_inb i)) numel1_S1x1 rfl >>= fun (v5 : Elt F .i32) =>
    smemLoad arg3 (Rect.unit (s := S8x16) (k0_off1 i) S1x1.size (k0_off1_inb i)) numel1_S1x1 rfl >>= fun (v8 : Elt F .i32) =>
    Prog.lift (TpuEff.assume (k0_chk1 v5 v8) (k0_chk1.dec v5 v8)) >>= fun w =>
    have k0_hw1 : k0_chk1 v5 v8 := w.down
  have jp : PUnit.{1} → Prog (TpuEff nD τ sig (Elt F) Λ₀ .tc) (Σ' (arg1 : BitVec 32) (v5 : Elt F .i32) (v8 : Elt F .i32), k0_chk1 v5 v8) := fun _ =>
  have jp : PUnit.{1} → Prog (TpuEff nD τ sig (Elt F) Λ₀ .tc) (Σ' (arg1 : BitVec 32) (v5 : Elt F .i32) (v8 : Elt F .i32), k0_chk1 v5 v8) := fun _ =>
  have jp : PUnit.{1} → Prog (TpuEff nD τ sig (Elt F) Λ₀ .tc) (Σ' (arg1 : BitVec 32) (v5 : Elt F .i32) (v8 : Elt F .i32), k0_chk1 v5 v8) := fun _ =>
  have jp : PUnit.{1} → Prog (TpuEff nD τ sig (Elt F) Λ₀ .tc) (Σ' (arg1 : BitVec 32) (v5 : Elt F .i32) (v8 : Elt F .i32), k0_chk1 v5 v8) := fun _ =>
  have jp : PUnit.{1} → Prog (TpuEff nD τ sig (Elt F) Λ₀ .tc) (Σ' (arg1 : BitVec 32) (v5 : Elt F .i32) (v8 : Elt F .i32), k0_chk1 v5 v8) := fun _ =>
  pure ⟨BitVec.ofNat 32 (i 1).val, v5, v8, k0_hw1⟩
  if h : k0_cond6 v8 = 1#1 then armK5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : k0_cond5 v8 = 1#1 then armK4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : k0_cond4 v8 = 1#1 then armK3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : k0_cond3 v8 = 1#1 then armK2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : k0_cond2 v8 = 1#1 then armK1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : Scalar.cmpi .ne (Scalar.extui (Scalar.cmpi .eq (BitVec.ofNat 32 (i 1).val) 0#32) : BitVec 32) 0#32 = 1#1 then initK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp else jp ⟨⟩
theorem part151_eq (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = bodyKA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := rfl

def bodyK (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : Prog (TpuEff nD τ sig (Elt F) Λ₀ .tc) PUnit :=
  bodyKA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun x => match x with
  | ⟨arg1, v5, v8, k0_hw1⟩ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  pure ⟨⟩
  if h : k0_cond11 v8 = 1#1 then armK10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond10 v8 = 1#1 then armK9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond9 v8 = 1#1 then armK8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond8 v8 = 1#1 then armK7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond7 v8 = 1#1 then (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h >>= jp) else jp ⟨⟩
theorem body_eq (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = bodyK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := rfl

theorem armK6_eq (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond7 v8 = 1#1) : k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h =
  (armP i arg4 arg5 arg6 arg8 arg9 arg10 arg13 harg13 arg14 arg15 arg16 arg17 arg18 arg19 (k0At v5 10#32) 6 3 false (hn6 v5 v8 k0_hw1 h) (by rfl) >>= fun _ => pure ⟨⟩) := rfl

end Cert.Kernel.Attn
-- ==== Proof.Kernel.Run.lean ====
/-
  THE BODY RUNS: at a grid point the body copies the batch's scales, segments and positions at the batch's first block,
  reads the two words of the tables, and runs the arm (or arms) whose condition holds.  The buffers after it are a
  function of the blocks and of the buffers before.
-/
module

public import proofs.«01_k».proof.Proof.Kernel.Fill
public import proofs.«01_k».proof.Proof.Kernel.Arms

@[expose] public section

set_option maxRecDepth 65536
set_option cleanup.letToHave false

noncomputable section

namespace Cert.Kernel.Attn

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- The blocks of a grid point. -/
structure Blk (F : FTy → Type) [FloatOps F] where
  q : S1x2048x128.Idx → Elt F .fp8e4m3
  qs : S1x32x128.Idx → Elt F .f32
  k : S1x8x2048x64.Idx → Elt F .fp8e4m3
  ks : S1x8x2048.Idx → Elt F .f32
  v : S1x512x2048.Idx → Elt F .fp8e4m3
  vs : S1x8x128.Idx → Elt F .f32
  segq : S1x1x128.Idx → Elt F .f32
  segk : S1x1x2048.Idx → Elt F .f32
  posk : S1x1x2048.Idx → Elt F .f32

/-- The copies of a batch: the scales, the segments and the positions, down the columns. -/
structure Cp (F : FTy → Type) [FloatOps F] where
  k : S8x2048x128.Idx → Elt F .f32
  s : S2048x128.Idx → Elt F .f32
  p : S2048x128.Idx → Elt F .f32

/-- The buffers an arm rewrites: scores, maxima, mask, output block. -/
structure Sc (F : FTy → Type) [FloatOps F] where
  s : S2x2048x512.Idx → Elt F .f32
  m : S8x512.Idx → Elt F .f32
  b : S2048x128.Idx → Elt F .f32
  o : S1x128x2048.Idx → Elt F .bf16

/-- The copies of the blocks `B`. -/
def cpOf (B : Blk F) : Cp F := ⟨ksT B.ks, colT B.segk, colT B.posk⟩

/-- What the head loop of an arm reads. -/
def envOf (B : Blk F) (C : Cp F) (b : S2048x128.Idx → Elt F .f32) : Env F := ⟨B.q, B.qs, B.k, B.v, B.vs, C.k, b⟩

/-- The mask an arm writes. -/
def maskOf (i : grid0.Coords) (B : Blk F) (C : Cp F) (k0 n : ℕ) (hn : k0 + n ≤ 2048) (b : S2048x128.Idx → Elt F .f32) : S2048x128.Idx → Elt F .f32 :=
  biasT i (VecWindow.window B.segq (![0, 0, 0] : Fin 3 → ℕ) S1x1x128.size inb_S1x1x128_S1x1x128_0_0_0) C.s C.p k0 n hn b

/-- An arm's window of `128 * nb` keys from key `k0` on. -/
def armF (i : grid0.Coords) (B : Blk F) (C : Cp F) (k0 nb m : ℕ) (o : Bool) (hn : k0 + 128 * nb ≤ 2048) (h : 128 * nb = 256 * m + cond o 128 0) (X : Sc F) : Sc F :=
  let b := maskOf i B C k0 (128 * nb) hn X.b
  let M := loopF (envOf B C b) k0 (128 * nb) hn m o h ⟨X.s, X.m, X.o⟩ 9
  ⟨M.s, M.m, b, M.o⟩

/-- Arm 1, where its condition holds. -/
def st1 (i : grid0.Coords) (B : Blk F) (C : Cp F) (v5 v8 : BitVec 32) (hw : k0_chk1 v5 v8) (X : Sc F) : Sc F :=
  if h : k0_cond2 v8 = 1#1 then armF i B C (k0At v5 15#32).toNat 1 0 true (hn1 v5 v8 hw h) (by rfl) X else X

/-- Arm 2, where its condition holds. -/
def st2 (i : grid0.Coords) (B : Blk F) (C : Cp F) (v5 v8 : BitVec 32) (hw : k0_chk1 v5 v8) (X : Sc F) : Sc F :=
  if h : k0_cond3 v8 = 1#1 then armF i B C (k0At v5 14#32).toNat 2 1 false (hn2 v5 v8 hw h) (by rfl) X else X

/-- Arm 3, where its condition holds. -/
def st3 (i : grid0.Coords) (B : Blk F) (C : Cp F) (v5 v8 : BitVec 32) (hw : k0_chk1 v5 v8) (X : Sc F) : Sc F :=
  if h : k0_cond4 v8 = 1#1 then armF i B C (k0At v5 13#32).toNat 3 1 true (hn3 v5 v8 hw h) (by rfl) X else X

/-- Arm 4, where its condition holds. -/
def st4 (i : grid0.Coords) (B : Blk F) (C : Cp F) (v5 v8 : BitVec 32) (hw : k0_chk1 v5 v8) (X : Sc F) : Sc F :=
  if h : k0_cond5 v8 = 1#1 then armF i B C (k0At v5 12#32).toNat 4 2 false (hn4 v5 v8 hw h) (by rfl) X else X

/-- Arm 5, where its condition holds. -/
def st5 (i : grid0.Coords) (B : Blk F) (C : Cp F) (v5 v8 : BitVec 32) (hw : k0_chk1 v5 v8) (X : Sc F) : Sc F :=
  if h : k0_cond6 v8 = 1#1 then armF i B C (k0At v5 11#32).toNat 5 2 true (hn5 v5 v8 hw h) (by rfl) X else X

/-- Arm 6, where its condition holds. -/
def st6 (i : grid0.Coords) (B : Blk F) (C : Cp F) (v5 v8 : BitVec 32) (hw : k0_chk1 v5 v8) (X : Sc F) : Sc F :=
  if h : k0_cond7 v8 = 1#1 then armF i B C (k0At v5 10#32).toNat 6 3 false (hn6 v5 v8 hw h) (by rfl) X else X

/-- Arm 7, where its condition holds. -/
def st7 (i : grid0.Coords) (B : Blk F) (C : Cp F) (v5 v8 : BitVec 32) (hw : k0_chk1 v5 v8) (X : Sc F) : Sc F :=
  if h : k0_cond8 v8 = 1#1 then armF i B C (k0At v5 8#32).toNat 8 4 false (hn7 v5 v8 hw h) (by rfl) X else X

/-- Arm 8, where its condition holds. -/
def st8 (i : grid0.Coords) (B : Blk F) (C : Cp F) (v5 v8 : BitVec 32) (hw : k0_chk1 v5 v8) (X : Sc F) : Sc F :=
  if h : k0_cond9 v8 = 1#1 then armF i B C (k0At v5 6#32).toNat 10 5 false (hn8 v5 v8 hw h) (by rfl) X else X

/-- Arm 9, where its condition holds. -/
def st9 (i : grid0.Coords) (B : Blk F) (C : Cp F) (v5 v8 : BitVec 32) (hw : k0_chk1 v5 v8) (X : Sc F) : Sc F :=
  if h : k0_cond10 v8 = 1#1 then armF i B C (k0At v5 4#32).toNat 12 6 false (hn9 v5 v8 hw h) (by rfl) X else X

/-- Arm 10, where its condition holds. -/
def st10 (i : grid0.Coords) (B : Blk F) (C : Cp F) (v5 v8 : BitVec 32) (hw : k0_chk1 v5 v8) (X : Sc F) : Sc F :=
  if h : k0_cond11 v8 = 1#1 then armF i B C (k0At v5 0#32).toNat 16 8 false (hn10 v5 v8 hw h) (by rfl) X else X

/-- The copies after the body's first part. -/
def initF (i : grid0.Coords) (B : Blk F) (C : Cp F) : Cp F :=
  if Scalar.cmpi .ne (Scalar.extui (Scalar.cmpi .eq (BitVec.ofNat 32 (i 1).val) 0#32) : BitVec 32) 0#32 = 1#1 then cpOf B else C

/-- The buffers after the first five arms, and after all ten. -/
def halfF (i : grid0.Coords) (B : Blk F) (C : Cp F) (v5 v8 : BitVec 32) (hw : k0_chk1 v5 v8) (X : Sc F) : Sc F := st5 i B C v5 v8 hw (st4 i B C v5 v8 hw (st3 i B C v5 v8 hw (st2 i B C v5 v8 hw (st1 i B C v5 v8 hw (X)))))
def restF (i : grid0.Coords) (B : Blk F) (C : Cp F) (v5 v8 : BitVec 32) (hw : k0_chk1 v5 v8) (X : Sc F) : Sc F := st10 i B C v5 v8 hw (st9 i B C v5 v8 hw (st8 i B C v5 v8 hw (st7 i B C v5 v8 hw (st6 i B C v5 v8 hw (X)))))
def bodyF (i : grid0.Coords) (B : Blk F) (C : Cp F) (v5 v8 : BitVec 32) (hw : k0_chk1 v5 v8) (X : Sc F) : Sc F := restF i B C v5 v8 hw (halfF i B C v5 v8 hw X)

section
variable (c : Dev nD) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole)

/-- The blocks and the copies, held. -/
def RoB (arg4 : Memref sig .tc .vmem S1x2048x128 .fp8e4m3) (arg5 : Memref sig .tc .vmem S1x32x128 .f32) (arg6 : Memref sig .tc .vmem S1x8x2048x64 .fp8e4m3) (arg7 : Memref sig .tc .vmem S1x8x2048 .f32) (arg8 : Memref sig .tc .vmem S1x512x2048 .fp8e4m3) (arg9 : Memref sig .tc .vmem S1x8x128 .f32) (arg10 : Memref sig .tc .vmem S1x1x128 .f32) (arg11 : Memref sig .tc .vmem S1x1x2048 .f32) (arg12 : Memref sig .tc .vmem S1x1x2048 .f32) (arg14 : Memref sig .tc .vmem S8x2048x128 .f32) (arg15 : Memref sig .tc .vmem S2048x128 .f32) (arg16 : Memref sig .tc .vmem S2048x128 .f32) (B : Blk F) (C : Cp F) : sProp 𝕄 :=
  iprop(own c arg4 B.q ∗ own c arg5 B.qs ∗ own c arg6 B.k ∗ own c arg7 B.ks ∗ own c arg8 B.v ∗ own c arg9 B.vs ∗ own c arg10 B.segq ∗ own c arg11 B.segk ∗ own c arg12 B.posk ∗ own c arg14 C.k ∗ own c arg15 C.s ∗ own c arg16 C.p)
/-- The rewritten buffers, held. -/
def RwB (arg13 : Memref sig .tc .vmem S1x128x2048 .bf16) (arg17 : Memref sig .tc .vmem S2x2048x512 .f32) (arg18 : Memref sig .tc .vmem S2048x128 .f32) (arg19 : Memref sig .tc .vmem S8x512 .f32) (X : Sc F) : sProp 𝕄 :=
  iprop(own c arg17 X.s ∗ own c arg19 X.m ∗ own c arg18 X.b ∗ own c arg13 X.o)

/-- A program takes the rewritten buffers through `f` and returns `r`. -/
def A (B : Blk F) (C : Cp F) {α : Type} (p : Prog (TpuEff nD τ sig (Elt F) Λ₀ .tc) α) (f : Sc F → Sc F) (r : α) : Prop :=
  ∀ (X : Sc F) (Q : α → sProp 𝕄),
    iprop(RoB c arg4 arg5 arg6 arg7 arg8 arg9 arg10 arg11 arg12 arg14 arg15 arg16 B C ∗ RwB c arg13 arg17 arg18 arg19 X
      ∗ (RoB c arg4 arg5 arg6 arg7 arg8 arg9 arg10 arg11 arg12 arg14 arg15 arg16 B C -∗ RwB c arg13 arg17 arg18 arg19 (f X) -∗ Q r)) ⊢ wpK c p Q

variable (B : Blk F) (C : Cp F)

theorem A_ret {α : Type} (r : α) : A c arg4 arg5 arg6 arg7 arg8 arg9 arg10 arg11 arg12 arg13 arg14 arg15 arg16 arg17 arg18 arg19 B C (.ret r) (fun X => X) r := fun X Q => by
  iintro ⟨H1, H2, Hk⟩
  rw [show wpK c (.ret r : Prog (TpuEff nD τ sig (Elt F) Λ₀ .tc) α) Q = _ from wp_ret _ _ _ _ _]
  imodintro
  iapply Hk $$ H1 H2

theorem A_bind {α : Type} {p : Prog (TpuEff nD τ sig (Elt F) Λ₀ .tc) Unit} {jp : Unit → Prog (TpuEff nD τ sig (Elt F) Λ₀ .tc) α} {f g : Sc F → Sc F} {r : α}
    (hp : A c arg4 arg5 arg6 arg7 arg8 arg9 arg10 arg11 arg12 arg13 arg14 arg15 arg16 arg17 arg18 arg19 B C p f ⟨⟩) (hj : A c arg4 arg5 arg6 arg7 arg8 arg9 arg10 arg11 arg12 arg13 arg14 arg15 arg16 arg17 arg18 arg19 B C (jp ⟨⟩) g r) : A c arg4 arg5 arg6 arg7 arg8 arg9 arg10 arg11 arg12 arg13 arg14 arg15 arg16 arg17 arg18 arg19 B C (p >>= jp) (fun X => g (f X)) r := fun X Q => by
  refine BIBase.Entails.trans ?_ ((hp X (fun a => wpK c (jp a) Q)).trans (BIBase.Entails.of_eq (wp_bind _ _ _ _ _ _).symm))
  iintro ⟨H1, H2, Hk⟩
  isplitl [H1]; · iexact H1
  isplitl [H2]; · iexact H2
  iintro H1 H2
  iapply (hj (f X) Q)
  isplitl [H1]; · iexact H1
  isplitl [H2]; · iexact H2
  iexact Hk

theorem A_dite {α : Type} {cnd : Prop} [Decidable cnd] {p : cnd → Prog (TpuEff nD τ sig (Elt F) Λ₀ .tc) α} {q : Prog (TpuEff nD τ sig (Elt F) Λ₀ .tc) α}
    {f : cnd → Sc F → Sc F} {g : Sc F → Sc F} {r : α} (hp : ∀ h, A c arg4 arg5 arg6 arg7 arg8 arg9 arg10 arg11 arg12 arg13 arg14 arg15 arg16 arg17 arg18 arg19 B C (p h) (fun X => g (f h X)) r) (hq : A c arg4 arg5 arg6 arg7 arg8 arg9 arg10 arg11 arg12 arg13 arg14 arg15 arg16 arg17 arg18 arg19 B C q g r) :
    A c arg4 arg5 arg6 arg7 arg8 arg9 arg10 arg11 arg12 arg13 arg14 arg15 arg16 arg17 arg18 arg19 B C (if h : cnd then p h else q) (fun X => g (if h : cnd then f h X else X)) r := by
  by_cases h : cnd
  · simp only [dif_pos h]; exact hp h
  · simp only [dif_neg h]; exact hq

theorem A_congr {α : Type} {p p' : Prog (TpuEff nD τ sig (Elt F) Λ₀ .tc) α} {f : Sc F → Sc F} {r : α} (e : p = p') (h : A c arg4 arg5 arg6 arg7 arg8 arg9 arg10 arg11 arg12 arg13 arg14 arg15 arg16 arg17 arg18 arg19 B C p' f r) : A c arg4 arg5 arg6 arg7 arg8 arg9 arg10 arg11 arg12 arg13 arg14 arg15 arg16 arg17 arg18 arg19 B C p f r := e ▸ h

theorem arm_A (i : grid0.Coords) (k0w : BitVec 32) (nb m : ℕ) (o : Bool) (hn : k0w.toNat + 128 * nb ≤ 2048) (h : 128 * nb = 256 * m + cond o 128 0) :
    A c arg4 arg5 arg6 arg7 arg8 arg9 arg10 arg11 arg12 arg13 arg14 arg15 arg16 arg17 arg18 arg19 B C (armP i arg4 arg5 arg6 arg8 arg9 arg10 arg13 harg13 arg14 arg15 arg16 arg17 arg18 arg19 k0w nb m o hn h) (armF i B C k0w.toNat nb m o hn h) ⟨⟩ := fun X Q => by
  unfold armP RoB RwB
  iintro ⟨⟨H4, H5, H6, H7, H8, H9, H10, H11, H12, H14, H15, H16⟩, ⟨H17, H19, H18, H13⟩, Hk⟩
  iapply own_load $$ H10; iintro H10
  have p : 128 * (0 + nb) ≤ 128 * nb := by omega
  have p' : 128 * (0 + nb) = 128 * nb := by omega
  have p2 : ∀ y : S2048x128.Idx, (y 0).val < 128 * 0 → X.b y = maskOf i B C k0w.toNat (128 * nb) hn X.b y := fun y hy => absurd hy (by omega)
  have p3 : ∀ y : S2048x128.Idx, ¬ (y 0).val < 128 * 0 → X.b y = X.b y := fun y hy => rfl
  iapply (biasChunks_wp c i arg15 arg16 arg18 k0w (128 * nb) hn _ _ Q C.s C.p X.b nb 0 p p' X.b p2 p3)
  isplitl [H15]; · iexact H15
  isplitl [H16]; · iexact H16
  isplitl [H18]; · iexact H18
  iintro H15 H16 H18
  iapply (loop_wp c arg4 arg5 arg6 arg8 arg9 arg13 harg13 arg14 arg17 arg18 arg19 (envOf B C (maskOf i B C k0w.toNat (128 * nb) hn X.b)) k0w m o (128 * nb) hn h ⟨X.s, X.m, X.o⟩ Q)
  unfold Ro Rw
  isplitl [H4 H5 H6 H8 H9 H14 H18]
  · isplitl [H4]; · iexact H4
    isplitl [H5]; · iexact H5
    isplitl [H6]; · iexact H6
    isplitl [H8]; · iexact H8
    isplitl [H9]; · iexact H9
    isplitl [H14]; · iexact H14
    iexact H18
  isplitl [H17 H19 H13]
  · isplitl [H17]; · iexact H17
    isplitl [H19]; · iexact H19
    iexact H13
  iintro ⟨H4, H5, H6, H8, H9, H14, H18⟩ ⟨H17, H19, H13⟩
  iapply Hk $$ [H4 H5 H6 H7 H8 H9 H10 H11 H12 H14 H15 H16] [H17 H18 H19 H13]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H15]; · iexact H15
    iexact H16
  · isplitl [H17]; · iexact H17
    isplitl [H19]; · iexact H19
    isplitl [H18]; · iexact H18
    iexact H13

/-- After arm 10. -/
def J10 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ => pure ⟨⟩
/-- After arm 9. -/
def J9 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond11 v8 = 1#1 then armK10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (J10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 8. -/
def J8 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond10 v8 = 1#1 then armK9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (J9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 7. -/
def J7 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond9 v8 = 1#1 then armK8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (J8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 6. -/
def J6 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond8 v8 = 1#1 then armK7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (J7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 5. -/
def J5 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond7 v8 = 1#1 then (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h >>= J6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 5. -/
def H5 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ => pure ⟨BitVec.ofNat 32 (i 1).val, v5, v8, hw⟩
/-- After arm 4. -/
def H4 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond6 v8 = 1#1 then armK5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 3. -/
def H3 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond5 v8 = 1#1 then armK4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 2. -/
def H2 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond4 v8 = 1#1 then armK3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 1. -/
def H1 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond3 v8 = 1#1 then armK2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 0. -/
def H0 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond2 v8 = 1#1 then armK1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After the copies. -/
def HI (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : PUnit.{1} → Prog (TpuEff nD τ sig (Elt F) Λ₀ .tc) (Σ' (arg1 : BitVec 32) (v5 : Elt F .i32) (v8 : Elt F .i32), k0_chk1 v5 v8) := fun _ =>
  smemLoad arg2 (Rect.unit (s := S8x16) (k0_off1 i) S1x1.size (k0_off1_inb i)) numel1_S1x1 rfl >>= fun (v5 : Elt F .i32) =>
  smemLoad arg3 (Rect.unit (s := S8x16) (k0_off1 i) S1x1.size (k0_off1_inb i)) numel1_S1x1 rfl >>= fun (v8 : Elt F .i32) =>
  Prog.lift (TpuEff.assume (k0_chk1 v5 v8) (k0_chk1.dec v5 v8)) >>= fun w => H0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 w.down ⟨⟩

theorem half_eq (i : grid0.Coords) : bodyKA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
    if Scalar.cmpi .ne (Scalar.extui (Scalar.cmpi .eq (BitVec.ofNat 32 (i 1).val) 0#32) : BitVec 32) 0#32 = 1#1 then initK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (HI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) else HI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ⟨⟩ := rfl

/-- What follows the first five arms. -/
def restK (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : (Σ' (arg1 : BitVec 32) (v5 : Elt F .i32) (v8 : Elt F .i32), k0_chk1 v5 v8) → Prog (TpuEff nD τ sig (Elt F) Λ₀ .tc) PUnit := fun x => match x with
  | ⟨arg1, v5, v8, k0_hw1⟩ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  pure ⟨⟩
  if h : k0_cond11 v8 = 1#1 then armK10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond10 v8 = 1#1 then armK9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond9 v8 = 1#1 then armK8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond8 v8 = 1#1 then armK7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond7 v8 = 1#1 then (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h >>= jp) else jp ⟨⟩

theorem whole_eq (i : grid0.Coords) : bodyK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (bodyKA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= restK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := rfl
theorem restK_eq (i : grid0.Coords) (v5 v8 : BitVec 32) (hw : k0_chk1 v5 v8) : restK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ⟨BitVec.ofNat 32 (i 1).val, v5, v8, hw⟩ = J5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩ := rfl

theorem J_A (i : grid0.Coords) (v5 v8 : BitVec 32) (hw : k0_chk1 v5 v8) :
    A c arg4 arg5 arg6 arg7 arg8 arg9 arg10 arg11 arg12 arg13 arg14 arg15 arg16 arg17 arg18 arg19 B C (J5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩) (restF i B C v5 v8 hw) ⟨⟩ := by
  have b11 : A c arg4 arg5 arg6 arg7 arg8 arg9 arg10 arg11 arg12 arg13 arg14 arg15 arg16 arg17 arg18 arg19 B C (J10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩) (fun X => X) ⟨⟩ := A_ret c arg4 arg5 arg6 arg7 arg8 arg9 arg10 arg11 arg12 arg13 arg14 arg15 arg16 arg17 arg18 arg19 B C _
  have b10 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK10_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := J10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 0#32) 16 8 false (hn10 v5 v8 hw h) (by rfl)) b11)) b11
  have b9 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK9_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := J9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 4#32) 12 6 false (hn9 v5 v8 hw h) (by rfl)) b10)) b10
  have b8 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK8_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := J8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 6#32) 10 5 false (hn8 v5 v8 hw h) (by rfl)) b9)) b9
  have b7 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK7_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := J7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 8#32) 8 4 false (hn7 v5 v8 hw h) (by rfl)) b8)) b8
  have c6 := fun (h : k0_cond7 v8 = 1#1) => A_congr c arg4 arg5 arg6 arg7 arg8 arg9 arg10 arg11 arg12 arg13 arg14 arg15 arg16 arg17 arg18 arg19 B C (armK6_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h) (A_bind c arg4 arg5 arg6 arg7 arg8 arg9 arg10 arg11 arg12 arg13 arg14 arg15 arg16 arg17 arg18 arg19 B C (arm_A c arg4 arg5 arg6 arg7 arg8 arg9 arg10 arg11 arg12 arg13 harg13 arg14 arg15 arg16 arg17 arg18 arg19 B C i (k0At v5 10#32) 6 3 false (hn6 v5 v8 hw h) (by rfl)) (A_ret c arg4 arg5 arg6 arg7 arg8 arg9 arg10 arg11 arg12 arg13 arg14 arg15 arg16 arg17 arg18 arg19 B C (PUnit.unit : PUnit.{1})))
  have b6 := A_dite c arg4 arg5 arg6 arg7 arg8 arg9 arg10 arg11 arg12 arg13 arg14 arg15 arg16 arg17 arg18 arg19 B C (fun h => A_bind c arg4 arg5 arg6 arg7 arg8 arg9 arg10 arg11 arg12 arg13 arg14 arg15 arg16 arg17 arg18 arg19 B C (jp := J6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (c6 h) b7) b7
  exact b6

theorem H_A (i : grid0.Coords) (v5 v8 : BitVec 32) (hw : k0_chk1 v5 v8) :
    A c arg4 arg5 arg6 arg7 arg8 arg9 arg10 arg11 arg12 arg13 arg14 arg15 arg16 arg17 arg18 arg19 B C (H0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩) (halfF i B C v5 v8 hw) ⟨BitVec.ofNat 32 (i 1).val, v5, v8, hw⟩ := by
  have b6 : A c arg4 arg5 arg6 arg7 arg8 arg9 arg10 arg11 arg12 arg13 arg14 arg15 arg16 arg17 arg18 arg19 B C (H5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩) (fun X => X) ⟨BitVec.ofNat 32 (i 1).val, v5, v8, hw⟩ := A_ret c arg4 arg5 arg6 arg7 arg8 arg9 arg10 arg11 arg12 arg13 arg14 arg15 arg16 arg17 arg18 arg19 B C _
  have b5 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK5_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 11#32) 5 2 true (hn5 v5 v8 hw h) (by rfl)) b6)) b6
  have b4 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK4_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 12#32) 4 2 false (hn4 v5 v8 hw h) (by rfl)) b5)) b5
  have b3 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK3_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 13#32) 3 1 true (hn3 v5 v8 hw h) (by rfl)) b4)) b4
  have b2 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK2_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 14#32) 2 1 false (hn2 v5 v8 hw h) (by rfl)) b3)) b3
  have b1 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK1_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 15#32) 1 0 true (hn1 v5 v8 hw h) (by rfl)) b2)) b2
  exact b1

theorem smem_wp {α : Type} (m : Memref sig .tc .smem S8x16 .i32) (r : Rect S8x16) (h1 : r.shape.numel = 1) (hp : EltTy.i32.packing = 1) (k : Elt F .i32 → Prog (TpuEff nD τ sig (Elt F) Λ₀ .tc) α)
    (q : PosShare TreeShare) (f : m.view.ty.Contents (Elt F)) (Q : α → sProp 𝕄) :
    (m.view.loc (c : Thread nD τ) ↦[Finset.univ]{q} f) ⊢ iprop(((m.view.loc (c : Thread nD τ) ↦[Finset.univ]{q} f) -∗ wpK c (k ((m.access r).read (Elt F) f (Shape.Idx.first (h1.symm ▸ Nat.one_pos)))) Q) -∗ wpK c (smemLoad m r h1 hp >>= k) Q) :=
  wp_smemLoadElt (c := (c : Thread nD τ)) Variants.none none Set.univ (m := m) (r := r) (hw := View.loads_smem_one hp h1) (x := Shape.Idx.first (h1.symm ▸ Nat.one_pos)) (k := k) (S := Finset.univ) (q := q) (f := f) (Finset.subset_univ _)

/-- The word of a table at the point. -/
def wordAt (m : Memref sig .tc .smem S8x16 .i32) (i : grid0.Coords) (f : m.view.ty.Contents (Elt F)) : BitVec 32 :=
  (m.access (Rect.unit (s := S8x16) (k0_off1 i) S1x1.size (k0_off1_inb i))).read (Elt F) f (Shape.Idx.first (numel1_S1x1.symm ▸ Nat.one_pos))

/-- Both tables, held. -/
def Tb (q : PosShare TreeShare) (f2 : arg2.view.ty.Contents (Elt F)) (f3 : arg3.view.ty.Contents (Elt F)) : sProp 𝕄 :=
  iprop((arg2.view.loc (c : Thread nD τ) ↦[Finset.univ]{q} f2) ∗ (arg3.view.loc (c : Thread nD τ) ↦[Finset.univ]{q} f3))

theorem HI_wp (i : grid0.Coords) (q : PosShare TreeShare) (f2 : arg2.view.ty.Contents (Elt F)) (f3 : arg3.view.ty.Contents (Elt F)) (hw : k0_chk1 (wordAt arg2 i f2) (wordAt arg3 i f3)) (X : Sc F) (Q : (Σ' (arg1 : BitVec 32) (v5 : Elt F .i32) (v8 : Elt F .i32), k0_chk1 v5 v8) → sProp 𝕄) :
    iprop(Tb c arg2 arg3 q f2 f3 ∗ RoB c arg4 arg5 arg6 arg7 arg8 arg9 arg10 arg11 arg12 arg14 arg15 arg16 B C ∗ RwB c arg13 arg17 arg18 arg19 X ∗ (Tb c arg2 arg3 q f2 f3 -∗ RoB c arg4 arg5 arg6 arg7 arg8 arg9 arg10 arg11 arg12 arg14 arg15 arg16 B C -∗ RwB c arg13 arg17 arg18 arg19 (halfF i B C _ _ hw X) -∗ Q ⟨BitVec.ofNat 32 (i 1).val, wordAt arg2 i f2, wordAt arg3 i f3, hw⟩))
      ⊢ wpK c (HI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ⟨⟩) Q := by
  unfold HI Tb
  iintro ⟨⟨H2, H3⟩, HR, HW, Hk⟩
  iapply (smem_wp c arg2) $$ H2; iintro H2
  iapply (smem_wp c arg3) $$ H3; iintro H3
  iapply (wp_assume (c := (c : Thread nD τ)) Variants.none none Set.univ hw)
  iapply (H_A c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B C i _ _ hw X Q)
  isplitl [HR]; · iexact HR
  isplitl [HW]; · iexact HW
  iintro HR HW
  iapply Hk $$ [H2 H3] HR HW
  isplitl [H2]; · iexact H2
  iexact H3

/-- The body runs. -/
theorem body_wp (i : grid0.Coords) (q : PosShare TreeShare) (f2 : arg2.view.ty.Contents (Elt F)) (f3 : arg3.view.ty.Contents (Elt F)) (hw : k0_chk1 (wordAt arg2 i f2) (wordAt arg3 i f3)) (X : Sc F) (Q : PUnit → sProp 𝕄) :
    iprop(Tb c arg2 arg3 q f2 f3 ∗ RoB c arg4 arg5 arg6 arg7 arg8 arg9 arg10 arg11 arg12 arg14 arg15 arg16 B C ∗ RwB c arg13 arg17 arg18 arg19 X ∗ (Tb c arg2 arg3 q f2 f3 -∗ RoB c arg4 arg5 arg6 arg7 arg8 arg9 arg10 arg11 arg12 arg14 arg15 arg16 B (initF i B C) -∗ RwB c arg13 arg17 arg18 arg19 (bodyF i B (initF i B C) _ _ hw X) -∗ Q ⟨⟩))
      ⊢ wpK c (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  have fin : ∀ C' : Cp F, iprop(Tb c arg2 arg3 q f2 f3 ∗ RoB c arg4 arg5 arg6 arg7 arg8 arg9 arg10 arg11 arg12 arg14 arg15 arg16 B C' ∗ RwB c arg13 arg17 arg18 arg19 X ∗ (Tb c arg2 arg3 q f2 f3 -∗ RoB c arg4 arg5 arg6 arg7 arg8 arg9 arg10 arg11 arg12 arg14 arg15 arg16 B C' -∗ RwB c arg13 arg17 arg18 arg19 (bodyF i B C' _ _ hw X) -∗ Q ⟨⟩))
      ⊢ wpK c (HI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ⟨⟩) (fun x => wpK c (restK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x) Q) := fun C' => by
    unfold bodyF
    iintro ⟨HT, HR, HW, Hk⟩
    iapply (HI_wp c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B C' i q f2 f3 hw X _)
    isplitl [HT]; · iexact HT
    isplitl [HR]; · iexact HR
    isplitl [HW]; · iexact HW
    iintro HT HR HW
    rw [restK_eq]
    iapply (J_A c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B C' i _ _ hw _ Q)
    isplitl [HR]; · iexact HR
    isplitl [HW]; · iexact HW
    iintro HR HW
    iapply Hk $$ HT HR HW
  have e1 : wpK c (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q = wpK c (bodyKA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun x => wpK c (restK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x) Q) :=
    (congrArg (fun p => wpK c p Q) ((body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19).trans (whole_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 i))).trans (wp_bind _ _ _ _ _ _)
  refine BIBase.Entails.trans ?_ (BIBase.Entails.of_eq e1.symm)
  refine BIBase.Entails.trans ?_ (BIBase.Entails.of_eq (congrArg (fun p => wpK c p (fun x => wpK c (restK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x) Q)) (half_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 i)).symm)
  by_cases h0 : Scalar.cmpi .ne (Scalar.extui (Scalar.cmpi .eq (BitVec.ofNat 32 (i 1).val) 0#32) : BitVec 32) 0#32 = 1#1
  · rw [if_pos h0, show initF i B C = cpOf B from if_pos h0, initK_eq]
    iintro ⟨HT, HR, HW, Hk⟩
    unfold RoB
    icases HR with ⟨H4, H5, H6, H7, H8, H9, H10, H11, H12, H14, H15, H16⟩
    iapply (init_bind c arg7 arg11 arg12 arg14 arg15 arg16 _ _ B.ks B.segk B.posk C.k C.s C.p)
    isplitl [H7]; · iexact H7
    isplitl [H14]; · iexact H14
    isplitl [H11]; · iexact H11
    isplitl [H12]; · iexact H12
    isplitl [H15]; · iexact H15
    isplitl [H16]; · iexact H16
    iintro H7 H14 H11 H12 H15 H16
    iapply (fin (cpOf B))
    unfold RoB
    isplitl [HT]; · iexact HT
    isplitl [H4 H5 H6 H7 H8 H9 H10 H11 H12 H14 H15 H16]
    · isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H14]; · iexact H14
      isplitl [H15]; · iexact H15
      iexact H16
    isplitl [HW]; · iexact HW
    iexact Hk
  · rw [if_neg h0, show initF i B C = C from if_neg h0]
    exact fin C
end

end Cert.Kernel.Attn
-- ==== Proof.Kernel.Tables.lean ====
/- The kernel's offsets stay inside its arrays whenever the first key chunk lies in [0, 16], whatever the number of
   chunks: the start of a window of `n` chunks is clipped to `16 - n` chunks. -/
module

public import proofs.«01_k».proof.Kernel

@[expose] public section

set_option maxRecDepth 65536
set_option maxHeartbeats 0

noncomputable section

namespace Cert.Kernel.Attn

open Cert.Kernel
open Idealize.ShloMosaic

theorem chk1_of_le {v5 : BitVec 32} (h : v5.toNat ≤ 16) (v8 : BitVec 32) : k0_chk1 v5 v8 := by
  obtain ⟨n, rfl⟩ : ∃ n : Fin 17, v5 = BitVec.ofNat 32 n.val :=
    ⟨⟨v5.toNat, by omega⟩, by simp⟩
  clear h
  unfold k0_chk1 k0_chk1_0 k0_chk1_1 k0_chk1_2
  repeat' apply And.intro
  all_goals first
    | (intro h; clear h v8; revert n; decide +kernel)
    | (intro j h; clear h v8; revert n j; decide +kernel)

end Cert.Kernel.Attn

end
-- ==== Proof.Kernel.Host.lean ====
/- What the host operations before the kernel leave in memory: the contents the kernel starts from, as a fold of the
   operations, and the one fact about them the kernel's run needs: every entry of the table of first key chunks is at
   most 16. -/
module

public import proofs.«01_k».proof.Proof.Kernel.Tables
public import proofs.«01_k».proof.Proof.Gen.Kernel.Launch
public import Idealize.ShloMosaic.Lib.StableHlo.RunRead
public import Idealize.ShloMosaic.Lib.ValueLayout

@[expose] public section

set_option maxRecDepth 65536
set_option maxHeartbeats 0

noncomputable section

namespace Cert.Kernel.Attn

open Cert.Kernel
open Idealize.ShloMosaic Idealize.ShloMosaic.TcCoe
open Idealize.SL.Sem
open Idealize.ShloMosaic.ValueIdx

variable {F : FTy → Type} [FloatOps F]

/-- The host operations before the kernel, stretch by stretch. -/
abbrev opss : List (List (HloOp τ sig (Elt F))) :=
  [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10]

/-- The same, in one list. -/
abbrev ops : List (HloOp τ sig (Elt F)) :=
  Gen.hostOps0 ++ (Gen.hostOps0_1 ++ (Gen.hostOps0_2 ++ (Gen.hostOps0_3 ++ (Gen.hostOps0_4 ++ (Gen.hostOps0_5 ++
    (Gen.hostOps0_6 ++ (Gen.hostOps0_7 ++ (Gen.hostOps0_8 ++ (Gen.hostOps0_9 ++ (Gen.hostOps0_10 ++ []))))))))))

/-- The contents the kernel starts from, on device `c`. -/
def V (m : (ℓ : Loc nD τ sig) → Buf (Elt F) ℓ) (c : Dev nD) (b : Ref sig .tc) : Buf (Elt F) ((c.tc : Thread nD τ).loc b) :=
  StableHlo.after (Val := Elt F) opss.flatten (fun b => m (c, b)) b

theorem V_eq (m : (ℓ : Loc nD τ sig) → Buf (Elt F) ℓ) (c : Dev nD) (b : Ref sig .tc) :
    V m c b = StableHlo.after (Val := Elt F) ops (fun b => m (c, b)) (Proc.devRef .tc b) := rfl

/-- A minimum of words in [0, 16], one of them at least, from the largest word, is in [0, 16]. -/
theorem foldl_min_le {ι : Type} (g : ι → BitVec 32) (hg : ∀ n, (g n).toNat ≤ 16) :
    ∀ (l : List ι) (r : BitVec 32), (r.toNat ≤ 16 ∨ (r = 2147483647#32 ∧ l ≠ [])) →
      (l.foldl (fun r n => IntOp.minsi r (g n)) r).toNat ≤ 16
  | [], r, h => h.elim id fun h => absurd rfl h.2
  | n :: l, r, h => by
    refine foldl_min_le g hg l _ (Or.inl ?_)
    have hn := hg n
    show (if r.slt (g n) = true then r else g n).toNat ≤ 16
    split
    · rename_i hs
      rcases h with h | ⟨rfl, -⟩
      · exact h
      · exfalso
        generalize g n = x at hn hs
        obtain ⟨k, rfl⟩ : ∃ k : Fin 17, x = BitVec.ofNat 32 k.val := ⟨⟨x.toNat, by omega⟩, by simp⟩
        clear hn
        revert k hs
        decide
    · exact hn

/-- Every entry of the table of first key chunks is at most 16. -/
theorem first_le (m : (ℓ : Loc nD τ sig) → Buf (Elt F) ℓ) (c : Dev nD) (i : S8x16.Idx) :
    BitVec.toNat (w := 32) (V m c main_v46 i) ≤ 16 := by
  have key : ∃ X : S8x16x16.Idx → BitVec 1, V m c main_v46
      = Host.reduce IntOp.minsi (select X (fun j => BitVec.ofNat 32 (j 2).val) (fun _ => 16#32))
          (constantI S_ 32 2147483647#32) Gen.reducesTo_S8x16x16_S8x16_d2 Gen.h_S_ := by
    rw [V_eq]
    after_reads_simp
    exact ⟨_, rfl⟩
  obtain ⟨X, hX⟩ := key
  rw [hX]
  refine foldl_min_le _ (fun n => ?_) _ _ (Or.inr ⟨rfl, ?_⟩)
  · show (Scalar.select (X (S8x16x16.rowMajor.symm n)) (BitVec.ofNat 32 (S8x16x16.rowMajor.symm n 2).val) 16#32).toNat ≤ 16
    unfold Scalar.select
    split
    · have := (S8x16x16.rowMajor.symm n 2).isLt
      have h2 : (S8x16x16.rowMajor.symm n 2).val < 16 := this
      rw [BitVec.toNat_ofNat]; omega
    · decide
  · apply List.ne_nil_of_mem (a := S8x16x16.rowMajor (ix3 (i 0) (i 1) 0))
    rw [List.mem_filter]
    refine ⟨List.mem_finRange _, ?_⟩
    rw [decide_eq_true_eq, Equiv.symm_apply_apply]
    funext a
    match a with
    | ⟨0, _⟩ => rfl
    | ⟨1, _⟩ => rfl

end Cert.Kernel.Attn

end
-- ==== Proof.Kernel.Frame.lean ====
/- The kernel runs from every initial memory: it terminates, nothing faults, every semaphore ends at zero, and the
   buffers it does not write keep their contents. Nothing is said here of the output. -/
module

public import proofs.«01_k».proof.Proof.Kernel.Run
public import proofs.«01_k».proof.Proof.Kernel.Host

@[expose] public section

set_option maxRecDepth 65536
set_option maxHeartbeats 0

noncomputable section

namespace Cert.Kernel.Attn

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- The tables as the kernel's call finds them. -/
def adm (m : (ℓ : Loc nD τ sig) → Buf (Elt F) ℓ) : (p : Fin 1) → (pcfgs (F := F) p).Adm :=
  fun _ => ⟨fun k => V m 0 (pre0.ref k), trivial⟩

/-- The kernel's pipeline at those tables. -/
abbrev cfgA (m : (ℓ : Loc nD τ sig) → Buf (Elt F) ℓ) : Pipeline.Cfg sig Λ₀ := Pipeline.pin (pcfgs (F := F)) (adm m) 0

/-- The proof data: the arrays at the contents the call finds; every input block handed back as it was fetched; the
    output block not named. -/
def dat (m : (ℓ : Loc nD τ sig) → Buf (Elt F) ℓ) (c : Dev nD) :
    Pipeline.Dat τ (Elt F) Unit ℕ (UR sig nD τ) ℕ (cfgA m) c where
  A w := V m c (Pipeline.arrRef spec0 w)
  after w t := Pipeline.heldIn (c := c) (cfgA m) (fun w => V m c (Pipeline.arrRef spec0 w)) w t.val t.isLt
  Φ _ := iprop(Pipeline.ΦA spec0 c ∗ Pipeline.ΦT pre0 (adm m 0).1 c)
  q _ := fullShare
  owed _ := 0

/-- The output window. -/
def fgt : Fin 10 → Bool := fun w => w == 9

theorem before_eq (m : (ℓ : Loc nD τ sig) → Buf (Elt F) ℓ) (c : Dev nD) (w : Fin 10) (hw : (spec0 w).isOut = false) (hi : ∀ i, (cfgA m).idle w i = false) (t : Fin (cfgA m).N) (d) :
    (dat m c).before w t d = (dat m c).after w t :=
  Pipeline.Dat.before_eq_heldIn (dat m c) w hw hi (fun _ _ => by fin_cases w <;> rfl) (fun _ => rfl) t d

/-- The blocks of a point. -/
def blkAt (m : (ℓ : Loc nD τ sig) → Buf (Elt F) ℓ) (c : Dev nD) (t : Fin (cfgA m).N) : Blk F :=
  ⟨(dat m c).after 0 t, (dat m c).after 1 t, (dat m c).after 2 t, (dat m c).after 3 t, (dat m c).after 4 t, (dat m c).after 5 t, (dat m c).after 6 t, (dat m c).after 7 t, (dat m c).after 8 t⟩

theorem chk_at (m : (ℓ : Loc nD τ sig) → Buf (Elt F) ℓ) (i : grid0.Coords) :
    k0_chk1 (wordAt (F := F) (Memref.whole main_v46) i (V m 0 main_v46)) (wordAt (F := F) (Memref.whole main_v51) i (V m 0 main_v51)) :=
  chk1_of_le (first_le m 0 _) _

theorem body_obligation (m : (ℓ : Loc nD τ sig) → Buf (Elt F) ℓ) (c : Dev nD) :
    Pipeline.BodyObligationLoose (dat m c) (defs₀ (F := F)) Variants.none () Set.univ fgt := fun t => by
  rw [Gen.bigSep_W0, Gen.bigSep_W0]
  rw [show (dat m c).Φ t.castSucc = iprop(Pipeline.ΦA spec0 c ∗ Pipeline.ΦT pre0 (adm m 0).1 c) from rfl,
    show (dat m c).Φ t.succ = iprop(Pipeline.ΦA spec0 c ∗ Pipeline.ΦT pre0 (adm m 0).1 c) from rfl,
    show (dat m c).owesAt () t.succ = (dat m c).owesAt () t.castSucc from rfl]
  unfold Pipeline.ΦA Pipeline.ΦT Pipeline.prefHeld
  rw [Gen.scopedRest0_eq, bigSep_univ_two]
  rw [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = true from rfl]
  dsimp only
  iintro ⟨⟨⟨HS, Hp⟩, HT⟩, Ho, HW⟩
  icases HS with ⟨⟨%f0, S0⟩, ⟨%f1, S1⟩, ⟨%f2, S2⟩, ⟨%f3, S3⟩, ⟨%f4, S4⟩, ⟨%f5, S5⟩⟩
  icases HW with ⟨⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_eq m c 0 rfl (fun _ => rfl) t d0, before_eq m c 1 rfl (fun _ => rfl) t d1, before_eq m c 2 rfl (fun _ => rfl) t d2, before_eq m c 3 rfl (fun _ => rfl) t d3, before_eq m c 4 rfl (fun _ => rfl) t d4, before_eq m c 5 rfl (fun _ => rfl) t d5, before_eq m c 6 rfl (fun _ => rfl) t d6, before_eq m c 7 rfl (fun _ => rfl) t d7, before_eq m c 8 rfl (fun _ => rfl) t d8]
  have key := body_wp (F := F) c (Memref.whole main_v46) (Memref.isWhole_whole _) (Memref.whole main_v51) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (blkAt m c t) ⟨f0, f1, f2⟩ (grid0.coords t) fullShare.right (V m 0 main_v46) (V m 0 main_v51) (chk_at m _) ⟨f3, f5, f4, d9⟩
  iapply key
  unfold Tb RoB RwB own
  simp only [owns_whole_eq]
  icases HT with ⟨T0, T1⟩
  isplitl [T0 T1]
  · isplitl [T0]
    · iexact T0
    · iexact T1
  isplitl [W0 W1 W2 W3 W4 W5 W6 W7 W8 S0 S1 S2]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [S0]; · (iexists f0; isplitr; swap; (· iexact S0); ipureintro; rfl)
    isplitl [S1]; · (iexists f1; isplitr; swap; (· iexact S1); ipureintro; rfl)
    iexists f2; isplitr; swap; (· iexact S2); ipureintro; rfl
  isplitl [S3 S4 S5 W9]
  · isplitl [S3]; · (iexists f3; isplitr; swap; (· iexact S3); ipureintro; rfl)
    isplitl [S5]; · (iexists f5; isplitr; swap; (· iexact S5); ipureintro; rfl)
    isplitl [S4]; · (iexists f4; isplitr; swap; (· iexact S4); ipureintro; rfl)
    iexact W9
  iintro ⟨T0, T1⟩ ⟨W0, W1, W2, W3, W4, W5, W6, W7, W8, ⟨%g0, -, S0⟩, ⟨%g1, -, S1⟩, ⟨%g2, -, S2⟩⟩ ⟨⟨%g3, -, S3⟩, ⟨%g5, -, S5⟩, ⟨%g4, -, S4⟩, W9⟩
  isplitl [S0 S1 S2 S3 S4 S5 Hp T0 T1]
  · isplitl [S0 S1 S2 S3 S4 S5 Hp]
    · isplitl [S0 S1 S2 S3 S4 S5]
      · isplitl [S0]; · (iexists g0; iexact S0)
        isplitl [S1]; · (iexists g1; iexact S1)
        isplitl [S2]; · (iexists g2; iexact S2)
        isplitl [S3]; · (iexists g3; iexact S3)
        isplitl [S4]; · (iexists g4; iexact S4)
        iexists g5; iexact S5
      iexact Hp
    isplitl [T0]
    · iexact T0
    · iexact T1
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexists _; iexact W9

/-- What the call finds in an argument is what memory held there at first. -/
theorem V_args (m : (ℓ : Loc nD τ sig) → Buf (Elt F) ℓ) (c : Dev nD) :
    V m c main_arg0 = m ((c.tc : Thread nD τ).loc main_arg0) ∧ V m c main_arg1 = m ((c.tc : Thread nD τ).loc main_arg1)
    ∧ V m c main_arg2 = m ((c.tc : Thread nD τ).loc main_arg2) ∧ V m c main_arg3 = m ((c.tc : Thread nD τ).loc main_arg3)
    ∧ V m c main_arg4 = m ((c.tc : Thread nD τ).loc main_arg4) ∧ V m c main_arg5 = m ((c.tc : Thread nD τ).loc main_arg5)
    ∧ V m c main_arg6 = m ((c.tc : Thread nD τ).loc main_arg6) ∧ V m c main_arg7 = m ((c.tc : Thread nD τ).loc main_arg7) := by
  simp only [V_eq]
  after_reads_simp
  repeat' constructor

/-- The run: from every initial memory it ends, the arguments keep their contents and every semaphore is at zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_frameP_forget (pcfgs (F := F)) (adm m) (fun p => match p with | 0 => fun c => dat m c) 0 Gen.launch0
    (defs₀ (F := F)) Variants.none fgt m g (main (F := F)) (fun c => body_obligation m c) (fun c w => ?_) (fun _ _ => rfl) (V m)
    (Pipeline.hmainP_prefixes (pcfgs (F := F)) 0 (defs₀ (F := F)) Variants.none m (main (F := F)) opss
      ⟨Gen.hostOps0_sub, Gen.hostOps0_1_sub, Gen.hostOps0_2_sub, Gen.hostOps0_3_sub, Gen.hostOps0_4_sub, Gen.hostOps0_5_sub,
        Gen.hostOps0_6_sub, Gen.hostOps0_7_sub, Gen.hostOps0_8_sub, Gen.hostOps0_9_sub, Gen.hostOps0_10_sub⟩ (by repeat' (first | exact rfl | apply And.intro)) Gen.main_chain)
    (fun _ _ => rfl) (fun c k => ?_) (fun _ _ => rfl) _ (fun r h => ⟨fun c => ?_, h.2⟩)
  · exact (dat m c).share_full (fun _ => rfl) w
  · obtain rfl : c = 0 := Subsingleton.elim _ _
    rfl
  · obtain ⟨a0, a1, a2, a3, a4, a5, a6, a7⟩ := V_args m c
    obtain ⟨hw, hr⟩ := h.1 c
    have in1 := Eq.mp (congrFun (Pipeline.RDat.ArrAt_in ((dat m c).toRForget fgt) (1 : Fin 10) rfl _) _) (hw 1)
    have in3 := Eq.mp (congrFun (Pipeline.RDat.ArrAt_in ((dat m c).toRForget fgt) (3 : Fin 10) rfl _) _) (hw 3)
    refine ⟨(hr main_arg0 (by decide : main_arg0 ∈ Pipeline.restRefs sig spec0)).trans a0, in1.trans a1, (hr main_arg2 (by decide : main_arg2 ∈ Pipeline.restRefs sig spec0)).trans a2, in3.trans a3,
      (hr main_arg4 (by decide : main_arg4 ∈ Pipeline.restRefs sig spec0)).trans a4, (hr main_arg5 (by decide : main_arg5 ∈ Pipeline.restRefs sig spec0)).trans a5, (hr main_arg6 (by decide : main_arg6 ∈ Pipeline.restRefs sig spec0)).trans a6,
      (hr main_arg7 (by decide : main_arg7 ∈ Pipeline.restRefs sig spec0)).trans a7⟩

end Cert.Kernel.Attn

end
-- ==== Proof.KernelIdeal.Trip.lean ====
/-
  ONE TRIP OF THE HEAD LOOP, WRITTEN ONCE.  Each of the kernel's ten loops runs, per trip `t`, the same steps: read the
  queries of head `min t 7` and the scales, the maximum stored for head `t - 1`; per chunk of keys write the scores of
  head `min t 7` into one slot of the score buffer and add the exponentials of head `t - 1`'s scores, read from the other
  slot, to its sum and to its weighted values; store the maximum, and write head `t - 1`'s output.  The loops differ in
  how many chunks of 256 keys they go through and whether one of 128 keys follows.  `tripP` is that program with the
  number of chunks a parameter, over the pure functions of what is loaded.
-/
module

public import proofs.«01_k».proof.Proof.Gen.KernelIdeal
public import Idealize.ShloMosaic.Lib.VecWindow

@[expose] public section

set_option maxRecDepth 16384

noncomputable section

namespace Cert.KernelIdeal.Attn

open Cert.KernelIdeal
open Idealize.ShloMosaic Idealize.SL.Sem
open Facts₀ Facts

variable {F : FTy → Type} [FloatOps F] [Named F]

/-! ## Words -/

/-- The trip's word, the heads whose scores it makes and whose output it writes, and its slot of the score buffer. -/
abbrev Trips : Type := Fin k0_t1_loop.trips
def ivW (t : Trips) : BitVec 32 := Scf.iv 0#32 1#32 t
def hpW (t : Trips) : BitVec 32 := Scalar.minsi (ivW t) 7#32
def hvW (t : Trips) : BitVec 32 := Scalar.maxsi (Scalar.subi (ivW t) 1#32) 0#32
def bfW (t : Trips) : BitVec 32 := Scalar.remsi (ivW t) 2#32

/-- The offsets of a chunk's accesses, at the word `kw` of its first key and its row `base` of the window. -/
def offK (t : Trips) (kw : BitVec 32) : Fin 4 → Nat := ![0, (Scalar.indexCast (hpW t)).toNat, (Scalar.indexCast kw).toNat, 0]
def offKs (t : Trips) (kw : BitVec 32) : Fin 3 → Nat := ![(Scalar.indexCast (hpW t)).toNat, (Scalar.indexCast kw).toNat, 0]
def offV (t : Trips) (kw : BitVec 32) : Fin 3 → Nat := ![0, (Scalar.indexCast (Scalar.muli (hvW t) 64#32)).toNat, (Scalar.indexCast kw).toNat]
def offPrev (t : Trips) (base : ℕ) : Fin 3 → Nat := ![(Scalar.indexCast (Scalar.subi 1#32 (bfW t))).toNat, base, 0]
def offCur (t : Trips) (base : ℕ) : Fin 3 → Nat := ![(Scalar.indexCast (bfW t)).toNat, base, 0]
/-- The word of the chunk `base` keys into the window that starts at word `k0w`. -/
def kwAt (k0w : BitVec 32) (base : ℕ) : BitVec 32 := Scalar.addi k0w (BitVec.ofNat 32 base)

theorem offK_eq (t : Trips) (kw : BitVec 32) : offK t kw = ![0, min t.val 7, kw.toNat, 0] := by
  have h : ∀ t : Trips, (Scalar.indexCast (hpW t)).toNat = min t.val 7 := by decide +kernel
  show ![0, (Scalar.indexCast (hpW t)).toNat, kw.toNat, 0] = _
  rw [h]
theorem offKs_eq (t : Trips) (kw : BitVec 32) : offKs t kw = ![min t.val 7, kw.toNat, 0] := by
  have h : ∀ t : Trips, (Scalar.indexCast (hpW t)).toNat = min t.val 7 := by decide +kernel
  show ![(Scalar.indexCast (hpW t)).toNat, kw.toNat, 0] = _
  rw [h]
theorem offV_eq (t : Trips) (kw : BitVec 32) : offV t kw = ![0, 64 * (t.val - 1), kw.toNat] := by
  have h : ∀ t : Trips, (Scalar.indexCast (Scalar.muli (hvW t) 64#32)).toNat = 64 * (t.val - 1) := by decide +kernel
  show ![0, (Scalar.indexCast (Scalar.muli (hvW t) 64#32)).toNat, kw.toNat] = _
  rw [h]
theorem offPrev_eq (t : Trips) (base : ℕ) : offPrev t base = ![1 - t.val % 2, base, 0] := by
  have h : ∀ t : Trips, (Scalar.indexCast (Scalar.subi 1#32 (bfW t))).toNat = 1 - t.val % 2 := by decide +kernel
  show ![(Scalar.indexCast (Scalar.subi 1#32 (bfW t))).toNat, base, 0] = _
  rw [h]
theorem offCur_eq (t : Trips) (base : ℕ) : offCur t base = ![t.val % 2, base, 0] := by
  have h : ∀ t : Trips, (Scalar.indexCast (bfW t)).toNat = t.val % 2 := by decide +kernel
  show ![(Scalar.indexCast (bfW t)).toNat, base, 0] = _
  rw [h]

theorem trips_lt (t : Trips) : t.val < 9 := t.isLt

/-- What one chunk carries on: the running maximum, the running sums and the weighted values. -/
structure St (F : FTy → Type) where
  mx : FVec F S8x512 .f32
  l : FVec F S8x512 .f32
  acc : FVec F S64x512 .f32

/-- What the chunks of a trip all read: the queries of the head whose scores are made, the other head's scales and its
    stored maximum. -/
structure In (F : FTy → Type) where
  q : FVec F S64x512 .fp8e4m3
  qs : FVec F S1x512 .f32
  m8 : FVec F S1x512 .f32

/-- Nothing gone through yet. -/
def st0 : St F where
  mx := broadcast S8x512 (Scalar.ofBits .f32 0xFF800000#32)
  l := broadcast S8x512 (Scalar.ofBits .f32 0x00000000#32)
  acc := broadcast S64x512 (Scalar.ofBits .f32 0x00000000#32)

/-! ## A chunk of 256 keys -/

/-- The scores of a chunk. -/
def sc256 (q : FVec F S64x512 .fp8e4m3) (xk : Vec F S1x1x256x64 .fp8e4m3) (xs : Vec F S1x256x128 .f32) (xb : Vec F S256x128 .f32) : FVec F S256x512 .f32 :=
  addf
    (mulf (matmul dot_S256x64_S64x512_S256x512_1_0_0_1_n_n none (shapeCast S256x64 xk shapeCasts_S1x1x256x64_S256x64) q (constant S256x512 .f32 0x00000000#32))
      (concatenate S256x512 1 [⟨S256x128, shapeCast S256x128 xs shapeCasts_S1x256x128_S256x128⟩, ⟨S256x128, shapeCast S256x128 xs shapeCasts_S1x256x128_S256x128⟩, ⟨S256x128, shapeCast S256x128 xs shapeCasts_S1x256x128_S256x128⟩, ⟨S256x128, shapeCast S256x128 xs shapeCasts_S1x256x128_S256x128⟩] concatenates_S256x128_S256x128_S256x128_S256x128_S256x512_d1))
    (concatenate S256x512 1 [⟨S256x128, xb⟩, ⟨S256x128, xb⟩, ⟨S256x128, xb⟩, ⟨S256x128, xb⟩] concatenates_S256x128_S256x128_S256x128_S256x128_S256x512_d1)

/-- The exponentials of a chunk of stored scores. -/
def ex256 (qs m8 : FVec F S1x512 .f32) (xp : Vec F S1x256x512 .f32) : FVec F S256x512 .f32 :=
  exp2 (subf (mulf (shapeCast S256x512 xp shapeCasts_S1x256x512_S256x512) (broadcastTo S256x512 qs broadcasts_S1x512_S256x512)) (broadcastTo S256x512 m8 broadcasts_S1x512_S256x512))

/-- What the chunk carries on. -/
def st256 (s : St F) (sc e : FVec F S256x512 .f32) (xv : Vec F S1x64x256 .fp8e4m3) : St F where
  mx := maximumf s.mx (multiReduction .maximumf [0] S8x512 (shapeCast S32x8x512 sc shapeCasts_S256x512_S32x8x512) 0xFF800000#32 reduces_S32x8x512_S8x512 (.inl rfl) rfl)
  l := addf s.l (multiReduction .add [0] S8x512 (shapeCast S32x8x512 e shapeCasts_S256x512_S32x8x512) 0x00000000#32 reduces_S32x8x512_S8x512 (.inl rfl) rfl)
  acc := addf s.acc
    (matmul dot_S64x256_S256x512_S64x512_1_0_0_1_n_n none (shapeCast S64x256 xv shapeCasts_S1x64x256_S64x256)
      (truncf .fp8e4m3 (minimumf (broadcast S256x512 (Scalar.ofBits .f32 0x43E00000#32)) (maximumf (broadcast S256x512 (Scalar.ofBits .f32 0xC3E00000#32)) e)) bitsLt_fp8e4m3_f32)
      (constant S64x512 .f32 0x00000000#32))

/-- The scores as they are stored. -/
def scSt256 (sc : FVec F S256x512 .f32) : FVec F S1x256x512 .f32 := shapeCast S1x256x512 sc shapeCasts_S256x512_S1x256x512

theorem offK_inb256 (t : Trips) (kw : BitVec 32) (h : kw.toNat + 256 ≤ 2048) : ∀ a, offK t kw a + S1x1x256x64.size a ≤ S1x8x2048x64.size a := by
  have ht := trips_lt t
  rw [offK_eq]
  intro a
  fin_cases a
  · show 0 + 1 ≤ 1; omega
  · show min t.val 7 + 1 ≤ 8; omega
  · exact h
  · show 0 + 64 ≤ 64; omega
theorem offKs_inb256 (t : Trips) (kw : BitVec 32) (h : kw.toNat + 256 ≤ 2048) : ∀ a, offKs t kw a + S1x256x128.size a ≤ S8x2048x128.size a := by
  have ht := trips_lt t
  rw [offKs_eq]
  intro a
  fin_cases a
  · show min t.val 7 + 1 ≤ 8; omega
  · exact h
  · show 0 + 128 ≤ 128; omega
theorem offV_inb256 (t : Trips) (kw : BitVec 32) (h : kw.toNat + 256 ≤ 2048) : ∀ a, offV t kw a + S1x64x256.size a ≤ S1x512x2048.size a := by
  have ht := trips_lt t
  rw [offV_eq]
  intro a
  fin_cases a
  · show 0 + 1 ≤ 1; omega
  · show 64 * (t.val - 1) + 64 ≤ 512; omega
  · exact h
theorem offPrev_inb256 (t : Trips) (b : ℕ) (h : b + 256 ≤ 2048) : ∀ a, offPrev t b a + S1x256x512.size a ≤ S2x2048x512.size a := by
  rw [offPrev_eq]
  intro a
  fin_cases a
  · show 1 - t.val % 2 + 1 ≤ 2; omega
  · exact h
  · show 0 + 512 ≤ 512; omega
theorem offCur_inb256 (t : Trips) (b : ℕ) (h : b + 256 ≤ 2048) : ∀ a, offCur t b a + S1x256x512.size a ≤ S2x2048x512.size a := by
  rw [offCur_eq]
  intro a
  fin_cases a
  · show t.val % 2 + 1 ≤ 2; omega
  · exact h
  · show 0 + 512 ≤ 512; omega
theorem offB_inb256 (b : ℕ) (h : b + 256 ≤ 2048) : ∀ a, (![b, 0] : Fin 2 → ℕ) a + S256x128.size a ≤ S2048x128.size a := by
  intro a
  fin_cases a
  · exact h
  · show 0 + 128 ≤ 128; omega

/-- One chunk of 256 keys, its first key at word `kw`, its rows from `base` of the window. -/
def chunk256 (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (kw : BitVec 32) (hk : kw.toNat + 256 ≤ 2048) (base : ℕ) (hb : base + 256 ≤ 2048) (inp : In F) (s : St F)
    (k : St F → Prog (TpuEff nD τ sig (Elt F) Λ₀ .tc) Unit) : Prog (TpuEff nD τ sig (Elt F) Λ₀ .tc) Unit :=
  .op (.load arg6 (Rect.unit (s := S1x8x2048x64) (offK t kw) S1x1x256x64.size (offK_inb256 t kw hk)).toLoadRect (View.loadsAt_vmem h_S1x1x256x64)) fun xk =>
  .op (.load arg14 (Rect.unit (s := S8x2048x128) (offKs t kw) S1x256x128.size (offKs_inb256 t kw hk)).toLoadRect (View.loadsAt_vmem h_S1x256x128)) fun xs =>
  .op (.load arg18 (Rect.unit (s := S2048x128) ![base, 0] S256x128.size (offB_inb256 base hb)).toLoadRect (View.loadsAt_vmem h_S256x128)) fun xb =>
  .op (.load arg17 (Rect.unit (s := S2x2048x512) (offPrev t base) S1x256x512.size (offPrev_inb256 t base hb)).toLoadRect (View.loadsAt_vmem h_S1x256x512)) fun xp =>
  .op (.load arg8 (Rect.unit (s := S1x512x2048) (offV t kw) S1x64x256.size (offV_inb256 t kw hk)).toLoadRect (View.loadsAt_vmem h_S1x64x256)) fun xv =>
  .op (.load arg17 (Rect.unit (s := S2x2048x512) (offCur t base) S1x256x512.size (offCur_inb256 t base hb)).toLoadRect (View.loadsAt_vmem h_S1x256x512)) fun _ =>
  .op (.store arg17 (Rect.unit (s := S2x2048x512) (offCur t base) S1x256x512.size (offCur_inb256 t base hb)) (scSt256 (sc256 inp.q xk xs xb)) Finset.univ (View.stores_vmem_bits_univ h_S1x256x512 rfl) (.inl rfl)) fun _ =>
  k (st256 s (sc256 inp.q xk xs xb) (ex256 inp.qs inp.m8 xp) xv)

/-! ## A chunk of 128 keys -/

/-- The scores of a chunk. -/
def sc128 (q : FVec F S64x512 .fp8e4m3) (xk : Vec F S1x1x128x64 .fp8e4m3) (xs : Vec F S1x128x128 .f32) (xb : Vec F S128x128 .f32) : FVec F S128x512 .f32 :=
  addf
    (mulf (matmul dot_S128x64_S64x512_S128x512_1_0_0_1_n_n none (shapeCast S128x64 xk shapeCasts_S1x1x128x64_S128x64) q (constant S128x512 .f32 0x00000000#32))
      (concatenate S128x512 1 [⟨S128x128, shapeCast S128x128 xs shapeCasts_S1x128x128_S128x128⟩, ⟨S128x128, shapeCast S128x128 xs shapeCasts_S1x128x128_S128x128⟩, ⟨S128x128, shapeCast S128x128 xs shapeCasts_S1x128x128_S128x128⟩, ⟨S128x128, shapeCast S128x128 xs shapeCasts_S1x128x128_S128x128⟩] concatenates_S128x128_S128x128_S128x128_S128x128_S128x512_d1))
    (concatenate S128x512 1 [⟨S128x128, xb⟩, ⟨S128x128, xb⟩, ⟨S128x128, xb⟩, ⟨S128x128, xb⟩] concatenates_S128x128_S128x128_S128x128_S128x128_S128x512_d1)

/-- The exponentials of a chunk of stored scores. -/
def ex128 (qs m8 : FVec F S1x512 .f32) (xp : Vec F S1x128x512 .f32) : FVec F S128x512 .f32 :=
  exp2 (subf (mulf (shapeCast S128x512 xp shapeCasts_S1x128x512_S128x512) (broadcastTo S128x512 qs broadcasts_S1x512_S128x512)) (broadcastTo S128x512 m8 broadcasts_S1x512_S128x512))

/-- What the chunk carries on. -/
def st128 (s : St F) (sc e : FVec F S128x512 .f32) (xv : Vec F S1x64x128 .fp8e4m3) : St F where
  mx := maximumf s.mx (multiReduction .maximumf [0] S8x512 (shapeCast S16x8x512 sc shapeCasts_S128x512_S16x8x512) 0xFF800000#32 reduces_S16x8x512_S8x512 (.inl rfl) rfl)
  l := addf s.l (multiReduction .add [0] S8x512 (shapeCast S16x8x512 e shapeCasts_S128x512_S16x8x512) 0x00000000#32 reduces_S16x8x512_S8x512 (.inl rfl) rfl)
  acc := addf s.acc
    (matmul dot_S64x128_S128x512_S64x512_1_0_0_1_n_n none (shapeCast S64x128 xv shapeCasts_S1x64x128_S64x128)
      (truncf .fp8e4m3 (minimumf (broadcast S128x512 (Scalar.ofBits .f32 0x43E00000#32)) (maximumf (broadcast S128x512 (Scalar.ofBits .f32 0xC3E00000#32)) e)) bitsLt_fp8e4m3_f32)
      (constant S64x512 .f32 0x00000000#32))

/-- The scores as they are stored. -/
def scSt128 (sc : FVec F S128x512 .f32) : FVec F S1x128x512 .f32 := shapeCast S1x128x512 sc shapeCasts_S128x512_S1x128x512

theorem offK_inb128 (t : Trips) (kw : BitVec 32) (h : kw.toNat + 128 ≤ 2048) : ∀ a, offK t kw a + S1x1x128x64.size a ≤ S1x8x2048x64.size a := by
  have ht := trips_lt t
  rw [offK_eq]
  intro a
  fin_cases a
  · show 0 + 1 ≤ 1; omega
  · show min t.val 7 + 1 ≤ 8; omega
  · exact h
  · show 0 + 64 ≤ 64; omega
theorem offKs_inb128 (t : Trips) (kw : BitVec 32) (h : kw.toNat + 128 ≤ 2048) : ∀ a, offKs t kw a + S1x128x128.size a ≤ S8x2048x128.size a := by
  have ht := trips_lt t
  rw [offKs_eq]
  intro a
  fin_cases a
  · show min t.val 7 + 1 ≤ 8; omega
  · exact h
  · show 0 + 128 ≤ 128; omega
theorem offV_inb128 (t : Trips) (kw : BitVec 32) (h : kw.toNat + 128 ≤ 2048) : ∀ a, offV t kw a + S1x64x128.size a ≤ S1x512x2048.size a := by
  have ht := trips_lt t
  rw [offV_eq]
  intro a
  fin_cases a
  · show 0 + 1 ≤ 1; omega
  · show 64 * (t.val - 1) + 64 ≤ 512; omega
  · exact h
theorem offPrev_inb128 (t : Trips) (b : ℕ) (h : b + 128 ≤ 2048) : ∀ a, offPrev t b a + S1x128x512.size a ≤ S2x2048x512.size a := by
  rw [offPrev_eq]
  intro a
  fin_cases a
  · show 1 - t.val % 2 + 1 ≤ 2; omega
  · exact h
  · show 0 + 512 ≤ 512; omega
theorem offCur_inb128 (t : Trips) (b : ℕ) (h : b + 128 ≤ 2048) : ∀ a, offCur t b a + S1x128x512.size a ≤ S2x2048x512.size a := by
  rw [offCur_eq]
  intro a
  fin_cases a
  · show t.val % 2 + 1 ≤ 2; omega
  · exact h
  · show 0 + 512 ≤ 512; omega
theorem offB_inb128 (b : ℕ) (h : b + 128 ≤ 2048) : ∀ a, (![b, 0] : Fin 2 → ℕ) a + S128x128.size a ≤ S2048x128.size a := by
  intro a
  fin_cases a
  · exact h
  · show 0 + 128 ≤ 128; omega

/-- One chunk of 128 keys, its first key at word `kw`, its rows from `base` of the window. -/
def chunk128 (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (kw : BitVec 32) (hk : kw.toNat + 128 ≤ 2048) (base : ℕ) (hb : base + 128 ≤ 2048) (inp : In F) (s : St F)
    (k : St F → Prog (TpuEff nD τ sig (Elt F) Λ₀ .tc) Unit) : Prog (TpuEff nD τ sig (Elt F) Λ₀ .tc) Unit :=
  .op (.load arg6 (Rect.unit (s := S1x8x2048x64) (offK t kw) S1x1x128x64.size (offK_inb128 t kw hk)).toLoadRect (View.loadsAt_vmem h_S1x1x128x64)) fun xk =>
  .op (.load arg14 (Rect.unit (s := S8x2048x128) (offKs t kw) S1x128x128.size (offKs_inb128 t kw hk)).toLoadRect (View.loadsAt_vmem h_S1x128x128)) fun xs =>
  .op (.load arg18 (Rect.unit (s := S2048x128) ![base, 0] S128x128.size (offB_inb128 base hb)).toLoadRect (View.loadsAt_vmem h_S128x128)) fun xb =>
  .op (.load arg17 (Rect.unit (s := S2x2048x512) (offPrev t base) S1x128x512.size (offPrev_inb128 t base hb)).toLoadRect (View.loadsAt_vmem h_S1x128x512)) fun xp =>
  .op (.load arg8 (Rect.unit (s := S1x512x2048) (offV t kw) S1x64x128.size (offV_inb128 t kw hk)).toLoadRect (View.loadsAt_vmem h_S1x64x128)) fun xv =>
  .op (.load arg17 (Rect.unit (s := S2x2048x512) (offCur t base) S1x128x512.size (offCur_inb128 t base hb)).toLoadRect (View.loadsAt_vmem h_S1x128x512)) fun _ =>
  .op (.store arg17 (Rect.unit (s := S2x2048x512) (offCur t base) S1x128x512.size (offCur_inb128 t base hb)) (scSt128 (sc128 inp.q xk xs xb)) Finset.univ (View.stores_vmem_bits_univ h_S1x128x512 rfl) (.inl rfl)) fun _ =>
  k (st128 s (sc128 inp.q xk xs xb) (ex128 inp.qs inp.m8 xp) xv)

/-! ## The trip -/

theorem kwAt_toNat (k0w : BitVec 32) (base : ℕ) (h : k0w.toNat + base < 2 ^ 32) : (kwAt k0w base).toNat = k0w.toNat + base := by
  show (k0w + BitVec.ofNat 32 base).toNat = _
  rw [BitVec.toNat_add, BitVec.toNat_ofNat]
  omega

theorem kwAt_le (k0w : BitVec 32) (base w n : ℕ) (hn : k0w.toNat + n ≤ 2048) (hb : base + w ≤ n) : (kwAt k0w base).toNat + w ≤ 2048 := by
  rw [kwAt_toNat] <;> omega

/-- `r` more chunks of 256 keys from chunk `j` on, in a window of `n` keys. -/
def chunks (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (k0w : BitVec 32) (n : ℕ) (hn : k0w.toNat + n ≤ 2048) (inp : In F)
    (k : St F → Prog (TpuEff nD τ sig (Elt F) Λ₀ .tc) Unit) : (r : ℕ) → (j : ℕ) → 256 * (j + r) ≤ n → St F → Prog (TpuEff nD τ sig (Elt F) Λ₀ .tc) Unit
  | 0, _, _, s => k s
  | r + 1, j, h, s => chunk256 arg4 arg5 arg6 arg8 arg9 arg13 harg13 arg14 arg17 arg18 arg19 t (kwAt k0w (256 * j)) (kwAt_le k0w (256 * j) 256 n hn (by omega)) (256 * j) (by omega) inp s
      (chunks arg4 arg5 arg6 arg8 arg9 arg13 harg13 arg14 arg17 arg18 arg19 t k0w n hn inp k r (j + 1) (by omega))

/-- All chunks of the window of `n` keys: `m` of 256, then one of 128 if `o`. -/
def window (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (k0w : BitVec 32) (m : ℕ) (o : Bool) (n : ℕ) (hn : k0w.toNat + n ≤ 2048) (h : n = 256 * m + cond o 128 0) (inp : In F)
    (k : St F → Prog (TpuEff nD τ sig (Elt F) Λ₀ .tc) Unit) : Prog (TpuEff nD τ sig (Elt F) Λ₀ .tc) Unit :=
  chunks arg4 arg5 arg6 arg8 arg9 arg13 harg13 arg14 arg17 arg18 arg19 t k0w n hn inp
    (match o, h with
      | true, h => fun s => chunk128 arg4 arg5 arg6 arg8 arg9 arg13 harg13 arg14 arg17 arg18 arg19 t (kwAt k0w (256 * m)) (kwAt_le k0w (256 * m) 128 n hn (h ▸ Nat.le_refl _)) (256 * m) (by have := h; simp only [cond_true] at this; omega) inp s k
      | false, _ => k) m 0 (by omega) st0

/-- Four rows of 128 side by side. -/
def cat4 (a b c d : Vec F S1x1x128 .f32) : FVec F S1x512 .f32 :=
  concatenate S1x512 1 [⟨S1x128, shapeCast S1x128 a shapeCasts_S1x1x128_S1x128⟩, ⟨S1x128, shapeCast S1x128 b shapeCasts_S1x1x128_S1x128⟩, ⟨S1x128, shapeCast S1x128 c shapeCasts_S1x1x128_S1x128⟩, ⟨S1x128, shapeCast S1x128 d shapeCasts_S1x1x128_S1x128⟩] concatenates_S1x128_S1x128_S1x128_S1x128_S1x512_d1
/-- Four heads' queries side by side. -/
def catQ (a b c d : Vec F S1x64x128 .fp8e4m3) : FVec F S64x512 .fp8e4m3 :=
  concatenate S64x512 1 [⟨S64x128, shapeCast S64x128 a shapeCasts_S1x64x128_S64x128⟩, ⟨S64x128, shapeCast S64x128 b shapeCasts_S1x64x128_S64x128⟩, ⟨S64x128, shapeCast S64x128 c shapeCasts_S1x64x128_S64x128⟩, ⟨S64x128, shapeCast S64x128 d shapeCasts_S1x64x128_S64x128⟩] concatenates_S64x128_S64x128_S64x128_S64x128_S64x512_d1

/-- The scaled maximum less 8, as stored. -/
def m8Of (mx : FVec F S8x512 .f32) (qs : FVec F S1x512 .f32) : FVec F S1x512 .f32 :=
  shapeCast S1x512 (subf (mulf (shapeCast S1x512 (multiReduction .maximumf [0] S512 mx 0xFF800000#32 reduces_S8x512_S512 (.inl rfl) rfl) shapeCasts_S512_S1x512) qs) (broadcast S1x512 (Scalar.ofBits .f32 0x41000000#32))) shapeCasts_S1x512_S1x512

/-- The weighted values over the sum. -/
def normOf (l : FVec F S8x512 .f32) (acc : FVec F S64x512 .f32) : FVec F S64x512 .bf16 :=
  truncf .bf16 (mulf acc (broadcastTo S64x512 (divf (broadcast S1x512 (Scalar.ofBits .f32 0x3F800000#32)) (shapeCast S1x512 (multiReduction .add [0] S512 l 0x00000000#32 reduces_S8x512_S512 (.inl rfl) rfl) shapeCasts_S512_S1x512)) broadcasts_S1x512_S64x512)) bitsLt_bf16_f32

/-- Two heads' outputs as stored. -/
def outOf (a b : FVec F S64x128 .bf16) (xs : Vec F S1x1x128 .f32) : FVec F S1x128x128 .bf16 :=
  shapeCast S1x128x128
    (mulf (transpose S128x128 [1, 0] (concatenate S128x128 0 [⟨S64x128, a⟩, ⟨S64x128, b⟩] concatenates_S64x128_S64x128_S128x128_d0) transposes_S128x128_p1_0_S128x128)
      (broadcastTo S128x128 (truncf .bf16 (shapeCast S1x128 xs shapeCasts_S1x1x128_S1x128) bitsLt_bf16_f32) broadcasts_S1x128_S128x128))
    shapeCasts_S128x128_S1x128x128

/-- The first two heads' outputs, and the last two's. -/
def outLo (p : FVec F S64x512 .bf16) (xs : Vec F S1x1x128 .f32) : FVec F S1x128x128 .bf16 :=
  outOf (extractStridedSlice S64x128 ![0, 0] p slices_S64x512_o0_0_S64x128) (extractStridedSlice S64x128 ![0, 128] p slices_S64x512_o0_128_S64x128) xs
def outHi (p : FVec F S64x512 .bf16) (xs : Vec F S1x1x128 .f32) : FVec F S1x128x128 .bf16 :=
  outOf (extractStridedSlice S64x128 ![0, 256] p slices_S64x512_o0_256_S64x128) (extractStridedSlice S64x128 ![0, 384] p slices_S64x512_o0_384_S64x128) xs

/-- The end of a trip. -/
def finish (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (qsp : FVec F S1x512 .f32) (s : St F) : Prog (TpuEff nD τ sig (Elt F) Λ₀ .tc) Unit :=
  .op (.load arg19 (Rect.unit (s := S8x512) ![0, 0] S1x512.size inb_S8x512_S1x512_0_0).toLoadRect (View.loadsAt_vmem h_S1x512)) fun _ =>
  .op (.store arg19 (Rect.unit (s := S8x512) ![0, 0] S1x512.size inb_S8x512_S1x512_0_0) (m8Of s.mx qsp) Finset.univ (View.stores_vmem_bits_univ h_S1x512 rfl) (.inl rfl)) fun _ =>
  .op (.load arg9 (Rect.unit (s := S1x8x128) (k0_off11 t) S1x1x128.size (k0_off11_inb t)).toLoadRect (View.loadsAt_vmem h_S1x1x128)) fun v1 =>
  .op (.load arg13 (Rect.unit (s := S1x128x2048) (k0_off12 t 0#32) S1x128x128.size (k0_off12_inb t 0)).toLoadRect (View.loadsAt_vmem h_S1x128x128)) fun _ =>
  .op (.store arg13 (Rect.unit (s := S1x128x2048) (k0_off12 t 0#32) S1x128x128.size (k0_off12_inb t 0)) (outLo (normOf s.l s.acc) v1) Finset.univ (View.stores_vmem h_S1x128x128 (harg13.storeExact_slice rfl _ (k0_off12_packedbf16 t 0)) (fun _ => rfl)) (.inl rfl)) fun _ =>
  .op (.load arg9 (Rect.unit (s := S1x8x128) (k0_off11 t) S1x1x128.size (k0_off11_inb t)).toLoadRect (View.loadsAt_vmem h_S1x1x128)) fun v2 =>
  .op (.load arg13 (Rect.unit (s := S1x128x2048) (k0_off12 t 128#32) S1x128x128.size (k0_off12_inb t 1)).toLoadRect (View.loadsAt_vmem h_S1x128x128)) fun _ =>
  .op (.store arg13 (Rect.unit (s := S1x128x2048) (k0_off12 t 128#32) S1x128x128.size (k0_off12_inb t 1)) (outHi (normOf s.l s.acc) v2) Finset.univ (View.stores_vmem h_S1x128x128 (harg13.storeExact_slice rfl _ (k0_off12_packedbf16 t 1)) (fun _ => rfl)) (.inl rfl)) fun _ =>
  .ret ⟨⟩

/-- One trip over a window of `m` chunks of 256 keys, and one of 128 if `o`, from the word `k0w` on. -/
def tripP (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32) (t : Trips) (k0w : BitVec 32) (m : ℕ) (o : Bool) (n : ℕ) (hn : k0w.toNat + n ≤ 2048) (h : n = 256 * m + cond o 128 0) : Prog (TpuEff nD τ sig (Elt F) Λ₀ .tc) Unit :=
  .op (.load arg4 (Rect.unit (s := S1x2048x128) (k0_off3 t 0#32) S1x64x128.size (k0_off3_inb t 0)).toLoadRect (View.loadsAt_vmem h_S1x64x128)) fun q0 =>
  .op (.load arg4 (Rect.unit (s := S1x2048x128) (k0_off3 t 64#32) S1x64x128.size (k0_off3_inb t 1)).toLoadRect (View.loadsAt_vmem h_S1x64x128)) fun q1 =>
  .op (.load arg4 (Rect.unit (s := S1x2048x128) (k0_off3 t 128#32) S1x64x128.size (k0_off3_inb t 2)).toLoadRect (View.loadsAt_vmem h_S1x64x128)) fun q2 =>
  .op (.load arg4 (Rect.unit (s := S1x2048x128) (k0_off3 t 192#32) S1x64x128.size (k0_off3_inb t 3)).toLoadRect (View.loadsAt_vmem h_S1x64x128)) fun q3 =>
  .op (.load arg5 (Rect.unit (s := S1x32x128) (k0_off4 t 0#32) S1x1x128.size (k0_off4_inb t 0)).toLoadRect (View.loadsAt_vmem h_S1x1x128)) fun a0 =>
  .op (.load arg5 (Rect.unit (s := S1x32x128) (k0_off4 t 1#32) S1x1x128.size (k0_off4_inb t 1)).toLoadRect (View.loadsAt_vmem h_S1x1x128)) fun a1 =>
  .op (.load arg5 (Rect.unit (s := S1x32x128) (k0_off4 t 2#32) S1x1x128.size (k0_off4_inb t 2)).toLoadRect (View.loadsAt_vmem h_S1x1x128)) fun a2 =>
  .op (.load arg5 (Rect.unit (s := S1x32x128) (k0_off4 t 3#32) S1x1x128.size (k0_off4_inb t 3)).toLoadRect (View.loadsAt_vmem h_S1x1x128)) fun a3 =>
  .op (.load arg5 (Rect.unit (s := S1x32x128) (k0_off5 t 0#32) S1x1x128.size (k0_off5_inb t 0)).toLoadRect (View.loadsAt_vmem h_S1x1x128)) fun b0 =>
  .op (.load arg5 (Rect.unit (s := S1x32x128) (k0_off5 t 1#32) S1x1x128.size (k0_off5_inb t 1)).toLoadRect (View.loadsAt_vmem h_S1x1x128)) fun b1 =>
  .op (.load arg5 (Rect.unit (s := S1x32x128) (k0_off5 t 2#32) S1x1x128.size (k0_off5_inb t 2)).toLoadRect (View.loadsAt_vmem h_S1x1x128)) fun b2 =>
  .op (.load arg5 (Rect.unit (s := S1x32x128) (k0_off5 t 3#32) S1x1x128.size (k0_off5_inb t 3)).toLoadRect (View.loadsAt_vmem h_S1x1x128)) fun b3 =>
  .op (.load arg19 (Rect.unit (s := S8x512) ![0, 0] S1x512.size inb_S8x512_S1x512_0_0).toLoadRect (View.loadsAt_vmem h_S1x512)) fun (m8 : Vec F S1x512 .f32) =>
  window arg4 arg5 arg6 arg8 arg9 arg13 harg13 arg14 arg17 arg18 arg19 t k0w m o n hn h ⟨catQ q0 q1 q2 q3, cat4 b0 b1 b2 b3, m8⟩ (finish arg4 arg5 arg6 arg8 arg9 arg13 harg13 arg14 arg17 arg18 arg19 t (cat4 a0 a1 a2 a3))

end Cert.KernelIdeal.Attn
-- ==== Proof.KernelIdeal.Spec.lean ====
/-
  WHAT A TRIP COMPUTES, as pure functions of the blocks: the scores of a head, chunk by chunk, and the running maximum,
  sum and weighted values; then the buffers after a trip (`tripF`) and after the head loop (`loopF`).
-/
module

public import proofs.«01_k».proof.Proof.KernelIdeal.Trip

@[expose] public section

set_option maxRecDepth 65536

noncomputable section

namespace Cert.KernelIdeal.Attn

open Cert.KernelIdeal
open Idealize.ShloMosaic

open Idealize.SL.Sem
open Facts₀ Facts

variable {F : FTy → Type} [FloatOps F] [Named F]

theorem window_congr {α : Type} {s : Shape} (x : s.Idx → α) {off off' : Fin s.rank → ℕ} (size : Fin s.rank → ℕ) (h : off = off')
    (inb : ∀ a, off a + size a ≤ s.size a) (inb' : ∀ a, off' a + size a ≤ s.size a) :
    VecWindow.window x off size inb = VecWindow.window x off' size inb' := by
  subst h; rfl

/-- The blocks a head loop reads. -/
structure Env (F : FTy → Type) [FloatOps F] [Named F] where
  q : S1x2048x128.Idx → Elt F .fp8e4m3
  qs : S1x32x128.Idx → Elt F .f32
  k : S1x8x2048x64.Idx → Elt F .fp8e4m3
  v : S1x512x2048.Idx → Elt F .fp8e4m3
  vs : S1x8x128.Idx → Elt F .f32
  ks : S8x2048x128.Idx → Elt F .f32
  b : S2048x128.Idx → Elt F .f32

theorem inbQ (h r : ℕ) (hh : h < 8) (hr : r < 4) : ∀ a, (![0, 256 * h + 64 * r, 0] : Fin 3 → ℕ) a + S1x64x128.size a ≤ S1x2048x128.size a := by
  intro a; fin_cases a
  · show 0 + 1 ≤ 1; omega
  · show 256 * h + 64 * r + 64 ≤ 2048; omega
  · show 0 + 128 ≤ 128; omega
theorem inbQs (h r : ℕ) (hh : h < 8) (hr : r < 4) : ∀ a, (![0, 4 * h + r, 0] : Fin 3 → ℕ) a + S1x1x128.size a ≤ S1x32x128.size a := by
  intro a; fin_cases a
  · show 0 + 1 ≤ 1; omega
  · show 4 * h + r + 1 ≤ 32; omega
  · show 0 + 128 ≤ 128; omega
theorem inbVs (h : ℕ) (hh : h < 8) : ∀ a, (![0, h, 0] : Fin 3 → ℕ) a + S1x1x128.size a ≤ S1x8x128.size a := by
  intro a; fin_cases a
  · show 0 + 1 ≤ 1; omega
  · show h + 1 ≤ 8; omega
  · show 0 + 128 ≤ 128; omega

section
variable (E : Env F)

/-- A head's queries, four groups side by side; their scales; the head's value scales. -/
def qH (h : ℕ) (hh : h < 8) : FVec F S64x512 .fp8e4m3 :=
  catQ (VecWindow.window E.q (![0, 256 * h + 64 * 0, 0] : Fin 3 → ℕ) S1x64x128.size (inbQ h 0 hh (by omega))) (VecWindow.window E.q (![0, 256 * h + 64 * 1, 0] : Fin 3 → ℕ) S1x64x128.size (inbQ h 1 hh (by omega)))
    (VecWindow.window E.q (![0, 256 * h + 64 * 2, 0] : Fin 3 → ℕ) S1x64x128.size (inbQ h 2 hh (by omega))) (VecWindow.window E.q (![0, 256 * h + 64 * 3, 0] : Fin 3 → ℕ) S1x64x128.size (inbQ h 3 hh (by omega)))
def qsH (h : ℕ) (hh : h < 8) : FVec F S1x512 .f32 :=
  cat4 (VecWindow.window E.qs (![0, 4 * h + 0, 0] : Fin 3 → ℕ) S1x1x128.size (inbQs h 0 hh (by omega))) (VecWindow.window E.qs (![0, 4 * h + 1, 0] : Fin 3 → ℕ) S1x1x128.size (inbQs h 1 hh (by omega)))
    (VecWindow.window E.qs (![0, 4 * h + 2, 0] : Fin 3 → ℕ) S1x1x128.size (inbQs h 2 hh (by omega))) (VecWindow.window E.qs (![0, 4 * h + 3, 0] : Fin 3 → ℕ) S1x1x128.size (inbQs h 3 hh (by omega)))
def vsH (h : ℕ) (hh : h < 8) : Vec F S1x1x128 .f32 := VecWindow.window E.vs (![0, h, 0] : Fin 3 → ℕ) S1x1x128.size (inbVs h hh)

theorem inbK256 (h key : ℕ) (hh : h < 8) (hk : key + 256 ≤ 2048) : ∀ a, (![0, h, key, 0] : Fin 4 → ℕ) a + S1x1x256x64.size a ≤ S1x8x2048x64.size a := by
  intro a; fin_cases a
  · show 0 + 1 ≤ 1; omega
  · show h + 1 ≤ 8; omega
  · exact hk
  · show 0 + 64 ≤ 64; omega
theorem inbC256 (h key : ℕ) (hh : h < 8) (hk : key + 256 ≤ 2048) : ∀ a, (![h, key, 0] : Fin 3 → ℕ) a + S1x256x128.size a ≤ S8x2048x128.size a := by
  intro a; fin_cases a
  · show h + 1 ≤ 8; omega
  · exact hk
  · show 0 + 128 ≤ 128; omega
theorem inbV256 (h key : ℕ) (hh : h < 8) (hk : key + 256 ≤ 2048) : ∀ a, (![0, 64 * h, key] : Fin 3 → ℕ) a + S1x64x256.size a ≤ S1x512x2048.size a := by
  intro a; fin_cases a
  · show 0 + 1 ≤ 1; omega
  · show 64 * h + 64 ≤ 512; omega
  · exact hk
theorem inbS256 (sl base : ℕ) (hh : sl < 2) (hk : base + 256 ≤ 2048) : ∀ a, (![sl, base, 0] : Fin 3 → ℕ) a + S1x256x512.size a ≤ S2x2048x512.size a := by
  intro a; fin_cases a
  · show sl + 1 ≤ 2; omega
  · exact hk
  · show 0 + 512 ≤ 512; omega

/-- The scores of head `h` against the 256 keys `base` into the window from key `k0` on. -/
def scH256 (k0 h base : ℕ) (hh : h < 8) (hb : k0 + base + 256 ≤ 2048) : FVec F S256x512 .f32 :=
  sc256 (qH E h hh) (VecWindow.window E.k (![0, h, k0 + base, 0] : Fin 4 → ℕ) S1x1x256x64.size (inbK256 h _ hh hb)) (VecWindow.window E.ks (![h, k0 + base, 0] : Fin 3 → ℕ) S1x256x128.size (inbC256 h _ hh hb))
    (VecWindow.window E.b (![base, 0] : Fin 2 → ℕ) S256x128.size (offB_inb256 base (by omega)))
/-- Those keys' values. -/
def vH256 (k0 h base : ℕ) (hh : h < 8) (hb : k0 + base + 256 ≤ 2048) : Vec F S1x64x256 .fp8e4m3 :=
  VecWindow.window E.v (![0, 64 * h, k0 + base] : Fin 3 → ℕ) S1x64x256.size (inbV256 h _ hh hb)

/-- The slot `sl` of the score buffer, 256 keys from `base` on. -/
def slot256 (X : S2x2048x512.Idx → Elt F .f32) (sl base : ℕ) (hh : sl < 2) (hk : base + 256 ≤ 2048) : Vec F S1x256x512 .f32 :=
  VecWindow.window X (![sl, base, 0] : Fin 3 → ℕ) S1x256x512.size (inbS256 sl base hh hk)

/-- One chunk of 256 keys: what it carries on and the score buffer after it. -/
def step256 (k0 : ℕ) (t : Trips) (base : ℕ) (hb : k0 + base + 256 ≤ 2048) (m8 : FVec F S1x512 .f32) (s : St F) (X : S2x2048x512.Idx → Elt F .f32) : St F × (S2x2048x512.Idx → Elt F .f32) :=
  (st256 s (scH256 E k0 (min t.val 7) base (by omega) hb)
      (ex256 (qsH E (t.val - 1) (by have := trips_lt t; omega)) m8 (slot256 X (1 - t.val % 2) base (by omega) (by omega)))
      (vH256 E k0 (t.val - 1) base (by have := trips_lt t; omega) hb),
    VecWindow.put X (![t.val % 2, base, 0] : Fin 3 → ℕ) S1x256x512.size (scSt256 (scH256 E k0 (min t.val 7) base (by omega) hb)))

theorem inbK128 (h key : ℕ) (hh : h < 8) (hk : key + 128 ≤ 2048) : ∀ a, (![0, h, key, 0] : Fin 4 → ℕ) a + S1x1x128x64.size a ≤ S1x8x2048x64.size a := by
  intro a; fin_cases a
  · show 0 + 1 ≤ 1; omega
  · show h + 1 ≤ 8; omega
  · exact hk
  · show 0 + 64 ≤ 64; omega
theorem inbC128 (h key : ℕ) (hh : h < 8) (hk : key + 128 ≤ 2048) : ∀ a, (![h, key, 0] : Fin 3 → ℕ) a + S1x128x128.size a ≤ S8x2048x128.size a := by
  intro a; fin_cases a
  · show h + 1 ≤ 8; omega
  · exact hk
  · show 0 + 128 ≤ 128; omega
theorem inbV128 (h key : ℕ) (hh : h < 8) (hk : key + 128 ≤ 2048) : ∀ a, (![0, 64 * h, key] : Fin 3 → ℕ) a + S1x64x128.size a ≤ S1x512x2048.size a := by
  intro a; fin_cases a
  · show 0 + 1 ≤ 1; omega
  · show 64 * h + 64 ≤ 512; omega
  · exact hk
theorem inbS128 (sl base : ℕ) (hh : sl < 2) (hk : base + 128 ≤ 2048) : ∀ a, (![sl, base, 0] : Fin 3 → ℕ) a + S1x128x512.size a ≤ S2x2048x512.size a := by
  intro a; fin_cases a
  · show sl + 1 ≤ 2; omega
  · exact hk
  · show 0 + 512 ≤ 512; omega

/-- The scores of head `h` against the 128 keys `base` into the window from key `k0` on. -/
def scH128 (k0 h base : ℕ) (hh : h < 8) (hb : k0 + base + 128 ≤ 2048) : FVec F S128x512 .f32 :=
  sc128 (qH E h hh) (VecWindow.window E.k (![0, h, k0 + base, 0] : Fin 4 → ℕ) S1x1x128x64.size (inbK128 h _ hh hb)) (VecWindow.window E.ks (![h, k0 + base, 0] : Fin 3 → ℕ) S1x128x128.size (inbC128 h _ hh hb))
    (VecWindow.window E.b (![base, 0] : Fin 2 → ℕ) S128x128.size (offB_inb128 base (by omega)))
/-- Those keys' values. -/
def vH128 (k0 h base : ℕ) (hh : h < 8) (hb : k0 + base + 128 ≤ 2048) : Vec F S1x64x128 .fp8e4m3 :=
  VecWindow.window E.v (![0, 64 * h, k0 + base] : Fin 3 → ℕ) S1x64x128.size (inbV128 h _ hh hb)

/-- The slot `sl` of the score buffer, 128 keys from `base` on. -/
def slot128 (X : S2x2048x512.Idx → Elt F .f32) (sl base : ℕ) (hh : sl < 2) (hk : base + 128 ≤ 2048) : Vec F S1x128x512 .f32 :=
  VecWindow.window X (![sl, base, 0] : Fin 3 → ℕ) S1x128x512.size (inbS128 sl base hh hk)

/-- One chunk of 128 keys: what it carries on and the score buffer after it. -/
def step128 (k0 : ℕ) (t : Trips) (base : ℕ) (hb : k0 + base + 128 ≤ 2048) (m8 : FVec F S1x512 .f32) (s : St F) (X : S2x2048x512.Idx → Elt F .f32) : St F × (S2x2048x512.Idx → Elt F .f32) :=
  (st128 s (scH128 E k0 (min t.val 7) base (by omega) hb)
      (ex128 (qsH E (t.val - 1) (by have := trips_lt t; omega)) m8 (slot128 X (1 - t.val % 2) base (by omega) (by omega)))
      (vH128 E k0 (t.val - 1) base (by have := trips_lt t; omega) hb),
    VecWindow.put X (![t.val % 2, base, 0] : Fin 3 → ℕ) S1x128x512.size (scSt128 (scH128 E k0 (min t.val 7) base (by omega) hb)))

/-- `r` chunks of 256 keys from chunk `j` on. -/
def chunksF (k0 n : ℕ) (hn : k0 + n ≤ 2048) (t : Trips) (m8 : FVec F S1x512 .f32) : (r j : ℕ) → 256 * (j + r) ≤ n → St F → (S2x2048x512.Idx → Elt F .f32) → St F × (S2x2048x512.Idx → Elt F .f32)
  | 0, _, _, s, X => (s, X)
  | r + 1, j, h, s, X => chunksF k0 n hn t m8 r (j + 1) (by omega) (step256 E k0 t (256 * j) (by omega) m8 s X).1 (step256 E k0 t (256 * j) (by omega) m8 s X).2

/-- All chunks of the window. -/
def windowF (k0 n : ℕ) (hn : k0 + n ≤ 2048) (t : Trips) (m8 : FVec F S1x512 .f32) (m : ℕ) (o : Bool) (h : n = 256 * m + cond o 128 0) (X : S2x2048x512.Idx → Elt F .f32) : St F × (S2x2048x512.Idx → Elt F .f32) :=
  match o, h with
  | true, h =>
    step128 E k0 t (256 * m) (by simp only [cond_true] at h; omega) m8 (chunksF E k0 n hn t m8 m 0 (by omega) st0 X).1 (chunksF E k0 n hn t m8 m 0 (by omega) st0 X).2
  | false, _ => chunksF E k0 n hn t m8 m 0 (by omega) st0 X

/-- The buffers a trip changes: the scores, the stored maximum, the output block. -/
structure Mem (F : FTy → Type) [FloatOps F] [Named F] where
  s : S2x2048x512.Idx → Elt F .f32
  m : S8x512.Idx → Elt F .f32
  o : S1x128x2048.Idx → Elt F .bf16

/-- The stored maximum. -/
def m8At (M : Mem F) : FVec F S1x512 .f32 := VecWindow.window M.m (![0, 0] : Fin 2 → ℕ) S1x512.size inb_S8x512_S1x512_0_0

/-- The buffers after a trip whose chunks carried on `st` and left the scores at `X`. -/
def finF (t : Trips) (M : Mem F) (st : St F) (X : S2x2048x512.Idx → Elt F .f32) : Mem F where
  s := X
  m := VecWindow.put M.m (![0, 0] : Fin 2 → ℕ) S1x512.size (m8Of st.mx (qsH E (min t.val 7) (by omega)))
  o := VecWindow.put (VecWindow.put M.o (![0, 0, 256 * (t.val - 1)] : Fin 3 → ℕ) S1x128x128.size (outLo (normOf st.l st.acc) (vsH E (t.val - 1) (by have := trips_lt t; omega))))
    (![0, 0, 256 * (t.val - 1) + 128] : Fin 3 → ℕ) S1x128x128.size (outHi (normOf st.l st.acc) (vsH E (t.val - 1) (by have := trips_lt t; omega)))

/-- The buffers after a trip. -/
def tripF (k0 n : ℕ) (hn : k0 + n ≤ 2048) (m : ℕ) (o : Bool) (h : n = 256 * m + cond o 128 0) (t : Trips) (M : Mem F) : Mem F :=
  finF E t M (windowF E k0 n hn t (m8At M) m o h M.s).1 (windowF E k0 n hn t (m8At M) m o h M.s).2

/-- The buffers after `r` trips. -/
def loopF (k0 n : ℕ) (hn : k0 + n ≤ 2048) (m : ℕ) (o : Bool) (h : n = 256 * m + cond o 128 0) (M : Mem F) : ℕ → Mem F
  | 0 => M
  | r + 1 => if hr : r < 9 then tripF E k0 n hn m o h ⟨r, hr⟩ (loopF k0 n hn m o h M r) else loopF k0 n hn m o h M r

end

end Cert.KernelIdeal.Attn
-- ==== Proof.KernelIdeal.Body.lean ====
/-
  THE KERNEL'S BODY, WRITTEN ONCE.  `bodyP` is the program of one grid point: at the first block of a batch it copies the
  keys' scales, segments and positions down the columns of three buffers (`initP`); then it reads the first block of keys
  and the number of blocks from the tables and runs the arm for that number (`armP`): the mask of the window, then the
  head loop over `tripP`.  The printed body is `bodyP`, by definitional unfolding.
-/
module

public import proofs.«01_k».proof.Proof.KernelIdeal.Trip
public import proofs.«01_k».proof.Proof.Gen.KernelIdeal.Skeleton

@[expose] public section

set_option maxRecDepth 65536
set_option maxHeartbeats 4000000

noncomputable section

namespace Cert.KernelIdeal.Attn

open Cert.KernelIdeal
open Idealize.ShloMosaic Idealize.SL.Sem
open Facts₀ Facts

variable {F : FTy → Type} [FloatOps F] [Named F]

/-- The word of the first key of a window: the first block's, moved back to fit. -/
def k0At (v5 : BitVec 32) (c : BitVec 32) : BitVec 32 := Scalar.muli (Scalar.minsi v5 c) 128#32

/-! ## The copies down the columns -/

/-- The constant the keys' scales are multiplied by. -/
def cScale : F .f32 := Named.named κ "sm_log2e" 0x3E38AA3B#32
def cOne : F .f32 := Scalar.ofBits .f32 0x3F800000#32

/-- A row times `c`, down 128 columns. -/
def colOf (c : F .f32) (x : Vec F S1x1x128 .f32) : FVec F S128x128 .f32 :=
  shapeCast S128x128 (transpose S128x128 [1, 0] (broadcastTo S128x128 (shapeCast S1x128 (mulf (shapeCast S1x128 x shapeCasts_S1x1x128_S1x128) (broadcast S1x128 c)) shapeCasts_S1x128_S1x128) broadcasts_S1x128_S128x128) transposes_S128x128_p1_0_S128x128) shapeCasts_S128x128_S128x128

theorem inbKs (h : ℕ) (j : ℕ) (hh : h < 8) (hj : j < 16) : ∀ a, (![0, h, 128 * j] : Fin 3 → ℕ) a + S1x1x128.size a ≤ S1x8x2048.size a := by
  intro a
  fin_cases a
  · show 0 + 1 ≤ 1; omega
  · show h + 1 ≤ 8; omega
  · show 128 * j + 128 ≤ 2048; omega
theorem inbRow (j : ℕ) (hj : j < 16) : ∀ a, (![0, 0, 128 * j] : Fin 3 → ℕ) a + S1x1x128.size a ≤ S1x1x2048.size a := by
  intro a
  fin_cases a
  · show 0 + 1 ≤ 1; omega
  · show 0 + 1 ≤ 1; omega
  · show 128 * j + 128 ≤ 2048; omega
theorem inbCol (j : ℕ) (hj : j < 16) : ∀ a, (![128 * j, 0] : Fin 2 → ℕ) a + S128x128.size a ≤ S2048x128.size a := by
  intro a
  fin_cases a
  · show 128 * j + 128 ≤ 2048; omega
  · show 0 + 128 ≤ 128; omega
theorem inbHead (h : ℕ) (hh : h < 8) : ∀ a, (![h, 0, 0] : Fin 3 → ℕ) a + S1x2048x128.size a ≤ S8x2048x128.size a := by
  intro a
  fin_cases a
  · show h + 1 ≤ 8; omega
  · show 0 + 2048 ≤ 2048; omega
  · show 0 + 128 ≤ 128; omega

/-- Head `h`'s plane of the scale buffer. -/
def headRef (arg14 : Memref sig .tc .vmem S8x2048x128 .f32) (h : ℕ) (hh : h < 8) : Memref sig .tc .vmem S2048x128 .f32 :=
  (arg14.slice (Rect.unit (s := S8x2048x128) ![h, 0, 0] S1x2048x128.size (inbHead h hh)) (fun _ => rfl)).squeeze S2048x128 squeezes_S1x2048x128_S2048x128

/-- Head `h`'s scales from chunk `j` on, `r` chunks. -/
def ksChunks (arg7 : Memref sig .tc .vmem S1x8x2048 .f32) (arg14 : Memref sig .tc .vmem S8x2048x128 .f32) (h : ℕ) (hh : h < 8) (k : Prog (TpuEff nD τ sig (Elt F) Λ₀ .tc) Unit) :
    (r : ℕ) → (j : ℕ) → j + r ≤ 16 → Prog (TpuEff nD τ sig (Elt F) Λ₀ .tc) Unit
  | 0, _, _ => k
  | r + 1, j, hj =>
    .op (.load arg7 (Rect.unit (s := S1x8x2048) ![0, h, 128 * j] S1x1x128.size (inbKs h j hh (by omega))).toLoadRect (View.loadsAt_vmem h_S1x1x128)) fun x =>
    .op (.load (headRef arg14 h hh) (Rect.unit (s := S2048x128) ![128 * j, 0] S128x128.size (inbCol j (by omega))).toLoadRect (View.loadsAt_vmem h_S128x128)) fun _ =>
    .op (.store (headRef arg14 h hh) (Rect.unit (s := S2048x128) ![128 * j, 0] S128x128.size (inbCol j (by omega))) (colOf cScale x) Finset.univ (View.stores_vmem_bits_univ h_S128x128 rfl) (.inl rfl)) fun _ =>
    ksChunks arg7 arg14 h hh k r (j + 1) (by omega)

/-- All heads' scales from head `h` on, `r` heads. -/
def ksHeads (arg7 : Memref sig .tc .vmem S1x8x2048 .f32) (arg14 : Memref sig .tc .vmem S8x2048x128 .f32) (k : Prog (TpuEff nD τ sig (Elt F) Λ₀ .tc) Unit) :
    (r : ℕ) → (h : ℕ) → h + r ≤ 8 → Prog (TpuEff nD τ sig (Elt F) Λ₀ .tc) Unit
  | 0, _, _ => k
  | r + 1, h, hh => ksChunks arg7 arg14 h (by omega) (ksHeads arg7 arg14 k r (h + 1) (by omega)) 16 0 (by omega)

/-- One row's copy from chunk `j` on, `r` chunks. -/
def rowChunks (src : Memref sig .tc .vmem S1x1x2048 .f32) (dst : Memref sig .tc .vmem S2048x128 .f32) (k : Prog (TpuEff nD τ sig (Elt F) Λ₀ .tc) Unit) :
    (r : ℕ) → (j : ℕ) → j + r ≤ 16 → Prog (TpuEff nD τ sig (Elt F) Λ₀ .tc) Unit
  | 0, _, _ => k
  | r + 1, j, hj =>
    .op (.load src (Rect.unit (s := S1x1x2048) ![0, 0, 128 * j] S1x1x128.size (inbRow j (by omega))).toLoadRect (View.loadsAt_vmem h_S1x1x128)) fun x =>
    .op (.load dst (Rect.unit (s := S2048x128) ![128 * j, 0] S128x128.size (inbCol j (by omega))).toLoadRect (View.loadsAt_vmem h_S128x128)) fun _ =>
    .op (.store dst (Rect.unit (s := S2048x128) ![128 * j, 0] S128x128.size (inbCol j (by omega))) (colOf cOne x) Finset.univ (View.stores_vmem_bits_univ h_S128x128 rfl) (.inl rfl)) fun _ =>
    rowChunks src dst k r (j + 1) (by omega)

/-- The copies of a batch. -/
def initP (arg7 : Memref sig .tc .vmem S1x8x2048 .f32) (arg11 arg12 : Memref sig .tc .vmem S1x1x2048 .f32) (arg14 : Memref sig .tc .vmem S8x2048x128 .f32) (arg15 arg16 : Memref sig .tc .vmem S2048x128 .f32) : Prog (TpuEff nD τ sig (Elt F) Λ₀ .tc) Unit :=
  ksHeads arg7 arg14 (rowChunks arg11 arg15 (rowChunks arg12 arg16 (.ret ⟨⟩) 16 0 (by omega)) 16 0 (by omega)) 8 0 (by omega)

/-! ## The mask of a window -/

/-- The mask's chunk: 0 where the key has the query's segment and a position up to the query's, `-∞` elsewhere. -/
def biasOf (i : grid0.Coords) (seg : Vec F S1x1x128 .f32) (xs xp : Vec F S128x128 .f32) : FVec F S128x128 .f32 :=
  shapeCast S128x128
    (select (andi (cmpf .oeq xs (broadcastTo S128x128 (shapeCast S1x128 seg shapeCasts_S1x1x128_S1x128) broadcasts_S1x128_S128x128))
        (cmpf .ole xp (broadcastTo S128x128 (sitofp .f32 (addi (iota .tc S1x128 32 [1] iota_S1x128_d1_w32) (broadcast S1x128 (Scalar.muli (BitVec.ofNat 32 (i 1).val) 128#32)))) broadcasts_S1x128_S128x128)))
      (broadcast S128x128 (Scalar.ofBits .f32 0x00000000#32)) (broadcast S128x128 (Scalar.ofBits .f32 0xFF800000#32)))
    shapeCasts_S128x128_S128x128

def offM (kw : BitVec 32) : Fin 2 → ℕ := ![(Scalar.indexCast kw).toNat, 0]
theorem offM_inb (kw : BitVec 32) (h : kw.toNat + 128 ≤ 2048) : ∀ a, offM kw a + S128x128.size a ≤ S2048x128.size a := by
  intro a
  fin_cases a
  · exact h
  · show 0 + 128 ≤ 128; omega

/-- The mask from chunk `j` on, `r` chunks, in a window of `n` keys from word `k0w` on. -/
def biasChunks (i : grid0.Coords) (arg15 arg16 arg18 : Memref sig .tc .vmem S2048x128 .f32) (k0w : BitVec 32) (n : ℕ) (hn : k0w.toNat + n ≤ 2048) (seg : Vec F S1x1x128 .f32)
    (k : Prog (TpuEff nD τ sig (Elt F) Λ₀ .tc) Unit) : (r : ℕ) → (j : ℕ) → 128 * (j + r) ≤ n → Prog (TpuEff nD τ sig (Elt F) Λ₀ .tc) Unit
  | 0, _, _ => k
  | r + 1, j, h =>
    .op (.load arg15 (Rect.unit (s := S2048x128) (offM (kwAt k0w (128 * j))) S128x128.size (offM_inb _ (kwAt_le k0w (128 * j) 128 n hn (by omega)))).toLoadRect (View.loadsAt_vmem h_S128x128)) fun xs =>
    .op (.load arg16 (Rect.unit (s := S2048x128) (offM (kwAt k0w (128 * j))) S128x128.size (offM_inb _ (kwAt_le k0w (128 * j) 128 n hn (by omega)))).toLoadRect (View.loadsAt_vmem h_S128x128)) fun xp =>
    .op (.load arg18 (Rect.unit (s := S2048x128) ![128 * j, 0] S128x128.size (inbCol j (by omega))).toLoadRect (View.loadsAt_vmem h_S128x128)) fun _ =>
    .op (.store arg18 (Rect.unit (s := S2048x128) ![128 * j, 0] S128x128.size (inbCol j (by omega))) (biasOf i seg xs xp) Finset.univ (View.stores_vmem_bits_univ h_S128x128 rfl) (.inl rfl)) fun _ =>
    biasChunks i arg15 arg16 arg18 k0w n hn seg k r (j + 1) (by omega)

/-! ## The arms -/

section
variable (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole)

/-- The arm of a window of `nb` blocks of 128 keys: the mask, then the head loop. -/
def armP (k0w : BitVec 32) (nb m : ℕ) (o : Bool) (hn : k0w.toNat + 128 * nb ≤ 2048) (h : 128 * nb = 256 * m + cond o 128 0) : Prog (TpuEff nD τ sig (Elt F) Λ₀ .tc) Unit :=
  .op (.load arg10 (Rect.unit (s := S1x1x128) ![0, 0, 0] S1x1x128.size inb_S1x1x128_S1x1x128_0_0_0).toLoadRect (View.loadsAt_vmem h_S1x1x128)) fun (seg : Vec F S1x1x128 .f32) =>
  biasChunks i arg15 arg16 arg18 k0w (128 * nb) hn seg
    (Scf.Loop.for k0_t1_loop k0_t1_ok ⟨⟩ (fun t _ => tripP arg4 arg5 arg6 arg8 arg9 arg13 harg13 arg14 arg17 arg18 arg19 t k0w m o (128 * nb) hn h)) nb 0 (by omega)

theorem hn_of (k0w : BitVec 32) (nb : ℕ) (h0 : (kwAt k0w 0).toNat + 128 ≤ 2048) (h1 : (kwAt k0w (128 * (nb - 1))).toNat + 128 ≤ 2048) (hnb : nb ≤ 16) (hp : 0 < nb) :
    k0w.toNat + 128 * nb ≤ 2048 := by
  have e : kwAt k0w 0 = k0w := by show k0w + 0#32 = k0w; simp
  rw [e] at h0
  rw [kwAt_toNat _ _ (by omega)] at h1
  omega
theorem hn1 (v5 v8 : BitVec 32) (hw : k0_chk1 v5 v8) (h : k0_cond2 v8 = 1#1) : (k0At v5 15#32).toNat + 128 * 1 ≤ 2048 :=
  hn_of (k0At v5 15#32) 1 (k0_off2_inb v5 v8 hw h 0) (k0_off2_inb v5 v8 hw h 0) (by omega) (by omega)
theorem hn2 (v5 v8 : BitVec 32) (hw : k0_chk1 v5 v8) (h : k0_cond3 v8 = 1#1) : (k0At v5 14#32).toNat + 128 * 2 ≤ 2048 :=
  hn_of (k0At v5 14#32) 2 (k0_off13_inb v5 v8 hw h 0 0) (k0_off13_inb v5 v8 hw h 1 0) (by omega) (by omega)
theorem hn3 (v5 v8 : BitVec 32) (hw : k0_chk1 v5 v8) (h : k0_cond4 v8 = 1#1) : (k0At v5 13#32).toNat + 128 * 3 ≤ 2048 :=
  hn_of (k0At v5 13#32) 3 (k0_off24_inb v5 v8 hw h 0 0) (k0_off24_inb v5 v8 hw h 2 0) (by omega) (by omega)
theorem hn4 (v5 v8 : BitVec 32) (hw : k0_chk1 v5 v8) (h : k0_cond5 v8 = 1#1) : (k0At v5 12#32).toNat + 128 * 4 ≤ 2048 :=
  hn_of (k0At v5 12#32) 4 (k0_off40_inb v5 v8 hw h 0 0) (k0_off40_inb v5 v8 hw h 3 0) (by omega) (by omega)
theorem hn5 (v5 v8 : BitVec 32) (hw : k0_chk1 v5 v8) (h : k0_cond6 v8 = 1#1) : (k0At v5 11#32).toNat + 128 * 5 ≤ 2048 :=
  hn_of (k0At v5 11#32) 5 (k0_off53_inb v5 v8 hw h 0 0) (k0_off53_inb v5 v8 hw h 4 0) (by omega) (by omega)
theorem hn6 (v5 v8 : BitVec 32) (hw : k0_chk1 v5 v8) (h : k0_cond7 v8 = 1#1) : (k0At v5 10#32).toNat + 128 * 6 ≤ 2048 :=
  hn_of (k0At v5 10#32) 6 (k0_off71_inb v5 v8 hw h 0 0) (k0_off71_inb v5 v8 hw h 5 0) (by omega) (by omega)
theorem hn7 (v5 v8 : BitVec 32) (hw : k0_chk1 v5 v8) (h : k0_cond8 v8 = 1#1) : (k0At v5 8#32).toNat + 128 * 8 ≤ 2048 :=
  hn_of (k0At v5 8#32) 8 (k0_off86_inb v5 v8 hw h 0 0) (k0_off86_inb v5 v8 hw h 7 0) (by omega) (by omega)
theorem hn8 (v5 v8 : BitVec 32) (hw : k0_chk1 v5 v8) (h : k0_cond9 v8 = 1#1) : (k0At v5 6#32).toNat + 128 * 10 ≤ 2048 :=
  hn_of (k0At v5 6#32) 10 (k0_off103_inb v5 v8 hw h 0 0) (k0_off103_inb v5 v8 hw h 9 0) (by omega) (by omega)
theorem hn9 (v5 v8 : BitVec 32) (hw : k0_chk1 v5 v8) (h : k0_cond10 v8 = 1#1) : (k0At v5 4#32).toNat + 128 * 12 ≤ 2048 :=
  hn_of (k0At v5 4#32) 12 (k0_off122_inb v5 v8 hw h 0 0) (k0_off122_inb v5 v8 hw h 11 0) (by omega) (by omega)
theorem hn10 (v5 v8 : BitVec 32) (hw : k0_chk1 v5 v8) (h : k0_cond11 v8 = 1#1) : (k0At v5 0#32).toNat + 128 * 16 ≤ 2048 :=
  hn_of (k0At v5 0#32) 16 (k0_off143_inb v5 v8 hw h 0 0) (k0_off143_inb v5 v8 hw h 15 0) (by omega) (by omega)

end

end Cert.KernelIdeal.Attn
-- ==== Proof.KernelIdeal.Rules.lean ====
/-
  LOADS AND STORES BY VALUES.  A memref owned at `X` is loaded from by `VecWindow.window` and stored to by
  `VecWindow.put`.
-/
module

public import proofs.«01_k».proof.Proof.KernelIdeal.Body
public import proofs.«01_k».proof.Proof.Gen.KernelIdeal.Launch
public import Idealize.ShloMosaic.Lib.Tactic

@[expose] public section

set_option maxRecDepth 65536

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A vector memref held whole at the values `X`. -/
abbrev own (c : Dev nD) {s : Shape} {e : EltTy} (m : Memref sig .tc .vmem s e) (X : s.Idx → Elt F e) : sProp 𝕄 :=
  owns (c : Thread nD τ) m fullShare X

/-- The weakest precondition of a program of the body. -/
abbrev wpK (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable (c : Dev nD) {s : Shape} {e : EltTy} {α : Type}

theorem own_load (m : Memref sig .tc .vmem s e) {off size : Fin s.rank → ℕ} {inb : ∀ a, off a + size a ≤ s.size a} {hl}
    {k : ((Rect.unit off size inb).shape.Idx → Elt F e) → Prog (TpuEff nD τ sig (Elt F) Λ₀ .tc) α} {X : s.Idx → Elt F e} {Q : α → sProp 𝕄} :
    own c m X ⊢ iprop((own c m X -∗ wpK c (k (VecWindow.window X off size inb)) Q) -∗ wpK c (.op (.load m (Rect.unit off size inb).toLoadRect hl) k) Q) := by
  unfold own owns
  iintro ⟨%f, %hf, H⟩ Hk
  iapply (wp_load (c := (c : Thread nD τ)) Variants.none none Set.univ (m := m) (r := (Rect.unit off size inb).toLoadRect) (hl := hl) (k := k) (S := m.view.set) (q := fullShare) (f := f) (View.setOn_subset_set _ _)) $$ H
  iintro H
  rw [View.readAt_unit m.view f inb rfl inb, hf]
  iapply Hk
  iexists f
  isplitr
  · ipureintro; exact hf
  · iexact H

theorem own_store (m : Memref sig .tc .vmem s e) {off size : Fin s.rank → ℕ} {inb : ∀ a, off a + size a ≤ s.size a} {w : (Rect.unit off size inb).shape.Idx → Elt F e} {hx hm}
    {k : PUnit → Prog (TpuEff nD τ sig (Elt F) Λ₀ .tc) α} {X : s.Idx → Elt F e} {Q : α → sProp 𝕄} :
    own c m X ⊢ iprop((own c m (VecWindow.put X off size w) -∗ wpK c (k ⟨⟩) Q) -∗ wpK c (.op (.store m (Rect.unit off size inb) w Finset.univ hx hm) k) Q) := by
  unfold own owns
  iintro ⟨%f, %hf, H⟩ Hk
  iapply (wp_store (c := (c : Thread nD τ)) Variants.none none Set.univ (m := m) (r := Rect.unit off size inb) (hx := hx) (hm := hm) (k := k) (S := m.view.set) (f := f)
    (by rw [View.setOn_univ]; exact View.set_slice_subset _ _)) $$ H
  iintro H
  iapply Hk
  iexists _
  isplitr; swap; (· iexact H)
  ipureintro
  subst hf
  funext y
  unfold VecWindow.put
  by_cases h : ∀ a, off a ≤ (y a).val ∧ (y a).val < off a + size a
  · rw [dif_pos h]
    have e1 : y = (Rect.unit off size inb).emb (Rect.unitLocal (s := s) (off := off) (size := size) y h) := by
      funext a
      apply Fin.ext
      show (y a).val = off a + 1 * ((y a).val - off a)
      have := h a
      omega
    have := View.read_slice_write_emb (Val := Elt F) (v := m.view) (Rect.unit off size inb) f w (M := Finset.univ) (x := Rect.unitLocal (s := s) (off := off) (size := size) y h) (Finset.mem_univ _)
    rw [← e1] at this
    exact this
  · rw [dif_neg h]
    refine View.read_slice_write_of_not_mem (Val := Elt F) (v := m.view) (Rect.unit off size inb) f w Finset.univ (y := y) fun hm => h ?_
    obtain ⟨x, -, hx⟩ := Finset.mem_map.mp hm
    intro a
    have : (y a).val = off a + 1 * (x a).val := by rw [← hx]; rfl
    have h2 : (x a).val < size a := (x a).isLt
    omega

end Cert.KernelIdeal.Attn
-- ==== Proof.KernelIdeal.Exec.lean ====
/-
  THE HEAD LOOP RUNS: from the blocks and the buffers held at any contents a trip runs to its end and leaves the buffers
  as `tripF` says, and the loop as `loopF` says.
-/
module

public import proofs.«01_k».proof.Proof.KernelIdeal.Spec
public import proofs.«01_k».proof.Proof.KernelIdeal.Rules

@[expose] public section

set_option maxRecDepth 65536

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F]

local notation "𝕄" => MT nD τ sig Unit (Elt F) ℕ (UR sig nD τ) ℕ

section
variable (c : Dev nD) (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg13 : Memref sig .tc .vmem S1x128x2048 .bf16) (harg13 : arg13.IsWhole) (arg14 : Memref sig .tc .vmem S8x2048x128 .f32) (arg17 : Memref sig .tc .vmem S2x2048x512 .f32) (arg18 : Memref sig .tc .vmem S2048x128 .f32) (arg19 : Memref sig .tc .vmem S8x512 .f32)

/-- The blocks a head loop reads, held. -/
def Ro (arg4 : Memref sig .tc .vmem S1x2048x128 .fp8e4m3) (arg5 : Memref sig .tc .vmem S1x32x128 .f32) (arg6 : Memref sig .tc .vmem S1x8x2048x64 .fp8e4m3) (arg8 : Memref sig .tc .vmem S1x512x2048 .fp8e4m3) (arg9 : Memref sig .tc .vmem S1x8x128 .f32) (arg14 : Memref sig .tc .vmem S8x2048x128 .f32) (arg18 : Memref sig .tc .vmem S2048x128 .f32) (E : Env F) : sProp 𝕄 :=
  iprop(own c arg4 E.q ∗ own c arg5 E.qs ∗ own c arg6 E.k ∗ own c arg8 E.v ∗ own c arg9 E.vs ∗ own c arg14 E.ks ∗ own c arg18 E.b)

variable (E : Env F)

/-- What the chunks of trip `t` all read. -/
def inT (t : Trips) (m8 : FVec F S1x512 .f32) : In F := ⟨qH E (min t.val 7) (by omega), qsH E (t.val - 1) (by have := trips_lt t; omega), m8⟩

theorem chunk256_wp (t : Trips) (k0w : BitVec 32) (n : ℕ) (hn : k0w.toNat + n ≤ 2048) (base : ℕ) (hb : base + 256 ≤ n) (hb' : base + 256 ≤ 2048) (hk : (kwAt k0w base).toNat + 256 ≤ 2048) (m8 : FVec F S1x512 .f32) (s : St F) (X : S2x2048x512.Idx → Elt F .f32)
    (k : St F → Prog (TpuEff nD τ sig (Elt F) Λ₀ .tc) Unit) (Q : Unit → sProp 𝕄) :
    iprop(Ro c arg4 arg5 arg6 arg8 arg9 arg14 arg18 E ∗ own c arg17 X ∗ (Ro c arg4 arg5 arg6 arg8 arg9 arg14 arg18 E -∗ own c arg17 (step256 E k0w.toNat t base (by omega) m8 s X).2 -∗ wpK c (k (step256 E k0w.toNat t base (by omega) m8 s X).1) Q))
      ⊢ wpK c (chunk256 arg4 arg5 arg6 arg8 arg9 arg13 harg13 arg14 arg17 arg18 arg19 t (kwAt k0w base) hk base hb' (inT E t m8) s k) Q := by
  have ekw : (kwAt k0w base).toNat = k0w.toNat + base := kwAt_toNat _ _ (by omega)
  have hE : k0w.toNat + base + 256 ≤ 2048 := by omega
  have ht := trips_lt t
  have e1 := window_congr E.k S1x1x256x64.size (show offK t (kwAt k0w base) = ![0, min t.val 7, k0w.toNat + base, 0] by rw [offK_eq, ekw]) (offK_inb256 t _ hk) (inbK256 _ _ (by omega) hE)
  have e2 := window_congr E.ks S1x256x128.size (show offKs t (kwAt k0w base) = ![min t.val 7, k0w.toNat + base, 0] by rw [offKs_eq, ekw]) (offKs_inb256 t _ hk) (inbC256 _ _ (by omega) hE)
  have e3 := window_congr E.v S1x64x256.size (show offV t (kwAt k0w base) = ![0, 64 * (t.val - 1), k0w.toNat + base] by rw [offV_eq, ekw]) (offV_inb256 t _ hk) (inbV256 _ _ (by omega) hE)
  have e4 := window_congr X S1x256x512.size (offPrev_eq t base) (offPrev_inb256 t _ hb') (inbS256 _ _ (by omega) hb')
  unfold Ro chunk256
  iintro ⟨⟨H4, H5, H6, H8, H9, H14, H18⟩, H17, Hk⟩
  iapply own_load $$ H6; iintro H6
  iapply own_load $$ H14; iintro H14
  iapply own_load $$ H18; iintro H18
  iapply own_load $$ H17; iintro H17
  iapply own_load $$ H8; iintro H8
  iapply own_load $$ H17; iintro H17
  iapply own_store $$ H17; iintro H17
  rw [e1, e2, e3, e4, offCur_eq]
  iapply Hk $$ [H4 H5 H6 H8 H9 H14 H18] [H17]
  · isplitl [H4]; · iexact H4
    isplitl [H5]; · iexact H5
    isplitl [H6]; · iexact H6
    isplitl [H8]; · iexact H8
    isplitl [H9]; · iexact H9
    isplitl [H14]; · iexact H14
    iexact H18
  · iexact H17

theorem chunk128_wp (t : Trips) (k0w : BitVec 32) (n : ℕ) (hn : k0w.toNat + n ≤ 2048) (base : ℕ) (hb : base + 128 ≤ n) (hb' : base + 128 ≤ 2048) (hk : (kwAt k0w base).toNat + 128 ≤ 2048) (m8 : FVec F S1x512 .f32) (s : St F) (X : S2x2048x512.Idx → Elt F .f32)
    (k : St F → Prog (TpuEff nD τ sig (Elt F) Λ₀ .tc) Unit) (Q : Unit → sProp 𝕄) :
    iprop(Ro c arg4 arg5 arg6 arg8 arg9 arg14 arg18 E ∗ own c arg17 X ∗ (Ro c arg4 arg5 arg6 arg8 arg9 arg14 arg18 E -∗ own c arg17 (step128 E k0w.toNat t base (by omega) m8 s X).2 -∗ wpK c (k (step128 E k0w.toNat t base (by omega) m8 s X).1) Q))
      ⊢ wpK c (chunk128 arg4 arg5 arg6 arg8 arg9 arg13 harg13 arg14 arg17 arg18 arg19 t (kwAt k0w base) hk base hb' (inT E t m8) s k) Q := by
  have ekw : (kwAt k0w base).toNat = k0w.toNat + base := kwAt_toNat _ _ (by omega)
  have hE : k0w.toNat + base + 128 ≤ 2048 := by omega
  have ht := trips_lt t
  have e1 := window_congr E.k S1x1x128x64.size (show offK t (kwAt k0w base) = ![0, min t.val 7, k0w.toNat + base, 0] by rw [offK_eq, ekw]) (offK_inb128 t _ hk) (inbK128 _ _ (by omega) hE)
  have e2 := window_congr E.ks S1x128x128.size (show offKs t (kwAt k0w base) = ![min t.val 7, k0w.toNat + base, 0] by rw [offKs_eq, ekw]) (offKs_inb128 t _ hk) (inbC128 _ _ (by omega) hE)
  have e3 := window_congr E.v S1x64x128.size (show offV t (kwAt k0w base) = ![0, 64 * (t.val - 1), k0w.toNat + base] by rw [offV_eq, ekw]) (offV_inb128 t _ hk) (inbV128 _ _ (by omega) hE)
  have e4 := window_congr X S1x128x512.size (offPrev_eq t base) (offPrev_inb128 t _ hb') (inbS128 _ _ (by omega) hb')
  unfold Ro chunk128
  iintro ⟨⟨H4, H5, H6, H8, H9, H14, H18⟩, H17, Hk⟩
  iapply own_load $$ H6; iintro H6
  iapply own_load $$ H14; iintro H14
  iapply own_load $$ H18; iintro H18
  iapply own_load $$ H17; iintro H17
  iapply own_load $$ H8; iintro H8
  iapply own_load $$ H17; iintro H17
  iapply own_store $$ H17; iintro H17
  rw [e1, e2, e3, e4, offCur_eq]
  iapply Hk $$ [H4 H5 H6 H8 H9 H14 H18] [H17]
  · isplitl [H4]; · iexact H4
    isplitl [H5]; · iexact H5
    isplitl [H6]; · iexact H6
    isplitl [H8]; · iexact H8
    isplitl [H9]; · iexact H9
    isplitl [H14]; · iexact H14
    iexact H18
  · iexact H17

theorem chunks_wp (t : Trips) (k0w : BitVec 32) (n : ℕ) (hn : k0w.toNat + n ≤ 2048) (m8 : FVec F S1x512 .f32)
    (k : St F → Prog (TpuEff nD τ sig (Elt F) Λ₀ .tc) Unit) (Q : Unit → sProp 𝕄) (r : ℕ) : ∀ (j : ℕ) (h : 256 * (j + r) ≤ n) (s : St F) (X : S2x2048x512.Idx → Elt F .f32),
    iprop(Ro c arg4 arg5 arg6 arg8 arg9 arg14 arg18 E ∗ own c arg17 X ∗ (Ro c arg4 arg5 arg6 arg8 arg9 arg14 arg18 E -∗ own c arg17 (chunksF E k0w.toNat n hn t m8 r j h s X).2 -∗ wpK c (k (chunksF E k0w.toNat n hn t m8 r j h s X).1) Q))
      ⊢ wpK c (chunks arg4 arg5 arg6 arg8 arg9 arg13 harg13 arg14 arg17 arg18 arg19 t k0w n hn (inT E t m8) k r j h s) Q := by
  induction r with
  | zero =>
    intro j h s X
    simp only [chunksF, chunks]
    iintro ⟨HR, H17, Hk⟩
    iapply Hk $$ HR H17
  | succ r ih =>
    intro j h s X
    have p1 : 256 * j + 256 ≤ n := by omega
    have p2 : 256 * j + 256 ≤ 2048 := by omega
    have p3 : 256 * (j + 1 + r) ≤ n := by omega
    iintro ⟨HR, H17, Hk⟩
    iapply (chunk256_wp c arg4 arg5 arg6 arg8 arg9 arg13 harg13 arg14 arg17 arg18 arg19 E t k0w n hn (256 * j) p1 p2 (kwAt_le k0w (256 * j) 256 n hn p1) m8 s X)
    isplitl [HR]; · iexact HR
    isplitl [H17]; · iexact H17
    iintro HR H17
    iapply (ih (j + 1) p3)
    isplitl [HR]; · iexact HR
    isplitl [H17]; · iexact H17
    iexact Hk

theorem window_wp (t : Trips) (k0w : BitVec 32) (m : ℕ) (o : Bool) (n : ℕ) (hn : k0w.toNat + n ≤ 2048) (h : n = 256 * m + cond o 128 0) (m8 : FVec F S1x512 .f32)
    (k : St F → Prog (TpuEff nD τ sig (Elt F) Λ₀ .tc) Unit) (Q : Unit → sProp 𝕄) (X : S2x2048x512.Idx → Elt F .f32) :
    iprop(Ro c arg4 arg5 arg6 arg8 arg9 arg14 arg18 E ∗ own c arg17 X ∗ (Ro c arg4 arg5 arg6 arg8 arg9 arg14 arg18 E -∗ own c arg17 (windowF E k0w.toNat n hn t m8 m o h X).2 -∗ wpK c (k (windowF E k0w.toNat n hn t m8 m o h X).1) Q))
      ⊢ wpK c (window arg4 arg5 arg6 arg8 arg9 arg13 harg13 arg14 arg17 arg18 arg19 t k0w m o n hn h (inT E t m8) k) Q := by
  unfold window
  cases o with
  | false =>
    exact chunks_wp c arg4 arg5 arg6 arg8 arg9 arg13 harg13 arg14 arg17 arg18 arg19 E t k0w n hn m8 k Q m 0 _ st0 X
  | true =>
    have h' := h
    simp only [cond_true] at h'
    have p1 : 256 * m + 128 ≤ n := by omega
    have p2 : 256 * m + 128 ≤ 2048 := by omega
    have p3 : 256 * (0 + m) ≤ n := by omega
    iintro ⟨HR, H17, Hk⟩
    iapply (chunks_wp c arg4 arg5 arg6 arg8 arg9 arg13 harg13 arg14 arg17 arg18 arg19 E t k0w n hn m8 _ Q m 0 p3 st0 X)
    isplitl [HR]; · iexact HR
    isplitl [H17]; · iexact H17
    iintro HR H17
    iapply (chunk128_wp c arg4 arg5 arg6 arg8 arg9 arg13 harg13 arg14 arg17 arg18 arg19 E t k0w n hn (256 * m) p1 p2 (kwAt_le k0w (256 * m) 128 n hn p1) m8 _ _)
    isplitl [HR]; · iexact HR
    isplitl [H17]; · iexact H17
    iexact Hk

/-- The buffers a trip changes, held. -/
def Rw (arg13 : Memref sig .tc .vmem S1x128x2048 .bf16) (arg17 : Memref sig .tc .vmem S2x2048x512 .f32) (arg19 : Memref sig .tc .vmem S8x512 .f32) (M : Mem F) : sProp 𝕄 :=
  iprop(own c arg17 M.s ∗ own c arg19 M.m ∗ own c arg13 M.o)

theorem off5_eq : ∀ t : Trips, ∀ r : Fin 4, k0_off5 t (BitVec.ofNat 32 r.val) = ![0, 4 * (t.val - 1) + r.val, 0] := by decide +kernel
theorem off11_eq : ∀ t : Trips, k0_off11 t = ![0, t.val - 1, 0] := by decide +kernel
theorem off12_eq : ∀ t : Trips, ∀ r : Fin 2, k0_off12 t (BitVec.ofNat 32 (128 * r.val)) = ![0, 0, 256 * (t.val - 1) + 128 * r.val] := by decide +kernel

theorem finish_wp (t : Trips) (M : Mem F) (st : St F) (X : S2x2048x512.Idx → Elt F .f32) (Q : Unit → sProp 𝕄) :
    iprop(Ro c arg4 arg5 arg6 arg8 arg9 arg14 arg18 E ∗ own c arg17 X ∗ own c arg19 M.m ∗ own c arg13 M.o ∗ (Ro c arg4 arg5 arg6 arg8 arg9 arg14 arg18 E -∗ Rw c arg13 arg17 arg19 (finF E t M st X) -∗ Q ⟨⟩))
      ⊢ wpK c (finish arg4 arg5 arg6 arg8 arg9 arg13 harg13 arg14 arg17 arg18 arg19 t (qsH E (min t.val 7) (by omega)) st) Q := by
  have ht := trips_lt t
  have e1 := window_congr E.vs S1x1x128.size (off11_eq t) (k0_off11_inb t) (inbVs _ (by omega))
  have e2 : k0_off12 t 0#32 = ![0, 0, 256 * (t.val - 1)] := off12_eq t 0
  have e3 : k0_off12 t 128#32 = ![0, 0, 256 * (t.val - 1) + 128] := off12_eq t 1
  unfold Ro Rw finish
  iintro ⟨⟨H4, H5, H6, H8, H9, H14, H18⟩, H17, H19, H13, Hk⟩
  iapply own_load $$ H19; iintro H19
  iapply own_store $$ H19; iintro H19
  iapply own_load $$ H9; iintro H9
  iapply own_load $$ H13; iintro H13
  iapply own_store $$ H13; iintro H13
  iapply own_load $$ H9; iintro H9
  iapply own_load $$ H13; iintro H13
  iapply own_store $$ H13; iintro H13
  rw [e1, e2, e3]
  rw [show wpK c (.ret ⟨⟩ : Prog (TpuEff nD τ sig (Elt F) Λ₀ .tc) Unit) Q = _ from wp_ret _ _ _ _ _]
  imodintro
  iapply Hk $$ [H4 H5 H6 H8 H9 H14 H18] [H17 H19 H13]
  · isplitl [H4]; · iexact H4
    isplitl [H5]; · iexact H5
    isplitl [H6]; · iexact H6
    isplitl [H8]; · iexact H8
    isplitl [H9]; · iexact H9
    isplitl [H14]; · iexact H14
    iexact H18
  · isplitl [H17]; · iexact H17
    isplitl [H19]; · iexact H19
    iexact H13

theorem trip_wp (t : Trips) (k0w : BitVec 32) (m : ℕ) (o : Bool) (n : ℕ) (hn : k0w.toNat + n ≤ 2048) (h : n = 256 * m + cond o 128 0) (M : Mem F) (Q : Unit → sProp 𝕄) :
    iprop(Ro c arg4 arg5 arg6 arg8 arg9 arg14 arg18 E ∗ Rw c arg13 arg17 arg19 M ∗ (Ro c arg4 arg5 arg6 arg8 arg9 arg14 arg18 E -∗ Rw c arg13 arg17 arg19 (tripF E k0w.toNat n hn m o h t M) -∗ Q ⟨⟩))
      ⊢ wpK c (tripP arg4 arg5 arg6 arg8 arg9 arg13 harg13 arg14 arg17 arg18 arg19 t k0w m o n hn h) Q := by
  have ht := trips_lt t
  have q0 := window_congr E.q S1x64x128.size (show k0_off3 t 0#32 = ![0, 256 * min t.val 7 + 64 * 0, 0] from Gen.k0_off3_eq t 0) (k0_off3_inb t 0) (inbQ _ 0 (by omega) (by omega))
  have a0 := window_congr E.qs S1x1x128.size (show k0_off4 t 0#32 = ![0, 4 * min t.val 7 + 0, 0] from Gen.k0_off4_eq t 0) (k0_off4_inb t 0) (inbQs _ 0 (by omega) (by omega))
  have b0 := window_congr E.qs S1x1x128.size (show k0_off5 t 0#32 = ![0, 4 * (t.val - 1) + 0, 0] from off5_eq t 0) (k0_off5_inb t 0) (inbQs _ 0 (by omega) (by omega))
  have q1 := window_congr E.q S1x64x128.size (show k0_off3 t 64#32 = ![0, 256 * min t.val 7 + 64 * 1, 0] from Gen.k0_off3_eq t 1) (k0_off3_inb t 1) (inbQ _ 1 (by omega) (by omega))
  have a1 := window_congr E.qs S1x1x128.size (show k0_off4 t 1#32 = ![0, 4 * min t.val 7 + 1, 0] from Gen.k0_off4_eq t 1) (k0_off4_inb t 1) (inbQs _ 1 (by omega) (by omega))
  have b1 := window_congr E.qs S1x1x128.size (show k0_off5 t 1#32 = ![0, 4 * (t.val - 1) + 1, 0] from off5_eq t 1) (k0_off5_inb t 1) (inbQs _ 1 (by omega) (by omega))
  have q2 := window_congr E.q S1x64x128.size (show k0_off3 t 128#32 = ![0, 256 * min t.val 7 + 64 * 2, 0] from Gen.k0_off3_eq t 2) (k0_off3_inb t 2) (inbQ _ 2 (by omega) (by omega))
  have a2 := window_congr E.qs S1x1x128.size (show k0_off4 t 2#32 = ![0, 4 * min t.val 7 + 2, 0] from Gen.k0_off4_eq t 2) (k0_off4_inb t 2) (inbQs _ 2 (by omega) (by omega))
  have b2 := window_congr E.qs S1x1x128.size (show k0_off5 t 2#32 = ![0, 4 * (t.val - 1) + 2, 0] from off5_eq t 2) (k0_off5_inb t 2) (inbQs _ 2 (by omega) (by omega))
  have q3 := window_congr E.q S1x64x128.size (show k0_off3 t 192#32 = ![0, 256 * min t.val 7 + 64 * 3, 0] from Gen.k0_off3_eq t 3) (k0_off3_inb t 3) (inbQ _ 3 (by omega) (by omega))
  have a3 := window_congr E.qs S1x1x128.size (show k0_off4 t 3#32 = ![0, 4 * min t.val 7 + 3, 0] from Gen.k0_off4_eq t 3) (k0_off4_inb t 3) (inbQs _ 3 (by omega) (by omega))
  have b3 := window_congr E.qs S1x1x128.size (show k0_off5 t 3#32 = ![0, 4 * (t.val - 1) + 3, 0] from off5_eq t 3) (k0_off5_inb t 3) (inbQs _ 3 (by omega) (by omega))
  iintro ⟨HR, HM, Hk⟩
  unfold Rw tripP
  icases HM with ⟨H17, H19, H13⟩
  unfold Ro
  icases HR with ⟨H4, H5, H6, H8, H9, H14, H18⟩
  iapply own_load $$ H4; iintro H4
  iapply own_load $$ H4; iintro H4
  iapply own_load $$ H4; iintro H4
  iapply own_load $$ H4; iintro H4
  iapply own_load $$ H5; iintro H5
  iapply own_load $$ H5; iintro H5
  iapply own_load $$ H5; iintro H5
  iapply own_load $$ H5; iintro H5
  iapply own_load $$ H5; iintro H5
  iapply own_load $$ H5; iintro H5
  iapply own_load $$ H5; iintro H5
  iapply own_load $$ H5; iintro H5
  iapply own_load $$ H19; iintro H19
  rw [q0, q1, q2, q3, a0, a1, a2, a3, b0, b1, b2, b3]
  iapply (window_wp c arg4 arg5 arg6 arg8 arg9 arg13 harg13 arg14 arg17 arg18 arg19 E t k0w m o n hn h (m8At M))
  isplitl [H4 H5 H6 H8 H9 H14 H18]
  · unfold Ro
    isplitl [H4]; · iexact H4
    isplitl [H5]; · iexact H5
    isplitl [H6]; · iexact H6
    isplitl [H8]; · iexact H8
    isplitl [H9]; · iexact H9
    isplitl [H14]; · iexact H14
    iexact H18
  isplitl [H17]; · iexact H17
  iintro HR H17
  iapply (finish_wp c arg4 arg5 arg6 arg8 arg9 arg13 harg13 arg14 arg17 arg18 arg19 E t M _ _ Q)
  isplitl [HR]; · iexact HR
  isplitl [H17]; · iexact H17
  isplitl [H19]; · iexact H19
  isplitl [H13]; · iexact H13
  iexact Hk

theorem loop_wp (k0w : BitVec 32) (m : ℕ) (o : Bool) (n : ℕ) (hn : k0w.toNat + n ≤ 2048) (h : n = 256 * m + cond o 128 0) (M : Mem F) (Q : Unit → sProp 𝕄) :
    iprop(Ro c arg4 arg5 arg6 arg8 arg9 arg14 arg18 E ∗ Rw c arg13 arg17 arg19 M ∗ (Ro c arg4 arg5 arg6 arg8 arg9 arg14 arg18 E -∗ Rw c arg13 arg17 arg19 (loopF E k0w.toNat n hn m o h M 9) -∗ Q ⟨⟩))
      ⊢ wpK c (Scf.Loop.for k0_t1_loop k0_t1_ok ⟨⟩ (fun t _ => tripP arg4 arg5 arg6 arg8 arg9 arg13 harg13 arg14 arg17 arg18 arg19 t k0w m o n hn h)) Q := by
  iintro ⟨HR, HM, Hk⟩
  iapply (Scf.wp_for _ _ _ _ _ _ k0_t1_ok ⟨⟩ _ (fun r (_ : Unit) => iprop(Ro c arg4 arg5 arg6 arg8 arg9 arg14 arg18 E ∗ Rw c arg13 arg17 arg19 (loopF E k0w.toNat n hn m o h M r))) (fun t _ => by
    iintro ⟨HR, HM⟩
    iapply (trip_wp c arg4 arg5 arg6 arg8 arg9 arg13 harg13 arg14 arg17 arg18 arg19 E t k0w m o n hn h)
    isplitl [HR]; · iexact HR
    isplitl [HM]; · iexact HM
    iintro HR HM
    isplitl [HR]; · iexact HR
    rw [show loopF E k0w.toNat n hn m o h M (t.val + 1) = tripF E k0w.toNat n hn m o h t (loopF E k0w.toNat n hn m o h M t.val) from dif_pos (trips_lt t)]
    iexact HM))
  isplitl [HR HM]
  · isplitl [HR]; · iexact HR
    iexact HM
  rw [show Scf.trips k0_t1_loop.lb k0_t1_loop.ub k0_t1_loop.st = 9 from rfl]
  iintro %acc ⟨HR, HM⟩
  iapply Hk $$ HR HM

end

end Cert.KernelIdeal.Attn
-- ==== Proof.KernelIdeal.Fill.lean ====
/-
  THE COPIES AND THE MASK.  The batch's scales, segments and positions go down the columns of three buffers, block by
  block; the mask of a window goes into a fourth.
-/
module

public import proofs.«01_k».proof.Proof.KernelIdeal.Exec
public import Idealize.ShloMosaic.Lib.ValueLayout

@[expose] public section

set_option maxRecDepth 65536

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Idealize.ShloMosaic.ValueIdx

variable {F : FTy → Type} [FloatOps F] [Named F]

local notation "𝕄" => MT nD τ sig Unit (Elt F) ℕ (UR sig nD τ) ℕ

/-! ## Blocks of rows -/

/-- A block of 128 rows put at row `128 j` reads its payload there. -/
theorem put_row_in {α : Type} (X : S2048x128.Idx → α) (b : ℕ) (w : S128x128.Idx → α) (y : S2048x128.Idx) (h0 : b ≤ (y 0).val) (h1 : (y 0).val < b + 128) :
    VecWindow.put X (![b, 0] : Fin 2 → ℕ) S128x128.size w y = w (ix2 ⟨(y 0).val - b, by omega⟩ (y 1)) := by
  have h : ∀ a, (![b, 0] : Fin 2 → ℕ) a ≤ (y a).val ∧ (y a).val < (![b, 0] : Fin 2 → ℕ) a + S128x128.size a := by
    intro a; fin_cases a
    · exact ⟨h0, h1⟩
    · exact ⟨Nat.zero_le _, by show (y 1).val < 0 + 128; have : (y 1).val < 128 := (y 1).isLt; omega⟩
  unfold VecWindow.put
  rw [dif_pos h]
  congr 1
  funext a
  fin_cases a
  · rfl
  · exact Fin.ext (Nat.sub_zero _)
theorem put_row_out {α : Type} (X : S2048x128.Idx → α) (b : ℕ) (w : S128x128.Idx → α) (y : S2048x128.Idx) (h0 : (y 0).val < b ∨ b + 128 ≤ (y 0).val) :
    VecWindow.put X (![b, 0] : Fin 2 → ℕ) S128x128.size w y = X y := by
  unfold VecWindow.put
  rw [dif_neg]
  intro h
  have := h 0
  have e : (![b, 0] : Fin 2 → ℕ) 0 = b := rfl
  have e2 : S128x128.size 0 = 128 := rfl
  rw [e, e2] at this
  omega

/-- The columns a row is copied down. -/
def colT (R : S1x1x2048.Idx → Elt F .f32) : S2048x128.Idx → Elt F .f32 := fun y =>
  colOf cOne (VecWindow.window R (![0, 0, 128 * ((y 0).val / 128)] : Fin 3 → ℕ) S1x1x128.size (inbRow _ (by have : (y 0).val < 2048 := (y 0).isLt; omega))) (ix2 ⟨(y 0).val % 128, by omega⟩ (y 1))
/-- The columns the scales are copied down. -/
def ksT (R : S1x8x2048.Idx → Elt F .f32) : S8x2048x128.Idx → Elt F .f32 := fun y =>
  colOf cScale (VecWindow.window R (![0, (y 0).val, 128 * ((y 1).val / 128)] : Fin 3 → ℕ) S1x1x128.size (inbKs _ _ (y 0).isLt (by have : (y 1).val < 2048 := (y 1).isLt; omega))) (ix2 ⟨(y 1).val % 128, by omega⟩ (y 2))
/-- The mask of a window of `n` keys from key `k0` on, over what the buffer held. -/
def biasT (i : grid0.Coords) (seg : S1x1x128.Idx → Elt F .f32) (C P : S2048x128.Idx → Elt F .f32) (k0 n : ℕ) (hn : k0 + n ≤ 2048) (X : S2048x128.Idx → Elt F .f32) : S2048x128.Idx → Elt F .f32 := fun y =>
  if h : 128 * ((y 0).val / 128) + 128 ≤ n then
    biasOf i seg (VecWindow.window C (![k0 + 128 * ((y 0).val / 128), 0] : Fin 2 → ℕ) S128x128.size (offB_inb128 _ (by omega)))
      (VecWindow.window P (![k0 + 128 * ((y 0).val / 128), 0] : Fin 2 → ℕ) S128x128.size (offB_inb128 _ (by omega))) (ix2 ⟨(y 0).val % 128, by omega⟩ (y 1))
  else X y

variable (c : Dev nD)

theorem rowChunks_wp (src : Memref sig .tc .vmem S1x1x2048 .f32) (dst : Memref sig .tc .vmem S2048x128 .f32) (k : Prog (TpuEff nD τ sig (Elt F) Λ₀ .tc) Unit) (Q : Unit → sProp 𝕄) (R : S1x1x2048.Idx → Elt F .f32) (r : ℕ) :
    ∀ (j : ℕ) (h : j + r ≤ 16) (h' : j + r = 16) (X : S2048x128.Idx → Elt F .f32) (hX : ∀ y : S2048x128.Idx, (y 0).val < 128 * j → X y = colT R y),
    iprop(own c src R ∗ own c dst X ∗ (own c src R -∗ own c dst (colT R) -∗ wpK c k Q)) ⊢ wpK c (rowChunks src dst k r j h) Q := by
  induction r with
  | zero =>
    intro j h h' X hX
    have e : X = colT R := funext fun y => hX y (by have : (y 0).val < 2048 := (y 0).isLt; omega)
    subst e
    simp only [rowChunks]
    iintro ⟨H, H', Hk⟩
    iapply Hk $$ H H'
  | succ r ih =>
    intro j h h' X hX
    simp only [rowChunks]
    iintro ⟨H, H', Hk⟩
    iapply own_load $$ H; iintro H
    iapply own_load $$ H'; iintro H'
    iapply own_store $$ H'; iintro H'
    have p : j + 1 + r ≤ 16 := by omega
    have p' : j + 1 + r = 16 := by omega
    iapply (ih (j + 1) p p' _ ?_)
    rotate_left
    · isplitl [H]; · iexact H
      isplitl [H']; · iexact H'
      iexact Hk
    · intro y hy
      by_cases hlt : (y 0).val < 128 * j
      · rw [put_row_out _ _ _ _ (.inl hlt)]; exact hX y hlt
      · rw [put_row_in _ _ _ _ (by omega) (by omega)]
        have e1 : (y 0).val / 128 = j := by omega
        have e2 : (y 0).val - 128 * j = (y 0).val % 128 := by omega
        unfold colT
        subst e1
        simp only [e2]

theorem biasChunks_wp (i : grid0.Coords) (arg15 arg16 arg18 : Memref sig .tc .vmem S2048x128 .f32) (k0w : BitVec 32) (n : ℕ) (hn : k0w.toNat + n ≤ 2048) (seg : Vec F S1x1x128 .f32)
    (k : Prog (TpuEff nD τ sig (Elt F) Λ₀ .tc) Unit) (Q : Unit → sProp 𝕄) (C P X0 : S2048x128.Idx → Elt F .f32) (r : ℕ) :
    ∀ (j : ℕ) (h : 128 * (j + r) ≤ n) (h' : 128 * (j + r) = n) (X : S2048x128.Idx → Elt F .f32)
      (hX : ∀ y : S2048x128.Idx, (y 0).val < 128 * j → X y = biasT i seg C P k0w.toNat n hn X0 y) (hX' : ∀ y : S2048x128.Idx, ¬ (y 0).val < 128 * j → X y = X0 y),
    iprop(own c arg15 C ∗ own c arg16 P ∗ own c arg18 X ∗ (own c arg15 C -∗ own c arg16 P -∗ own c arg18 (biasT i seg C P k0w.toNat n hn X0) -∗ wpK c k Q))
      ⊢ wpK c (biasChunks i arg15 arg16 arg18 k0w n hn seg k r j h) Q := by
  induction r with
  | zero =>
    intro j h h' X hX hX'
    have e : X = biasT i seg C P k0w.toNat n hn X0 := funext fun y => by
      by_cases hy : (y 0).val < 128 * j
      · exact hX y hy
      · rw [hX' y hy]; unfold biasT; rw [dif_neg (by omega)]
    subst e
    simp only [biasChunks]
    iintro ⟨H15, H16, H18, Hk⟩
    iapply Hk $$ H15 H16 H18
  | succ r ih =>
    intro j h h' X hX hX'
    have ekw : (kwAt k0w (128 * j)).toNat = k0w.toNat + 128 * j := kwAt_toNat _ _ (by omega)
    have e0 : offM (kwAt k0w (128 * j)) = ![k0w.toNat + 128 * j, 0] := by
      show ![(kwAt k0w (128 * j)).toNat, 0] = _
      rw [ekw]
    have hk := kwAt_le k0w (128 * j) 128 n hn (by omega)
    have e1 := window_congr C S128x128.size e0 (offM_inb _ hk) (offB_inb128 _ (by omega))
    have e2 := window_congr P S128x128.size e0 (offM_inb _ hk) (offB_inb128 _ (by omega))
    simp only [biasChunks]
    iintro ⟨H15, H16, H18, Hk⟩
    iapply own_load $$ H15; iintro H15
    iapply own_load $$ H16; iintro H16
    iapply own_load $$ H18; iintro H18
    iapply own_store $$ H18; iintro H18
    have p : 128 * (j + 1 + r) ≤ n := by omega
    have p' : 128 * (j + 1 + r) = n := by omega
    rw [e1, e2]
    iapply (ih (j + 1) p p' _ ?_ ?_)
    rotate_left; rotate_left
    · isplitl [H15]; · iexact H15
      isplitl [H16]; · iexact H16
      isplitl [H18]; · iexact H18
      iexact Hk
    · intro y hy
      by_cases hlt : (y 0).val < 128 * j
      · rw [put_row_out _ _ _ _ (.inl hlt)]; exact hX y hlt
      · rw [put_row_in _ _ _ _ (by omega) (by omega)]
        have e1 : (y 0).val / 128 = j := by omega
        have e2 : (y 0).val - 128 * j = (y 0).val % 128 := by omega
        unfold biasT
        rw [dif_pos (by omega)]
        subst e1
        simp only [e2]
    · intro y hy
      rw [put_row_out _ _ _ _ (.inr (by omega))]
      exact hX' y (by omega)

/-! ## A head's plane -/

theorem head_emb (arg14 : Memref sig .tc .vmem S8x2048x128 .f32) (h : ℕ) (hh : h < 8) (z : S2048x128.Idx) :
    (headRef arg14 h hh).view.emb z = arg14.view.emb (ix3 ⟨h, hh⟩ (z 0) (z 1)) := by
  show arg14.view.emb ((Rect.unit (s := S8x2048x128) ![h, 0, 0] S1x2048x128.size (inbHead h hh)).emb (Shape.reshapeEquiv _ z)) = _
  congr 1
  have e : Shape.reshapeEquiv (squeezes_S1x2048x128_S2048x128 : S1x2048x128.Squeezes S2048x128).numel_eq z = ix3 (⟨0, Nat.one_pos⟩ : Fin 1) (z 0) (z 1) := by
    have := reshapeEquiv_ix2_1ab (squeezes_S1x2048x128_S2048x128 : S1x2048x128.Squeezes S2048x128).numel_eq (z 0) (z 1)
    refine Eq.trans (congrArg _ ?_) this
    funext a; fin_cases a <;> rfl
  refine (congrArg _ e).trans ?_
  funext a
  apply Fin.ext
  fin_cases a
  · show h + 1 * 0 = h; omega
  · show 0 + 1 * (z 0).val = (z 0).val; omega
  · show 0 + 1 * (z 1).val = (z 1).val; omega

theorem head_set (arg14 : Memref sig .tc .vmem S8x2048x128 .f32) (h : ℕ) (hh : h < 8) : (headRef arg14 h hh).view.set ⊆ arg14.view.set := by
  intro x hx
  obtain ⟨z, -, rfl⟩ := Finset.mem_map.mp hx
  exact Finset.mem_map.mpr ⟨_, Finset.mem_univ _, (head_emb arg14 h hh z).symm⟩

theorem own_load_head (arg14 : Memref sig .tc .vmem S8x2048x128 .f32) (h : ℕ) (hh : h < 8) {r : LoadRect S2048x128} {hl}
    {p : Prog (TpuEff nD τ sig (Elt F) Λ₀ .tc) Unit} {X : S8x2048x128.Idx → Elt F .f32} {Q : Unit → sProp 𝕄} :
    own c arg14 X ⊢ iprop((own c arg14 X -∗ wpK c p Q) -∗ wpK c (.op (.load (headRef arg14 h hh) r hl) fun _ => p) Q) := by
  unfold own owns
  iintro ⟨%f, %hf, H⟩ Hk
  have key : (arg14.view.loc (c : Thread nD τ) ↦[arg14.view.set]{fullShare} f) ⊢ iprop(((arg14.view.loc (c : Thread nD τ) ↦[arg14.view.set]{fullShare} f) -∗ wpK c p Q) -∗ wpK c (.op (.load (headRef arg14 h hh) r hl) fun _ => p) Q) :=
    wp_load (c := (c : Thread nD τ)) Variants.none none Set.univ (m := headRef arg14 h hh) (r := r) (hl := hl) (k := fun _ => p) (S := arg14.view.set) (q := fullShare) (f := f)
      ((View.setOn_subset_set _ _).trans (head_set arg14 h hh))
  iapply key $$ H
  iintro H
  iapply Hk
  iexists f
  isplitr
  · ipureintro; exact hf
  · iexact H

/-- `X` with the block `w` put at row `b` of plane `h`. -/
def putHead {α : Type} (X : S8x2048x128.Idx → α) (h b : ℕ) (w : S128x128.Idx → α) : S8x2048x128.Idx → α := fun y =>
  if hy : (y 0).val = h ∧ b ≤ (y 1).val ∧ (y 1).val < b + 128 then w (ix2 ⟨(y 1).val - b, by omega⟩ (y 2)) else X y

theorem own_store_head (arg14 : Memref sig .tc .vmem S8x2048x128 .f32) (h : ℕ) (hh : h < 8) (j : ℕ) (hj : j < 16) {w : S128x128.Idx → Elt F .f32} {hx hm}
    {k : PUnit → Prog (TpuEff nD τ sig (Elt F) Λ₀ .tc) Unit} {X : S8x2048x128.Idx → Elt F .f32} {Q : Unit → sProp 𝕄} :
    own c arg14 X ⊢ iprop((own c arg14 (putHead X h (128 * j) w) -∗ wpK c (k ⟨⟩) Q)
      -∗ wpK c (.op (.store (headRef arg14 h hh) (Rect.unit (s := S2048x128) ![128 * j, 0] S128x128.size (inbCol j hj)) w Finset.univ hx hm) k) Q) := by
  unfold own owns
  iintro ⟨%f, %hf, H⟩ Hk
  have st : (arg14.view.loc (c : Thread nD τ) ↦[arg14.view.set]{fullShare} f)
      ⊢ iprop(((arg14.view.loc (c : Thread nD τ) ↦[arg14.view.set]{fullShare} (((headRef arg14 h hh).access (Rect.unit (s := S2048x128) ![128 * j, 0] S128x128.size (inbCol j hj))).write (Elt F) f w Finset.univ)) -∗ wpK c (k ⟨⟩) Q)
        -∗ wpK c (.op (.store (headRef arg14 h hh) (Rect.unit (s := S2048x128) ![128 * j, 0] S128x128.size (inbCol j hj)) w Finset.univ hx hm) k) Q) :=
    wp_store (c := (c : Thread nD τ)) Variants.none none Set.univ (m := headRef arg14 h hh) (r := Rect.unit (s := S2048x128) ![128 * j, 0] S128x128.size (inbCol j hj)) (hx := hx) (hm := hm) (k := k) (S := arg14.view.set) (f := f)
      (by rw [View.setOn_univ]; exact (View.set_slice_subset _ _).trans (head_set arg14 h hh))
  iapply st $$ H
  iintro H
  iapply Hk
  iexists _
  isplitr; swap; (· iexact H)
  ipureintro
  subst hf
  have key : ∀ x : S128x128.Idx, ((headRef arg14 h hh).access (Rect.unit (s := S2048x128) ![128 * j, 0] S128x128.size (inbCol j hj))).emb x
      = arg14.view.emb (ix3 ⟨h, hh⟩ ⟨128 * j + (x 0).val, by have : (x 0).val < 128 := (x 0).isLt; omega⟩ (x 1)) := fun x => by
    refine (head_emb arg14 h hh ((Rect.unit (s := S2048x128) ![128 * j, 0] S128x128.size (inbCol j hj)).emb x)).trans ?_
    congr 1
    funext a
    apply Fin.ext
    fin_cases a
    · rfl
    · show 128 * j + 1 * (x 0).val = 128 * j + (x 0).val; omega
    · show 0 + 1 * (x 1).val = (x 1).val; omega
  have W1 : ∀ x : S128x128.Idx, (arg14.view.read (Elt F) (((headRef arg14 h hh).access (Rect.unit (s := S2048x128) ![128 * j, 0] S128x128.size (inbCol j hj))).write (Elt F) f w Finset.univ))
      (ix3 ⟨h, hh⟩ ⟨128 * j + (x 0).val, by have : (x 0).val < 128 := (x 0).isLt; omega⟩ (x 1)) = w x := fun x => by
    refine (View.read_apply (Val := Elt F) (v := arg14.view) _ _).trans ?_
    have e := View.write_emb_of_mem (Val := Elt F) (v := (headRef arg14 h hh).access (Rect.unit (s := S2048x128) ![128 * j, 0] S128x128.size (inbCol j hj))) f w (Finset.mem_univ x)
    have e2 : ∀ i, i = arg14.view.emb (ix3 ⟨h, hh⟩ ⟨128 * j + (x 0).val, by have : (x 0).val < 128 := (x 0).isLt; omega⟩ (x 1)) →
      (((headRef arg14 h hh).access (Rect.unit (s := S2048x128) ![128 * j, 0] S128x128.size (inbCol j hj))).write (Elt F) f w Finset.univ : arg14.view.ty.Contents (Elt F)) (arg14.view.emb (ix3 ⟨h, hh⟩ ⟨128 * j + (x 0).val, by have : (x 0).val < 128 := (x 0).isLt; omega⟩ (x 1)))
        = (((headRef arg14 h hh).access (Rect.unit (s := S2048x128) ![128 * j, 0] S128x128.size (inbCol j hj))).write (Elt F) f w Finset.univ : arg14.view.ty.Contents (Elt F)) i := fun i hi => by rw [hi]
    refine (congrArg (_root_.cast _) ((e2 _ (key x)).trans e)).trans ?_
    exact (cast_cast _ _ _).trans (cast_eq _ _)
  have W2 : ∀ y : S8x2048x128.Idx, arg14.view.emb y ∉ ((headRef arg14 h hh).access (Rect.unit (s := S2048x128) ![128 * j, 0] S128x128.size (inbCol j hj))).setOn Finset.univ →
      (arg14.view.read (Elt F) (((headRef arg14 h hh).access (Rect.unit (s := S2048x128) ![128 * j, 0] S128x128.size (inbCol j hj))).write (Elt F) f w Finset.univ)) y = arg14.view.read (Elt F) f y := fun y hy =>
    congrArg (_root_.cast (congrArg (Elt F) arg14.view.elt_eq)) (View.write_of_not_mem (Val := Elt F) (v := (headRef arg14 h hh).access (Rect.unit (s := S2048x128) ![128 * j, 0] S128x128.size (inbCol j hj))) f w Finset.univ hy)
  funext y
  unfold putHead
  by_cases hy : (y 0).val = h ∧ 128 * j ≤ (y 1).val ∧ (y 1).val < 128 * j + 128
  · rw [dif_pos hy]
    refine Eq.trans ?_ (W1 _)
    congr 1
    funext a
    apply Fin.ext
    fin_cases a
    · exact hy.1
    · show (y 1).val = 128 * j + ((y 1).val - 128 * j); omega
    · rfl
  · rw [dif_neg hy]
    refine W2 y ?_
    intro hm
    obtain ⟨x, -, hx⟩ := Finset.mem_map.mp hm
    have := arg14.view.emb.injective ((key x).symm.trans hx)
    apply hy
    subst this
    have hx0 : (x 0).val < 128 := (x 0).isLt
    exact ⟨rfl, Nat.le_add_right _ _, by show 128 * j + (x 0).val < 128 * j + 128; omega⟩

theorem ksChunks_wp (arg7 : Memref sig .tc .vmem S1x8x2048 .f32) (arg14 : Memref sig .tc .vmem S8x2048x128 .f32) (h : ℕ) (hh : h < 8) (k : Prog (TpuEff nD τ sig (Elt F) Λ₀ .tc) Unit) (Q : Unit → sProp 𝕄)
    (R : S1x8x2048.Idx → Elt F .f32) (K : sProp 𝕄) (hK : ∀ X, (∀ y : S8x2048x128.Idx, (y 0).val < h + 1 → X y = ksT R y) → iprop(own c arg7 R ∗ own c arg14 X ∗ K) ⊢ wpK c k Q) (r : ℕ) :
    ∀ (j : ℕ) (hj : j + r ≤ 16) (h' : j + r = 16) (X : S8x2048x128.Idx → Elt F .f32) (hX : ∀ y : S8x2048x128.Idx, (y 0).val < h ∨ ((y 0).val = h ∧ (y 1).val < 128 * j) → X y = ksT R y),
    iprop(own c arg7 R ∗ own c arg14 X ∗ K) ⊢ wpK c (ksChunks arg7 arg14 h hh k r j hj) Q := by
  induction r with
  | zero =>
    intro j hj h' X hX
    simp only [ksChunks]
    exact hK X fun y hy => hX y (by have : (y 1).val < 2048 := (y 1).isLt; omega)
  | succ r ih =>
    intro j hj h' X hX
    simp only [ksChunks]
    iintro ⟨H, H', Hk⟩
    have p1 : j < 16 := by omega
    iapply own_load $$ H; iintro H
    iapply own_load_head $$ H'; iintro H'
    iapply (own_store_head c arg14 h hh j p1) $$ H'; iintro H'
    have p : j + 1 + r ≤ 16 := by omega
    have p' : j + 1 + r = 16 := by omega
    iapply (ih (j + 1) p p' _ ?_)
    rotate_left
    · isplitl [H]; · iexact H
      isplitl [H']; · iexact H'
      iexact Hk
    · intro y hy
      unfold putHead
      by_cases hin : (y 0).val = h ∧ 128 * j ≤ (y 1).val ∧ (y 1).val < 128 * j + 128
      · rw [dif_pos hin]
        have e1 : (y 1).val / 128 = j := by omega
        have e2 : (y 1).val - 128 * j = (y 1).val % 128 := by omega
        have e3 := hin.1
        unfold ksT
        subst e1 e3
        simp only [e2]
      · rw [dif_neg hin]; exact hX y (by omega)

theorem ksHeads_wp (arg7 : Memref sig .tc .vmem S1x8x2048 .f32) (arg14 : Memref sig .tc .vmem S8x2048x128 .f32) (k : Prog (TpuEff nD τ sig (Elt F) Λ₀ .tc) Unit) (Q : Unit → sProp 𝕄)
    (R : S1x8x2048.Idx → Elt F .f32) (K : sProp 𝕄) (hK : iprop(own c arg7 R ∗ own c arg14 (ksT R) ∗ K) ⊢ wpK c k Q) (r : ℕ) :
    ∀ (h : ℕ) (hh : h + r ≤ 8) (h' : h + r = 8) (X : S8x2048x128.Idx → Elt F .f32) (hX : ∀ y : S8x2048x128.Idx, (y 0).val < h → X y = ksT R y),
    iprop(own c arg7 R ∗ own c arg14 X ∗ K) ⊢ wpK c (ksHeads arg7 arg14 k r h hh) Q := by
  induction r with
  | zero =>
    intro h hh h' X hX
    have e : X = ksT R := funext fun y => hX y (by have : (y 0).val < 8 := (y 0).isLt; omega)
    subst e
    simp only [ksHeads]
    exact hK
  | succ r ih =>
    intro h hh h' X hX
    simp only [ksHeads]
    exact ksChunks_wp c arg7 arg14 h _ _ Q R K (fun X hX => ih (h + 1) _ (by omega) X hX) 16 0 _ (by omega) X (fun y hy => hX y (by omega))

/-- The copies of a batch. -/
theorem init_wp (arg7 : Memref sig .tc .vmem S1x8x2048 .f32) (arg11 arg12 : Memref sig .tc .vmem S1x1x2048 .f32) (arg14 : Memref sig .tc .vmem S8x2048x128 .f32) (arg15 arg16 : Memref sig .tc .vmem S2048x128 .f32) (Q : Unit → sProp 𝕄)
    (R7 : S1x8x2048.Idx → Elt F .f32) (R11 R12 : S1x1x2048.Idx → Elt F .f32) (X14 : S8x2048x128.Idx → Elt F .f32) (X15 X16 : S2048x128.Idx → Elt F .f32) :
    iprop(own c arg7 R7 ∗ own c arg14 X14 ∗ (own c arg11 R11 ∗ own c arg12 R12 ∗ own c arg15 X15 ∗ own c arg16 X16
        ∗ (own c arg7 R7 -∗ own c arg14 (ksT R7) -∗ own c arg11 R11 -∗ own c arg12 R12 -∗ own c arg15 (colT R11) -∗ own c arg16 (colT R12) -∗ Q ⟨⟩)))
      ⊢ wpK c (initP arg7 arg11 arg12 arg14 arg15 arg16) Q := by
  unfold initP
  refine ksHeads_wp c arg7 arg14 _ Q R7 _ ?_ 8 0 _ rfl X14 (fun y hy => absurd hy (by omega))
  iintro ⟨H7, H14, H11, H12, H15, H16, Hk⟩
  have p : 0 + 16 ≤ 16 := by omega
  iapply (rowChunks_wp c arg11 arg15 _ Q R11 16 0 p rfl X15 (fun y hy => absurd hy (by omega)))
  isplitl [H11]; · iexact H11
  isplitl [H15]; · iexact H15
  iintro H11 H15
  iapply (rowChunks_wp c arg12 arg16 _ Q R12 16 0 p rfl X16 (fun y hy => absurd hy (by omega)))
  isplitl [H12]; · iexact H12
  isplitl [H16]; · iexact H16
  iintro H12 H16
  rw [show wpK c (.ret ⟨⟩ : Prog (TpuEff nD τ sig (Elt F) Λ₀ .tc) Unit) Q = _ from wp_ret _ _ _ _ _]
  imodintro
  iapply Hk $$ H7 H14 H11 H12 H15 H16

set_option cleanup.letToHave false in
theorem init_bind {α : Type} (arg7 : Memref sig .tc .vmem S1x8x2048 .f32) (arg11 arg12 : Memref sig .tc .vmem S1x1x2048 .f32) (arg14 : Memref sig .tc .vmem S8x2048x128 .f32) (arg15 arg16 : Memref sig .tc .vmem S2048x128 .f32)
    (k : Unit → Prog (TpuEff nD τ sig (Elt F) Λ₀ .tc) α) (Q : α → sProp 𝕄)
    (R7 : S1x8x2048.Idx → Elt F .f32) (R11 R12 : S1x1x2048.Idx → Elt F .f32) (X14 : S8x2048x128.Idx → Elt F .f32) (X15 X16 : S2048x128.Idx → Elt F .f32) :
    iprop(own c arg7 R7 ∗ own c arg14 X14 ∗ (own c arg11 R11 ∗ own c arg12 R12 ∗ own c arg15 X15 ∗ own c arg16 X16
        ∗ (own c arg7 R7 -∗ own c arg14 (ksT R7) -∗ own c arg11 R11 -∗ own c arg12 R12 -∗ own c arg15 (colT R11) -∗ own c arg16 (colT R12) -∗ wpK c (k ⟨⟩) Q)))
      ⊢ wpK c (initP arg7 arg11 arg12 arg14 arg15 arg16 >>= k) Q := by
  have e : wpK c (initP arg7 arg11 arg12 arg14 arg15 arg16 >>= k) Q = wpK c (initP arg7 arg11 arg12 arg14 arg15 arg16) (fun a => wpK c (k a) Q) := wp_bind _ _ _ _ _ _
  exact (init_wp c arg7 arg11 arg12 arg14 arg15 arg16 (fun a => wpK c (k a) Q) R7 R11 R12 X14 X15 X16).trans (BIBase.Entails.of_eq e.symm)

end Cert.KernelIdeal.Attn
-- ==== Proof.KernelIdeal.Arms.lean ====
module

public import proofs.«01_k».proof.Proof.KernelIdeal.Body

@[expose] public section

set_option maxRecDepth 65536
set_option maxHeartbeats 400000
noncomputable section
namespace Cert.KernelIdeal.Attn

open Cert.KernelIdeal
open Facts₀ Facts
open Idealize.ShloMosaic Idealize.SL.Sem

variable {F : FTy → Type} [FloatOps F] [Named F]

def initK {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (k : PUnit.{1} → Prog (TpuEff nD τ sig (Elt F) Λ₀ .tc) β) : Prog (TpuEff nD τ sig (Elt F) Λ₀ .tc) β := do
    let v89 : FVec F S128x128 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v124 : FVec F S128x128 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v89
    let v155 : Vec F S1x1x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v124
    let v185 : FVec F S128x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v155
    let v221 : FVec F S128x128 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v185
    let v254 : FVec F S1x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v221
    k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v254
    let v317 : FVec F S128x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v353 : FVec F S128x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v317
    let ⟨v384, cst_249⟩ : Σ' (v384 : FVec F S1x128 .f32), F .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v353
    k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v384 cst_249
    let v449 : FVec F S128x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v484 : FVec F S128x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v449
    let v515 : Vec F S1x1x128 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v484
    let v545 : FVec F S128x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v515
    let v581 : FVec F S128x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v545
    let v614 : FVec F S1x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v581
    k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v614
    let v677 : FVec F S128x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v713 : FVec F S128x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v677
    let ⟨v744, cst_517⟩ : Σ' (v744 : FVec F S1x128 .f32), F .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v713
    k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v744 cst_517
    let v809 : FVec F S128x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v844 : FVec F S128x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v809
    let v875 : Vec F S1x1x128 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v844
    let v905 : FVec F S128x128 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v875
    let v941 : FVec F S128x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v905
    let v974 : FVec F S1x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v941
    k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v974
    let v1037 : FVec F S128x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v1073 : FVec F S128x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1037
    let ⟨v1104, cst_785⟩ : Σ' (v1104 : FVec F S1x128 .f32), F .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1073
    k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1104 cst_785
    let v1169 : FVec F S128x128 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v1204 : FVec F S128x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1169
    let v1235 : Vec F S1x1x128 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1204
    let v1265 : FVec F S128x128 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1235
    let v1301 : FVec F S128x128 .f32 ← k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1265
    let v1334 : FVec F S1x128 .f32 ← k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1301
    k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1334
    let v1397 : FVec F S128x128 .f32 ← k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v1433 : FVec F S128x128 .f32 ← k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397
    let ⟨v1464, cst_1052⟩ : Σ' (v1464 : FVec F S1x128 .f32), F .f32 ← k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1433
    k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1464 cst_1052
    let v1529 : FVec F S128x128 .f32 ← k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    let v1564 : FVec F S128x128 .f32 ← k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1529
    let v1595 : Vec F S1x1x128 .f32 ← k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1564
    let v1631 : FVec F S128x128 .f32 ← k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1595
    let v1666 : FVec F S1x128 .f32 ← k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1631
    let ⟨v1701, v1702⟩ : Σ' (v1701 : FVec F S128x128 .f32), Vec F S128x128 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1666
    let ⟨v1736, cst_1235⟩ : Σ' (v1736 : FVec F S1x128 .f32), F .f32 ← k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1701 v1702
    let v1771 : FVec F S128x128 .f32 ← k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1736 cst_1235
    let ⟨v1806, v1807⟩ : Σ' (v1806 : FVec F S1x128 .f32), FVec F S1x128 .f32 ← k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1771
    let v1844 : FVec F S128x128 .f32 ← k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1806 v1807
    let v1878 : FVec F S1x128 .f32 ← k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1844
    k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1878
    k ⟨⟩
theorem initK_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (k : PUnit.{1} → Prog (TpuEff nD τ sig (Elt F) Λ₀ .tc) β) : initK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k = initP arg7 arg11 arg12 arg14 arg15 arg16 >>= k := rfl

def armK1 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h2 : k0_cond2 v8 = 1#1) (k : PUnit.{1} → Prog (TpuEff nD τ sig (Elt F) Λ₀ .tc) β) : Prog (TpuEff nD τ sig (Elt F) Λ₀ .tc) β := do
    let c15_i32 : BitVec 32 := 15#32
    let v59 : BitVec 32 := Scalar.minsi v5 c15_i32
    let c128_i32 : BitVec 32 := 128#32
    let v60 : BitVec 32 := Scalar.muli v59 c128_i32
    let v61 : BitVec 32 := v60
    let c0 : Index := 0#32
    let c0_21 : Index := 0#32
    let c0_22 : Index := 0#32
    let v62 : Vec F S1x1x128 .f32 ← Prog.lift (.load arg10 (Rect.unit (s := S1x1x128) ![0, 0, 0] S1x1x128.size inb_S1x1x128_S1x1x128_0_0_0).toLoadRect (View.loadsAt_vmem h_S1x1x128))
    have v63 : FVec F S1x128 .f32 := shapeCast S1x128 v62 shapeCasts_S1x1x128_S1x128
    have v64 : IVec S1x128 32 := iota .tc S1x128 32 [1] iota_S1x128_d1_w32
    let c128_i32_23 : BitVec 32 := 128#32
    let v65 : BitVec 32 := Scalar.muli arg1 c128_i32_23
    have v66 : IVec S1x128 32 := broadcast S1x128 v65
    have v67 : IVec S1x128 32 := addi v64 v66
    have v68 : FVec F S1x128 .f32 := sitofp .f32 v67
    let c0_i32_24 : BitVec 32 := 0#32
    let v69 : BitVec 32 := Scalar.addi v61 c0_i32_24
    let v70 : Index := Scalar.indexCast v69
    let c0_25 : Index := 0#32
    let v71 : Vec F S128x128 .f32 ← Prog.lift (.load arg15 (Rect.unit (s := S2048x128) (k0_off2 v5) S128x128.size (k0_off2_inb v5 v8 k0_hw1 k0_h2)).toLoadRect (View.loadsAt_vmem h_S128x128))
    have v72 : FVec F S128x128 .f32 := broadcastTo S128x128 v63 broadcasts_S1x128_S128x128
    have v73 : IVec S128x128 1 := cmpf .oeq v71 v72
    let c0_i32_26 : BitVec 32 := 0#32
    let v74 : BitVec 32 := Scalar.addi v61 c0_i32_26
    let v75 : Index := Scalar.indexCast v74
    let c0_27 : Index := 0#32
    let v76 : Vec F S128x128 .f32 ← Prog.lift (.load arg16 (Rect.unit (s := S2048x128) (k0_off2 v5) S128x128.size (k0_off2_inb v5 v8 k0_hw1 k0_h2)).toLoadRect (View.loadsAt_vmem h_S128x128))
    have v77 : FVec F S128x128 .f32 := broadcastTo S128x128 v68 broadcasts_S1x128_S128x128
    have v78 : IVec S128x128 1 := cmpf .ole v76 v77
    have v79 : IVec S128x128 1 := andi v73 v78
    have cst : F .f32 := Scalar.ofBits .f32 0x00000000#32
    have cst_28 : F .f32 := Scalar.ofBits .f32 0xFF800000#32
    have v80 : FVec F S128x128 .f32 := broadcast S128x128 cst
    have v81 : FVec F S128x128 .f32 := broadcast S128x128 cst_28
    have v82 : FVec F S128x128 .f32 := select v79 v80 v81
    let c0_29 : Index := 0#32
    let c0_30 : Index := 0#32
    let v83 : Vec F S128x128 .f32 ← Prog.lift (.load arg18 (Rect.unit (s := S2048x128) ![0, 0] S128x128.size inb_S2048x128_S128x128_0_0).toLoadRect (View.loadsAt_vmem h_S128x128))
    have v84 : FVec F S128x128 .f32 := shapeCast S128x128 v83 shapeCasts_S128x128_S128x128
    have v85 : FVec F S128x128 .f32 := shapeCast S128x128 v82 shapeCasts_S128x128_S128x128
    Prog.lift (.store arg18 (Rect.unit (s := S2048x128) ![0, 0] S128x128.size inb_S2048x128_S128x128_0_0) v85 Finset.univ (View.stores_vmem_bits_univ h_S128x128 rfl) (.inl rfl))
    let c0_i32_31 : BitVec 32 := 0#32
    let c9_i32 : BitVec 32 := 9#32
    let v86 : BitVec 32 := Scalar.addi c0_i32_31 c9_i32
    let c1_i32_32 : BitVec 32 := 1#32
    Scf.Loop.for k0_t1_loop k0_t1_ok ⟨⟩ fun k0_t1 _ => do
      let ⟨v87, v89, v90, v109, v114, v119, c4_i32_55⟩ : Σ' (v87 : BitVec 32) (v89 : BitVec 32) (v90 : BitVec 32) (v109 : FVec F S64x512 .fp8e4m3) (v114 : FVec F S1x128 .f32) (v119 : FVec F S1x128 .f32), BitVec 32 ← k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_31 c1_i32_32 k0_t1
      let ⟨v130, v151, v152, v153⟩ : Σ' (v130 : FVec F S1x512 .f32) (v151 : FVec F S1x512 .f32) (v152 : Vec F S1x512 .f32), BitVec 32 ← k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v87 v89 v114 v119 c4_i32_55
      let ⟨v155, v157, v173, v185, v195⟩ : Σ' (v155 : FVec F S8x512 .f32) (v157 : FVec F S64x512 .f32) (v173 : FVec F S128x512 .f32) (v185 : FVec F S8x512 .f32), FVec F S64x512 .f32 ← k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h2 v61 k0_t1 v87 v90 v109 v151 v152 v153
      let ⟨v236, v237⟩ : Σ' (v236 : FVec F S64x128 .bf16), FVec F S64x128 .bf16 ← k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v89 v90 v130 v155 v157 v173 v185 v195
      have v238 : FVec F S128x128 .bf16 := concatenate S128x128 0 [⟨S64x128, v236⟩, ⟨S64x128, v237⟩] concatenates_S64x128_S64x128_S128x128_d0
      have v239 : FVec F S128x128 .bf16 := transpose S128x128 [1, 0] v238 transposes_S128x128_p1_0_S128x128
      let c256_i32_115 : BitVec 32 := 256#32
      let v240 : BitVec 32 := Scalar.muli v89 c256_i32_115
      let c128_i32_116 : BitVec 32 := 128#32
      let v241 : BitVec 32 := Scalar.addi v240 c128_i32_116
      let v242 : BitVec 32 := v241
      let c0_117 : Index := 0#32
      let v243 : Index := Scalar.indexCast v89
      let c0_118 : Index := 0#32
      let v244 : Vec F S1x1x128 .f32 ← Prog.lift (.load arg9 (Rect.unit (s := S1x8x128) (k0_off11 k0_t1) S1x1x128.size (k0_off11_inb k0_t1)).toLoadRect (View.loadsAt_vmem h_S1x1x128))
      have v245 : FVec F S1x128 .f32 := shapeCast S1x128 v244 shapeCasts_S1x1x128_S1x128
      have v246 : FVec F S1x128 .bf16 := truncf .bf16 v245 bitsLt_bf16_f32
      have v247 : FVec F S128x128 .bf16 := broadcastTo S128x128 v246 broadcasts_S1x128_S128x128
      have v248 : FVec F S128x128 .bf16 := mulf v239 v247
      let c0_119 : Index := 0#32
      let c0_120 : Index := 0#32
      let v249 : Index := Scalar.indexCast v242
      let v250 : Vec F S1x128x128 .bf16 ← Prog.lift (.load arg13 (Rect.unit (s := S1x128x2048) (k0_off12 k0_t1 128#32) S1x128x128.size (k0_off12_inb k0_t1 1)).toLoadRect (View.loadsAt_vmem h_S1x128x128))
      have v251 : FVec F S128x128 .bf16 := shapeCast S128x128 v250 shapeCasts_S1x128x128_S128x128
      have v252 : FVec F S1x128x128 .bf16 := shapeCast S1x128x128 v248 shapeCasts_S128x128_S1x128x128
      Prog.lift (.store arg13 (Rect.unit (s := S1x128x2048) (k0_off12 k0_t1 128#32) S1x128x128.size (k0_off12_inb k0_t1 1)) v252 Finset.univ (View.stores_vmem h_S1x128x128 (harg13.storeExact_slice rfl _ (k0_off12_packedbf16 k0_t1 1)) (fun _ => rfl)) (.inl rfl))
      pure ⟨⟩
    let c9_i32_33 : BitVec 32 := 9#32
    k ⟨⟩
theorem armK1_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond2 v8 = 1#1) (k : PUnit.{1} → Prog (TpuEff nD τ sig (Elt F) Λ₀ .tc) β) : armK1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 15#32) 1 0 true (hn1 v5 v8 k0_hw1 h) (by rfl) >>= k) := rfl

def armK2 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h3 : k0_cond3 v8 = 1#1) (k : PUnit.{1} → Prog (TpuEff nD τ sig (Elt F) Λ₀ .tc) β) : Prog (TpuEff nD τ sig (Elt F) Λ₀ .tc) β := do
    let ⟨v61, v96, cst_36, v97⟩ : Σ' (v61 : BitVec 32) (v96 : IVec S128x128 1) (cst_36 : F .f32), FVec F S128x128 .f32 ← k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h3
    have v98 : FVec F S128x128 .f32 := broadcast S128x128 cst_36
    have v99 : FVec F S128x128 .f32 := select v96 v97 v98
    let c128 : Index := 128#32
    let c0_37 : Index := 0#32
    let v100 : Vec F S128x128 .f32 ← Prog.lift (.load arg18 (Rect.unit (s := S2048x128) ![128, 0] S128x128.size inb_S2048x128_S128x128_128_0).toLoadRect (View.loadsAt_vmem h_S128x128))
    have v101 : FVec F S128x128 .f32 := shapeCast S128x128 v100 shapeCasts_S128x128_S128x128
    have v102 : FVec F S128x128 .f32 := shapeCast S128x128 v99 shapeCasts_S128x128_S128x128
    Prog.lift (.store arg18 (Rect.unit (s := S2048x128) ![128, 0] S128x128.size inb_S2048x128_S128x128_128_0) v102 Finset.univ (View.stores_vmem_bits_univ h_S128x128 rfl) (.inl rfl))
    let c0_i32_38 : BitVec 32 := 0#32
    let c9_i32 : BitVec 32 := 9#32
    let v103 : BitVec 32 := Scalar.addi c0_i32_38 c9_i32
    let c1_i32_39 : BitVec 32 := 1#32
    Scf.Loop.for k0_t2_loop k0_t2_ok ⟨⟩ fun k0_t2 _ => do
      let ⟨v104, v106, v107, v126, v131, v136, c4_i32_62⟩ : Σ' (v104 : BitVec 32) (v106 : BitVec 32) (v107 : BitVec 32) (v126 : FVec F S64x512 .fp8e4m3) (v131 : FVec F S1x128 .f32) (v136 : FVec F S1x128 .f32), BitVec 32 ← k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_38 c1_i32_39 k0_t2
      let ⟨v147, v168, v169, v170⟩ : Σ' (v147 : FVec F S1x512 .f32) (v168 : FVec F S1x512 .f32) (v169 : Vec F S1x512 .f32), BitVec 32 ← k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v104 v106 v131 v136 c4_i32_62
      let ⟨v172, v174, v190, v202, v212⟩ : Σ' (v172 : FVec F S8x512 .f32) (v174 : FVec F S64x512 .f32) (v190 : FVec F S256x512 .f32) (v202 : FVec F S8x512 .f32), FVec F S64x512 .f32 ← k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h3 v61 k0_t2 v104 v107 v126 v168 v169 v170
      let ⟨v253, v254⟩ : Σ' (v253 : FVec F S64x128 .bf16), FVec F S64x128 .bf16 ← k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v106 v107 v147 v172 v174 v190 v202 v212
      have v255 : FVec F S128x128 .bf16 := concatenate S128x128 0 [⟨S64x128, v253⟩, ⟨S64x128, v254⟩] concatenates_S64x128_S64x128_S128x128_d0
      have v256 : FVec F S128x128 .bf16 := transpose S128x128 [1, 0] v255 transposes_S128x128_p1_0_S128x128
      let c256_i32_122 : BitVec 32 := 256#32
      let v257 : BitVec 32 := Scalar.muli v106 c256_i32_122
      let c128_i32_123 : BitVec 32 := 128#32
      let v258 : BitVec 32 := Scalar.addi v257 c128_i32_123
      let v259 : BitVec 32 := v258
      let c0_124 : Index := 0#32
      let v260 : Index := Scalar.indexCast v106
      let c0_125 : Index := 0#32
      let v261 : Vec F S1x1x128 .f32 ← Prog.lift (.load arg9 (Rect.unit (s := S1x8x128) (k0_off22 k0_t2) S1x1x128.size (k0_off22_inb k0_t2)).toLoadRect (View.loadsAt_vmem h_S1x1x128))
      have v262 : FVec F S1x128 .f32 := shapeCast S1x128 v261 shapeCasts_S1x1x128_S1x128
      have v263 : FVec F S1x128 .bf16 := truncf .bf16 v262 bitsLt_bf16_f32
      have v264 : FVec F S128x128 .bf16 := broadcastTo S128x128 v263 broadcasts_S1x128_S128x128
      have v265 : FVec F S128x128 .bf16 := mulf v256 v264
      let c0_126 : Index := 0#32
      let c0_127 : Index := 0#32
      let v266 : Index := Scalar.indexCast v259
      let v267 : Vec F S1x128x128 .bf16 ← Prog.lift (.load arg13 (Rect.unit (s := S1x128x2048) (k0_off23 k0_t2 128#32) S1x128x128.size (k0_off23_inb k0_t2 1)).toLoadRect (View.loadsAt_vmem h_S1x128x128))
      have v268 : FVec F S128x128 .bf16 := shapeCast S128x128 v267 shapeCasts_S1x128x128_S128x128
      have v269 : FVec F S1x128x128 .bf16 := shapeCast S1x128x128 v265 shapeCasts_S128x128_S1x128x128
      Prog.lift (.store arg13 (Rect.unit (s := S1x128x2048) (k0_off23 k0_t2 128#32) S1x128x128.size (k0_off23_inb k0_t2 1)) v269 Finset.univ (View.stores_vmem h_S1x128x128 (harg13.storeExact_slice rfl _ (k0_off23_packedbf16 k0_t2 1)) (fun _ => rfl)) (.inl rfl))
      pure ⟨⟩
    let c9_i32_40 : BitVec 32 := 9#32
    k ⟨⟩
theorem armK2_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond3 v8 = 1#1) (k : PUnit.{1} → Prog (TpuEff nD τ sig (Elt F) Λ₀ .tc) β) : armK2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 14#32) 2 1 false (hn2 v5 v8 k0_hw1 h) (by rfl) >>= k) := rfl

def armK3 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h4 : k0_cond4 v8 = 1#1) (k : PUnit.{1} → Prog (TpuEff nD τ sig (Elt F) Λ₀ .tc) β) : Prog (TpuEff nD τ sig (Elt F) Λ₀ .tc) β := do
    let ⟨v61, v63, v68, v96, cst_36, v97⟩ : Σ' (v61 : BitVec 32) (v63 : FVec F S1x128 .f32) (v68 : FVec F S1x128 .f32) (v96 : IVec S128x128 1) (cst_36 : F .f32), FVec F S128x128 .f32 ← k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h4
    have v98 : FVec F S128x128 .f32 := broadcast S128x128 cst_36
    have v99 : FVec F S128x128 .f32 := select v96 v97 v98
    let c128 : Index := 128#32
    let c0_37 : Index := 0#32
    let v100 : Vec F S128x128 .f32 ← Prog.lift (.load arg18 (Rect.unit (s := S2048x128) ![128, 0] S128x128.size inb_S2048x128_S128x128_128_0).toLoadRect (View.loadsAt_vmem h_S128x128))
    have v101 : FVec F S128x128 .f32 := shapeCast S128x128 v100 shapeCasts_S128x128_S128x128
    have v102 : FVec F S128x128 .f32 := shapeCast S128x128 v99 shapeCasts_S128x128_S128x128
    Prog.lift (.store arg18 (Rect.unit (s := S2048x128) ![128, 0] S128x128.size inb_S2048x128_S128x128_128_0) v102 Finset.univ (View.stores_vmem_bits_univ h_S128x128 rfl) (.inl rfl))
    let c256_i32 : BitVec 32 := 256#32
    let v103 : BitVec 32 := Scalar.addi v61 c256_i32
    let v104 : Index := Scalar.indexCast v103
    let c0_38 : Index := 0#32
    let v105 : Vec F S128x128 .f32 ← Prog.lift (.load arg15 (Rect.unit (s := S2048x128) (k0_off24 v5 256#32) S128x128.size (k0_off24_inb v5 v8 k0_hw1 k0_h4 2)).toLoadRect (View.loadsAt_vmem h_S128x128))
    have v106 : FVec F S128x128 .f32 := broadcastTo S128x128 v63 broadcasts_S1x128_S128x128
    have v107 : IVec S128x128 1 := cmpf .oeq v105 v106
    let c256_i32_39 : BitVec 32 := 256#32
    let v108 : BitVec 32 := Scalar.addi v61 c256_i32_39
    let v109 : Index := Scalar.indexCast v108
    let c0_40 : Index := 0#32
    let v110 : Vec F S128x128 .f32 ← Prog.lift (.load arg16 (Rect.unit (s := S2048x128) (k0_off24 v5 256#32) S128x128.size (k0_off24_inb v5 v8 k0_hw1 k0_h4 2)).toLoadRect (View.loadsAt_vmem h_S128x128))
    have v111 : FVec F S128x128 .f32 := broadcastTo S128x128 v68 broadcasts_S1x128_S128x128
    have v112 : IVec S128x128 1 := cmpf .ole v110 v111
    have v113 : IVec S128x128 1 := andi v107 v112
    have cst_41 : F .f32 := Scalar.ofBits .f32 0x00000000#32
    have cst_42 : F .f32 := Scalar.ofBits .f32 0xFF800000#32
    have v114 : FVec F S128x128 .f32 := broadcast S128x128 cst_41
    have v115 : FVec F S128x128 .f32 := broadcast S128x128 cst_42
    have v116 : FVec F S128x128 .f32 := select v113 v114 v115
    let c256 : Index := 256#32
    let c0_43 : Index := 0#32
    let v117 : Vec F S128x128 .f32 ← Prog.lift (.load arg18 (Rect.unit (s := S2048x128) ![256, 0] S128x128.size inb_S2048x128_S128x128_256_0).toLoadRect (View.loadsAt_vmem h_S128x128))
    have v118 : FVec F S128x128 .f32 := shapeCast S128x128 v117 shapeCasts_S128x128_S128x128
    have v119 : FVec F S128x128 .f32 := shapeCast S128x128 v116 shapeCasts_S128x128_S128x128
    Prog.lift (.store arg18 (Rect.unit (s := S2048x128) ![256, 0] S128x128.size inb_S2048x128_S128x128_256_0) v119 Finset.univ (View.stores_vmem_bits_univ h_S128x128 rfl) (.inl rfl))
    let c0_i32_44 : BitVec 32 := 0#32
    let c9_i32 : BitVec 32 := 9#32
    let v120 : BitVec 32 := Scalar.addi c0_i32_44 c9_i32
    let c1_i32_45 : BitVec 32 := 1#32
    Scf.Loop.for k0_t3_loop k0_t3_ok ⟨⟩ fun k0_t3 _ => do
      let ⟨v121, v123, v124, v143, v148, v153, c4_i32_69⟩ : Σ' (v121 : BitVec 32) (v123 : BitVec 32) (v124 : BitVec 32) (v143 : FVec F S64x512 .fp8e4m3) (v148 : FVec F S1x128 .f32) (v153 : FVec F S1x128 .f32), BitVec 32 ← k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_44 c1_i32_45 k0_t3
      let ⟨v164, v185, v186, v187⟩ : Σ' (v164 : FVec F S1x512 .f32) (v185 : FVec F S1x512 .f32) (v186 : Vec F S1x512 .f32), BitVec 32 ← k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v121 v123 v148 v153 c4_i32_69
      let ⟨v188, v189, v191, v207, v219, v229⟩ : Σ' (v188 : BitVec 32) (v189 : FVec F S8x512 .f32) (v191 : FVec F S64x512 .f32) (v207 : FVec F S256x512 .f32) (v219 : FVec F S8x512 .f32), FVec F S64x512 .f32 ← k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h4 v61 k0_t3 v121 v124 v143 v185 v186 v187
      let ⟨v230, v237, v239, v253, v265, v270⟩ : Σ' (v230 : FVec F S64x512 .f32) (v237 : FVec F S8x512 .f32) (v239 : BitVec 32) (v253 : FVec F S128x512 .f32) (v265 : FVec F S8x512 .f32), FVec F S128x512 .fp8e4m3 ← k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h4 v61 k0_t3 v121 v124 v143 v185 v186 v188 v189 v191 v207 v219 v229
      let ⟨v298, v311, v313⟩ : Σ' (v298 : FVec F S64x512 .bf16) (v311 : FVec F S128x128 .bf16), Vec F S1x128x128 .bf16 ← k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h4 k0_t3 v123 v124 v164 v230 v237 v239 v253 v265 v270
      have v314 : FVec F S128x128 .bf16 := shapeCast S128x128 v313 shapeCasts_S1x128x128_S128x128
      have v315 : FVec F S1x128x128 .bf16 := shapeCast S1x128x128 v311 shapeCasts_S128x128_S1x128x128
      Prog.lift (.store arg13 (Rect.unit (s := S1x128x2048) (k0_off39 k0_t3 0#32) S1x128x128.size (k0_off39_inb k0_t3 0)) v315 Finset.univ (View.stores_vmem h_S1x128x128 (harg13.storeExact_slice rfl _ (k0_off39_packedbf16 k0_t3 0)) (fun _ => rfl)) (.inl rfl))
      have v316 : FVec F S64x128 .bf16 := extractStridedSlice S64x128 ![0, 256] v298 slices_S64x512_o0_256_S64x128
      have v317 : FVec F S64x128 .bf16 := extractStridedSlice S64x128 ![0, 384] v298 slices_S64x512_o0_384_S64x128
      have v318 : FVec F S128x128 .bf16 := concatenate S128x128 0 [⟨S64x128, v316⟩, ⟨S64x128, v317⟩] concatenates_S64x128_S64x128_S128x128_d0
      have v319 : FVec F S128x128 .bf16 := transpose S128x128 [1, 0] v318 transposes_S128x128_p1_0_S128x128
      let c256_i32_147 : BitVec 32 := 256#32
      let v320 : BitVec 32 := Scalar.muli v123 c256_i32_147
      let c128_i32_148 : BitVec 32 := 128#32
      let v321 : BitVec 32 := Scalar.addi v320 c128_i32_148
      let v322 : BitVec 32 := v321
      let c0_149 : Index := 0#32
      let v323 : Index := Scalar.indexCast v123
      let c0_150 : Index := 0#32
      let v324 : Vec F S1x1x128 .f32 ← Prog.lift (.load arg9 (Rect.unit (s := S1x8x128) (k0_off38 k0_t3) S1x1x128.size (k0_off38_inb k0_t3)).toLoadRect (View.loadsAt_vmem h_S1x1x128))
      have v325 : FVec F S1x128 .f32 := shapeCast S1x128 v324 shapeCasts_S1x1x128_S1x128
      have v326 : FVec F S1x128 .bf16 := truncf .bf16 v325 bitsLt_bf16_f32
      have v327 : FVec F S128x128 .bf16 := broadcastTo S128x128 v326 broadcasts_S1x128_S128x128
      have v328 : FVec F S128x128 .bf16 := mulf v319 v327
      let c0_151 : Index := 0#32
      let c0_152 : Index := 0#32
      let v329 : Index := Scalar.indexCast v322
      let v330 : Vec F S1x128x128 .bf16 ← Prog.lift (.load arg13 (Rect.unit (s := S1x128x2048) (k0_off39 k0_t3 128#32) S1x128x128.size (k0_off39_inb k0_t3 1)).toLoadRect (View.loadsAt_vmem h_S1x128x128))
      have v331 : FVec F S128x128 .bf16 := shapeCast S128x128 v330 shapeCasts_S1x128x128_S128x128
      have v332 : FVec F S1x128x128 .bf16 := shapeCast S1x128x128 v328 shapeCasts_S128x128_S1x128x128
      Prog.lift (.store arg13 (Rect.unit (s := S1x128x2048) (k0_off39 k0_t3 128#32) S1x128x128.size (k0_off39_inb k0_t3 1)) v332 Finset.univ (View.stores_vmem h_S1x128x128 (harg13.storeExact_slice rfl _ (k0_off39_packedbf16 k0_t3 1)) (fun _ => rfl)) (.inl rfl))
      pure ⟨⟩
    let c9_i32_46 : BitVec 32 := 9#32
    k ⟨⟩
theorem armK3_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond4 v8 = 1#1) (k : PUnit.{1} → Prog (TpuEff nD τ sig (Elt F) Λ₀ .tc) β) : armK3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 13#32) 3 1 true (hn3 v5 v8 k0_hw1 h) (by rfl) >>= k) := rfl

def armK4 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h5 : k0_cond5 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h5
    k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h5 v61 v63 v68 v96 cst_37 v97
    let c0_i32_51 : BitVec 32 := 0#32
    let c9_i32 : BitVec 32 := 9#32
    let v137 : BitVec 32 := Scalar.addi c0_i32_51 c9_i32
    let c1_i32_52 : BitVec 32 := 1#32
    Scf.Loop.for k0_t4_loop k0_t4_ok ⟨⟩ fun k0_t4 _ => do
      let ⟨v138, v140, v141, v160, v165, v170, c4_i32_76⟩ : Σ' (v138 : BitVec 32) (v140 : BitVec 32) (v141 : BitVec 32) (v160 : FVec F S64x512 .fp8e4m3) (v165 : FVec F S1x128 .f32) (v170 : FVec F S1x128 .f32), BitVec 32 ← k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_51 c1_i32_52 k0_t4
      let ⟨v181, v202, v203, v204⟩ : Σ' (v181 : FVec F S1x512 .f32) (v202 : FVec F S1x512 .f32) (v203 : Vec F S1x512 .f32), BitVec 32 ← k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t4 v138 v140 v165 v170 c4_i32_76
      let ⟨v205, v206, v208, v224, v236, v246⟩ : Σ' (v205 : BitVec 32) (v206 : FVec F S8x512 .f32) (v208 : FVec F S64x512 .f32) (v224 : FVec F S256x512 .f32) (v236 : FVec F S8x512 .f32), FVec F S64x512 .f32 ← k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h5 v61 k0_t4 v138 v141 v160 v202 v203 v204
      let ⟨v247, v254, v256, v270, v282, v287⟩ : Σ' (v247 : FVec F S64x512 .f32) (v254 : FVec F S8x512 .f32) (v256 : BitVec 32) (v270 : FVec F S256x512 .f32) (v282 : FVec F S8x512 .f32), FVec F S256x512 .fp8e4m3 ← k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h5 v61 k0_t4 v138 v141 v160 v202 v203 v205 v206 v208 v224 v236 v246
      let ⟨v315, v328, v330⟩ : Σ' (v315 : FVec F S64x512 .bf16) (v328 : FVec F S128x128 .bf16), Vec F S1x128x128 .bf16 ← k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h5 k0_t4 v140 v141 v181 v247 v254 v256 v270 v282 v287
      have v331 : FVec F S128x128 .bf16 := shapeCast S128x128 v330 shapeCasts_S1x128x128_S128x128
      have v332 : FVec F S1x128x128 .bf16 := shapeCast S1x128x128 v328 shapeCasts_S128x128_S1x128x128
      Prog.lift (.store arg13 (Rect.unit (s := S1x128x2048) (k0_off52 k0_t4 0#32) S1x128x128.size (k0_off52_inb k0_t4 0)) v332 Finset.univ (View.stores_vmem h_S1x128x128 (harg13.storeExact_slice rfl _ (k0_off52_packedbf16 k0_t4 0)) (fun _ => rfl)) (.inl rfl))
      have v333 : FVec F S64x128 .bf16 := extractStridedSlice S64x128 ![0, 256] v315 slices_S64x512_o0_256_S64x128
      have v334 : FVec F S64x128 .bf16 := extractStridedSlice S64x128 ![0, 384] v315 slices_S64x512_o0_384_S64x128
      have v335 : FVec F S128x128 .bf16 := concatenate S128x128 0 [⟨S64x128, v333⟩, ⟨S64x128, v334⟩] concatenates_S64x128_S64x128_S128x128_d0
      have v336 : FVec F S128x128 .bf16 := transpose S128x128 [1, 0] v335 transposes_S128x128_p1_0_S128x128
      let c256_i32_154 : BitVec 32 := 256#32
      let v337 : BitVec 32 := Scalar.muli v140 c256_i32_154
      let c128_i32_155 : BitVec 32 := 128#32
      let v338 : BitVec 32 := Scalar.addi v337 c128_i32_155
      let v339 : BitVec 32 := v338
      let c0_156 : Index := 0#32
      let v340 : Index := Scalar.indexCast v140
      let c0_157 : Index := 0#32
      let v341 : Vec F S1x1x128 .f32 ← Prog.lift (.load arg9 (Rect.unit (s := S1x8x128) (k0_off51 k0_t4) S1x1x128.size (k0_off51_inb k0_t4)).toLoadRect (View.loadsAt_vmem h_S1x1x128))
      have v342 : FVec F S1x128 .f32 := shapeCast S1x128 v341 shapeCasts_S1x1x128_S1x128
      have v343 : FVec F S1x128 .bf16 := truncf .bf16 v342 bitsLt_bf16_f32
      have v344 : FVec F S128x128 .bf16 := broadcastTo S128x128 v343 broadcasts_S1x128_S128x128
      have v345 : FVec F S128x128 .bf16 := mulf v336 v344
      let c0_158 : Index := 0#32
      let c0_159 : Index := 0#32
      let v346 : Index := Scalar.indexCast v339
      let v347 : Vec F S1x128x128 .bf16 ← Prog.lift (.load arg13 (Rect.unit (s := S1x128x2048) (k0_off52 k0_t4 128#32) S1x128x128.size (k0_off52_inb k0_t4 1)).toLoadRect (View.loadsAt_vmem h_S1x128x128))
      have v348 : FVec F S128x128 .bf16 := shapeCast S128x128 v347 shapeCasts_S1x128x128_S128x128
      have v349 : FVec F S1x128x128 .bf16 := shapeCast S1x128x128 v345 shapeCasts_S128x128_S1x128x128
      Prog.lift (.store arg13 (Rect.unit (s := S1x128x2048) (k0_off52 k0_t4 128#32) S1x128x128.size (k0_off52_inb k0_t4 1)) v349 Finset.univ (View.stores_vmem h_S1x128x128 (harg13.storeExact_slice rfl _ (k0_off52_packedbf16 k0_t4 1)) (fun _ => rfl)) (.inl rfl))
      pure ⟨⟩
    let c9_i32_53 : BitVec 32 := 9#32
    k ⟨⟩
theorem armK4_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond5 v8 = 1#1) (k : PUnit.{1} → Prog (TpuEff nD τ sig (Elt F) Λ₀ .tc) β) : armK4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 12#32) 4 2 false (hn4 v5 v8 k0_hw1 h) (by rfl) >>= k) := rfl

def armK5 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h6 : k0_cond6 v8 = 1#1) (k : PUnit.{1} → Prog (TpuEff nD τ sig (Elt F) Λ₀ .tc) β) : Prog (TpuEff nD τ sig (Elt F) Λ₀ .tc) β := do
    let ⟨v61, v63, v68, v96, cst_36, v97⟩ : Σ' (v61 : BitVec 32) (v63 : FVec F S1x128 .f32) (v68 : FVec F S1x128 .f32) (v96 : IVec S128x128 1) (cst_36 : F .f32), FVec F S128x128 .f32 ← k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h6
    k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 v61 v63 v68 v96 cst_36 v97
    let c512_i32 : BitVec 32 := 512#32
    let v137 : BitVec 32 := Scalar.addi v61 c512_i32
    let v138 : Index := Scalar.indexCast v137
    let c0_50 : Index := 0#32
    let v139 : Vec F S128x128 .f32 ← Prog.lift (.load arg15 (Rect.unit (s := S2048x128) (k0_off53 v5 512#32) S128x128.size (k0_off53_inb v5 v8 k0_hw1 k0_h6 4)).toLoadRect (View.loadsAt_vmem h_S128x128))
    have v140 : FVec F S128x128 .f32 := broadcastTo S128x128 v63 broadcasts_S1x128_S128x128
    have v141 : IVec S128x128 1 := cmpf .oeq v139 v140
    let c512_i32_51 : BitVec 32 := 512#32
    let v142 : BitVec 32 := Scalar.addi v61 c512_i32_51
    let v143 : Index := Scalar.indexCast v142
    let c0_52 : Index := 0#32
    let v144 : Vec F S128x128 .f32 ← Prog.lift (.load arg16 (Rect.unit (s := S2048x128) (k0_off53 v5 512#32) S128x128.size (k0_off53_inb v5 v8 k0_hw1 k0_h6 4)).toLoadRect (View.loadsAt_vmem h_S128x128))
    have v145 : FVec F S128x128 .f32 := broadcastTo S128x128 v68 broadcasts_S1x128_S128x128
    have v146 : IVec S128x128 1 := cmpf .ole v144 v145
    have v147 : IVec S128x128 1 := andi v141 v146
    have cst_53 : F .f32 := Scalar.ofBits .f32 0x00000000#32
    have cst_54 : F .f32 := Scalar.ofBits .f32 0xFF800000#32
    have v148 : FVec F S128x128 .f32 := broadcast S128x128 cst_53
    have v149 : FVec F S128x128 .f32 := broadcast S128x128 cst_54
    have v150 : FVec F S128x128 .f32 := select v147 v148 v149
    let c512 : Index := 512#32
    let c0_55 : Index := 0#32
    let v151 : Vec F S128x128 .f32 ← Prog.lift (.load arg18 (Rect.unit (s := S2048x128) ![512, 0] S128x128.size inb_S2048x128_S128x128_512_0).toLoadRect (View.loadsAt_vmem h_S128x128))
    have v152 : FVec F S128x128 .f32 := shapeCast S128x128 v151 shapeCasts_S128x128_S128x128
    have v153 : FVec F S128x128 .f32 := shapeCast S128x128 v150 shapeCasts_S128x128_S128x128
    Prog.lift (.store arg18 (Rect.unit (s := S2048x128) ![512, 0] S128x128.size inb_S2048x128_S128x128_512_0) v153 Finset.univ (View.stores_vmem_bits_univ h_S128x128 rfl) (.inl rfl))
    let c0_i32_56 : BitVec 32 := 0#32
    let c9_i32 : BitVec 32 := 9#32
    let v154 : BitVec 32 := Scalar.addi c0_i32_56 c9_i32
    let c1_i32_57 : BitVec 32 := 1#32
    Scf.Loop.for k0_t5_loop k0_t5_ok ⟨⟩ fun k0_t5 _ => do
      let ⟨v155, v157, v158, v177, v182, v187, c4_i32_81⟩ : Σ' (v155 : BitVec 32) (v157 : BitVec 32) (v158 : BitVec 32) (v177 : FVec F S64x512 .fp8e4m3) (v182 : FVec F S1x128 .f32) (v187 : FVec F S1x128 .f32), BitVec 32 ← k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_56 c1_i32_57 k0_t5
      let ⟨v198, v219, v220, v221⟩ : Σ' (v198 : FVec F S1x512 .f32) (v219 : FVec F S1x512 .f32) (v220 : Vec F S1x512 .f32), BitVec 32 ← k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t5 v155 v157 v182 v187 c4_i32_81
      let ⟨v222, v223, v225, v241, v253, v263⟩ : Σ' (v222 : BitVec 32) (v223 : FVec F S8x512 .f32) (v225 : FVec F S64x512 .f32) (v241 : FVec F S256x512 .f32) (v253 : FVec F S8x512 .f32), FVec F S64x512 .f32 ← k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 v61 k0_t5 v155 v158 v177 v219 v220 v221
      let ⟨v264, v271, v273, v287, v299, v304⟩ : Σ' (v264 : FVec F S64x512 .f32) (v271 : FVec F S8x512 .f32) (v273 : BitVec 32) (v287 : FVec F S256x512 .f32) (v299 : FVec F S8x512 .f32), FVec F S256x512 .fp8e4m3 ← k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 v61 k0_t5 v155 v158 v177 v219 v220 v222 v223 v225 v241 v253 v263
      let ⟨v310, v317, v319, v333, v345, cst_159, v347⟩ : Σ' (v310 : FVec F S64x512 .f32) (v317 : FVec F S8x512 .f32) (v319 : BitVec 32) (v333 : FVec F S128x512 .f32) (v345 : FVec F S8x512 .f32) (cst_159 : F .f32), FVec F S128x512 .f32 ← k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 v61 k0_t5 v155 v158 v177 v219 v220 v264 v271 v273 v287 v299 v304
      let ⟨v378, v382, v385, v390⟩ : Σ' (v378 : FVec F S64x512 .bf16) (v382 : FVec F S128x128 .bf16) (v385 : BitVec 32), FVec F S128x128 .bf16 ← k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h6 k0_t5 v157 v158 v198 v222 v310 v317 v319 v333 v345 cst_159 v347
      have v391 : FVec F S128x128 .bf16 := mulf v382 v390
      let c0_175 : Index := 0#32
      let c0_176 : Index := 0#32
      let v392 : Index := Scalar.indexCast v385
      let v393 : Vec F S1x128x128 .bf16 ← Prog.lift (.load arg13 (Rect.unit (s := S1x128x2048) (k0_off70 k0_t5 0#32) S1x128x128.size (k0_off70_inb k0_t5 0)).toLoadRect (View.loadsAt_vmem h_S1x128x128))
      have v394 : FVec F S128x128 .bf16 := shapeCast S128x128 v393 shapeCasts_S1x128x128_S128x128
      have v395 : FVec F S1x128x128 .bf16 := shapeCast S1x128x128 v391 shapeCasts_S128x128_S1x128x128
      Prog.lift (.store arg13 (Rect.unit (s := S1x128x2048) (k0_off70 k0_t5 0#32) S1x128x128.size (k0_off70_inb k0_t5 0)) v395 Finset.univ (View.stores_vmem h_S1x128x128 (harg13.storeExact_slice rfl _ (k0_off70_packedbf16 k0_t5 0)) (fun _ => rfl)) (.inl rfl))
      have v396 : FVec F S64x128 .bf16 := extractStridedSlice S64x128 ![0, 256] v378 slices_S64x512_o0_256_S64x128
      have v397 : FVec F S64x128 .bf16 := extractStridedSlice S64x128 ![0, 384] v378 slices_S64x512_o0_384_S64x128
      have v398 : FVec F S128x128 .bf16 := concatenate S128x128 0 [⟨S64x128, v396⟩, ⟨S64x128, v397⟩] concatenates_S64x128_S64x128_S128x128_d0
      have v399 : FVec F S128x128 .bf16 := transpose S128x128 [1, 0] v398 transposes_S128x128_p1_0_S128x128
      let c256_i32_177 : BitVec 32 := 256#32
      let v400 : BitVec 32 := Scalar.muli v157 c256_i32_177
      let c128_i32_178 : BitVec 32 := 128#32
      let v401 : BitVec 32 := Scalar.addi v400 c128_i32_178
      let v402 : BitVec 32 := v401
      let c0_179 : Index := 0#32
      let v403 : Index := Scalar.indexCast v157
      let c0_180 : Index := 0#32
      let v404 : Vec F S1x1x128 .f32 ← Prog.lift (.load arg9 (Rect.unit (s := S1x8x128) (k0_off69 k0_t5) S1x1x128.size (k0_off69_inb k0_t5)).toLoadRect (View.loadsAt_vmem h_S1x1x128))
      have v405 : FVec F S1x128 .f32 := shapeCast S1x128 v404 shapeCasts_S1x1x128_S1x128
      have v406 : FVec F S1x128 .bf16 := truncf .bf16 v405 bitsLt_bf16_f32
      have v407 : FVec F S128x128 .bf16 := broadcastTo S128x128 v406 broadcasts_S1x128_S128x128
      have v408 : FVec F S128x128 .bf16 := mulf v399 v407
      let c0_181 : Index := 0#32
      let c0_182 : Index := 0#32
      let v409 : Index := Scalar.indexCast v402
      let v410 : Vec F S1x128x128 .bf16 ← Prog.lift (.load arg13 (Rect.unit (s := S1x128x2048) (k0_off70 k0_t5 128#32) S1x128x128.size (k0_off70_inb k0_t5 1)).toLoadRect (View.loadsAt_vmem h_S1x128x128))
      have v411 : FVec F S128x128 .bf16 := shapeCast S128x128 v410 shapeCasts_S1x128x128_S128x128
      have v412 : FVec F S1x128x128 .bf16 := shapeCast S1x128x128 v408 shapeCasts_S128x128_S1x128x128
      Prog.lift (.store arg13 (Rect.unit (s := S1x128x2048) (k0_off70 k0_t5 128#32) S1x128x128.size (k0_off70_inb k0_t5 1)) v412 Finset.univ (View.stores_vmem h_S1x128x128 (harg13.storeExact_slice rfl _ (k0_off70_packedbf16 k0_t5 1)) (fun _ => rfl)) (.inl rfl))
      pure ⟨⟩
    let c9_i32_58 : BitVec 32 := 9#32
    k ⟨⟩
theorem armK5_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond6 v8 = 1#1) (k : PUnit.{1} → Prog (TpuEff nD τ sig (Elt F) Λ₀ .tc) β) : armK5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 11#32) 5 2 true (hn5 v5 v8 k0_hw1 h) (by rfl) >>= k) := rfl

def armK7 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h8 : k0_cond8 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h8
    k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 v63 v68 v96 cst_37 v97
    let ⟨v175, c768_i32_64⟩ : Σ' (v175 : IVec S128x128 1), BitVec 32 ← k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 v63 v68
    let v176 : BitVec 32 := Scalar.addi v61 c768_i32_64
    let v177 : Index := Scalar.indexCast v176
    let c0_65 : Index := 0#32
    let v178 : Vec F S128x128 .f32 ← Prog.lift (.load arg16 (Rect.unit (s := S2048x128) (k0_off86 v5 768#32) S128x128.size (k0_off86_inb v5 v8 k0_hw1 k0_h8 6)).toLoadRect (View.loadsAt_vmem h_S128x128))
    have v179 : FVec F S128x128 .f32 := broadcastTo S128x128 v68 broadcasts_S1x128_S128x128
    have v180 : IVec S128x128 1 := cmpf .ole v178 v179
    have v181 : IVec S128x128 1 := andi v175 v180
    have cst_66 : F .f32 := Scalar.ofBits .f32 0x00000000#32
    have cst_67 : F .f32 := Scalar.ofBits .f32 0xFF800000#32
    have v182 : FVec F S128x128 .f32 := broadcast S128x128 cst_66
    have v183 : FVec F S128x128 .f32 := broadcast S128x128 cst_67
    have v184 : FVec F S128x128 .f32 := select v181 v182 v183
    let c768 : Index := 768#32
    let c0_68 : Index := 0#32
    let v185 : Vec F S128x128 .f32 ← Prog.lift (.load arg18 (Rect.unit (s := S2048x128) ![768, 0] S128x128.size inb_S2048x128_S128x128_768_0).toLoadRect (View.loadsAt_vmem h_S128x128))
    have v186 : FVec F S128x128 .f32 := shapeCast S128x128 v185 shapeCasts_S128x128_S128x128
    have v187 : FVec F S128x128 .f32 := shapeCast S128x128 v184 shapeCasts_S128x128_S128x128
    Prog.lift (.store arg18 (Rect.unit (s := S2048x128) ![768, 0] S128x128.size inb_S2048x128_S128x128_768_0) v187 Finset.univ (View.stores_vmem_bits_univ h_S128x128 rfl) (.inl rfl))
    let c896_i32 : BitVec 32 := 896#32
    let v188 : BitVec 32 := Scalar.addi v61 c896_i32
    let v189 : Index := Scalar.indexCast v188
    let c0_69 : Index := 0#32
    let v190 : Vec F S128x128 .f32 ← Prog.lift (.load arg15 (Rect.unit (s := S2048x128) (k0_off86 v5 896#32) S128x128.size (k0_off86_inb v5 v8 k0_hw1 k0_h8 7)).toLoadRect (View.loadsAt_vmem h_S128x128))
    have v191 : FVec F S128x128 .f32 := broadcastTo S128x128 v63 broadcasts_S1x128_S128x128
    have v192 : IVec S128x128 1 := cmpf .oeq v190 v191
    let c896_i32_70 : BitVec 32 := 896#32
    let v193 : BitVec 32 := Scalar.addi v61 c896_i32_70
    let v194 : Index := Scalar.indexCast v193
    let c0_71 : Index := 0#32
    let v195 : Vec F S128x128 .f32 ← Prog.lift (.load arg16 (Rect.unit (s := S2048x128) (k0_off86 v5 896#32) S128x128.size (k0_off86_inb v5 v8 k0_hw1 k0_h8 7)).toLoadRect (View.loadsAt_vmem h_S128x128))
    have v196 : FVec F S128x128 .f32 := broadcastTo S128x128 v68 broadcasts_S1x128_S128x128
    have v197 : IVec S128x128 1 := cmpf .ole v195 v196
    have v198 : IVec S128x128 1 := andi v192 v197
    have cst_72 : F .f32 := Scalar.ofBits .f32 0x00000000#32
    have cst_73 : F .f32 := Scalar.ofBits .f32 0xFF800000#32
    have v199 : FVec F S128x128 .f32 := broadcast S128x128 cst_72
    have v200 : FVec F S128x128 .f32 := broadcast S128x128 cst_73
    have v201 : FVec F S128x128 .f32 := select v198 v199 v200
    let c896 : Index := 896#32
    let c0_74 : Index := 0#32
    let v202 : Vec F S128x128 .f32 ← Prog.lift (.load arg18 (Rect.unit (s := S2048x128) ![896, 0] S128x128.size inb_S2048x128_S128x128_896_0).toLoadRect (View.loadsAt_vmem h_S128x128))
    have v203 : FVec F S128x128 .f32 := shapeCast S128x128 v202 shapeCasts_S128x128_S128x128
    have v204 : FVec F S128x128 .f32 := shapeCast S128x128 v201 shapeCasts_S128x128_S128x128
    Prog.lift (.store arg18 (Rect.unit (s := S2048x128) ![896, 0] S128x128.size inb_S2048x128_S128x128_896_0) v204 Finset.univ (View.stores_vmem_bits_univ h_S128x128 rfl) (.inl rfl))
    let c0_i32_75 : BitVec 32 := 0#32
    let c9_i32 : BitVec 32 := 9#32
    let v205 : BitVec 32 := Scalar.addi c0_i32_75 c9_i32
    let c1_i32_76 : BitVec 32 := 1#32
    Scf.Loop.for k0_t7_loop k0_t7_ok ⟨⟩ fun k0_t7 _ => do
      let ⟨v206, v208, v209, v228, v233, v238, c4_i32_100⟩ : Σ' (v206 : BitVec 32) (v208 : BitVec 32) (v209 : BitVec 32) (v228 : FVec F S64x512 .fp8e4m3) (v233 : FVec F S1x128 .f32) (v238 : FVec F S1x128 .f32), BitVec 32 ← k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_75 c1_i32_76 k0_t7
      let ⟨v249, v270, v271, v272⟩ : Σ' (v249 : FVec F S1x512 .f32) (v270 : FVec F S1x512 .f32) (v271 : Vec F S1x512 .f32), BitVec 32 ← k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t7 v206 v208 v233 v238 c4_i32_100
      let ⟨v273, v274, v276, v292, v304, v314⟩ : Σ' (v273 : BitVec 32) (v274 : FVec F S8x512 .f32) (v276 : FVec F S64x512 .f32) (v292 : FVec F S256x512 .f32) (v304 : FVec F S8x512 .f32), FVec F S64x512 .f32 ← k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 k0_t7 v206 v209 v228 v270 v271 v272
      let ⟨v315, v322, v324, v338, v350, v355⟩ : Σ' (v315 : FVec F S64x512 .f32) (v322 : FVec F S8x512 .f32) (v324 : BitVec 32) (v338 : FVec F S256x512 .f32) (v350 : FVec F S8x512 .f32), FVec F S256x512 .fp8e4m3 ← k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 k0_t7 v206 v209 v228 v270 v271 v273 v274 v276 v292 v304 v314
      let ⟨v361, v368, v370, v384, v396, cst_178, v398⟩ : Σ' (v361 : FVec F S64x512 .f32) (v368 : FVec F S8x512 .f32) (v370 : BitVec 32) (v384 : FVec F S256x512 .f32) (v396 : FVec F S8x512 .f32) (cst_178 : F .f32), FVec F S256x512 .f32 ← k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 k0_t7 v206 v209 v228 v270 v271 v315 v322 v324 v338 v350 v355
      let ⟨v407, v414, v416, v430, v439, v441⟩ : Σ' (v407 : FVec F S64x512 .f32) (v414 : FVec F S8x512 .f32) (v416 : BitVec 32) (v430 : FVec F S256x512 .f32) (v439 : FVec F S256x512 .f32), FVec F S8x512 .f32 ← k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 v61 k0_t7 v206 v209 v228 v270 v271 v273 v361 v368 v370 v384 cst_178 v398
      let ⟨v475, v479, v482⟩ : Σ' (v475 : FVec F S64x512 .bf16) (v479 : FVec F S128x128 .bf16), BitVec 32 ← k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h8 k0_t7 v208 v209 v249 v273 v396 v407 v414 v416 v430 v439 v441
      let c0_211 : Index := 0#32
      let v484 : Vec F S1x1x128 .f32 ← Prog.lift (.load arg9 (Rect.unit (s := S1x8x128) (k0_off101 k0_t7) S1x1x128.size (k0_off101_inb k0_t7)).toLoadRect (View.loadsAt_vmem h_S1x1x128))
      have v485 : FVec F S1x128 .f32 := shapeCast S1x128 v484 shapeCasts_S1x1x128_S1x128
      have v486 : FVec F S1x128 .bf16 := truncf .bf16 v485 bitsLt_bf16_f32
      have v487 : FVec F S128x128 .bf16 := broadcastTo S128x128 v486 broadcasts_S1x128_S128x128
      have v488 : FVec F S128x128 .bf16 := mulf v479 v487
      let c0_212 : Index := 0#32
      let c0_213 : Index := 0#32
      let v489 : Index := Scalar.indexCast v482
      let v490 : Vec F S1x128x128 .bf16 ← Prog.lift (.load arg13 (Rect.unit (s := S1x128x2048) (k0_off102 k0_t7 0#32) S1x128x128.size (k0_off102_inb k0_t7 0)).toLoadRect (View.loadsAt_vmem h_S1x128x128))
      have v491 : FVec F S128x128 .bf16 := shapeCast S128x128 v490 shapeCasts_S1x128x128_S128x128
      have v492 : FVec F S1x128x128 .bf16 := shapeCast S1x128x128 v488 shapeCasts_S128x128_S1x128x128
      Prog.lift (.store arg13 (Rect.unit (s := S1x128x2048) (k0_off102 k0_t7 0#32) S1x128x128.size (k0_off102_inb k0_t7 0)) v492 Finset.univ (View.stores_vmem h_S1x128x128 (harg13.storeExact_slice rfl _ (k0_off102_packedbf16 k0_t7 0)) (fun _ => rfl)) (.inl rfl))
      have v493 : FVec F S64x128 .bf16 := extractStridedSlice S64x128 ![0, 256] v475 slices_S64x512_o0_256_S64x128
      have v494 : FVec F S64x128 .bf16 := extractStridedSlice S64x128 ![0, 384] v475 slices_S64x512_o0_384_S64x128
      have v495 : FVec F S128x128 .bf16 := concatenate S128x128 0 [⟨S64x128, v493⟩, ⟨S64x128, v494⟩] concatenates_S64x128_S64x128_S128x128_d0
      have v496 : FVec F S128x128 .bf16 := transpose S128x128 [1, 0] v495 transposes_S128x128_p1_0_S128x128
      let c256_i32_214 : BitVec 32 := 256#32
      let v497 : BitVec 32 := Scalar.muli v208 c256_i32_214
      let c128_i32_215 : BitVec 32 := 128#32
      let v498 : BitVec 32 := Scalar.addi v497 c128_i32_215
      let v499 : BitVec 32 := v498
      let c0_216 : Index := 0#32
      let v500 : Index := Scalar.indexCast v208
      let c0_217 : Index := 0#32
      let v501 : Vec F S1x1x128 .f32 ← Prog.lift (.load arg9 (Rect.unit (s := S1x8x128) (k0_off101 k0_t7) S1x1x128.size (k0_off101_inb k0_t7)).toLoadRect (View.loadsAt_vmem h_S1x1x128))
      have v502 : FVec F S1x128 .f32 := shapeCast S1x128 v501 shapeCasts_S1x1x128_S1x128
      have v503 : FVec F S1x128 .bf16 := truncf .bf16 v502 bitsLt_bf16_f32
      have v504 : FVec F S128x128 .bf16 := broadcastTo S128x128 v503 broadcasts_S1x128_S128x128
      have v505 : FVec F S128x128 .bf16 := mulf v496 v504
      let c0_218 : Index := 0#32
      let c0_219 : Index := 0#32
      let v506 : Index := Scalar.indexCast v499
      let v507 : Vec F S1x128x128 .bf16 ← Prog.lift (.load arg13 (Rect.unit (s := S1x128x2048) (k0_off102 k0_t7 128#32) S1x128x128.size (k0_off102_inb k0_t7 1)).toLoadRect (View.loadsAt_vmem h_S1x128x128))
      have v508 : FVec F S128x128 .bf16 := shapeCast S128x128 v507 shapeCasts_S1x128x128_S128x128
      have v509 : FVec F S1x128x128 .bf16 := shapeCast S1x128x128 v505 shapeCasts_S128x128_S1x128x128
      Prog.lift (.store arg13 (Rect.unit (s := S1x128x2048) (k0_off102 k0_t7 128#32) S1x128x128.size (k0_off102_inb k0_t7 1)) v509 Finset.univ (View.stores_vmem h_S1x128x128 (harg13.storeExact_slice rfl _ (k0_off102_packedbf16 k0_t7 1)) (fun _ => rfl)) (.inl rfl))
      pure ⟨⟩
    let c9_i32_77 : BitVec 32 := 9#32
    k ⟨⟩
theorem armK7_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond8 v8 = 1#1) (k : PUnit.{1} → Prog (TpuEff nD τ sig (Elt F) Λ₀ .tc) β) : armK7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 8#32) 8 4 false (hn7 v5 v8 k0_hw1 h) (by rfl) >>= k) := rfl

def armK8 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h9 : k0_cond9 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h9
    k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 v63 v68 v96 cst_37 v97
    let ⟨v175, c768_i32_64⟩ : Σ' (v175 : IVec S128x128 1), BitVec 32 ← k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 v63 v68
    let ⟨v215, cst_78⟩ : Σ' (v215 : IVec S128x128 1), F .f32 ← k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 v63 v68 v175 c768_i32_64
    have cst_79 : F .f32 := Scalar.ofBits .f32 0xFF800000#32
    have v216 : FVec F S128x128 .f32 := broadcast S128x128 cst_78
    have v217 : FVec F S128x128 .f32 := broadcast S128x128 cst_79
    have v218 : FVec F S128x128 .f32 := select v215 v216 v217
    let c1024 : Index := 1024#32
    let c0_80 : Index := 0#32
    let v219 : Vec F S128x128 .f32 ← Prog.lift (.load arg18 (Rect.unit (s := S2048x128) ![1024, 0] S128x128.size inb_S2048x128_S128x128_1024_0).toLoadRect (View.loadsAt_vmem h_S128x128))
    have v220 : FVec F S128x128 .f32 := shapeCast S128x128 v219 shapeCasts_S128x128_S128x128
    have v221 : FVec F S128x128 .f32 := shapeCast S128x128 v218 shapeCasts_S128x128_S128x128
    Prog.lift (.store arg18 (Rect.unit (s := S2048x128) ![1024, 0] S128x128.size inb_S2048x128_S128x128_1024_0) v221 Finset.univ (View.stores_vmem_bits_univ h_S128x128 rfl) (.inl rfl))
    let c1152_i32 : BitVec 32 := 1152#32
    let v222 : BitVec 32 := Scalar.addi v61 c1152_i32
    let v223 : Index := Scalar.indexCast v222
    let c0_81 : Index := 0#32
    let v224 : Vec F S128x128 .f32 ← Prog.lift (.load arg15 (Rect.unit (s := S2048x128) (k0_off103 v5 1152#32) S128x128.size (k0_off103_inb v5 v8 k0_hw1 k0_h9 9)).toLoadRect (View.loadsAt_vmem h_S128x128))
    have v225 : FVec F S128x128 .f32 := broadcastTo S128x128 v63 broadcasts_S1x128_S128x128
    have v226 : IVec S128x128 1 := cmpf .oeq v224 v225
    let c1152_i32_82 : BitVec 32 := 1152#32
    let v227 : BitVec 32 := Scalar.addi v61 c1152_i32_82
    let v228 : Index := Scalar.indexCast v227
    let c0_83 : Index := 0#32
    let v229 : Vec F S128x128 .f32 ← Prog.lift (.load arg16 (Rect.unit (s := S2048x128) (k0_off103 v5 1152#32) S128x128.size (k0_off103_inb v5 v8 k0_hw1 k0_h9 9)).toLoadRect (View.loadsAt_vmem h_S128x128))
    have v230 : FVec F S128x128 .f32 := broadcastTo S128x128 v68 broadcasts_S1x128_S128x128
    have v231 : IVec S128x128 1 := cmpf .ole v229 v230
    have v232 : IVec S128x128 1 := andi v226 v231
    have cst_84 : F .f32 := Scalar.ofBits .f32 0x00000000#32
    have cst_85 : F .f32 := Scalar.ofBits .f32 0xFF800000#32
    have v233 : FVec F S128x128 .f32 := broadcast S128x128 cst_84
    have v234 : FVec F S128x128 .f32 := broadcast S128x128 cst_85
    have v235 : FVec F S128x128 .f32 := select v232 v233 v234
    let c1152 : Index := 1152#32
    let c0_86 : Index := 0#32
    let v236 : Vec F S128x128 .f32 ← Prog.lift (.load arg18 (Rect.unit (s := S2048x128) ![1152, 0] S128x128.size inb_S2048x128_S128x128_1152_0).toLoadRect (View.loadsAt_vmem h_S128x128))
    have v237 : FVec F S128x128 .f32 := shapeCast S128x128 v236 shapeCasts_S128x128_S128x128
    have v238 : FVec F S128x128 .f32 := shapeCast S128x128 v235 shapeCasts_S128x128_S128x128
    Prog.lift (.store arg18 (Rect.unit (s := S2048x128) ![1152, 0] S128x128.size inb_S2048x128_S128x128_1152_0) v238 Finset.univ (View.stores_vmem_bits_univ h_S128x128 rfl) (.inl rfl))
    let c0_i32_87 : BitVec 32 := 0#32
    let c9_i32 : BitVec 32 := 9#32
    let v239 : BitVec 32 := Scalar.addi c0_i32_87 c9_i32
    let c1_i32_88 : BitVec 32 := 1#32
    Scf.Loop.for k0_t8_loop k0_t8_ok ⟨⟩ fun k0_t8 _ => do
      let ⟨v240, v242, v243, v262, v267, v272, c4_i32_112⟩ : Σ' (v240 : BitVec 32) (v242 : BitVec 32) (v243 : BitVec 32) (v262 : FVec F S64x512 .fp8e4m3) (v267 : FVec F S1x128 .f32) (v272 : FVec F S1x128 .f32), BitVec 32 ← k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_87 c1_i32_88 k0_t8
      let ⟨v283, v304, v305, v306⟩ : Σ' (v283 : FVec F S1x512 .f32) (v304 : FVec F S1x512 .f32) (v305 : Vec F S1x512 .f32), BitVec 32 ← k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t8 v240 v242 v267 v272 c4_i32_112
      let ⟨v307, v308, v310, v326, v338, v348⟩ : Σ' (v307 : BitVec 32) (v308 : FVec F S8x512 .f32) (v310 : FVec F S64x512 .f32) (v326 : FVec F S256x512 .f32) (v338 : FVec F S8x512 .f32), FVec F S64x512 .f32 ← k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v306
      let ⟨v349, v356, v358, v372, v384, v389⟩ : Σ' (v349 : FVec F S64x512 .f32) (v356 : FVec F S8x512 .f32) (v358 : BitVec 32) (v372 : FVec F S256x512 .f32) (v384 : FVec F S8x512 .f32), FVec F S256x512 .fp8e4m3 ← k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v307 v308 v310 v326 v338 v348
      let ⟨v395, v402, v404, v418, v430, cst_190, v432⟩ : Σ' (v395 : FVec F S64x512 .f32) (v402 : FVec F S8x512 .f32) (v404 : BitVec 32) (v418 : FVec F S256x512 .f32) (v430 : FVec F S8x512 .f32) (cst_190 : F .f32), FVec F S256x512 .f32 ← k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v349 v356 v358 v372 v384 v389
      let ⟨v441, v448, v450, v464, v473, v475⟩ : Σ' (v441 : FVec F S64x512 .f32) (v448 : FVec F S8x512 .f32) (v450 : BitVec 32) (v464 : FVec F S256x512 .f32) (v473 : FVec F S256x512 .f32), FVec F S8x512 .f32 ← k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v307 v395 v402 v404 v418 cst_190 v432
      let ⟨v476, v487, v494, v496, v510, v516, v517⟩ : Σ' (v476 : FVec F S8x512 .f32) (v487 : FVec F S64x512 .f32) (v494 : FVec F S8x512 .f32) (v496 : BitVec 32) (v510 : FVec F S256x512 .f32) (v516 : FVec F S256x512 .f32), FVec F S256x512 .f32 ← k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 v61 k0_t8 v240 v243 v262 v304 v305 v307 v430 v441 v448 v450 v464 v473 v475
      let ⟨v555, v559, v560⟩ : Σ' (v555 : FVec F S64x512 .bf16) (v559 : FVec F S128x128 .bf16), BitVec 32 ← k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h9 k0_t8 v242 v243 v283 v307 v476 v487 v494 v496 v510 v516 v517
      let c0_i32_239 : BitVec 32 := 0#32
      let v561 : BitVec 32 := Scalar.addi v560 c0_i32_239
      let v562 : BitVec 32 := v561
      let c0_240 : Index := 0#32
      let v563 : Index := Scalar.indexCast v242
      let c0_241 : Index := 0#32
      let v564 : Vec F S1x1x128 .f32 ← Prog.lift (.load arg9 (Rect.unit (s := S1x8x128) (k0_off120 k0_t8) S1x1x128.size (k0_off120_inb k0_t8)).toLoadRect (View.loadsAt_vmem h_S1x1x128))
      have v565 : FVec F S1x128 .f32 := shapeCast S1x128 v564 shapeCasts_S1x1x128_S1x128
      have v566 : FVec F S1x128 .bf16 := truncf .bf16 v565 bitsLt_bf16_f32
      have v567 : FVec F S128x128 .bf16 := broadcastTo S128x128 v566 broadcasts_S1x128_S128x128
      have v568 : FVec F S128x128 .bf16 := mulf v559 v567
      let c0_242 : Index := 0#32
      let c0_243 : Index := 0#32
      let v569 : Index := Scalar.indexCast v562
      let v570 : Vec F S1x128x128 .bf16 ← Prog.lift (.load arg13 (Rect.unit (s := S1x128x2048) (k0_off121 k0_t8 0#32) S1x128x128.size (k0_off121_inb k0_t8 0)).toLoadRect (View.loadsAt_vmem h_S1x128x128))
      have v571 : FVec F S128x128 .bf16 := shapeCast S128x128 v570 shapeCasts_S1x128x128_S128x128
      have v572 : FVec F S1x128x128 .bf16 := shapeCast S1x128x128 v568 shapeCasts_S128x128_S1x128x128
      Prog.lift (.store arg13 (Rect.unit (s := S1x128x2048) (k0_off121 k0_t8 0#32) S1x128x128.size (k0_off121_inb k0_t8 0)) v572 Finset.univ (View.stores_vmem h_S1x128x128 (harg13.storeExact_slice rfl _ (k0_off121_packedbf16 k0_t8 0)) (fun _ => rfl)) (.inl rfl))
      have v573 : FVec F S64x128 .bf16 := extractStridedSlice S64x128 ![0, 256] v555 slices_S64x512_o0_256_S64x128
      have v574 : FVec F S64x128 .bf16 := extractStridedSlice S64x128 ![0, 384] v555 slices_S64x512_o0_384_S64x128
      have v575 : FVec F S128x128 .bf16 := concatenate S128x128 0 [⟨S64x128, v573⟩, ⟨S64x128, v574⟩] concatenates_S64x128_S64x128_S128x128_d0
      have v576 : FVec F S128x128 .bf16 := transpose S128x128 [1, 0] v575 transposes_S128x128_p1_0_S128x128
      let c256_i32_244 : BitVec 32 := 256#32
      let v577 : BitVec 32 := Scalar.muli v242 c256_i32_244
      let c128_i32_245 : BitVec 32 := 128#32
      let v578 : BitVec 32 := Scalar.addi v577 c128_i32_245
      let v579 : BitVec 32 := v578
      let c0_246 : Index := 0#32
      let v580 : Index := Scalar.indexCast v242
      let c0_247 : Index := 0#32
      let v581 : Vec F S1x1x128 .f32 ← Prog.lift (.load arg9 (Rect.unit (s := S1x8x128) (k0_off120 k0_t8) S1x1x128.size (k0_off120_inb k0_t8)).toLoadRect (View.loadsAt_vmem h_S1x1x128))
      have v582 : FVec F S1x128 .f32 := shapeCast S1x128 v581 shapeCasts_S1x1x128_S1x128
      have v583 : FVec F S1x128 .bf16 := truncf .bf16 v582 bitsLt_bf16_f32
      have v584 : FVec F S128x128 .bf16 := broadcastTo S128x128 v583 broadcasts_S1x128_S128x128
      have v585 : FVec F S128x128 .bf16 := mulf v576 v584
      let c0_248 : Index := 0#32
      let c0_249 : Index := 0#32
      let v586 : Index := Scalar.indexCast v579
      let v587 : Vec F S1x128x128 .bf16 ← Prog.lift (.load arg13 (Rect.unit (s := S1x128x2048) (k0_off121 k0_t8 128#32) S1x128x128.size (k0_off121_inb k0_t8 1)).toLoadRect (View.loadsAt_vmem h_S1x128x128))
      have v588 : FVec F S128x128 .bf16 := shapeCast S128x128 v587 shapeCasts_S1x128x128_S128x128
      have v589 : FVec F S1x128x128 .bf16 := shapeCast S1x128x128 v585 shapeCasts_S128x128_S1x128x128
      Prog.lift (.store arg13 (Rect.unit (s := S1x128x2048) (k0_off121 k0_t8 128#32) S1x128x128.size (k0_off121_inb k0_t8 1)) v589 Finset.univ (View.stores_vmem h_S1x128x128 (harg13.storeExact_slice rfl _ (k0_off121_packedbf16 k0_t8 1)) (fun _ => rfl)) (.inl rfl))
      pure ⟨⟩
    let c9_i32_89 : BitVec 32 := 9#32
    k ⟨⟩
theorem armK8_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond9 v8 = 1#1) (k : PUnit.{1} → Prog (TpuEff nD τ sig (Elt F) Λ₀ .tc) β) : armK8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 6#32) 10 5 false (hn8 v5 v8 k0_hw1 h) (by rfl) >>= k) := rfl

def armK9 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h10 : k0_cond10 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h10
    k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 v63 v68 v96 cst_37 v97
    let ⟨v175, c768_i32_64⟩ : Σ' (v175 : IVec S128x128 1), BitVec 32 ← k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 v63 v68
    let ⟨v215, cst_78⟩ : Σ' (v215 : IVec S128x128 1), F .f32 ← k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 v63 v68 v175 c768_i32_64
    let v252 : FVec F S128x128 .f32 ← k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 v63 v68 v215 cst_78
    have v255 : FVec F S128x128 .f32 := shapeCast S128x128 v252 shapeCasts_S128x128_S128x128
    Prog.lift (.store arg18 (Rect.unit (s := S2048x128) ![1280, 0] S128x128.size inb_S2048x128_S128x128_1280_0) v255 Finset.univ (View.stores_vmem_bits_univ h_S128x128 rfl) (.inl rfl))
    let c1408_i32 : BitVec 32 := 1408#32
    let v256 : BitVec 32 := Scalar.addi v61 c1408_i32
    let v257 : Index := Scalar.indexCast v256
    let c0_93 : Index := 0#32
    let v258 : Vec F S128x128 .f32 ← Prog.lift (.load arg15 (Rect.unit (s := S2048x128) (k0_off122 v5 1408#32) S128x128.size (k0_off122_inb v5 v8 k0_hw1 k0_h10 11)).toLoadRect (View.loadsAt_vmem h_S128x128))
    have v259 : FVec F S128x128 .f32 := broadcastTo S128x128 v63 broadcasts_S1x128_S128x128
    have v260 : IVec S128x128 1 := cmpf .oeq v258 v259
    let c1408_i32_94 : BitVec 32 := 1408#32
    let v261 : BitVec 32 := Scalar.addi v61 c1408_i32_94
    let v262 : Index := Scalar.indexCast v261
    let c0_95 : Index := 0#32
    let v263 : Vec F S128x128 .f32 ← Prog.lift (.load arg16 (Rect.unit (s := S2048x128) (k0_off122 v5 1408#32) S128x128.size (k0_off122_inb v5 v8 k0_hw1 k0_h10 11)).toLoadRect (View.loadsAt_vmem h_S128x128))
    have v264 : FVec F S128x128 .f32 := broadcastTo S128x128 v68 broadcasts_S1x128_S128x128
    have v265 : IVec S128x128 1 := cmpf .ole v263 v264
    have v266 : IVec S128x128 1 := andi v260 v265
    have cst_96 : F .f32 := Scalar.ofBits .f32 0x00000000#32
    have cst_97 : F .f32 := Scalar.ofBits .f32 0xFF800000#32
    have v267 : FVec F S128x128 .f32 := broadcast S128x128 cst_96
    have v268 : FVec F S128x128 .f32 := broadcast S128x128 cst_97
    have v269 : FVec F S128x128 .f32 := select v266 v267 v268
    let c1408 : Index := 1408#32
    let c0_98 : Index := 0#32
    let v270 : Vec F S128x128 .f32 ← Prog.lift (.load arg18 (Rect.unit (s := S2048x128) ![1408, 0] S128x128.size inb_S2048x128_S128x128_1408_0).toLoadRect (View.loadsAt_vmem h_S128x128))
    have v271 : FVec F S128x128 .f32 := shapeCast S128x128 v270 shapeCasts_S128x128_S128x128
    have v272 : FVec F S128x128 .f32 := shapeCast S128x128 v269 shapeCasts_S128x128_S128x128
    Prog.lift (.store arg18 (Rect.unit (s := S2048x128) ![1408, 0] S128x128.size inb_S2048x128_S128x128_1408_0) v272 Finset.univ (View.stores_vmem_bits_univ h_S128x128 rfl) (.inl rfl))
    let c0_i32_99 : BitVec 32 := 0#32
    let c9_i32 : BitVec 32 := 9#32
    let v273 : BitVec 32 := Scalar.addi c0_i32_99 c9_i32
    let c1_i32_100 : BitVec 32 := 1#32
    Scf.Loop.for k0_t9_loop k0_t9_ok ⟨⟩ fun k0_t9 _ => do
      let ⟨v274, v276, v277, v296, v301, v306, c4_i32_124⟩ : Σ' (v274 : BitVec 32) (v276 : BitVec 32) (v277 : BitVec 32) (v296 : FVec F S64x512 .fp8e4m3) (v301 : FVec F S1x128 .f32) (v306 : FVec F S1x128 .f32), BitVec 32 ← k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_99 c1_i32_100 k0_t9
      let ⟨v317, v338, v339, v340⟩ : Σ' (v317 : FVec F S1x512 .f32) (v338 : FVec F S1x512 .f32) (v339 : Vec F S1x512 .f32), BitVec 32 ← k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t9 v274 v276 v301 v306 c4_i32_124
      let ⟨v341, v342, v344, v360, v372, v382⟩ : Σ' (v341 : BitVec 32) (v342 : FVec F S8x512 .f32) (v344 : FVec F S64x512 .f32) (v360 : FVec F S256x512 .f32) (v372 : FVec F S8x512 .f32), FVec F S64x512 .f32 ← k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v340
      let ⟨v383, v390, v392, v406, v418, v423⟩ : Σ' (v383 : FVec F S64x512 .f32) (v390 : FVec F S8x512 .f32) (v392 : BitVec 32) (v406 : FVec F S256x512 .f32) (v418 : FVec F S8x512 .f32), FVec F S256x512 .fp8e4m3 ← k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v341 v342 v344 v360 v372 v382
      let ⟨v429, v436, v438, v452, v464, cst_202, v466⟩ : Σ' (v429 : FVec F S64x512 .f32) (v436 : FVec F S8x512 .f32) (v438 : BitVec 32) (v452 : FVec F S256x512 .f32) (v464 : FVec F S8x512 .f32) (cst_202 : F .f32), FVec F S256x512 .f32 ← k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v383 v390 v392 v406 v418 v423
      let ⟨v475, v482, v484, v498, v507, v509⟩ : Σ' (v475 : FVec F S64x512 .f32) (v482 : FVec F S8x512 .f32) (v484 : BitVec 32) (v498 : FVec F S256x512 .f32) (v507 : FVec F S256x512 .f32), FVec F S8x512 .f32 ← k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v341 v429 v436 v438 v452 cst_202 v466
      let ⟨v510, v521, v528, v530, v544, v550, v551⟩ : Σ' (v510 : FVec F S8x512 .f32) (v521 : FVec F S64x512 .f32) (v528 : FVec F S8x512 .f32) (v530 : BitVec 32) (v544 : FVec F S256x512 .f32) (v550 : FVec F S256x512 .f32), FVec F S256x512 .f32 ← k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v338 v339 v341 v464 v475 v482 v484 v498 v507 v509
      let ⟨v556, v567, v574, v576, v590⟩ : Σ' (v556 : FVec F S8x512 .f32) (v567 : FVec F S64x512 .f32) (v574 : FVec F S8x512 .f32) (v576 : BitVec 32), FVec F S256x512 .f32 ← k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 v61 k0_t9 v274 v277 v296 v341 v510 v521 v528 v530 v544 v550 v551
      let ⟨v635, v636⟩ : Σ' (v635 : FVec F S64x512 .bf16), FVec F S64x128 .bf16 ← k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h10 k0_t9 v277 v317 v338 v339 v341 v556 v567 v574 v576 v590
      have v637 : FVec F S64x128 .bf16 := extractStridedSlice S64x128 ![0, 128] v635 slices_S64x512_o0_128_S64x128
      have v638 : FVec F S128x128 .bf16 := concatenate S128x128 0 [⟨S64x128, v636⟩, ⟨S64x128, v637⟩] concatenates_S64x128_S64x128_S128x128_d0
      have v639 : FVec F S128x128 .bf16 := transpose S128x128 [1, 0] v638 transposes_S128x128_p1_0_S128x128
      let c256_i32_268 : BitVec 32 := 256#32
      let v640 : BitVec 32 := Scalar.muli v276 c256_i32_268
      let c0_i32_269 : BitVec 32 := 0#32
      let v641 : BitVec 32 := Scalar.addi v640 c0_i32_269
      let v642 : BitVec 32 := v641
      let c0_270 : Index := 0#32
      let v643 : Index := Scalar.indexCast v276
      let c0_271 : Index := 0#32
      let v644 : Vec F S1x1x128 .f32 ← Prog.lift (.load arg9 (Rect.unit (s := S1x8x128) (k0_off141 k0_t9) S1x1x128.size (k0_off141_inb k0_t9)).toLoadRect (View.loadsAt_vmem h_S1x1x128))
      have v645 : FVec F S1x128 .f32 := shapeCast S1x128 v644 shapeCasts_S1x1x128_S1x128
      have v646 : FVec F S1x128 .bf16 := truncf .bf16 v645 bitsLt_bf16_f32
      have v647 : FVec F S128x128 .bf16 := broadcastTo S128x128 v646 broadcasts_S1x128_S128x128
      have v648 : FVec F S128x128 .bf16 := mulf v639 v647
      let c0_272 : Index := 0#32
      let c0_273 : Index := 0#32
      let v649 : Index := Scalar.indexCast v642
      let v650 : Vec F S1x128x128 .bf16 ← Prog.lift (.load arg13 (Rect.unit (s := S1x128x2048) (k0_off142 k0_t9 0#32) S1x128x128.size (k0_off142_inb k0_t9 0)).toLoadRect (View.loadsAt_vmem h_S1x128x128))
      have v651 : FVec F S128x128 .bf16 := shapeCast S128x128 v650 shapeCasts_S1x128x128_S128x128
      have v652 : FVec F S1x128x128 .bf16 := shapeCast S1x128x128 v648 shapeCasts_S128x128_S1x128x128
      Prog.lift (.store arg13 (Rect.unit (s := S1x128x2048) (k0_off142 k0_t9 0#32) S1x128x128.size (k0_off142_inb k0_t9 0)) v652 Finset.univ (View.stores_vmem h_S1x128x128 (harg13.storeExact_slice rfl _ (k0_off142_packedbf16 k0_t9 0)) (fun _ => rfl)) (.inl rfl))
      have v653 : FVec F S64x128 .bf16 := extractStridedSlice S64x128 ![0, 256] v635 slices_S64x512_o0_256_S64x128
      have v654 : FVec F S64x128 .bf16 := extractStridedSlice S64x128 ![0, 384] v635 slices_S64x512_o0_384_S64x128
      have v655 : FVec F S128x128 .bf16 := concatenate S128x128 0 [⟨S64x128, v653⟩, ⟨S64x128, v654⟩] concatenates_S64x128_S64x128_S128x128_d0
      have v656 : FVec F S128x128 .bf16 := transpose S128x128 [1, 0] v655 transposes_S128x128_p1_0_S128x128
      let c256_i32_274 : BitVec 32 := 256#32
      let v657 : BitVec 32 := Scalar.muli v276 c256_i32_274
      let c128_i32_275 : BitVec 32 := 128#32
      let v658 : BitVec 32 := Scalar.addi v657 c128_i32_275
      let v659 : BitVec 32 := v658
      let c0_276 : Index := 0#32
      let v660 : Index := Scalar.indexCast v276
      let c0_277 : Index := 0#32
      let v661 : Vec F S1x1x128 .f32 ← Prog.lift (.load arg9 (Rect.unit (s := S1x8x128) (k0_off141 k0_t9) S1x1x128.size (k0_off141_inb k0_t9)).toLoadRect (View.loadsAt_vmem h_S1x1x128))
      have v662 : FVec F S1x128 .f32 := shapeCast S1x128 v661 shapeCasts_S1x1x128_S1x128
      have v663 : FVec F S1x128 .bf16 := truncf .bf16 v662 bitsLt_bf16_f32
      have v664 : FVec F S128x128 .bf16 := broadcastTo S128x128 v663 broadcasts_S1x128_S128x128
      have v665 : FVec F S128x128 .bf16 := mulf v656 v664
      let c0_278 : Index := 0#32
      let c0_279 : Index := 0#32
      let v666 : Index := Scalar.indexCast v659
      let v667 : Vec F S1x128x128 .bf16 ← Prog.lift (.load arg13 (Rect.unit (s := S1x128x2048) (k0_off142 k0_t9 128#32) S1x128x128.size (k0_off142_inb k0_t9 1)).toLoadRect (View.loadsAt_vmem h_S1x128x128))
      have v668 : FVec F S128x128 .bf16 := shapeCast S128x128 v667 shapeCasts_S1x128x128_S128x128
      have v669 : FVec F S1x128x128 .bf16 := shapeCast S1x128x128 v665 shapeCasts_S128x128_S1x128x128
      Prog.lift (.store arg13 (Rect.unit (s := S1x128x2048) (k0_off142 k0_t9 128#32) S1x128x128.size (k0_off142_inb k0_t9 1)) v669 Finset.univ (View.stores_vmem h_S1x128x128 (harg13.storeExact_slice rfl _ (k0_off142_packedbf16 k0_t9 1)) (fun _ => rfl)) (.inl rfl))
      pure ⟨⟩
    let c9_i32_101 : BitVec 32 := 9#32
    k ⟨⟩
theorem armK9_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond10 v8 = 1#1) (k : PUnit.{1} → Prog (TpuEff nD τ sig (Elt F) Λ₀ .tc) β) : armK9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 4#32) 12 6 false (hn9 v5 v8 k0_hw1 h) (by rfl) >>= k) := rfl

def armK10 {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (arg1 : BitVec 32) (v5 v8 : BitVec 32) (k0_hw1 : k0_chk1 v5 v8) (k0_h11 : k0_cond11 v8 = 1#1) (k : PUnit.{1} → Prog (TpuEff nD τ sig (Elt F) Λ₀ .tc) β) : Prog (TpuEff nD τ sig (Elt F) Λ₀ .tc) β := do
    let ⟨v61, v63, v68, v96, cst_37, v97⟩ : Σ' (v61 : BitVec 32) (v63 : FVec F S1x128 .f32) (v68 : FVec F S1x128 .f32) (v96 : IVec S128x128 1) (cst_37 : F .f32), FVec F S128x128 .f32 ← k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 k0_h11
    k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v96 cst_37 v97
    let ⟨v175, c768_i32_64⟩ : Σ' (v175 : IVec S128x128 1), BitVec 32 ← k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68
    let ⟨v215, cst_78⟩ : Σ' (v215 : IVec S128x128 1), F .f32 ← k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v175 c768_i32_64
    let v252 : FVec F S128x128 .f32 ← k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v215 cst_78
    let ⟨v292, v293⟩ : Σ' (v292 : Vec F S128x128 .f32), FVec F S128x128 .f32 ← k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v252
    let ⟨v328, v333⟩ : Σ' (v328 : IVec S128x128 1), IVec S128x128 1 ← k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 v63 v68 v292 v293
    have v334 : IVec S128x128 1 := andi v328 v333
    have cst_120 : F .f32 := Scalar.ofBits .f32 0x00000000#32
    have cst_121 : F .f32 := Scalar.ofBits .f32 0xFF800000#32
    have v335 : FVec F S128x128 .f32 := broadcast S128x128 cst_120
    have v336 : FVec F S128x128 .f32 := broadcast S128x128 cst_121
    have v337 : FVec F S128x128 .f32 := select v334 v335 v336
    let c1920 : Index := 1920#32
    let c0_122 : Index := 0#32
    let v338 : Vec F S128x128 .f32 ← Prog.lift (.load arg18 (Rect.unit (s := S2048x128) ![1920, 0] S128x128.size inb_S2048x128_S128x128_1920_0).toLoadRect (View.loadsAt_vmem h_S128x128))
    have v339 : FVec F S128x128 .f32 := shapeCast S128x128 v338 shapeCasts_S128x128_S128x128
    have v340 : FVec F S128x128 .f32 := shapeCast S128x128 v337 shapeCasts_S128x128_S128x128
    Prog.lift (.store arg18 (Rect.unit (s := S2048x128) ![1920, 0] S128x128.size inb_S2048x128_S128x128_1920_0) v340 Finset.univ (View.stores_vmem_bits_univ h_S128x128 rfl) (.inl rfl))
    let c0_i32_123 : BitVec 32 := 0#32
    let c9_i32 : BitVec 32 := 9#32
    let v341 : BitVec 32 := Scalar.addi c0_i32_123 c9_i32
    let c1_i32_124 : BitVec 32 := 1#32
    Scf.Loop.for k0_t10_loop k0_t10_ok ⟨⟩ fun k0_t10 _ => do
      let ⟨v816, v819, v824⟩ : Σ' (v816 : FVec F S128x128 .bf16) (v819 : BitVec 32), FVec F S128x128 .bf16 ← k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 k0_hw1 k0_h11 v61 c0_i32_123 c1_i32_124 k0_t10
      have v825 : FVec F S128x128 .bf16 := mulf v816 v824
      let c0_338 : Index := 0#32
      let c0_339 : Index := 0#32
      let v826 : Index := Scalar.indexCast v819
      let v827 : Vec F S1x128x128 .bf16 ← Prog.lift (.load arg13 (Rect.unit (s := S1x128x2048) (k0_off167 k0_t10 128#32) S1x128x128.size (k0_off167_inb k0_t10 1)).toLoadRect (View.loadsAt_vmem h_S1x128x128))
      have v828 : FVec F S128x128 .bf16 := shapeCast S128x128 v827 shapeCasts_S1x128x128_S128x128
      have v829 : FVec F S1x128x128 .bf16 := shapeCast S1x128x128 v825 shapeCasts_S128x128_S1x128x128
      Prog.lift (.store arg13 (Rect.unit (s := S1x128x2048) (k0_off167 k0_t10 128#32) S1x128x128.size (k0_off167_inb k0_t10 1)) v829 Finset.univ (View.stores_vmem h_S1x128x128 (harg13.storeExact_slice rfl _ (k0_off167_packedbf16 k0_t10 1)) (fun _ => rfl)) (.inl rfl))
      pure ⟨⟩
    let c9_i32_125 : BitVec 32 := 9#32
    k ⟨⟩
theorem armK10_eq {β : Type} (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond11 v8 = 1#1) (k : PUnit.{1} → Prog (TpuEff nD τ sig (Elt F) Λ₀ .tc) β) : armK10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h k =
  (armP i arg4 arg5 arg6 arg8 arg9 arg10 arg13 harg13 arg14 arg15 arg16 arg17 arg18 arg19 (k0At v5 0#32) 16 8 false (hn10 v5 v8 k0_hw1 h) (by rfl) >>= k) := rfl

def bodyKA (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : Prog (TpuEff nD τ sig (Elt F) Λ₀ .tc) (Σ' (arg1 : BitVec 32) (v5 : Elt F .i32) (v8 : Elt F .i32), k0_chk1 v5 v8) :=
  have jp : PUnit.{1} → Prog (TpuEff nD τ sig (Elt F) Λ₀ .tc) (Σ' (arg1 : BitVec 32) (v5 : Elt F .i32) (v8 : Elt F .i32), k0_chk1 v5 v8) := fun _ =>
    smemLoad arg2 (Rect.unit (s := S8x16) (k0_off1 i) S1x1.size (k0_off1_inb i)) numel1_S1x1 rfl >>= fun (v5 : Elt F .i32) =>
    smemLoad arg3 (Rect.unit (s := S8x16) (k0_off1 i) S1x1.size (k0_off1_inb i)) numel1_S1x1 rfl >>= fun (v8 : Elt F .i32) =>
    Prog.lift (TpuEff.assume (k0_chk1 v5 v8) (k0_chk1.dec v5 v8)) >>= fun w =>
    have k0_hw1 : k0_chk1 v5 v8 := w.down
  have jp : PUnit.{1} → Prog (TpuEff nD τ sig (Elt F) Λ₀ .tc) (Σ' (arg1 : BitVec 32) (v5 : Elt F .i32) (v8 : Elt F .i32), k0_chk1 v5 v8) := fun _ =>
  have jp : PUnit.{1} → Prog (TpuEff nD τ sig (Elt F) Λ₀ .tc) (Σ' (arg1 : BitVec 32) (v5 : Elt F .i32) (v8 : Elt F .i32), k0_chk1 v5 v8) := fun _ =>
  have jp : PUnit.{1} → Prog (TpuEff nD τ sig (Elt F) Λ₀ .tc) (Σ' (arg1 : BitVec 32) (v5 : Elt F .i32) (v8 : Elt F .i32), k0_chk1 v5 v8) := fun _ =>
  have jp : PUnit.{1} → Prog (TpuEff nD τ sig (Elt F) Λ₀ .tc) (Σ' (arg1 : BitVec 32) (v5 : Elt F .i32) (v8 : Elt F .i32), k0_chk1 v5 v8) := fun _ =>
  have jp : PUnit.{1} → Prog (TpuEff nD τ sig (Elt F) Λ₀ .tc) (Σ' (arg1 : BitVec 32) (v5 : Elt F .i32) (v8 : Elt F .i32), k0_chk1 v5 v8) := fun _ =>
  pure ⟨BitVec.ofNat 32 (i 1).val, v5, v8, k0_hw1⟩
  if h : k0_cond6 v8 = 1#1 then armK5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : k0_cond5 v8 = 1#1 then armK4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : k0_cond4 v8 = 1#1 then armK3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : k0_cond3 v8 = 1#1 then armK2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : k0_cond2 v8 = 1#1 then armK1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h jp else jp ⟨⟩
  if h : Scalar.cmpi .ne (Scalar.extui (Scalar.cmpi .eq (BitVec.ofNat 32 (i 1).val) 0#32) : BitVec 32) 0#32 = 1#1 then initK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 jp else jp ⟨⟩
theorem part151_eq (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = bodyKA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := rfl

def bodyK (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : Prog (TpuEff nD τ sig (Elt F) Λ₀ .tc) PUnit :=
  bodyKA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun x => match x with
  | ⟨arg1, v5, v8, k0_hw1⟩ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  pure ⟨⟩
  if h : k0_cond11 v8 = 1#1 then armK10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond10 v8 = 1#1 then armK9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond9 v8 = 1#1 then armK8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond8 v8 = 1#1 then armK7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond7 v8 = 1#1 then (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h >>= jp) else jp ⟨⟩
theorem body_eq (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = bodyK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := rfl

theorem armK6_eq (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (k0_hw1 : k0_chk1 v5 v8) (h : k0_cond7 v8 = 1#1) : k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 k0_hw1 h =
  (armP i arg4 arg5 arg6 arg8 arg9 arg10 arg13 harg13 arg14 arg15 arg16 arg17 arg18 arg19 (k0At v5 10#32) 6 3 false (hn6 v5 v8 k0_hw1 h) (by rfl) >>= fun _ => pure ⟨⟩) := rfl

end Cert.KernelIdeal.Attn
-- ==== Proof.KernelIdeal.Run.lean ====
/-
  THE BODY RUNS: at a grid point the body copies the batch's scales, segments and positions at the batch's first block,
  reads the two words of the tables, and runs the arm (or arms) whose condition holds.  The buffers after it are a
  function of the blocks and of the buffers before.
-/
module

public import proofs.«01_k».proof.Proof.KernelIdeal.Fill
public import proofs.«01_k».proof.Proof.KernelIdeal.Arms

@[expose] public section

set_option maxRecDepth 65536
set_option cleanup.letToHave false

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F]

local notation "𝕄" => MT nD τ sig Unit (Elt F) ℕ (UR sig nD τ) ℕ

/-- The blocks of a grid point. -/
structure Blk (F : FTy → Type) [FloatOps F] [Named F] where
  q : S1x2048x128.Idx → Elt F .fp8e4m3
  qs : S1x32x128.Idx → Elt F .f32
  k : S1x8x2048x64.Idx → Elt F .fp8e4m3
  ks : S1x8x2048.Idx → Elt F .f32
  v : S1x512x2048.Idx → Elt F .fp8e4m3
  vs : S1x8x128.Idx → Elt F .f32
  segq : S1x1x128.Idx → Elt F .f32
  segk : S1x1x2048.Idx → Elt F .f32
  posk : S1x1x2048.Idx → Elt F .f32

/-- The copies of a batch: the scales, the segments and the positions, down the columns. -/
structure Cp (F : FTy → Type) [FloatOps F] [Named F] where
  k : S8x2048x128.Idx → Elt F .f32
  s : S2048x128.Idx → Elt F .f32
  p : S2048x128.Idx → Elt F .f32

/-- The buffers an arm rewrites: scores, maxima, mask, output block. -/
structure Sc (F : FTy → Type) [FloatOps F] [Named F] where
  s : S2x2048x512.Idx → Elt F .f32
  m : S8x512.Idx → Elt F .f32
  b : S2048x128.Idx → Elt F .f32
  o : S1x128x2048.Idx → Elt F .bf16

/-- The copies of the blocks `B`. -/
def cpOf (B : Blk F) : Cp F := ⟨ksT B.ks, colT B.segk, colT B.posk⟩

/-- What the head loop of an arm reads. -/
def envOf (B : Blk F) (C : Cp F) (b : S2048x128.Idx → Elt F .f32) : Env F := ⟨B.q, B.qs, B.k, B.v, B.vs, C.k, b⟩

/-- The mask an arm writes. -/
def maskOf (i : grid0.Coords) (B : Blk F) (C : Cp F) (k0 n : ℕ) (hn : k0 + n ≤ 2048) (b : S2048x128.Idx → Elt F .f32) : S2048x128.Idx → Elt F .f32 :=
  biasT i (VecWindow.window B.segq (![0, 0, 0] : Fin 3 → ℕ) S1x1x128.size inb_S1x1x128_S1x1x128_0_0_0) C.s C.p k0 n hn b

/-- An arm's window of `128 * nb` keys from key `k0` on. -/
def armF (i : grid0.Coords) (B : Blk F) (C : Cp F) (k0 nb m : ℕ) (o : Bool) (hn : k0 + 128 * nb ≤ 2048) (h : 128 * nb = 256 * m + cond o 128 0) (X : Sc F) : Sc F :=
  let b := maskOf i B C k0 (128 * nb) hn X.b
  let M := loopF (envOf B C b) k0 (128 * nb) hn m o h ⟨X.s, X.m, X.o⟩ 9
  ⟨M.s, M.m, b, M.o⟩

/-- Arm 1, where its condition holds. -/
def st1 (i : grid0.Coords) (B : Blk F) (C : Cp F) (v5 v8 : BitVec 32) (hw : k0_chk1 v5 v8) (X : Sc F) : Sc F :=
  if h : k0_cond2 v8 = 1#1 then armF i B C (k0At v5 15#32).toNat 1 0 true (hn1 v5 v8 hw h) (by rfl) X else X

/-- Arm 2, where its condition holds. -/
def st2 (i : grid0.Coords) (B : Blk F) (C : Cp F) (v5 v8 : BitVec 32) (hw : k0_chk1 v5 v8) (X : Sc F) : Sc F :=
  if h : k0_cond3 v8 = 1#1 then armF i B C (k0At v5 14#32).toNat 2 1 false (hn2 v5 v8 hw h) (by rfl) X else X

/-- Arm 3, where its condition holds. -/
def st3 (i : grid0.Coords) (B : Blk F) (C : Cp F) (v5 v8 : BitVec 32) (hw : k0_chk1 v5 v8) (X : Sc F) : Sc F :=
  if h : k0_cond4 v8 = 1#1 then armF i B C (k0At v5 13#32).toNat 3 1 true (hn3 v5 v8 hw h) (by rfl) X else X

/-- Arm 4, where its condition holds. -/
def st4 (i : grid0.Coords) (B : Blk F) (C : Cp F) (v5 v8 : BitVec 32) (hw : k0_chk1 v5 v8) (X : Sc F) : Sc F :=
  if h : k0_cond5 v8 = 1#1 then armF i B C (k0At v5 12#32).toNat 4 2 false (hn4 v5 v8 hw h) (by rfl) X else X

/-- Arm 5, where its condition holds. -/
def st5 (i : grid0.Coords) (B : Blk F) (C : Cp F) (v5 v8 : BitVec 32) (hw : k0_chk1 v5 v8) (X : Sc F) : Sc F :=
  if h : k0_cond6 v8 = 1#1 then armF i B C (k0At v5 11#32).toNat 5 2 true (hn5 v5 v8 hw h) (by rfl) X else X

/-- Arm 6, where its condition holds. -/
def st6 (i : grid0.Coords) (B : Blk F) (C : Cp F) (v5 v8 : BitVec 32) (hw : k0_chk1 v5 v8) (X : Sc F) : Sc F :=
  if h : k0_cond7 v8 = 1#1 then armF i B C (k0At v5 10#32).toNat 6 3 false (hn6 v5 v8 hw h) (by rfl) X else X

/-- Arm 7, where its condition holds. -/
def st7 (i : grid0.Coords) (B : Blk F) (C : Cp F) (v5 v8 : BitVec 32) (hw : k0_chk1 v5 v8) (X : Sc F) : Sc F :=
  if h : k0_cond8 v8 = 1#1 then armF i B C (k0At v5 8#32).toNat 8 4 false (hn7 v5 v8 hw h) (by rfl) X else X

/-- Arm 8, where its condition holds. -/
def st8 (i : grid0.Coords) (B : Blk F) (C : Cp F) (v5 v8 : BitVec 32) (hw : k0_chk1 v5 v8) (X : Sc F) : Sc F :=
  if h : k0_cond9 v8 = 1#1 then armF i B C (k0At v5 6#32).toNat 10 5 false (hn8 v5 v8 hw h) (by rfl) X else X

/-- Arm 9, where its condition holds. -/
def st9 (i : grid0.Coords) (B : Blk F) (C : Cp F) (v5 v8 : BitVec 32) (hw : k0_chk1 v5 v8) (X : Sc F) : Sc F :=
  if h : k0_cond10 v8 = 1#1 then armF i B C (k0At v5 4#32).toNat 12 6 false (hn9 v5 v8 hw h) (by rfl) X else X

/-- Arm 10, where its condition holds. -/
def st10 (i : grid0.Coords) (B : Blk F) (C : Cp F) (v5 v8 : BitVec 32) (hw : k0_chk1 v5 v8) (X : Sc F) : Sc F :=
  if h : k0_cond11 v8 = 1#1 then armF i B C (k0At v5 0#32).toNat 16 8 false (hn10 v5 v8 hw h) (by rfl) X else X

/-- The copies after the body's first part. -/
def initF (i : grid0.Coords) (B : Blk F) (C : Cp F) : Cp F :=
  if Scalar.cmpi .ne (Scalar.extui (Scalar.cmpi .eq (BitVec.ofNat 32 (i 1).val) 0#32) : BitVec 32) 0#32 = 1#1 then cpOf B else C

/-- The buffers after the first five arms, and after all ten. -/
def halfF (i : grid0.Coords) (B : Blk F) (C : Cp F) (v5 v8 : BitVec 32) (hw : k0_chk1 v5 v8) (X : Sc F) : Sc F := st5 i B C v5 v8 hw (st4 i B C v5 v8 hw (st3 i B C v5 v8 hw (st2 i B C v5 v8 hw (st1 i B C v5 v8 hw (X)))))
def restF (i : grid0.Coords) (B : Blk F) (C : Cp F) (v5 v8 : BitVec 32) (hw : k0_chk1 v5 v8) (X : Sc F) : Sc F := st10 i B C v5 v8 hw (st9 i B C v5 v8 hw (st8 i B C v5 v8 hw (st7 i B C v5 v8 hw (st6 i B C v5 v8 hw (X)))))
def bodyF (i : grid0.Coords) (B : Blk F) (C : Cp F) (v5 v8 : BitVec 32) (hw : k0_chk1 v5 v8) (X : Sc F) : Sc F := restF i B C v5 v8 hw (halfF i B C v5 v8 hw X)

section
variable (c : Dev nD) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole)

/-- The blocks and the copies, held. -/
def RoB (arg4 : Memref sig .tc .vmem S1x2048x128 .fp8e4m3) (arg5 : Memref sig .tc .vmem S1x32x128 .f32) (arg6 : Memref sig .tc .vmem S1x8x2048x64 .fp8e4m3) (arg7 : Memref sig .tc .vmem S1x8x2048 .f32) (arg8 : Memref sig .tc .vmem S1x512x2048 .fp8e4m3) (arg9 : Memref sig .tc .vmem S1x8x128 .f32) (arg10 : Memref sig .tc .vmem S1x1x128 .f32) (arg11 : Memref sig .tc .vmem S1x1x2048 .f32) (arg12 : Memref sig .tc .vmem S1x1x2048 .f32) (arg14 : Memref sig .tc .vmem S8x2048x128 .f32) (arg15 : Memref sig .tc .vmem S2048x128 .f32) (arg16 : Memref sig .tc .vmem S2048x128 .f32) (B : Blk F) (C : Cp F) : sProp 𝕄 :=
  iprop(own c arg4 B.q ∗ own c arg5 B.qs ∗ own c arg6 B.k ∗ own c arg7 B.ks ∗ own c arg8 B.v ∗ own c arg9 B.vs ∗ own c arg10 B.segq ∗ own c arg11 B.segk ∗ own c arg12 B.posk ∗ own c arg14 C.k ∗ own c arg15 C.s ∗ own c arg16 C.p)
/-- The rewritten buffers, held. -/
def RwB (arg13 : Memref sig .tc .vmem S1x128x2048 .bf16) (arg17 : Memref sig .tc .vmem S2x2048x512 .f32) (arg18 : Memref sig .tc .vmem S2048x128 .f32) (arg19 : Memref sig .tc .vmem S8x512 .f32) (X : Sc F) : sProp 𝕄 :=
  iprop(own c arg17 X.s ∗ own c arg19 X.m ∗ own c arg18 X.b ∗ own c arg13 X.o)

/-- A program takes the rewritten buffers through `f` and returns `r`. -/
def A (B : Blk F) (C : Cp F) {α : Type} (p : Prog (TpuEff nD τ sig (Elt F) Λ₀ .tc) α) (f : Sc F → Sc F) (r : α) : Prop :=
  ∀ (X : Sc F) (Q : α → sProp 𝕄),
    iprop(RoB c arg4 arg5 arg6 arg7 arg8 arg9 arg10 arg11 arg12 arg14 arg15 arg16 B C ∗ RwB c arg13 arg17 arg18 arg19 X
      ∗ (RoB c arg4 arg5 arg6 arg7 arg8 arg9 arg10 arg11 arg12 arg14 arg15 arg16 B C -∗ RwB c arg13 arg17 arg18 arg19 (f X) -∗ Q r)) ⊢ wpK c p Q

variable (B : Blk F) (C : Cp F)

theorem A_ret {α : Type} (r : α) : A c arg4 arg5 arg6 arg7 arg8 arg9 arg10 arg11 arg12 arg13 arg14 arg15 arg16 arg17 arg18 arg19 B C (.ret r) (fun X => X) r := fun X Q => by
  iintro ⟨H1, H2, Hk⟩
  rw [show wpK c (.ret r : Prog (TpuEff nD τ sig (Elt F) Λ₀ .tc) α) Q = _ from wp_ret _ _ _ _ _]
  imodintro
  iapply Hk $$ H1 H2

theorem A_bind {α : Type} {p : Prog (TpuEff nD τ sig (Elt F) Λ₀ .tc) Unit} {jp : Unit → Prog (TpuEff nD τ sig (Elt F) Λ₀ .tc) α} {f g : Sc F → Sc F} {r : α}
    (hp : A c arg4 arg5 arg6 arg7 arg8 arg9 arg10 arg11 arg12 arg13 arg14 arg15 arg16 arg17 arg18 arg19 B C p f ⟨⟩) (hj : A c arg4 arg5 arg6 arg7 arg8 arg9 arg10 arg11 arg12 arg13 arg14 arg15 arg16 arg17 arg18 arg19 B C (jp ⟨⟩) g r) : A c arg4 arg5 arg6 arg7 arg8 arg9 arg10 arg11 arg12 arg13 arg14 arg15 arg16 arg17 arg18 arg19 B C (p >>= jp) (fun X => g (f X)) r := fun X Q => by
  refine BIBase.Entails.trans ?_ ((hp X (fun a => wpK c (jp a) Q)).trans (BIBase.Entails.of_eq (wp_bind _ _ _ _ _ _).symm))
  iintro ⟨H1, H2, Hk⟩
  isplitl [H1]; · iexact H1
  isplitl [H2]; · iexact H2
  iintro H1 H2
  iapply (hj (f X) Q)
  isplitl [H1]; · iexact H1
  isplitl [H2]; · iexact H2
  iexact Hk

theorem A_dite {α : Type} {cnd : Prop} [Decidable cnd] {p : cnd → Prog (TpuEff nD τ sig (Elt F) Λ₀ .tc) α} {q : Prog (TpuEff nD τ sig (Elt F) Λ₀ .tc) α}
    {f : cnd → Sc F → Sc F} {g : Sc F → Sc F} {r : α} (hp : ∀ h, A c arg4 arg5 arg6 arg7 arg8 arg9 arg10 arg11 arg12 arg13 arg14 arg15 arg16 arg17 arg18 arg19 B C (p h) (fun X => g (f h X)) r) (hq : A c arg4 arg5 arg6 arg7 arg8 arg9 arg10 arg11 arg12 arg13 arg14 arg15 arg16 arg17 arg18 arg19 B C q g r) :
    A c arg4 arg5 arg6 arg7 arg8 arg9 arg10 arg11 arg12 arg13 arg14 arg15 arg16 arg17 arg18 arg19 B C (if h : cnd then p h else q) (fun X => g (if h : cnd then f h X else X)) r := by
  by_cases h : cnd
  · simp only [dif_pos h]; exact hp h
  · simp only [dif_neg h]; exact hq

theorem A_congr {α : Type} {p p' : Prog (TpuEff nD τ sig (Elt F) Λ₀ .tc) α} {f : Sc F → Sc F} {r : α} (e : p = p') (h : A c arg4 arg5 arg6 arg7 arg8 arg9 arg10 arg11 arg12 arg13 arg14 arg15 arg16 arg17 arg18 arg19 B C p' f r) : A c arg4 arg5 arg6 arg7 arg8 arg9 arg10 arg11 arg12 arg13 arg14 arg15 arg16 arg17 arg18 arg19 B C p f r := e ▸ h

theorem arm_A (i : grid0.Coords) (k0w : BitVec 32) (nb m : ℕ) (o : Bool) (hn : k0w.toNat + 128 * nb ≤ 2048) (h : 128 * nb = 256 * m + cond o 128 0) :
    A c arg4 arg5 arg6 arg7 arg8 arg9 arg10 arg11 arg12 arg13 arg14 arg15 arg16 arg17 arg18 arg19 B C (armP i arg4 arg5 arg6 arg8 arg9 arg10 arg13 harg13 arg14 arg15 arg16 arg17 arg18 arg19 k0w nb m o hn h) (armF i B C k0w.toNat nb m o hn h) ⟨⟩ := fun X Q => by
  unfold armP RoB RwB
  iintro ⟨⟨H4, H5, H6, H7, H8, H9, H10, H11, H12, H14, H15, H16⟩, ⟨H17, H19, H18, H13⟩, Hk⟩
  iapply own_load $$ H10; iintro H10
  have p : 128 * (0 + nb) ≤ 128 * nb := by omega
  have p' : 128 * (0 + nb) = 128 * nb := by omega
  have p2 : ∀ y : S2048x128.Idx, (y 0).val < 128 * 0 → X.b y = maskOf i B C k0w.toNat (128 * nb) hn X.b y := fun y hy => absurd hy (by omega)
  have p3 : ∀ y : S2048x128.Idx, ¬ (y 0).val < 128 * 0 → X.b y = X.b y := fun y hy => rfl
  iapply (biasChunks_wp c i arg15 arg16 arg18 k0w (128 * nb) hn _ _ Q C.s C.p X.b nb 0 p p' X.b p2 p3)
  isplitl [H15]; · iexact H15
  isplitl [H16]; · iexact H16
  isplitl [H18]; · iexact H18
  iintro H15 H16 H18
  iapply (loop_wp c arg4 arg5 arg6 arg8 arg9 arg13 harg13 arg14 arg17 arg18 arg19 (envOf B C (maskOf i B C k0w.toNat (128 * nb) hn X.b)) k0w m o (128 * nb) hn h ⟨X.s, X.m, X.o⟩ Q)
  unfold Ro Rw
  isplitl [H4 H5 H6 H8 H9 H14 H18]
  · isplitl [H4]; · iexact H4
    isplitl [H5]; · iexact H5
    isplitl [H6]; · iexact H6
    isplitl [H8]; · iexact H8
    isplitl [H9]; · iexact H9
    isplitl [H14]; · iexact H14
    iexact H18
  isplitl [H17 H19 H13]
  · isplitl [H17]; · iexact H17
    isplitl [H19]; · iexact H19
    iexact H13
  iintro ⟨H4, H5, H6, H8, H9, H14, H18⟩ ⟨H17, H19, H13⟩
  iapply Hk $$ [H4 H5 H6 H7 H8 H9 H10 H11 H12 H14 H15 H16] [H17 H18 H19 H13]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H15]; · iexact H15
    iexact H16
  · isplitl [H17]; · iexact H17
    isplitl [H19]; · iexact H19
    isplitl [H18]; · iexact H18
    iexact H13

/-- After arm 10. -/
def J10 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ => pure ⟨⟩
/-- After arm 9. -/
def J9 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond11 v8 = 1#1 then armK10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (J10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 8. -/
def J8 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond10 v8 = 1#1 then armK9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (J9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 7. -/
def J7 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond9 v8 = 1#1 then armK8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (J8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 6. -/
def J6 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond8 v8 = 1#1 then armK7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (J7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 5. -/
def J5 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) PUnit := fun _ =>
  if h : k0_cond7 v8 = 1#1 then (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h >>= J6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else J6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 5. -/
def H5 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ => pure ⟨BitVec.ofNat 32 (i 1).val, v5, v8, hw⟩
/-- After arm 4. -/
def H4 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond6 v8 = 1#1 then armK5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 3. -/
def H3 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond5 v8 = 1#1 then armK4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 2. -/
def H2 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond4 v8 = 1#1 then armK3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 1. -/
def H1 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond3 v8 = 1#1 then armK2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After arm 0. -/
def H0 (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) (v5 v8 : BitVec 32) (hw : k0_chk1 v5 v8) : PUnit.{1} → Prog (TpuEff nD τ sig (Elt F) Λ₀ .tc) (Σ' (arg1 : BitVec 32) (v5 : Elt F .i32) (v8 : Elt F .i32), k0_chk1 v5 v8) := fun _ =>
  if h : k0_cond2 v8 = 1#1 then armK1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v5 v8 hw h (H1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) else H1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩
/-- After the copies. -/
def HI (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : PUnit.{1} → Prog (TpuEff nD τ sig (Elt F) Λ₀ .tc) (Σ' (arg1 : BitVec 32) (v5 : Elt F .i32) (v8 : Elt F .i32), k0_chk1 v5 v8) := fun _ =>
  smemLoad arg2 (Rect.unit (s := S8x16) (k0_off1 i) S1x1.size (k0_off1_inb i)) numel1_S1x1 rfl >>= fun (v5 : Elt F .i32) =>
  smemLoad arg3 (Rect.unit (s := S8x16) (k0_off1 i) S1x1.size (k0_off1_inb i)) numel1_S1x1 rfl >>= fun (v8 : Elt F .i32) =>
  Prog.lift (TpuEff.assume (k0_chk1 v5 v8) (k0_chk1.dec v5 v8)) >>= fun w => H0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 w.down ⟨⟩

theorem half_eq (i : grid0.Coords) : bodyKA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
    if Scalar.cmpi .ne (Scalar.extui (Scalar.cmpi .eq (BitVec.ofNat 32 (i 1).val) 0#32) : BitVec 32) 0#32 = 1#1 then initK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (HI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) else HI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ⟨⟩ := rfl

/-- What follows the first five arms. -/
def restK (i : grid0.Coords) (arg2 : Memref sig .tc .smem S8x16 .i32) (harg2 : arg2.IsWhole) (arg3 : Memref sig .tc .smem S8x16 .i32) (harg3 : arg3.IsWhole) (arg4 : Memref sig .tc .vmem S1x2048x128 .fp8e4m3) (harg4 : arg4.IsWhole) (arg5 : Memref sig .tc .vmem S1x32x128 .f32) (harg5 : arg5.IsWhole) (arg6 : Memref sig .tc .vmem S1x8x2048x64 .fp8e4m3) (harg6 : arg6.IsWhole) (arg7 : Memref sig .tc .vmem S1x8x2048 .f32) (harg7 : arg7.IsWhole) (arg8 : Memref sig .tc .vmem S1x512x2048 .fp8e4m3) (harg8 : arg8.IsWhole) (arg9 : Memref sig .tc .vmem S1x8x128 .f32) (harg9 : arg9.IsWhole) (arg10 : Memref sig .tc .vmem S1x1x128 .f32) (harg10 : arg10.IsWhole) (arg11 : Memref sig .tc .vmem S1x1x2048 .f32) (harg11 : arg11.IsWhole) (arg12 : Memref sig .tc .vmem S1x1x2048 .f32) (harg12 : arg12.IsWhole) (arg13 : Memref sig .tc .vmem S1x128x2048 .bf16) (harg13 : arg13.IsWhole) (arg14 : Memref sig .tc .vmem S8x2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2x2048x512 .f32) (harg17 : arg17.IsWhole) (arg18 : Memref sig .tc .vmem S2048x128 .f32) (harg18 : arg18.IsWhole) (arg19 : Memref sig .tc .vmem S8x512 .f32) (harg19 : arg19.IsWhole) : (Σ' (arg1 : BitVec 32) (v5 : Elt F .i32) (v8 : Elt F .i32), k0_chk1 v5 v8) → Prog (TpuEff nD τ sig (Elt F) Λ₀ .tc) PUnit := fun x => match x with
  | ⟨arg1, v5, v8, k0_hw1⟩ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  have jp : PUnit.{1} → Prog (TpuEff nD τ sig (Elt F) Λ₀ .tc) PUnit := fun _ =>
  pure ⟨⟩
  if h : k0_cond11 v8 = 1#1 then armK10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond10 v8 = 1#1 then armK9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond9 v8 = 1#1 then armK8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond8 v8 = 1#1 then armK7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h jp else jp ⟨⟩
  if h : k0_cond7 v8 = 1#1 then (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v5 v8 k0_hw1 h >>= jp) else jp ⟨⟩

theorem whole_eq (i : grid0.Coords) : bodyK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (bodyKA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= restK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := rfl
theorem restK_eq (i : grid0.Coords) (v5 v8 : BitVec 32) (hw : k0_chk1 v5 v8) : restK (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ⟨BitVec.ofNat 32 (i 1).val, v5, v8, hw⟩ = J5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩ := rfl

theorem J_A (i : grid0.Coords) (v5 v8 : BitVec 32) (hw : k0_chk1 v5 v8) :
    A c arg4 arg5 arg6 arg7 arg8 arg9 arg10 arg11 arg12 arg13 arg14 arg15 arg16 arg17 arg18 arg19 B C (J5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩) (restF i B C v5 v8 hw) ⟨⟩ := by
  have b11 : A c arg4 arg5 arg6 arg7 arg8 arg9 arg10 arg11 arg12 arg13 arg14 arg15 arg16 arg17 arg18 arg19 B C (J10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩) (fun X => X) ⟨⟩ := A_ret c arg4 arg5 arg6 arg7 arg8 arg9 arg10 arg11 arg12 arg13 arg14 arg15 arg16 arg17 arg18 arg19 B C _
  have b10 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK10_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := J10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 0#32) 16 8 false (hn10 v5 v8 hw h) (by rfl)) b11)) b11
  have b9 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK9_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := J9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 4#32) 12 6 false (hn9 v5 v8 hw h) (by rfl)) b10)) b10
  have b8 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK8_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := J8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 6#32) 10 5 false (hn8 v5 v8 hw h) (by rfl)) b9)) b9
  have b7 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK7_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := J7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 8#32) 8 4 false (hn7 v5 v8 hw h) (by rfl)) b8)) b8
  have c6 := fun (h : k0_cond7 v8 = 1#1) => A_congr c arg4 arg5 arg6 arg7 arg8 arg9 arg10 arg11 arg12 arg13 arg14 arg15 arg16 arg17 arg18 arg19 B C (armK6_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h) (A_bind c arg4 arg5 arg6 arg7 arg8 arg9 arg10 arg11 arg12 arg13 arg14 arg15 arg16 arg17 arg18 arg19 B C (arm_A c arg4 arg5 arg6 arg7 arg8 arg9 arg10 arg11 arg12 arg13 harg13 arg14 arg15 arg16 arg17 arg18 arg19 B C i (k0At v5 10#32) 6 3 false (hn6 v5 v8 hw h) (by rfl)) (A_ret c arg4 arg5 arg6 arg7 arg8 arg9 arg10 arg11 arg12 arg13 arg14 arg15 arg16 arg17 arg18 arg19 B C (PUnit.unit : PUnit.{1})))
  have b6 := A_dite c arg4 arg5 arg6 arg7 arg8 arg9 arg10 arg11 arg12 arg13 arg14 arg15 arg16 arg17 arg18 arg19 B C (fun h => A_bind c arg4 arg5 arg6 arg7 arg8 arg9 arg10 arg11 arg12 arg13 arg14 arg15 arg16 arg17 arg18 arg19 B C (jp := J6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (c6 h) b7) b7
  exact b6

theorem H_A (i : grid0.Coords) (v5 v8 : BitVec 32) (hw : k0_chk1 v5 v8) :
    A c arg4 arg5 arg6 arg7 arg8 arg9 arg10 arg11 arg12 arg13 arg14 arg15 arg16 arg17 arg18 arg19 B C (H0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩) (halfF i B C v5 v8 hw) ⟨BitVec.ofNat 32 (i 1).val, v5, v8, hw⟩ := by
  have b6 : A c arg4 arg5 arg6 arg7 arg8 arg9 arg10 arg11 arg12 arg13 arg14 arg15 arg16 arg17 arg18 arg19 B C (H5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw ⟨⟩) (fun X => X) ⟨BitVec.ofNat 32 (i 1).val, v5, v8, hw⟩ := A_ret c arg4 arg5 arg6 arg7 arg8 arg9 arg10 arg11 arg12 arg13 arg14 arg15 arg16 arg17 arg18 arg19 B C _
  have b5 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK5_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 11#32) 5 2 true (hn5 v5 v8 hw h) (by rfl)) b6)) b6
  have b4 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK4_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 12#32) 4 2 false (hn4 v5 v8 hw h) (by rfl)) b5)) b5
  have b3 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK3_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 13#32) 3 1 true (hn3 v5 v8 hw h) (by rfl)) b4)) b4
  have b2 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK2_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 14#32) 2 1 false (hn2 v5 v8 hw h) (by rfl)) b3)) b3
  have b1 := A_dite c arg4 arg5 arg6 arg7 arg8 arg9 arg10 arg11 arg12 arg13 arg14 arg15 arg16 arg17 arg18 arg19 B C (fun h => A_congr c arg4 arg5 arg6 arg7 arg8 arg9 arg10 arg11 arg12 arg13 arg14 arg15 arg16 arg17 arg18 arg19 B C (armK1_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw h _) (A_bind c arg4 arg5 arg6 arg7 arg8 arg9 arg10 arg11 arg12 arg13 arg14 arg15 arg16 arg17 arg18 arg19 B C (jp := H1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v8 hw) (arm_A c arg4 arg5 arg6 arg7 arg8 arg9 arg10 arg11 arg12 arg13 harg13 arg14 arg15 arg16 arg17 arg18 arg19 B C i (k0At v5 15#32) 1 0 true (hn1 v5 v8 hw h) (by rfl)) b2)) b2
  exact b1

theorem smem_wp {α : Type} (m : Memref sig .tc .smem S8x16 .i32) (r : Rect S8x16) (h1 : r.shape.numel = 1) (hp : EltTy.i32.packing = 1) (k : Elt F .i32 → Prog (TpuEff nD τ sig (Elt F) Λ₀ .tc) α)
    (q : PosShare TreeShare) (f : m.view.ty.Contents (Elt F)) (Q : α → sProp 𝕄) :
    (m.view.loc (c : Thread nD τ) ↦[Finset.univ]{q} f) ⊢ iprop(((m.view.loc (c : Thread nD τ) ↦[Finset.univ]{q} f) -∗ wpK c (k ((m.access r).read (Elt F) f (Shape.Idx.first (h1.symm ▸ Nat.one_pos)))) Q) -∗ wpK c (smemLoad m r h1 hp >>= k) Q) :=
  wp_smemLoadElt (c := (c : Thread nD τ)) Variants.none none Set.univ (m := m) (r := r) (hw := View.loads_smem_one hp h1) (x := Shape.Idx.first (h1.symm ▸ Nat.one_pos)) (k := k) (S := Finset.univ) (q := q) (f := f) (Finset.subset_univ _)

/-- The word of a table at the point. -/
def wordAt (m : Memref sig .tc .smem S8x16 .i32) (i : grid0.Coords) (f : m.view.ty.Contents (Elt F)) : BitVec 32 :=
  (m.access (Rect.unit (s := S8x16) (k0_off1 i) S1x1.size (k0_off1_inb i))).read (Elt F) f (Shape.Idx.first (numel1_S1x1.symm ▸ Nat.one_pos))

/-- Both tables, held. -/
def Tb (q : PosShare TreeShare) (f2 : arg2.view.ty.Contents (Elt F)) (f3 : arg3.view.ty.Contents (Elt F)) : sProp 𝕄 :=
  iprop((arg2.view.loc (c : Thread nD τ) ↦[Finset.univ]{q} f2) ∗ (arg3.view.loc (c : Thread nD τ) ↦[Finset.univ]{q} f3))

theorem HI_wp (i : grid0.Coords) (q : PosShare TreeShare) (f2 : arg2.view.ty.Contents (Elt F)) (f3 : arg3.view.ty.Contents (Elt F)) (hw : k0_chk1 (wordAt arg2 i f2) (wordAt arg3 i f3)) (X : Sc F) (Q : (Σ' (arg1 : BitVec 32) (v5 : Elt F .i32) (v8 : Elt F .i32), k0_chk1 v5 v8) → sProp 𝕄) :
    iprop(Tb c arg2 arg3 q f2 f3 ∗ RoB c arg4 arg5 arg6 arg7 arg8 arg9 arg10 arg11 arg12 arg14 arg15 arg16 B C ∗ RwB c arg13 arg17 arg18 arg19 X ∗ (Tb c arg2 arg3 q f2 f3 -∗ RoB c arg4 arg5 arg6 arg7 arg8 arg9 arg10 arg11 arg12 arg14 arg15 arg16 B C -∗ RwB c arg13 arg17 arg18 arg19 (halfF i B C _ _ hw X) -∗ Q ⟨BitVec.ofNat 32 (i 1).val, wordAt arg2 i f2, wordAt arg3 i f3, hw⟩))
      ⊢ wpK c (HI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ⟨⟩) Q := by
  unfold HI Tb
  iintro ⟨⟨H2, H3⟩, HR, HW, Hk⟩
  iapply (smem_wp c arg2) $$ H2; iintro H2
  iapply (smem_wp c arg3) $$ H3; iintro H3
  iapply (wp_assume (c := (c : Thread nD τ)) Variants.none none Set.univ hw)
  iapply (H_A c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B C i _ _ hw X Q)
  isplitl [HR]; · iexact HR
  isplitl [HW]; · iexact HW
  iintro HR HW
  iapply Hk $$ [H2 H3] HR HW
  isplitl [H2]; · iexact H2
  iexact H3

/-- The body runs. -/
theorem body_wp (i : grid0.Coords) (q : PosShare TreeShare) (f2 : arg2.view.ty.Contents (Elt F)) (f3 : arg3.view.ty.Contents (Elt F)) (hw : k0_chk1 (wordAt arg2 i f2) (wordAt arg3 i f3)) (X : Sc F) (Q : PUnit → sProp 𝕄) :
    iprop(Tb c arg2 arg3 q f2 f3 ∗ RoB c arg4 arg5 arg6 arg7 arg8 arg9 arg10 arg11 arg12 arg14 arg15 arg16 B C ∗ RwB c arg13 arg17 arg18 arg19 X ∗ (Tb c arg2 arg3 q f2 f3 -∗ RoB c arg4 arg5 arg6 arg7 arg8 arg9 arg10 arg11 arg12 arg14 arg15 arg16 B (initF i B C) -∗ RwB c arg13 arg17 arg18 arg19 (bodyF i B (initF i B C) _ _ hw X) -∗ Q ⟨⟩))
      ⊢ wpK c (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  have fin : ∀ C' : Cp F, iprop(Tb c arg2 arg3 q f2 f3 ∗ RoB c arg4 arg5 arg6 arg7 arg8 arg9 arg10 arg11 arg12 arg14 arg15 arg16 B C' ∗ RwB c arg13 arg17 arg18 arg19 X ∗ (Tb c arg2 arg3 q f2 f3 -∗ RoB c arg4 arg5 arg6 arg7 arg8 arg9 arg10 arg11 arg12 arg14 arg15 arg16 B C' -∗ RwB c arg13 arg17 arg18 arg19 (bodyF i B C' _ _ hw X) -∗ Q ⟨⟩))
      ⊢ wpK c (HI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ⟨⟩) (fun x => wpK c (restK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x) Q) := fun C' => by
    unfold bodyF
    iintro ⟨HT, HR, HW, Hk⟩
    iapply (HI_wp c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B C' i q f2 f3 hw X _)
    isplitl [HT]; · iexact HT
    isplitl [HR]; · iexact HR
    isplitl [HW]; · iexact HW
    iintro HT HR HW
    rw [restK_eq]
    iapply (J_A c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B C' i _ _ hw _ Q)
    isplitl [HR]; · iexact HR
    isplitl [HW]; · iexact HW
    iintro HR HW
    iapply Hk $$ HT HR HW
  have e1 : wpK c (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q = wpK c (bodyKA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun x => wpK c (restK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x) Q) :=
    (congrArg (fun p => wpK c p Q) ((body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19).trans (whole_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 i))).trans (wp_bind _ _ _ _ _ _)
  refine BIBase.Entails.trans ?_ (BIBase.Entails.of_eq e1.symm)
  refine BIBase.Entails.trans ?_ (BIBase.Entails.of_eq (congrArg (fun p => wpK c p (fun x => wpK c (restK i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x) Q)) (half_eq arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 i)).symm)
  by_cases h0 : Scalar.cmpi .ne (Scalar.extui (Scalar.cmpi .eq (BitVec.ofNat 32 (i 1).val) 0#32) : BitVec 32) 0#32 = 1#1
  · rw [if_pos h0, show initF i B C = cpOf B from if_pos h0, initK_eq]
    iintro ⟨HT, HR, HW, Hk⟩
    unfold RoB
    icases HR with ⟨H4, H5, H6, H7, H8, H9, H10, H11, H12, H14, H15, H16⟩
    iapply (init_bind c arg7 arg11 arg12 arg14 arg15 arg16 _ _ B.ks B.segk B.posk C.k C.s C.p)
    isplitl [H7]; · iexact H7
    isplitl [H14]; · iexact H14
    isplitl [H11]; · iexact H11
    isplitl [H12]; · iexact H12
    isplitl [H15]; · iexact H15
    isplitl [H16]; · iexact H16
    iintro H7 H14 H11 H12 H15 H16
    iapply (fin (cpOf B))
    unfold RoB
    isplitl [HT]; · iexact HT
    isplitl [H4 H5 H6 H7 H8 H9 H10 H11 H12 H14 H15 H16]
    · isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H14]; · iexact H14
      isplitl [H15]; · iexact H15
      iexact H16
    isplitl [HW]; · iexact HW
    iexact Hk
  · rw [if_neg h0, show initF i B C = C from if_neg h0]
    exact fin C
end

end Cert.KernelIdeal.Attn
-- ==== Proof.KernelIdeal.Tables.lean ====
/- The kernel's offsets stay inside its arrays whenever the first key chunk lies in [0, 16], whatever the number of
   chunks: the start of a window of `n` chunks is clipped to `16 - n` chunks. -/
module

public import proofs.«01_k».proof.KernelIdeal

@[expose] public section

set_option maxRecDepth 65536
set_option maxHeartbeats 0

noncomputable section

namespace Cert.KernelIdeal.Attn

open Cert.KernelIdeal
open Idealize.ShloMosaic

theorem chk1_of_le {v5 : BitVec 32} (h : v5.toNat ≤ 16) (v8 : BitVec 32) : k0_chk1 v5 v8 := by
  obtain ⟨n, rfl⟩ : ∃ n : Fin 17, v5 = BitVec.ofNat 32 n.val :=
    ⟨⟨v5.toNat, by omega⟩, by simp⟩
  clear h
  unfold k0_chk1 k0_chk1_0 k0_chk1_1 k0_chk1_2
  repeat' apply And.intro
  all_goals first
    | (intro h; clear h v8; revert n; decide +kernel)
    | (intro j h; clear h v8; revert n j; decide +kernel)

end Cert.KernelIdeal.Attn

end
-- ==== Proof.KernelIdeal.Host.lean ====
/- What the host operations before the kernel leave in memory: the contents the kernel starts from, as a fold of the
   operations, and the one fact about them the kernel's run needs: every entry of the table of first key chunks is at
   most 16. -/
module

public import proofs.«01_k».proof.Proof.KernelIdeal.Tables
public import proofs.«01_k».proof.Proof.Gen.KernelIdeal.Launch
public import Idealize.ShloMosaic.Lib.StableHlo.RunRead
public import Idealize.ShloMosaic.Lib.ValueLayout

@[expose] public section

set_option maxRecDepth 65536
set_option maxHeartbeats 0

noncomputable section

namespace Cert.KernelIdeal.Attn

open Cert.KernelIdeal
open Idealize.ShloMosaic Idealize.ShloMosaic.TcCoe
open Idealize.SL.Sem
open Idealize.ShloMosaic.ValueIdx

variable {F : FTy → Type} [FloatOps F] [Named F]

/-- The host operations before the kernel, stretch by stretch. -/
abbrev opss : List (List (HloOp τ sig (Elt F))) :=
  [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10]

/-- The same, in one list. -/
abbrev ops : List (HloOp τ sig (Elt F)) :=
  Gen.hostOps0 ++ (Gen.hostOps0_1 ++ (Gen.hostOps0_2 ++ (Gen.hostOps0_3 ++ (Gen.hostOps0_4 ++ (Gen.hostOps0_5 ++
    (Gen.hostOps0_6 ++ (Gen.hostOps0_7 ++ (Gen.hostOps0_8 ++ (Gen.hostOps0_9 ++ (Gen.hostOps0_10 ++ []))))))))))

/-- The contents the kernel starts from, on device `c`. -/
def V (m : (ℓ : Loc nD τ sig) → Buf (Elt F) ℓ) (c : Dev nD) (b : Ref sig .tc) : Buf (Elt F) ((c.tc : Thread nD τ).loc b) :=
  StableHlo.after (Val := Elt F) opss.flatten (fun b => m (c, b)) b

theorem V_eq (m : (ℓ : Loc nD τ sig) → Buf (Elt F) ℓ) (c : Dev nD) (b : Ref sig .tc) :
    V m c b = StableHlo.after (Val := Elt F) ops (fun b => m (c, b)) (Proc.devRef .tc b) := rfl

/-- A minimum of words in [0, 16], one of them at least, from the largest word, is in [0, 16]. -/
theorem foldl_min_le {ι : Type} (g : ι → BitVec 32) (hg : ∀ n, (g n).toNat ≤ 16) :
    ∀ (l : List ι) (r : BitVec 32), (r.toNat ≤ 16 ∨ (r = 2147483647#32 ∧ l ≠ [])) →
      (l.foldl (fun r n => IntOp.minsi r (g n)) r).toNat ≤ 16
  | [], r, h => h.elim id fun h => absurd rfl h.2
  | n :: l, r, h => by
    refine foldl_min_le g hg l _ (Or.inl ?_)
    have hn := hg n
    show (if r.slt (g n) = true then r else g n).toNat ≤ 16
    split
    · rename_i hs
      rcases h with h | ⟨rfl, -⟩
      · exact h
      · exfalso
        generalize g n = x at hn hs
        obtain ⟨k, rfl⟩ : ∃ k : Fin 17, x = BitVec.ofNat 32 k.val := ⟨⟨x.toNat, by omega⟩, by simp⟩
        clear hn
        revert k hs
        decide
    · exact hn

/-- Every entry of the table of first key chunks is at most 16. -/
theorem first_le (m : (ℓ : Loc nD τ sig) → Buf (Elt F) ℓ) (c : Dev nD) (i : S8x16.Idx) :
    BitVec.toNat (w := 32) (V m c main_v46 i) ≤ 16 := by
  have key : ∃ X : S8x16x16.Idx → BitVec 1, V m c main_v46
      = Host.reduce IntOp.minsi (select X (fun j => BitVec.ofNat 32 (j 2).val) (fun _ => 16#32))
          (constantI S_ 32 2147483647#32) Gen.reducesTo_S8x16x16_S8x16_d2 Gen.h_S_ := by
    rw [V_eq]
    after_reads_simp
    exact ⟨_, rfl⟩
  obtain ⟨X, hX⟩ := key
  rw [hX]
  refine foldl_min_le _ (fun n => ?_) _ _ (Or.inr ⟨rfl, ?_⟩)
  · show (Scalar.select (X (S8x16x16.rowMajor.symm n)) (BitVec.ofNat 32 (S8x16x16.rowMajor.symm n 2).val) 16#32).toNat ≤ 16
    unfold Scalar.select
    split
    · have := (S8x16x16.rowMajor.symm n 2).isLt
      have h2 : (S8x16x16.rowMajor.symm n 2).val < 16 := this
      rw [BitVec.toNat_ofNat]; omega
    · decide
  · apply List.ne_nil_of_mem (a := S8x16x16.rowMajor (ix3 (i 0) (i 1) 0))
    rw [List.mem_filter]
    refine ⟨List.mem_finRange _, ?_⟩
    rw [decide_eq_true_eq, Equiv.symm_apply_apply]
    funext a
    match a with
    | ⟨0, _⟩ => rfl
    | ⟨1, _⟩ => rfl

end Cert.KernelIdeal.Attn

end
-- ==== Proof.KernelIdeal.Frame.lean ====
/- The kernel runs from every initial memory: it terminates, nothing faults, every semaphore ends at zero, and the
   buffers it does not write keep their contents. Nothing is said here of the output. -/
module

public import proofs.«01_k».proof.Proof.KernelIdeal.Run
public import proofs.«01_k».proof.Proof.KernelIdeal.Host

@[expose] public section

set_option maxRecDepth 65536
set_option maxHeartbeats 0

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F]

local notation "𝕄" => MT nD τ sig Unit (Elt F) ℕ (UR sig nD τ) ℕ

/-- The tables as the kernel's call finds them. -/
def adm (m : (ℓ : Loc nD τ sig) → Buf (Elt F) ℓ) : (p : Fin 1) → (pcfgs (F := F) p).Adm :=
  fun _ => ⟨fun k => V m 0 (pre0.ref k), trivial⟩

/-- The kernel's pipeline at those tables. -/
abbrev cfgA (m : (ℓ : Loc nD τ sig) → Buf (Elt F) ℓ) : Pipeline.Cfg sig Λ₀ := Pipeline.pin (pcfgs (F := F)) (adm m) 0

/-- The proof data: the arrays at the contents the call finds; every input block handed back as it was fetched; the
    output block not named. -/
def dat (m : (ℓ : Loc nD τ sig) → Buf (Elt F) ℓ) (c : Dev nD) :
    Pipeline.Dat τ (Elt F) Unit ℕ (UR sig nD τ) ℕ (cfgA m) c where
  A w := V m c (Pipeline.arrRef spec0 w)
  after w t := Pipeline.heldIn (c := c) (cfgA m) (fun w => V m c (Pipeline.arrRef spec0 w)) w t.val t.isLt
  Φ _ := iprop(Pipeline.ΦA spec0 c ∗ Pipeline.ΦT pre0 (adm m 0).1 c)
  q _ := fullShare
  owed _ := 0

/-- The output window. -/
def fgt : Fin 10 → Bool := fun w => w == 9

theorem before_eq (m : (ℓ : Loc nD τ sig) → Buf (Elt F) ℓ) (c : Dev nD) (w : Fin 10) (hw : (spec0 w).isOut = false) (hi : ∀ i, (cfgA m).idle w i = false) (t : Fin (cfgA m).N) (d) :
    (dat m c).before w t d = (dat m c).after w t :=
  Pipeline.Dat.before_eq_heldIn (dat m c) w hw hi (fun _ _ => by fin_cases w <;> rfl) (fun _ => rfl) t d

/-- The blocks of a point. -/
def blkAt (m : (ℓ : Loc nD τ sig) → Buf (Elt F) ℓ) (c : Dev nD) (t : Fin (cfgA m).N) : Blk F :=
  ⟨(dat m c).after 0 t, (dat m c).after 1 t, (dat m c).after 2 t, (dat m c).after 3 t, (dat m c).after 4 t, (dat m c).after 5 t, (dat m c).after 6 t, (dat m c).after 7 t, (dat m c).after 8 t⟩

theorem chk_at (m : (ℓ : Loc nD τ sig) → Buf (Elt F) ℓ) (i : grid0.Coords) :
    k0_chk1 (wordAt (F := F) (Memref.whole main_v46) i (V m 0 main_v46)) (wordAt (F := F) (Memref.whole main_v51) i (V m 0 main_v51)) :=
  chk1_of_le (first_le m 0 _) _

theorem body_obligation (m : (ℓ : Loc nD τ sig) → Buf (Elt F) ℓ) (c : Dev nD) :
    Pipeline.BodyObligationLoose (dat m c) (defs₀ (F := F)) Variants.none () Set.univ fgt := fun t => by
  rw [Gen.bigSep_W0, Gen.bigSep_W0]
  rw [show (dat m c).Φ t.castSucc = iprop(Pipeline.ΦA spec0 c ∗ Pipeline.ΦT pre0 (adm m 0).1 c) from rfl,
    show (dat m c).Φ t.succ = iprop(Pipeline.ΦA spec0 c ∗ Pipeline.ΦT pre0 (adm m 0).1 c) from rfl,
    show (dat m c).owesAt () t.succ = (dat m c).owesAt () t.castSucc from rfl]
  unfold Pipeline.ΦA Pipeline.ΦT Pipeline.prefHeld
  rw [Gen.scopedRest0_eq, bigSep_univ_two]
  rw [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = true from rfl]
  dsimp only
  iintro ⟨⟨⟨HS, Hp⟩, HT⟩, Ho, HW⟩
  icases HS with ⟨⟨%f0, S0⟩, ⟨%f1, S1⟩, ⟨%f2, S2⟩, ⟨%f3, S3⟩, ⟨%f4, S4⟩, ⟨%f5, S5⟩⟩
  icases HW with ⟨⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  rw [before_eq m c 0 rfl (fun _ => rfl) t d0, before_eq m c 1 rfl (fun _ => rfl) t d1, before_eq m c 2 rfl (fun _ => rfl) t d2, before_eq m c 3 rfl (fun _ => rfl) t d3, before_eq m c 4 rfl (fun _ => rfl) t d4, before_eq m c 5 rfl (fun _ => rfl) t d5, before_eq m c 6 rfl (fun _ => rfl) t d6, before_eq m c 7 rfl (fun _ => rfl) t d7, before_eq m c 8 rfl (fun _ => rfl) t d8]
  have key := body_wp (F := F) c (Memref.whole main_v46) (Memref.isWhole_whole _) (Memref.whole main_v51) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (blkAt m c t) ⟨f0, f1, f2⟩ (grid0.coords t) fullShare.right (V m 0 main_v46) (V m 0 main_v51) (chk_at m _) ⟨f3, f5, f4, d9⟩
  iapply key
  unfold Tb RoB RwB own
  simp only [owns_whole_eq]
  icases HT with ⟨T0, T1⟩
  isplitl [T0 T1]
  · isplitl [T0]
    · iexact T0
    · iexact T1
  isplitl [W0 W1 W2 W3 W4 W5 W6 W7 W8 S0 S1 S2]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [S0]; · (iexists f0; isplitr; swap; (· iexact S0); ipureintro; rfl)
    isplitl [S1]; · (iexists f1; isplitr; swap; (· iexact S1); ipureintro; rfl)
    iexists f2; isplitr; swap; (· iexact S2); ipureintro; rfl
  isplitl [S3 S4 S5 W9]
  · isplitl [S3]; · (iexists f3; isplitr; swap; (· iexact S3); ipureintro; rfl)
    isplitl [S5]; · (iexists f5; isplitr; swap; (· iexact S5); ipureintro; rfl)
    isplitl [S4]; · (iexists f4; isplitr; swap; (· iexact S4); ipureintro; rfl)
    iexact W9
  iintro ⟨T0, T1⟩ ⟨W0, W1, W2, W3, W4, W5, W6, W7, W8, ⟨%g0, -, S0⟩, ⟨%g1, -, S1⟩, ⟨%g2, -, S2⟩⟩ ⟨⟨%g3, -, S3⟩, ⟨%g5, -, S5⟩, ⟨%g4, -, S4⟩, W9⟩
  isplitl [S0 S1 S2 S3 S4 S5 Hp T0 T1]
  · isplitl [S0 S1 S2 S3 S4 S5 Hp]
    · isplitl [S0 S1 S2 S3 S4 S5]
      · isplitl [S0]; · (iexists g0; iexact S0)
        isplitl [S1]; · (iexists g1; iexact S1)
        isplitl [S2]; · (iexists g2; iexact S2)
        isplitl [S3]; · (iexists g3; iexact S3)
        isplitl [S4]; · (iexists g4; iexact S4)
        iexists g5; iexact S5
      iexact Hp
    isplitl [T0]
    · iexact T0
    · iexact T1
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexists _; iexact W9

/-- What the call finds in an argument is what memory held there at first. -/
theorem V_args (m : (ℓ : Loc nD τ sig) → Buf (Elt F) ℓ) (c : Dev nD) :
    V m c main_arg0 = m ((c.tc : Thread nD τ).loc main_arg0) ∧ V m c main_arg1 = m ((c.tc : Thread nD τ).loc main_arg1)
    ∧ V m c main_arg2 = m ((c.tc : Thread nD τ).loc main_arg2) ∧ V m c main_arg3 = m ((c.tc : Thread nD τ).loc main_arg3)
    ∧ V m c main_arg4 = m ((c.tc : Thread nD τ).loc main_arg4) ∧ V m c main_arg5 = m ((c.tc : Thread nD τ).loc main_arg5)
    ∧ V m c main_arg6 = m ((c.tc : Thread nD τ).loc main_arg6) ∧ V m c main_arg7 = m ((c.tc : Thread nD τ).loc main_arg7) := by
  simp only [V_eq]
  after_reads_simp
  repeat' constructor

/-- The run: from every initial memory it ends, the arguments keep their contents and every semaphore is at zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_frameP_forget (pcfgs (F := F)) (adm m) (fun p => match p with | 0 => fun c => dat m c) 0 Gen.launch0
    (defs₀ (F := F)) Variants.none fgt m g (main (F := F)) (fun c => body_obligation m c) (fun c w => ?_) (fun _ _ => rfl) (V m)
    (Pipeline.hmainP_prefixes (pcfgs (F := F)) 0 (defs₀ (F := F)) Variants.none m (main (F := F)) opss
      ⟨Gen.hostOps0_sub, Gen.hostOps0_1_sub, Gen.hostOps0_2_sub, Gen.hostOps0_3_sub, Gen.hostOps0_4_sub, Gen.hostOps0_5_sub,
        Gen.hostOps0_6_sub, Gen.hostOps0_7_sub, Gen.hostOps0_8_sub, Gen.hostOps0_9_sub, Gen.hostOps0_10_sub⟩ (by repeat' (first | exact rfl | apply And.intro)) Gen.main_chain)
    (fun _ _ => rfl) (fun c k => ?_) (fun _ _ => rfl) _ (fun r h => ⟨fun c => ?_, h.2⟩)
  · exact (dat m c).share_full (fun _ => rfl) w
  · obtain rfl : c = 0 := Subsingleton.elim _ _
    rfl
  · obtain ⟨a0, a1, a2, a3, a4, a5, a6, a7⟩ := V_args m c
    obtain ⟨hw, hr⟩ := h.1 c
    have in1 := Eq.mp (congrFun (Pipeline.RDat.ArrAt_in ((dat m c).toRForget fgt) (1 : Fin 10) rfl _) _) (hw 1)
    have in3 := Eq.mp (congrFun (Pipeline.RDat.ArrAt_in ((dat m c).toRForget fgt) (3 : Fin 10) rfl _) _) (hw 3)
    refine ⟨(hr main_arg0 (by decide : main_arg0 ∈ Pipeline.restRefs sig spec0)).trans a0, in1.trans a1, (hr main_arg2 (by decide : main_arg2 ∈ Pipeline.restRefs sig spec0)).trans a2, in3.trans a3,
      (hr main_arg4 (by decide : main_arg4 ∈ Pipeline.restRefs sig spec0)).trans a4, (hr main_arg5 (by decide : main_arg5 ∈ Pipeline.restRefs sig spec0)).trans a5, (hr main_arg6 (by decide : main_arg6 ∈ Pipeline.restRefs sig spec0)).trans a6,
      (hr main_arg7 (by decide : main_arg7 ∈ Pipeline.restRefs sig spec0)).trans a7⟩

end Cert.KernelIdeal.Attn

end
-- ==== Proof.KernelIdeal.Need.lean ====
/- The tables the host computes: of which key chunks a tile of queries needs, the first and the number from the first to
   the last. Every key a query sees lies in a chunk its tile needs, and every tile needs its own chunk. -/
module

public import proofs.«01_k».proof.Proof.KernelIdeal.Host
public import Idealize.ShloMosaic.Lib.Pointwise

@[expose] public section

set_option maxRecDepth 65536
set_option maxHeartbeats 0

noncomputable section

namespace Cert.KernelIdeal.Attn

open Cert.KernelIdeal
open Idealize.ShloMosaic Idealize.ShloMosaic.TcCoe
open Idealize.SL.Sem

/-! ## Folds of the signed minimum and maximum -/

theorem minsi_toInt (x y : BitVec 32) : (IntOp.minsi x y).toInt = min x.toInt y.toInt := by
  unfold IntOp.minsi
  split
  · rename_i h; have := BitVec.slt_iff_toInt_lt.mp h; omega
  · rename_i h; have : ¬ x.toInt < y.toInt := fun h' => h (BitVec.slt_iff_toInt_lt.mpr h'); omega

theorem maxsi_toInt (x y : BitVec 32) : (IntOp.maxsi x y).toInt = max x.toInt y.toInt := by
  unfold IntOp.maxsi
  split
  · rename_i h; have := BitVec.slt_iff_toInt_lt.mp h; omega
  · rename_i h; have : ¬ y.toInt < x.toInt := fun h' => h (BitVec.slt_iff_toInt_lt.mpr h'); omega

theorem fold_min {ι : Type} (g : ι → BitVec 32) : ∀ (l : List ι) (r : BitVec 32),
    (l.foldl (fun r n => IntOp.minsi r (g n)) r).toInt ≤ r.toInt ∧ ∀ n ∈ l, (l.foldl (fun r n => IntOp.minsi r (g n)) r).toInt ≤ (g n).toInt
  | [], r => ⟨le_rfl, by simp⟩
  | a :: l, r => by
    have ih := fold_min g l (IntOp.minsi r (g a))
    rw [minsi_toInt] at ih
    simp only [List.foldl_cons]
    refine ⟨ih.1.trans (min_le_left _ _), fun n hn => ?_⟩
    rcases List.mem_cons.mp hn with rfl | hn
    · exact ih.1.trans (min_le_right _ _)
    · exact ih.2 n hn

theorem fold_max {ι : Type} (g : ι → BitVec 32) : ∀ (l : List ι) (r : BitVec 32),
    r.toInt ≤ (l.foldl (fun r n => IntOp.maxsi r (g n)) r).toInt ∧ ∀ n ∈ l, (g n).toInt ≤ (l.foldl (fun r n => IntOp.maxsi r (g n)) r).toInt
  | [], r => ⟨le_rfl, by simp⟩
  | a :: l, r => by
    have ih := fold_max g l (IntOp.maxsi r (g a))
    rw [maxsi_toInt] at ih
    simp only [List.foldl_cons]
    refine ⟨(le_max_left _ _).trans ih.1, fun n hn => ?_⟩
    rcases List.mem_cons.mp hn with rfl | hn
    · exact (le_max_right _ _).trans ih.1
    · exact ih.2 n hn

theorem fold_max_lt {ι : Type} (B : Int) (g : ι → BitVec 32) (hg : ∀ n, (g n).toInt ≤ B) : ∀ (l : List ι) (r : BitVec 32),
    r.toInt ≤ B → (l.foldl (fun r n => IntOp.maxsi r (g n)) r).toInt ≤ B
  | [], r, h => h
  | a :: l, r, h => by
    simp only [List.foldl_cons]
    exact fold_max_lt B g hg l _ (by rw [maxsi_toInt]; exact max_le h (hg a))

section
variable {s t u : Shape} {axes : List (Fin s.rank)} (x : s.Idx → BitVec 32) (v : u.Idx → BitVec 32) (h : s.ReducesTo axes t) (hu : 0 < u.numel)

theorem reduce_min_le (j : s.Idx) : (Host.reduce IntOp.minsi x v h hu (h.drop j)).toInt ≤ (x j).toInt := by
  have := (fold_min (fun n => x (s.rowMajor.symm n)) ((List.finRange s.numel).filter fun n => h.drop (s.rowMajor.symm n) = h.drop j)
    (v (Shape.Idx.first hu))).2 (s.rowMajor j) (by rw [List.mem_filter]; exact ⟨List.mem_finRange _, by simp⟩)
  simp only [Equiv.symm_apply_apply] at this
  exact this

theorem le_reduce_max (j : s.Idx) : (x j).toInt ≤ (Host.reduce IntOp.maxsi x v h hu (h.drop j)).toInt := by
  have := (fold_max (fun n => x (s.rowMajor.symm n)) ((List.finRange s.numel).filter fun n => h.drop (s.rowMajor.symm n) = h.drop j)
    (v (Shape.Idx.first hu))).2 (s.rowMajor j) (by rw [List.mem_filter]; exact ⟨List.mem_finRange _, by simp⟩)
  simp only [Equiv.symm_apply_apply] at this
  exact this

end

/-! ## The two tables -/

/-- Which key chunks (last axis) a tile of queries (middle axis) needs, in each batch. -/
def needT (sg : S8x2048.Idx → BitVec 32) (pf : S8x2048.Idx → BitVec 1) : S8x16x16.Idx → BitVec 1 :=
  ori
    (andi
      (andi
        (cmpi .sle (broadcastInDim S8x16x16 ![0, 1, 2] Gen.bcast_S8x1x16_S8x16x16_0_1_2 (Host.reduce IntOp.minsi (shapeCast S8x1x16x128 sg Gen.shapeCasts_S8x2048_S8x1x16x128) (constantI S_ 32 2147483647#32) Gen.reducesTo_S8x1x16x128_S8x1x16_d3 Gen.h_S_))
          (broadcastInDim S8x16x16 ![0, 1, 2] Gen.bcast_S8x16x1_S8x16x16_0_1_2 (Host.reduce IntOp.maxsi (shapeCast S8x16x1x128 sg Gen.shapeCasts_S8x2048_S8x16x1x128) (constantI S_ 32 2147483648#32) Gen.reducesTo_S8x16x1x128_S8x16x1_d3 Gen.h_S_)))
        (cmpi .sge (broadcastInDim S8x16x16 ![0, 1, 2] Gen.bcast_S8x1x16_S8x16x16_0_1_2 (Host.reduce IntOp.maxsi (shapeCast S8x1x16x128 sg Gen.shapeCasts_S8x2048_S8x1x16x128) (constantI S_ 32 2147483648#32) Gen.reducesTo_S8x1x16x128_S8x1x16_d3 Gen.h_S_))
          (broadcastInDim S8x16x16 ![0, 1, 2] Gen.bcast_S8x16x1_S8x16x16_0_1_2 (Host.reduce IntOp.minsi (shapeCast S8x16x1x128 sg Gen.shapeCasts_S8x2048_S8x16x1x128) (constantI S_ 32 2147483647#32) Gen.reducesTo_S8x16x1x128_S8x16x1_d3 Gen.h_S_))))
      (broadcastInDim S8x16x16 ![0, 1, 2] Gen.bcast_S1x16x16_S8x16x16_0_1_2
        (cmpi .slt (broadcastInDim S1x16x16 ![0, 1, 2] Gen.bcast_S1x1x16_S1x16x16_0_1_2 (muli (broadcastInDim S1x1x16 ![2] Gen.bcast_S16_S1x1x16_2 (iotaInDim S16 32 0)) (broadcastInDim S1x1x16 ![] Gen.bcast_S_S1x1x16 (constantI S_ 32 128#32))))
          (broadcastInDim S1x16x16 ![0, 1, 2] Gen.bcast_S1x16x1_S1x16x16_0_1_2 (muli (addi (broadcastInDim S1x16x1 ![1] Gen.bcast_S16_S1x16x1_1 (iotaInDim S16 32 0)) (broadcastInDim S1x16x1 ![] Gen.bcast_S_S1x16x1 (constantI S_ 32 1#32))) (broadcastInDim S1x16x1 ![] Gen.bcast_S_S1x16x1 (constantI S_ 32 128#32)))))))
    (andi
      (cmpi .sle (broadcastInDim S8x16x16 ![0, 1, 2] Gen.bcast_S8x1x16_S8x16x16_0_1_2 (Host.reduce IntOp.minsi (select (shapeCast S8x1x16x128 pf Gen.shapeCasts_S8x2048_S8x1x16x128) (shapeCast S8x1x16x128 sg Gen.shapeCasts_S8x2048_S8x1x16x128) (broadcastInDim S8x1x16x128 ![] Gen.bcast_S_S8x1x16x128 (constantI S_ 32 1073741824#32))) (constantI S_ 32 2147483647#32) Gen.reducesTo_S8x1x16x128_S8x1x16_d3 Gen.h_S_))
        (broadcastInDim S8x16x16 ![0, 1, 2] Gen.bcast_S8x16x1_S8x16x16_0_1_2 (Host.reduce IntOp.maxsi (shapeCast S8x16x1x128 sg Gen.shapeCasts_S8x2048_S8x16x1x128) (constantI S_ 32 2147483648#32) Gen.reducesTo_S8x16x1x128_S8x16x1_d3 Gen.h_S_)))
      (cmpi .sge (broadcastInDim S8x16x16 ![0, 1, 2] Gen.bcast_S8x1x16_S8x16x16_0_1_2 (Host.reduce IntOp.maxsi (select (shapeCast S8x1x16x128 pf Gen.shapeCasts_S8x2048_S8x1x16x128) (shapeCast S8x1x16x128 sg Gen.shapeCasts_S8x2048_S8x1x16x128) (broadcastInDim S8x1x16x128 ![] Gen.bcast_S_S8x1x16x128 (negi (constantI S_ 32 1073741824#32)))) (constantI S_ 32 2147483648#32) Gen.reducesTo_S8x1x16x128_S8x1x16_d3 Gen.h_S_))
        (broadcastInDim S8x16x16 ![0, 1, 2] Gen.bcast_S8x16x1_S8x16x16_0_1_2 (Host.reduce IntOp.minsi (shapeCast S8x16x1x128 sg Gen.shapeCasts_S8x2048_S8x16x1x128) (constantI S_ 32 2147483647#32) Gen.reducesTo_S8x16x1x128_S8x16x1_d3 Gen.h_S_))))

/-- The chunk number along the last axis. -/
def kcT : S8x16x16.Idx → BitVec 32 := broadcastInDim S8x16x16 ![0, 1, 2] Gen.bcast_S1x1x16_S8x16x16_0_1_2 (broadcastInDim S1x1x16 ![2] Gen.bcast_S16_S1x1x16_2 (iotaInDim S16 32 0))

/-- The first chunk of a tile, and the last. -/
def firstT (X : S8x16x16.Idx → BitVec 1) : S8x16.Idx → BitVec 32 :=
  Host.reduce IntOp.minsi (select X kcT (broadcastInDim S8x16x16 ![] Gen.bcast_S_S8x16x16 (id (constantI S_ 32 16#32)))) (constantI S_ 32 2147483647#32) Gen.reducesTo_S8x16x16_S8x16_d2 Gen.h_S_
def lastT (X : S8x16x16.Idx → BitVec 1) : S8x16.Idx → BitVec 32 :=
  Host.reduce IntOp.maxsi (select X kcT (broadcastInDim S8x16x16 ![] Gen.bcast_S_S8x16x16 (id (constantI S_ 32 4294967295#32)))) (constantI S_ 32 2147483648#32) Gen.reducesTo_S8x16x16_S8x16_d2 Gen.h_S_

section
variable {F : FTy → Type} [FloatOps F] [Named F] (m : (ℓ : Loc nD τ sig) → Buf (Elt F) ℓ) (c : Dev nD)

/-- The segment numbers and the prefix marks memory holds at first. -/
def segA : S8x2048.Idx → BitVec 32 := m ((c.tc : Thread nD τ).loc main_arg6)
def preA : S8x2048.Idx → BitVec 1 := m ((c.tc : Thread nD τ).loc main_arg7)

theorem V46 : V m c main_v46 = firstT (needT (segA m c) (preA m c)) := by
  rw [V_eq]
  after_reads_simp
  rfl

theorem V51 : V m c main_v51 = addi (subi (lastT (needT (segA m c) (preA m c))) (firstT (needT (segA m c) (preA m c)))) (broadcastInDim S8x16 ![] Gen.bcast_S_S8x16 (constantI S_ 32 1#32)) := by
  rw [V_eq]
  after_reads_simp
  rfl

end

theorem drop_d2 (b : Fin 8) (i k : Fin 16) : Gen.reducesTo_S8x16x16_S8x16_d2.drop (ix3 b i k) = ix2 b i := by
  funext a
  match a with
  | ⟨0, _⟩ => rfl
  | ⟨1, _⟩ => rfl

theorem drop_q (b : Fin 8) (i : Fin 16) (x : Fin 128) : Gen.reducesTo_S8x16x1x128_S8x16x1_d3.drop (ix4 b i 0 x) = ix3 b i 0 := by
  funext a
  match a with
  | ⟨0, _⟩ => rfl
  | ⟨1, _⟩ => rfl
  | ⟨2, _⟩ => rfl

theorem drop_k (b : Fin 8) (i : Fin 16) (x : Fin 128) : Gen.reducesTo_S8x1x16x128_S8x1x16_d3.drop (ix4 b 0 i x) = ix3 b 0 i := by
  funext a
  match a with
  | ⟨0, _⟩ => rfl
  | ⟨1, _⟩ => rfl
  | ⟨2, _⟩ => rfl

theorem kc_toInt (k : Fin 16) : (BitVec.ofNat 32 k.val).toInt = k.val := by revert k; decide

/-- A tile's two numbers, from what it needs: the first is at most any needed chunk, the last at least; both in range. -/
theorem first_of_need (X : S8x16x16.Idx → BitVec 1) (b : Fin 8) (i k : Fin 16) (h : X (ix3 b i k) = 1#1) :
    (firstT X (ix2 b i)).toInt ≤ k.val ∧ (k.val : Int) ≤ (lastT X (ix2 b i)).toInt := by
  refine ⟨?_, ?_⟩
  · have := reduce_min_le (select X kcT (broadcastInDim S8x16x16 ![] Gen.bcast_S_S8x16x16 (id (constantI S_ 32 16#32)))) (constantI S_ 32 2147483647#32) Gen.reducesTo_S8x16x16_S8x16_d2 Gen.h_S_ (ix3 b i k)
    rw [drop_d2] at this
    refine this.trans (le_of_eq ?_)
    show (Scalar.select (X (ix3 b i k)) (BitVec.ofNat 32 k.val) _).toInt = _
    rw [h]
    exact kc_toInt k
  · have := le_reduce_max (select X kcT (broadcastInDim S8x16x16 ![] Gen.bcast_S_S8x16x16 (id (constantI S_ 32 4294967295#32)))) (constantI S_ 32 2147483648#32) Gen.reducesTo_S8x16x16_S8x16_d2 Gen.h_S_ (ix3 b i k)
    rw [drop_d2] at this
    refine (le_of_eq ?_).trans this
    show _ = (Scalar.select (X (ix3 b i k)) (BitVec.ofNat 32 k.val) _).toInt
    rw [h]
    exact (kc_toInt k).symm

theorem last_le (X : S8x16x16.Idx → BitVec 1) (j : S8x16.Idx) : (lastT X j).toInt ≤ 15 := by
  refine fold_max_lt 15 _ (fun n => ?_) _ _ (by decide)
  show (Scalar.select (X _) (BitVec.ofNat 32 (S8x16x16.rowMajor.symm n 2).val) 4294967295#32).toInt ≤ 15
  unfold Scalar.select
  split
  · have := kc_toInt (S8x16x16.rowMajor.symm n 2)
    have h2 := (S8x16x16.rowMajor.symm n 2).isLt
    have h3 : (S8x16x16.rowMajor.symm n 2).val < 16 := h2
    rw [this]; omega
  · decide

theorem toInt_small (x : BitVec 32) (B : Nat) (h : x.toNat ≤ B) (hB : B < 2147483648) : x.toInt = x.toNat := by
  rw [BitVec.toInt_eq_toNat_cond]; split <;> omega

theorem toNat_small (x : BitVec 32) (h : 0 ≤ x.toInt) : (x.toNat : Int) = x.toInt := by
  have := x.isLt
  rw [BitVec.toInt_eq_toNat_cond] at h ⊢; split at h <;> split <;> omega

theorem firstT_le (X : S8x16x16.Idx → BitVec 1) (b : Fin 8) (i k : Fin 16) (h : X (ix3 b i k) = 1#1) (h0 : (firstT X (ix2 b i)).toNat ≤ 16) :
    (firstT X (ix2 b i)).toNat ≤ k.val ∧ 1 ≤ (lastT X (ix2 b i) - firstT X (ix2 b i) + 1#32).toNat
    ∧ (firstT X (ix2 b i)).toNat + (lastT X (ix2 b i) - firstT X (ix2 b i) + 1#32).toNat ≤ 16
    ∧ k.val < (firstT X (ix2 b i)).toNat + (lastT X (ix2 b i) - firstT X (ix2 b i) + 1#32).toNat := by
  have hk := first_of_need X b i k h
  have hl := last_le X (ix2 b i)
  generalize firstT X (ix2 b i) = f at *
  generalize lastT X (ix2 b i) = l at *
  have hf := toInt_small f 16 h0 (by norm_num)
  have hln := toNat_small l (by omega)
  have e : (l - f + 1#32).toNat = l.toNat - f.toNat + 1 := by
    rw [BitVec.toNat_add, BitVec.toNat_sub]
    have := l.isLt
    have h1 : (1#32 : BitVec 32).toNat = 1 := rfl
    rw [h1]
    omega
  rw [e]
  omega

/-! ## What a tile needs -/

def tileIx (i : Fin 16) (y : Fin 128) : Fin 2048 := ⟨128 * i.val + y.val, by omega⟩

section
variable {α : Type} (g : S8x2048.Idx → α)

theorem castQ (b : Fin 8) (i : Fin 16) (y : Fin 128) : shapeCast S8x16x1x128 g Gen.shapeCasts_S8x2048_S8x16x1x128 (ix4 b i 0 y) = g (ix2 b (tileIx i y)) := by
  pointwise
  exact congrArg g (congrArg (ix2 b) (Fin.ext (by show i.val * 128 + y.val = 128 * i.val + y.val; omega)))

theorem castK (b : Fin 8) (i : Fin 16) (y : Fin 128) : shapeCast S8x1x16x128 g Gen.shapeCasts_S8x2048_S8x1x16x128 (ix4 b 0 i y) = g (ix2 b (tileIx i y)) := by
  pointwise
  exact congrArg g (congrArg (ix2 b) (Fin.ext (by show i.val * 128 + y.val = 128 * i.val + y.val; omega)))

end

/-- A query and a key it sees: the tile of the one needs the chunk of the other. -/
theorem need_of_visible (sg : S8x2048.Idx → BitVec 32) (pf : S8x2048.Idx → BitVec 1) (b : Fin 8) (i k : Fin 16) (y x : Fin 128)
    (hs : sg (ix2 b (tileIx i y)) = sg (ix2 b (tileIx k x)))
    (hv : pf (ix2 b (tileIx k x)) = 1#1 ∨ (tileIx k x).val ≤ (tileIx i y).val) : needT sg pf (ix3 b i k) = 1#1 := by
  have qlo := reduce_min_le (shapeCast S8x16x1x128 sg Gen.shapeCasts_S8x2048_S8x16x1x128) (constantI S_ 32 2147483647#32) Gen.reducesTo_S8x16x1x128_S8x16x1_d3 Gen.h_S_ (ix4 b i 0 y)
  have qhi := le_reduce_max (shapeCast S8x16x1x128 sg Gen.shapeCasts_S8x2048_S8x16x1x128) (constantI S_ 32 2147483648#32) Gen.reducesTo_S8x16x1x128_S8x16x1_d3 Gen.h_S_ (ix4 b i 0 y)
  have klo := reduce_min_le (shapeCast S8x1x16x128 sg Gen.shapeCasts_S8x2048_S8x1x16x128) (constantI S_ 32 2147483647#32) Gen.reducesTo_S8x1x16x128_S8x1x16_d3 Gen.h_S_ (ix4 b 0 k x)
  have khi := le_reduce_max (shapeCast S8x1x16x128 sg Gen.shapeCasts_S8x2048_S8x1x16x128) (constantI S_ 32 2147483648#32) Gen.reducesTo_S8x1x16x128_S8x1x16_d3 Gen.h_S_ (ix4 b 0 k x)
  have plo := reduce_min_le (select (shapeCast S8x1x16x128 pf Gen.shapeCasts_S8x2048_S8x1x16x128) (shapeCast S8x1x16x128 sg Gen.shapeCasts_S8x2048_S8x1x16x128) (broadcastInDim S8x1x16x128 ![] Gen.bcast_S_S8x1x16x128 (constantI S_ 32 1073741824#32))) (constantI S_ 32 2147483647#32) Gen.reducesTo_S8x1x16x128_S8x1x16_d3 Gen.h_S_ (ix4 b 0 k x)
  have phi := le_reduce_max (select (shapeCast S8x1x16x128 pf Gen.shapeCasts_S8x2048_S8x1x16x128) (shapeCast S8x1x16x128 sg Gen.shapeCasts_S8x2048_S8x1x16x128) (broadcastInDim S8x1x16x128 ![] Gen.bcast_S_S8x1x16x128 (negi (constantI S_ 32 1073741824#32)))) (constantI S_ 32 2147483648#32) Gen.reducesTo_S8x1x16x128_S8x1x16_d3 Gen.h_S_ (ix4 b 0 k x)
  rw [drop_q, castQ] at qlo qhi
  rw [drop_k, castK] at klo khi
  rw [drop_k] at plo phi
  have hsel : ∀ z, (select (shapeCast S8x1x16x128 pf Gen.shapeCasts_S8x2048_S8x1x16x128) (shapeCast S8x1x16x128 sg Gen.shapeCasts_S8x2048_S8x1x16x128) z) (ix4 b 0 k x) = Scalar.select (pf (ix2 b (tileIx k x))) (sg (ix2 b (tileIx k x))) (z (ix4 b 0 k x)) := fun z => by
    show Scalar.select (shapeCast S8x1x16x128 pf Gen.shapeCasts_S8x2048_S8x1x16x128 _) (shapeCast S8x1x16x128 sg Gen.shapeCasts_S8x2048_S8x1x16x128 _) _ = _
    rw [castK, castK]
  rw [hsel] at plo phi
  have cQ : ∀ w : S8x16x1.Idx → BitVec 32, broadcastInDim S8x16x16 ![0, 1, 2] Gen.bcast_S8x16x1_S8x16x16_0_1_2 w (ix3 b i k) = w (ix3 b i 0) := fun w => by
    unfold broadcastInDim; congr 1; funext a; match a with | ⟨0, _⟩ => rfl | ⟨1, _⟩ => rfl | ⟨2, _⟩ => rfl
  have cK : ∀ w : S8x1x16.Idx → BitVec 32, broadcastInDim S8x16x16 ![0, 1, 2] Gen.bcast_S8x1x16_S8x16x16_0_1_2 w (ix3 b i k) = w (ix3 b 0 k) := fun w => by
    unfold broadcastInDim; congr 1; funext a; match a with | ⟨0, _⟩ => rfl | ⟨1, _⟩ => rfl | ⟨2, _⟩ => rfl
  unfold needT
  generalize Host.reduce IntOp.minsi (shapeCast S8x16x1x128 sg Gen.shapeCasts_S8x2048_S8x16x1x128) (constantI S_ 32 2147483647#32) Gen.reducesTo_S8x16x1x128_S8x16x1_d3 Gen.h_S_ = QLO at *
  generalize Host.reduce IntOp.maxsi (shapeCast S8x16x1x128 sg Gen.shapeCasts_S8x2048_S8x16x1x128) (constantI S_ 32 2147483648#32) Gen.reducesTo_S8x16x1x128_S8x16x1_d3 Gen.h_S_ = QHI at *
  generalize Host.reduce IntOp.minsi (shapeCast S8x1x16x128 sg Gen.shapeCasts_S8x2048_S8x1x16x128) (constantI S_ 32 2147483647#32) Gen.reducesTo_S8x1x16x128_S8x1x16_d3 Gen.h_S_ = KLO at *
  generalize Host.reduce IntOp.maxsi (shapeCast S8x1x16x128 sg Gen.shapeCasts_S8x2048_S8x1x16x128) (constantI S_ 32 2147483648#32) Gen.reducesTo_S8x1x16x128_S8x1x16_d3 Gen.h_S_ = KHI at *
  generalize Host.reduce IntOp.minsi (select (shapeCast S8x1x16x128 pf Gen.shapeCasts_S8x2048_S8x1x16x128) (shapeCast S8x1x16x128 sg Gen.shapeCasts_S8x2048_S8x1x16x128) (broadcastInDim S8x1x16x128 ![] Gen.bcast_S_S8x1x16x128 (constantI S_ 32 1073741824#32))) (constantI S_ 32 2147483647#32) Gen.reducesTo_S8x1x16x128_S8x1x16_d3 Gen.h_S_ = PLO at *
  generalize Host.reduce IntOp.maxsi (select (shapeCast S8x1x16x128 pf Gen.shapeCasts_S8x2048_S8x1x16x128) (shapeCast S8x1x16x128 sg Gen.shapeCasts_S8x2048_S8x1x16x128) (broadcastInDim S8x1x16x128 ![] Gen.bcast_S_S8x1x16x128 (negi (constantI S_ 32 1073741824#32)))) (constantI S_ 32 2147483648#32) Gen.reducesTo_S8x1x16x128_S8x1x16_d3 Gen.h_S_ = PHI at *
  show IntOp.ori (IntOp.andi (IntOp.andi (IntOp.cmpi .sle (broadcastInDim S8x16x16 ![0, 1, 2] Gen.bcast_S8x1x16_S8x16x16_0_1_2 KLO (ix3 b i k)) (broadcastInDim S8x16x16 ![0, 1, 2] Gen.bcast_S8x16x1_S8x16x16_0_1_2 QHI (ix3 b i k)))
      (IntOp.cmpi .sge (broadcastInDim S8x16x16 ![0, 1, 2] Gen.bcast_S8x1x16_S8x16x16_0_1_2 KHI (ix3 b i k)) (broadcastInDim S8x16x16 ![0, 1, 2] Gen.bcast_S8x16x1_S8x16x16_0_1_2 QLO (ix3 b i k))))
      (IntOp.cmpi .slt (BitVec.ofNat 32 k.val * 128#32) ((BitVec.ofNat 32 i.val + 1#32) * 128#32)))
      (IntOp.andi (IntOp.cmpi .sle (broadcastInDim S8x16x16 ![0, 1, 2] Gen.bcast_S8x1x16_S8x16x16_0_1_2 PLO (ix3 b i k)) (broadcastInDim S8x16x16 ![0, 1, 2] Gen.bcast_S8x16x1_S8x16x16_0_1_2 QHI (ix3 b i k)))
      (IntOp.cmpi .sge (broadcastInDim S8x16x16 ![0, 1, 2] Gen.bcast_S8x1x16_S8x16x16_0_1_2 PHI (ix3 b i k)) (broadcastInDim S8x16x16 ![0, 1, 2] Gen.bcast_S8x16x1_S8x16x16_0_1_2 QLO (ix3 b i k)))) = 1#1
  rw [cK, cK, cK, cK, cQ, cQ]
  have sle : ∀ x y : BitVec 32, x.toInt ≤ y.toInt → IntOp.cmpi .sle x y = 1#1 := fun x y h => by
    show BitVec.ofBool (x.sle y) = _
    rw [BitVec.sle_iff_toInt_le.mpr h]; rfl
  have sge : ∀ x y : BitVec 32, y.toInt ≤ x.toInt → IntOp.cmpi .sge x y = 1#1 := fun x y h => sle y x h
  rcases hv with hv | hv
  · rw [hv] at plo phi
    have e : ∀ z : BitVec 32, Scalar.select 1#1 (sg (ix2 b (tileIx k x))) z = sg (ix2 b (tileIx k x)) := fun _ => rfl
    rw [e, ← hs] at plo phi
    rw [sle (PLO _) _ (plo.trans qhi), sge (PHI _) _ (qlo.trans phi)]
    show _ ||| _ = _
    have : ∀ z : BitVec 1, z ||| (1#1 &&& 1#1) = 1#1 := by decide
    exact this _
  · rw [← hs] at klo khi
    have hki : k.val ≤ i.val := by
      have : 128 * k.val + x.val ≤ 128 * i.val + y.val := hv
      omega
    have hlt : IntOp.cmpi .slt (BitVec.ofNat 32 k.val * 128#32) ((BitVec.ofNat 32 i.val + 1#32) * 128#32) = 1#1 := by
      have : ∀ k i : Fin 16, k.val ≤ i.val → IntOp.cmpi .slt (BitVec.ofNat 32 k.val * 128#32) ((BitVec.ofNat 32 i.val + 1#32) * 128#32) = 1#1 := by decide +kernel
      exact this k i hki
    rw [sle (KLO _) _ (klo.trans qhi), sge (KHI _) _ (qlo.trans khi), hlt]
    have : ∀ z : BitVec 1, (1#1 &&& 1#1 &&& 1#1) ||| z = 1#1 := by decide
    exact this _

/-- The tables of a run: at every tile one chunk at least, none past the end, and every key seen inside. -/
theorem table (F : FTy → Type) [FloatOps F] [Named F] (m : (ℓ : Loc nD τ sig) → Buf (Elt F) ℓ) (c : Dev nD) (b : Fin 8) (i : Fin 16) :
    1 ≤ BitVec.toNat (w := 32) (V m c main_v51 (ix2 b i)) ∧ BitVec.toNat (w := 32) (V m c main_v46 (ix2 b i)) + BitVec.toNat (w := 32) (V m c main_v51 (ix2 b i)) ≤ 16
    ∧ ∀ (y : Fin 128) (κ : Fin 2048), segA m c (ix2 b (tileIx i y)) = segA m c (ix2 b κ) → (preA m c (ix2 b κ) = 1#1 ∨ κ.val ≤ (tileIx i y).val) →
      128 * BitVec.toNat (w := 32) (V m c main_v46 (ix2 b i)) ≤ κ.val ∧ κ.val < 128 * (BitVec.toNat (w := 32) (V m c main_v46 (ix2 b i)) + BitVec.toNat (w := 32) (V m c main_v51 (ix2 b i))) := by
  have h0 := first_le m c (ix2 b i)
  rw [V46] at h0
  rw [V46, V51]
  show 1 ≤ (lastT _ (ix2 b i) - firstT _ (ix2 b i) + 1#32).toNat ∧ _ + (lastT _ (ix2 b i) - firstT _ (ix2 b i) + 1#32).toNat ≤ 16 ∧ ∀ (y : Fin 128) (κ : Fin 2048), _ → _ →
    _ ≤ κ.val ∧ κ.val < 128 * (_ + (lastT _ (ix2 b i) - firstT _ (ix2 b i) + 1#32).toNat)
  have hd := firstT_le _ b i i (need_of_visible (segA m c) (preA m c) b i i 0 0 rfl (Or.inr le_rfl)) h0
  refine ⟨hd.2.1, hd.2.2.1, fun y κ hs hv => ?_⟩
  obtain ⟨k, x, rfl⟩ : ∃ (k : Fin 16) (x : Fin 128), κ = tileIx k x := ⟨⟨κ.val / 128, by omega⟩, ⟨κ.val % 128, by omega⟩, Fin.ext (by show κ.val = 128 * (κ.val / 128) + κ.val % 128; omega)⟩
  have hk := firstT_le _ b i k (need_of_visible (segA m c) (preA m c) b i k y x hs hv) h0
  have hx : (tileIx k x).val = 128 * k.val + x.val := rfl
  have := x.isLt
  rw [hx]
  omega

end Cert.KernelIdeal.Attn

end
-- ==== Proof.KernelIdeal.Blocks.lean ====
/- The blocks the kernel's windows hold at a point, read from the arrays: the query windows hold the tile's columns of
   the point's batch, the others the whole batch. -/
module

public import proofs.«01_k».proof.Proof.KernelIdeal.Frame
public import proofs.«01_k».proof.Proof.KernelIdeal.Need

@[expose] public section

set_option maxRecDepth 65536
set_option maxHeartbeats 0

noncomputable section

namespace Cert.KernelIdeal.Attn

open Cert.KernelIdeal
open Idealize.ShloMosaic
open Idealize.ShloMosaic.TcCoe
open Idealize.SL Idealize.SL.Sem
open Facts₀ Facts

variable {F : FTy → Type} [FloatOps F] [Named F] (m : (ℓ : Loc nD τ sig) → Buf (Elt F) ℓ) (c : Dev nD)

theorem word8 (b : Fin 8) : (BitVec.ofNat 32 b.val).toNat = b.val := by revert b; decide
theorem word16 (b : Fin 16) : (BitVec.ofNat 32 b.val).toNat = b.val := by revert b; decide

/-- Window 0: what it holds at a point is its array at the block's place. -/
theorem held0 : ∀ (n : ℕ) (h : n < (cfgA m).N) (y : S1x2048x128.Idx) (j : S8x2048x2048.Idx),
    (∀ a, (j a).val = cc0_transform_0 (grid0.coords ⟨n, h⟩) a * S1x2048x128.size a + (y a).val) →
    Pipeline.heldIn (c := c) (cfgA m) (fun w => V m c (Pipeline.arrRef spec0 w)) 0 n h y = V m c main_v0 j
  | n, h, y, j, hj => by
    by_cases hf : ((cfgA m).win 0).fetch ⟨n, h⟩ = true
    · have e := congrFun (Pipeline.heldIn_of_fetch (cfg := cfgA m) (c := c) (fun w => V m c (Pipeline.arrRef spec0 w)) 0 ⟨n, h⟩ hf) y
      refine e.trans ?_
      show V m c main_v0 ((((cfgA m).win 0).blk ⟨n, h⟩).view.emb y) = V m c main_v0 j
      refine congrArg (V m c main_v0) (funext fun a => Fin.ext ?_)
      show cc0_transform_0 (grid0.coords ⟨n, h⟩) a * S1x2048x128.size a + 1 * (y a).val = (j a).val
      rw [hj a, one_mul]
    · have hi := ((cfgA m).win 0).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 0 n h (by simpa using hf)) y
        refine e.trans (held0 n (Nat.lt_of_succ_lt h) y j fun a => ?_)
        rw [hj a]
        have := congrFun hi.2 a
        exact congrArg (fun z => z * S1x2048x128.size a + (y a).val) this

/-- Window 1: what it holds at a point is its array at the block's place. -/
theorem held1 : ∀ (n : ℕ) (h : n < (cfgA m).N) (y : S1x32x128.Idx) (j : S8x32x2048.Idx),
    (∀ a, (j a).val = cc0_transform_1 (grid0.coords ⟨n, h⟩) a * S1x32x128.size a + (y a).val) →
    Pipeline.heldIn (c := c) (cfgA m) (fun w => V m c (Pipeline.arrRef spec0 w)) 1 n h y = V m c main_arg1 j
  | n, h, y, j, hj => by
    by_cases hf : ((cfgA m).win 1).fetch ⟨n, h⟩ = true
    · have e := congrFun (Pipeline.heldIn_of_fetch (cfg := cfgA m) (c := c) (fun w => V m c (Pipeline.arrRef spec0 w)) 1 ⟨n, h⟩ hf) y
      refine e.trans ?_
      show V m c main_arg1 ((((cfgA m).win 1).blk ⟨n, h⟩).view.emb y) = V m c main_arg1 j
      refine congrArg (V m c main_arg1) (funext fun a => Fin.ext ?_)
      show cc0_transform_1 (grid0.coords ⟨n, h⟩) a * S1x32x128.size a + 1 * (y a).val = (j a).val
      rw [hj a, one_mul]
    · have hi := ((cfgA m).win 1).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 1 n h (by simpa using hf)) y
        refine e.trans (held1 n (Nat.lt_of_succ_lt h) y j fun a => ?_)
        rw [hj a]
        have := congrFun hi.2 a
        exact congrArg (fun z => z * S1x32x128.size a + (y a).val) this

/-- Window 2: what it holds at a point is its array at the block's place. -/
theorem held2 : ∀ (n : ℕ) (h : n < (cfgA m).N) (y : S1x8x2048x64.Idx) (j : S8x8x2048x64.Idx),
    (∀ a, (j a).val = cc0_transform_2 (grid0.coords ⟨n, h⟩) a * S1x8x2048x64.size a + (y a).val) →
    Pipeline.heldIn (c := c) (cfgA m) (fun w => V m c (Pipeline.arrRef spec0 w)) 2 n h y = V m c main_v1 j
  | n, h, y, j, hj => by
    by_cases hf : ((cfgA m).win 2).fetch ⟨n, h⟩ = true
    · have e := congrFun (Pipeline.heldIn_of_fetch (cfg := cfgA m) (c := c) (fun w => V m c (Pipeline.arrRef spec0 w)) 2 ⟨n, h⟩ hf) y
      refine e.trans ?_
      show V m c main_v1 ((((cfgA m).win 2).blk ⟨n, h⟩).view.emb y) = V m c main_v1 j
      refine congrArg (V m c main_v1) (funext fun a => Fin.ext ?_)
      show cc0_transform_2 (grid0.coords ⟨n, h⟩) a * S1x8x2048x64.size a + 1 * (y a).val = (j a).val
      rw [hj a, one_mul]
    · have hi := ((cfgA m).win 2).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 2 n h (by simpa using hf)) y
        refine e.trans (held2 n (Nat.lt_of_succ_lt h) y j fun a => ?_)
        rw [hj a]
        have := congrFun hi.2 a
        exact congrArg (fun z => z * S1x8x2048x64.size a + (y a).val) this

/-- Window 3: what it holds at a point is its array at the block's place. -/
theorem held3 : ∀ (n : ℕ) (h : n < (cfgA m).N) (y : S1x8x2048.Idx) (j : S8x8x2048.Idx),
    (∀ a, (j a).val = cc0_transform_3 (grid0.coords ⟨n, h⟩) a * S1x8x2048.size a + (y a).val) →
    Pipeline.heldIn (c := c) (cfgA m) (fun w => V m c (Pipeline.arrRef spec0 w)) 3 n h y = V m c main_arg3 j
  | n, h, y, j, hj => by
    by_cases hf : ((cfgA m).win 3).fetch ⟨n, h⟩ = true
    · have e := congrFun (Pipeline.heldIn_of_fetch (cfg := cfgA m) (c := c) (fun w => V m c (Pipeline.arrRef spec0 w)) 3 ⟨n, h⟩ hf) y
      refine e.trans ?_
      show V m c main_arg3 ((((cfgA m).win 3).blk ⟨n, h⟩).view.emb y) = V m c main_arg3 j
      refine congrArg (V m c main_arg3) (funext fun a => Fin.ext ?_)
      show cc0_transform_3 (grid0.coords ⟨n, h⟩) a * S1x8x2048.size a + 1 * (y a).val = (j a).val
      rw [hj a, one_mul]
    · have hi := ((cfgA m).win 3).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 3 n h (by simpa using hf)) y
        refine e.trans (held3 n (Nat.lt_of_succ_lt h) y j fun a => ?_)
        rw [hj a]
        have := congrFun hi.2 a
        exact congrArg (fun z => z * S1x8x2048.size a + (y a).val) this

/-- Window 4: what it holds at a point is its array at the block's place. -/
theorem held4 : ∀ (n : ℕ) (h : n < (cfgA m).N) (y : S1x512x2048.Idx) (j : S8x512x2048.Idx),
    (∀ a, (j a).val = cc0_transform_4 (grid0.coords ⟨n, h⟩) a * S1x512x2048.size a + (y a).val) →
    Pipeline.heldIn (c := c) (cfgA m) (fun w => V m c (Pipeline.arrRef spec0 w)) 4 n h y = V m c main_v2 j
  | n, h, y, j, hj => by
    by_cases hf : ((cfgA m).win 4).fetch ⟨n, h⟩ = true
    · have e := congrFun (Pipeline.heldIn_of_fetch (cfg := cfgA m) (c := c) (fun w => V m c (Pipeline.arrRef spec0 w)) 4 ⟨n, h⟩ hf) y
      refine e.trans ?_
      show V m c main_v2 ((((cfgA m).win 4).blk ⟨n, h⟩).view.emb y) = V m c main_v2 j
      refine congrArg (V m c main_v2) (funext fun a => Fin.ext ?_)
      show cc0_transform_4 (grid0.coords ⟨n, h⟩) a * S1x512x2048.size a + 1 * (y a).val = (j a).val
      rw [hj a, one_mul]
    · have hi := ((cfgA m).win 4).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 4 n h (by simpa using hf)) y
        refine e.trans (held4 n (Nat.lt_of_succ_lt h) y j fun a => ?_)
        rw [hj a]
        have := congrFun hi.2 a
        exact congrArg (fun z => z * S1x512x2048.size a + (y a).val) this

/-- Window 5: what it holds at a point is its array at the block's place. -/
theorem held5 : ∀ (n : ℕ) (h : n < (cfgA m).N) (y : S1x8x128.Idx) (j : S8x8x128.Idx),
    (∀ a, (j a).val = cc0_transform_5 (grid0.coords ⟨n, h⟩) a * S1x8x128.size a + (y a).val) →
    Pipeline.heldIn (c := c) (cfgA m) (fun w => V m c (Pipeline.arrRef spec0 w)) 5 n h y = V m c main_v61 j
  | n, h, y, j, hj => by
    by_cases hf : ((cfgA m).win 5).fetch ⟨n, h⟩ = true
    · have e := congrFun (Pipeline.heldIn_of_fetch (cfg := cfgA m) (c := c) (fun w => V m c (Pipeline.arrRef spec0 w)) 5 ⟨n, h⟩ hf) y
      refine e.trans ?_
      show V m c main_v61 ((((cfgA m).win 5).blk ⟨n, h⟩).view.emb y) = V m c main_v61 j
      refine congrArg (V m c main_v61) (funext fun a => Fin.ext ?_)
      show cc0_transform_5 (grid0.coords ⟨n, h⟩) a * S1x8x128.size a + 1 * (y a).val = (j a).val
      rw [hj a, one_mul]
    · have hi := ((cfgA m).win 5).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 5 n h (by simpa using hf)) y
        refine e.trans (held5 n (Nat.lt_of_succ_lt h) y j fun a => ?_)
        rw [hj a]
        have := congrFun hi.2 a
        exact congrArg (fun z => z * S1x8x128.size a + (y a).val) this

/-- Window 6: what it holds at a point is its array at the block's place. -/
theorem held6 : ∀ (n : ℕ) (h : n < (cfgA m).N) (y : S1x1x128.Idx) (j : S8x1x2048.Idx),
    (∀ a, (j a).val = cc0_transform_6 (grid0.coords ⟨n, h⟩) a * S1x1x128.size a + (y a).val) →
    Pipeline.heldIn (c := c) (cfgA m) (fun w => V m c (Pipeline.arrRef spec0 w)) 6 n h y = V m c main_v53 j
  | n, h, y, j, hj => by
    by_cases hf : ((cfgA m).win 6).fetch ⟨n, h⟩ = true
    · have e := congrFun (Pipeline.heldIn_of_fetch (cfg := cfgA m) (c := c) (fun w => V m c (Pipeline.arrRef spec0 w)) 6 ⟨n, h⟩ hf) y
      refine e.trans ?_
      show V m c main_v53 ((((cfgA m).win 6).blk ⟨n, h⟩).view.emb y) = V m c main_v53 j
      refine congrArg (V m c main_v53) (funext fun a => Fin.ext ?_)
      show cc0_transform_6 (grid0.coords ⟨n, h⟩) a * S1x1x128.size a + 1 * (y a).val = (j a).val
      rw [hj a, one_mul]
    · have hi := ((cfgA m).win 6).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 6 n h (by simpa using hf)) y
        refine e.trans (held6 n (Nat.lt_of_succ_lt h) y j fun a => ?_)
        rw [hj a]
        have := congrFun hi.2 a
        exact congrArg (fun z => z * S1x1x128.size a + (y a).val) this

/-- Window 7: what it holds at a point is its array at the block's place. -/
theorem held7 : ∀ (n : ℕ) (h : n < (cfgA m).N) (y : S1x1x2048.Idx) (j : S8x1x2048.Idx),
    (∀ a, (j a).val = cc0_transform_7 (grid0.coords ⟨n, h⟩) a * S1x1x2048.size a + (y a).val) →
    Pipeline.heldIn (c := c) (cfgA m) (fun w => V m c (Pipeline.arrRef spec0 w)) 7 n h y = V m c main_v55 j
  | n, h, y, j, hj => by
    by_cases hf : ((cfgA m).win 7).fetch ⟨n, h⟩ = true
    · have e := congrFun (Pipeline.heldIn_of_fetch (cfg := cfgA m) (c := c) (fun w => V m c (Pipeline.arrRef spec0 w)) 7 ⟨n, h⟩ hf) y
      refine e.trans ?_
      show V m c main_v55 ((((cfgA m).win 7).blk ⟨n, h⟩).view.emb y) = V m c main_v55 j
      refine congrArg (V m c main_v55) (funext fun a => Fin.ext ?_)
      show cc0_transform_7 (grid0.coords ⟨n, h⟩) a * S1x1x2048.size a + 1 * (y a).val = (j a).val
      rw [hj a, one_mul]
    · have hi := ((cfgA m).win 7).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 7 n h (by simpa using hf)) y
        refine e.trans (held7 n (Nat.lt_of_succ_lt h) y j fun a => ?_)
        rw [hj a]
        have := congrFun hi.2 a
        exact congrArg (fun z => z * S1x1x2048.size a + (y a).val) this

/-- Window 8: what it holds at a point is its array at the block's place. -/
theorem held8 : ∀ (n : ℕ) (h : n < (cfgA m).N) (y : S1x1x2048.Idx) (j : S8x1x2048.Idx),
    (∀ a, (j a).val = cc0_transform_8 (grid0.coords ⟨n, h⟩) a * S1x1x2048.size a + (y a).val) →
    Pipeline.heldIn (c := c) (cfgA m) (fun w => V m c (Pipeline.arrRef spec0 w)) 8 n h y = V m c main_v60 j
  | n, h, y, j, hj => by
    by_cases hf : ((cfgA m).win 8).fetch ⟨n, h⟩ = true
    · have e := congrFun (Pipeline.heldIn_of_fetch (cfg := cfgA m) (c := c) (fun w => V m c (Pipeline.arrRef spec0 w)) 8 ⟨n, h⟩ hf) y
      refine e.trans ?_
      show V m c main_v60 ((((cfgA m).win 8).blk ⟨n, h⟩).view.emb y) = V m c main_v60 j
      refine congrArg (V m c main_v60) (funext fun a => Fin.ext ?_)
      show cc0_transform_8 (grid0.coords ⟨n, h⟩) a * S1x1x2048.size a + 1 * (y a).val = (j a).val
      rw [hj a, one_mul]
    · have hi := ((cfgA m).win 8).index_eq_of_fetch rfl ⟨n, h⟩ (by simpa using hf)
      match n, h, hj, hf, hi with
      | 0, _, _, _, hi => exact absurd rfl hi.1
      | n + 1, h, hj, hf, hi =>
        have e := congrFun (Pipeline.heldIn_of_not_fetch (cfg := cfgA m) (c := c) (fun w => V m c (Pipeline.arrRef spec0 w)) 8 n h (by simpa using hf)) y
        refine e.trans (held8 n (Nat.lt_of_succ_lt h) y j fun a => ?_)
        rw [hj a]
        have := congrFun hi.2 a
        exact congrArg (fun z => z * S1x1x2048.size a + (y a).val) this

/-- A point's batch and its tile of queries. -/
abbrev bAt (t : Fin (cfgA m).N) : Fin 8 := grid0.coords t 0
abbrev iAt (t : Fin (cfgA m).N) : Fin 16 := grid0.coords t 1

theorem blk_q (t : Fin (cfgA m).N) (x : Fin 2048) (y : Fin 128) : (blkAt m c t).q (ix3 0 x y) = V m c main_v0 (ix3 (bAt m t) x (tileIx (iAt m t) y)) := by
  refine held0 m c t.val t.isLt _ _ fun a => ?_
  fin_cases a
  · show (bAt m t).val = (BitVec.ofNat 32 (bAt m t).val).toNat * 1 + 0; rw [word8]; omega
  · show x.val = 0 * 2048 + x.val; omega
  · show 128 * (iAt m t).val + y.val = (BitVec.ofNat 32 (iAt m t).val).toNat * 128 + y.val; rw [word16]; omega

theorem blk_qs (t : Fin (cfgA m).N) (x : Fin 32) (y : Fin 128) : (blkAt m c t).qs (ix3 0 x y) = V m c main_arg1 (ix3 (bAt m t) x (tileIx (iAt m t) y)) := by
  refine held1 m c t.val t.isLt _ _ fun a => ?_
  fin_cases a
  · show (bAt m t).val = (BitVec.ofNat 32 (bAt m t).val).toNat * 1 + 0; rw [word8]; omega
  · show x.val = 0 * 32 + x.val; omega
  · show 128 * (iAt m t).val + y.val = (BitVec.ofNat 32 (iAt m t).val).toNat * 128 + y.val; rw [word16]; omega

theorem blk_k (t : Fin (cfgA m).N) (h : Fin 8) (κ : Fin 2048) (d : Fin 64) : (blkAt m c t).k (ix4 0 h κ d) = V m c main_v1 (ix4 (bAt m t) h κ d) := by
  refine held2 m c t.val t.isLt _ _ fun a => ?_
  fin_cases a
  · show (bAt m t).val = (BitVec.ofNat 32 (bAt m t).val).toNat * 1 + 0; rw [word8]; omega
  · show h.val = 0 * 8 + h.val; omega
  · show κ.val = 0 * 2048 + κ.val; omega
  · show d.val = 0 * 64 + d.val; omega

theorem blk_ks (t : Fin (cfgA m).N) (h : Fin 8) (κ : Fin 2048) : (blkAt m c t).ks (ix3 0 h κ) = V m c main_arg3 (ix3 (bAt m t) h κ) := by
  refine held3 m c t.val t.isLt _ _ fun a => ?_
  fin_cases a
  · show (bAt m t).val = (BitVec.ofNat 32 (bAt m t).val).toNat * 1 + 0; rw [word8]; omega
  · show h.val = 0 * 8 + h.val; omega
  · show κ.val = 0 * 2048 + κ.val; omega

theorem blk_v (t : Fin (cfgA m).N) (x : Fin 512) (κ : Fin 2048) : (blkAt m c t).v (ix3 0 x κ) = V m c main_v2 (ix3 (bAt m t) x κ) := by
  refine held4 m c t.val t.isLt _ _ fun a => ?_
  fin_cases a
  · show (bAt m t).val = (BitVec.ofNat 32 (bAt m t).val).toNat * 1 + 0; rw [word8]; omega
  · show x.val = 0 * 512 + x.val; omega
  · show κ.val = 0 * 2048 + κ.val; omega

theorem blk_vs (t : Fin (cfgA m).N) (h : Fin 8) (x : Fin 128) : (blkAt m c t).vs (ix3 0 h x) = V m c main_v61 (ix3 (bAt m t) h x) := by
  refine held5 m c t.val t.isLt _ _ fun a => ?_
  fin_cases a
  · show (bAt m t).val = (BitVec.ofNat 32 (bAt m t).val).toNat * 1 + 0; rw [word8]; omega
  · show h.val = 0 * 8 + h.val; omega
  · show x.val = 0 * 128 + x.val; omega

theorem blk_segq (t : Fin (cfgA m).N) (y : Fin 128) : (blkAt m c t).segq (ix3 0 0 y) = V m c main_v53 (ix3 (bAt m t) 0 (tileIx (iAt m t) y)) := by
  refine held6 m c t.val t.isLt _ _ fun a => ?_
  fin_cases a
  · show (bAt m t).val = (BitVec.ofNat 32 (bAt m t).val).toNat * 1 + 0; rw [word8]; omega
  · show 0 = 0 * 1 + 0; omega
  · show 128 * (iAt m t).val + y.val = (BitVec.ofNat 32 (iAt m t).val).toNat * 128 + y.val; rw [word16]; omega

theorem blk_segk (t : Fin (cfgA m).N) (κ : Fin 2048) : (blkAt m c t).segk (ix3 0 0 κ) = V m c main_v55 (ix3 (bAt m t) 0 κ) := by
  refine held7 m c t.val t.isLt _ _ fun a => ?_
  fin_cases a
  · show (bAt m t).val = (BitVec.ofNat 32 (bAt m t).val).toNat * 1 + 0; rw [word8]; omega
  · show 0 = 0 * 1 + 0; omega
  · show κ.val = 0 * 2048 + κ.val; omega

theorem blk_posk (t : Fin (cfgA m).N) (κ : Fin 2048) : (blkAt m c t).posk (ix3 0 0 κ) = V m c main_v60 (ix3 (bAt m t) 0 κ) := by
  refine held8 m c t.val t.isLt _ _ fun a => ?_
  fin_cases a
  · show (bAt m t).val = (BitVec.ofNat 32 (bAt m t).val).toNat * 1 + 0; rw [word8]; omega
  · show 0 = 0 * 1 + 0; omega
  · show κ.val = 0 * 2048 + κ.val; omega

end Cert.KernelIdeal.Attn

end
-- ==== Proof.KernelIdeal.Val.lean ====
/-
  THE HEAD LOOP'S OPERATIONS ON EXTENDED REALS, read at an index.
-/
module

public import proofs.«01_k».proof.Proof.KernelIdeal.Run
public import Idealize.ShloMosaic.Lib.Pointwise
public import Idealize.ShloMosaic.Lib.MatmulPlain

@[expose] public section

set_option maxRecDepth 65536

noncomputable section

namespace Cert.KernelIdeal.Attn

open Cert.KernelIdeal
open Idealize.ShloMosaic

open Idealize.SL.Sem
open Facts₀ Facts

/-- The lane of a column. -/
abbrev ln (x : Fin 512) : Fin 128 := ⟨x.val % 128, Nat.mod_lt _ (by omega)⟩

theorem mm_apply {M K N : ℕ} {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32) (r : Fin M) (c : Fin N) :
    FloatOps.matmul (DotDims.plain M K N) prec lhs rhs acc (ix2 r c) = (acc (ix2 r c) + ∑ k : Fin K, lhs (ix2 r k) * rhs (ix2 k c) : EReal) :=
  Ideal.matmul_plain_apply prec lhs rhs acc r c

theorem neg_inf : Ideal.ofBits .f32 0xFF800000#32 = ⊥ := by
  simp [Ideal.ofBits, Ideal.ieee]

/-- Four pieces of 128 columns side by side. -/
theorem cat_cols {α : Type} {R : ℕ} (f : Fin 4 → ((⟨2, ![R, 128]⟩ : Shape).Idx → α))
    (h : Shape.Concatenates ([⟨2, ![R, 128]⟩, ⟨2, ![R, 128]⟩, ⟨2, ![R, 128]⟩, ⟨2, ![R, 128]⟩] : List Shape) ⟨2, ![R, 512]⟩ 1) (r : Fin R) (x : Fin 512) :
    concatenate ⟨2, ![R, 512]⟩ 1 [⟨⟨2, ![R, 128]⟩, f 0⟩, ⟨⟨2, ![R, 128]⟩, f 1⟩, ⟨⟨2, ![R, 128]⟩, f 2⟩, ⟨⟨2, ![R, 128]⟩, f 3⟩] h (ix2 r x) = f ⟨x.val / 128, by omega⟩ (ix2 r (ln x)) :=
  concatenate_ofFn_apply (t := ⟨2, ![R, 512]⟩) (s₁ := ⟨2, ![R, 128]⟩) 1 f h rfl 128 rfl (ix2 r x) ⟨x.val / 128, by omega⟩ rfl (ix2 r (ln x)) rfl (fun b hb => by
    match b with
    | ⟨0, _⟩ => rfl
    | ⟨1, _⟩ => exact absurd rfl hb)

theorem sc256_apply (q : FVec Ideal S64x512 .fp8e4m3) (xk : Vec Ideal S1x1x256x64 .fp8e4m3) (xs : Vec Ideal S1x256x128 .f32) (xb : Vec Ideal S256x128 .f32) (r : Fin 256) (x : Fin 512) :
    sc256 q xk xs xb (ix2 r x) = ((∑ d : Fin 64, xk (ix4 0 0 r d) * q (ix2 d x)) * xs (ix3 0 r (ln x)) + xb (ix2 r (ln x)) : EReal) := by
  have h1 : concatenate S256x512 1 [⟨S256x128, shapeCast S256x128 xs shapeCasts_S1x256x128_S256x128⟩, ⟨S256x128, shapeCast S256x128 xs shapeCasts_S1x256x128_S256x128⟩, ⟨S256x128, shapeCast S256x128 xs shapeCasts_S1x256x128_S256x128⟩, ⟨S256x128, shapeCast S256x128 xs shapeCasts_S1x256x128_S256x128⟩] concatenates_S256x128_S256x128_S256x128_S256x128_S256x512_d1 (ix2 r x) = xs (ix3 0 r (ln x)) := by
    refine (cat_cols (fun _ => shapeCast S256x128 xs shapeCasts_S1x256x128_S256x128) _ r x).trans ?_
    pointwise
  have h2 : concatenate S256x512 1 [⟨S256x128, xb⟩, ⟨S256x128, xb⟩, ⟨S256x128, xb⟩, ⟨S256x128, xb⟩] concatenates_S256x128_S256x128_S256x128_S256x128_S256x512_d1 (ix2 r x) = xb (ix2 r (ln x)) := cat_cols (fun _ => xb) _ r x
  unfold sc256
  show (FloatOps.matmul (DotDims.plain 256 64 512) none (shapeCast S256x64 xk shapeCasts_S1x1x256x64_S256x64) q (constant (F := Ideal) S256x512 .f32 0x00000000#32) (ix2 r x) * concatenate S256x512 1 _ _ (ix2 r x) + concatenate S256x512 1 _ _ (ix2 r x) : EReal) = _
  rw [h1, h2, mm_apply]
  pointwise
theorem ex256_apply (qs m8 : FVec Ideal S1x512 .f32) (xp : Vec Ideal S1x256x512 .f32) (r : Fin 256) (x : Fin 512) :
    ex256 qs m8 xp (ix2 r x) = Ideal.exp2 (xp (ix3 0 r x) * qs (ix2 0 x) - m8 (ix2 0 x) : EReal) := by
  unfold ex256
  pointwise
  rfl
theorem scSt256_apply (sc : FVec Ideal S256x512 .f32) (r : Fin 256) (x : Fin 512) : scSt256 sc (ix3 0 r x) = sc (ix2 r x) := by
  unfold scSt256
  pointwise
/-- Row `8 a + u`. -/
abbrev row256 (a : Fin 32) (u : Fin 8) : Fin 256 := ⟨a.val * 8 + u.val, by omega⟩
theorem st256_mx (s : St Ideal) (sc e : FVec Ideal S256x512 .f32) (xv : Vec Ideal S1x64x256 .fp8e4m3) (u : Fin 8) (x : Fin 512) :
    (st256 s sc e xv).mx (ix2 u x) = (s.mx (ix2 u x) ⊔ Finset.univ.sup fun a : Fin 32 => sc (ix2 (row256 a u) x) : EReal) := by
  unfold st256
  pointwise
  rw [neg_inf]
  rfl
theorem st256_l (s : St Ideal) (sc e : FVec Ideal S256x512 .f32) (xv : Vec Ideal S1x64x256 .fp8e4m3) (u : Fin 8) (x : Fin 512) :
    (st256 s sc e xv).l (ix2 u x) = (s.l (ix2 u x) + ∑ a : Fin 32, e (ix2 (row256 a u) x) : EReal) := by
  unfold st256
  pointwise
theorem st256_acc (s : St Ideal) (sc e : FVec Ideal S256x512 .f32) (xv : Vec Ideal S1x64x256 .fp8e4m3) (d : Fin 64) (x : Fin 512) :
    (st256 s sc e xv).acc (ix2 d x) = (s.acc (ix2 d x) + ∑ r : Fin 256, xv (ix3 0 d r) * min (Ideal.ofBits .f32 0x43E00000#32) (max (Ideal.ofBits .f32 0xC3E00000#32) (e (ix2 r x))) : EReal) := by
  unfold st256
  show (s.acc (ix2 d x) + FloatOps.matmul (DotDims.plain 64 256 512) none (shapeCast S64x256 xv shapeCasts_S1x64x256_S64x256) _ (constant (F := Ideal) S64x512 .f32 0x00000000#32) (ix2 d x) : EReal) = _
  rw [mm_apply]
  pointwise

theorem sc128_apply (q : FVec Ideal S64x512 .fp8e4m3) (xk : Vec Ideal S1x1x128x64 .fp8e4m3) (xs : Vec Ideal S1x128x128 .f32) (xb : Vec Ideal S128x128 .f32) (r : Fin 128) (x : Fin 512) :
    sc128 q xk xs xb (ix2 r x) = ((∑ d : Fin 64, xk (ix4 0 0 r d) * q (ix2 d x)) * xs (ix3 0 r (ln x)) + xb (ix2 r (ln x)) : EReal) := by
  have h1 : concatenate S128x512 1 [⟨S128x128, shapeCast S128x128 xs shapeCasts_S1x128x128_S128x128⟩, ⟨S128x128, shapeCast S128x128 xs shapeCasts_S1x128x128_S128x128⟩, ⟨S128x128, shapeCast S128x128 xs shapeCasts_S1x128x128_S128x128⟩, ⟨S128x128, shapeCast S128x128 xs shapeCasts_S1x128x128_S128x128⟩] concatenates_S128x128_S128x128_S128x128_S128x128_S128x512_d1 (ix2 r x) = xs (ix3 0 r (ln x)) := by
    refine (cat_cols (fun _ => shapeCast S128x128 xs shapeCasts_S1x128x128_S128x128) _ r x).trans ?_
    pointwise
  have h2 : concatenate S128x512 1 [⟨S128x128, xb⟩, ⟨S128x128, xb⟩, ⟨S128x128, xb⟩, ⟨S128x128, xb⟩] concatenates_S128x128_S128x128_S128x128_S128x128_S128x512_d1 (ix2 r x) = xb (ix2 r (ln x)) := cat_cols (fun _ => xb) _ r x
  unfold sc128
  show (FloatOps.matmul (DotDims.plain 128 64 512) none (shapeCast S128x64 xk shapeCasts_S1x1x128x64_S128x64) q (constant (F := Ideal) S128x512 .f32 0x00000000#32) (ix2 r x) * concatenate S128x512 1 _ _ (ix2 r x) + concatenate S128x512 1 _ _ (ix2 r x) : EReal) = _
  rw [h1, h2, mm_apply]
  pointwise
theorem ex128_apply (qs m8 : FVec Ideal S1x512 .f32) (xp : Vec Ideal S1x128x512 .f32) (r : Fin 128) (x : Fin 512) :
    ex128 qs m8 xp (ix2 r x) = Ideal.exp2 (xp (ix3 0 r x) * qs (ix2 0 x) - m8 (ix2 0 x) : EReal) := by
  unfold ex128
  pointwise
  rfl
theorem scSt128_apply (sc : FVec Ideal S128x512 .f32) (r : Fin 128) (x : Fin 512) : scSt128 sc (ix3 0 r x) = sc (ix2 r x) := by
  unfold scSt128
  pointwise
/-- Row `8 a + u`. -/
abbrev row128 (a : Fin 16) (u : Fin 8) : Fin 128 := ⟨a.val * 8 + u.val, by omega⟩
theorem st128_mx (s : St Ideal) (sc e : FVec Ideal S128x512 .f32) (xv : Vec Ideal S1x64x128 .fp8e4m3) (u : Fin 8) (x : Fin 512) :
    (st128 s sc e xv).mx (ix2 u x) = (s.mx (ix2 u x) ⊔ Finset.univ.sup fun a : Fin 16 => sc (ix2 (row128 a u) x) : EReal) := by
  unfold st128
  pointwise
  rw [neg_inf]
  rfl
theorem st128_l (s : St Ideal) (sc e : FVec Ideal S128x512 .f32) (xv : Vec Ideal S1x64x128 .fp8e4m3) (u : Fin 8) (x : Fin 512) :
    (st128 s sc e xv).l (ix2 u x) = (s.l (ix2 u x) + ∑ a : Fin 16, e (ix2 (row128 a u) x) : EReal) := by
  unfold st128
  pointwise
theorem st128_acc (s : St Ideal) (sc e : FVec Ideal S128x512 .f32) (xv : Vec Ideal S1x64x128 .fp8e4m3) (d : Fin 64) (x : Fin 512) :
    (st128 s sc e xv).acc (ix2 d x) = (s.acc (ix2 d x) + ∑ r : Fin 128, xv (ix3 0 d r) * min (Ideal.ofBits .f32 0x43E00000#32) (max (Ideal.ofBits .f32 0xC3E00000#32) (e (ix2 r x))) : EReal) := by
  unfold st128
  show (s.acc (ix2 d x) + FloatOps.matmul (DotDims.plain 64 128 512) none (shapeCast S64x128 xv shapeCasts_S1x64x128_S64x128) _ (constant (F := Ideal) S64x512 .f32 0x00000000#32) (ix2 d x) : EReal) = _
  rw [mm_apply]
  pointwise

theorem m8Of_apply (mx : FVec Ideal S8x512 .f32) (qs : FVec Ideal S1x512 .f32) (x : Fin 512) :
    m8Of mx qs (ix2 0 x) = ((Finset.univ.sup fun u : Fin 8 => mx (ix2 u x)) * qs (ix2 0 x) - Ideal.ofBits .f32 0x41000000#32 : EReal) := by
  unfold m8Of
  pointwise
  rw [neg_inf]
  rfl
theorem normOf_apply (l : FVec Ideal S8x512 .f32) (acc : FVec Ideal S64x512 .f32) (d : Fin 64) (x : Fin 512) :
    normOf l acc (ix2 d x) = (acc (ix2 d x) * Ideal.div 1 (∑ u : Fin 8, l (ix2 u x)) : EReal) := by
  unfold normOf
  pointwise
theorem outOf_apply (a b : FVec Ideal S64x128 .bf16) (xs : Vec Ideal S1x1x128 .f32) (c y : Fin 128) :
    outOf a b xs (ix3 0 c y) = ((if h : y.val < 64 then a (ix2 ⟨y.val, h⟩ c) else b (ix2 ⟨y.val - 64, by omega⟩ c)) * xs (ix3 0 0 y) : EReal) := by
  unfold outOf
  pointwise
theorem cast64 {α : Type} (v : S1x64x128.Idx → α) (d : Fin 64) (y : Fin 128) : shapeCast S64x128 v shapeCasts_S1x64x128_S64x128 (ix2 d y) = v (ix3 0 d y) := by
  pointwise
theorem cast1 {α : Type} (v : S1x1x128.Idx → α) (y : Fin 128) : shapeCast S1x128 v shapeCasts_S1x1x128_S1x128 (ix2 0 y) = v (ix3 0 0 y) := by
  pointwise
theorem qH_apply (E : Env Ideal) (h : ℕ) (hh : h < 8) (d : Fin 64) (x : Fin 512) :
    qH E h hh (ix2 d x) = E.q (ix3 0 ⟨256 * h + 64 * (x.val / 128) + d.val, by omega⟩ (ln x)) := by
  refine (cat_cols (fun g => shapeCast S64x128 (VecWindow.window E.q (![0, 256 * h + 64 * g.val, 0] : Fin 3 → ℕ) S1x64x128.size (inbQ h g.val hh g.isLt)) shapeCasts_S1x64x128_S64x128) concatenates_S64x128_S64x128_S64x128_S64x128_S64x512_d1 d x).trans ?_
  rw [cast64]
  refine congrArg E.q (funext fun a => Fin.ext ?_)
  fin_cases a
  · rfl
  · show 256 * h + 64 * (x.val / 128) + 1 * d.val = 256 * h + 64 * (x.val / 128) + d.val; omega
  · show 0 + 1 * (x.val % 128) = x.val % 128; omega
theorem qsH_apply (E : Env Ideal) (h : ℕ) (hh : h < 8) (x : Fin 512) :
    qsH E h hh (ix2 0 x) = E.qs (ix3 0 ⟨4 * h + x.val / 128, by omega⟩ (ln x)) := by
  refine (cat_cols (fun g => shapeCast S1x128 (VecWindow.window E.qs (![0, 4 * h + g.val, 0] : Fin 3 → ℕ) S1x1x128.size (inbQs h g.val hh g.isLt)) shapeCasts_S1x1x128_S1x128) concatenates_S1x128_S1x128_S1x128_S1x128_S1x512_d1 0 x).trans ?_
  rw [cast1]
  refine congrArg E.qs (funext fun a => Fin.ext ?_)
  fin_cases a
  · rfl
  · show 4 * h + x.val / 128 + 1 * 0 = 4 * h + x.val / 128; omega
  · show 0 + 1 * (x.val % 128) = x.val % 128; omega
theorem vsH_apply (E : Env Ideal) (h : ℕ) (hh : h < 8) (y : Fin 128) :
    vsH E h hh (ix3 0 0 y) = E.vs (ix3 0 ⟨h, hh⟩ y) := by
  refine congrArg E.vs (funext fun a => Fin.ext ?_)
  fin_cases a
  · rfl
  · show h + 1 * 0 = h; omega
  · show 0 + 1 * y.val = y.val; omega

end Cert.KernelIdeal.Attn

end
-- ==== Proof.KernelIdeal.Win.lean ====
/-
  THE HEAD LOOP'S OUTPUT ON EXTENDED REALS: the chunks of a trip cover its window (`Inv`), a trip makes one head's scores
  and the head before's output, and the nine trips write every head's output (`loop_out`).
-/
module

public import proofs.«01_k».proof.Proof.KernelIdeal.Val

@[expose] public section

set_option maxRecDepth 65536

noncomputable section

namespace Cert.KernelIdeal.Attn

open Cert.KernelIdeal
open Idealize.ShloMosaic

open Idealize.SL.Sem
open Facts₀ Facts

/-- A key, total in its number. -/
abbrev kap (j : ℕ) : Fin 2048 := ⟨j % 2048, Nat.mod_lt _ (by omega)⟩
abbrev clipP (x : EReal) : EReal := min (Ideal.ofBits .f32 0x43E00000#32) (max (Ideal.ofBits .f32 0xC3E00000#32) x)

section
variable (E : Env Ideal) (k0 : ℕ)

/-- The score of head `h` at the window's key `j` and column `x`; the column's scale; the scaled maximum less 8 over a
    window of `n` keys; the exponential; the value. -/
def Sx (h : Fin 8) (j : ℕ) (x : Fin 512) : EReal :=
  (∑ d : Fin 64, E.k (ix4 0 h (kap (k0 + j)) d) * E.q (ix3 0 ⟨256 * h.val + 64 * (x.val / 128) + d.val, by omega⟩ (ln x)) : EReal)
    * E.ks (ix3 h (kap (k0 + j)) (ln x)) + E.b (ix2 (kap j) (ln x))
def Qx (h : Fin 8) (x : Fin 512) : EReal := E.qs (ix3 0 ⟨4 * h.val + x.val / 128, by omega⟩ (ln x))
def M8x (n : ℕ) (h : Fin 8) (x : Fin 512) : EReal := ((Finset.range n).sup fun j => Sx E k0 h j x) * Qx E h x - Ideal.ofBits .f32 0x41000000#32
def Ex (n : ℕ) (h : Fin 8) (j : ℕ) (x : Fin 512) : EReal := Ideal.exp2 (Sx E k0 h j x * Qx E h x - M8x E k0 n h x)
def Vx (h : Fin 8) (d : Fin 64) (j : ℕ) : EReal := E.v (ix3 0 ⟨64 * h.val + d.val, by omega⟩ (kap (k0 + j)))
/-- The output at query lane `c`, head `h`, group `g`, coordinate `d`. -/
def Ox (n : ℕ) (h : Fin 8) (g : Fin 4) (d : Fin 64) (c : Fin 128) : EReal :=
  (∑ j ∈ Finset.range n, Vx E k0 h d j * clipP (Ex E k0 n h j ⟨128 * g.val + c.val, by omega⟩))
    * Ideal.div 1 (∑ j ∈ Finset.range n, Ex E k0 n h j ⟨128 * g.val + c.val, by omega⟩) * E.vs (ix3 0 h ⟨(64 * g.val + d.val) % 128, by omega⟩)

theorem min7_lt (t : Trips) : min t.val 7 < 8 := by omega
theorem pred_lt (t : Trips) : t.val - 1 < 8 := by have := trips_lt t; omega
theorem mod2_lt (t : Trips) : t.val % 2 < 2 := by omega

/-! ## Sums and maxima by chunks -/

theorem sup_range_add (f : ℕ → EReal) (a b : ℕ) : (Finset.range (a + b)).sup f = (Finset.range a).sup f ⊔ (Finset.range b).sup fun r => f (a + r) := by
  apply le_antisymm
  · refine Finset.sup_le fun j hj => ?_
    rw [Finset.mem_range] at hj
    by_cases h : j < a
    · exact le_sup_of_le_left (Finset.le_sup (f := f) (Finset.mem_range.2 h))
    · refine le_sup_of_le_right ?_
      have := Finset.le_sup (f := fun r => f (a + r)) (Finset.mem_range.2 (show j - a < b by omega))
      simpa [show a + (j - a) = j by omega] using this
  · refine sup_le (Finset.sup_mono (Finset.range_mono (by omega))) (Finset.sup_le fun j hj => ?_)
    rw [Finset.mem_range] at hj
    exact Finset.le_sup (f := f) (Finset.mem_range.2 (by omega))

theorem sup_rows (A : ℕ) (f : ℕ → EReal) : (Finset.univ.sup fun u : Fin 8 => Finset.univ.sup fun a : Fin A => f (a.val * 8 + u.val)) = (Finset.range (A * 8)).sup f := by
  apply le_antisymm
  · refine Finset.sup_le fun u _ => Finset.sup_le fun a _ => Finset.le_sup (f := f) (Finset.mem_range.2 ?_)
    have := a.isLt; have := u.isLt; omega
  · refine Finset.sup_le fun j hj => ?_
    rw [Finset.mem_range] at hj
    have h1 := Finset.le_sup (f := fun a : Fin A => f (a.val * 8 + j % 8)) (Finset.mem_univ (⟨j / 8, by omega⟩ : Fin A))
    have h2 := Finset.le_sup (f := fun u : Fin 8 => Finset.univ.sup fun a : Fin A => f (a.val * 8 + u.val)) (Finset.mem_univ (⟨j % 8, by omega⟩ : Fin 8))
    refine le_trans (le_of_eq ?_) (h1.trans h2)
    show f j = f (j / 8 * 8 + j % 8)
    congr 1; omega

theorem sum_rows (A : ℕ) (f : ℕ → EReal) : (∑ u : Fin 8, ∑ a : Fin A, f (a.val * 8 + u.val)) = ∑ j ∈ Finset.range (A * 8), f j := by
  rw [Finset.sum_comm, ← Fin.sum_univ_eq_sum_range, ← Equiv.sum_comp finProdFinEquiv, Fintype.sum_prod_type]
  refine Finset.sum_congr rfl fun a _ => Finset.sum_congr rfl fun u _ => congrArg f ?_
  show a.val * 8 + u.val = u.val + 8 * a.val
  omega

/-- What the chunks gone through carry on, `base` keys into the window: the scores `P` of the other slot and the stored
    maximum `m8` given. -/
structure Inv (hp hv : Fin 8) (sl : Fin 2) (P : ℕ → Fin 512 → EReal) (m8 : Fin 512 → EReal) (n base : ℕ) (s : St Ideal) (X : S2x2048x512.Idx → EReal) : Prop where
  l : ∀ x, (∑ u : Fin 8, (s.l (ix2 u x) : EReal)) = ∑ j ∈ Finset.range base, Ideal.exp2 (P j x * Qx E hv x - m8 x)
  mx : ∀ x, (Finset.univ.sup fun u : Fin 8 => (s.mx (ix2 u x) : EReal)) = (Finset.range base).sup fun j => Sx E k0 hp j x
  acc : ∀ d x, s.acc (ix2 d x) = ∑ j ∈ Finset.range base, Vx E k0 hv d j * clipP (Ideal.exp2 (P j x * Qx E hv x - m8 x))
  cur : ∀ j < base, ∀ x, X (ix3 sl (kap j) x) = Sx E k0 hp j x
  prev : ∀ j < n, ∀ x, X (ix3 (1 - sl) (kap j) x) = P j x

theorem scH256_apply (h : ℕ) (hh : h < 8) (base : ℕ) (hb : k0 + base + 256 ≤ 2048) (r : Fin 256) (x : Fin 512) :
    scH256 E k0 h base hh hb (ix2 r x) = Sx E k0 ⟨h, hh⟩ (base + r.val) x := by
  unfold scH256
  rw [sc256_apply]
  unfold Sx
  have e1 : ∀ d : Fin 64, VecWindow.window E.k (![0, h, k0 + base, 0] : Fin 4 → ℕ) S1x1x256x64.size (inbK256 h _ hh hb) (ix4 0 0 r d) = E.k (ix4 0 ⟨h, hh⟩ (kap (k0 + (base + r.val))) d) := fun d =>
    congrArg E.k (funext fun a => Fin.ext (by
      fin_cases a
      · rfl
      · show h + 1 * 0 = h; omega
      · show k0 + base + 1 * r.val = (k0 + (base + r.val)) % 2048; omega
      · show 0 + 1 * d.val = d.val; omega))
  have e2 : VecWindow.window E.ks (![h, k0 + base, 0] : Fin 3 → ℕ) S1x256x128.size (inbC256 h _ hh hb) (ix3 0 r (ln x)) = E.ks (ix3 ⟨h, hh⟩ (kap (k0 + (base + r.val))) (ln x)) :=
    congrArg E.ks (funext fun a => Fin.ext (by
      fin_cases a
      · show h + 1 * 0 = h; omega
      · show k0 + base + 1 * r.val = (k0 + (base + r.val)) % 2048; omega
      · show 0 + 1 * (x.val % 128) = x.val % 128; omega))
  have e3 : VecWindow.window E.b (![base, 0] : Fin 2 → ℕ) S256x128.size (offB_inb256 base (by omega)) (ix2 r (ln x)) = E.b (ix2 (kap (base + r.val)) (ln x)) :=
    congrArg E.b (funext fun a => Fin.ext (by
      fin_cases a
      · show base + 1 * r.val = (base + r.val) % 2048; omega
      · show 0 + 1 * (x.val % 128) = x.val % 128; omega))
  rw [e2, e3]
  simp only [e1, qH_apply]

theorem vH256_apply (h : ℕ) (hh : h < 8) (base : ℕ) (hb : k0 + base + 256 ≤ 2048) (d : Fin 64) (r : Fin 256) :
    vH256 E k0 h base hh hb (ix3 0 d r) = Vx E k0 ⟨h, hh⟩ d (base + r.val) :=
  congrArg E.v (funext fun a => Fin.ext (by
    fin_cases a
    · rfl
    · show 64 * h + 1 * d.val = 64 * h + d.val; omega
    · show k0 + base + 1 * r.val = (k0 + (base + r.val)) % 2048; omega))

theorem slot256_apply (X : S2x2048x512.Idx → EReal) (sl base : ℕ) (hh : sl < 2) (hk : base + 256 ≤ 2048) (r : Fin 256) (x : Fin 512) :
    slot256 (F := Ideal) X sl base hh hk (ix3 0 r x) = X (ix3 ⟨sl, hh⟩ (kap (base + r.val)) x) :=
  congrArg X (funext fun a => Fin.ext (by
    fin_cases a
    · show sl + 1 * 0 = sl; omega
    · show base + 1 * r.val = (base + r.val) % 2048; omega
    · show 0 + 1 * x.val = x.val; omega))

theorem putSlot256_in (X : S2x2048x512.Idx → EReal) (sl base : ℕ) (hh : sl < 2) (w : FVec Ideal S1x256x512 .f32) (j : ℕ) (x : Fin 512) (h0 : base ≤ j) (h1 : j < base + 256) (hj : j < 2048) :
    VecWindow.put X (![sl, base, 0] : Fin 3 → ℕ) S1x256x512.size w (ix3 ⟨sl, hh⟩ (kap j) x) = w (ix3 0 ⟨j - base, by omega⟩ x) := by
  unfold VecWindow.put
  have hm : j % 2048 = j := Nat.mod_eq_of_lt hj
  rw [dif_pos (by
    intro a; fin_cases a
    · show sl ≤ sl ∧ sl < sl + 1; omega
    · show base ≤ j % 2048 ∧ j % 2048 < base + 256; omega
    · show 0 ≤ x.val ∧ x.val < 0 + 512; omega)]
  refine congrArg w (funext fun a => Fin.ext ?_)
  fin_cases a
  · show sl - sl = 0; omega
  · show j % 2048 - base = j - base; omega
  · show x.val - 0 = x.val; omega
theorem putSlot256_out (X : S2x2048x512.Idx → EReal) (sl base : ℕ) (w : FVec Ideal S1x256x512 .f32) (a : Fin 2) (j : ℕ) (x : Fin 512) (hj : j < 2048) (h : j < base ∨ a.val ≠ sl) :
    VecWindow.put X (![sl, base, 0] : Fin 3 → ℕ) S1x256x512.size w (ix3 a (kap j) x) = X (ix3 a (kap j) x) := by
  unfold VecWindow.put
  have hm : j % 2048 = j := Nat.mod_eq_of_lt hj
  rw [dif_neg]
  intro hc
  have h0 : sl ≤ a.val ∧ a.val < sl + 1 := hc 0
  have h1 : base ≤ j % 2048 ∧ j % 2048 < base + 256 := hc 1
  omega

theorem step256_inv (t : Trips) (n base : ℕ) (hn : k0 + n ≤ 2048) (hb : k0 + base + 256 ≤ 2048) (hbn : base + 256 ≤ n) (m8 : FVec Ideal S1x512 .f32) (P : ℕ → Fin 512 → EReal) (s : St Ideal) (X : S2x2048x512.Idx → EReal)
    (hp hv : Fin 8) (sl : Fin 2) (ep : hp.val = min t.val 7) (ev : hv.val = t.val - 1) (es : sl.val = t.val % 2)
    (I : Inv E k0 hp hv sl P (fun x => m8 (ix2 0 x)) n base s X) :
    Inv E k0 hp hv sl P (fun x => m8 (ix2 0 x)) n (base + 256) (step256 E k0 t base hb m8 s X).1 (step256 E k0 t base hb m8 s X).2 := by
  obtain rfl : hp = ⟨min t.val 7, min7_lt t⟩ := Fin.ext ep
  obtain rfl : hv = ⟨t.val - 1, pred_lt t⟩ := Fin.ext ev
  obtain rfl : sl = ⟨t.val % 2, mod2_lt t⟩ := Fin.ext es
  have e1 : ∀ (r : Fin 256) x, ex256 (F := Ideal) (qsH E (t.val - 1) (by have := trips_lt t; omega)) m8 (slot256 (F := Ideal) X (1 - t.val % 2) base (by omega) (by omega)) (ix2 r x) = Ideal.exp2 (P (base + r.val) x * Qx E ⟨t.val - 1, by have := trips_lt t; omega⟩ x - m8 (ix2 0 x)) := fun r x => by
    have e0 : (⟨1 - t.val % 2, by omega⟩ : Fin 2) = 1 - ⟨t.val % 2, by omega⟩ := by
      have : t.val % 2 = 0 ∨ t.val % 2 = 1 := by omega
      rcases this with h | h <;> simp only [h] <;> rfl
    rw [ex256_apply, slot256_apply, qsH_apply, e0, I.prev (base + r.val) (by omega)]
    rfl
  constructor
  · intro x
    simp only [step256, st256_l, Finset.sum_add_distrib, I.l, e1]
    rw [Finset.sum_range_add _ base 256]
    exact congrArg _ (sum_rows 32 fun r => Ideal.exp2 (P (base + r) x * Qx E _ x - m8 (ix2 0 x)))
  · intro x
    simp only [step256, st256_mx, scH256_apply]
    refine Eq.trans (Finset.sup_sup (s := Finset.univ) (f := fun u : Fin 8 => (s.mx (ix2 u x) : EReal)) (g := fun u : Fin 8 => Finset.univ.sup fun a : Fin 32 => Sx E k0 ⟨min t.val 7, min7_lt t⟩ (base + (a.val * 8 + u.val)) x)) ?_
    rw [sup_range_add _ base 256, ← I.mx]
    exact congrArg _ (sup_rows 32 fun r => Sx E k0 ⟨min t.val 7, by omega⟩ (base + r) x)
  · intro d x
    simp only [step256, st256_acc, I.acc, e1, vH256_apply]
    rw [Finset.sum_range_add _ base 256]
    exact congrArg _ (Fin.sum_univ_eq_sum_range (fun r => Vx E k0 ⟨t.val - 1, by have := trips_lt t; omega⟩ d (base + r) * clipP (Ideal.exp2 (P (base + r) x * Qx E ⟨t.val - 1, by have := trips_lt t; omega⟩ x - m8 (ix2 0 x)))) 256)
  · intro j hj x
    simp only [step256]
    by_cases h : j < base
    · rw [putSlot256_out _ _ _ _ _ _ _ (by omega) (.inl h)]
      exact I.cur j h x
    · rw [putSlot256_in _ _ _ (by omega) _ _ _ (by omega) (by omega) (by omega), scSt256_apply, scH256_apply]
      congr 1
      show base + (j - base) = j
      omega
  · intro j hj x
    simp only [step256]
    rw [putSlot256_out _ _ _ _ _ _ _ (by omega) (.inr _)]
    · exact I.prev j hj x
    · have : t.val % 2 = 0 ∨ t.val % 2 = 1 := by omega
      rcases this with h | h <;> simp only [h]
      · exact (by decide : ((1 : Fin 2) - 0).val ≠ 0)
      · exact (by decide : ((1 : Fin 2) - 1).val ≠ 1)

theorem scH128_apply (h : ℕ) (hh : h < 8) (base : ℕ) (hb : k0 + base + 128 ≤ 2048) (r : Fin 128) (x : Fin 512) :
    scH128 E k0 h base hh hb (ix2 r x) = Sx E k0 ⟨h, hh⟩ (base + r.val) x := by
  unfold scH128
  rw [sc128_apply]
  unfold Sx
  have e1 : ∀ d : Fin 64, VecWindow.window E.k (![0, h, k0 + base, 0] : Fin 4 → ℕ) S1x1x128x64.size (inbK128 h _ hh hb) (ix4 0 0 r d) = E.k (ix4 0 ⟨h, hh⟩ (kap (k0 + (base + r.val))) d) := fun d =>
    congrArg E.k (funext fun a => Fin.ext (by
      fin_cases a
      · rfl
      · show h + 1 * 0 = h; omega
      · show k0 + base + 1 * r.val = (k0 + (base + r.val)) % 2048; omega
      · show 0 + 1 * d.val = d.val; omega))
  have e2 : VecWindow.window E.ks (![h, k0 + base, 0] : Fin 3 → ℕ) S1x128x128.size (inbC128 h _ hh hb) (ix3 0 r (ln x)) = E.ks (ix3 ⟨h, hh⟩ (kap (k0 + (base + r.val))) (ln x)) :=
    congrArg E.ks (funext fun a => Fin.ext (by
      fin_cases a
      · show h + 1 * 0 = h; omega
      · show k0 + base + 1 * r.val = (k0 + (base + r.val)) % 2048; omega
      · show 0 + 1 * (x.val % 128) = x.val % 128; omega))
  have e3 : VecWindow.window E.b (![base, 0] : Fin 2 → ℕ) S128x128.size (offB_inb128 base (by omega)) (ix2 r (ln x)) = E.b (ix2 (kap (base + r.val)) (ln x)) :=
    congrArg E.b (funext fun a => Fin.ext (by
      fin_cases a
      · show base + 1 * r.val = (base + r.val) % 2048; omega
      · show 0 + 1 * (x.val % 128) = x.val % 128; omega))
  rw [e2, e3]
  simp only [e1, qH_apply]

theorem vH128_apply (h : ℕ) (hh : h < 8) (base : ℕ) (hb : k0 + base + 128 ≤ 2048) (d : Fin 64) (r : Fin 128) :
    vH128 E k0 h base hh hb (ix3 0 d r) = Vx E k0 ⟨h, hh⟩ d (base + r.val) :=
  congrArg E.v (funext fun a => Fin.ext (by
    fin_cases a
    · rfl
    · show 64 * h + 1 * d.val = 64 * h + d.val; omega
    · show k0 + base + 1 * r.val = (k0 + (base + r.val)) % 2048; omega))

theorem slot128_apply (X : S2x2048x512.Idx → EReal) (sl base : ℕ) (hh : sl < 2) (hk : base + 128 ≤ 2048) (r : Fin 128) (x : Fin 512) :
    slot128 (F := Ideal) X sl base hh hk (ix3 0 r x) = X (ix3 ⟨sl, hh⟩ (kap (base + r.val)) x) :=
  congrArg X (funext fun a => Fin.ext (by
    fin_cases a
    · show sl + 1 * 0 = sl; omega
    · show base + 1 * r.val = (base + r.val) % 2048; omega
    · show 0 + 1 * x.val = x.val; omega))

theorem putSlot128_in (X : S2x2048x512.Idx → EReal) (sl base : ℕ) (hh : sl < 2) (w : FVec Ideal S1x128x512 .f32) (j : ℕ) (x : Fin 512) (h0 : base ≤ j) (h1 : j < base + 128) (hj : j < 2048) :
    VecWindow.put X (![sl, base, 0] : Fin 3 → ℕ) S1x128x512.size w (ix3 ⟨sl, hh⟩ (kap j) x) = w (ix3 0 ⟨j - base, by omega⟩ x) := by
  unfold VecWindow.put
  have hm : j % 2048 = j := Nat.mod_eq_of_lt hj
  rw [dif_pos (by
    intro a; fin_cases a
    · show sl ≤ sl ∧ sl < sl + 1; omega
    · show base ≤ j % 2048 ∧ j % 2048 < base + 128; omega
    · show 0 ≤ x.val ∧ x.val < 0 + 512; omega)]
  refine congrArg w (funext fun a => Fin.ext ?_)
  fin_cases a
  · show sl - sl = 0; omega
  · show j % 2048 - base = j - base; omega
  · show x.val - 0 = x.val; omega
theorem putSlot128_out (X : S2x2048x512.Idx → EReal) (sl base : ℕ) (w : FVec Ideal S1x128x512 .f32) (a : Fin 2) (j : ℕ) (x : Fin 512) (hj : j < 2048) (h : j < base ∨ a.val ≠ sl) :
    VecWindow.put X (![sl, base, 0] : Fin 3 → ℕ) S1x128x512.size w (ix3 a (kap j) x) = X (ix3 a (kap j) x) := by
  unfold VecWindow.put
  have hm : j % 2048 = j := Nat.mod_eq_of_lt hj
  rw [dif_neg]
  intro hc
  have h0 : sl ≤ a.val ∧ a.val < sl + 1 := hc 0
  have h1 : base ≤ j % 2048 ∧ j % 2048 < base + 128 := hc 1
  omega

theorem step128_inv (t : Trips) (n base : ℕ) (hn : k0 + n ≤ 2048) (hb : k0 + base + 128 ≤ 2048) (hbn : base + 128 ≤ n) (m8 : FVec Ideal S1x512 .f32) (P : ℕ → Fin 512 → EReal) (s : St Ideal) (X : S2x2048x512.Idx → EReal)
    (hp hv : Fin 8) (sl : Fin 2) (ep : hp.val = min t.val 7) (ev : hv.val = t.val - 1) (es : sl.val = t.val % 2)
    (I : Inv E k0 hp hv sl P (fun x => m8 (ix2 0 x)) n base s X) :
    Inv E k0 hp hv sl P (fun x => m8 (ix2 0 x)) n (base + 128) (step128 E k0 t base hb m8 s X).1 (step128 E k0 t base hb m8 s X).2 := by
  obtain rfl : hp = ⟨min t.val 7, min7_lt t⟩ := Fin.ext ep
  obtain rfl : hv = ⟨t.val - 1, pred_lt t⟩ := Fin.ext ev
  obtain rfl : sl = ⟨t.val % 2, mod2_lt t⟩ := Fin.ext es
  have e1 : ∀ (r : Fin 128) x, ex128 (F := Ideal) (qsH E (t.val - 1) (by have := trips_lt t; omega)) m8 (slot128 (F := Ideal) X (1 - t.val % 2) base (by omega) (by omega)) (ix2 r x) = Ideal.exp2 (P (base + r.val) x * Qx E ⟨t.val - 1, by have := trips_lt t; omega⟩ x - m8 (ix2 0 x)) := fun r x => by
    have e0 : (⟨1 - t.val % 2, by omega⟩ : Fin 2) = 1 - ⟨t.val % 2, by omega⟩ := by
      have : t.val % 2 = 0 ∨ t.val % 2 = 1 := by omega
      rcases this with h | h <;> simp only [h] <;> rfl
    rw [ex128_apply, slot128_apply, qsH_apply, e0, I.prev (base + r.val) (by omega)]
    rfl
  constructor
  · intro x
    simp only [step128, st128_l, Finset.sum_add_distrib, I.l, e1]
    rw [Finset.sum_range_add _ base 128]
    exact congrArg _ (sum_rows 16 fun r => Ideal.exp2 (P (base + r) x * Qx E _ x - m8 (ix2 0 x)))
  · intro x
    simp only [step128, st128_mx, scH128_apply]
    refine Eq.trans (Finset.sup_sup (s := Finset.univ) (f := fun u : Fin 8 => (s.mx (ix2 u x) : EReal)) (g := fun u : Fin 8 => Finset.univ.sup fun a : Fin 16 => Sx E k0 ⟨min t.val 7, min7_lt t⟩ (base + (a.val * 8 + u.val)) x)) ?_
    rw [sup_range_add _ base 128, ← I.mx]
    exact congrArg _ (sup_rows 16 fun r => Sx E k0 ⟨min t.val 7, by omega⟩ (base + r) x)
  · intro d x
    simp only [step128, st128_acc, I.acc, e1, vH128_apply]
    rw [Finset.sum_range_add _ base 128]
    exact congrArg _ (Fin.sum_univ_eq_sum_range (fun r => Vx E k0 ⟨t.val - 1, by have := trips_lt t; omega⟩ d (base + r) * clipP (Ideal.exp2 (P (base + r) x * Qx E ⟨t.val - 1, by have := trips_lt t; omega⟩ x - m8 (ix2 0 x)))) 128)
  · intro j hj x
    simp only [step128]
    by_cases h : j < base
    · rw [putSlot128_out _ _ _ _ _ _ _ (by omega) (.inl h)]
      exact I.cur j h x
    · rw [putSlot128_in _ _ _ (by omega) _ _ _ (by omega) (by omega) (by omega), scSt128_apply, scH128_apply]
      congr 1
      show base + (j - base) = j
      omega
  · intro j hj x
    simp only [step128]
    rw [putSlot128_out _ _ _ _ _ _ _ (by omega) (.inr _)]
    · exact I.prev j hj x
    · have : t.val % 2 = 0 ∨ t.val % 2 = 1 := by omega
      rcases this with h | h <;> simp only [h]
      · exact (by decide : ((1 : Fin 2) - 0).val ≠ 0)
      · exact (by decide : ((1 : Fin 2) - 1).val ≠ 1)

theorem chunks_inv (t : Trips) (n : ℕ) (hn : k0 + n ≤ 2048) (m8 : FVec Ideal S1x512 .f32) (P : ℕ → Fin 512 → EReal)
    (hp hv : Fin 8) (sl : Fin 2) (ep : hp.val = min t.val 7) (ev : hv.val = t.val - 1) (es : sl.val = t.val % 2) :
    ∀ (r j : ℕ) (h : 256 * (j + r) ≤ n) (s : St Ideal) (X : S2x2048x512.Idx → EReal),
      Inv E k0 hp hv sl P (fun x => m8 (ix2 0 x)) n (256 * j) s X →
      Inv E k0 hp hv sl P (fun x => m8 (ix2 0 x)) n (256 * (j + r)) (chunksF E k0 n hn t m8 r j h s X).1 (chunksF E k0 n hn t m8 r j h s X).2
  | 0, j, h, s, X, I => I
  | r + 1, j, h, s, X, I => by
    have I' := step256_inv E k0 t n (256 * j) hn (by omega) (by omega) m8 P s X hp hv sl ep ev es I
    have := chunks_inv t n hn m8 P hp hv sl ep ev es r (j + 1) (by omega) _ _ I'
    rw [show j + (r + 1) = j + 1 + r by omega]
    exact this

theorem window_inv (t : Trips) (n m : ℕ) (o : Bool) (hn : k0 + n ≤ 2048) (h : n = 256 * m + cond o 128 0) (m8 : FVec Ideal S1x512 .f32) (P : ℕ → Fin 512 → EReal) (X : S2x2048x512.Idx → EReal)
    (hp hv : Fin 8) (sl : Fin 2) (ep : hp.val = min t.val 7) (ev : hv.val = t.val - 1) (es : sl.val = t.val % 2) (hP : ∀ j < n, ∀ x, X (ix3 (1 - sl) (kap j) x) = P j x) :
    Inv E k0 hp hv sl P (fun x => m8 (ix2 0 x)) n n (windowF E k0 n hn t m8 m o h X).1 (windowF E k0 n hn t m8 m o h X).2 := by
  have I0 : Inv E k0 hp hv sl P (fun x => m8 (ix2 0 x)) n (256 * 0) st0 X := by
    constructor
    · intro x
      show (∑ u : Fin 8, Ideal.ofBits .f32 0x00000000#32) = _
      rw [Ideal.ofBits_zero_f32]; simp
    · intro x
      show (Finset.univ.sup fun u : Fin 8 => Ideal.ofBits .f32 0xFF800000#32) = _
      rw [neg_inf]; simp
    · intro d x
      show Ideal.ofBits .f32 0x00000000#32 = _
      rw [Ideal.ofBits_zero_f32]; simp
    · intro j hj; omega
    · exact hP
  have hm : 256 * (0 + m) ≤ n := by cases o <;> simp only [cond_true, cond_false] at h <;> omega
  have I1 := chunks_inv E k0 t n hn m8 P hp hv sl ep ev es m 0 hm st0 X I0
  rw [Nat.zero_add] at I1
  match o, h with
  | true, h =>
    have h' : n = 256 * m + 128 := h
    have I2 := step128_inv E k0 t n (256 * m) hn (by omega) (by omega) m8 P _ _ hp hv sl ep ev es I1
    rw [← h'] at I2
    exact I2
  | false, h =>
    have h' : n = 256 * m := h
    rw [← h'] at I1
    exact I1

/-! ## A trip and the loop -/

/-- Column `128 g + c`. -/
abbrev gcol (g : Fin 4) (c : Fin 128) : Fin 512 := ⟨128 * g.val + c.val, by omega⟩

/-- The two stores of a trip's output, read inside. -/
theorem putO_in (X : S1x128x2048.Idx → EReal) (h : ℕ) (hh : h < 8) (l : FVec Ideal S8x512 .f32) (acc : FVec Ideal S64x512 .f32) (xs : Vec Ideal S1x1x128 .f32) (c : Fin 128) (g : Fin 4) (d : Fin 64) :
    VecWindow.put (VecWindow.put X (![0, 0, 256 * h] : Fin 3 → ℕ) S1x128x128.size (outLo (normOf l acc) xs)) (![0, 0, 256 * h + 128] : Fin 3 → ℕ) S1x128x128.size (outHi (normOf l acc) xs)
        (ix3 0 c ⟨256 * h + 64 * g.val + d.val, by omega⟩)
      = (acc (ix2 d (gcol g c)) * Ideal.div 1 (∑ u : Fin 8, l (ix2 u (gcol g c))) * xs (ix3 0 0 ⟨(64 * g.val + d.val) % 128, by omega⟩) : EReal) := by
  have key : ∀ (o : ℕ) (ho : o ≤ 384) (hs : S64x512.Slices ![0, o] S64x128) (e : o = 128 * g.val), extractStridedSlice S64x128 ![0, o] (normOf l acc) hs (ix2 d c) = (acc (ix2 d (gcol g c)) * Ideal.div 1 (∑ u : Fin 8, l (ix2 u (gcol g c))) : EReal) := fun o ho hs e => by
    rw [← normOf_apply]
    pointwise
    refine congrArg (normOf l acc) (funext fun a => Fin.ext ?_)
    fin_cases a
    · rfl
    · show o + c.val = 128 * g.val + c.val; omega
  by_cases hg : g.val < 2
  · unfold VecWindow.put
    rw [dif_neg (fun hc => by have h2 : 256 * h + 128 ≤ 256 * h + 64 * g.val + d.val ∧ _ := hc 2; omega)]
    rw [dif_pos (by
      intro a; fin_cases a
      · show 0 ≤ 0 ∧ 0 < 0 + 1; omega
      · show 0 ≤ c.val ∧ c.val < 0 + 128; omega
      · show 256 * h ≤ 256 * h + 64 * g.val + d.val ∧ 256 * h + 64 * g.val + d.val < 256 * h + 128; omega)]
    refine (congrArg (outLo (normOf l acc) xs) (funext fun a => Fin.ext ?_ : _ = ix3 0 c ⟨64 * g.val + d.val, by omega⟩)).trans ?_
    · fin_cases a
      · rfl
      · show c.val - 0 = c.val; omega
      · show 256 * h + 64 * g.val + d.val - 256 * h = 64 * g.val + d.val; omega
    · unfold outLo
      rw [outOf_apply]
      refine congrArg₂ (fun a b : EReal => a * b) ?_ (congrArg xs (by simp only [Nat.mod_eq_of_lt (show 64 * g.val + d.val < 128 by omega)]))
      by_cases h0 : g.val = 0
      · rw [dif_pos (by show 64 * g.val + d.val < 64; omega), ← key 0 (by omega) slices_S64x512_o0_0_S64x128 (by omega)]
        congr 2; exact Fin.ext (by show 64 * g.val + d.val = d.val; omega)
      · rw [dif_neg (by show ¬ 64 * g.val + d.val < 64; omega), ← key 128 (by omega) slices_S64x512_o0_128_S64x128 (by omega)]
        congr 2; exact Fin.ext (by show 64 * g.val + d.val - 64 = d.val; omega)
  · unfold VecWindow.put
    rw [dif_pos (by
      intro a; fin_cases a
      · show 0 ≤ 0 ∧ 0 < 0 + 1; omega
      · show 0 ≤ c.val ∧ c.val < 0 + 128; omega
      · show 256 * h + 128 ≤ 256 * h + 64 * g.val + d.val ∧ 256 * h + 64 * g.val + d.val < 256 * h + 128 + 128; omega)]
    refine (congrArg (outHi (normOf l acc) xs) (funext fun a => Fin.ext ?_ : _ = ix3 0 c ⟨64 * g.val + d.val - 128, by omega⟩)).trans ?_
    · fin_cases a
      · rfl
      · show c.val - 0 = c.val; omega
      · show 256 * h + 64 * g.val + d.val - (256 * h + 128) = 64 * g.val + d.val - 128; omega
    · unfold outHi
      rw [outOf_apply]
      refine congrArg₂ (fun a b : EReal => a * b) ?_ (congrArg xs (by simp only [show (64 * g.val + d.val) % 128 = 64 * g.val + d.val - 128 by omega]))
      by_cases h0 : g.val = 2
      · rw [dif_pos (by show 64 * g.val + d.val - 128 < 64; omega), ← key 256 (by omega) slices_S64x512_o0_256_S64x128 (by omega)]
        congr 2; exact Fin.ext (by show 64 * g.val + d.val - 128 = d.val; omega)
      · rw [dif_neg (by show ¬ 64 * g.val + d.val - 128 < 64; omega), ← key 384 (by omega) slices_S64x512_o0_384_S64x128 (by omega)]
        congr 2; exact Fin.ext (by show 64 * g.val + d.val - 128 - 64 = d.val; omega)

/-- And outside. -/
theorem putO_out (X : S1x128x2048.Idx → EReal) (h : ℕ) (a b : FVec Ideal S1x128x128 .bf16) (c : Fin 128) (y : Fin 2048) (hy : y.val < 256 * h) :
    VecWindow.put (VecWindow.put X (![0, 0, 256 * h] : Fin 3 → ℕ) S1x128x128.size a) (![0, 0, 256 * h + 128] : Fin 3 → ℕ) S1x128x128.size b (ix3 0 c y) = X (ix3 0 c y) := by
  unfold VecWindow.put
  rw [dif_neg, dif_neg]
  · intro hc; have h2 : 256 * h ≤ y.val ∧ _ := hc 2; omega
  · intro hc; have h2 : 256 * h + 128 ≤ y.val ∧ _ := hc 2; omega

/-- The stored maximum, read. -/
theorem putM (X : S8x512.Idx → EReal) (w : FVec Ideal S1x512 .f32) :
    VecWindow.window (VecWindow.put X (![0, 0] : Fin 2 → ℕ) S1x512.size w) (![0, 0] : Fin 2 → ℕ) S1x512.size inb_S8x512_S1x512_0_0 = w :=
  VecWindow.window_put_same _ _ _ _ _

/-- The buffers after `r + 1` trips: the scores and the stored maximum of the last head gone into, and the output of the
    heads before it. -/
structure After (n r : ℕ) (M : Mem Ideal) : Prop where
  s : ∀ (h : Fin 8) (sl : Fin 2), h.val = min r 7 → sl.val = r % 2 → ∀ j < n, ∀ x, M.s (ix3 sl (kap j) x) = Sx E k0 h j x
  m : ∀ h : Fin 8, h.val = min r 7 → ∀ x, m8At M (ix2 0 x) = M8x E k0 n h x
  o : ∀ (h : Fin 8) (g : Fin 4) (d : Fin 64) (c : Fin 128), h.val < r → M.o (ix3 0 c ⟨256 * h.val + 64 * g.val + d.val, by omega⟩) = Ox E k0 n h g d c

theorem trip_zero (n m : ℕ) (o : Bool) (hn : k0 + n ≤ 2048) (h : n = 256 * m + cond o 128 0) (t : Trips) (ht : t.val = 0) (M : Mem Ideal) : After E k0 n 0 (tripF E k0 n hn m o h t M) := by
  have W := window_inv E k0 t n m o hn h (m8At M) (fun j x => M.s (ix3 1 (kap j) x)) M.s 0 0 0 (by rw [ht]; rfl) (by rw [ht]; rfl) (by rw [ht]; rfl) (fun j hj x => rfl)
  refine ⟨fun hd sl eh es j hj x => ?_, fun hd eh x => ?_, fun hd g d c hlt => by omega⟩
  · obtain rfl : hd = 0 := Fin.ext eh
    obtain rfl : sl = 0 := Fin.ext es
    exact W.cur j hj x
  · obtain rfl : hd = 0 := Fin.ext eh
    refine (congrFun (putM M.m _) (ix2 0 x)).trans ?_
    rw [m8Of_apply, W.mx, qsH_apply]
    unfold M8x Qx
    simp only [ht]
    rfl

theorem trip_succ (n m : ℕ) (o : Bool) (hn : k0 + n ≤ 2048) (h : n = 256 * m + cond o 128 0) (t : Trips) (r : ℕ) (ht : t.val = r + 1) (M : Mem Ideal) (A : After E k0 n r M) : After E k0 n (r + 1) (tripF E k0 n hn m o h t M) := by
  have hr : r < 8 := by have := trips_lt t; omega
  let hv : Fin 8 := ⟨r, hr⟩
  let hp : Fin 8 := ⟨min (r + 1) 7, by omega⟩
  let sl : Fin 2 := ⟨(r + 1) % 2, by omega⟩
  have hsl : (1 - sl).val = r % 2 := by
    show (2 - (r + 1) % 2 + 1) % 2 = r % 2
    omega
  have W := window_inv E k0 t n m o hn h (m8At M) (fun j x => Sx E k0 hv j x) M.s hp hv sl (by rw [ht]) (by rw [ht]; rfl) (by rw [ht]) (fun j hj x => A.s hv (1 - sl) (by show r = min r 7; omega) hsl j hj x)
  refine ⟨fun hd sl' eh es j hj x => ?_, fun hd eh x => ?_, fun hd g d c hlt => ?_⟩
  · obtain rfl : hd = hp := Fin.ext eh
    obtain rfl : sl' = sl := Fin.ext es
    exact W.cur j hj x
  · obtain rfl : hd = hp := Fin.ext eh
    refine (congrFun (putM M.m _) (ix2 0 x)).trans ?_
    rw [m8Of_apply, W.mx, qsH_apply]
    unfold M8x Qx
    simp only [ht]
    rfl
  · have hpred : t.val - 1 = r := by omega
    show VecWindow.put (VecWindow.put M.o (![0, 0, 256 * (t.val - 1)] : Fin 3 → ℕ) S1x128x128.size _) (![0, 0, 256 * (t.val - 1) + 128] : Fin 3 → ℕ) S1x128x128.size _ _ = _
    by_cases e : hd.val = r
    · obtain rfl : hd = hv := Fin.ext e
      have := putO_in M.o (t.val - 1) (by omega) (windowF E k0 n hn t (m8At M) m o h M.s).1.l (windowF E k0 n hn t (m8At M) m o h M.s).1.acc (vsH E (t.val - 1) (by omega)) c g d
      simp only [hpred] at this ⊢
      refine this.trans ?_
      unfold Ox
      rw [W.acc, W.l, vsH_apply]
      simp only [A.m hv (by show r = min r 7; omega)]
      rfl
    · rw [putO_out _ _ _ _ _ _ (by show 256 * hd.val + 64 * g.val + d.val < 256 * (t.val - 1); omega)]
      exact A.o hd g d c (by omega)

theorem loop_after (n m : ℕ) (o : Bool) (hn : k0 + n ≤ 2048) (h : n = 256 * m + cond o 128 0) (M : Mem Ideal) : ∀ r, r < 9 → After E k0 n r (loopF E k0 n hn m o h M (r + 1))
  | 0, hr => by
    show After E k0 n 0 (if hr : 0 < 9 then tripF E k0 n hn m o h ⟨0, hr⟩ M else _)
    rw [dif_pos (by omega)]
    exact trip_zero E k0 n m o hn h _ rfl M
  | r + 1, hr => by
    show After E k0 n (r + 1) (if hr : r + 1 < 9 then tripF E k0 n hn m o h ⟨r + 1, hr⟩ (loopF E k0 n hn m o h M (r + 1)) else _)
    rw [dif_pos hr]
    exact trip_succ E k0 n m o hn h _ r rfl _ (loop_after n m o hn h M r (by omega))

/-- The output of the head loop, whatever the buffers held before. -/
theorem loop_out (n m : ℕ) (o : Bool) (hn : k0 + n ≤ 2048) (h : n = 256 * m + cond o 128 0) (M : Mem Ideal) (hd : Fin 8) (g : Fin 4) (d : Fin 64) (c : Fin 128) :
    (loopF E k0 n hn m o h M 9).o (ix3 0 c ⟨256 * hd.val + 64 * g.val + d.val, by omega⟩) = Ox E k0 n hd g d c :=
  (loop_after E k0 n m o hn h M 8 (by omega)).o hd g d c hd.isLt

end

end Cert.KernelIdeal.Attn

end
-- ==== Proof.KernelIdeal.Cov.lean ====
/-
  WHICH WINDOW A POINT GOES THROUGH: the arm taken covers every key block the tables name, the copies and the mask read at
  an index, and the output of the body (`body_out`).
-/
module

public import proofs.«01_k».proof.Proof.KernelIdeal.Win

@[expose] public section

set_option maxRecDepth 65536

noncomputable section

namespace Cert.KernelIdeal.Attn

open Cert.KernelIdeal
open Idealize.ShloMosaic

open Idealize.SL.Sem
open Facts₀ Facts

/-! ## The copies and the mask at an index -/

theorem colTile_apply (s : Ideal .f32) (x : Vec Ideal S1x1x128 .f32) (r y : Fin 128) : colOf s x (ix2 r y) = (x (ix3 0 0 r) * s : EReal) := by
  unfold colOf
  pointwise

theorem colT_apply (R : S1x1x2048.Idx → EReal) (κ : Fin 2048) (y : Fin 128) : colT (F := Ideal) R (ix2 κ y) = R (ix3 0 0 κ) := by
  unfold colT
  refine (colTile_apply cOne _ _ _).trans ?_
  rw [show (cOne : Ideal .f32) = (1 : EReal) from Ideal.ofBits_one_f32, mul_one]
  refine congrArg R (funext fun a => Fin.ext ?_)
  fin_cases a
  · rfl
  · rfl
  · show 128 * (κ.val / 128) + 1 * (κ.val % 128) = κ.val; omega

theorem ksT_apply (R : S1x8x2048.Idx → EReal) (h : Fin 8) (κ : Fin 2048) (y : Fin 128) : ksT (F := Ideal) R (ix3 h κ y) = (R (ix3 0 h κ) * cScale (F := Ideal) : EReal) := by
  unfold ksT
  refine (colTile_apply cScale _ _ _).trans ?_
  refine congrArg (fun a : EReal => a * cScale (F := Ideal)) (congrArg R (funext fun a => Fin.ext ?_))
  fin_cases a
  · rfl
  · show h.val + 1 * 0 = h.val; omega
  · show 128 * (κ.val / 128) + 1 * (κ.val % 128) = κ.val; omega

/-- The query's position as the mask reads it. -/
def posQ (i : grid0.Coords) (y : Fin 128) : EReal := (((BitVec.ofNat 32 y.val + BitVec.ofNat 32 (i 1).val * 128#32 : BitVec 32).toInt : ℝ) : EReal)

theorem biasOf_apply (i : grid0.Coords) (seg : Vec Ideal S1x1x128 .f32) (xs xp : Vec Ideal S128x128 .f32) (r y : Fin 128) :
    biasOf i seg xs xp (ix2 r y) = (if xs (ix2 r y) = seg (ix3 0 0 y) ∧ xp (ix2 r y) ≤ posQ i y then 0 else ⊥ : EReal) := by
  unfold biasOf
  pointwise
  rw [neg_inf]
  show Scalar.select (IntOp.andi (BitVec.ofBool (decide (xs (ix2 r y) = seg (ix3 0 0 y)))) (BitVec.ofBool (decide (xp (ix2 r y) ≤ posQ i y)))) (0 : EReal) ⊥ = _
  by_cases h1 : xs (ix2 r y) = seg (ix3 0 0 y) <;> by_cases h2 : xp (ix2 r y) ≤ posQ i y <;> simp [h1, h2, Scalar.select, IntOp.andi]

theorem maskOf_apply (i : grid0.Coords) (B : Blk Ideal) (C : Cp Ideal) (k0 nb : ℕ) (hn : k0 + 128 * nb ≤ 2048) (b : S2048x128.Idx → EReal) (j : ℕ) (hj : j < 128 * nb) (y : Fin 128) :
    maskOf i B C k0 (128 * nb) hn b (ix2 (kap j) y) = (if C.s (ix2 (kap (k0 + j)) y) = B.segq (ix3 0 0 y) ∧ C.p (ix2 (kap (k0 + j)) y) ≤ posQ i y then 0 else ⊥ : EReal) := by
  have hm : j % 2048 = j := Nat.mod_eq_of_lt (by omega)
  unfold maskOf biasT
  rw [dif_pos (by show 128 * (j % 2048 / 128) + 128 ≤ 128 * nb; omega)]
  refine (biasOf_apply i _ _ _ _ _).trans ?_
  have e : ∀ (Z : S2048x128.Idx → EReal) (hb), VecWindow.window Z (![k0 + 128 * ((kap j).val / 128), 0] : Fin 2 → ℕ) S128x128.size hb (ix2 ⟨(kap j).val % 128, by omega⟩ y) = Z (ix2 (kap (k0 + j)) y) := fun Z hb =>
    congrArg Z (funext fun a => Fin.ext (by
      fin_cases a
      · show k0 + 128 * (j % 2048 / 128) + 1 * (j % 2048 % 128) = (k0 + j) % 2048; omega
      · show 0 + 1 * y.val = y.val; omega))
  have e2 : VecWindow.window B.segq (![0, 0, 0] : Fin 3 → ℕ) S1x1x128.size inb_S1x1x128_S1x1x128_0_0_0 (ix3 0 0 y) = B.segq (ix3 0 0 y) :=
    congrArg B.segq (funext fun a => Fin.ext (by
      fin_cases a
      · rfl
      · rfl
      · show 0 + 1 * y.val = y.val; omega))
  have e1 := e C.s (offB_inb128 _ (by show k0 + 128 * (j % 2048 / 128) + 128 ≤ 2048; omega))
  have e3 := e C.p (offB_inb128 _ (by show k0 + 128 * (j % 2048 / 128) + 128 ≤ 2048; omega))
  exact if_congr (and_congr (by rw [← e1, ← e2]; exact Iff.rfl) (by rw [← e3]; exact Iff.rfl)) rfl rfl

/-! ## The arm taken -/

section
variable (i : grid0.Coords) (B : Blk Ideal) (C : Cp Ideal) (v5 v8 : BitVec 32) (hw : k0_chk1 v5 v8)

/-- The output block holds the attention over a window that covers the named key blocks. -/
def Good (o : S1x128x2048.Idx → EReal) : Prop :=
  ∃ (k0 nb : ℕ) (hn : k0 + 128 * nb ≤ 2048) (b : S2048x128.Idx → EReal), k0 ≤ 128 * v5.toNat ∧ 128 * (v5.toNat + v8.toNat) ≤ k0 + 128 * nb ∧
    ∀ (hd : Fin 8) (g : Fin 4) (d : Fin 64) (c : Fin 128), o (ix3 0 c ⟨256 * hd.val + 64 * g.val + d.val, by omega⟩) = Ox (envOf B C (maskOf i B C k0 (128 * nb) hn b)) k0 (128 * nb) hd g d c

theorem armF_good (k0 nb m : ℕ) (o : Bool) (hn : k0 + 128 * nb ≤ 2048) (h : 128 * nb = 256 * m + cond o 128 0) (X : Sc Ideal) (h1 : k0 ≤ 128 * v5.toNat) (h2 : 128 * (v5.toNat + v8.toNat) ≤ k0 + 128 * nb) :
    Good i B C v5 v8 (armF i B C k0 nb m o hn h X).o :=
  ⟨k0, nb, hn, X.b, h1, h2, fun hd g d c => loop_out _ k0 (128 * nb) m o hn h _ hd g d c⟩

theorem word_of_le (v : BitVec 32) (h : v.toNat ≤ 16) : ∃ k : Fin 17, v = BitVec.ofNat 32 k.val := ⟨⟨v.toNat, by omega⟩, by simp⟩

theorem k0At_val (nb : Fin 17) (h : v5.toNat ≤ 16) : (k0At v5 (BitVec.ofNat 32 (16 - nb.val))).toNat = 128 * min v5.toNat (16 - nb.val) := by
  obtain ⟨k, rfl⟩ := word_of_le v5 h
  clear h
  revert nb k
  decide +kernel

theorem st1_good (X : Sc Ideal) (hs : v5.toNat + v8.toNat ≤ 16) : (k0_cond2 v8 = 1#1 → Good i B C v5 v8 (st1 i B C v5 v8 hw X).o) ∧ (Good i B C v5 v8 X.o → Good i B C v5 v8 (st1 i B C v5 v8 hw X).o) := by
  have key : k0_cond2 v8 = 1#1 → Good i B C v5 v8 (st1 i B C v5 v8 hw X).o := fun h => by
    unfold st1
    rw [dif_pos h]
    have e := k0At_val v5 (1 : Fin 17) (by omega)
    have l : v8.toNat ≤ 1 := by
      obtain ⟨k, rfl⟩ := word_of_le v8 (by omega)
      clear hs hw e
      revert k
      decide +kernel
    refine armF_good i B C v5 v8 _ 1 _ _ _ _ X (e.le.trans ?_) (le_trans ?_ (Nat.add_le_add_right e.ge _))
    · show 128 * min v5.toNat (16 - 1) ≤ 128 * v5.toNat; omega
    · show 128 * (v5.toNat + v8.toNat) ≤ 128 * min v5.toNat (16 - 1) + 128 * 1; omega
  refine ⟨key, fun g => ?_⟩
  by_cases h : k0_cond2 v8 = 1#1
  · exact key h
  · unfold st1
    rw [dif_neg h]
    exact g

theorem st2_good (X : Sc Ideal) (hs : v5.toNat + v8.toNat ≤ 16) : (k0_cond3 v8 = 1#1 → Good i B C v5 v8 (st2 i B C v5 v8 hw X).o) ∧ (Good i B C v5 v8 X.o → Good i B C v5 v8 (st2 i B C v5 v8 hw X).o) := by
  have key : k0_cond3 v8 = 1#1 → Good i B C v5 v8 (st2 i B C v5 v8 hw X).o := fun h => by
    unfold st2
    rw [dif_pos h]
    have e := k0At_val v5 (2 : Fin 17) (by omega)
    have l : v8.toNat ≤ 2 := by
      obtain ⟨k, rfl⟩ := word_of_le v8 (by omega)
      clear hs hw e
      revert k
      decide +kernel
    refine armF_good i B C v5 v8 _ 2 _ _ _ _ X (e.le.trans ?_) (le_trans ?_ (Nat.add_le_add_right e.ge _))
    · show 128 * min v5.toNat (16 - 2) ≤ 128 * v5.toNat; omega
    · show 128 * (v5.toNat + v8.toNat) ≤ 128 * min v5.toNat (16 - 2) + 128 * 2; omega
  refine ⟨key, fun g => ?_⟩
  by_cases h : k0_cond3 v8 = 1#1
  · exact key h
  · unfold st2
    rw [dif_neg h]
    exact g

theorem st3_good (X : Sc Ideal) (hs : v5.toNat + v8.toNat ≤ 16) : (k0_cond4 v8 = 1#1 → Good i B C v5 v8 (st3 i B C v5 v8 hw X).o) ∧ (Good i B C v5 v8 X.o → Good i B C v5 v8 (st3 i B C v5 v8 hw X).o) := by
  have key : k0_cond4 v8 = 1#1 → Good i B C v5 v8 (st3 i B C v5 v8 hw X).o := fun h => by
    unfold st3
    rw [dif_pos h]
    have e := k0At_val v5 (3 : Fin 17) (by omega)
    have l : v8.toNat ≤ 3 := by
      obtain ⟨k, rfl⟩ := word_of_le v8 (by omega)
      clear hs hw e
      revert k
      decide +kernel
    refine armF_good i B C v5 v8 _ 3 _ _ _ _ X (e.le.trans ?_) (le_trans ?_ (Nat.add_le_add_right e.ge _))
    · show 128 * min v5.toNat (16 - 3) ≤ 128 * v5.toNat; omega
    · show 128 * (v5.toNat + v8.toNat) ≤ 128 * min v5.toNat (16 - 3) + 128 * 3; omega
  refine ⟨key, fun g => ?_⟩
  by_cases h : k0_cond4 v8 = 1#1
  · exact key h
  · unfold st3
    rw [dif_neg h]
    exact g

theorem st4_good (X : Sc Ideal) (hs : v5.toNat + v8.toNat ≤ 16) : (k0_cond5 v8 = 1#1 → Good i B C v5 v8 (st4 i B C v5 v8 hw X).o) ∧ (Good i B C v5 v8 X.o → Good i B C v5 v8 (st4 i B C v5 v8 hw X).o) := by
  have key : k0_cond5 v8 = 1#1 → Good i B C v5 v8 (st4 i B C v5 v8 hw X).o := fun h => by
    unfold st4
    rw [dif_pos h]
    have e := k0At_val v5 (4 : Fin 17) (by omega)
    have l : v8.toNat ≤ 4 := by
      obtain ⟨k, rfl⟩ := word_of_le v8 (by omega)
      clear hs hw e
      revert k
      decide +kernel
    refine armF_good i B C v5 v8 _ 4 _ _ _ _ X (e.le.trans ?_) (le_trans ?_ (Nat.add_le_add_right e.ge _))
    · show 128 * min v5.toNat (16 - 4) ≤ 128 * v5.toNat; omega
    · show 128 * (v5.toNat + v8.toNat) ≤ 128 * min v5.toNat (16 - 4) + 128 * 4; omega
  refine ⟨key, fun g => ?_⟩
  by_cases h : k0_cond5 v8 = 1#1
  · exact key h
  · unfold st4
    rw [dif_neg h]
    exact g

theorem st5_good (X : Sc Ideal) (hs : v5.toNat + v8.toNat ≤ 16) : (k0_cond6 v8 = 1#1 → Good i B C v5 v8 (st5 i B C v5 v8 hw X).o) ∧ (Good i B C v5 v8 X.o → Good i B C v5 v8 (st5 i B C v5 v8 hw X).o) := by
  have key : k0_cond6 v8 = 1#1 → Good i B C v5 v8 (st5 i B C v5 v8 hw X).o := fun h => by
    unfold st5
    rw [dif_pos h]
    have e := k0At_val v5 (5 : Fin 17) (by omega)
    have l : v8.toNat ≤ 5 := by
      obtain ⟨k, rfl⟩ := word_of_le v8 (by omega)
      clear hs hw e
      revert k
      decide +kernel
    refine armF_good i B C v5 v8 _ 5 _ _ _ _ X (e.le.trans ?_) (le_trans ?_ (Nat.add_le_add_right e.ge _))
    · show 128 * min v5.toNat (16 - 5) ≤ 128 * v5.toNat; omega
    · show 128 * (v5.toNat + v8.toNat) ≤ 128 * min v5.toNat (16 - 5) + 128 * 5; omega
  refine ⟨key, fun g => ?_⟩
  by_cases h : k0_cond6 v8 = 1#1
  · exact key h
  · unfold st5
    rw [dif_neg h]
    exact g

theorem st6_good (X : Sc Ideal) (hs : v5.toNat + v8.toNat ≤ 16) : (k0_cond7 v8 = 1#1 → Good i B C v5 v8 (st6 i B C v5 v8 hw X).o) ∧ (Good i B C v5 v8 X.o → Good i B C v5 v8 (st6 i B C v5 v8 hw X).o) := by
  have key : k0_cond7 v8 = 1#1 → Good i B C v5 v8 (st6 i B C v5 v8 hw X).o := fun h => by
    unfold st6
    rw [dif_pos h]
    have e := k0At_val v5 (6 : Fin 17) (by omega)
    have l : v8.toNat ≤ 6 := by
      obtain ⟨k, rfl⟩ := word_of_le v8 (by omega)
      clear hs hw e
      revert k
      decide +kernel
    refine armF_good i B C v5 v8 _ 6 _ _ _ _ X (e.le.trans ?_) (le_trans ?_ (Nat.add_le_add_right e.ge _))
    · show 128 * min v5.toNat (16 - 6) ≤ 128 * v5.toNat; omega
    · show 128 * (v5.toNat + v8.toNat) ≤ 128 * min v5.toNat (16 - 6) + 128 * 6; omega
  refine ⟨key, fun g => ?_⟩
  by_cases h : k0_cond7 v8 = 1#1
  · exact key h
  · unfold st6
    rw [dif_neg h]
    exact g

theorem st7_good (X : Sc Ideal) (hs : v5.toNat + v8.toNat ≤ 16) : (k0_cond8 v8 = 1#1 → Good i B C v5 v8 (st7 i B C v5 v8 hw X).o) ∧ (Good i B C v5 v8 X.o → Good i B C v5 v8 (st7 i B C v5 v8 hw X).o) := by
  have key : k0_cond8 v8 = 1#1 → Good i B C v5 v8 (st7 i B C v5 v8 hw X).o := fun h => by
    unfold st7
    rw [dif_pos h]
    have e := k0At_val v5 (8 : Fin 17) (by omega)
    have l : v8.toNat ≤ 8 := by
      obtain ⟨k, rfl⟩ := word_of_le v8 (by omega)
      clear hs hw e
      revert k
      decide +kernel
    refine armF_good i B C v5 v8 _ 8 _ _ _ _ X (e.le.trans ?_) (le_trans ?_ (Nat.add_le_add_right e.ge _))
    · show 128 * min v5.toNat (16 - 8) ≤ 128 * v5.toNat; omega
    · show 128 * (v5.toNat + v8.toNat) ≤ 128 * min v5.toNat (16 - 8) + 128 * 8; omega
  refine ⟨key, fun g => ?_⟩
  by_cases h : k0_cond8 v8 = 1#1
  · exact key h
  · unfold st7
    rw [dif_neg h]
    exact g

theorem st8_good (X : Sc Ideal) (hs : v5.toNat + v8.toNat ≤ 16) : (k0_cond9 v8 = 1#1 → Good i B C v5 v8 (st8 i B C v5 v8 hw X).o) ∧ (Good i B C v5 v8 X.o → Good i B C v5 v8 (st8 i B C v5 v8 hw X).o) := by
  have key : k0_cond9 v8 = 1#1 → Good i B C v5 v8 (st8 i B C v5 v8 hw X).o := fun h => by
    unfold st8
    rw [dif_pos h]
    have e := k0At_val v5 (10 : Fin 17) (by omega)
    have l : v8.toNat ≤ 10 := by
      obtain ⟨k, rfl⟩ := word_of_le v8 (by omega)
      clear hs hw e
      revert k
      decide +kernel
    refine armF_good i B C v5 v8 _ 10 _ _ _ _ X (e.le.trans ?_) (le_trans ?_ (Nat.add_le_add_right e.ge _))
    · show 128 * min v5.toNat (16 - 10) ≤ 128 * v5.toNat; omega
    · show 128 * (v5.toNat + v8.toNat) ≤ 128 * min v5.toNat (16 - 10) + 128 * 10; omega
  refine ⟨key, fun g => ?_⟩
  by_cases h : k0_cond9 v8 = 1#1
  · exact key h
  · unfold st8
    rw [dif_neg h]
    exact g

theorem st9_good (X : Sc Ideal) (hs : v5.toNat + v8.toNat ≤ 16) : (k0_cond10 v8 = 1#1 → Good i B C v5 v8 (st9 i B C v5 v8 hw X).o) ∧ (Good i B C v5 v8 X.o → Good i B C v5 v8 (st9 i B C v5 v8 hw X).o) := by
  have key : k0_cond10 v8 = 1#1 → Good i B C v5 v8 (st9 i B C v5 v8 hw X).o := fun h => by
    unfold st9
    rw [dif_pos h]
    have e := k0At_val v5 (12 : Fin 17) (by omega)
    have l : v8.toNat ≤ 12 := by
      obtain ⟨k, rfl⟩ := word_of_le v8 (by omega)
      clear hs hw e
      revert k
      decide +kernel
    refine armF_good i B C v5 v8 _ 12 _ _ _ _ X (e.le.trans ?_) (le_trans ?_ (Nat.add_le_add_right e.ge _))
    · show 128 * min v5.toNat (16 - 12) ≤ 128 * v5.toNat; omega
    · show 128 * (v5.toNat + v8.toNat) ≤ 128 * min v5.toNat (16 - 12) + 128 * 12; omega
  refine ⟨key, fun g => ?_⟩
  by_cases h : k0_cond10 v8 = 1#1
  · exact key h
  · unfold st9
    rw [dif_neg h]
    exact g

theorem st10_good (X : Sc Ideal) (hs : v5.toNat + v8.toNat ≤ 16) : (k0_cond11 v8 = 1#1 → Good i B C v5 v8 (st10 i B C v5 v8 hw X).o) ∧ (Good i B C v5 v8 X.o → Good i B C v5 v8 (st10 i B C v5 v8 hw X).o) := by
  have key : k0_cond11 v8 = 1#1 → Good i B C v5 v8 (st10 i B C v5 v8 hw X).o := fun h => by
    unfold st10
    rw [dif_pos h]
    have e := k0At_val v5 (16 : Fin 17) (by omega)
    have l : v8.toNat ≤ 16 := by
      obtain ⟨k, rfl⟩ := word_of_le v8 (by omega)
      clear hs hw e
      revert k
      decide +kernel
    refine armF_good i B C v5 v8 _ 16 _ _ _ _ X (e.le.trans ?_) (le_trans ?_ (Nat.add_le_add_right e.ge _))
    · show 128 * min v5.toNat (16 - 16) ≤ 128 * v5.toNat; omega
    · show 128 * (v5.toNat + v8.toNat) ≤ 128 * min v5.toNat (16 - 16) + 128 * 16; omega
  refine ⟨key, fun g => ?_⟩
  by_cases h : k0_cond11 v8 = 1#1
  · exact key h
  · unfold st10
    rw [dif_neg h]
    exact g

theorem some_cond (h1 : 1 ≤ v8.toNat) (h : v8.toNat ≤ 16) : k0_cond2 v8 = 1#1 ∨ k0_cond3 v8 = 1#1 ∨ k0_cond4 v8 = 1#1 ∨ k0_cond5 v8 = 1#1 ∨ k0_cond6 v8 = 1#1 ∨ k0_cond7 v8 = 1#1 ∨ k0_cond8 v8 = 1#1 ∨ k0_cond9 v8 = 1#1 ∨ k0_cond10 v8 = 1#1 ∨ k0_cond11 v8 = 1#1 := by
  obtain ⟨k, rfl⟩ := word_of_le v8 h
  clear h
  revert k
  decide +kernel

/-- The body's output. -/
theorem body_out (X : Sc Ideal) (h1 : 1 ≤ v8.toNat) (hs : v5.toNat + v8.toNat ≤ 16) : Good i B C v5 v8 (bodyF i B C v5 v8 hw X).o := by
  unfold bodyF restF halfF
  have g1 := fun X => st1_good i B C v5 v8 hw X hs
  have g2 := fun X => st2_good i B C v5 v8 hw X hs
  have g3 := fun X => st3_good i B C v5 v8 hw X hs
  have g4 := fun X => st4_good i B C v5 v8 hw X hs
  have g5 := fun X => st5_good i B C v5 v8 hw X hs
  have g6 := fun X => st6_good i B C v5 v8 hw X hs
  have g7 := fun X => st7_good i B C v5 v8 hw X hs
  have g8 := fun X => st8_good i B C v5 v8 hw X hs
  have g9 := fun X => st9_good i B C v5 v8 hw X hs
  have g10 := fun X => st10_good i B C v5 v8 hw X hs
  rcases some_cond v8 h1 (by omega) with h | h | h | h | h | h | h | h | h | h
  · exact (g10 _).2 ((g9 _).2 ((g8 _).2 ((g7 _).2 ((g6 _).2 ((g5 _).2 ((g4 _).2 ((g3 _).2 ((g2 _).2 ((g1 _).1 h)))))))))
  · exact (g10 _).2 ((g9 _).2 ((g8 _).2 ((g7 _).2 ((g6 _).2 ((g5 _).2 ((g4 _).2 ((g3 _).2 ((g2 _).1 h))))))))
  · exact (g10 _).2 ((g9 _).2 ((g8 _).2 ((g7 _).2 ((g6 _).2 ((g5 _).2 ((g4 _).2 ((g3 _).1 h)))))))
  · exact (g10 _).2 ((g9 _).2 ((g8 _).2 ((g7 _).2 ((g6 _).2 ((g5 _).2 ((g4 _).1 h))))))
  · exact (g10 _).2 ((g9 _).2 ((g8 _).2 ((g7 _).2 ((g6 _).2 ((g5 _).1 h)))))
  · exact (g10 _).2 ((g9 _).2 ((g8 _).2 ((g7 _).2 ((g6 _).1 h))))
  · exact (g10 _).2 ((g9 _).2 ((g8 _).2 ((g7 _).1 h)))
  · exact (g10 _).2 ((g9 _).2 ((g8 _).1 h))
  · exact (g10 _).2 ((g9 _).1 h)
  · exact (g10 _).1 h

end

end Cert.KernelIdeal.Attn

end
-- ==== Proof.KernelIdeal.Math.lean ====
/- The arithmetic of the claim on extended reals, for one query, head, group and coordinate: the maximum, the sums and
   the output of the kernel over its window of keys are those of the reference over all keys, the powers of two being
   256 times the exponentials. -/
module

public import proofs.«01_k».proof.Proof.KernelIdeal.Win

@[expose] public section

noncomputable section

namespace Cert.KernelIdeal.Attn

open Idealize.ShloMosaic

theorem c8 : Ideal.ofBits .f32 0x41000000#32 = ((8 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem cEighth : Ideal.ofBits .f32 0x3E000000#32 = ((1 / 8 : ℝ) : EReal) := by
  simp [Ideal.ofBits, Ideal.ieee, -EReal.coe_mul]; norm_num
theorem cPs : Ideal.ofBits .f32 0x3B800000#32 = ((1 / 256 : ℝ) : EReal) := by
  simp [Ideal.ofBits, Ideal.ieee, -EReal.coe_mul]; norm_num
theorem cMax : Ideal.ofBits .f32 0x43E00000#32 = ((448 : ℝ) : EReal) := by
  simp [Ideal.ofBits, Ideal.ieee, -EReal.coe_mul]; norm_num
theorem cMin : Ideal.ofBits .f32 0xC3E00000#32 = ((-448 : ℝ) : EReal) := by
  simp [Ideal.ofBits, Ideal.ieee, -EReal.coe_mul]; norm_num

theorem clip_zero : clipP 0 = 0 := by
  unfold clipP
  rw [cMax, cMin, max_eq_right (by exact_mod_cast (by norm_num : (-448 : ℝ) ≤ 0)), min_eq_right (by exact_mod_cast (by norm_num : (0 : ℝ) ≤ 448))]

theorem exp_coe (x : ℝ) : Ideal.exp (x : EReal) = (Real.exp x : EReal) := rfl
theorem exp2_coe (x : ℝ) : Ideal.exp2 (x : EReal) = (Real.rpow 2 x : EReal) := rfl
theorem exp_bot : Ideal.exp ⊥ = 0 := rfl
theorem exp2_bot : Ideal.exp2 ⊥ = 0 := rfl

/-- A sum over a window of keys is the sum over all keys of what vanishes outside it. -/
theorem sum_window {α : Type} [AddCommMonoid α] (f : Fin 2048 → α) (k0 n : ℕ) (hn : k0 + n ≤ 2048) (h : ∀ κ : Fin 2048, ¬ (k0 ≤ κ.val ∧ κ.val < k0 + n) → f κ = 0) :
    ∑ j ∈ Finset.range n, f (kap (k0 + j)) = ∑ κ, f κ := by
  rw [← Finset.sum_subset (Finset.subset_univ ((Finset.range n).image fun j => kap (k0 + j)))]
  · rw [Finset.sum_image]
    intro a ha b hb e
    have ha' := Finset.mem_range.mp ha
    have hb' := Finset.mem_range.mp hb
    have e' : (k0 + a) % 2048 = (k0 + b) % 2048 := congrArg Fin.val e
    omega
  · intro κ _ hκ
    refine h κ fun hw => hκ (Finset.mem_image.mpr ⟨κ.val - k0, Finset.mem_range.mpr (by omega), Fin.ext ?_⟩)
    show (k0 + (κ.val - k0)) % 2048 = κ.val
    have := κ.isLt
    omega

section
variable (k0 n : ℕ) (vis : Fin 2048 → Prop) [DecidablePred vis] (r kr : Fin 2048 → ℝ) (a : ℝ) (vv : Fin 2048 → EReal) (vs : EReal)

/-- The kernel's score and the reference's. -/
def kS (κ : Fin 2048) : EReal := (r κ : EReal) * ((kr κ : EReal) * (((8 * Real.log 2)⁻¹ : ℝ) : EReal)) + (if vis κ then 0 else ⊥)
def rS (κ : Fin 2048) : EReal := if vis κ then ((r κ : EReal) * (a : EReal)) * ((kr κ : EReal) * Ideal.ofBits .f32 0x3E000000#32) else ⊥

theorem kS_eq (κ : Fin 2048) : kS vis r kr κ = if vis κ then ((r κ * kr κ * (8 * Real.log 2)⁻¹ : ℝ) : EReal) else ⊥ := by
  unfold kS
  split
  · rw [add_zero, ← EReal.coe_mul, ← EReal.coe_mul, mul_assoc]
  · rw [← EReal.coe_mul, ← EReal.coe_mul, EReal.add_bot]

theorem rS_eq (κ : Fin 2048) : rS vis r kr a κ = if vis κ then ((r κ * kr κ * (8 * Real.log 2)⁻¹ * (a * Real.log 2) : ℝ) : EReal) else ⊥ := by
  unfold rS
  split
  · rw [cEighth, ← EReal.coe_mul, ← EReal.coe_mul, ← EReal.coe_mul]
    congr 1
    have : Real.log 2 ≠ 0 := (Real.log_pos (by norm_num)).ne'
    field_simp
  · rfl

theorem value_eq (hn : k0 + n ≤ 2048) (ha : 0 < a) (hw : ∀ κ : Fin 2048, vis κ → k0 ≤ κ.val ∧ κ.val < k0 + n) (hex : ∃ κ, vis κ) :
    (∑ j ∈ Finset.range n, vv (kap (k0 + j)) * clipP (Ideal.exp2 (kS vis r kr (kap (k0 + j)) * (a : EReal) - (((Finset.range n).sup fun j => kS vis r kr (kap (k0 + j))) * (a : EReal) - Ideal.ofBits .f32 0x41000000#32))))
      * Ideal.div 1 (∑ j ∈ Finset.range n, Ideal.exp2 (kS vis r kr (kap (k0 + j)) * (a : EReal) - (((Finset.range n).sup fun j => kS vis r kr (kap (k0 + j))) * (a : EReal) - Ideal.ofBits .f32 0x41000000#32))) * vs
    = Ideal.div ((∑ κ, vv κ * clipP (Ideal.exp (rS vis r kr a κ - Finset.univ.sup (rS vis r kr a)) * Ideal.ofBits .f32 0x43800000#32)) * (Ideal.ofBits .f32 0x3B800000#32 * vs))
        (∑ κ, Ideal.exp (rS vis r kr a κ - Finset.univ.sup (rS vis r kr a))) := by
  have hl2 : 0 < Real.log 2 := Real.log_pos (by norm_num)
  have hal : 0 < a * Real.log 2 := mul_pos ha hl2
  obtain ⟨μ, hμ, hmax⟩ := Finset.exists_max_image (Finset.univ.filter vis) (fun κ => r κ * kr κ * (8 * Real.log 2)⁻¹)
    (by obtain ⟨κ, h⟩ := hex; exact ⟨κ, by simp [h]⟩)
  have hμv : vis μ := by simpa using hμ
  have hmax' : ∀ κ, vis κ → r κ * kr κ * (8 * Real.log 2)⁻¹ ≤ r μ * kr μ * (8 * Real.log 2)⁻¹ := fun κ h => hmax κ (by simp [h])
  have hkap : ∀ κ : Fin 2048, vis κ → ∃ j ∈ Finset.range n, kap (k0 + j) = κ := fun κ h => by
    have := hw κ h
    refine ⟨κ.val - k0, Finset.mem_range.mpr (by omega), Fin.ext ?_⟩
    show (k0 + (κ.val - k0)) % 2048 = κ.val
    have := κ.isLt
    omega
  have supK : ((Finset.range n).sup fun j => kS vis r kr (kap (k0 + j))) = ((r μ * kr μ * (8 * Real.log 2)⁻¹ : ℝ) : EReal) := by
    refine le_antisymm (Finset.sup_le fun j _ => ?_) ?_
    · rw [kS_eq]; split
      · exact EReal.coe_le_coe_iff.mpr (hmax' _ (by assumption))
      · exact bot_le
    · obtain ⟨j, hj, e⟩ := hkap μ hμv
      refine le_trans (le_of_eq ?_) (Finset.le_sup (f := fun j => kS vis r kr (kap (k0 + j))) hj)
      show _ = kS vis r kr (kap (k0 + j))
      rw [e, kS_eq, if_pos hμv]
  have supR : Finset.univ.sup (rS vis r kr a) = ((r μ * kr μ * (8 * Real.log 2)⁻¹ * (a * Real.log 2) : ℝ) : EReal) := by
    refine le_antisymm (Finset.sup_le fun κ _ => ?_) ?_
    · rw [rS_eq]; split
      · exact EReal.coe_le_coe_iff.mpr (mul_le_mul_of_nonneg_right (hmax' _ (by assumption)) hal.le)
      · exact bot_le
    · refine le_trans (le_of_eq ?_) (Finset.le_sup (f := rS vis r kr a) (Finset.mem_univ μ))
      rw [rS_eq, if_pos hμv]
  rw [supK, supR]
  generalize r μ * kr μ * (8 * Real.log 2)⁻¹ = M at *
  set w : Fin 2048 → ℝ := fun κ => if vis κ then Real.exp ((r κ * kr κ * (8 * Real.log 2)⁻¹ - M) * (a * Real.log 2)) else 0 with hwdef
  have eR : ∀ κ, Ideal.exp (rS vis r kr a κ - ((M * (a * Real.log 2) : ℝ) : EReal)) = (w κ : EReal) := fun κ => by
    rw [rS_eq, hwdef]
    dsimp only
    split
    · rw [← EReal.coe_sub, exp_coe, sub_mul]
    · rw [EReal.bot_sub, exp_bot]; rfl
  have eK : ∀ κ, Ideal.exp2 (kS vis r kr κ * (a : EReal) - ((M : EReal) * (a : EReal) - Ideal.ofBits .f32 0x41000000#32)) = ((256 * w κ : ℝ) : EReal) := fun κ => by
    rw [kS_eq, hwdef, c8]
    dsimp only
    split
    · rw [← EReal.coe_mul, ← EReal.coe_mul, ← EReal.coe_sub, ← EReal.coe_sub, exp2_coe]
      congr 1
      show (2 : ℝ) ^ (_ : ℝ) = _
      rw [Real.rpow_def_of_pos (by norm_num)]
      have : (256 : ℝ) = Real.exp (Real.log 2 * 8) := by
        rw [← Real.rpow_def_of_pos (by norm_num)]; norm_num
      rw [this, ← Real.exp_add]
      congr 1
      ring
    · rw [EReal.bot_mul_coe_of_pos ha, ← EReal.coe_mul, ← EReal.coe_sub, EReal.bot_sub, exp2_bot, mul_zero]; rfl
  have w0 : ∀ κ : Fin 2048, ¬ (k0 ≤ κ.val ∧ κ.val < k0 + n) → w κ = 0 := fun κ h => if_neg fun hv => h (hw κ hv)
  have wn : ∀ κ, 0 ≤ w κ := fun κ => by
    rw [hwdef]; dsimp only; split
    · exact (Real.exp_pos _).le
    · exact le_rfl
  have wpos : 0 < ∑ κ, w κ := by
    refine lt_of_lt_of_le ?_ (Finset.single_le_sum (fun κ _ => wn κ) (Finset.mem_univ μ))
    rw [hwdef]; dsimp only; rw [if_pos hμv]; exact Real.exp_pos _
  simp only [eK, eR]
  rw [sum_window (fun κ => vv κ * clipP ((256 * w κ : ℝ) : EReal)) k0 n hn (fun κ h => by rw [w0 κ h, mul_zero, EReal.coe_zero, clip_zero, mul_zero]),
    sum_window (fun κ => ((256 * w κ : ℝ) : EReal)) k0 n hn (fun κ h => by rw [w0 κ h, mul_zero, EReal.coe_zero])]
  have coeSum : ∀ f : Fin 2048 → ℝ, (∑ κ, (f κ : EReal)) = ((∑ κ, f κ : ℝ) : EReal) := fun f => by
    exact (map_sum (⟨⟨fun x : ℝ => (x : EReal), EReal.coe_zero⟩, EReal.coe_add⟩ : ℝ →+ EReal) f Finset.univ).symm
  have e256 : ∀ κ, (w κ : EReal) * Ideal.ofBits .f32 0x43800000#32 = ((256 * w κ : ℝ) : EReal) := fun κ => by
    rw [c256, ← EReal.coe_mul, mul_comm]
  simp only [e256]
  rw [coeSum, coeSum, ← Finset.mul_sum, cPs]
  generalize (∑ κ, vv κ * clipP ((256 * w κ : ℝ) : EReal)) = A
  generalize (∑ κ, w κ) = L at wpos
  unfold Ideal.div
  have h1 : ((L : ℝ) : EReal) ≠ 0 := by exact_mod_cast wpos.ne'
  have h2 : ((256 * L : ℝ) : EReal) ≠ 0 := by exact_mod_cast (mul_pos (by norm_num) wpos).ne'
  rw [if_neg h1, if_neg h2, one_mul, ← EReal.coe_inv, ← EReal.coe_inv, mul_inv, EReal.coe_mul]
  rw [show ((256 : ℝ)⁻¹) = 1 / 256 by norm_num]
  ac_rfl

end

end Cert.KernelIdeal.Attn

end
-- ==== Proof.KernelIdeal.Arr.lean ====
/- What the kernel's windows read, on extended reals, from the arguments; and the kernel's value at a point. -/
module

public import proofs.«01_k».proof.Proof.KernelIdeal.Blocks
public import proofs.«01_k».proof.Proof.KernelIdeal.Cov
public import proofs.«01_k».proof.Proof.KernelIdeal.Math

@[expose] public section

set_option maxRecDepth 65536
set_option maxHeartbeats 0

noncomputable section

namespace Cert.KernelIdeal.Attn

open Cert.KernelIdeal
open Idealize.ShloMosaic
open Idealize.ShloMosaic.TcCoe
open Idealize.SL Idealize.SL.Sem
open Facts₀ Facts

variable (m : (ℓ : Loc nD τ sig) → Buf (Elt Ideal) ℓ) (c : Dev nD)

def qA : S8x2048x2048.Idx → EReal := m ((c.tc : Thread nD τ).loc main_arg0)
def qsA : S8x32x2048.Idx → EReal := m ((c.tc : Thread nD τ).loc main_arg1)
def kA : S8x8x2048x64.Idx → EReal := m ((c.tc : Thread nD τ).loc main_arg2)
def ksA : S8x8x2048.Idx → EReal := m ((c.tc : Thread nD τ).loc main_arg3)
def vA : S8x512x2048.Idx → EReal := m ((c.tc : Thread nD τ).loc main_arg4)
def vsA : S8x8x64.Idx → EReal := m ((c.tc : Thread nD τ).loc main_arg5)

theorem V0 : V m c main_v0 = qA m c := by
  rw [V_eq]
  after_reads_simp
  rfl

theorem V1 : V m c main_v1 = kA m c := by
  rw [V_eq]
  after_reads_simp
  rfl

theorem V2 : V m c main_v2 = vA m c := by
  rw [V_eq]
  after_reads_simp
  rfl

theorem V61 : V m c main_v61 = concatenate S8x8x128 2 [⟨S8x8x64, vsA m c⟩, ⟨S8x8x64, vsA m c⟩] Gen.concatenates_S8x8x64_S8x8x64_S8x8x128_d2 := by
  rw [V_eq]
  after_reads_simp
  rfl

theorem V53 : V m c main_v53 = shapeCast S8x1x2048 (sitofp (F := Ideal) .f32 (segA m c)) Gen.shapeCasts_S8x2048_S8x1x2048 := by
  rw [V_eq]
  after_reads_simp
  rfl

theorem V55 : V m c main_v55 = sitofp (F := Ideal) .f32 (shapeCast S8x1x2048 (segA m c) Gen.shapeCasts_S8x2048_S8x1x2048) := by
  rw [V_eq]
  after_reads_simp
  rfl

theorem V60 : V m c main_v60 = shapeCast S8x1x2048 (sitofp (F := Ideal) .f32 (select (preA m c) (broadcastInDim S8x2048 ![] Gen.bcast_S_S8x2048 (id (constantI S_ 32 4294967295#32)))
    (broadcastInDim S8x2048 ![0, 1] Gen.bcast_S1x2048_S8x2048_0_1 (broadcastInDim S1x2048 ![1] Gen.bcast_S2048_S1x2048_1 (iotaInDim S2048 32 0))))) Gen.shapeCasts_S8x2048_S8x1x2048 := by
  rw [V_eq]
  after_reads_simp
  rfl

theorem castRow {α : Type} (g : S8x2048.Idx → α) (b : Fin 8) (y : Fin 2048) : shapeCast S8x1x2048 g Gen.shapeCasts_S8x2048_S8x1x2048 (ix3 b 0 y) = g (ix2 b y) := by
  pointwise

theorem V53_apply (b : Fin 8) (y : Fin 2048) : V m c main_v53 (ix3 b 0 y) = (((segA m c (ix2 b y)).toInt : ℝ) : EReal) := by
  rw [V53, castRow]
  rfl

theorem V55_apply (b : Fin 8) (y : Fin 2048) : V m c main_v55 (ix3 b 0 y) = (((segA m c (ix2 b y)).toInt : ℝ) : EReal) := by
  rw [V55]
  show (((shapeCast S8x1x2048 (segA m c) Gen.shapeCasts_S8x2048_S8x1x2048 (ix3 b 0 y)).toInt : ℝ) : EReal) = _
  rw [castRow]

theorem V60_apply (b : Fin 8) (y : Fin 2048) : V m c main_v60 (ix3 b 0 y) = (((Scalar.select (preA m c (ix2 b y)) 4294967295#32 (BitVec.ofNat 32 y.val)).toInt : ℝ) : EReal) := by
  rw [V60, castRow]
  rfl

theorem catVs (v : S8x8x64.Idx → EReal) (b h : Fin 8) (x : Fin 128) :
    concatenate S8x8x128 2 [⟨S8x8x64, v⟩, ⟨S8x8x64, v⟩] Gen.concatenates_S8x8x64_S8x8x64_S8x8x128_d2 (ix3 b h x) = v (ix3 b h ⟨x.val % 64, by omega⟩) := by
  pointwise
  by_cases hx : x.val < 64
  · simp only [hx, dite_true]
    exact congrArg (fun z => v (ix3 b h z)) (Fin.ext (by show x.val = x.val % 64; omega))
  · simp only [hx, dite_false]
    exact congrArg (fun z => v (ix3 b h z)) (Fin.ext (by show x.val - 64 = x.val % 64; omega))

/-- The key `κ` is one the query `Q` sees, in batch `b`. -/
abbrev visA (b : Fin 8) (Q κ : Fin 2048) : Prop := segA m c (ix2 b Q) = segA m c (ix2 b κ) ∧ (preA m c (ix2 b κ) = 1#1 ∨ κ.val ≤ Q.val)

/-- A product of codes, summed over a head's coordinates. -/
def rawA (b hd : Fin 8) (g : Fin 4) (Q κ : Fin 2048) : EReal := ∑ d : Fin 64, kA m c (ix4 b hd κ d) * qA m c (ix3 b ⟨256 * hd.val + 64 * g.val + d.val, by omega⟩ Q)

/-- The score of a key for a query. -/
def sA (b hd : Fin 8) (g : Fin 4) (Q κ : Fin 2048) : EReal :=
  if visA m c b Q κ then (rawA m c b hd g Q κ * qsA m c (ix3 b ⟨4 * hd.val + g.val, by omega⟩ Q)) * (ksA m c (ix3 b hd κ) * Ideal.ofBits .f32 0x3E000000#32) else ⊥

/-- Attention, at a query, head, group and coordinate. -/
def RV (b hd : Fin 8) (g : Fin 4) (d : Fin 64) (Q : Fin 2048) : EReal :=
  Ideal.div ((∑ κ, vA m c (ix3 b ⟨64 * hd.val + d.val, by omega⟩ κ) * clipP (Ideal.exp (sA m c b hd g Q κ - Finset.univ.sup (sA m c b hd g Q)) * Ideal.ofBits .f32 0x43800000#32))
      * (Ideal.ofBits .f32 0x3B800000#32 * vsA m c (ix3 b hd d)))
    (∑ κ, Ideal.exp (sA m c b hd g Q κ - Finset.univ.sup (sA m c b hd g Q)))

/-- Every code and every scale is a real number, and the scales of the queries are positive. -/
def Fine : Prop :=
  (∀ j, ∃ x : ℝ, qA m c j = x) ∧ (∀ j, ∃ x : ℝ, kA m c j = x) ∧ (∀ j, ∃ x : ℝ, ksA m c j = x) ∧ (∀ j, ∃ x : ℝ, 0 < x ∧ qsA m c j = x)

theorem posQ_eq (i : grid0.Coords) (y : Fin 128) : posQ i y = (((tileIx (i 1) y).val : ℝ) : EReal) := by
  have h : ∀ (n : Fin 16) (y : Fin 128), (BitVec.ofNat 32 y.val + BitVec.ofNat 32 n.val * 128#32 : BitVec 32).toInt = ((128 * n.val + y.val : ℕ) : Int) := by decide +kernel
  unfold posQ
  rw [h (i 1) y]
  norm_cast

theorem posK_le (p : BitVec 1) (κ Q : Fin 2048) : ((((Scalar.select p 4294967295#32 (BitVec.ofNat 32 κ.val)).toInt : ℝ) : EReal) ≤ ((Q.val : ℝ) : EReal)) ↔ (p = 1#1 ∨ κ.val ≤ Q.val) := by
  have hκ : (BitVec.ofNat 32 κ.val).toInt = κ.val := by revert κ; decide +kernel
  have hp : p = 1#1 ∨ p = 0#1 := by revert p; decide
  rcases hp with rfl | rfl
  · show ((((4294967295#32 : BitVec 32).toInt : ℝ) : EReal) ≤ _) ↔ _
    rw [show (4294967295#32 : BitVec 32).toInt = -1 from by decide]
    refine iff_of_true (EReal.coe_le_coe_iff.mpr ?_) (Or.inl rfl)
    have : (0 : ℝ) ≤ (Q.val : ℝ) := Nat.cast_nonneg _
    push_cast
    linarith
  · show ((((BitVec.ofNat 32 κ.val).toInt : ℝ) : EReal) ≤ _) ↔ _
    rw [hκ, EReal.coe_le_coe_iff]
    push_cast
    rw [Nat.cast_le]
    exact ⟨Or.inr, fun h => h.resolve_left (by decide)⟩

theorem seg_eq_iff (x y : BitVec 32) : (((x.toInt : ℝ) : EReal) = ((y.toInt : ℝ) : EReal)) ↔ y = x := by
  rw [EReal.coe_eq_coe_iff, Int.cast_inj, BitVec.toInt_inj]
  exact eq_comm

variable (t : Fin (cfgA m).N)

/-- The mask at a key of an arm's window: zero where the query sees the key. -/
theorem mask_eq (k0 nb : ℕ) (hn : k0 + 128 * nb ≤ 2048) (b : S2048x128.Idx → EReal) (j : ℕ) (hj : j < 128 * nb) (y : Fin 128) :
    maskOf (grid0.coords t) (blkAt m c t) (cpOf (blkAt m c t)) k0 (128 * nb) hn b (ix2 (kap j) y)
      = (if visA m c (bAt m t) (tileIx (iAt m t) y) (kap (k0 + j)) then 0 else ⊥ : EReal) := by
  rw [maskOf_apply _ _ _ _ _ _ _ _ hj]
  refine if_congr ?_ rfl rfl
  show colT (F := Ideal) (blkAt m c t).segk (ix2 (kap (k0 + j)) y) = _ ∧ colT (F := Ideal) (blkAt m c t).posk (ix2 (kap (k0 + j)) y) ≤ _ ↔ _
  rw [colT_apply, colT_apply, blk_segk, blk_segq, blk_posk, V53_apply, V55_apply, V60_apply, posQ_eq]
  exact and_congr (seg_eq_iff _ _) (posK_le _ _ _)

theorem point_value (hf : Fine m c) (v5 v8 : BitVec 32) (o : S1x128x2048.Idx → EReal)
    (hcov : ∀ (y : Fin 128) (κ : Fin 2048), visA m c (bAt m t) (tileIx (iAt m t) y) κ → 128 * v5.toNat ≤ κ.val ∧ κ.val < 128 * (v5.toNat + v8.toNat))
    (hg : Good (grid0.coords t) (blkAt m c t) (cpOf (blkAt m c t)) v5 v8 o) (hd : Fin 8) (g : Fin 4) (d : Fin 64) (y : Fin 128) :
    o (ix3 0 y ⟨256 * hd.val + 64 * g.val + d.val, by omega⟩) = RV m c (bAt m t) hd g d (tileIx (iAt m t) y) := by
  obtain ⟨k0, nb, hn, b, h1, h2, ho⟩ := hg
  rw [ho hd g d y]
  obtain ⟨hq, hk, hks, hqs⟩ := hf
  choose q' hq' using hq
  choose k' hk' using hk
  choose ks' hks' using hks
  choose qs' hqs0 hqs' using hqs
  have hx : (128 * g.val + y.val) / 128 = g.val := by have := y.isLt; omega
  have hl : (128 * g.val + y.val) % 128 = y.val := by have := y.isLt; omega
  have eln : ln (⟨128 * g.val + y.val, by omega⟩ : Fin 512) = y := Fin.ext hl
  set E := envOf (blkAt m c t) (cpOf (blkAt m c t)) (maskOf (grid0.coords t) (blkAt m c t) (cpOf (blkAt m c t)) k0 (128 * nb) hn b) with hE
  set B := bAt m t
  set Q := tileIx (iAt m t) y
  let r : Fin 2048 → ℝ := fun κ => ∑ d : Fin 64, k' (ix4 B hd κ d) * q' (ix3 B ⟨256 * hd.val + 64 * g.val + d.val, by omega⟩ Q)
  have hraw : ∀ κ, rawA m c B hd g Q κ = (r κ : EReal) := fun κ => by
    unfold rawA
    rw [show (r κ : EReal) = ∑ d : Fin 64, ((k' (ix4 B hd κ d) * q' (ix3 B ⟨256 * hd.val + 64 * g.val + d.val, by omega⟩ Q) : ℝ) : EReal) from
      map_sum (⟨⟨fun x : ℝ => (x : EReal), EReal.coe_zero⟩, EReal.coe_add⟩ : ℝ →+ EReal) _ Finset.univ]
    refine Finset.sum_congr rfl fun d _ => ?_
    rw [hk', hq', EReal.coe_mul]
  have hS : ∀ j ∈ Finset.range (128 * nb), Sx E k0 hd j ⟨128 * g.val + y.val, by omega⟩ = kS (visA m c B Q) r (fun κ => ks' (ix3 B hd κ)) (kap (k0 + j)) := fun j hj => by
    unfold Sx kS
    have e1 : (∑ d : Fin 64, E.k (ix4 0 hd (kap (k0 + j)) d) * E.q (ix3 0 ⟨256 * hd.val + 64 * ((128 * g.val + y.val) / 128) + d.val, by omega⟩ (ln ⟨128 * g.val + y.val, by omega⟩)) : EReal) = (r (kap (k0 + j)) : EReal) := by
      rw [← hraw]
      unfold rawA
      refine Finset.sum_congr rfl fun d _ => ?_
      rw [eln]
      show ((blkAt m c t).k (ix4 0 hd (kap (k0 + j)) d) * (blkAt m c t).q (ix3 0 ⟨256 * hd.val + 64 * ((128 * g.val + y.val) / 128) + d.val, _⟩ y) : EReal) = _
      rw [blk_k, blk_q, V0, V1]
      simp only [hx]
      rfl
    have e2 : E.ks (ix3 hd (kap (k0 + j)) (ln ⟨128 * g.val + y.val, by omega⟩)) = ((ks' (ix3 B hd (kap (k0 + j))) : ℝ) : EReal) * (((8 * Real.log 2)⁻¹ : ℝ) : EReal) := by
      show ksT (F := Ideal) (blkAt m c t).ks (ix3 hd (kap (k0 + j)) _) = _
      rw [ksT_apply, blk_ks, (V_args m c).2.2.2.1]
      show ksA m c _ * _ = _
      rw [hks']
      rfl
    have e3 : E.b (ix2 (kap j) (ln ⟨128 * g.val + y.val, by omega⟩)) = (if visA m c B Q (kap (k0 + j)) then 0 else ⊥ : EReal) := by
      rw [eln]
      exact mask_eq m c t k0 nb hn b j (Finset.mem_range.mp hj) y
    rw [e1, e2, e3]
  have hQ : Qx E hd ⟨128 * g.val + y.val, by omega⟩ = (qs' (ix3 B ⟨4 * hd.val + g.val, by omega⟩ Q) : EReal) := by
    unfold Qx
    rw [eln]
    show (blkAt m c t).qs (ix3 0 ⟨4 * hd.val + (128 * g.val + y.val) / 128, _⟩ y) = _
    rw [blk_qs, (V_args m c).2.1]
    show qsA m c _ = _
    rw [← hqs']
    simp only [hx]
    rfl
  have hV : ∀ j, Vx E k0 hd d j = vA m c (ix3 B ⟨64 * hd.val + d.val, by omega⟩ (kap (k0 + j))) := fun j => by
    unfold Vx
    show (blkAt m c t).v _ = _
    rw [blk_v, V2]
  have hVs : E.vs (ix3 0 hd ⟨(64 * g.val + d.val) % 128, by omega⟩) = vsA m c (ix3 B hd d) := by
    show (blkAt m c t).vs _ = _
    rw [blk_vs, V61, catVs]
    exact congrArg (fun z => vsA m c (ix3 B hd z)) (Fin.ext (by show (64 * g.val + d.val) % 128 % 64 = d.val; omega))
  have hM : M8x E k0 (128 * nb) hd ⟨128 * g.val + y.val, by omega⟩ = ((Finset.range (128 * nb)).sup fun j => kS (visA m c B Q) r (fun κ => ks' (ix3 B hd κ)) (kap (k0 + j))) * (qs' (ix3 B ⟨4 * hd.val + g.val, by omega⟩ Q) : EReal) - Ideal.ofBits .f32 0x41000000#32 := by
    unfold M8x
    rw [hQ, Finset.sup_congr rfl hS]
  have hEx : ∀ j ∈ Finset.range (128 * nb), Ex E k0 (128 * nb) hd j ⟨128 * g.val + y.val, by omega⟩ = Ideal.exp2 (kS (visA m c B Q) r (fun κ => ks' (ix3 B hd κ)) (kap (k0 + j)) * (qs' (ix3 B ⟨4 * hd.val + g.val, by omega⟩ Q) : EReal)
      - (((Finset.range (128 * nb)).sup fun j => kS (visA m c B Q) r (fun κ => ks' (ix3 B hd κ)) (kap (k0 + j))) * (qs' (ix3 B ⟨4 * hd.val + g.val, by omega⟩ Q) : EReal) - Ideal.ofBits .f32 0x41000000#32)) := fun j hj => by
    unfold Ex
    rw [hM, hQ, hS j hj]
  unfold Ox
  rw [hVs, Finset.sum_congr rfl hEx, Finset.sum_congr rfl fun j hj => by rw [hV j, hEx j hj]]
  refine (value_eq k0 (128 * nb) (visA m c B Q) r (fun κ => ks' (ix3 B hd κ)) (qs' (ix3 B ⟨4 * hd.val + g.val, by omega⟩ Q)) (fun κ => vA m c (ix3 B ⟨64 * hd.val + d.val, by omega⟩ κ)) (vsA m c (ix3 B hd d)) hn (hqs0 _)
    (fun κ h => by have := hcov y κ h; omega) ⟨Q, rfl, Or.inr le_rfl⟩).trans ?_
  have hsA : sA m c B hd g Q = rS (visA m c B Q) r (fun κ => ks' (ix3 B hd κ)) (qs' (ix3 B ⟨4 * hd.val + g.val, by omega⟩ Q)) := funext fun κ => by
    unfold sA rS
    rw [hraw, hqs', hks']
  unfold RV
  rw [hsA]

end Cert.KernelIdeal.Attn

end
-- ==== Proof.KernelIdeal.Out.lean ====
/- The output array the run is to leave, the proof data that names it, and what the body leaves of it at a point. -/
module

public import proofs.«01_k».proof.Proof.KernelIdeal.Arr

@[expose] public section

set_option maxRecDepth 65536
set_option maxHeartbeats 0

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (UR sig nD τ) ℕ

variable (m : (ℓ : Loc nD τ sig) → Buf (Elt Ideal) ℓ) (c : Dev nD)

/-- The output array: attention at every index. -/
def outA : S8x2048x2048.Idx → EReal := fun j =>
  RV m c (j 0) ⟨(j 2).val / 256, by have : (j 2).val < 2048 := (j 2).isLt; omega⟩ ⟨(j 2).val / 64 % 4, by omega⟩ ⟨(j 2).val % 64, by omega⟩ (j 1)

/-- Its block at a point. -/
def outB (t : Fin (cfgA m).N) : S1x128x2048.Idx → EReal := fun y => outA m c (ix3 (bAt m t) (tileIx (iAt m t) (y 1)) (y 2))

/-- What a window holds after a point: an input what was fetched, the output its block of the attention. -/
def aft : (w : Fin 10) → (t : Fin (cfgA m).N) → ((cfgA m).win w).block.Idx → Elt Ideal ((cfgA m).win w).elt
  | 9, t => outB m c t
  | 0, t => Pipeline.heldIn (c := c) (cfgA m) (fun w => V m c (Pipeline.arrRef spec0 w)) 0 t.val t.isLt
  | 1, t => Pipeline.heldIn (c := c) (cfgA m) (fun w => V m c (Pipeline.arrRef spec0 w)) 1 t.val t.isLt
  | 2, t => Pipeline.heldIn (c := c) (cfgA m) (fun w => V m c (Pipeline.arrRef spec0 w)) 2 t.val t.isLt
  | 3, t => Pipeline.heldIn (c := c) (cfgA m) (fun w => V m c (Pipeline.arrRef spec0 w)) 3 t.val t.isLt
  | 4, t => Pipeline.heldIn (c := c) (cfgA m) (fun w => V m c (Pipeline.arrRef spec0 w)) 4 t.val t.isLt
  | 5, t => Pipeline.heldIn (c := c) (cfgA m) (fun w => V m c (Pipeline.arrRef spec0 w)) 5 t.val t.isLt
  | 6, t => Pipeline.heldIn (c := c) (cfgA m) (fun w => V m c (Pipeline.arrRef spec0 w)) 6 t.val t.isLt
  | 7, t => Pipeline.heldIn (c := c) (cfgA m) (fun w => V m c (Pipeline.arrRef spec0 w)) 7 t.val t.isLt
  | 8, t => Pipeline.heldIn (c := c) (cfgA m) (fun w => V m c (Pipeline.arrRef spec0 w)) 8 t.val t.isLt

/-- The copies are those of the point's batch, unless the point is a batch's first. -/
def cpOk (t : Fin ((cfgA m).N + 1)) (C : Cp Ideal) : Prop :=
  ∀ t' : Fin (cfgA m).N, t'.val = t.val → (iAt m t').val ≠ 0 → C = cpOf (blkAt m c t')

/-- What the run carries before a point. -/
def Carry (t : Fin ((cfgA m).N + 1)) : sProp 𝕄 :=
  iprop(∃ f0 : Buf (Elt Ideal) ((c : Thread nD τ).loc cc0_scratch0), ∃ f1 : Buf (Elt Ideal) ((c : Thread nD τ).loc cc0_scratch1), ∃ f2 : Buf (Elt Ideal) ((c : Thread nD τ).loc cc0_scratch2),
    ⌜cpOk m c t ⟨f0, f1, f2⟩⌝
    ∗ (((c : Thread nD τ).loc cc0_scratch0) ↦{fullShare} f0) ∗ (((c : Thread nD τ).loc cc0_scratch1) ↦{fullShare} f1) ∗ (((c : Thread nD τ).loc cc0_scratch2) ↦{fullShare} f2)
    ∗ (∃ f : Buf (Elt Ideal) ((c : Thread nD τ).loc cc0_scratch3), ((c : Thread nD τ).loc cc0_scratch3) ↦{fullShare} f)
    ∗ (∃ f : Buf (Elt Ideal) ((c : Thread nD τ).loc cc0_scratch4), ((c : Thread nD τ).loc cc0_scratch4) ↦{fullShare} f)
    ∗ (∃ f : Buf (Elt Ideal) ((c : Thread nD τ).loc cc0_scratch5), ((c : Thread nD τ).loc cc0_scratch5) ↦{fullShare} f)
    ∗ (∃ r, prngReg c r))

/-- The proof data with the output named. -/
def datV : Pipeline.Dat τ (Elt Ideal) Unit ℕ (UR sig nD τ) ℕ (cfgA m) c where
  A w := V m c (Pipeline.arrRef spec0 w)
  after w t := aft m c w t
  Φ t := iprop(Carry m c t ∗ Pipeline.ΦT pre0 (adm m 0).1 c)
  q _ := fullShare
  owed _ := 0

theorem before_eqV (w : Fin 10) (hw : (spec0 w).isOut = false) (hi : ∀ i, (cfgA m).idle w i = false) (t : Fin (cfgA m).N) (d) :
    (datV m c).before w t d = (dat m c).after w t :=
  Pipeline.Dat.before_eq_heldIn (datV m c) w hw hi (fun _ _ => by fin_cases w <;> rfl) (fun _ => by fin_cases w <;> first | rfl | exact absurd hw (by decide)) t d

/-- Two points of one batch find the same keys. -/
theorem cpOf_batch (t t' : Fin (cfgA m).N) (h : bAt m t = bAt m t') : cpOf (blkAt m c t) = cpOf (blkAt m c t') := by
  have e1 : (blkAt m c t).ks = (blkAt m c t').ks := funext fun j => by
    obtain ⟨a, b, d, rfl⟩ : ∃ (a : Fin 1) (b : Fin 8) (d : Fin 2048), j = ix3 a b d := ⟨j 0, j 1, j 2, by funext k; fin_cases k <;> rfl⟩
    obtain rfl : a = 0 := Subsingleton.elim _ _
    rw [blk_ks, blk_ks, h]
  have e2 : (blkAt m c t).segk = (blkAt m c t').segk := funext fun j => by
    obtain ⟨a, b, d, rfl⟩ : ∃ (a : Fin 1) (b : Fin 1) (d : Fin 2048), j = ix3 a b d := ⟨j 0, j 1, j 2, by funext k; fin_cases k <;> rfl⟩
    obtain rfl : a = 0 := Subsingleton.elim _ _
    obtain rfl : b = 0 := Subsingleton.elim _ _
    rw [blk_segk, blk_segk, h]
  have e3 : (blkAt m c t).posk = (blkAt m c t').posk := funext fun j => by
    obtain ⟨a, b, d, rfl⟩ : ∃ (a : Fin 1) (b : Fin 1) (d : Fin 2048), j = ix3 a b d := ⟨j 0, j 1, j 2, by funext k; fin_cases k <;> rfl⟩
    obtain rfl : a = 0 := Subsingleton.elim _ _
    obtain rfl : b = 0 := Subsingleton.elim _ _
    rw [blk_posk, blk_posk, h]
  unfold cpOf
  rw [e1, e2, e3]

theorem coords_next : ∀ t t' : Fin grid0.N, t'.val = t.val + 1 → (grid0.coords t' 1).val ≠ 0 → grid0.coords t 0 = grid0.coords t' 0 := by decide +kernel

theorem first_word : ∀ i : Fin 16, Scalar.cmpi .ne (Scalar.extui (Scalar.cmpi .eq (BitVec.ofNat 32 i.val) 0#32) : BitVec 32) 0#32 ≠ 1#1 → i.val ≠ 0 := by decide +kernel

/-- At every point the body works with the copies of the point's batch. -/
theorem initF_eq (t : Fin (cfgA m).N) (C : Cp Ideal) (h : cpOk m c t.castSucc C) : initF (grid0.coords t) (blkAt m c t) C = cpOf (blkAt m c t) := by
  unfold initF
  split
  · rfl
  · exact h t rfl (first_word _ (by assumption))

theorem cpOk_next (t : Fin (cfgA m).N) : cpOk m c t.succ (cpOf (blkAt m c t)) := fun t' ht hi =>
  cpOf_batch m c t t' (coords_next t t' ht hi)

/-- The words a point reads of the tables. -/
theorem wordAt_first (t : Fin (cfgA m).N) : wordAt (F := Ideal) (Memref.whole main_v46) (grid0.coords t) (V m 0 main_v46) = V m 0 main_v46 (ix2 (bAt m t) (iAt m t)) :=
  congrArg (V m 0 main_v46) (funext fun a => Fin.ext (by
    fin_cases a
    · show (BitVec.ofNat 32 (bAt m t).val).toNat + 1 * 0 = (bAt m t).val; rw [word8]; rfl
    · show (BitVec.ofNat 32 (iAt m t).val).toNat + 1 * 0 = (iAt m t).val; rw [word16]; rfl))
theorem wordAt_count (t : Fin (cfgA m).N) : wordAt (F := Ideal) (Memref.whole main_v51) (grid0.coords t) (V m 0 main_v51) = V m 0 main_v51 (ix2 (bAt m t) (iAt m t)) :=
  congrArg (V m 0 main_v51) (funext fun a => Fin.ext (by
    fin_cases a
    · show (BitVec.ofNat 32 (bAt m t).val).toNat + 1 * 0 = (bAt m t).val; rw [word8]; rfl
    · show (BitVec.ofNat 32 (iAt m t).val).toNat + 1 * 0 = (iAt m t).val; rw [word16]; rfl))

/-- What the body leaves in the output block. -/
theorem body_val (hf : Fine m 0) (t : Fin (cfgA m).N) (hw) (X : Sc Ideal) :
    (bodyF (grid0.coords t) (blkAt m 0 t) (cpOf (blkAt m 0 t)) (wordAt (F := Ideal) (Memref.whole main_v46) (grid0.coords t) (V m 0 main_v46)) (wordAt (F := Ideal) (Memref.whole main_v51) (grid0.coords t) (V m 0 main_v51)) hw X).o = outB m 0 t := by
  obtain ⟨h1, h2, h3⟩ := table Ideal m 0 (bAt m t) (iAt m t)
  have g := body_out (grid0.coords t) (blkAt m 0 t) (cpOf (blkAt m 0 t)) _ _ hw X (by rw [wordAt_count]; exact h1) (by rw [wordAt_first, wordAt_count]; exact h2)
  funext j
  have hj : (j 2).val < 2048 := (j 2).isLt
  have key := point_value m 0 t hf _ _ _ (fun y κ hv => by rw [wordAt_first, wordAt_count]; exact h3 y κ hv.1 hv.2) g ⟨(j 2).val / 256, by omega⟩ ⟨(j 2).val / 64 % 4, by omega⟩ ⟨(j 2).val % 64, by omega⟩ (j 1)
  have ej : j = ix3 0 (j 1) ⟨256 * ((j 2).val / 256) + 64 * ((j 2).val / 64 % 4) + (j 2).val % 64, by omega⟩ := by
    funext a
    fin_cases a
    · exact Subsingleton.elim (α := Fin 1) _ _
    · rfl
    · exact Fin.ext (by show (j 2).val = 256 * ((j 2).val / 256) + 64 * ((j 2).val / 64 % 4) + (j 2).val % 64; omega)
  exact (congrArg _ ej).trans key

end Cert.KernelIdeal.Attn

end
-- ==== Proof.KernelIdeal.Idle.lean ====
/- At every point some arm of the body runs, so the output window is idle at none. -/
module

public import proofs.«01_k».proof.Proof.KernelIdeal.Out

@[expose] public section

set_option maxRecDepth 65536
set_option maxHeartbeats 0

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (UR sig nD τ) ℕ

variable (m : (ℓ : Loc nD τ sig) → Buf (Elt Ideal) ℓ) (c : Dev nD)

/-- No arm takes the word. -/
def idleW (w : BitVec 32) : Bool := !(k0_cond2 w == 1#1) && !(k0_cond3 w == 1#1) && !(k0_cond4 w == 1#1) && !(k0_cond5 w == 1#1) && !(k0_cond6 w == 1#1) && !(k0_cond7 w == 1#1) && !(k0_cond8 w == 1#1) && !(k0_cond9 w == 1#1) && !(k0_cond10 w == 1#1) && !(k0_cond11 w == 1#1)

theorem idleW_eq (w : BitVec 32) (h1 : 1 ≤ w.toNat) (h : w.toNat ≤ 16) : idleW w = false := by
  unfold idleW
  rcases some_cond w h1 h with h | h | h | h | h | h | h | h | h | h <;> simp [h]

theorem word_at (t : Fin (cfgA m).N) : ((adm m 0).1.atD 1 (k0_off1 (grid0.coords t)) : BitVec 32) = V m 0 main_v51 (ix2 (bAt m t) (iAt m t)) := by
  refine (dif_pos (fun a => by have := k0_off1_inb (grid0.coords t) a; fin_cases a <;> exact this)).trans ?_
  exact congrArg (V m 0 main_v51) (funext fun a => Fin.ext (by
    fin_cases a
    · show (BitVec.ofNat 32 (bAt m t).val).toNat = (bAt m t).val; rw [word8]
    · show (BitVec.ofNat 32 (iAt m t).val).toNat = (iAt m t).val; rw [word16]))

theorem idle9 (t : Fin (cfgA m).N) : idle0 (adm m 0).1 9 (grid0.coords t) = false := by
  obtain ⟨h1, h2, -⟩ := table Ideal m 0 (bAt m t) (iAt m t)
  show idleW ((adm m 0).1.atD 1 (k0_off1 (grid0.coords t)) : BitVec 32) = false
  rw [word_at]
  exact idleW_eq _ h1 (by omega)

end Cert.KernelIdeal.Attn

end
-- ==== Proof.KernelIdeal.Carry.lean ====
/- The body at a point, with what it leaves named. -/
module

public import proofs.«01_k».proof.Proof.KernelIdeal.Idle

@[expose] public section

set_option maxRecDepth 65536
set_option maxHeartbeats 0

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (UR sig nD τ) ℕ

variable (m : (ℓ : Loc nD τ sig) → Buf (Elt Ideal) ℓ) (c : Dev nD)

theorem body_obligationV (hf : Fine m 0) : Pipeline.BodyObligationLoose (datV m c) (defs₀ (F := Ideal)) Variants.none () Set.univ := fun t => by
  obtain rfl : c = 0 := Subsingleton.elim _ _
  rw [Gen.bigSep_W0, Gen.bigSep_W0]
  rw [show (datV m 0).Φ t.castSucc = iprop(Carry m 0 t.castSucc ∗ Pipeline.ΦT pre0 (adm m 0).1 0) from rfl,
    show (datV m 0).Φ t.succ = iprop(Carry m 0 t.succ ∗ Pipeline.ΦT pre0 (adm m 0).1 0) from rfl,
    show (datV m 0).owesAt () t.succ = (datV m 0).owesAt () t.castSucc from rfl]
  unfold Carry Pipeline.ΦT Pipeline.prefHeld
  rw [bigSep_univ_two]
  dsimp only
  iintro ⟨⟨⟨%f0, %f1, %f2, %hC, S0, S1, S2, ⟨%f3, S3⟩, ⟨%f4, S4⟩, ⟨%f5, S5⟩, Hp⟩, HT⟩, Ho, HW⟩
  icases HW with ⟨⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9', W9⟩⟩
  rw [before_eqV m 0 0 rfl (fun _ => rfl) t d0, before_eqV m 0 1 rfl (fun _ => rfl) t d1, before_eqV m 0 2 rfl (fun _ => rfl) t d2, before_eqV m 0 3 rfl (fun _ => rfl) t d3, before_eqV m 0 4 rfl (fun _ => rfl) t d4, before_eqV m 0 5 rfl (fun _ => rfl) t d5, before_eqV m 0 6 rfl (fun _ => rfl) t d6, before_eqV m 0 7 rfl (fun _ => rfl) t d7, before_eqV m 0 8 rfl (fun _ => rfl) t d8]
  generalize (datV m 0).before 9 t d9' = d9
  have eC := initF_eq m 0 t ⟨f0, f1, f2⟩ hC
  have key := body_wp (F := Ideal) (0 : Dev nD) (Memref.whole main_v46) (Memref.isWhole_whole _) (Memref.whole main_v51) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    (blkAt m 0 t) ⟨f0, f1, f2⟩ (grid0.coords t) fullShare.right (V m 0 main_v46) (V m 0 main_v51) (chk_at m _) ⟨f3, f5, f4, d9⟩
  rw [eC] at key
  generalize hY : bodyF (F := Ideal) (grid0.coords t) (blkAt m 0 t) (cpOf (blkAt m 0 t)) (wordAt (F := Ideal) (Memref.whole main_v46) (grid0.coords t) (V m 0 main_v46)) (wordAt (F := Ideal) (Memref.whole main_v51) (grid0.coords t) (V m 0 main_v51)) (chk_at m _) ⟨f3, f5, f4, d9⟩ = Y at key
  have hYo : Y.o = outB m 0 t := by rw [← hY]; exact body_val m hf t _ _
  clear hY
  obtain ⟨ys, ym, yb, yo⟩ := Y
  obtain rfl : yo = outB m 0 t := hYo
  iapply key
  unfold Tb RoB RwB own
  simp only [owns_whole_eq]
  icases HT with ⟨T0, T1⟩
  isplitl [T0 T1]
  · isplitl [T0]
    · iexact T0
    · iexact T1
  isplitl [W0 W1 W2 W3 W4 W5 W6 W7 W8 S0 S1 S2]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [S0]; · (iexists f0; isplitr; swap; (· iexact S0); ipureintro; rfl)
    isplitl [S1]; · (iexists f1; isplitr; swap; (· iexact S1); ipureintro; rfl)
    iexists f2; isplitr; swap; (· iexact S2); ipureintro; rfl
  isplitl [S3 S4 S5 W9]
  · isplitl [S3]; · (iexists f3; isplitr; swap; (· iexact S3); ipureintro; rfl)
    isplitl [S5]; · (iexists f5; isplitr; swap; (· iexact S5); ipureintro; rfl)
    isplitl [S4]; · (iexists f4; isplitr; swap; (· iexact S4); ipureintro; rfl)
    iexact W9
  iintro ⟨T0, T1⟩ ⟨W0, W1, W2, W3, W4, W5, W6, W7, W8, ⟨%g0, %e0, S0⟩, ⟨%g1, %e1, S1⟩, ⟨%g2, %e2, S2⟩⟩ ⟨⟨%g3, -, S3⟩, ⟨%g5, -, S5⟩, ⟨%g4, -, S4⟩, W9⟩
  isplitl [S0 S1 S2 S3 S4 S5 Hp T0 T1]
  · isplitl [S0 S1 S2 S3 S4 S5 Hp]
    · iexists g0; iexists g1; iexists g2
      isplitr
      · ipureintro
        have : (⟨g0, g1, g2⟩ : Cp Ideal) = cpOf (blkAt m 0 t) := by
          rw [show g0 = (cpOf (blkAt m 0 t)).k from e0, show g1 = (cpOf (blkAt m 0 t)).s from e1, show g2 = (cpOf (blkAt m 0 t)).p from e2]
        rw [this]
        exact cpOk_next m 0 t
      isplitl [S0]; · iexact S0
      isplitl [S1]; · iexact S1
      isplitl [S2]; · iexact S2
      isplitl [S3]; · (iexists g3; iexact S3)
      isplitl [S4]; · (iexists g4; iexact S4)
      isplitl [S5]; · (iexists g5; iexact S5)
      iexact Hp
    isplitl [T0]
    · iexact T0
    · iexact T1
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  have hi := idle9 m t
  split
  · rename_i h9; exact absurd (hi.symm.trans h9) (by decide)
  · iexact W9

end Cert.KernelIdeal.Attn

end
-- ==== Proof.KernelIdeal.Final.lean ====
/- The output array after the run, point by point. -/
module

public import proofs.«01_k».proof.Proof.KernelIdeal.Out
public import Idealize.ShloMosaic.Lib.Pipeline.ValueKit.Geometry

@[expose] public section

set_option maxRecDepth 65536
set_option maxHeartbeats 0

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (UR sig nD τ) ℕ

variable (m : (ℓ : Loc nD τ sig) → Buf (Elt Ideal) ℓ) (c : Dev nD)

/-- The pipeline at tables of zeros: the output window is the same. -/
def adm0 : (p : Fin 1) → (pcfgs (F := Ideal) p).Adm := fun _ => ⟨fun k => match k with | 0 => fun _ => (0#32 : BitVec 32) | 1 => fun _ => (0#32 : BitVec 32), trivial⟩

theorem cov0 : ((Pipeline.pin (pcfgs (F := Ideal)) adm0 0).win 9).Covers := by decide +kernel

/-- The output array after the run. -/
theorem final_out : (datV m c).arrAt (9 : Fin 10) (cfgA m).N = outA m c := by
  refine (datV m c).arrAt_eq_of_covers (9 : Fin 10) (outA m c) cov0 fun t hf y => ?_
  show outA m c (ix3 (bAt m t) (tileIx (iAt m t) (y 1)) (y 2)) = outA m c ((((cfgA m).win 9).blk t).view.emb y)
  refine congrArg (outA m c) (funext fun a => Fin.ext ?_)
  fin_cases a
  · show (bAt m t).val = (BitVec.ofNat 32 (bAt m t).val).toNat * 1 + 1 * (y 0).val
    have : (y 0).val < 1 := (y 0).isLt
    rw [word8]; omega
  · show 128 * (iAt m t).val + (y 1).val = (BitVec.ofNat 32 (iAt m t).val).toNat * 128 + 1 * (y 1).val
    rw [word16]; omega
  · show (y 2).val = 0 * 2048 + 1 * (y 2).val
    omega

end Cert.KernelIdeal.Attn

end
-- ==== Proof.KernelIdeal.Launch.lean ====
/- The kernel's run on the exact semantics, with its output named: attention as the reference spells it, at every index.
   Between points the run carries what the first three scratch buffers hold: after a batch's first point, the copies of that
   batch's key scales, key segments and key positions. -/
module

public import proofs.«01_k».proof.Proof.KernelIdeal.Carry
public import proofs.«01_k».proof.Proof.KernelIdeal.Final

@[expose] public section

set_option maxRecDepth 65536
set_option maxHeartbeats 0

noncomputable section

namespace Cert.KernelIdeal.Attn

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

local notation "𝕄" => MT nD τ sig Unit (Elt Ideal) ℕ (UR sig nD τ) ℕ

variable (m : (ℓ : Loc nD τ sig) → Buf (Elt Ideal) ℓ) (c : Dev nD)

theorem first_coord : ∀ t : Fin grid0.N, t.val = 0 → (grid0.coords t 1).val = 0 := by decide +kernel

/-- The run: the output is attention at every index, the arguments keep their contents and every semaphore is at zero. -/
theorem run_value (hf : Fine m 0) (g : Dev nD → PrngReg) :
    θ_run (defs (F := Ideal)) (onTc (τ := τ) (main (F := Ideal))) ⟨m, fun _ => 0, g⟩ (fun r => (∀ c : Dev nD,
      r.2.mem ((c.tc : Thread nD τ).loc main_v62) = outA m c ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_frameP_track (pcfgs (F := Ideal)) (adm m) (fun p => match p with | 0 => fun c => datV m c) 0 Gen.launch0
    (defs₀ (F := Ideal)) Variants.none m g (main (F := Ideal)) (fun c => body_obligationV m c hf) (fun c w => ?_) (fun _ _ => rfl) (V m)
    (Pipeline.hmainP_prefixes (pcfgs (F := Ideal)) 0 (defs₀ (F := Ideal)) Variants.none m (main (F := Ideal)) opss
      ⟨Gen.hostOps0_sub, Gen.hostOps0_1_sub, Gen.hostOps0_2_sub, Gen.hostOps0_3_sub, Gen.hostOps0_4_sub, Gen.hostOps0_5_sub,
        Gen.hostOps0_6_sub, Gen.hostOps0_7_sub, Gen.hostOps0_8_sub, Gen.hostOps0_9_sub, Gen.hostOps0_10_sub⟩ (by repeat' (first | exact rfl | apply And.intro)) Gen.main_chain)
    (fun _ _ => rfl) (fun c k => ?_) (fun c => ?_) (fun c => ?_) _ (fun r h => ⟨fun c => ?_, h.2⟩)
  · exact (datV m c).share_full (fun _ => rfl) w
  · obtain rfl : c = 0 := Subsingleton.elim _ _
    rfl
  · show iprop(Pipeline.ΦA spec0 c ∗ Pipeline.ΦT pre0 (adm m 0).1 c) ⊢ iprop(Carry m c 0 ∗ Pipeline.ΦT pre0 (adm m 0).1 c)
    unfold Pipeline.ΦA Carry
    rw [Gen.scopedRest0_eq]
    iintro ⟨⟨⟨⟨%f0, S0⟩, ⟨%f1, S1⟩, ⟨%f2, S2⟩, S3, S4, S5⟩, Hp⟩, HT⟩
    isplitr [HT]; swap; · iexact HT
    iexists f0; iexists f1; iexists f2
    isplitr
    · ipureintro
      intro t' ht hi
      exact absurd (first_coord t' ht) hi
    isplitl [S0]; · iexact S0
    isplitl [S1]; · iexact S1
    isplitl [S2]; · iexact S2
    isplitl [S3]; · iexact S3
    isplitl [S4]; · iexact S4
    isplitl [S5]; · iexact S5
    iexact Hp
  · show iprop(Carry m c (Fin.last _) ∗ Pipeline.ΦT pre0 (adm m 0).1 c) ⊢ Pipeline.ΦA spec0 c
    unfold Pipeline.ΦA Carry
    rw [Gen.scopedRest0_eq]
    iintro ⟨⟨%f0, %f1, %f2, -, S0, S1, S2, S3, S4, S5, Hp⟩, -⟩
    isplitr [Hp]; swap; · iexact Hp
    isplitl [S0]; · (iexists f0; iexact S0)
    isplitl [S1]; · (iexists f1; iexact S1)
    isplitl [S2]; · (iexists f2; iexact S2)
    isplitl [S3]; · iexact S3
    isplitl [S4]; · iexact S4
    iexact S5
  · obtain ⟨a0, a1, a2, a3, a4, a5, a6, a7⟩ := V_args m c
    obtain ⟨hw, hr⟩ := h.1 c
    have in1 := (hw (1 : Fin 10)).trans ((datV m c).arrAt_in (1 : Fin 10) rfl _)
    have in3 := (hw (3 : Fin 10)).trans ((datV m c).arrAt_in (3 : Fin 10) rfl _)
    refine ⟨(hw (9 : Fin 10)).trans (final_out m c), (hr main_arg0 (by decide : main_arg0 ∈ Pipeline.restRefs sig spec0)).trans a0, in1.trans a1, (hr main_arg2 (by decide : main_arg2 ∈ Pipeline.restRefs sig spec0)).trans a2, in3.trans a3,
      (hr main_arg4 (by decide : main_arg4 ∈ Pipeline.restRefs sig spec0)).trans a4, (hr main_arg5 (by decide : main_arg5 ∈ Pipeline.restRefs sig spec0)).trans a5, (hr main_arg6 (by decide : main_arg6 ∈ Pipeline.restRefs sig spec0)).trans a6,
      (hr main_arg7 (by decide : main_arg7 ∈ Pipeline.restRefs sig spec0)).trans a7⟩

end Cert.KernelIdeal.Attn

end
-- ==== Proof.Value.Pre.lean ====
/- The precondition read: the codes of the queries and keys and the scales of the keys are real numbers, the scales of the
   queries positive real numbers. -/
module

public import proofs.«01_k».proof.Pre_finite_inputs
public import Idealize.ShloMosaic.Lib.Pointwise
public import Idealize.ShloMosaic.Lib.ReduceAll

@[expose] public section

set_option maxRecDepth 65536

noncomputable section

namespace Cert.Value

open Cert.Pre_finite_inputs Idealize.ShloMosaic

theorem pre_facts : Cert.Pre_finite_inputs.Facts where
  bcast_S_S8x2048x2048 := by decide
  reducesTo_S8x2048x2048_S_d0_1_2 := by decide
  h_S_ := by decide
  bcast_S_S8x8x2048x64 := by decide
  reducesTo_S8x8x2048x64_S_d0_1_2_3 := by decide
  bcast_S_S8x32x2048 := by decide
  reducesTo_S8x32x2048_S_d0_1_2 := by decide
  bcast_S_S8x8x2048 := by decide
  reducesTo_S8x8x2048_S_d0_1_2 := by decide

theorem inf_eq : Ideal.ofBits .f32 0x7F800000#32 = (⊤ : EReal) := by simp [Ideal.ofBits, Ideal.ieee]

theorem zero_eq : Ideal.ofBits .f32 0x00000000#32 = (0 : EReal) := by simp [Ideal.ofBits, Ideal.ieee]

theorem real_of_abs {x : EReal} (h : Ideal.cmp .olt (max x (-x)) (Ideal.ofBits .f32 0x7F800000#32) = 1#1) : ∃ r : ℝ, x = r := by
  rw [inf_eq] at h
  induction x using EReal.rec with
  | bot => simp [Ideal.cmp] at h
  | top => simp [Ideal.cmp] at h
  | coe r => exact ⟨r, rfl⟩

theorem real_of_pos {x : EReal} (h0 : Ideal.cmp .ogt x (Ideal.ofBits .f32 0x00000000#32) = 1#1) (h : Ideal.cmp .olt x (Ideal.ofBits .f32 0x7F800000#32) = 1#1) : ∃ r : ℝ, 0 < r ∧ x = r := by
  rw [inf_eq] at h
  rw [zero_eq] at h0
  induction x using EReal.rec with
  | bot => simp [Ideal.cmp] at h0
  | top => simp [Ideal.cmp] at h
  | coe r => exact ⟨r, by
      by_contra hn
      have hn' : ¬ (0 : EReal) < r := fun hc => hn (by exact_mod_cast hc)
      simp only [Ideal.cmp, hn', decide_false] at h0
      exact absurd h0 (by decide), rfl⟩

instance : Cert.Pre_finite_inputs.Facts := pre_facts

instance : Subsingleton S_.Idx := ⟨fun a b => funext fun k => k.elim0⟩

variable (a0 : FVec Ideal S8x2048x2048 .f32) (a1 : FVec Ideal S8x32x2048 .f32) (a2 : FVec Ideal S8x8x2048x64 .f32) (a3 : FVec Ideal S8x8x2048 .f32)
  (a4 : FVec Ideal S8x512x2048 .f32) (a5 : FVec Ideal S8x8x64 .f32) (a6 : IVec S8x2048 32) (a7 : IVec S8x2048 1)

theorem pre_read (h : Cert.Pre_finite_inputs.fn (F := Ideal) a0 a1 a2 a3 a4 a5 a6 a7 = fun _ => 1#1) :
    (∀ j, ∃ x : ℝ, a0 j = (x : EReal)) ∧ (∀ j, ∃ x : ℝ, a2 j = (x : EReal)) ∧ (∀ j, ∃ x : ℝ, a3 j = (x : EReal)) ∧ (∀ j, ∃ x : ℝ, 0 < x ∧ a1 j = (x : EReal)) := by
  have h := congrFun h ix0
  unfold Cert.Pre_finite_inputs.fn Cert.Pre_finite_inputs.fn_part1 at h
  dsimp only at h
  obtain ⟨h1, h2⟩ := IntOp.andi_eq_one.1 h
  obtain ⟨hq, hk⟩ := IntOp.andi_eq_one.1 h1
  obtain ⟨hqs, hks⟩ := IntOp.andi_eq_one.1 h2
  refine ⟨fun j => real_of_abs (Host.reduce_andi_all _ _ _ _ _ hq j), fun j => real_of_abs (Host.reduce_andi_all _ _ _ _ _ hk j), fun j => real_of_abs (Host.reduce_andi_all _ _ _ _ _ hks j), fun j => ?_⟩
  obtain ⟨p, q⟩ := IntOp.andi_eq_one.1 (Host.reduce_andi_all _ _ _ _ _ hqs j)
  exact real_of_pos p q

end Cert.Value

end
-- ==== Proof.ReferenceIdeal.Read.lean ====
/- The reference's output, read at one index: attention over the whole row of keys, from the arguments as memory holds them. -/
module

public import proofs.«01_k».proof.Proof.Gen.ReferenceIdeal.Run
public import Idealize.ShloMosaic.Lib.Pointwise

@[expose] public section

set_option maxRecDepth 65536
set_option maxHeartbeats 4000000

noncomputable section

namespace Cert.ReferenceIdeal.Read

open Cert.ReferenceIdeal Cert.ReferenceIdeal.Gen
open Idealize.ShloMosaic

variable (a0 : FVec Ideal S8x2048x2048 .f32) (a1 : FVec Ideal S8x32x2048 .f32) (a2 : FVec Ideal S8x8x2048x64 .f32) (a3 : FVec Ideal S8x8x2048 .f32)
  (a4 : FVec Ideal S8x512x2048 .f32) (a5 : FVec Ideal S8x8x64 .f32) (a6 : IVec S8x2048 32) (a7 : IVec S8x2048 1)

/-- Which keys a query sees, as one bit. -/
def mask : IVec S8x2048x2048 1 :=
  andi (cmpi .eq (broadcastInDim S8x2048x2048 ![0, 1, 2] bcast_S8x2048x1_S8x2048x2048_0_1_2 (broadcastInDim S8x2048x1 ![0, 1] bcast_S8x2048_S8x2048x1_0_1 a6)) (broadcastInDim S8x2048x2048 ![0, 1, 2] bcast_S8x1x2048_S8x2048x2048_0_1_2 (broadcastInDim S8x1x2048 ![0, 2] bcast_S8x2048_S8x1x2048_0_2 a6))) (ori (broadcastInDim S8x2048x2048 ![0, 1, 2] bcast_S8x1x2048_S8x2048x2048_0_1_2 (broadcastInDim S8x1x2048 ![0, 2] bcast_S8x2048_S8x1x2048_0_2 a7)) (broadcastInDim S8x2048x2048 ![0, 1, 2] bcast_S1x2048x2048_S8x2048x2048_0_1_2 (cmpi .sle (broadcastInDim S1x2048x2048 ![0, 1, 2] bcast_S1x1x2048_S1x2048x2048_0_1_2 (broadcastInDim S1x1x2048 ![2] bcast_S2048_S1x1x2048_2 (iotaInDim S2048 32 0))) (broadcastInDim S1x2048x2048 ![0, 1, 2] bcast_S1x2048x1_S1x2048x2048_0_1_2 (broadcastInDim S1x2048x1 ![1] bcast_S2048_S1x2048x1_1 (iotaInDim S2048 32 0))))))

/-- The product of keys and queries. -/
def prod : FVec Ideal S8x8x2048x4x2048 .f32 :=
  Host.dotGeneral dot_S8x8x2048x64_S8x8x4x64x2048_S8x8x2048x4x2048_3_3_2_24_01_01 none a2 (shapeCast _ a0 shapeCasts_S8x2048x2048_S8x8x4x64x2048)

/-- The scores. -/
def score : FVec Ideal S8x8x2048x4x2048 .f32 :=
  select (broadcastInDim S8x8x2048x4x2048 ![0, 1, 2, 3, 4] bcast_S8x1x2048x1x2048_S8x8x2048x4x2048_0_1_2_3_4 (broadcastInDim S8x1x2048x1x2048 ![0, 2, 4] bcast_S8x2048x2048_S8x1x2048x1x2048_0_2_4 (mask a6 a7))) (mulf (mulf (transpose S8x8x2048x4x2048 [0, 1, 4, 3, 2] (prod a0 a2) transposes_S8x8x2048x4x2048_S8x8x2048x4x2048_0_1_4_3_2) (broadcastInDim S8x8x2048x4x2048 ![0, 1, 2, 3, 4] bcast_S8x8x2048x4x1_S8x8x2048x4x2048_0_1_2_3_4 (broadcastInDim S8x8x2048x4x1 ![0, 1, 2, 3] bcast_S8x8x2048x4_S8x8x2048x4x1_0_1_2_3 (transpose S8x8x2048x4 [0, 1, 3, 2] (shapeCast _ a1 shapeCasts_S8x32x2048_S8x8x4x2048) transposes_S8x8x4x2048_S8x8x2048x4_0_1_3_2)))) (broadcastInDim S8x8x2048x4x2048 ![0, 1, 2, 3, 4] bcast_S8x8x1x1x2048_S8x8x2048x4x2048_0_1_2_3_4 (mulf (broadcastInDim S8x8x1x1x2048 ![0, 1, 4] bcast_S8x8x2048_S8x8x1x1x2048_0_1_4 a3) (broadcastInDim S8x8x1x1x2048 ![] bcast_S_S8x8x1x1x2048 (constant S_ .f32 0x3E000000#32))))) (broadcastInDim S8x8x2048x4x2048 ![] bcast_S_S8x8x2048x4x2048 (id (constant S_ .f32 0xFF800000#32)))

/-- The largest score of a query. -/
def top : FVec Ideal S8x8x2048x4 .f32 :=
  Host.reduce FloatOps.maximumf (score a0 a1 a2 a3 a6 a7) (constant S_ .f32 0xFF800000#32) reducesTo_S8x8x2048x4x2048_S8x8x2048x4_d4 h_S_

/-- The exponentials. -/
def ex : FVec Ideal S8x8x2048x4x2048 .f32 :=
  Host.exp (subf (score a0 a1 a2 a3 a6 a7) (broadcastInDim S8x8x2048x4x2048 ![0, 1, 2, 3, 4] bcast_S8x8x2048x4x1_S8x8x2048x4x2048_0_1_2_3_4 (broadcastInDim S8x8x2048x4x1 ![0, 1, 2, 3] bcast_S8x8x2048x4_S8x8x2048x4x1_0_1_2_3 (top a0 a1 a2 a3 a6 a7))))

/-- The weights as they are kept: scaled and clipped. -/
def clip : FVec Ideal S8x8x2048x4x2048 .f32 :=
  minimumf (broadcastInDim S8x8x2048x4x2048 ![] bcast_S_S8x8x2048x4x2048 (id (constant S_ .f32 0x43E00000#32))) (maximumf (broadcastInDim S8x8x2048x4x2048 ![] bcast_S_S8x8x2048x4x2048 (id (constant S_ .f32 0xC3E00000#32))) (mulf (ex a0 a1 a2 a3 a6 a7) (broadcastInDim S8x8x2048x4x2048 ![] bcast_S_S8x8x2048x4x2048 (constant S_ .f32 0x43800000#32))))

/-- The weighted sum of values. -/
def wsum : FVec Ideal S8x8x64x2048x4 .f32 :=
  Host.dotGeneral dot_S8x8x64x2048_S8x8x2048x4x2048_S8x8x64x2048x4_3_4_2_23_01_01 none (shapeCast _ a4 shapeCasts_S8x512x2048_S8x8x64x2048) (clip a0 a1 a2 a3 a6 a7)

/-- The sum of the exponentials. -/
def den : FVec Ideal S8x8x2048x4 .f32 :=
  Host.reduceAdd (ex a0 a1 a2 a3 a6 a7) (constant S_ .f32 0x00000000#32) reducesTo_S8x8x2048x4x2048_S8x8x2048x4_d4 h_S_

theorem res_eq (m : (ℓ : Loc nD τ sig) → Buf (Elt Ideal) ℓ) (c : Dev nD) :
    Value.res_main_v53 m c = (fun (a0 : FVec Ideal S8x2048x2048 .f32) (a1 : FVec Ideal S8x32x2048 .f32) (a2 : FVec Ideal S8x8x2048x64 .f32) (a3 : FVec Ideal S8x8x2048 .f32)
      (a4 : FVec Ideal S8x512x2048 .f32) (a5 : FVec Ideal S8x8x64 .f32) (a6 : IVec S8x2048 32) (a7 : IVec S8x2048 1) =>
        (truncf .bf16 (shapeCast _ (Host.divf (mulf (transpose S8x2048x8x4x64 [0, 3, 1, 4, 2] (wsum a0 a1 a2 a3 a4 a6 a7) transposes_S8x8x64x2048x4_S8x2048x8x4x64_0_3_1_4_2) (broadcastInDim S8x2048x8x4x64 ![0, 1, 2, 3, 4] bcast_S8x1x8x1x64_S8x2048x8x4x64_0_1_2_3_4 (broadcastInDim S8x1x8x1x64 ![0, 2, 4] bcast_S8x8x64_S8x1x8x1x64_0_2_4 (mulf (broadcastInDim S8x8x64 ![] bcast_S_S8x8x64 (constant S_ .f32 0x3B800000#32)) a5)))) (broadcastInDim S8x2048x8x4x64 ![0, 1, 2, 3, 4] bcast_S8x2048x8x4x1_S8x2048x8x4x64_0_1_2_3_4 (broadcastInDim S8x2048x8x4x1 ![0, 1, 2, 3] bcast_S8x2048x8x4_S8x2048x8x4x1_0_1_2_3 (transpose S8x2048x8x4 [0, 2, 1, 3] (den a0 a1 a2 a3 a6 a7) transposes_S8x8x2048x4_S8x2048x8x4_0_2_1_3)))) shapeCasts_S8x2048x8x4x64_S8x2048x2048) bitsLt_bf16_f32 : FVec Ideal S8x2048x2048 .bf16)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem neg_inf : Ideal.ofBits .f32 0xFF800000#32 = (⊥ : EReal) := by
  simp [Ideal.ofBits, Ideal.ieee]

theorem mask_at (b : Fin 8) (q κ : Fin 2048) : mask a6 a7 (ix3 b q κ)
    = IntOp.andi (IntOp.cmpi .eq (a6 (ix2 b q)) (a6 (ix2 b κ))) (IntOp.ori (a7 (ix2 b κ)) (IntOp.cmpi .sle (BitVec.ofNat 32 κ.val) (BitVec.ofNat 32 q.val))) := by
  unfold mask
  pointwise

theorem prod_at (b n : Fin 8) (κ : Fin 2048) (g : Fin 4) (q : Fin 2048) : prod a0 a2 (ix5 b n κ g q)
    = ∑ d : Fin 64, a2 (ix4 b n κ d) * a0 (ix3 b ⟨256 * n.val + 64 * g.val + d.val, by omega⟩ q) := by
  unfold prod
  pointwise
  exact Finset.sum_congr rfl fun x _ => congrArg (fun z => a2 (ix4 b n κ x) * a0 (ix3 b z q)) (Fin.ext (by show n.val * 256 + g.val * 64 + x.val = 256 * n.val + 64 * g.val + x.val; omega))

theorem score_at (b n : Fin 8) (q : Fin 2048) (g : Fin 4) (κ : Fin 2048) : score a0 a1 a2 a3 a6 a7 (ix5 b n q g κ)
    = if mask a6 a7 (ix3 b q κ) = 1#1 then (prod a0 a2 (ix5 b n κ g q) * a1 (ix3 b ⟨4 * n.val + g.val, by omega⟩ q)) * (a3 (ix3 b n κ) * Ideal.ofBits .f32 0x3E000000#32) else ⊥ := by
  have e : (⟨n.val * 4 + g.val, by omega⟩ : Fin 32) = ⟨4 * n.val + g.val, by omega⟩ := Fin.ext (by show n.val * 4 + g.val = 4 * n.val + g.val; omega)
  unfold score
  pointwise
  rw [e, ← neg_inf]
  rfl

theorem top_at (b n : Fin 8) (q : Fin 2048) (g : Fin 4) : top a0 a1 a2 a3 a6 a7 (ix4 b n q g)
    = Finset.univ.sup fun κ : Fin 2048 => score a0 a1 a2 a3 a6 a7 (ix5 b n q g κ) := by
  unfold top
  pointwise
  rw [neg_inf]
  rfl

theorem ex_at (b n : Fin 8) (q : Fin 2048) (g : Fin 4) (κ : Fin 2048) : ex a0 a1 a2 a3 a6 a7 (ix5 b n q g κ)
    = Ideal.exp (score a0 a1 a2 a3 a6 a7 (ix5 b n q g κ) - top a0 a1 a2 a3 a6 a7 (ix4 b n q g)) := by
  unfold ex
  pointwise

theorem clip_at (b n : Fin 8) (q : Fin 2048) (g : Fin 4) (κ : Fin 2048) : clip a0 a1 a2 a3 a6 a7 (ix5 b n q g κ)
    = min (Ideal.ofBits .f32 0x43E00000#32) (max (Ideal.ofBits .f32 0xC3E00000#32) (ex a0 a1 a2 a3 a6 a7 (ix5 b n q g κ) * Ideal.ofBits .f32 0x43800000#32)) := by
  unfold clip
  pointwise
  rfl

theorem wsum_at (b n : Fin 8) (d : Fin 64) (q : Fin 2048) (g : Fin 4) : wsum a0 a1 a2 a3 a4 a6 a7 (ix5 b n d q g)
    = ∑ κ : Fin 2048, a4 (ix3 b ⟨64 * n.val + d.val, by omega⟩ κ) * clip a0 a1 a2 a3 a6 a7 (ix5 b n q g κ) := by
  unfold wsum
  pointwise
  exact Finset.sum_congr rfl fun x _ => congrArg (fun z => a4 (ix3 b z x) * clip a0 a1 a2 a3 a6 a7 (ix5 b n q g x)) (Fin.ext (by show n.val * 64 + d.val = 64 * n.val + d.val; omega))

theorem den_at (b n : Fin 8) (q : Fin 2048) (g : Fin 4) : den a0 a1 a2 a3 a6 a7 (ix4 b n q g)
    = ∑ κ : Fin 2048, ex a0 a1 a2 a3 a6 a7 (ix5 b n q g κ) := by
  unfold den
  pointwise

theorem res_at (m : (ℓ : Loc nD τ sig) → Buf (Elt Ideal) ℓ) (c : Dev nD) (b n : Fin 8) (g : Fin 4) (d : Fin 64) (q : Fin 2048) :
    (Value.res_main_v53 m c : S8x2048x2048.Idx → EReal) (ix3 b q ⟨256 * n.val + 64 * g.val + d.val, by omega⟩)
    = (fun (a0 : FVec Ideal S8x2048x2048 .f32) (a1 : FVec Ideal S8x32x2048 .f32) (a2 : FVec Ideal S8x8x2048x64 .f32) (a3 : FVec Ideal S8x8x2048 .f32)
      (a4 : FVec Ideal S8x512x2048 .f32) (a5 : FVec Ideal S8x8x64 .f32) (a6 : IVec S8x2048 32) (a7 : IVec S8x2048 1) =>
        Ideal.div (wsum a0 a1 a2 a3 a4 a6 a7 (ix5 b n d q g) * (Ideal.ofBits .f32 0x3B800000#32 * a5 (ix3 b n d))) (den a0 a1 a2 a3 a6 a7 (ix4 b n q g))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [res_eq]
  generalize (m ((c.tc : Thread nD τ).loc main_arg0) : FVec Ideal S8x2048x2048 .f32) = a0
  generalize (m ((c.tc : Thread nD τ).loc main_arg1) : FVec Ideal S8x32x2048 .f32) = a1
  generalize (m ((c.tc : Thread nD τ).loc main_arg2) : FVec Ideal S8x8x2048x64 .f32) = a2
  generalize (m ((c.tc : Thread nD τ).loc main_arg3) : FVec Ideal S8x8x2048 .f32) = a3
  generalize (m ((c.tc : Thread nD τ).loc main_arg4) : FVec Ideal S8x512x2048 .f32) = a4
  generalize (m ((c.tc : Thread nD τ).loc main_arg5) : FVec Ideal S8x8x64 .f32) = a5
  generalize (m ((c.tc : Thread nD τ).loc main_arg6) : IVec S8x2048 32) = a6
  generalize (m ((c.tc : Thread nD τ).loc main_arg7) : IVec S8x2048 1) = a7
  have e1 : (⟨256 * n.val + 64 * g.val + d.val, by omega⟩ : Fin 2048) = ⟨n.val * 256 + g.val * 64 + d.val, by omega⟩ := Fin.ext (by show 256 * n.val + 64 * g.val + d.val = n.val * 256 + g.val * 64 + d.val; omega)
  rw [e1]
  dsimp only
  pointwise
  done

end Cert.ReferenceIdeal.Read

end
-- ==== Proof.Value.Meet.lean ====
/- The two outputs are one: what the kernel leaves and what the reference leaves, from the same arguments. -/
module

public import proofs.«01_k».proof.Proof.KernelIdeal.Out
public import proofs.«01_k».proof.Proof.ReferenceIdeal.Read
public import Idealize.ShloMosaic.Lib.ReduceAll

@[expose] public section

set_option maxRecDepth 65536

noncomputable section

namespace Cert.Value

open Idealize.ShloMosaic Idealize.SL.Sem
open Cert.KernelIdeal.Attn (qA qsA kA ksA vA vsA segA preA rawA visA sA RV outA clipP)

theorem sle_iff (κ q : Fin 2048) : IntOp.cmpi .sle (BitVec.ofNat 32 κ.val) (BitVec.ofNat 32 q.val) = 1#1 ↔ κ.val ≤ q.val := by
  have h : ∀ x : Fin 2048, (BitVec.ofNat 32 x.val).toInt = x.val := by decide +kernel
  have e : (BitVec.ofNat 32 κ.val).sle (BitVec.ofNat 32 q.val) = decide (κ.val ≤ q.val) := by
    rw [BitVec.sle_eq_decide, h, h]
    simp
  show BitVec.ofBool ((BitVec.ofNat 32 κ.val).sle (BitVec.ofNat 32 q.val)) = 1#1 ↔ _
  rw [e]
  by_cases hc : κ.val ≤ q.val <;> simp [hc]

theorem eq_iff (x y : BitVec 32) : IntOp.cmpi .eq x y = 1#1 ↔ x = y := by
  show BitVec.ofBool (decide (x = y)) = 1#1 ↔ _
  by_cases h : x = y <;> simp [h]

theorem ori_iff (x y : BitVec 1) : IntOp.ori x y = 1#1 ↔ x = 1#1 ∨ y = 1#1 := by
  revert x y; decide

variable (m : (ℓ : Loc Cert.KernelIdeal.nD Cert.KernelIdeal.τ Cert.KernelIdeal.sig) → Buf (Elt Ideal) ℓ) (c : Dev Cert.KernelIdeal.nD)

theorem mask_iff (b : Fin 8) (q κ : Fin 2048) : Cert.ReferenceIdeal.Read.mask (segA m c) (preA m c) (ix3 b q κ) = 1#1 ↔ visA m c b q κ := by
  rw [Cert.ReferenceIdeal.Read.mask_at, IntOp.andi_eq_one, eq_iff, ori_iff, sle_iff]

theorem score_meet (b n : Fin 8) (g : Fin 4) (q κ : Fin 2048) :
    Cert.ReferenceIdeal.Read.score (qA m c) (qsA m c) (kA m c) (ksA m c) (segA m c) (preA m c) (ix5 b n q g κ) = sA m c b n g q κ := by
  rw [Cert.ReferenceIdeal.Read.score_at, Cert.ReferenceIdeal.Read.prod_at]
  exact if_congr (mask_iff m c b q κ) rfl rfl

theorem ex_meet (b n : Fin 8) (g : Fin 4) (q κ : Fin 2048) :
    Cert.ReferenceIdeal.Read.ex (qA m c) (qsA m c) (kA m c) (ksA m c) (segA m c) (preA m c) (ix5 b n q g κ)
      = Ideal.exp (sA m c b n g q κ - Finset.univ.sup (sA m c b n g q)) := by
  rw [Cert.ReferenceIdeal.Read.ex_at, Cert.ReferenceIdeal.Read.top_at, score_meet]
  exact congrArg (fun f : Fin 2048 → EReal => Ideal.exp (sA m c b n g q κ - Finset.univ.sup f)) (funext fun κ' => score_meet m c b n g q κ')

theorem wsum_meet (b n : Fin 8) (g : Fin 4) (d : Fin 64) (q : Fin 2048) :
    Cert.ReferenceIdeal.Read.wsum (qA m c) (qsA m c) (kA m c) (ksA m c) (vA m c) (segA m c) (preA m c) (ix5 b n d q g)
      = ∑ κ, vA m c (ix3 b ⟨64 * n.val + d.val, by omega⟩ κ) * clipP (Ideal.exp (sA m c b n g q κ - Finset.univ.sup (sA m c b n g q)) * Ideal.ofBits .f32 0x43800000#32) := by
  rw [Cert.ReferenceIdeal.Read.wsum_at]
  refine Finset.sum_congr rfl fun κ _ => ?_
  rw [Cert.ReferenceIdeal.Read.clip_at, ex_meet]

theorem den_meet (b n : Fin 8) (g : Fin 4) (q : Fin 2048) :
    Cert.ReferenceIdeal.Read.den (qA m c) (qsA m c) (kA m c) (ksA m c) (segA m c) (preA m c) (ix4 b n q g)
      = ∑ κ, Ideal.exp (sA m c b n g q κ - Finset.univ.sup (sA m c b n g q)) := by
  rw [Cert.ReferenceIdeal.Read.den_at]
  exact Finset.sum_congr rfl fun κ _ => ex_meet m c b n g q κ

theorem div_meet (b n : Fin 8) (g : Fin 4) (d : Fin 64) (q : Fin 2048) :
    Ideal.div (Cert.ReferenceIdeal.Read.wsum (qA m c) (qsA m c) (kA m c) (ksA m c) (vA m c) (segA m c) (preA m c) (ix5 b n d q g)
        * (Ideal.ofBits .f32 0x3B800000#32 * vsA m c (ix3 b n d)))
      (Cert.ReferenceIdeal.Read.den (qA m c) (qsA m c) (kA m c) (ksA m c) (segA m c) (preA m c) (ix4 b n q g)) = RV m c b n g d q := by
  rw [wsum_meet, den_meet]
  rfl

variable (m' : (ℓ : Loc Cert.ReferenceIdeal.nD Cert.ReferenceIdeal.τ Cert.ReferenceIdeal.sig) → Buf (Elt Ideal) ℓ) (c' : Dev Cert.ReferenceIdeal.nD)

theorem res_meet
    (h0 : (m' ((c'.tc : Thread Cert.ReferenceIdeal.nD Cert.ReferenceIdeal.τ).loc Cert.ReferenceIdeal.main_arg0) : Cert.ReferenceIdeal.S8x2048x2048.Idx → EReal) = qA m c)
    (h1 : (m' ((c'.tc : Thread Cert.ReferenceIdeal.nD Cert.ReferenceIdeal.τ).loc Cert.ReferenceIdeal.main_arg1) : Cert.ReferenceIdeal.S8x32x2048.Idx → EReal) = qsA m c)
    (h2 : (m' ((c'.tc : Thread Cert.ReferenceIdeal.nD Cert.ReferenceIdeal.τ).loc Cert.ReferenceIdeal.main_arg2) : Cert.ReferenceIdeal.S8x8x2048x64.Idx → EReal) = kA m c)
    (h3 : (m' ((c'.tc : Thread Cert.ReferenceIdeal.nD Cert.ReferenceIdeal.τ).loc Cert.ReferenceIdeal.main_arg3) : Cert.ReferenceIdeal.S8x8x2048.Idx → EReal) = ksA m c)
    (h4 : (m' ((c'.tc : Thread Cert.ReferenceIdeal.nD Cert.ReferenceIdeal.τ).loc Cert.ReferenceIdeal.main_arg4) : Cert.ReferenceIdeal.S8x512x2048.Idx → EReal) = vA m c)
    (h5 : (m' ((c'.tc : Thread Cert.ReferenceIdeal.nD Cert.ReferenceIdeal.τ).loc Cert.ReferenceIdeal.main_arg5) : Cert.ReferenceIdeal.S8x8x64.Idx → EReal) = vsA m c)
    (h6 : (m' ((c'.tc : Thread Cert.ReferenceIdeal.nD Cert.ReferenceIdeal.τ).loc Cert.ReferenceIdeal.main_arg6) : Cert.ReferenceIdeal.S8x2048.Idx → BitVec 32) = segA m c)
    (h7 : (m' ((c'.tc : Thread Cert.ReferenceIdeal.nD Cert.ReferenceIdeal.τ).loc Cert.ReferenceIdeal.main_arg7) : Cert.ReferenceIdeal.S8x2048.Idx → BitVec 1) = preA m c) :
    (Cert.ReferenceIdeal.Value.res_main_v53 m' c' : Cert.ReferenceIdeal.S8x2048x2048.Idx → EReal) = outA m c := by
  funext j
  have hj : (j 2).val < 2048 := (j 2).isLt
  have ej : j = ix3 (n0 := 8) (n1 := 2048) (n2 := 2048) (j 0) (j 1) ⟨256 * ((j 2).val / 256) + 64 * ((j 2).val / 64 % 4) + (j 2).val % 64, by omega⟩ := by
    funext k
    match k with
    | ⟨0, _⟩ => rfl
    | ⟨1, _⟩ => rfl
    | ⟨2, _⟩ => exact Fin.ext (by show (j 2).val = 256 * ((j 2).val / 256) + 64 * ((j 2).val / 64 % 4) + (j 2).val % 64; omega)
  refine (congrArg (Cert.ReferenceIdeal.Value.res_main_v53 m' c' : Cert.ReferenceIdeal.S8x2048x2048.Idx → EReal) ej).trans ?_
  refine (Cert.ReferenceIdeal.Read.res_at m' c' (j 0) ⟨(j 2).val / 256, by omega⟩ ⟨(j 2).val / 64 % 4, by omega⟩ ⟨(j 2).val % 64, by omega⟩ (j 1)).trans ?_
  rw [h0, h1, h2, h3, h4, h5, h6, h7]
  exact div_meet m c (j 0) ⟨(j 2).val / 256, by omega⟩ ⟨(j 2).val / 64 % 4, by omega⟩ ⟨(j 2).val % 64, by omega⟩ (j 1)

end Cert.Value

end
-- ==== Proof.lean ====
/- The proof of the claims: the two kernels and the reference run, the idealized kernel is the printed one with its one
   named constant, and under the precondition it computes the reference's output on extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Launch
public import proofs.«01_k».proof.Proof.Value.Pre
public import proofs.«01_k».proof.Proof.Value.Meet
public import Idealize.ShloMosaic.Adequacy
public import Idealize.ShloMosaic.Init

@[expose] public section

noncomputable section

namespace Cert.Proof

open Idealize.ShloMosaic Idealize.SL.Sem

/-- The kernel runs, its arguments end unchanged and every semaphore ends at zero. -/
theorem frame_kernel : Cert.quiescent_Kernel (hKernel := Cert.Kernel.Gen.facts) := fun m g _ => Cert.Kernel.Attn.run m g

/-- The same of the idealized kernel. -/
theorem frame_ideal : Cert.quiescent_KernelIdeal (hKernelIdeal := Cert.KernelIdeal.Gen.facts) :=
  fun m g _ => Cert.KernelIdeal.Attn.run m g

/-- The same of the reference, which has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel and the idealized reference leave one output, from memories that agree on the arguments. -/
theorem same_output : Cert.algebraic_KernelIdeal_ReferenceIdeal_pre_finite_inputs (hKernelIdeal := Cert.KernelIdeal.Gen.facts)
    (hReferenceIdeal := Cert.ReferenceIdeal.Gen.facts) (hPre_finite_inputs := Cert.Value.pre_facts) := fun m g m' g' hp hm =>
  ⟨fun c => Cert.KernelIdeal.Attn.outA m c,
    (θ_run Cert.KernelIdeal.defs _ _).mono (fun _ h => h.1) (Cert.KernelIdeal.Attn.run_value m (Cert.Value.pre_read _ _ _ _ _ _ _ _ (hp 0)) g),
    (θ_run Cert.ReferenceIdeal.defs _ _).mono
      (fun r h c => ⟨(h c).1.trans (Cert.Value.res_meet m c m' c (hm c).1 (hm c).2.1 (hm c).2.2.1 (hm c).2.2.2.1 (hm c).2.2.2.2.1
        (hm c).2.2.2.2.2.1 (hm c).2.2.2.2.2.2.1 (hm c).2.2.2.2.2.2.2), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Value.pre_facts,
    frame_kernel, frame_ideal, fun m g _ => Cert.KernelIdeal.Attn.run m g, frame_reference, fun m g _ => frame_reference m g trivial,
    IdealRules.named_const.statement _ _ _ _ _ rfl, same_output⟩

end Cert.Proof

end
